-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_squares_fit_KernelIdeal [hPre_squares_fit_KernelIdeal : Cert.Pre_squares_fit_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_squares_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_squares_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_squares_fit_ReferenceIdeal [hPre_squares_fit_ReferenceIdeal : Cert.Pre_squares_fit_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_squares_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_squares_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_squares_fit_KernelIdeal [hKernelIdeal : Cert.KernelIdeal.Facts] [hPre_squares_fit_KernelIdeal : Cert.Pre_squares_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_squares_fit_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_squares_fit_ReferenceIdeal [hReferenceIdeal : Cert.ReferenceIdeal.Facts] [hPre_squares_fit_ReferenceIdeal : Cert.Pre_squares_fit_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_squares_fit_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_squares_fit_KernelIdeal [hKernelIdeal : Cert.KernelIdeal.Facts] [hReferenceIdeal : Cert.ReferenceIdeal.Facts] [hPre_squares_fit_KernelIdeal : Cert.Pre_squares_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_squares_fit_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_ReferenceIdeal_on_modelled [hKernelIdeal : Cert.KernelIdeal.Facts] [hReferenceIdeal : Cert.ReferenceIdeal.Facts] [hOn_modelled : Cert.On_modelled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 64]⟩ : Shape).Idx, (Layout.block ⟨2, ![4096, 64]⟩ ⟨2, ![4096, 2048]⟩ 1 32 c ((Cert.On_modelled.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 64]⟩ : Shape).Idx → _) i = 1#1 → r.2.mem ((c.tc : Thread Cert.KernelIdeal.nD Cert.KernelIdeal.τ).loc Cert.KernelIdeal.main_v70) i = (Layout.block ⟨2, ![4096, 64]⟩ ⟨2, ![4096, 2048]⟩ 1 32 c v0 : (⟨2, ![4096, 64]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_modelled.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v10) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_squares_fit_KernelIdeal : Cert.Pre_squares_fit_KernelIdeal.Facts) (hPre_squares_fit_ReferenceIdeal : Cert.Pre_squares_fit_ReferenceIdeal.Facts) (hOn_modelled : Cert.On_modelled.Facts),
    quiescent_Kernel (hKernel := hKernel)
    ∧ quiescent_KernelIdeal (hKernelIdeal := hKernelIdeal)
    ∧ quiescent_KernelIdeal_pre_squares_fit_KernelIdeal (hKernelIdeal := hKernelIdeal) (hPre_squares_fit_KernelIdeal := hPre_squares_fit_KernelIdeal)
    ∧ quiescent_ReferenceIdeal (hReferenceIdeal := hReferenceIdeal)
    ∧ quiescent_ReferenceIdeal_pre_squares_fit_ReferenceIdeal (hReferenceIdeal := hReferenceIdeal) (hPre_squares_fit_ReferenceIdeal := hPre_squares_fit_ReferenceIdeal)
    ∧ preserves_Kernel_KernelIdeal
    ∧ algebraic_KernelIdeal_ReferenceIdeal_pre_squares_fit_KernelIdeal (hKernelIdeal := hKernelIdeal) (hReferenceIdeal := hReferenceIdeal) (hPre_squares_fit_KernelIdeal := hPre_squares_fit_KernelIdeal)
    ∧ algebraic_KernelIdeal_ReferenceIdeal_on_modelled (hKernelIdeal := hKernelIdeal) (hReferenceIdeal := hReferenceIdeal) (hOn_modelled := hOn_modelled)
-- ==== On_modelled.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  natLt_8_32 : 8 < 32
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : IVec S4096x4096 8) (main_arg1 : IVec S4096x2048 8) (main_arg2 : FVec F S1 .f32) (main_arg3 : FVec F S1 .f32) : IVec S4096x2048 1 :=
  let main_v0 : IVec S4096x4096 32 := (extsi 32 · natLt_8_32) main_arg0
  let main_v1 : IVec S4096x4096 32 := absi main_v0
  let main_v2 : FVec F S4096x4096 .f32 := sitofp .f32 main_v1
  let main_v3 : IVec S4096x2048 32 := (extsi 32 · natLt_8_32) main_arg1
  let main_v4 : IVec S4096x2048 32 := absi main_v3
  let main_v5 : FVec F S4096x2048 .f32 := sitofp .f32 main_v4
  let main_v6 : FVec F S4096x2048 .f32 := (fun l r => Host.dotGeneral dot_S4096x4096_S4096x2048_S4096x2048_1_0_0_1_n_n none l r) main_v2 main_v5
  let main_cst : FVec F S_ .f32 := constant S_ .f32 0x4B800000#32
  let main_v7 : FVec F S4096x2048 .f32 := broadcastInDim S4096x2048 ![] bcast_S_S4096x2048 main_cst
  let main_v8 : IVec S4096x2048 1 := cmpf .olt main_v6 main_v7
  main_v8
-- ==== Pre_squares_fit_KernelIdeal.lean ====
abbrev S128x4096 : Shape := ⟨2, ![128, 4096]⟩
abbrev S4096x64 : Shape := ⟨2, ![4096, 64]⟩
abbrev S1 : Shape := ⟨1, ![1]⟩
abbrev S_ : Shape := ⟨0, ![]⟩
abbrev S128 : Shape := ⟨1, ![128]⟩
abbrev S64 : Shape := ⟨1, ![64]⟩

class Facts : Prop where
  natLt_8_32 : 8 < 32
  reducesTo_S128x4096_S128_d1 : S128x4096.ReducesTo [1] S128
  h_S_ : 0 < S_.numel
  bcast_S_S128 : S_.BroadcastsInDim S128 (![] : Fin 0 → Fin S128.rank)
  reducesTo_S4096x64_S64_d0 : S4096x64.ReducesTo [0] S64
  bcast_S_S64 : S_.BroadcastsInDim S64 (![] : Fin 0 → Fin S64.rank)

variable [Facts]

def fn {F : FTy → Type} [FloatOps F] (main_arg0 : IVec S128x4096 8) (main_arg1 : IVec S4096x64 8) (main_arg2 : FVec F S1 .f32) (main_arg3 : FVec F S1 .f32) : IVec S128 1 × IVec S64 1 :=
  let main_v0 : IVec S128x4096 32 := (extsi 32 · natLt_8_32) main_arg0
  let main_v1 : IVec S4096x64 32 := (extsi 32 · natLt_8_32) main_arg1
  let main_v2 : IVec S128x4096 32 := muli main_v0 main_v0
  let main_c : IVec S_ 32 := constantI S_ 32 0#32
  let main_v3 : IVec S128 32 := (fun x v => Host.reduce IntOp.addi x v reducesTo_S128x4096_S128_d1 h_S_) main_v2 main_c
  let main_c_0 : IVec S_ 32 := constantI S_ 32 16777216#32
  let main_v4 : IVec S128 32 := broadcastInDim S128 ![] bcast_S_S128 main_c_0
  let main_v5 : IVec S128 1 := cmpi .slt main_v3 main_v4
  let main_v6 : IVec S4096x64 32 := muli main_v1 main_v1
  let main_c_1 : IVec S_ 32 := constantI S_ 32 0#32
  let main_v7 : IVec S64 32 := (fun x v => Host.reduce IntOp.addi x v reducesTo_S4096x64_S64_d0 h_S_) main_v6 main_c_1
  let main_c_2 : IVec S_ 32 := constantI S_ 32 16777216#32
  let main_v8 : IVec S64 32 := broadcastInDim S64 ![] bcast_S_S64 main_c_2
  let main_v9 : IVec S64 1 := cmpi .slt main_v7 main_v8
  (main_v5, main_v9)
-- ==== Pre_squares_fit_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩
abbrev S4096 : Shape := ⟨1, ![4096]⟩
abbrev S2048 : Shape := ⟨1, ![2048]⟩

class Facts : Prop where
  natLt_8_32 : 8 < 32
  reducesTo_S4096x4096_S4096_d1 : S4096x4096.ReducesTo [1] S4096
  h_S_ : 0 < S_.numel
  bcast_S_S4096 : S_.BroadcastsInDim S4096 (![] : Fin 0 → Fin S4096.rank)
  reducesTo_S4096x2048_S2048_d0 : S4096x2048.ReducesTo [0] S2048
  bcast_S_S2048 : S_.BroadcastsInDim S2048 (![] : Fin 0 → Fin S2048.rank)

variable [Facts]

def fn {F : FTy → Type} [FloatOps F] (main_arg0 : IVec S4096x4096 8) (main_arg1 : IVec S4096x2048 8) (main_arg2 : FVec F S1 .f32) (main_arg3 : FVec F S1 .f32) : IVec S4096 1 × IVec S2048 1 :=
  let main_v0 : IVec S4096x4096 32 := (extsi 32 · natLt_8_32) main_arg0
  let main_v1 : IVec S4096x2048 32 := (extsi 32 · natLt_8_32) main_arg1
  let main_v2 : IVec S4096x4096 32 := muli main_v0 main_v0
  let main_c : IVec S_ 32 := constantI S_ 32 0#32
  let main_v3 : IVec S4096 32 := (fun x v => Host.reduce IntOp.addi x v reducesTo_S4096x4096_S4096_d1 h_S_) main_v2 main_c
  let main_c_0 : IVec S_ 32 := constantI S_ 32 16777216#32
  let main_v4 : IVec S4096 32 := broadcastInDim S4096 ![] bcast_S_S4096 main_c_0
  let main_v5 : IVec S4096 1 := cmpi .slt main_v3 main_v4
  let main_v6 : IVec S4096x2048 32 := muli main_v1 main_v1
  let main_c_1 : IVec S_ 32 := constantI S_ 32 0#32
  let main_v7 : IVec S2048 32 := (fun x v => Host.reduce IntOp.addi x v reducesTo_S4096x2048_S2048_d0 h_S_) main_v6 main_c_1
  let main_c_2 : IVec S_ 32 := constantI S_ 32 16777216#32
  let main_v8 : IVec S2048 32 := broadcastInDim S2048 ![] bcast_S_S2048 main_c_2
  let main_v9 : IVec S2048 1 := cmpi .slt main_v7 main_v8
  (main_v5, main_v9)
-- ==== Kernel.lean ====
abbrev S128x4096 : Shape := ⟨2, ![128, 4096]⟩
abbrev S4096x64 : Shape := ⟨2, ![4096, 64]⟩
abbrev S1 : Shape := ⟨1, ![1]⟩
abbrev S32 : Shape := ⟨1, ![32]⟩
abbrev S_ : Shape := ⟨0, ![]⟩
abbrev S16 : Shape := ⟨1, ![16]⟩
abbrev S16x1 : Shape := ⟨2, ![16, 1]⟩
abbrev S66 : Shape := ⟨1, ![66]⟩
abbrev S4096x4096 : Shape := ⟨2, ![4096, 4096]⟩
abbrev S16x4 : Shape := ⟨2, ![16, 4]⟩
abbrev S1x1 : Shape := ⟨2, ![1, 1]⟩
abbrev S32x4096 : Shape := ⟨2, ![32, 4096]⟩
abbrev S128x64 : Shape := ⟨2, ![128, 64]⟩

abbrev nBuf : Space → Nat
  | .hbm => 212
  | .vmem => 4
  | .smem => 3
  | _ => 0

abbrev hbmTy0_0 (i : Nat) : BufTy := match i % 128 with
  | 0 => ⟨S128x4096, .i8⟩
  | 1 => ⟨S4096x64, .i8⟩
  | 2 => ⟨S1, .f32⟩
  | 3 => ⟨S1, .f32⟩
  | 4 => ⟨S32, .i32⟩
  | 5 => ⟨S32, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S1, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i1⟩
  | 32 => ⟨S_, .i32⟩
  | 33 => ⟨S_, .i1⟩
  | 34 => ⟨S_, .i1⟩
  | 35 => ⟨S_, .i1⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S1, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i1⟩
  | 58 => ⟨S_, .i32⟩
  | 59 => ⟨S_, .i1⟩
  | 60 => ⟨S_, .i1⟩
  | 61 => ⟨S_, .i1⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S1, .i32⟩
  | 70 => ⟨S_, .i32⟩
  | 71 => ⟨S16, .i32⟩
  | 72 => ⟨S16, .i32⟩
  | 73 => ⟨S16, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S16, .i32⟩
  | 81 => ⟨S16, .i32⟩
  | 82 => ⟨S_, .i32⟩
  | 83 => ⟨S16, .i32⟩
  | 84 => ⟨S16, .i1⟩
  | 85 => ⟨S_, .i32⟩
  | 86 => ⟨S16, .i32⟩
  | 87 => ⟨S16, .i1⟩
  | 88 => ⟨S_, .i32⟩
  | 89 => ⟨S_, .i1⟩
  | 90 => ⟨S16, .i1⟩
  | 91 => ⟨S16, .i1⟩
  | 92 => ⟨S16, .i1⟩
  | 93 => ⟨S16, .i32⟩
  | 94 => ⟨S16, .i32⟩
  | 95 => ⟨S16, .i32⟩
  | 96 => ⟨S_, .i32⟩
  | 97 => ⟨S16, .i32⟩
  | 98 => ⟨S16, .i1⟩
  | 99 => ⟨S_, .i32⟩
  | 100 => ⟨S16, .i32⟩
  | 101 => ⟨S16, .i32⟩
  | 102 => ⟨S16, .i32⟩
  | 103 => ⟨S16x1, .i32⟩
  | 104 => ⟨S16, .i32⟩
  | 105 => ⟨S_, .i32⟩
  | 106 => ⟨S_, .i32⟩
  | 107 => ⟨S16, .i32⟩
  | 108 => ⟨S16, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S16, .i32⟩
  | 116 => ⟨S16, .i32⟩
  | 117 => ⟨S_, .i32⟩
  | 118 => ⟨S16, .i32⟩
  | 119 => ⟨S16, .i1⟩
  | 120 => ⟨S_, .i32⟩
  | 121 => ⟨S16, .i32⟩
  | 122 => ⟨S16, .i1⟩
  | 123 => ⟨S_, .i32⟩
  | 124 => ⟨S_, .i1⟩
  | 125 => ⟨S16, .i1⟩
  | 126 => ⟨S16, .i1⟩
  | 127 => ⟨S16, .i1⟩
  | _ => ⟨S128x4096, .i8⟩

abbrev hbmTy0_1 (i : Nat) : BufTy := match i % 128 with
  | 0 => ⟨S16, .i32⟩
  | 1 => ⟨S16, .i32⟩
  | 2 => ⟨S16, .i32⟩
  | 3 => ⟨S_, .i32⟩
  | 4 => ⟨S16, .i32⟩
  | 5 => ⟨S16, .i1⟩
  | 6 => ⟨S_, .i32⟩
  | 7 => ⟨S16, .i32⟩
  | 8 => ⟨S16, .i32⟩
  | 9 => ⟨S16, .i32⟩
  | 10 => ⟨S16x1, .i32⟩
  | 11 => ⟨S16, .i32⟩
  | 12 => ⟨S16, .i32⟩
  | 13 => ⟨S16, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S16, .i32⟩
  | 21 => ⟨S16, .i32⟩
  | 22 => ⟨S_, .i32⟩
  | 23 => ⟨S16, .i32⟩
  | 24 => ⟨S16, .i1⟩
  | 25 => ⟨S_, .i32⟩
  | 26 => ⟨S16, .i32⟩
  | 27 => ⟨S16, .i1⟩
  | 28 => ⟨S_, .i32⟩
  | 29 => ⟨S_, .i1⟩
  | 30 => ⟨S16, .i1⟩
  | 31 => ⟨S16, .i1⟩
  | 32 => ⟨S16, .i1⟩
  | 33 => ⟨S16, .i32⟩
  | 34 => ⟨S16, .i32⟩
  | 35 => ⟨S16, .i32⟩
  | 36 => ⟨S_, .i32⟩
  | 37 => ⟨S16, .i32⟩
  | 38 => ⟨S16, .i1⟩
  | 39 => ⟨S_, .i32⟩
  | 40 => ⟨S16, .i32⟩
  | 41 => ⟨S16, .i32⟩
  | 42 => ⟨S16, .i32⟩
  | 43 => ⟨S16x1, .i32⟩
  | 44 => ⟨S16, .i32⟩
  | 45 => ⟨S_, .i32⟩
  | 46 => ⟨S_, .i32⟩
  | 47 => ⟨S16, .i32⟩
  | 48 => ⟨S16, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S16, .i32⟩
  | 56 => ⟨S16, .i32⟩
  | 57 => ⟨S_, .i32⟩
  | 58 => ⟨S16, .i32⟩
  | 59 => ⟨S16, .i1⟩
  | 60 => ⟨S_, .i32⟩
  | 61 => ⟨S16, .i32⟩
  | 62 => ⟨S16, .i1⟩
  | 63 => ⟨S_, .i32⟩
  | 64 => ⟨S_, .i1⟩
  | 65 => ⟨S16, .i1⟩
  | 66 => ⟨S16, .i1⟩
  | 67 => ⟨S16, .i1⟩
  | 68 => ⟨S16, .i32⟩
  | 69 => ⟨S16, .i32⟩
  | 70 => ⟨S16, .i32⟩
  | 71 => ⟨S_, .i32⟩
  | 72 => ⟨S16, .i32⟩
  | 73 => ⟨S16, .i1⟩
  | 74 => ⟨S_, .i32⟩
  | 75 => ⟨S16, .i32⟩
  | 76 => ⟨S16, .i32⟩
  | 77 => ⟨S16, .i32⟩
  | 78 => ⟨S16x1, .i32⟩
  | 79 => ⟨S16, .i32⟩
  | 80 => ⟨S1, .i32⟩
  | 81 => ⟨S1, .i32⟩
  | 82 => ⟨S66, .i32⟩
  | 83 => ⟨S4096x64, .f32⟩
  | _ => ⟨S128x4096, .i8⟩

abbrev hbmTy (i : Nat) : BufTy := match i / 128 with
  | 0 => hbmTy0_0 i
  | 1 => hbmTy0_1 i
  | _ => ⟨S128x4096, .i8⟩

abbrev bufTy : (tb : Table) → Fin (tcTables nBuf tb) → BufTy
  | .hbm, ⟨i, _⟩ => hbmTy i
  | .local _ .vmem, ⟨0, _⟩ => ⟨S128x4096, .i8⟩
  | .local _ .vmem, ⟨1, _⟩ => ⟨S4096x64, .i8⟩
  | .local _ .vmem, ⟨2, _⟩ => ⟨S4096x64, .f32⟩
  | .local _ .vmem, ⟨3, _⟩ => ⟨S4096x4096, .i8⟩
  | .local _ .smem, ⟨0, _⟩ => ⟨S66, .i32⟩
  | .local _ .smem, ⟨1, _⟩ => ⟨S1, .f32⟩
  | .local _ .smem, ⟨2, _⟩ => ⟨S1, .f32⟩
  | _, _ => ⟨S128x4096, .i8⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 262 → Bool
  | ⟨i, _⟩ => dmaSemScopedAt i

abbrev sig : RefSig :=
  (ofTc nBuf bufTy 1 262 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_3 : Ref sig .tc := ⟨.hbm, 12, rfl⟩
abbrev main_v5 : Ref sig .tc := ⟨.hbm, 13, rfl⟩
abbrev main_c_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_5 : Ref sig .tc := ⟨.hbm, 19, rfl⟩
abbrev main_v10 : Ref sig .tc := ⟨.hbm, 20, rfl⟩
abbrev main_c_6 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_c_1 : Ref sig .tc := ⟨.hbm, 28, rfl⟩
abbrev main_call0_v4 : Ref sig .tc := ⟨.hbm, 29, rfl⟩
abbrev main_call0_c_2 : Ref sig .tc := ⟨.hbm, 30, rfl⟩
abbrev main_call0_v5 : Ref sig .tc := ⟨.hbm, 31, rfl⟩
abbrev main_call0_c_3 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_v11 : Ref sig .tc := ⟨.hbm, 37, rfl⟩
abbrev main_c_7 : Ref sig .tc := ⟨.hbm, 38, rfl⟩
abbrev main_v12 : Ref sig .tc := ⟨.hbm, 39, rfl⟩
abbrev main_c_8 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_9 : Ref sig .tc := ⟨.hbm, 45, rfl⟩
abbrev main_v17 : Ref sig .tc := ⟨.hbm, 46, rfl⟩
abbrev main_c_10 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_c_1 : Ref sig .tc := ⟨.hbm, 54, rfl⟩
abbrev main_call1_v4 : Ref sig .tc := ⟨.hbm, 55, rfl⟩
abbrev main_call1_c_2 : Ref sig .tc := ⟨.hbm, 56, rfl⟩
abbrev main_call1_v5 : Ref sig .tc := ⟨.hbm, 57, rfl⟩
abbrev main_call1_c_3 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_v18 : Ref sig .tc := ⟨.hbm, 63, rfl⟩
abbrev main_c_11 : Ref sig .tc := ⟨.hbm, 64, rfl⟩
abbrev main_v19 : Ref sig .tc := ⟨.hbm, 65, rfl⟩
abbrev main_c_12 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_c_13 : Ref sig .tc := ⟨.hbm, 74, rfl⟩
abbrev main_call2_v0 : Ref sig .tc := ⟨.hbm, 75, rfl⟩
abbrev main_call2_c : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_c_1 : Ref sig .tc := ⟨.hbm, 82, rfl⟩
abbrev main_call2_v5 : Ref sig .tc := ⟨.hbm, 83, rfl⟩
abbrev main_call2_v6 : Ref sig .tc := ⟨.hbm, 84, rfl⟩
abbrev main_call2_c_2 : Ref sig .tc := ⟨.hbm, 85, rfl⟩
abbrev main_call2_v7 : Ref sig .tc := ⟨.hbm, 86, rfl⟩
abbrev main_call2_v8 : Ref sig .tc := ⟨.hbm, 87, rfl⟩
abbrev main_call2_c_3 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_v27 : Ref sig .tc := ⟨.hbm, 95, rfl⟩
abbrev main_c_14 : Ref sig .tc := ⟨.hbm, 96, rfl⟩
abbrev main_v28 : Ref sig .tc := ⟨.hbm, 97, rfl⟩
abbrev main_v29 : Ref sig .tc := ⟨.hbm, 98, rfl⟩
abbrev main_c_15 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_c_16 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_c_17 : Ref sig .tc := ⟨.hbm, 109, rfl⟩
abbrev main_call3_v0 : Ref sig .tc := ⟨.hbm, 110, rfl⟩
abbrev main_call3_c : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_c_1 : Ref sig .tc := ⟨.hbm, 117, rfl⟩
abbrev main_call3_v5 : Ref sig .tc := ⟨.hbm, 118, rfl⟩
abbrev main_call3_v6 : Ref sig .tc := ⟨.hbm, 119, rfl⟩
abbrev main_call3_c_2 : Ref sig .tc := ⟨.hbm, 120, rfl⟩
abbrev main_call3_v7 : Ref sig .tc := ⟨.hbm, 121, rfl⟩
abbrev main_call3_v8 : Ref sig .tc := ⟨.hbm, 122, rfl⟩
abbrev main_call3_c_3 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_v38 : Ref sig .tc := ⟨.hbm, 130, rfl⟩
abbrev main_c_18 : Ref sig .tc := ⟨.hbm, 131, rfl⟩
abbrev main_v39 : Ref sig .tc := ⟨.hbm, 132, rfl⟩
abbrev main_v40 : Ref sig .tc := ⟨.hbm, 133, rfl⟩
abbrev main_c_19 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_c_20 : Ref sig .tc := ⟨.hbm, 142, rfl⟩
abbrev main_call4_v0 : Ref sig .tc := ⟨.hbm, 143, rfl⟩
abbrev main_call4_c : Ref sig .tc := ⟨.hbm, 144, rfl⟩
abbrev main_call4_v1 : Ref sig .tc := ⟨.hbm, 145, rfl⟩
abbrev main_call4_c_0 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_c_1 : Ref sig .tc := ⟨.hbm, 150, rfl⟩
abbrev main_call4_v5 : Ref sig .tc := ⟨.hbm, 151, rfl⟩
abbrev main_call4_v6 : Ref sig .tc := ⟨.hbm, 152, rfl⟩
abbrev main_call4_c_2 : Ref sig .tc := ⟨.hbm, 153, rfl⟩
abbrev main_call4_v7 : Ref sig .tc := ⟨.hbm, 154, rfl⟩
abbrev main_call4_v8 : Ref sig .tc := ⟨.hbm, 155, rfl⟩
abbrev main_call4_c_3 : Ref sig .tc := ⟨.hbm, 156, rfl⟩
abbrev main_call4_v9 : Ref sig .tc := ⟨.hbm, 157, rfl⟩
abbrev main_call4_v10 : Ref sig .tc := ⟨.hbm, 158, rfl⟩
abbrev main_call4_v11 : Ref sig .tc := ⟨.hbm, 159, rfl⟩
abbrev main_call4_v12 : Ref sig .tc := ⟨.hbm, 160, rfl⟩
abbrev main_call4_v13 : Ref sig .tc := ⟨.hbm, 161, rfl⟩
abbrev main_call4_v14 : Ref sig .tc := ⟨.hbm, 162, rfl⟩
abbrev main_v48 : Ref sig .tc := ⟨.hbm, 163, rfl⟩
abbrev main_c_21 : Ref sig .tc := ⟨.hbm, 164, rfl⟩
abbrev main_v49 : Ref sig .tc := ⟨.hbm, 165, rfl⟩
abbrev main_v50 : Ref sig .tc := ⟨.hbm, 166, rfl⟩
abbrev main_c_22 : Ref sig .tc := ⟨.hbm, 167, rfl⟩
abbrev main_v51 : Ref sig .tc := ⟨.hbm, 168, rfl⟩
abbrev main_v52 : Ref sig .tc := ⟨.hbm, 169, rfl⟩
abbrev main_v53 : Ref sig .tc := ⟨.hbm, 170, rfl⟩
abbrev main_v54 : Ref sig .tc := ⟨.hbm, 171, rfl⟩
abbrev main_v55 : Ref sig .tc := ⟨.hbm, 172, rfl⟩
abbrev main_c_23 : Ref sig .tc := ⟨.hbm, 173, rfl⟩
abbrev main_v56 : Ref sig .tc := ⟨.hbm, 174, rfl⟩
abbrev main_v57 : Ref sig .tc := ⟨.hbm, 175, rfl⟩
abbrev main_v58 : Ref sig .tc := ⟨.hbm, 176, rfl⟩
abbrev main_c_24 : Ref sig .tc := ⟨.hbm, 177, rfl⟩
abbrev main_call5_v0 : Ref sig .tc := ⟨.hbm, 178, rfl⟩
abbrev main_call5_c : Ref sig .tc := ⟨.hbm, 179, rfl⟩
abbrev main_call5_v1 : Ref sig .tc := ⟨.hbm, 180, rfl⟩
abbrev main_call5_c_0 : Ref sig .tc := ⟨.hbm, 181, rfl⟩
abbrev main_call5_v2 : Ref sig .tc := ⟨.hbm, 182, rfl⟩
abbrev main_call5_v3 : Ref sig .tc := ⟨.hbm, 183, rfl⟩
abbrev main_call5_v4 : Ref sig .tc := ⟨.hbm, 184, rfl⟩
abbrev main_call5_c_1 : Ref sig .tc := ⟨.hbm, 185, rfl⟩
abbrev main_call5_v5 : Ref sig .tc := ⟨.hbm, 186, rfl⟩
abbrev main_call5_v6 : Ref sig .tc := ⟨.hbm, 187, rfl⟩
abbrev main_call5_c_2 : Ref sig .tc := ⟨.hbm, 188, rfl⟩
abbrev main_call5_v7 : Ref sig .tc := ⟨.hbm, 189, rfl⟩
abbrev main_call5_v8 : Ref sig .tc := ⟨.hbm, 190, rfl⟩
abbrev main_call5_c_3 : Ref sig .tc := ⟨.hbm, 191, rfl⟩
abbrev main_call5_v9 : Ref sig .tc := ⟨.hbm, 192, rfl⟩
abbrev main_call5_v10 : Ref sig .tc := ⟨.hbm, 193, rfl⟩
abbrev main_call5_v11 : Ref sig .tc := ⟨.hbm, 194, rfl⟩
abbrev main_call5_v12 : Ref sig .tc := ⟨.hbm, 195, rfl⟩
abbrev main_call5_v13 : Ref sig .tc := ⟨.hbm, 196, rfl⟩
abbrev main_call5_v14 : Ref sig .tc := ⟨.hbm, 197, rfl⟩
abbrev main_v59 : Ref sig .tc := ⟨.hbm, 198, rfl⟩
abbrev main_c_25 : Ref sig .tc := ⟨.hbm, 199, rfl⟩
abbrev main_v60 : Ref sig .tc := ⟨.hbm, 200, rfl⟩
abbrev main_v61 : Ref sig .tc := ⟨.hbm, 201, rfl⟩
abbrev main_c_26 : Ref sig .tc := ⟨.hbm, 202, rfl⟩
abbrev main_v62 : Ref sig .tc := ⟨.hbm, 203, rfl⟩
abbrev main_v63 : Ref sig .tc := ⟨.hbm, 204, rfl⟩
abbrev main_v64 : Ref sig .tc := ⟨.hbm, 205, rfl⟩
abbrev main_v65 : Ref sig .tc := ⟨.hbm, 206, rfl⟩
abbrev main_v66 : Ref sig .tc := ⟨.hbm, 207, rfl⟩
abbrev main_v67 : Ref sig .tc := ⟨.hbm, 208, rfl⟩
abbrev main_v68 : Ref sig .tc := ⟨.hbm, 209, rfl⟩
abbrev main_v69 : Ref sig .tc := ⟨.hbm, 210, rfl⟩
abbrev main_v70 : Ref sig .tc := ⟨.hbm, 211, rfl⟩
abbrev cc0_stg1_0 : Ref sig .tc := ⟨.vmem, 0, rfl⟩
abbrev cc0_stg2_0 : Ref sig .tc := ⟨.vmem, 1, rfl⟩
abbrev cc0_stg5_0 : Ref sig .tc := ⟨.vmem, 2, rfl⟩
abbrev cc0_scratch0 : Ref sig .tc := ⟨.vmem, 3, rfl⟩
abbrev cc0_stg0_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v3 : BitVec 32 := Scalar.muli v1 c1_i32_0
  let v4 : BitVec 32 := Scalar.addi c0_i32 v3
  v4.toNat

def k0_dev2 (v0 : BitVec 32) : Nat :=
  let c0_i32_3 : BitVec 32 := 0#32
  let c1_i32_2 : BitVec 32 := 1#32
  let v5 : BitVec 32 := Scalar.muli v0 c1_i32_2
  let v6 : BitVec 32 := Scalar.addi c0_i32_3 v5
  v6.toNat

def k0_off1 (v10 : BitVec 32) : Fin 2 → Nat :=
  let c128_i32 : BitVec 32 := 128#32
  let v11 : BitVec 32 := Scalar.muli v10 c128_i32
  let v14 : Index := Scalar.indexCast v11
  let c0_8 : Index := 0#32
  ![v14.toNat, 0]

def k0_chk3 (v10 : BitVec 32) : Prop :=
  (∀ a, (k0_off1 v10) a + S128x4096.size a ≤ S4096x4096.size a) ∧
  (∀ (hinb : ∀ a, (k0_off1 v10) a + S128x4096.size a ≤ S4096x4096.size a), (Rect.unit (s := S4096x4096) (k0_off1 v10) S128x4096.size hinb).PackedRows (EltTy.packing .i8))
theorem k0_off1_inb : ∀ (v10 : BitVec 32) (k0_hw3 : k0_chk3 v10), ∀ a, (k0_off1 v10) a + S128x4096.size a ≤ S4096x4096.size a := fun v10 k0_hw3 => k0_hw3.1
theorem k0_off1_packedi8 : ∀ (v10 : BitVec 32) (k0_hw3 : k0_chk3 v10), (Rect.unit (s := S4096x4096) (k0_off1 v10) S128x4096.size (k0_off1_inb v10 k0_hw3)).PackedRows (EltTy.packing .i8) := fun v10 k0_hw3 => k0_hw3.2 (k0_off1_inb v10 k0_hw3)

def k0_off2 (v18 : BitVec 32) : Fin 2 → Nat :=
  let c128_i32_12 : BitVec 32 := 128#32
  let v21 : BitVec 32 := Scalar.muli v18 c128_i32_12
  let c0_i32_13 : BitVec 32 := 0#32
  let v22 : BitVec 32 := Scalar.addi v21 c0_i32_13
  let c0_i32_20 : BitVec 32 := 0#32
  ![v22.toNat, 0]

def k0_dev3 (v0 : BitVec 32) : Nat :=
  let c0_i32_19 : BitVec 32 := 0#32
  let c1_i32_18 : BitVec 32 := 1#32
  let v23 : BitVec 32 := Scalar.muli v0 c1_i32_18
  let v24 : BitVec 32 := Scalar.addi c0_i32_19 v23
  v24.toNat
def k0_off3 (v31 : BitVec 32) : Fin 2 → Nat :=
  let c128_i32_24 : BitVec 32 := 128#32
  let v34 : BitVec 32 := Scalar.muli v31 c128_i32_24
  let c32_i32_25 : BitVec 32 := 32#32
  let v35 : BitVec 32 := Scalar.addi v34 c32_i32_25
  let c0_i32_32 : BitVec 32 := 0#32
  ![v35.toNat, 0]

def k0_dev4 (v0 : BitVec 32) : Nat :=
  let c0_i32_31 : BitVec 32 := 0#32
  let c1_i32_30 : BitVec 32 := 1#32
  let v36 : BitVec 32 := Scalar.muli v0 c1_i32_30
  let v37 : BitVec 32 := Scalar.addi c0_i32_31 v36
  v37.toNat
def k0_off4 (v44 : BitVec 32) : Fin 2 → Nat :=
  let c128_i32_36 : BitVec 32 := 128#32
  let v47 : BitVec 32 := Scalar.muli v44 c128_i32_36
  let c64_i32_37 : BitVec 32 := 64#32
  let v48 : BitVec 32 := Scalar.addi v47 c64_i32_37
  let c0_i32_44 : BitVec 32 := 0#32
  ![v48.toNat, 0]

def k0_dev5 (v0 : BitVec 32) : Nat :=
  let c0_i32_43 : BitVec 32 := 0#32
  let c1_i32_42 : BitVec 32 := 1#32
  let v49 : BitVec 32 := Scalar.muli v0 c1_i32_42
  let v50 : BitVec 32 := Scalar.addi c0_i32_43 v49
  v50.toNat
def k0_off5 (v57 : BitVec 32) : Fin 2 → Nat :=
  let c128_i32_48 : BitVec 32 := 128#32
  let v60 : BitVec 32 := Scalar.muli v57 c128_i32_48
  let c96_i32_49 : BitVec 32 := 96#32
  let v61 : BitVec 32 := Scalar.addi v60 c96_i32_49
  let c0_i32_55 : BitVec 32 := 0#32
  ![v61.toNat, 0]

def k0_dev6 (v0 : BitVec 32) : Nat :=
  let c0_i32_54 : BitVec 32 := 0#32
  let c1_i32_53 : BitVec 32 := 1#32
  let v62 : BitVec 32 := Scalar.muli v0 c1_i32_53
  let v63 : BitVec 32 := Scalar.addi c0_i32_54 v62
  v63.toNat
def k0_off6 (v70 : BitVec 32) : Fin 2 → Nat :=
  let c128_i32_59 : BitVec 32 := 128#32
  let v73 : BitVec 32 := Scalar.muli v70 c128_i32_59
  let c0_i32_60 : BitVec 32 := 0#32
  let v74 : BitVec 32 := Scalar.addi v73 c0_i32_60
  let c0_i32_67 : BitVec 32 := 0#32
  ![v74.toNat, 0]

def k0_dev7 (v1 : BitVec 32) : Nat :=
  let c0_i32_66 : BitVec 32 := 0#32
  let c1_i32_65 : BitVec 32 := 1#32
  let v75 : BitVec 32 := Scalar.muli v1 c1_i32_65
  let v76 : BitVec 32 := Scalar.addi c0_i32_66 v75
  v76.toNat
def k0_off7 (v83 : BitVec 32) : Fin 2 → Nat :=
  let c128_i32_72 : BitVec 32 := 128#32
  let v86 : BitVec 32 := Scalar.muli v83 c128_i32_72
  let c32_i32_73 : BitVec 32 := 32#32
  let v87 : BitVec 32 := Scalar.addi v86 c32_i32_73
  let c0_i32_80 : BitVec 32 := 0#32
  ![v87.toNat, 0]

def k0_dev8 (v1 : BitVec 32) : Nat :=
  let c0_i32_79 : BitVec 32 := 0#32
  let c1_i32_78 : BitVec 32 := 1#32
  let v88 : BitVec 32 := Scalar.muli v1 c1_i32_78
  let v89 : BitVec 32 := Scalar.addi c0_i32_79 v88
  v89.toNat
def k0_off8 (v96 : BitVec 32) : Fin 2 → Nat :=
  let c128_i32_85 : BitVec 32 := 128#32
  let v99 : BitVec 32 := Scalar.muli v96 c128_i32_85
  let c64_i32_86 : BitVec 32 := 64#32
  let v100 : BitVec 32 := Scalar.addi v99 c64_i32_86
  let c0_i32_93 : BitVec 32 := 0#32
  ![v100.toNat, 0]

def k0_dev9 (v1 : BitVec 32) : Nat :=
  let c0_i32_92 : BitVec 32 := 0#32
  let c1_i32_91 : BitVec 32 := 1#32
  let v101 : BitVec 32 := Scalar.muli v1 c1_i32_91
  let v102 : BitVec 32 := Scalar.addi c0_i32_92 v101
  v102.toNat
def k0_off9 (v109 : BitVec 32) : Fin 2 → Nat :=
  let c128_i32_98 : BitVec 32 := 128#32
  let v112 : BitVec 32 := Scalar.muli v109 c128_i32_98
  let c96_i32_99 : BitVec 32 := 96#32
  let v113 : BitVec 32 := Scalar.addi v112 c96_i32_99
  let c0_i32_106 : BitVec 32 := 0#32
  ![v113.toNat, 0]

def k0_dev10 (v1 : BitVec 32) : Nat :=
  let c0_i32_105 : BitVec 32 := 0#32
  let c1_i32_104 : BitVec 32 := 1#32
  let v114 : BitVec 32 := Scalar.muli v1 c1_i32_104
  let v115 : BitVec 32 := Scalar.addi c0_i32_105 v114
  v115.toNat
def k0_off10 (v122 : BitVec 32) : Fin 2 → Nat :=
  let c128_i32_109 : BitVec 32 := 128#32
  let v123 : BitVec 32 := Scalar.muli v122 c128_i32_109
  let v124 : Index := Scalar.indexCast v123
  let c0_110 : Index := 0#32
  ![v124.toNat, 0]

def k0_off11 (v122 : BitVec 32) : Fin 2 → Nat :=
  let c128_i32_109 : BitVec 32 := 128#32
  let v123 : BitVec 32 := Scalar.muli v122 c128_i32_109
  let v134 : Index := Scalar.indexCast v123
  let c0_114 : Index := 0#32
  ![v134.toNat, 0]

def k0_chk12 (v122 : BitVec 32) : Prop :=
  (∀ a, (k0_off10 v122) a + S128x4096.size a ≤ S4096x4096.size a) ∧
  (∀ a, (k0_off11 v122) a + S128x64.size a ≤ S4096x64.size a)
theorem k0_off10_inb : ∀ (v122 : BitVec 32) (k0_hw12 : k0_chk12 v122), ∀ a, (k0_off10 v122) a + S128x4096.size a ≤ S4096x4096.size a := fun v122 k0_hw12 => k0_hw12.1
theorem k0_off11_inb : ∀ (v122 : BitVec 32) (k0_hw12 : k0_chk12 v122), ∀ a, (k0_off11 v122) a + S128x64.size a ≤ S4096x64.size a := fun v122 k0_hw12 => k0_hw12.2

def k0_off12 (v136 : BitVec 32) : Fin 2 → Nat :=
  let c128_i32_117 : BitVec 32 := 128#32
  let v139 : BitVec 32 := Scalar.muli v136 c128_i32_117
  let c0_i32_118 : BitVec 32 := 0#32
  let v140 : BitVec 32 := Scalar.addi v139 c0_i32_118
  let c0_i32_125 : BitVec 32 := 0#32
  ![v140.toNat, 0]

def k0_chk13 (v136 : BitVec 32) : Prop :=
  (∀ a, (k0_off12 v136) a + S32x4096.size a ≤ S4096x4096.size a) ∧
  (∀ (hinb : ∀ a, (k0_off12 v136) a + S32x4096.size a ≤ S4096x4096.size a), (Rect.unit (s := S4096x4096) (k0_off12 v136) S32x4096.size hinb).WholeWords (EltTy.packing .i8))
theorem k0_off12_inb : ∀ (v136 : BitVec 32) (k0_hw13 : k0_chk13 v136), ∀ a, (k0_off12 v136) a + S32x4096.size a ≤ S4096x4096.size a := fun v136 k0_hw13 => k0_hw13.1
theorem k0_off12_wordsi8 : ∀ (v136 : BitVec 32) (k0_hw13 : k0_chk13 v136), (Rect.unit (s := S4096x4096) (k0_off12 v136) S32x4096.size (k0_off12_inb v136 k0_hw13)).WholeWords (EltTy.packing .i8) := fun v136 k0_hw13 => k0_hw13.2 (k0_off12_inb v136 k0_hw13)

def k0_off13 (v147 : BitVec 32) : Fin 2 → Nat :=
  let c128_i32_129 : BitVec 32 := 128#32
  let v150 : BitVec 32 := Scalar.muli v147 c128_i32_129
  let c0_i32_130 : BitVec 32 := 0#32
  let v151 : BitVec 32 := Scalar.addi v150 c0_i32_130
  let c0_i32_137 : BitVec 32 := 0#32
  ![v151.toNat, 0]

def k0_dev11 (v0 : BitVec 32) : Nat :=
  let c0_i32_136 : BitVec 32 := 0#32
  let c1_i32_135 : BitVec 32 := 1#32
  let v152 : BitVec 32 := Scalar.muli v0 c1_i32_135
  let v153 : BitVec 32 := Scalar.addi c0_i32_136 v152
  v153.toNat
def k0_off14 (v160 : BitVec 32) : Fin 2 → Nat :=
  let c128_i32_141 : BitVec 32 := 128#32
  let v163 : BitVec 32 := Scalar.muli v160 c128_i32_141
  let c0_i32_142 : BitVec 32 := 0#32
  let v164 : BitVec 32 := Scalar.addi v163 c0_i32_142
  let c0_i32_149 : BitVec 32 := 0#32
  ![v164.toNat, 0]

def k0_chk15 (v160 : BitVec 32) : Prop :=
  (∀ a, (k0_off14 v160) a + S32x4096.size a ≤ S4096x4096.size a) ∧
  (∀ (hinb : ∀ a, (k0_off14 v160) a + S32x4096.size a ≤ S4096x4096.size a), (Rect.unit (s := S4096x4096) (k0_off14 v160) S32x4096.size hinb).WholeWords (EltTy.packing .i8))
theorem k0_off14_inb : ∀ (v160 : BitVec 32) (k0_hw15 : k0_chk15 v160), ∀ a, (k0_off14 v160) a + S32x4096.size a ≤ S4096x4096.size a := fun v160 k0_hw15 => k0_hw15.1
theorem k0_off14_wordsi8 : ∀ (v160 : BitVec 32) (k0_hw15 : k0_chk15 v160), (Rect.unit (s := S4096x4096) (k0_off14 v160) S32x4096.size (k0_off14_inb v160 k0_hw15)).WholeWords (EltTy.packing .i8) := fun v160 k0_hw15 => k0_hw15.2 (k0_off14_inb v160 k0_hw15)

def k0_off15 (v171 : BitVec 32) : Fin 2 → Nat :=
  let c128_i32_153 : BitVec 32 := 128#32
  let v174 : BitVec 32 := Scalar.muli v171 c128_i32_153
  let c0_i32_154 : BitVec 32 := 0#32
  let v175 : BitVec 32 := Scalar.addi v174 c0_i32_154
  let c0_i32_161 : BitVec 32 := 0#32
  ![v175.toNat, 0]

def k0_dev12 (v1 : BitVec 32) : Nat :=
  let c0_i32_160 : BitVec 32 := 0#32
  let c1_i32_159 : BitVec 32 := 1#32
  let v176 : BitVec 32 := Scalar.muli v1 c1_i32_159
  let v177 : BitVec 32 := Scalar.addi c0_i32_160 v176
  v177.toNat
def k0_off16 (v184 : BitVec 32) : Fin 2 → Nat :=
  let c128_i32_166 : BitVec 32 := 128#32
  let v187 : BitVec 32 := Scalar.muli v184 c128_i32_166
  let c32_i32_167 : BitVec 32 := 32#32
  let v188 : BitVec 32 := Scalar.addi v187 c32_i32_167
  let c0_i32_174 : BitVec 32 := 0#32
  ![v188.toNat, 0]

def k0_chk17 (v184 : BitVec 32) : Prop :=
  (∀ a, (k0_off16 v184) a + S32x4096.size a ≤ S4096x4096.size a) ∧
  (∀ (hinb : ∀ a, (k0_off16 v184) a + S32x4096.size a ≤ S4096x4096.size a), (Rect.unit (s := S4096x4096) (k0_off16 v184) S32x4096.size hinb).WholeWords (EltTy.packing .i8))
theorem k0_off16_inb : ∀ (v184 : BitVec 32) (k0_hw17 : k0_chk17 v184), ∀ a, (k0_off16 v184) a + S32x4096.size a ≤ S4096x4096.size a := fun v184 k0_hw17 => k0_hw17.1
theorem k0_off16_wordsi8 : ∀ (v184 : BitVec 32) (k0_hw17 : k0_chk17 v184), (Rect.unit (s := S4096x4096) (k0_off16 v184) S32x4096.size (k0_off16_inb v184 k0_hw17)).WholeWords (EltTy.packing .i8) := fun v184 k0_hw17 => k0_hw17.2 (k0_off16_inb v184 k0_hw17)

def k0_off17 (v195 : BitVec 32) : Fin 2 → Nat :=
  let c128_i32_179 : BitVec 32 := 128#32
  let v198 : BitVec 32 := Scalar.muli v195 c128_i32_179
  let c32_i32_180 : BitVec 32 := 32#32
  let v199 : BitVec 32 := Scalar.addi v198 c32_i32_180
  let c0_i32_187 : BitVec 32 := 0#32
  ![v199.toNat, 0]

def k0_dev13 (v0 : BitVec 32) : Nat :=
  let c0_i32_186 : BitVec 32 := 0#32
  let c1_i32_185 : BitVec 32 := 1#32
  let v200 : BitVec 32 := Scalar.muli v0 c1_i32_185
  let v201 : BitVec 32 := Scalar.addi c0_i32_186 v200
  v201.toNat
def k0_off18 (v208 : BitVec 32) : Fin 2 → Nat :=
  let c128_i32_192 : BitVec 32 := 128#32
  let v211 : BitVec 32 := Scalar.muli v208 c128_i32_192
  let c32_i32_193 : BitVec 32 := 32#32
  let v212 : BitVec 32 := Scalar.addi v211 c32_i32_193
  let c0_i32_200 : BitVec 32 := 0#32
  ![v212.toNat, 0]

def k0_chk19 (v208 : BitVec 32) : Prop :=
  (∀ a, (k0_off18 v208) a + S32x4096.size a ≤ S4096x4096.size a) ∧
  (∀ (hinb : ∀ a, (k0_off18 v208) a + S32x4096.size a ≤ S4096x4096.size a), (Rect.unit (s := S4096x4096) (k0_off18 v208) S32x4096.size hinb).WholeWords (EltTy.packing .i8))
theorem k0_off18_inb : ∀ (v208 : BitVec 32) (k0_hw19 : k0_chk19 v208), ∀ a, (k0_off18 v208) a + S32x4096.size a ≤ S4096x4096.size a := fun v208 k0_hw19 => k0_hw19.1
theorem k0_off18_wordsi8 : ∀ (v208 : BitVec 32) (k0_hw19 : k0_chk19 v208), (Rect.unit (s := S4096x4096) (k0_off18 v208) S32x4096.size (k0_off18_inb v208 k0_hw19)).WholeWords (EltTy.packing .i8) := fun v208 k0_hw19 => k0_hw19.2 (k0_off18_inb v208 k0_hw19)

def k0_off19 (v219 : BitVec 32) : Fin 2 → Nat :=
  let c128_i32_205 : BitVec 32 := 128#32
  let v222 : BitVec 32 := Scalar.muli v219 c128_i32_205
  let c32_i32_206 : BitVec 32 := 32#32
  let v223 : BitVec 32 := Scalar.addi v222 c32_i32_206
  let c0_i32_213 : BitVec 32 := 0#32
  ![v223.toNat, 0]

def k0_dev14 (v1 : BitVec 32) : Nat :=
  let c0_i32_212 : BitVec 32 := 0#32
  let c1_i32_211 : BitVec 32 := 1#32
  let v224 : BitVec 32 := Scalar.muli v1 c1_i32_211
  let v225 : BitVec 32 := Scalar.addi c0_i32_212 v224
  v225.toNat
def k0_off20 (v232 : BitVec 32) : Fin 2 → Nat :=
  let c128_i32_218 : BitVec 32 := 128#32
  let v235 : BitVec 32 := Scalar.muli v232 c128_i32_218
  let c64_i32_219 : BitVec 32 := 64#32
  let v236 : BitVec 32 := Scalar.addi v235 c64_i32_219
  let c0_i32_226 : BitVec 32 := 0#32
  ![v236.toNat, 0]

def k0_chk21 (v232 : BitVec 32) : Prop :=
  (∀ a, (k0_off20 v232) a + S32x4096.size a ≤ S4096x4096.size a) ∧
  (∀ (hinb : ∀ a, (k0_off20 v232) a + S32x4096.size a ≤ S4096x4096.size a), (Rect.unit (s := S4096x4096) (k0_off20 v232) S32x4096.size hinb).WholeWords (EltTy.packing .i8))
theorem k0_off20_inb : ∀ (v232 : BitVec 32) (k0_hw21 : k0_chk21 v232), ∀ a, (k0_off20 v232) a + S32x4096.size a ≤ S4096x4096.size a := fun v232 k0_hw21 => k0_hw21.1
theorem k0_off20_wordsi8 : ∀ (v232 : BitVec 32) (k0_hw21 : k0_chk21 v232), (Rect.unit (s := S4096x4096) (k0_off20 v232) S32x4096.size (k0_off20_inb v232 k0_hw21)).WholeWords (EltTy.packing .i8) := fun v232 k0_hw21 => k0_hw21.2 (k0_off20_inb v232 k0_hw21)

def k0_off21 (v243 : BitVec 32) : Fin 2 → Nat :=
  let c128_i32_231 : BitVec 32 := 128#32
  let v246 : BitVec 32 := Scalar.muli v243 c128_i32_231
  let c64_i32_232 : BitVec 32 := 64#32
  let v247 : BitVec 32 := Scalar.addi v246 c64_i32_232
  let c0_i32_239 : BitVec 32 := 0#32
  ![v247.toNat, 0]

def k0_dev15 (v0 : BitVec 32) : Nat :=
  let c0_i32_238 : BitVec 32 := 0#32
  let c1_i32_237 : BitVec 32 := 1#32
  let v248 : BitVec 32 := Scalar.muli v0 c1_i32_237
  let v249 : BitVec 32 := Scalar.addi c0_i32_238 v248
  v249.toNat
def k0_off22 (v256 : BitVec 32) : Fin 2 → Nat :=
  let c128_i32_244 : BitVec 32 := 128#32
  let v259 : BitVec 32 := Scalar.muli v256 c128_i32_244
  let c64_i32_245 : BitVec 32 := 64#32
  let v260 : BitVec 32 := Scalar.addi v259 c64_i32_245
  let c0_i32_252 : BitVec 32 := 0#32
  ![v260.toNat, 0]

def k0_chk23 (v256 : BitVec 32) : Prop :=
  (∀ a, (k0_off22 v256) a + S32x4096.size a ≤ S4096x4096.size a) ∧
  (∀ (hinb : ∀ a, (k0_off22 v256) a + S32x4096.size a ≤ S4096x4096.size a), (Rect.unit (s := S4096x4096) (k0_off22 v256) S32x4096.size hinb).WholeWords (EltTy.packing .i8))
theorem k0_off22_inb : ∀ (v256 : BitVec 32) (k0_hw23 : k0_chk23 v256), ∀ a, (k0_off22 v256) a + S32x4096.size a ≤ S4096x4096.size a := fun v256 k0_hw23 => k0_hw23.1
theorem k0_off22_wordsi8 : ∀ (v256 : BitVec 32) (k0_hw23 : k0_chk23 v256), (Rect.unit (s := S4096x4096) (k0_off22 v256) S32x4096.size (k0_off22_inb v256 k0_hw23)).WholeWords (EltTy.packing .i8) := fun v256 k0_hw23 => k0_hw23.2 (k0_off22_inb v256 k0_hw23)

def k0_off23 (v267 : BitVec 32) : Fin 2 → Nat :=
  let c128_i32_257 : BitVec 32 := 128#32
  let v270 : BitVec 32 := Scalar.muli v267 c128_i32_257
  let c64_i32_258 : BitVec 32 := 64#32
  let v271 : BitVec 32 := Scalar.addi v270 c64_i32_258
  let c0_i32_265 : BitVec 32 := 0#32
  ![v271.toNat, 0]

def k0_dev16 (v1 : BitVec 32) : Nat :=
  let c0_i32_264 : BitVec 32 := 0#32
  let c1_i32_263 : BitVec 32 := 1#32
  let v272 : BitVec 32 := Scalar.muli v1 c1_i32_263
  let v273 : BitVec 32 := Scalar.addi c0_i32_264 v272
  v273.toNat
def k0_off24 (v280 : BitVec 32) : Fin 2 → Nat :=
  let c128_i32_270 : BitVec 32 := 128#32
  let v283 : BitVec 32 := Scalar.muli v280 c128_i32_270
  let c96_i32_271 : BitVec 32 := 96#32
  let v284 : BitVec 32 := Scalar.addi v283 c96_i32_271
  let c0_i32_278 : BitVec 32 := 0#32
  ![v284.toNat, 0]

def k0_chk25 (v280 : BitVec 32) : Prop :=
  (∀ a, (k0_off24 v280) a + S32x4096.size a ≤ S4096x4096.size a) ∧
  (∀ (hinb : ∀ a, (k0_off24 v280) a + S32x4096.size a ≤ S4096x4096.size a), (Rect.unit (s := S4096x4096) (k0_off24 v280) S32x4096.size hinb).WholeWords (EltTy.packing .i8))
theorem k0_off24_inb : ∀ (v280 : BitVec 32) (k0_hw25 : k0_chk25 v280), ∀ a, (k0_off24 v280) a + S32x4096.size a ≤ S4096x4096.size a := fun v280 k0_hw25 => k0_hw25.1
theorem k0_off24_wordsi8 : ∀ (v280 : BitVec 32) (k0_hw25 : k0_chk25 v280), (Rect.unit (s := S4096x4096) (k0_off24 v280) S32x4096.size (k0_off24_inb v280 k0_hw25)).WholeWords (EltTy.packing .i8) := fun v280 k0_hw25 => k0_hw25.2 (k0_off24_inb v280 k0_hw25)

def k0_off25 (v291 : BitVec 32) : Fin 2 → Nat :=
  let c128_i32_283 : BitVec 32 := 128#32
  let v294 : BitVec 32 := Scalar.muli v291 c128_i32_283
  let c96_i32_284 : BitVec 32 := 96#32
  let v295 : BitVec 32 := Scalar.addi v294 c96_i32_284
  let c0_i32_291 : BitVec 32 := 0#32
  ![v295.toNat, 0]

def k0_dev17 (v0 : BitVec 32) : Nat :=
  let c0_i32_290 : BitVec 32 := 0#32
  let c1_i32_289 : BitVec 32 := 1#32
  let v296 : BitVec 32 := Scalar.muli v0 c1_i32_289
  let v297 : BitVec 32 := Scalar.addi c0_i32_290 v296
  v297.toNat
def k0_off26 (v304 : BitVec 32) : Fin 2 → Nat :=
  let c128_i32_296 : BitVec 32 := 128#32
  let v307 : BitVec 32 := Scalar.muli v304 c128_i32_296
  let c96_i32_297 : BitVec 32 := 96#32
  let v308 : BitVec 32 := Scalar.addi v307 c96_i32_297
  let c0_i32_304 : BitVec 32 := 0#32
  ![v308.toNat, 0]

def k0_chk27 (v304 : BitVec 32) : Prop :=
  (∀ a, (k0_off26 v304) a + S32x4096.size a ≤ S4096x4096.size a) ∧
  (∀ (hinb : ∀ a, (k0_off26 v304) a + S32x4096.size a ≤ S4096x4096.size a), (Rect.unit (s := S4096x4096) (k0_off26 v304) S32x4096.size hinb).WholeWords (EltTy.packing .i8))
theorem k0_off26_inb : ∀ (v304 : BitVec 32) (k0_hw27 : k0_chk27 v304), ∀ a, (k0_off26 v304) a + S32x4096.size a ≤ S4096x4096.size a := fun v304 k0_hw27 => k0_hw27.1
theorem k0_off26_wordsi8 : ∀ (v304 : BitVec 32) (k0_hw27 : k0_chk27 v304), (Rect.unit (s := S4096x4096) (k0_off26 v304) S32x4096.size (k0_off26_inb v304 k0_hw27)).WholeWords (EltTy.packing .i8) := fun v304 k0_hw27 => k0_hw27.2 (k0_off26_inb v304 k0_hw27)

def k0_off27 (v315 : BitVec 32) : Fin 2 → Nat :=
  let c128_i32_309 : BitVec 32 := 128#32
  let v318 : BitVec 32 := Scalar.muli v315 c128_i32_309
  let c96_i32_310 : BitVec 32 := 96#32
  let v319 : BitVec 32 := Scalar.addi v318 c96_i32_310
  let c0_i32_317 : BitVec 32 := 0#32
  ![v319.toNat, 0]

def k0_dev18 (v1 : BitVec 32) : Nat :=
  let c0_i32_316 : BitVec 32 := 0#32
  let c1_i32_315 : BitVec 32 := 1#32
  let v320 : BitVec 32 := Scalar.muli v1 c1_i32_315
  let v321 : BitVec 32 := Scalar.addi c0_i32_316 v320
  v321.toNat
def k0_off28 (v328 : BitVec 32) : Fin 2 → Nat :=
  let c128_i32_320 : BitVec 32 := 128#32
  let v329 : BitVec 32 := Scalar.muli v328 c128_i32_320
  let v330 : Index := Scalar.indexCast v329
  let c0_321 : Index := 0#32
  ![v330.toNat, 0]

def k0_off29 (v328 : BitVec 32) : Fin 2 → Nat :=
  let c128_i32_320 : BitVec 32 := 128#32
  let v329 : BitVec 32 := Scalar.muli v328 c128_i32_320
  let v340 : Index := Scalar.indexCast v329
  let c0_326 : Index := 0#32
  ![v340.toNat, 0]

def k0_chk29 (v328 : BitVec 32) : Prop :=
  (∀ a, (k0_off28 v328) a + S128x4096.size a ≤ S4096x4096.size a) ∧
  (∀ a, (k0_off29 v328) a + S128x64.size a ≤ S4096x64.size a)
theorem k0_off28_inb : ∀ (v328 : BitVec 32) (k0_hw29 : k0_chk29 v328), ∀ a, (k0_off28 v328) a + S128x4096.size a ≤ S4096x4096.size a := fun v328 k0_hw29 => k0_hw29.1
theorem k0_off29_inb : ∀ (v328 : BitVec 32) (k0_hw29 : k0_chk29 v328), ∀ a, (k0_off29 v328) a + S128x64.size a ≤ S4096x64.size a := fun v328 k0_hw29 => k0_hw29.2

def k0_off30 (v342 : BitVec 32) : Fin 2 → Nat :=
  let c128_i32_328 : BitVec 32 := 128#32
  let v343 : BitVec 32 := Scalar.muli v342 c128_i32_328
  let v344 : Index := Scalar.indexCast v343
  let c0_329 : Index := 0#32
  ![v344.toNat, 0]

def k0_off31 (v342 : BitVec 32) : Fin 2 → Nat :=
  let c128_i32_328 : BitVec 32 := 128#32
  let v343 : BitVec 32 := Scalar.muli v342 c128_i32_328
  let v354 : Index := Scalar.indexCast v343
  let c0_334 : Index := 0#32
  ![v354.toNat, 0]

def k0_chk30 (v342 : BitVec 32) : Prop :=
  (∀ a, (k0_off30 v342) a + S128x4096.size a ≤ S4096x4096.size a) ∧
  (∀ a, (k0_off31 v342) a + S128x64.size a ≤ S4096x64.size a)
theorem k0_off30_inb : ∀ (v342 : BitVec 32) (k0_hw30 : k0_chk30 v342), ∀ a, (k0_off30 v342) a + S128x4096.size a ≤ S4096x4096.size a := fun v342 k0_hw30 => k0_hw30.1
theorem k0_off31_inb : ∀ (v342 : BitVec 32) (k0_hw30 : k0_chk30 v342), ∀ a, (k0_off31 v342) a + S128x64.size a ≤ S4096x64.size a := fun v342 k0_hw30 => k0_hw30.2

def k0_off32 (v356 : BitVec 32) : Fin 2 → Nat :=
  let c128_i32_337 : BitVec 32 := 128#32
  let v359 : BitVec 32 := Scalar.muli v356 c128_i32_337
  let c0_i32_338 : BitVec 32 := 0#32
  let v360 : BitVec 32 := Scalar.addi v359 c0_i32_338
  let c0_i32_345 : BitVec 32 := 0#32
  ![v360.toNat, 0]

def k0_chk31 (v356 : BitVec 32) : Prop :=
  (∀ a, (k0_off32 v356) a + S32x4096.size a ≤ S4096x4096.size a) ∧
  (∀ (hinb : ∀ a, (k0_off32 v356) a + S32x4096.size a ≤ S4096x4096.size a), (Rect.unit (s := S4096x4096) (k0_off32 v356) S32x4096.size hinb).WholeWords (EltTy.packing .i8))
theorem k0_off32_inb : ∀ (v356 : BitVec 32) (k0_hw31 : k0_chk31 v356), ∀ a, (k0_off32 v356) a + S32x4096.size a ≤ S4096x4096.size a := fun v356 k0_hw31 => k0_hw31.1
theorem k0_off32_wordsi8 : ∀ (v356 : BitVec 32) (k0_hw31 : k0_chk31 v356), (Rect.unit (s := S4096x4096) (k0_off32 v356) S32x4096.size (k0_off32_inb v356 k0_hw31)).WholeWords (EltTy.packing .i8) := fun v356 k0_hw31 => k0_hw31.2 (k0_off32_inb v356 k0_hw31)

def k0_off33 (v367 : BitVec 32) : Fin 2 → Nat :=
  let c128_i32_349 : BitVec 32 := 128#32
  let v370 : BitVec 32 := Scalar.muli v367 c128_i32_349
  let c0_i32_350 : BitVec 32 := 0#32
  let v371 : BitVec 32 := Scalar.addi v370 c0_i32_350
  let c0_i32_357 : BitVec 32 := 0#32
  ![v371.toNat, 0]

def k0_dev19 (v0 : BitVec 32) : Nat :=
  let c0_i32_356 : BitVec 32 := 0#32
  let c1_i32_355 : BitVec 32 := 1#32
  let v372 : BitVec 32 := Scalar.muli v0 c1_i32_355
  let v373 : BitVec 32 := Scalar.addi c0_i32_356 v372
  v373.toNat
def k0_off34 (v380 : BitVec 32) : Fin 2 → Nat :=
  let c128_i32_361 : BitVec 32 := 128#32
  let v383 : BitVec 32 := Scalar.muli v380 c128_i32_361
  let c0_i32_362 : BitVec 32 := 0#32
  let v384 : BitVec 32 := Scalar.addi v383 c0_i32_362
  let c0_i32_369 : BitVec 32 := 0#32
  ![v384.toNat, 0]

def k0_chk33 (v380 : BitVec 32) : Prop :=
  (∀ a, (k0_off34 v380) a + S32x4096.size a ≤ S4096x4096.size a) ∧
  (∀ (hinb : ∀ a, (k0_off34 v380) a + S32x4096.size a ≤ S4096x4096.size a), (Rect.unit (s := S4096x4096) (k0_off34 v380) S32x4096.size hinb).WholeWords (EltTy.packing .i8))
theorem k0_off34_inb : ∀ (v380 : BitVec 32) (k0_hw33 : k0_chk33 v380), ∀ a, (k0_off34 v380) a + S32x4096.size a ≤ S4096x4096.size a := fun v380 k0_hw33 => k0_hw33.1
theorem k0_off34_wordsi8 : ∀ (v380 : BitVec 32) (k0_hw33 : k0_chk33 v380), (Rect.unit (s := S4096x4096) (k0_off34 v380) S32x4096.size (k0_off34_inb v380 k0_hw33)).WholeWords (EltTy.packing .i8) := fun v380 k0_hw33 => k0_hw33.2 (k0_off34_inb v380 k0_hw33)

def k0_off35 (v391 : BitVec 32) : Fin 2 → Nat :=
  let c128_i32_373 : BitVec 32 := 128#32
  let v394 : BitVec 32 := Scalar.muli v391 c128_i32_373
  let c0_i32_374 : BitVec 32 := 0#32
  let v395 : BitVec 32 := Scalar.addi v394 c0_i32_374
  let c0_i32_381 : BitVec 32 := 0#32
  ![v395.toNat, 0]

def k0_dev20 (v1 : BitVec 32) : Nat :=
  let c0_i32_380 : BitVec 32 := 0#32
  let c1_i32_379 : BitVec 32 := 1#32
  let v396 : BitVec 32 := Scalar.muli v1 c1_i32_379
  let v397 : BitVec 32 := Scalar.addi c0_i32_380 v396
  v397.toNat
def k0_off36 (v404 : BitVec 32) : Fin 2 → Nat :=
  let c128_i32_386 : BitVec 32 := 128#32
  let v407 : BitVec 32 := Scalar.muli v404 c128_i32_386
  let c32_i32_387 : BitVec 32 := 32#32
  let v408 : BitVec 32 := Scalar.addi v407 c32_i32_387
  let c0_i32_394 : BitVec 32 := 0#32
  ![v408.toNat, 0]

def k0_chk35 (v404 : BitVec 32) : Prop :=
  (∀ a, (k0_off36 v404) a + S32x4096.size a ≤ S4096x4096.size a) ∧
  (∀ (hinb : ∀ a, (k0_off36 v404) a + S32x4096.size a ≤ S4096x4096.size a), (Rect.unit (s := S4096x4096) (k0_off36 v404) S32x4096.size hinb).WholeWords (EltTy.packing .i8))
theorem k0_off36_inb : ∀ (v404 : BitVec 32) (k0_hw35 : k0_chk35 v404), ∀ a, (k0_off36 v404) a + S32x4096.size a ≤ S4096x4096.size a := fun v404 k0_hw35 => k0_hw35.1
theorem k0_off36_wordsi8 : ∀ (v404 : BitVec 32) (k0_hw35 : k0_chk35 v404), (Rect.unit (s := S4096x4096) (k0_off36 v404) S32x4096.size (k0_off36_inb v404 k0_hw35)).WholeWords (EltTy.packing .i8) := fun v404 k0_hw35 => k0_hw35.2 (k0_off36_inb v404 k0_hw35)

def k0_off37 (v415 : BitVec 32) : Fin 2 → Nat :=
  let c128_i32_399 : BitVec 32 := 128#32
  let v418 : BitVec 32 := Scalar.muli v415 c128_i32_399
  let c32_i32_400 : BitVec 32 := 32#32
  let v419 : BitVec 32 := Scalar.addi v418 c32_i32_400
  let c0_i32_407 : BitVec 32 := 0#32
  ![v419.toNat, 0]

def k0_dev21 (v0 : BitVec 32) : Nat :=
  let c0_i32_406 : BitVec 32 := 0#32
  let c1_i32_405 : BitVec 32 := 1#32
  let v420 : BitVec 32 := Scalar.muli v0 c1_i32_405
  let v421 : BitVec 32 := Scalar.addi c0_i32_406 v420
  v421.toNat
def k0_off38 (v428 : BitVec 32) : Fin 2 → Nat :=
  let c128_i32_412 : BitVec 32 := 128#32
  let v431 : BitVec 32 := Scalar.muli v428 c128_i32_412
  let c32_i32_413 : BitVec 32 := 32#32
  let v432 : BitVec 32 := Scalar.addi v431 c32_i32_413
  let c0_i32_420 : BitVec 32 := 0#32
  ![v432.toNat, 0]

def k0_chk37 (v428 : BitVec 32) : Prop :=
  (∀ a, (k0_off38 v428) a + S32x4096.size a ≤ S4096x4096.size a) ∧
  (∀ (hinb : ∀ a, (k0_off38 v428) a + S32x4096.size a ≤ S4096x4096.size a), (Rect.unit (s := S4096x4096) (k0_off38 v428) S32x4096.size hinb).WholeWords (EltTy.packing .i8))
theorem k0_off38_inb : ∀ (v428 : BitVec 32) (k0_hw37 : k0_chk37 v428), ∀ a, (k0_off38 v428) a + S32x4096.size a ≤ S4096x4096.size a := fun v428 k0_hw37 => k0_hw37.1
theorem k0_off38_wordsi8 : ∀ (v428 : BitVec 32) (k0_hw37 : k0_chk37 v428), (Rect.unit (s := S4096x4096) (k0_off38 v428) S32x4096.size (k0_off38_inb v428 k0_hw37)).WholeWords (EltTy.packing .i8) := fun v428 k0_hw37 => k0_hw37.2 (k0_off38_inb v428 k0_hw37)

def k0_off39 (v439 : BitVec 32) : Fin 2 → Nat :=
  let c128_i32_425 : BitVec 32 := 128#32
  let v442 : BitVec 32 := Scalar.muli v439 c128_i32_425
  let c32_i32_426 : BitVec 32 := 32#32
  let v443 : BitVec 32 := Scalar.addi v442 c32_i32_426
  let c0_i32_433 : BitVec 32 := 0#32
  ![v443.toNat, 0]

def k0_dev22 (v1 : BitVec 32) : Nat :=
  let c0_i32_432 : BitVec 32 := 0#32
  let c1_i32_431 : BitVec 32 := 1#32
  let v444 : BitVec 32 := Scalar.muli v1 c1_i32_431
  let v445 : BitVec 32 := Scalar.addi c0_i32_432 v444
  v445.toNat
def k0_off40 (v452 : BitVec 32) : Fin 2 → Nat :=
  let c128_i32_438 : BitVec 32 := 128#32
  let v455 : BitVec 32 := Scalar.muli v452 c128_i32_438
  let c64_i32_439 : BitVec 32 := 64#32
  let v456 : BitVec 32 := Scalar.addi v455 c64_i32_439
  let c0_i32_446 : BitVec 32 := 0#32
  ![v456.toNat, 0]

def k0_chk39 (v452 : BitVec 32) : Prop :=
  (∀ a, (k0_off40 v452) a + S32x4096.size a ≤ S4096x4096.size a) ∧
  (∀ (hinb : ∀ a, (k0_off40 v452) a + S32x4096.size a ≤ S4096x4096.size a), (Rect.unit (s := S4096x4096) (k0_off40 v452) S32x4096.size hinb).WholeWords (EltTy.packing .i8))
theorem k0_off40_inb : ∀ (v452 : BitVec 32) (k0_hw39 : k0_chk39 v452), ∀ a, (k0_off40 v452) a + S32x4096.size a ≤ S4096x4096.size a := fun v452 k0_hw39 => k0_hw39.1
theorem k0_off40_wordsi8 : ∀ (v452 : BitVec 32) (k0_hw39 : k0_chk39 v452), (Rect.unit (s := S4096x4096) (k0_off40 v452) S32x4096.size (k0_off40_inb v452 k0_hw39)).WholeWords (EltTy.packing .i8) := fun v452 k0_hw39 => k0_hw39.2 (k0_off40_inb v452 k0_hw39)

def k0_off41 (v463 : BitVec 32) : Fin 2 → Nat :=
  let c128_i32_451 : BitVec 32 := 128#32
  let v466 : BitVec 32 := Scalar.muli v463 c128_i32_451
  let c64_i32_452 : BitVec 32 := 64#32
  let v467 : BitVec 32 := Scalar.addi v466 c64_i32_452
  let c0_i32_459 : BitVec 32 := 0#32
  ![v467.toNat, 0]

def k0_dev23 (v0 : BitVec 32) : Nat :=
  let c0_i32_458 : BitVec 32 := 0#32
  let c1_i32_457 : BitVec 32 := 1#32
  let v468 : BitVec 32 := Scalar.muli v0 c1_i32_457
  let v469 : BitVec 32 := Scalar.addi c0_i32_458 v468
  v469.toNat
def k0_off42 (v476 : BitVec 32) : Fin 2 → Nat :=
  let c128_i32_464 : BitVec 32 := 128#32
  let v479 : BitVec 32 := Scalar.muli v476 c128_i32_464
  let c64_i32_465 : BitVec 32 := 64#32
  let v480 : BitVec 32 := Scalar.addi v479 c64_i32_465
  let c0_i32_472 : BitVec 32 := 0#32
  ![v480.toNat, 0]

def k0_chk41 (v476 : BitVec 32) : Prop :=
  (∀ a, (k0_off42 v476) a + S32x4096.size a ≤ S4096x4096.size a) ∧
  (∀ (hinb : ∀ a, (k0_off42 v476) a + S32x4096.size a ≤ S4096x4096.size a), (Rect.unit (s := S4096x4096) (k0_off42 v476) S32x4096.size hinb).WholeWords (EltTy.packing .i8))
theorem k0_off42_inb : ∀ (v476 : BitVec 32) (k0_hw41 : k0_chk41 v476), ∀ a, (k0_off42 v476) a + S32x4096.size a ≤ S4096x4096.size a := fun v476 k0_hw41 => k0_hw41.1
theorem k0_off42_wordsi8 : ∀ (v476 : BitVec 32) (k0_hw41 : k0_chk41 v476), (Rect.unit (s := S4096x4096) (k0_off42 v476) S32x4096.size (k0_off42_inb v476 k0_hw41)).WholeWords (EltTy.packing .i8) := fun v476 k0_hw41 => k0_hw41.2 (k0_off42_inb v476 k0_hw41)

def k0_off43 (v487 : BitVec 32) : Fin 2 → Nat :=
  let c128_i32_477 : BitVec 32 := 128#32
  let v490 : BitVec 32 := Scalar.muli v487 c128_i32_477
  let c64_i32_478 : BitVec 32 := 64#32
  let v491 : BitVec 32 := Scalar.addi v490 c64_i32_478
  let c0_i32_485 : BitVec 32 := 0#32
  ![v491.toNat, 0]

def k0_dev24 (v1 : BitVec 32) : Nat :=
  let c0_i32_484 : BitVec 32 := 0#32
  let c1_i32_483 : BitVec 32 := 1#32
  let v492 : BitVec 32 := Scalar.muli v1 c1_i32_483
  let v493 : BitVec 32 := Scalar.addi c0_i32_484 v492
  v493.toNat
def k0_off44 (v500 : BitVec 32) : Fin 2 → Nat :=
  let c128_i32_490 : BitVec 32 := 128#32
  let v503 : BitVec 32 := Scalar.muli v500 c128_i32_490
  let c96_i32_491 : BitVec 32 := 96#32
  let v504 : BitVec 32 := Scalar.addi v503 c96_i32_491
  let c0_i32_498 : BitVec 32 := 0#32
  ![v504.toNat, 0]

def k0_chk43 (v500 : BitVec 32) : Prop :=
  (∀ a, (k0_off44 v500) a + S32x4096.size a ≤ S4096x4096.size a) ∧
  (∀ (hinb : ∀ a, (k0_off44 v500) a + S32x4096.size a ≤ S4096x4096.size a), (Rect.unit (s := S4096x4096) (k0_off44 v500) S32x4096.size hinb).WholeWords (EltTy.packing .i8))
theorem k0_off44_inb : ∀ (v500 : BitVec 32) (k0_hw43 : k0_chk43 v500), ∀ a, (k0_off44 v500) a + S32x4096.size a ≤ S4096x4096.size a := fun v500 k0_hw43 => k0_hw43.1
theorem k0_off44_wordsi8 : ∀ (v500 : BitVec 32) (k0_hw43 : k0_chk43 v500), (Rect.unit (s := S4096x4096) (k0_off44 v500) S32x4096.size (k0_off44_inb v500 k0_hw43)).WholeWords (EltTy.packing .i8) := fun v500 k0_hw43 => k0_hw43.2 (k0_off44_inb v500 k0_hw43)

def k0_off45 (v511 : BitVec 32) : Fin 2 → Nat :=
  let c128_i32_503 : BitVec 32 := 128#32
  let v514 : BitVec 32 := Scalar.muli v511 c128_i32_503
  let c96_i32_504 : BitVec 32 := 96#32
  let v515 : BitVec 32 := Scalar.addi v514 c96_i32_504
  let c0_i32_511 : BitVec 32 := 0#32
  ![v515.toNat, 0]

def k0_dev25 (v0 : BitVec 32) : Nat :=
  let c0_i32_510 : BitVec 32 := 0#32
  let c1_i32_509 : BitVec 32 := 1#32
  let v516 : BitVec 32 := Scalar.muli v0 c1_i32_509
  let v517 : BitVec 32 := Scalar.addi c0_i32_510 v516
  v517.toNat
def k0_off46 (v524 : BitVec 32) : Fin 2 → Nat :=
  let c128_i32_516 : BitVec 32 := 128#32
  let v527 : BitVec 32 := Scalar.muli v524 c128_i32_516
  let c96_i32_517 : BitVec 32 := 96#32
  let v528 : BitVec 32 := Scalar.addi v527 c96_i32_517
  let c0_i32_524 : BitVec 32 := 0#32
  ![v528.toNat, 0]

def k0_chk45 (v524 : BitVec 32) : Prop :=
  (∀ a, (k0_off46 v524) a + S32x4096.size a ≤ S4096x4096.size a) ∧
  (∀ (hinb : ∀ a, (k0_off46 v524) a + S32x4096.size a ≤ S4096x4096.size a), (Rect.unit (s := S4096x4096) (k0_off46 v524) S32x4096.size hinb).WholeWords (EltTy.packing .i8))
theorem k0_off46_inb : ∀ (v524 : BitVec 32) (k0_hw45 : k0_chk45 v524), ∀ a, (k0_off46 v524) a + S32x4096.size a ≤ S4096x4096.size a := fun v524 k0_hw45 => k0_hw45.1
theorem k0_off46_wordsi8 : ∀ (v524 : BitVec 32) (k0_hw45 : k0_chk45 v524), (Rect.unit (s := S4096x4096) (k0_off46 v524) S32x4096.size (k0_off46_inb v524 k0_hw45)).WholeWords (EltTy.packing .i8) := fun v524 k0_hw45 => k0_hw45.2 (k0_off46_inb v524 k0_hw45)

def k0_off47 (v535 : BitVec 32) : Fin 2 → Nat :=
  let c128_i32_529 : BitVec 32 := 128#32
  let v538 : BitVec 32 := Scalar.muli v535 c128_i32_529
  let c96_i32_530 : BitVec 32 := 96#32
  let v539 : BitVec 32 := Scalar.addi v538 c96_i32_530
  let c0_i32_537 : BitVec 32 := 0#32
  ![v539.toNat, 0]

def k0_dev26 (v1 : BitVec 32) : Nat :=
  let c0_i32_536 : BitVec 32 := 0#32
  let c1_i32_535 : BitVec 32 := 1#32
  let v540 : BitVec 32 := Scalar.muli v1 c1_i32_535
  let v541 : BitVec 32 := Scalar.addi c0_i32_536 v540
  v541.toNat
def k0_off48 (v548 : BitVec 32) : Fin 2 → Nat :=
  let c128_i32_540 : BitVec 32 := 128#32
  let v549 : BitVec 32 := Scalar.muli v548 c128_i32_540
  let v550 : Index := Scalar.indexCast v549
  let c0_541 : Index := 0#32
  ![v550.toNat, 0]

def k0_off49 (v548 : BitVec 32) : Fin 2 → Nat :=
  let c128_i32_540 : BitVec 32 := 128#32
  let v549 : BitVec 32 := Scalar.muli v548 c128_i32_540
  let v560 : Index := Scalar.indexCast v549
  let c0_546 : Index := 0#32
  ![v560.toNat, 0]

def k0_chk47 (v548 : BitVec 32) : Prop :=
  (∀ a, (k0_off48 v548) a + S128x4096.size a ≤ S4096x4096.size a) ∧
  (∀ a, (k0_off49 v548) a + S128x64.size a ≤ S4096x64.size a)
theorem k0_off48_inb : ∀ (v548 : BitVec 32) (k0_hw47 : k0_chk47 v548), ∀ a, (k0_off48 v548) a + S128x4096.size a ≤ S4096x4096.size a := fun v548 k0_hw47 => k0_hw47.1
theorem k0_off49_inb : ∀ (v548 : BitVec 32) (k0_hw47 : k0_chk47 v548), ∀ a, (k0_off49 v548) a + S128x64.size a ≤ S4096x64.size a := fun v548 k0_hw47 => k0_hw47.2

def k0_off50 (v562 : BitVec 32) : Fin 2 → Nat :=
  let c128_i32_548 : BitVec 32 := 128#32
  let v563 : BitVec 32 := Scalar.muli v562 c128_i32_548
  let v564 : Index := Scalar.indexCast v563
  let c0_549 : Index := 0#32
  ![v564.toNat, 0]

def k0_off51 (v562 : BitVec 32) : Fin 2 → Nat :=
  let c128_i32_548 : BitVec 32 := 128#32
  let v563 : BitVec 32 := Scalar.muli v562 c128_i32_548
  let v574 : Index := Scalar.indexCast v563
  let c0_554 : Index := 0#32
  ![v574.toNat, 0]

def k0_chk48 (v562 : BitVec 32) : Prop :=
  (∀ a, (k0_off50 v562) a + S128x4096.size a ≤ S4096x4096.size a) ∧
  (∀ a, (k0_off51 v562) a + S128x64.size a ≤ S4096x64.size a)
theorem k0_off50_inb : ∀ (v562 : BitVec 32) (k0_hw48 : k0_chk48 v562), ∀ a, (k0_off50 v562) a + S128x4096.size a ≤ S4096x4096.size a := fun v562 k0_hw48 => k0_hw48.1
theorem k0_off51_inb : ∀ (v562 : BitVec 32) (k0_hw48 : k0_chk48 v562), ∀ a, (k0_off51 v562) a + S128x64.size a ≤ S4096x64.size a := fun v562 k0_hw48 => k0_hw48.2

def k0_off52 (v576 : BitVec 32) : Fin 2 → Nat :=
  let c128_i32_557 : BitVec 32 := 128#32
  let v579 : BitVec 32 := Scalar.muli v576 c128_i32_557
  let c0_i32_558 : BitVec 32 := 0#32
  let v580 : BitVec 32 := Scalar.addi v579 c0_i32_558
  let c0_i32_565 : BitVec 32 := 0#32
  ![v580.toNat, 0]

def k0_chk49 (v576 : BitVec 32) : Prop :=
  (∀ a, (k0_off52 v576) a + S32x4096.size a ≤ S4096x4096.size a) ∧
  (∀ (hinb : ∀ a, (k0_off52 v576) a + S32x4096.size a ≤ S4096x4096.size a), (Rect.unit (s := S4096x4096) (k0_off52 v576) S32x4096.size hinb).WholeWords (EltTy.packing .i8))
theorem k0_off52_inb : ∀ (v576 : BitVec 32) (k0_hw49 : k0_chk49 v576), ∀ a, (k0_off52 v576) a + S32x4096.size a ≤ S4096x4096.size a := fun v576 k0_hw49 => k0_hw49.1
theorem k0_off52_wordsi8 : ∀ (v576 : BitVec 32) (k0_hw49 : k0_chk49 v576), (Rect.unit (s := S4096x4096) (k0_off52 v576) S32x4096.size (k0_off52_inb v576 k0_hw49)).WholeWords (EltTy.packing .i8) := fun v576 k0_hw49 => k0_hw49.2 (k0_off52_inb v576 k0_hw49)

def k0_off53 (v587 : BitVec 32) : Fin 2 → Nat :=
  let c128_i32_569 : BitVec 32 := 128#32
  let v590 : BitVec 32 := Scalar.muli v587 c128_i32_569
  let c0_i32_570 : BitVec 32 := 0#32
  let v591 : BitVec 32 := Scalar.addi v590 c0_i32_570
  let c0_i32_577 : BitVec 32 := 0#32
  ![v591.toNat, 0]

def k0_dev27 (v0 : BitVec 32) : Nat :=
  let c0_i32_576 : BitVec 32 := 0#32
  let c1_i32_575 : BitVec 32 := 1#32
  let v592 : BitVec 32 := Scalar.muli v0 c1_i32_575
  let v593 : BitVec 32 := Scalar.addi c0_i32_576 v592
  v593.toNat
def k0_off54 (v600 : BitVec 32) : Fin 2 → Nat :=
  let c128_i32_581 : BitVec 32 := 128#32
  let v603 : BitVec 32 := Scalar.muli v600 c128_i32_581
  let c0_i32_582 : BitVec 32 := 0#32
  let v604 : BitVec 32 := Scalar.addi v603 c0_i32_582
  let c0_i32_589 : BitVec 32 := 0#32
  ![v604.toNat, 0]

def k0_chk51 (v600 : BitVec 32) : Prop :=
  (∀ a, (k0_off54 v600) a + S32x4096.size a ≤ S4096x4096.size a) ∧
  (∀ (hinb : ∀ a, (k0_off54 v600) a + S32x4096.size a ≤ S4096x4096.size a), (Rect.unit (s := S4096x4096) (k0_off54 v600) S32x4096.size hinb).WholeWords (EltTy.packing .i8))
theorem k0_off54_inb : ∀ (v600 : BitVec 32) (k0_hw51 : k0_chk51 v600), ∀ a, (k0_off54 v600) a + S32x4096.size a ≤ S4096x4096.size a := fun v600 k0_hw51 => k0_hw51.1
theorem k0_off54_wordsi8 : ∀ (v600 : BitVec 32) (k0_hw51 : k0_chk51 v600), (Rect.unit (s := S4096x4096) (k0_off54 v600) S32x4096.size (k0_off54_inb v600 k0_hw51)).WholeWords (EltTy.packing .i8) := fun v600 k0_hw51 => k0_hw51.2 (k0_off54_inb v600 k0_hw51)

def k0_off55 (v611 : BitVec 32) : Fin 2 → Nat :=
  let c128_i32_593 : BitVec 32 := 128#32
  let v614 : BitVec 32 := Scalar.muli v611 c128_i32_593
  let c0_i32_594 : BitVec 32 := 0#32
  let v615 : BitVec 32 := Scalar.addi v614 c0_i32_594
  let c0_i32_601 : BitVec 32 := 0#32
  ![v615.toNat, 0]

def k0_dev28 (v1 : BitVec 32) : Nat :=
  let c0_i32_600 : BitVec 32 := 0#32
  let c1_i32_599 : BitVec 32 := 1#32
  let v616 : BitVec 32 := Scalar.muli v1 c1_i32_599
  let v617 : BitVec 32 := Scalar.addi c0_i32_600 v616
  v617.toNat
def k0_off56 (v624 : BitVec 32) : Fin 2 → Nat :=
  let c128_i32_606 : BitVec 32 := 128#32
  let v627 : BitVec 32 := Scalar.muli v624 c128_i32_606
  let c32_i32_607 : BitVec 32 := 32#32
  let v628 : BitVec 32 := Scalar.addi v627 c32_i32_607
  let c0_i32_614 : BitVec 32 := 0#32
  ![v628.toNat, 0]

def k0_chk53 (v624 : BitVec 32) : Prop :=
  (∀ a, (k0_off56 v624) a + S32x4096.size a ≤ S4096x4096.size a) ∧
  (∀ (hinb : ∀ a, (k0_off56 v624) a + S32x4096.size a ≤ S4096x4096.size a), (Rect.unit (s := S4096x4096) (k0_off56 v624) S32x4096.size hinb).WholeWords (EltTy.packing .i8))
theorem k0_off56_inb : ∀ (v624 : BitVec 32) (k0_hw53 : k0_chk53 v624), ∀ a, (k0_off56 v624) a + S32x4096.size a ≤ S4096x4096.size a := fun v624 k0_hw53 => k0_hw53.1
theorem k0_off56_wordsi8 : ∀ (v624 : BitVec 32) (k0_hw53 : k0_chk53 v624), (Rect.unit (s := S4096x4096) (k0_off56 v624) S32x4096.size (k0_off56_inb v624 k0_hw53)).WholeWords (EltTy.packing .i8) := fun v624 k0_hw53 => k0_hw53.2 (k0_off56_inb v624 k0_hw53)

def k0_off57 (v635 : BitVec 32) : Fin 2 → Nat :=
  let c128_i32_619 : BitVec 32 := 128#32
  let v638 : BitVec 32 := Scalar.muli v635 c128_i32_619
  let c32_i32_620 : BitVec 32 := 32#32
  let v639 : BitVec 32 := Scalar.addi v638 c32_i32_620
  let c0_i32_627 : BitVec 32 := 0#32
  ![v639.toNat, 0]

def k0_dev29 (v0 : BitVec 32) : Nat :=
  let c0_i32_626 : BitVec 32 := 0#32
  let c1_i32_625 : BitVec 32 := 1#32
  let v640 : BitVec 32 := Scalar.muli v0 c1_i32_625
  let v641 : BitVec 32 := Scalar.addi c0_i32_626 v640
  v641.toNat
def k0_off58 (v648 : BitVec 32) : Fin 2 → Nat :=
  let c128_i32_632 : BitVec 32 := 128#32
  let v651 : BitVec 32 := Scalar.muli v648 c128_i32_632
  let c32_i32_633 : BitVec 32 := 32#32
  let v652 : BitVec 32 := Scalar.addi v651 c32_i32_633
  let c0_i32_640 : BitVec 32 := 0#32
  ![v652.toNat, 0]

def k0_chk55 (v648 : BitVec 32) : Prop :=
  (∀ a, (k0_off58 v648) a + S32x4096.size a ≤ S4096x4096.size a) ∧
  (∀ (hinb : ∀ a, (k0_off58 v648) a + S32x4096.size a ≤ S4096x4096.size a), (Rect.unit (s := S4096x4096) (k0_off58 v648) S32x4096.size hinb).WholeWords (EltTy.packing .i8))
theorem k0_off58_inb : ∀ (v648 : BitVec 32) (k0_hw55 : k0_chk55 v648), ∀ a, (k0_off58 v648) a + S32x4096.size a ≤ S4096x4096.size a := fun v648 k0_hw55 => k0_hw55.1
theorem k0_off58_wordsi8 : ∀ (v648 : BitVec 32) (k0_hw55 : k0_chk55 v648), (Rect.unit (s := S4096x4096) (k0_off58 v648) S32x4096.size (k0_off58_inb v648 k0_hw55)).WholeWords (EltTy.packing .i8) := fun v648 k0_hw55 => k0_hw55.2 (k0_off58_inb v648 k0_hw55)

def k0_off59 (v659 : BitVec 32) : Fin 2 → Nat :=
  let c128_i32_645 : BitVec 32 := 128#32
  let v662 : BitVec 32 := Scalar.muli v659 c128_i32_645
  let c32_i32_646 : BitVec 32 := 32#32
  let v663 : BitVec 32 := Scalar.addi v662 c32_i32_646
  let c0_i32_653 : BitVec 32 := 0#32
  ![v663.toNat, 0]

def k0_dev30 (v1 : BitVec 32) : Nat :=
  let c0_i32_652 : BitVec 32 := 0#32
  let c1_i32_651 : BitVec 32 := 1#32
  let v664 : BitVec 32 := Scalar.muli v1 c1_i32_651
  let v665 : BitVec 32 := Scalar.addi c0_i32_652 v664
  v665.toNat
def k0_off60 (v672 : BitVec 32) : Fin 2 → Nat :=
  let c128_i32_658 : BitVec 32 := 128#32
  let v675 : BitVec 32 := Scalar.muli v672 c128_i32_658
  let c64_i32_659 : BitVec 32 := 64#32
  let v676 : BitVec 32 := Scalar.addi v675 c64_i32_659
  let c0_i32_666 : BitVec 32 := 0#32
  ![v676.toNat, 0]

def k0_chk57 (v672 : BitVec 32) : Prop :=
  (∀ a, (k0_off60 v672) a + S32x4096.size a ≤ S4096x4096.size a) ∧
  (∀ (hinb : ∀ a, (k0_off60 v672) a + S32x4096.size a ≤ S4096x4096.size a), (Rect.unit (s := S4096x4096) (k0_off60 v672) S32x4096.size hinb).WholeWords (EltTy.packing .i8))
theorem k0_off60_inb : ∀ (v672 : BitVec 32) (k0_hw57 : k0_chk57 v672), ∀ a, (k0_off60 v672) a + S32x4096.size a ≤ S4096x4096.size a := fun v672 k0_hw57 => k0_hw57.1
theorem k0_off60_wordsi8 : ∀ (v672 : BitVec 32) (k0_hw57 : k0_chk57 v672), (Rect.unit (s := S4096x4096) (k0_off60 v672) S32x4096.size (k0_off60_inb v672 k0_hw57)).WholeWords (EltTy.packing .i8) := fun v672 k0_hw57 => k0_hw57.2 (k0_off60_inb v672 k0_hw57)

def k0_off61 (v683 : BitVec 32) : Fin 2 → Nat :=
  let c128_i32_671 : BitVec 32 := 128#32
  let v686 : BitVec 32 := Scalar.muli v683 c128_i32_671
  let c64_i32_672 : BitVec 32 := 64#32
  let v687 : BitVec 32 := Scalar.addi v686 c64_i32_672
  let c0_i32_679 : BitVec 32 := 0#32
  ![v687.toNat, 0]

def k0_dev31 (v0 : BitVec 32) : Nat :=
  let c0_i32_678 : BitVec 32 := 0#32
  let c1_i32_677 : BitVec 32 := 1#32
  let v688 : BitVec 32 := Scalar.muli v0 c1_i32_677
  let v689 : BitVec 32 := Scalar.addi c0_i32_678 v688
  v689.toNat
def k0_off62 (v696 : BitVec 32) : Fin 2 → Nat :=
  let c128_i32_684 : BitVec 32 := 128#32
  let v699 : BitVec 32 := Scalar.muli v696 c128_i32_684
  let c64_i32_685 : BitVec 32 := 64#32
  let v700 : BitVec 32 := Scalar.addi v699 c64_i32_685
  let c0_i32_692 : BitVec 32 := 0#32
  ![v700.toNat, 0]

def k0_chk59 (v696 : BitVec 32) : Prop :=
  (∀ a, (k0_off62 v696) a + S32x4096.size a ≤ S4096x4096.size a) ∧
  (∀ (hinb : ∀ a, (k0_off62 v696) a + S32x4096.size a ≤ S4096x4096.size a), (Rect.unit (s := S4096x4096) (k0_off62 v696) S32x4096.size hinb).WholeWords (EltTy.packing .i8))
theorem k0_off62_inb : ∀ (v696 : BitVec 32) (k0_hw59 : k0_chk59 v696), ∀ a, (k0_off62 v696) a + S32x4096.size a ≤ S4096x4096.size a := fun v696 k0_hw59 => k0_hw59.1
theorem k0_off62_wordsi8 : ∀ (v696 : BitVec 32) (k0_hw59 : k0_chk59 v696), (Rect.unit (s := S4096x4096) (k0_off62 v696) S32x4096.size (k0_off62_inb v696 k0_hw59)).WholeWords (EltTy.packing .i8) := fun v696 k0_hw59 => k0_hw59.2 (k0_off62_inb v696 k0_hw59)

def k0_off63 (v707 : BitVec 32) : Fin 2 → Nat :=
  let c128_i32_697 : BitVec 32 := 128#32
  let v710 : BitVec 32 := Scalar.muli v707 c128_i32_697
  let c64_i32_698 : BitVec 32 := 64#32
  let v711 : BitVec 32 := Scalar.addi v710 c64_i32_698
  let c0_i32_705 : BitVec 32 := 0#32
  ![v711.toNat, 0]

def k0_dev32 (v1 : BitVec 32) : Nat :=
  let c0_i32_704 : BitVec 32 := 0#32
  let c1_i32_703 : BitVec 32 := 1#32
  let v712 : BitVec 32 := Scalar.muli v1 c1_i32_703
  let v713 : BitVec 32 := Scalar.addi c0_i32_704 v712
  v713.toNat
def k0_off64 (v720 : BitVec 32) : Fin 2 → Nat :=
  let c128_i32_710 : BitVec 32 := 128#32
  let v723 : BitVec 32 := Scalar.muli v720 c128_i32_710
  let c96_i32_711 : BitVec 32 := 96#32
  let v724 : BitVec 32 := Scalar.addi v723 c96_i32_711
  let c0_i32_718 : BitVec 32 := 0#32
  ![v724.toNat, 0]

def k0_chk61 (v720 : BitVec 32) : Prop :=
  (∀ a, (k0_off64 v720) a + S32x4096.size a ≤ S4096x4096.size a) ∧
  (∀ (hinb : ∀ a, (k0_off64 v720) a + S32x4096.size a ≤ S4096x4096.size a), (Rect.unit (s := S4096x4096) (k0_off64 v720) S32x4096.size hinb).WholeWords (EltTy.packing .i8))
theorem k0_off64_inb : ∀ (v720 : BitVec 32) (k0_hw61 : k0_chk61 v720), ∀ a, (k0_off64 v720) a + S32x4096.size a ≤ S4096x4096.size a := fun v720 k0_hw61 => k0_hw61.1
theorem k0_off64_wordsi8 : ∀ (v720 : BitVec 32) (k0_hw61 : k0_chk61 v720), (Rect.unit (s := S4096x4096) (k0_off64 v720) S32x4096.size (k0_off64_inb v720 k0_hw61)).WholeWords (EltTy.packing .i8) := fun v720 k0_hw61 => k0_hw61.2 (k0_off64_inb v720 k0_hw61)

def k0_off65 (v731 : BitVec 32) : Fin 2 → Nat :=
  let c128_i32_723 : BitVec 32 := 128#32
  let v734 : BitVec 32 := Scalar.muli v731 c128_i32_723
  let c96_i32_724 : BitVec 32 := 96#32
  let v735 : BitVec 32 := Scalar.addi v734 c96_i32_724
  let c0_i32_731 : BitVec 32 := 0#32
  ![v735.toNat, 0]

def k0_dev33 (v0 : BitVec 32) : Nat :=
  let c0_i32_730 : BitVec 32 := 0#32
  let c1_i32_729 : BitVec 32 := 1#32
  let v736 : BitVec 32 := Scalar.muli v0 c1_i32_729
  let v737 : BitVec 32 := Scalar.addi c0_i32_730 v736
  v737.toNat
def k0_off66 (v744 : BitVec 32) : Fin 2 → Nat :=
  let c128_i32_736 : BitVec 32 := 128#32
  let v747 : BitVec 32 := Scalar.muli v744 c128_i32_736
  let c96_i32_737 : BitVec 32 := 96#32
  let v748 : BitVec 32 := Scalar.addi v747 c96_i32_737
  let c0_i32_744 : BitVec 32 := 0#32
  ![v748.toNat, 0]

def k0_chk63 (v744 : BitVec 32) : Prop :=
  (∀ a, (k0_off66 v744) a + S32x4096.size a ≤ S4096x4096.size a) ∧
  (∀ (hinb : ∀ a, (k0_off66 v744) a + S32x4096.size a ≤ S4096x4096.size a), (Rect.unit (s := S4096x4096) (k0_off66 v744) S32x4096.size hinb).WholeWords (EltTy.packing .i8))
theorem k0_off66_inb : ∀ (v744 : BitVec 32) (k0_hw63 : k0_chk63 v744), ∀ a, (k0_off66 v744) a + S32x4096.size a ≤ S4096x4096.size a := fun v744 k0_hw63 => k0_hw63.1
theorem k0_off66_wordsi8 : ∀ (v744 : BitVec 32) (k0_hw63 : k0_chk63 v744), (Rect.unit (s := S4096x4096) (k0_off66 v744) S32x4096.size (k0_off66_inb v744 k0_hw63)).WholeWords (EltTy.packing .i8) := fun v744 k0_hw63 => k0_hw63.2 (k0_off66_inb v744 k0_hw63)

def k0_off67 (v755 : BitVec 32) : Fin 2 → Nat :=
  let c128_i32_749 : BitVec 32 := 128#32
  let v758 : BitVec 32 := Scalar.muli v755 c128_i32_749
  let c96_i32_750 : BitVec 32 := 96#32
  let v759 : BitVec 32 := Scalar.addi v758 c96_i32_750
  let c0_i32_757 : BitVec 32 := 0#32
  ![v759.toNat, 0]

def k0_dev34 (v1 : BitVec 32) : Nat :=
  let c0_i32_756 : BitVec 32 := 0#32
  let c1_i32_755 : BitVec 32 := 1#32
  let v760 : BitVec 32 := Scalar.muli v1 c1_i32_755
  let v761 : BitVec 32 := Scalar.addi c0_i32_756 v760
  v761.toNat
def k0_off68 (v768 : BitVec 32) : Fin 2 → Nat :=
  let c128_i32_760 : BitVec 32 := 128#32
  let v769 : BitVec 32 := Scalar.muli v768 c128_i32_760
  let v770 : Index := Scalar.indexCast v769
  let c0_761 : Index := 0#32
  ![v770.toNat, 0]

def k0_off69 (v768 : BitVec 32) : Fin 2 → Nat :=
  let c128_i32_760 : BitVec 32 := 128#32
  let v769 : BitVec 32 := Scalar.muli v768 c128_i32_760
  let v780 : Index := Scalar.indexCast v769
  let c0_766 : Index := 0#32
  ![v780.toNat, 0]

def k0_chk65 (v768 : BitVec 32) : Prop :=
  (∀ a, (k0_off68 v768) a + S128x4096.size a ≤ S4096x4096.size a) ∧
  (∀ a, (k0_off69 v768) a + S128x64.size a ≤ S4096x64.size a)
theorem k0_off68_inb : ∀ (v768 : BitVec 32) (k0_hw65 : k0_chk65 v768), ∀ a, (k0_off68 v768) a + S128x4096.size a ≤ S4096x4096.size a := fun v768 k0_hw65 => k0_hw65.1
theorem k0_off69_inb : ∀ (v768 : BitVec 32) (k0_hw65 : k0_chk65 v768), ∀ a, (k0_off69 v768) a + S128x64.size a ≤ S4096x64.size a := fun v768 k0_hw65 => k0_hw65.2

def k0_off70 (v782 : BitVec 32) : Fin 2 → Nat :=
  let c128_i32_768 : BitVec 32 := 128#32
  let v783 : BitVec 32 := Scalar.muli v782 c128_i32_768
  let v784 : Index := Scalar.indexCast v783
  let c0_769 : Index := 0#32
  ![v784.toNat, 0]

def k0_off71 (v782 : BitVec 32) : Fin 2 → Nat :=
  let c128_i32_768 : BitVec 32 := 128#32
  let v783 : BitVec 32 := Scalar.muli v782 c128_i32_768
  let v794 : Index := Scalar.indexCast v783
  let c0_774 : Index := 0#32
  ![v794.toNat, 0]

def k0_chk66 (v782 : BitVec 32) : Prop :=
  (∀ a, (k0_off70 v782) a + S128x4096.size a ≤ S4096x4096.size a) ∧
  (∀ a, (k0_off71 v782) a + S128x64.size a ≤ S4096x64.size a)
theorem k0_off70_inb : ∀ (v782 : BitVec 32) (k0_hw66 : k0_chk66 v782), ∀ a, (k0_off70 v782) a + S128x4096.size a ≤ S4096x4096.size a := fun v782 k0_hw66 => k0_hw66.1
theorem k0_off71_inb : ∀ (v782 : BitVec 32) (k0_hw66 : k0_chk66 v782), ∀ a, (k0_off71 v782) a + S128x64.size a ≤ S4096x64.size a := fun v782 k0_hw66 => k0_hw66.2

def k0_off72 (v796 : BitVec 32) : Fin 2 → Nat :=
  let c128_i32_777 : BitVec 32 := 128#32
  let v799 : BitVec 32 := Scalar.muli v796 c128_i32_777
  let c0_i32_778 : BitVec 32 := 0#32
  let v800 : BitVec 32 := Scalar.addi v799 c0_i32_778
  let c0_i32_785 : BitVec 32 := 0#32
  ![v800.toNat, 0]

def k0_chk67 (v796 : BitVec 32) : Prop :=
  (∀ a, (k0_off72 v796) a + S32x4096.size a ≤ S4096x4096.size a) ∧
  (∀ (hinb : ∀ a, (k0_off72 v796) a + S32x4096.size a ≤ S4096x4096.size a), (Rect.unit (s := S4096x4096) (k0_off72 v796) S32x4096.size hinb).WholeWords (EltTy.packing .i8))
theorem k0_off72_inb : ∀ (v796 : BitVec 32) (k0_hw67 : k0_chk67 v796), ∀ a, (k0_off72 v796) a + S32x4096.size a ≤ S4096x4096.size a := fun v796 k0_hw67 => k0_hw67.1
theorem k0_off72_wordsi8 : ∀ (v796 : BitVec 32) (k0_hw67 : k0_chk67 v796), (Rect.unit (s := S4096x4096) (k0_off72 v796) S32x4096.size (k0_off72_inb v796 k0_hw67)).WholeWords (EltTy.packing .i8) := fun v796 k0_hw67 => k0_hw67.2 (k0_off72_inb v796 k0_hw67)

def k0_off73 (v807 : BitVec 32) : Fin 2 → Nat :=
  let c128_i32_789 : BitVec 32 := 128#32
  let v810 : BitVec 32 := Scalar.muli v807 c128_i32_789
  let c0_i32_790 : BitVec 32 := 0#32
  let v811 : BitVec 32 := Scalar.addi v810 c0_i32_790
  let c0_i32_796 : BitVec 32 := 0#32
  ![v811.toNat, 0]

def k0_dev35 (v0 : BitVec 32) : Nat :=
  let c0_i32_795 : BitVec 32 := 0#32
  let c1_i32_794 : BitVec 32 := 1#32
  let v812 : BitVec 32 := Scalar.muli v0 c1_i32_794
  let v813 : BitVec 32 := Scalar.addi c0_i32_795 v812
  v813.toNat
def k0_off74 (v820 : BitVec 32) : Fin 2 → Nat :=
  let c128_i32_800 : BitVec 32 := 128#32
  let v823 : BitVec 32 := Scalar.muli v820 c128_i32_800
  let c0_i32_801 : BitVec 32 := 0#32
  let v824 : BitVec 32 := Scalar.addi v823 c0_i32_801
  let c0_i32_808 : BitVec 32 := 0#32
  ![v824.toNat, 0]

def k0_chk69 (v820 : BitVec 32) : Prop :=
  (∀ a, (k0_off74 v820) a + S32x4096.size a ≤ S4096x4096.size a) ∧
  (∀ (hinb : ∀ a, (k0_off74 v820) a + S32x4096.size a ≤ S4096x4096.size a), (Rect.unit (s := S4096x4096) (k0_off74 v820) S32x4096.size hinb).WholeWords (EltTy.packing .i8))
theorem k0_off74_inb : ∀ (v820 : BitVec 32) (k0_hw69 : k0_chk69 v820), ∀ a, (k0_off74 v820) a + S32x4096.size a ≤ S4096x4096.size a := fun v820 k0_hw69 => k0_hw69.1
theorem k0_off74_wordsi8 : ∀ (v820 : BitVec 32) (k0_hw69 : k0_chk69 v820), (Rect.unit (s := S4096x4096) (k0_off74 v820) S32x4096.size (k0_off74_inb v820 k0_hw69)).WholeWords (EltTy.packing .i8) := fun v820 k0_hw69 => k0_hw69.2 (k0_off74_inb v820 k0_hw69)

def k0_off75 (v831 : BitVec 32) : Fin 2 → Nat :=
  let c128_i32_812 : BitVec 32 := 128#32
  let v834 : BitVec 32 := Scalar.muli v831 c128_i32_812
  let c0_i32_813 : BitVec 32 := 0#32
  let v835 : BitVec 32 := Scalar.addi v834 c0_i32_813
  let c0_i32_820 : BitVec 32 := 0#32
  ![v835.toNat, 0]

def k0_dev36 (v1 : BitVec 32) : Nat :=
  let c0_i32_819 : BitVec 32 := 0#32
  let c1_i32_818 : BitVec 32 := 1#32
  let v836 : BitVec 32 := Scalar.muli v1 c1_i32_818
  let v837 : BitVec 32 := Scalar.addi c0_i32_819 v836
  v837.toNat
def k0_off76 (v844 : BitVec 32) : Fin 2 → Nat :=
  let c128_i32_825 : BitVec 32 := 128#32
  let v847 : BitVec 32 := Scalar.muli v844 c128_i32_825
  let c32_i32_826 : BitVec 32 := 32#32
  let v848 : BitVec 32 := Scalar.addi v847 c32_i32_826
  let c0_i32_833 : BitVec 32 := 0#32
  ![v848.toNat, 0]

def k0_chk71 (v844 : BitVec 32) : Prop :=
  (∀ a, (k0_off76 v844) a + S32x4096.size a ≤ S4096x4096.size a) ∧
  (∀ (hinb : ∀ a, (k0_off76 v844) a + S32x4096.size a ≤ S4096x4096.size a), (Rect.unit (s := S4096x4096) (k0_off76 v844) S32x4096.size hinb).WholeWords (EltTy.packing .i8))
theorem k0_off76_inb : ∀ (v844 : BitVec 32) (k0_hw71 : k0_chk71 v844), ∀ a, (k0_off76 v844) a + S32x4096.size a ≤ S4096x4096.size a := fun v844 k0_hw71 => k0_hw71.1
theorem k0_off76_wordsi8 : ∀ (v844 : BitVec 32) (k0_hw71 : k0_chk71 v844), (Rect.unit (s := S4096x4096) (k0_off76 v844) S32x4096.size (k0_off76_inb v844 k0_hw71)).WholeWords (EltTy.packing .i8) := fun v844 k0_hw71 => k0_hw71.2 (k0_off76_inb v844 k0_hw71)

def k0_off77 (v855 : BitVec 32) : Fin 2 → Nat :=
  let c128_i32_838 : BitVec 32 := 128#32
  let v858 : BitVec 32 := Scalar.muli v855 c128_i32_838
  let c32_i32_839 : BitVec 32 := 32#32
  let v859 : BitVec 32 := Scalar.addi v858 c32_i32_839
  let c0_i32_846 : BitVec 32 := 0#32
  ![v859.toNat, 0]

def k0_dev37 (v0 : BitVec 32) : Nat :=
  let c0_i32_845 : BitVec 32 := 0#32
  let c1_i32_844 : BitVec 32 := 1#32
  let v860 : BitVec 32 := Scalar.muli v0 c1_i32_844
  let v861 : BitVec 32 := Scalar.addi c0_i32_845 v860
  v861.toNat
def k0_off78 (v868 : BitVec 32) : Fin 2 → Nat :=
  let c128_i32_851 : BitVec 32 := 128#32
  let v871 : BitVec 32 := Scalar.muli v868 c128_i32_851
  let c32_i32_852 : BitVec 32 := 32#32
  let v872 : BitVec 32 := Scalar.addi v871 c32_i32_852
  let c0_i32_859 : BitVec 32 := 0#32
  ![v872.toNat, 0]

def k0_chk73 (v868 : BitVec 32) : Prop :=
  (∀ a, (k0_off78 v868) a + S32x4096.size a ≤ S4096x4096.size a) ∧
  (∀ (hinb : ∀ a, (k0_off78 v868) a + S32x4096.size a ≤ S4096x4096.size a), (Rect.unit (s := S4096x4096) (k0_off78 v868) S32x4096.size hinb).WholeWords (EltTy.packing .i8))
theorem k0_off78_inb : ∀ (v868 : BitVec 32) (k0_hw73 : k0_chk73 v868), ∀ a, (k0_off78 v868) a + S32x4096.size a ≤ S4096x4096.size a := fun v868 k0_hw73 => k0_hw73.1
theorem k0_off78_wordsi8 : ∀ (v868 : BitVec 32) (k0_hw73 : k0_chk73 v868), (Rect.unit (s := S4096x4096) (k0_off78 v868) S32x4096.size (k0_off78_inb v868 k0_hw73)).WholeWords (EltTy.packing .i8) := fun v868 k0_hw73 => k0_hw73.2 (k0_off78_inb v868 k0_hw73)

def k0_off79 (v879 : BitVec 32) : Fin 2 → Nat :=
  let c128_i32_864 : BitVec 32 := 128#32
  let v882 : BitVec 32 := Scalar.muli v879 c128_i32_864
  let c32_i32_865 : BitVec 32 := 32#32
  let v883 : BitVec 32 := Scalar.addi v882 c32_i32_865
  let c0_i32_872 : BitVec 32 := 0#32
  ![v883.toNat, 0]

def k0_dev38 (v1 : BitVec 32) : Nat :=
  let c0_i32_871 : BitVec 32 := 0#32
  let c1_i32_870 : BitVec 32 := 1#32
  let v884 : BitVec 32 := Scalar.muli v1 c1_i32_870
  let v885 : BitVec 32 := Scalar.addi c0_i32_871 v884
  v885.toNat
def k0_off80 (v892 : BitVec 32) : Fin 2 → Nat :=
  let c128_i32_877 : BitVec 32 := 128#32
  let v895 : BitVec 32 := Scalar.muli v892 c128_i32_877
  let c64_i32_878 : BitVec 32 := 64#32
  let v896 : BitVec 32 := Scalar.addi v895 c64_i32_878
  let c0_i32_885 : BitVec 32 := 0#32
  ![v896.toNat, 0]

def k0_chk75 (v892 : BitVec 32) : Prop :=
  (∀ a, (k0_off80 v892) a + S32x4096.size a ≤ S4096x4096.size a) ∧
  (∀ (hinb : ∀ a, (k0_off80 v892) a + S32x4096.size a ≤ S4096x4096.size a), (Rect.unit (s := S4096x4096) (k0_off80 v892) S32x4096.size hinb).WholeWords (EltTy.packing .i8))
theorem k0_off80_inb : ∀ (v892 : BitVec 32) (k0_hw75 : k0_chk75 v892), ∀ a, (k0_off80 v892) a + S32x4096.size a ≤ S4096x4096.size a := fun v892 k0_hw75 => k0_hw75.1
theorem k0_off80_wordsi8 : ∀ (v892 : BitVec 32) (k0_hw75 : k0_chk75 v892), (Rect.unit (s := S4096x4096) (k0_off80 v892) S32x4096.size (k0_off80_inb v892 k0_hw75)).WholeWords (EltTy.packing .i8) := fun v892 k0_hw75 => k0_hw75.2 (k0_off80_inb v892 k0_hw75)

def k0_off81 (v903 : BitVec 32) : Fin 2 → Nat :=
  let c128_i32_890 : BitVec 32 := 128#32
  let v906 : BitVec 32 := Scalar.muli v903 c128_i32_890
  let c64_i32_891 : BitVec 32 := 64#32
  let v907 : BitVec 32 := Scalar.addi v906 c64_i32_891
  let c0_i32_898 : BitVec 32 := 0#32
  ![v907.toNat, 0]

def k0_dev39 (v0 : BitVec 32) : Nat :=
  let c0_i32_897 : BitVec 32 := 0#32
  let c1_i32_896 : BitVec 32 := 1#32
  let v908 : BitVec 32 := Scalar.muli v0 c1_i32_896
  let v909 : BitVec 32 := Scalar.addi c0_i32_897 v908
  v909.toNat
def k0_off82 (v916 : BitVec 32) : Fin 2 → Nat :=
  let c128_i32_903 : BitVec 32 := 128#32
  let v919 : BitVec 32 := Scalar.muli v916 c128_i32_903
  let c64_i32_904 : BitVec 32 := 64#32
  let v920 : BitVec 32 := Scalar.addi v919 c64_i32_904
  let c0_i32_911 : BitVec 32 := 0#32
  ![v920.toNat, 0]

def k0_chk77 (v916 : BitVec 32) : Prop :=
  (∀ a, (k0_off82 v916) a + S32x4096.size a ≤ S4096x4096.size a) ∧
  (∀ (hinb : ∀ a, (k0_off82 v916) a + S32x4096.size a ≤ S4096x4096.size a), (Rect.unit (s := S4096x4096) (k0_off82 v916) S32x4096.size hinb).WholeWords (EltTy.packing .i8))
theorem k0_off82_inb : ∀ (v916 : BitVec 32) (k0_hw77 : k0_chk77 v916), ∀ a, (k0_off82 v916) a + S32x4096.size a ≤ S4096x4096.size a := fun v916 k0_hw77 => k0_hw77.1
theorem k0_off82_wordsi8 : ∀ (v916 : BitVec 32) (k0_hw77 : k0_chk77 v916), (Rect.unit (s := S4096x4096) (k0_off82 v916) S32x4096.size (k0_off82_inb v916 k0_hw77)).WholeWords (EltTy.packing .i8) := fun v916 k0_hw77 => k0_hw77.2 (k0_off82_inb v916 k0_hw77)

def k0_off83 (v927 : BitVec 32) : Fin 2 → Nat :=
  let c128_i32_916 : BitVec 32 := 128#32
  let v930 : BitVec 32 := Scalar.muli v927 c128_i32_916
  let c64_i32_917 : BitVec 32 := 64#32
  let v931 : BitVec 32 := Scalar.addi v930 c64_i32_917
  let c0_i32_924 : BitVec 32 := 0#32
  ![v931.toNat, 0]

def k0_dev40 (v1 : BitVec 32) : Nat :=
  let c0_i32_923 : BitVec 32 := 0#32
  let c1_i32_922 : BitVec 32 := 1#32
  let v932 : BitVec 32 := Scalar.muli v1 c1_i32_922
  let v933 : BitVec 32 := Scalar.addi c0_i32_923 v932
  v933.toNat
def k0_off84 (v940 : BitVec 32) : Fin 2 → Nat :=
  let c128_i32_929 : BitVec 32 := 128#32
  let v943 : BitVec 32 := Scalar.muli v940 c128_i32_929
  let c96_i32_930 : BitVec 32 := 96#32
  let v944 : BitVec 32 := Scalar.addi v943 c96_i32_930
  let c0_i32_937 : BitVec 32 := 0#32
  ![v944.toNat, 0]

def k0_chk79 (v940 : BitVec 32) : Prop :=
  (∀ a, (k0_off84 v940) a + S32x4096.size a ≤ S4096x4096.size a) ∧
  (∀ (hinb : ∀ a, (k0_off84 v940) a + S32x4096.size a ≤ S4096x4096.size a), (Rect.unit (s := S4096x4096) (k0_off84 v940) S32x4096.size hinb).WholeWords (EltTy.packing .i8))
theorem k0_off84_inb : ∀ (v940 : BitVec 32) (k0_hw79 : k0_chk79 v940), ∀ a, (k0_off84 v940) a + S32x4096.size a ≤ S4096x4096.size a := fun v940 k0_hw79 => k0_hw79.1
theorem k0_off84_wordsi8 : ∀ (v940 : BitVec 32) (k0_hw79 : k0_chk79 v940), (Rect.unit (s := S4096x4096) (k0_off84 v940) S32x4096.size (k0_off84_inb v940 k0_hw79)).WholeWords (EltTy.packing .i8) := fun v940 k0_hw79 => k0_hw79.2 (k0_off84_inb v940 k0_hw79)

def k0_off85 (v951 : BitVec 32) : Fin 2 → Nat :=
  let c128_i32_942 : BitVec 32 := 128#32
  let v954 : BitVec 32 := Scalar.muli v951 c128_i32_942
  let c96_i32_943 : BitVec 32 := 96#32
  let v955 : BitVec 32 := Scalar.addi v954 c96_i32_943
  let c0_i32_950 : BitVec 32 := 0#32
  ![v955.toNat, 0]

def k0_dev41 (v0 : BitVec 32) : Nat :=
  let c0_i32_949 : BitVec 32 := 0#32
  let c1_i32_948 : BitVec 32 := 1#32
  let v956 : BitVec 32 := Scalar.muli v0 c1_i32_948
  let v957 : BitVec 32 := Scalar.addi c0_i32_949 v956
  v957.toNat
def k0_off86 (v964 : BitVec 32) : Fin 2 → Nat :=
  let c128_i32_955 : BitVec 32 := 128#32
  let v967 : BitVec 32 := Scalar.muli v964 c128_i32_955
  let c96_i32_956 : BitVec 32 := 96#32
  let v968 : BitVec 32 := Scalar.addi v967 c96_i32_956
  let c0_i32_963 : BitVec 32 := 0#32
  ![v968.toNat, 0]

def k0_chk81 (v964 : BitVec 32) : Prop :=
  (∀ a, (k0_off86 v964) a + S32x4096.size a ≤ S4096x4096.size a) ∧
  (∀ (hinb : ∀ a, (k0_off86 v964) a + S32x4096.size a ≤ S4096x4096.size a), (Rect.unit (s := S4096x4096) (k0_off86 v964) S32x4096.size hinb).WholeWords (EltTy.packing .i8))
theorem k0_off86_inb : ∀ (v964 : BitVec 32) (k0_hw81 : k0_chk81 v964), ∀ a, (k0_off86 v964) a + S32x4096.size a ≤ S4096x4096.size a := fun v964 k0_hw81 => k0_hw81.1
theorem k0_off86_wordsi8 : ∀ (v964 : BitVec 32) (k0_hw81 : k0_chk81 v964), (Rect.unit (s := S4096x4096) (k0_off86 v964) S32x4096.size (k0_off86_inb v964 k0_hw81)).WholeWords (EltTy.packing .i8) := fun v964 k0_hw81 => k0_hw81.2 (k0_off86_inb v964 k0_hw81)

def k0_off87 (v975 : BitVec 32) : Fin 2 → Nat :=
  let c128_i32_968 : BitVec 32 := 128#32
  let v978 : BitVec 32 := Scalar.muli v975 c128_i32_968
  let c96_i32_969 : BitVec 32 := 96#32
  let v979 : BitVec 32 := Scalar.addi v978 c96_i32_969
  let c0_i32_976 : BitVec 32 := 0#32
  ![v979.toNat, 0]

def k0_dev42 (v1 : BitVec 32) : Nat :=
  let c0_i32_975 : BitVec 32 := 0#32
  let c1_i32_974 : BitVec 32 := 1#32
  let v980 : BitVec 32 := Scalar.muli v1 c1_i32_974
  let v981 : BitVec 32 := Scalar.addi c0_i32_975 v980
  v981.toNat
def k0_off88 (v988 : BitVec 32) : Fin 2 → Nat :=
  let c128_i32_979 : BitVec 32 := 128#32
  let v989 : BitVec 32 := Scalar.muli v988 c128_i32_979
  let v990 : Index := Scalar.indexCast v989
  let c0_980 : Index := 0#32
  ![v990.toNat, 0]

def k0_off89 (v988 : BitVec 32) : Fin 2 → Nat :=
  let c128_i32_979 : BitVec 32 := 128#32
  let v989 : BitVec 32 := Scalar.muli v988 c128_i32_979
  let v1000 : Index := Scalar.indexCast v989
  let c0_985 : Index := 0#32
  ![v1000.toNat, 0]

def k0_chk83 (v988 : BitVec 32) : Prop :=
  (∀ a, (k0_off88 v988) a + S128x4096.size a ≤ S4096x4096.size a) ∧
  (∀ a, (k0_off89 v988) a + S128x64.size a ≤ S4096x64.size a)
theorem k0_off88_inb : ∀ (v988 : BitVec 32) (k0_hw83 : k0_chk83 v988), ∀ a, (k0_off88 v988) a + S128x4096.size a ≤ S4096x4096.size a := fun v988 k0_hw83 => k0_hw83.1
theorem k0_off89_inb : ∀ (v988 : BitVec 32) (k0_hw83 : k0_chk83 v988), ∀ a, (k0_off89 v988) a + S128x64.size a ≤ S4096x64.size a := fun v988 k0_hw83 => k0_hw83.2

def k0_off90 (v1002 : BitVec 32) : Fin 2 → Nat :=
  let c128_i32_987 : BitVec 32 := 128#32
  let v1003 : BitVec 32 := Scalar.muli v1002 c128_i32_987
  let v1004 : Index := Scalar.indexCast v1003
  let c0_988 : Index := 0#32
  ![v1004.toNat, 0]

def k0_off91 (v1002 : BitVec 32) : Fin 2 → Nat :=
  let c128_i32_987 : BitVec 32 := 128#32
  let v1003 : BitVec 32 := Scalar.muli v1002 c128_i32_987
  let v1014 : Index := Scalar.indexCast v1003
  let c0_993 : Index := 0#32
  ![v1014.toNat, 0]

def k0_chk84 (v1002 : BitVec 32) : Prop :=
  (∀ a, (k0_off90 v1002) a + S128x4096.size a ≤ S4096x4096.size a) ∧
  (∀ a, (k0_off91 v1002) a + S128x64.size a ≤ S4096x64.size a)
theorem k0_off90_inb : ∀ (v1002 : BitVec 32) (k0_hw84 : k0_chk84 v1002), ∀ a, (k0_off90 v1002) a + S128x4096.size a ≤ S4096x4096.size a := fun v1002 k0_hw84 => k0_hw84.1
theorem k0_off91_inb : ∀ (v1002 : BitVec 32) (k0_hw84 : k0_chk84 v1002), ∀ a, (k0_off91 v1002) a + S128x64.size a ≤ S4096x64.size a := fun v1002 k0_hw84 => k0_hw84.2

def k0_off92 (v1016 : BitVec 32) : Fin 2 → Nat :=
  let c128_i32_996 : BitVec 32 := 128#32
  let v1019 : BitVec 32 := Scalar.muli v1016 c128_i32_996
  let c0_i32_997 : BitVec 32 := 0#32
  let v1020 : BitVec 32 := Scalar.addi v1019 c0_i32_997
  let c0_i32_1004 : BitVec 32 := 0#32
  ![v1020.toNat, 0]

def k0_chk85 (v1016 : BitVec 32) : Prop :=
  (∀ a, (k0_off92 v1016) a + S32x4096.size a ≤ S4096x4096.size a) ∧
  (∀ (hinb : ∀ a, (k0_off92 v1016) a + S32x4096.size a ≤ S4096x4096.size a), (Rect.unit (s := S4096x4096) (k0_off92 v1016) S32x4096.size hinb).WholeWords (EltTy.packing .i8))
theorem k0_off92_inb : ∀ (v1016 : BitVec 32) (k0_hw85 : k0_chk85 v1016), ∀ a, (k0_off92 v1016) a + S32x4096.size a ≤ S4096x4096.size a := fun v1016 k0_hw85 => k0_hw85.1
theorem k0_off92_wordsi8 : ∀ (v1016 : BitVec 32) (k0_hw85 : k0_chk85 v1016), (Rect.unit (s := S4096x4096) (k0_off92 v1016) S32x4096.size (k0_off92_inb v1016 k0_hw85)).WholeWords (EltTy.packing .i8) := fun v1016 k0_hw85 => k0_hw85.2 (k0_off92_inb v1016 k0_hw85)

def k0_off93 (v1027 : BitVec 32) : Fin 2 → Nat :=
  let c128_i32_1008 : BitVec 32 := 128#32
  let v1030 : BitVec 32 := Scalar.muli v1027 c128_i32_1008
  let c0_i32_1009 : BitVec 32 := 0#32
  let v1031 : BitVec 32 := Scalar.addi v1030 c0_i32_1009
  let c0_i32_1015 : BitVec 32 := 0#32
  ![v1031.toNat, 0]

def k0_dev43 (v0 : BitVec 32) : Nat :=
  let c0_i32_1014 : BitVec 32 := 0#32
  let c1_i32_1013 : BitVec 32 := 1#32
  let v1032 : BitVec 32 := Scalar.muli v0 c1_i32_1013
  let v1033 : BitVec 32 := Scalar.addi c0_i32_1014 v1032
  v1033.toNat
def k0_off94 (v1040 : BitVec 32) : Fin 2 → Nat :=
  let c128_i32_1019 : BitVec 32 := 128#32
  let v1043 : BitVec 32 := Scalar.muli v1040 c128_i32_1019
  let c0_i32_1020 : BitVec 32 := 0#32
  let v1044 : BitVec 32 := Scalar.addi v1043 c0_i32_1020
  let c0_i32_1027 : BitVec 32 := 0#32
  ![v1044.toNat, 0]

def k0_chk87 (v1040 : BitVec 32) : Prop :=
  (∀ a, (k0_off94 v1040) a + S32x4096.size a ≤ S4096x4096.size a) ∧
  (∀ (hinb : ∀ a, (k0_off94 v1040) a + S32x4096.size a ≤ S4096x4096.size a), (Rect.unit (s := S4096x4096) (k0_off94 v1040) S32x4096.size hinb).WholeWords (EltTy.packing .i8))
theorem k0_off94_inb : ∀ (v1040 : BitVec 32) (k0_hw87 : k0_chk87 v1040), ∀ a, (k0_off94 v1040) a + S32x4096.size a ≤ S4096x4096.size a := fun v1040 k0_hw87 => k0_hw87.1
theorem k0_off94_wordsi8 : ∀ (v1040 : BitVec 32) (k0_hw87 : k0_chk87 v1040), (Rect.unit (s := S4096x4096) (k0_off94 v1040) S32x4096.size (k0_off94_inb v1040 k0_hw87)).WholeWords (EltTy.packing .i8) := fun v1040 k0_hw87 => k0_hw87.2 (k0_off94_inb v1040 k0_hw87)

def k0_off95 (v1051 : BitVec 32) : Fin 2 → Nat :=
  let c128_i32_1031 : BitVec 32 := 128#32
  let v1054 : BitVec 32 := Scalar.muli v1051 c128_i32_1031
  let c0_i32_1032 : BitVec 32 := 0#32
  let v1055 : BitVec 32 := Scalar.addi v1054 c0_i32_1032
  let c0_i32_1039 : BitVec 32 := 0#32
  ![v1055.toNat, 0]

def k0_dev44 (v1 : BitVec 32) : Nat :=
  let c0_i32_1038 : BitVec 32 := 0#32
  let c1_i32_1037 : BitVec 32 := 1#32
  let v1056 : BitVec 32 := Scalar.muli v1 c1_i32_1037
  let v1057 : BitVec 32 := Scalar.addi c0_i32_1038 v1056
  v1057.toNat
def k0_off96 (v1064 : BitVec 32) : Fin 2 → Nat :=
  let c128_i32_1044 : BitVec 32 := 128#32
  let v1067 : BitVec 32 := Scalar.muli v1064 c128_i32_1044
  let c32_i32_1045 : BitVec 32 := 32#32
  let v1068 : BitVec 32 := Scalar.addi v1067 c32_i32_1045
  let c0_i32_1052 : BitVec 32 := 0#32
  ![v1068.toNat, 0]

def k0_chk89 (v1064 : BitVec 32) : Prop :=
  (∀ a, (k0_off96 v1064) a + S32x4096.size a ≤ S4096x4096.size a) ∧
  (∀ (hinb : ∀ a, (k0_off96 v1064) a + S32x4096.size a ≤ S4096x4096.size a), (Rect.unit (s := S4096x4096) (k0_off96 v1064) S32x4096.size hinb).WholeWords (EltTy.packing .i8))
theorem k0_off96_inb : ∀ (v1064 : BitVec 32) (k0_hw89 : k0_chk89 v1064), ∀ a, (k0_off96 v1064) a + S32x4096.size a ≤ S4096x4096.size a := fun v1064 k0_hw89 => k0_hw89.1
theorem k0_off96_wordsi8 : ∀ (v1064 : BitVec 32) (k0_hw89 : k0_chk89 v1064), (Rect.unit (s := S4096x4096) (k0_off96 v1064) S32x4096.size (k0_off96_inb v1064 k0_hw89)).WholeWords (EltTy.packing .i8) := fun v1064 k0_hw89 => k0_hw89.2 (k0_off96_inb v1064 k0_hw89)

def k0_off97 (v1075 : BitVec 32) : Fin 2 → Nat :=
  let c128_i32_1057 : BitVec 32 := 128#32
  let v1078 : BitVec 32 := Scalar.muli v1075 c128_i32_1057
  let c32_i32_1058 : BitVec 32 := 32#32
  let v1079 : BitVec 32 := Scalar.addi v1078 c32_i32_1058
  let c0_i32_1065 : BitVec 32 := 0#32
  ![v1079.toNat, 0]

def k0_dev45 (v0 : BitVec 32) : Nat :=
  let c0_i32_1064 : BitVec 32 := 0#32
  let c1_i32_1063 : BitVec 32 := 1#32
  let v1080 : BitVec 32 := Scalar.muli v0 c1_i32_1063
  let v1081 : BitVec 32 := Scalar.addi c0_i32_1064 v1080
  v1081.toNat
def k0_off98 (v1088 : BitVec 32) : Fin 2 → Nat :=
  let c128_i32_1070 : BitVec 32 := 128#32
  let v1091 : BitVec 32 := Scalar.muli v1088 c128_i32_1070
  let c32_i32_1071 : BitVec 32 := 32#32
  let v1092 : BitVec 32 := Scalar.addi v1091 c32_i32_1071
  let c0_i32_1078 : BitVec 32 := 0#32
  ![v1092.toNat, 0]

def k0_chk91 (v1088 : BitVec 32) : Prop :=
  (∀ a, (k0_off98 v1088) a + S32x4096.size a ≤ S4096x4096.size a) ∧
  (∀ (hinb : ∀ a, (k0_off98 v1088) a + S32x4096.size a ≤ S4096x4096.size a), (Rect.unit (s := S4096x4096) (k0_off98 v1088) S32x4096.size hinb).WholeWords (EltTy.packing .i8))
theorem k0_off98_inb : ∀ (v1088 : BitVec 32) (k0_hw91 : k0_chk91 v1088), ∀ a, (k0_off98 v1088) a + S32x4096.size a ≤ S4096x4096.size a := fun v1088 k0_hw91 => k0_hw91.1
theorem k0_off98_wordsi8 : ∀ (v1088 : BitVec 32) (k0_hw91 : k0_chk91 v1088), (Rect.unit (s := S4096x4096) (k0_off98 v1088) S32x4096.size (k0_off98_inb v1088 k0_hw91)).WholeWords (EltTy.packing .i8) := fun v1088 k0_hw91 => k0_hw91.2 (k0_off98_inb v1088 k0_hw91)

def k0_off99 (v1099 : BitVec 32) : Fin 2 → Nat :=
  let c128_i32_1083 : BitVec 32 := 128#32
  let v1102 : BitVec 32 := Scalar.muli v1099 c128_i32_1083
  let c32_i32_1084 : BitVec 32 := 32#32
  let v1103 : BitVec 32 := Scalar.addi v1102 c32_i32_1084
  let c0_i32_1091 : BitVec 32 := 0#32
  ![v1103.toNat, 0]

def k0_dev46 (v1 : BitVec 32) : Nat :=
  let c0_i32_1090 : BitVec 32 := 0#32
  let c1_i32_1089 : BitVec 32 := 1#32
  let v1104 : BitVec 32 := Scalar.muli v1 c1_i32_1089
  let v1105 : BitVec 32 := Scalar.addi c0_i32_1090 v1104
  v1105.toNat
def k0_off100 (v1112 : BitVec 32) : Fin 2 → Nat :=
  let c128_i32_1096 : BitVec 32 := 128#32
  let v1115 : BitVec 32 := Scalar.muli v1112 c128_i32_1096
  let c64_i32_1097 : BitVec 32 := 64#32
  let v1116 : BitVec 32 := Scalar.addi v1115 c64_i32_1097
  let c0_i32_1104 : BitVec 32 := 0#32
  ![v1116.toNat, 0]

def k0_chk93 (v1112 : BitVec 32) : Prop :=
  (∀ a, (k0_off100 v1112) a + S32x4096.size a ≤ S4096x4096.size a) ∧
  (∀ (hinb : ∀ a, (k0_off100 v1112) a + S32x4096.size a ≤ S4096x4096.size a), (Rect.unit (s := S4096x4096) (k0_off100 v1112) S32x4096.size hinb).WholeWords (EltTy.packing .i8))
theorem k0_off100_inb : ∀ (v1112 : BitVec 32) (k0_hw93 : k0_chk93 v1112), ∀ a, (k0_off100 v1112) a + S32x4096.size a ≤ S4096x4096.size a := fun v1112 k0_hw93 => k0_hw93.1
theorem k0_off100_wordsi8 : ∀ (v1112 : BitVec 32) (k0_hw93 : k0_chk93 v1112), (Rect.unit (s := S4096x4096) (k0_off100 v1112) S32x4096.size (k0_off100_inb v1112 k0_hw93)).WholeWords (EltTy.packing .i8) := fun v1112 k0_hw93 => k0_hw93.2 (k0_off100_inb v1112 k0_hw93)

def k0_off101 (v1123 : BitVec 32) : Fin 2 → Nat :=
  let c128_i32_1109 : BitVec 32 := 128#32
  let v1126 : BitVec 32 := Scalar.muli v1123 c128_i32_1109
  let c64_i32_1110 : BitVec 32 := 64#32
  let v1127 : BitVec 32 := Scalar.addi v1126 c64_i32_1110
  let c0_i32_1117 : BitVec 32 := 0#32
  ![v1127.toNat, 0]

def k0_dev47 (v0 : BitVec 32) : Nat :=
  let c0_i32_1116 : BitVec 32 := 0#32
  let c1_i32_1115 : BitVec 32 := 1#32
  let v1128 : BitVec 32 := Scalar.muli v0 c1_i32_1115
  let v1129 : BitVec 32 := Scalar.addi c0_i32_1116 v1128
  v1129.toNat
def k0_off102 (v1136 : BitVec 32) : Fin 2 → Nat :=
  let c128_i32_1122 : BitVec 32 := 128#32
  let v1139 : BitVec 32 := Scalar.muli v1136 c128_i32_1122
  let c64_i32_1123 : BitVec 32 := 64#32
  let v1140 : BitVec 32 := Scalar.addi v1139 c64_i32_1123
  let c0_i32_1130 : BitVec 32 := 0#32
  ![v1140.toNat, 0]

def k0_chk95 (v1136 : BitVec 32) : Prop :=
  (∀ a, (k0_off102 v1136) a + S32x4096.size a ≤ S4096x4096.size a) ∧
  (∀ (hinb : ∀ a, (k0_off102 v1136) a + S32x4096.size a ≤ S4096x4096.size a), (Rect.unit (s := S4096x4096) (k0_off102 v1136) S32x4096.size hinb).WholeWords (EltTy.packing .i8))
theorem k0_off102_inb : ∀ (v1136 : BitVec 32) (k0_hw95 : k0_chk95 v1136), ∀ a, (k0_off102 v1136) a + S32x4096.size a ≤ S4096x4096.size a := fun v1136 k0_hw95 => k0_hw95.1
theorem k0_off102_wordsi8 : ∀ (v1136 : BitVec 32) (k0_hw95 : k0_chk95 v1136), (Rect.unit (s := S4096x4096) (k0_off102 v1136) S32x4096.size (k0_off102_inb v1136 k0_hw95)).WholeWords (EltTy.packing .i8) := fun v1136 k0_hw95 => k0_hw95.2 (k0_off102_inb v1136 k0_hw95)

def k0_off103 (v1147 : BitVec 32) : Fin 2 → Nat :=
  let c128_i32_1135 : BitVec 32 := 128#32
  let v1150 : BitVec 32 := Scalar.muli v1147 c128_i32_1135
  let c64_i32_1136 : BitVec 32 := 64#32
  let v1151 : BitVec 32 := Scalar.addi v1150 c64_i32_1136
  let c0_i32_1143 : BitVec 32 := 0#32
  ![v1151.toNat, 0]

def k0_dev48 (v1 : BitVec 32) : Nat :=
  let c0_i32_1142 : BitVec 32 := 0#32
  let c1_i32_1141 : BitVec 32 := 1#32
  let v1152 : BitVec 32 := Scalar.muli v1 c1_i32_1141
  let v1153 : BitVec 32 := Scalar.addi c0_i32_1142 v1152
  v1153.toNat
def k0_off104 (v1160 : BitVec 32) : Fin 2 → Nat :=
  let c128_i32_1148 : BitVec 32 := 128#32
  let v1163 : BitVec 32 := Scalar.muli v1160 c128_i32_1148
  let c96_i32_1149 : BitVec 32 := 96#32
  let v1164 : BitVec 32 := Scalar.addi v1163 c96_i32_1149
  let c0_i32_1156 : BitVec 32 := 0#32
  ![v1164.toNat, 0]

def k0_chk97 (v1160 : BitVec 32) : Prop :=
  (∀ a, (k0_off104 v1160) a + S32x4096.size a ≤ S4096x4096.size a) ∧
  (∀ (hinb : ∀ a, (k0_off104 v1160) a + S32x4096.size a ≤ S4096x4096.size a), (Rect.unit (s := S4096x4096) (k0_off104 v1160) S32x4096.size hinb).WholeWords (EltTy.packing .i8))
theorem k0_off104_inb : ∀ (v1160 : BitVec 32) (k0_hw97 : k0_chk97 v1160), ∀ a, (k0_off104 v1160) a + S32x4096.size a ≤ S4096x4096.size a := fun v1160 k0_hw97 => k0_hw97.1
theorem k0_off104_wordsi8 : ∀ (v1160 : BitVec 32) (k0_hw97 : k0_chk97 v1160), (Rect.unit (s := S4096x4096) (k0_off104 v1160) S32x4096.size (k0_off104_inb v1160 k0_hw97)).WholeWords (EltTy.packing .i8) := fun v1160 k0_hw97 => k0_hw97.2 (k0_off104_inb v1160 k0_hw97)

def k0_off105 (v1171 : BitVec 32) : Fin 2 → Nat :=
  let c128_i32_1161 : BitVec 32 := 128#32
  let v1174 : BitVec 32 := Scalar.muli v1171 c128_i32_1161
  let c96_i32_1162 : BitVec 32 := 96#32
  let v1175 : BitVec 32 := Scalar.addi v1174 c96_i32_1162
  let c0_i32_1169 : BitVec 32 := 0#32
  ![v1175.toNat, 0]

def k0_dev49 (v0 : BitVec 32) : Nat :=
  let c0_i32_1168 : BitVec 32 := 0#32
  let c1_i32_1167 : BitVec 32 := 1#32
  let v1176 : BitVec 32 := Scalar.muli v0 c1_i32_1167
  let v1177 : BitVec 32 := Scalar.addi c0_i32_1168 v1176
  v1177.toNat
def k0_off106 (v1184 : BitVec 32) : Fin 2 → Nat :=
  let c128_i32_1174 : BitVec 32 := 128#32
  let v1187 : BitVec 32 := Scalar.muli v1184 c128_i32_1174
  let c96_i32_1175 : BitVec 32 := 96#32
  let v1188 : BitVec 32 := Scalar.addi v1187 c96_i32_1175
  let c0_i32_1182 : BitVec 32 := 0#32
  ![v1188.toNat, 0]

def k0_chk99 (v1184 : BitVec 32) : Prop :=
  (∀ a, (k0_off106 v1184) a + S32x4096.size a ≤ S4096x4096.size a) ∧
  (∀ (hinb : ∀ a, (k0_off106 v1184) a + S32x4096.size a ≤ S4096x4096.size a), (Rect.unit (s := S4096x4096) (k0_off106 v1184) S32x4096.size hinb).WholeWords (EltTy.packing .i8))
theorem k0_off106_inb : ∀ (v1184 : BitVec 32) (k0_hw99 : k0_chk99 v1184), ∀ a, (k0_off106 v1184) a + S32x4096.size a ≤ S4096x4096.size a := fun v1184 k0_hw99 => k0_hw99.1
theorem k0_off106_wordsi8 : ∀ (v1184 : BitVec 32) (k0_hw99 : k0_chk99 v1184), (Rect.unit (s := S4096x4096) (k0_off106 v1184) S32x4096.size (k0_off106_inb v1184 k0_hw99)).WholeWords (EltTy.packing .i8) := fun v1184 k0_hw99 => k0_hw99.2 (k0_off106_inb v1184 k0_hw99)

def k0_off107 (v1195 : BitVec 32) : Fin 2 → Nat :=
  let c128_i32_1187 : BitVec 32 := 128#32
  let v1198 : BitVec 32 := Scalar.muli v1195 c128_i32_1187
  let c96_i32_1188 : BitVec 32 := 96#32
  let v1199 : BitVec 32 := Scalar.addi v1198 c96_i32_1188
  let c0_i32_1195 : BitVec 32 := 0#32
  ![v1199.toNat, 0]

def k0_dev50 (v1 : BitVec 32) : Nat :=
  let c0_i32_1194 : BitVec 32 := 0#32
  let c1_i32_1193 : BitVec 32 := 1#32
  let v1200 : BitVec 32 := Scalar.muli v1 c1_i32_1193
  let v1201 : BitVec 32 := Scalar.addi c0_i32_1194 v1200
  v1201.toNat
def k0_off108 (v1208 : BitVec 32) : Fin 2 → Nat :=
  let c128_i32_1198 : BitVec 32 := 128#32
  let v1209 : BitVec 32 := Scalar.muli v1208 c128_i32_1198
  let v1210 : Index := Scalar.indexCast v1209
  let c0_1199 : Index := 0#32
  ![v1210.toNat, 0]

def k0_off109 (v1208 : BitVec 32) : Fin 2 → Nat :=
  let c128_i32_1198 : BitVec 32 := 128#32
  let v1209 : BitVec 32 := Scalar.muli v1208 c128_i32_1198
  let v1220 : Index := Scalar.indexCast v1209
  let c0_1204 : Index := 0#32
  ![v1220.toNat, 0]

def k0_chk101 (v1208 : BitVec 32) : Prop :=
  (∀ a, (k0_off108 v1208) a + S128x4096.size a ≤ S4096x4096.size a) ∧
  (∀ a, (k0_off109 v1208) a + S128x64.size a ≤ S4096x64.size a)
theorem k0_off108_inb : ∀ (v1208 : BitVec 32) (k0_hw101 : k0_chk101 v1208), ∀ a, (k0_off108 v1208) a + S128x4096.size a ≤ S4096x4096.size a := fun v1208 k0_hw101 => k0_hw101.1
theorem k0_off109_inb : ∀ (v1208 : BitVec 32) (k0_hw101 : k0_chk101 v1208), ∀ a, (k0_off109 v1208) a + S128x64.size a ≤ S4096x64.size a := fun v1208 k0_hw101 => k0_hw101.2

def k0_off110 (v1222 : BitVec 32) : Fin 2 → Nat :=
  let c128_i32_1206 : BitVec 32 := 128#32
  let v1223 : BitVec 32 := Scalar.muli v1222 c128_i32_1206
  let v1224 : Index := Scalar.indexCast v1223
  let c0_1207 : Index := 0#32
  ![v1224.toNat, 0]

def k0_off111 (v1222 : BitVec 32) : Fin 2 → Nat :=
  let c128_i32_1206 : BitVec 32 := 128#32
  let v1223 : BitVec 32 := Scalar.muli v1222 c128_i32_1206
  let v1234 : Index := Scalar.indexCast v1223
  let c0_1212 : Index := 0#32
  ![v1234.toNat, 0]

def k0_chk102 (v1222 : BitVec 32) : Prop :=
  (∀ a, (k0_off110 v1222) a + S128x4096.size a ≤ S4096x4096.size a) ∧
  (∀ a, (k0_off111 v1222) a + S128x64.size a ≤ S4096x64.size a)
theorem k0_off110_inb : ∀ (v1222 : BitVec 32) (k0_hw102 : k0_chk102 v1222), ∀ a, (k0_off110 v1222) a + S128x4096.size a ≤ S4096x4096.size a := fun v1222 k0_hw102 => k0_hw102.1
theorem k0_off111_inb : ∀ (v1222 : BitVec 32) (k0_hw102 : k0_chk102 v1222), ∀ a, (k0_off111 v1222) a + S128x64.size a ≤ S4096x64.size a := fun v1222 k0_hw102 => k0_hw102.2

def k0_off112 (v1236 : BitVec 32) : Fin 2 → Nat :=
  let c128_i32_1215 : BitVec 32 := 128#32
  let v1239 : BitVec 32 := Scalar.muli v1236 c128_i32_1215
  let c0_i32_1216 : BitVec 32 := 0#32
  let v1240 : BitVec 32 := Scalar.addi v1239 c0_i32_1216
  let c0_i32_1223 : BitVec 32 := 0#32
  ![v1240.toNat, 0]

def k0_chk103 (v1236 : BitVec 32) : Prop :=
  (∀ a, (k0_off112 v1236) a + S32x4096.size a ≤ S4096x4096.size a) ∧
  (∀ (hinb : ∀ a, (k0_off112 v1236) a + S32x4096.size a ≤ S4096x4096.size a), (Rect.unit (s := S4096x4096) (k0_off112 v1236) S32x4096.size hinb).WholeWords (EltTy.packing .i8))
theorem k0_off112_inb : ∀ (v1236 : BitVec 32) (k0_hw103 : k0_chk103 v1236), ∀ a, (k0_off112 v1236) a + S32x4096.size a ≤ S4096x4096.size a := fun v1236 k0_hw103 => k0_hw103.1
theorem k0_off112_wordsi8 : ∀ (v1236 : BitVec 32) (k0_hw103 : k0_chk103 v1236), (Rect.unit (s := S4096x4096) (k0_off112 v1236) S32x4096.size (k0_off112_inb v1236 k0_hw103)).WholeWords (EltTy.packing .i8) := fun v1236 k0_hw103 => k0_hw103.2 (k0_off112_inb v1236 k0_hw103)

def k0_off113 (v1247 : BitVec 32) : Fin 2 → Nat :=
  let c128_i32_1227 : BitVec 32 := 128#32
  let v1250 : BitVec 32 := Scalar.muli v1247 c128_i32_1227
  let c0_i32_1228 : BitVec 32 := 0#32
  let v1251 : BitVec 32 := Scalar.addi v1250 c0_i32_1228
  let c0_i32_1234 : BitVec 32 := 0#32
  ![v1251.toNat, 0]

def k0_dev51 (v0 : BitVec 32) : Nat :=
  let c0_i32_1233 : BitVec 32 := 0#32
  let c1_i32_1232 : BitVec 32 := 1#32
  let v1252 : BitVec 32 := Scalar.muli v0 c1_i32_1232
  let v1253 : BitVec 32 := Scalar.addi c0_i32_1233 v1252
  v1253.toNat
def k0_off114 (v1260 : BitVec 32) : Fin 2 → Nat :=
  let c128_i32_1238 : BitVec 32 := 128#32
  let v1263 : BitVec 32 := Scalar.muli v1260 c128_i32_1238
  let c0_i32_1239 : BitVec 32 := 0#32
  let v1264 : BitVec 32 := Scalar.addi v1263 c0_i32_1239
  let c0_i32_1246 : BitVec 32 := 0#32
  ![v1264.toNat, 0]

def k0_chk105 (v1260 : BitVec 32) : Prop :=
  (∀ a, (k0_off114 v1260) a + S32x4096.size a ≤ S4096x4096.size a) ∧
  (∀ (hinb : ∀ a, (k0_off114 v1260) a + S32x4096.size a ≤ S4096x4096.size a), (Rect.unit (s := S4096x4096) (k0_off114 v1260) S32x4096.size hinb).WholeWords (EltTy.packing .i8))
theorem k0_off114_inb : ∀ (v1260 : BitVec 32) (k0_hw105 : k0_chk105 v1260), ∀ a, (k0_off114 v1260) a + S32x4096.size a ≤ S4096x4096.size a := fun v1260 k0_hw105 => k0_hw105.1
theorem k0_off114_wordsi8 : ∀ (v1260 : BitVec 32) (k0_hw105 : k0_chk105 v1260), (Rect.unit (s := S4096x4096) (k0_off114 v1260) S32x4096.size (k0_off114_inb v1260 k0_hw105)).WholeWords (EltTy.packing .i8) := fun v1260 k0_hw105 => k0_hw105.2 (k0_off114_inb v1260 k0_hw105)

def k0_off115 (v1271 : BitVec 32) : Fin 2 → Nat :=
  let c128_i32_1250 : BitVec 32 := 128#32
  let v1274 : BitVec 32 := Scalar.muli v1271 c128_i32_1250
  let c0_i32_1251 : BitVec 32 := 0#32
  let v1275 : BitVec 32 := Scalar.addi v1274 c0_i32_1251
  let c0_i32_1258 : BitVec 32 := 0#32
  ![v1275.toNat, 0]

def k0_dev52 (v1 : BitVec 32) : Nat :=
  let c0_i32_1257 : BitVec 32 := 0#32
  let c1_i32_1256 : BitVec 32 := 1#32
  let v1276 : BitVec 32 := Scalar.muli v1 c1_i32_1256
  let v1277 : BitVec 32 := Scalar.addi c0_i32_1257 v1276
  v1277.toNat
def k0_off116 (v1284 : BitVec 32) : Fin 2 → Nat :=
  let c128_i32_1263 : BitVec 32 := 128#32
  let v1287 : BitVec 32 := Scalar.muli v1284 c128_i32_1263
  let c32_i32_1264 : BitVec 32 := 32#32
  let v1288 : BitVec 32 := Scalar.addi v1287 c32_i32_1264
  let c0_i32_1271 : BitVec 32 := 0#32
  ![v1288.toNat, 0]

def k0_chk107 (v1284 : BitVec 32) : Prop :=
  (∀ a, (k0_off116 v1284) a + S32x4096.size a ≤ S4096x4096.size a) ∧
  (∀ (hinb : ∀ a, (k0_off116 v1284) a + S32x4096.size a ≤ S4096x4096.size a), (Rect.unit (s := S4096x4096) (k0_off116 v1284) S32x4096.size hinb).WholeWords (EltTy.packing .i8))
theorem k0_off116_inb : ∀ (v1284 : BitVec 32) (k0_hw107 : k0_chk107 v1284), ∀ a, (k0_off116 v1284) a + S32x4096.size a ≤ S4096x4096.size a := fun v1284 k0_hw107 => k0_hw107.1
theorem k0_off116_wordsi8 : ∀ (v1284 : BitVec 32) (k0_hw107 : k0_chk107 v1284), (Rect.unit (s := S4096x4096) (k0_off116 v1284) S32x4096.size (k0_off116_inb v1284 k0_hw107)).WholeWords (EltTy.packing .i8) := fun v1284 k0_hw107 => k0_hw107.2 (k0_off116_inb v1284 k0_hw107)

def k0_off117 (v1295 : BitVec 32) : Fin 2 → Nat :=
  let c128_i32_1276 : BitVec 32 := 128#32
  let v1298 : BitVec 32 := Scalar.muli v1295 c128_i32_1276
  let c32_i32_1277 : BitVec 32 := 32#32
  let v1299 : BitVec 32 := Scalar.addi v1298 c32_i32_1277
  let c0_i32_1284 : BitVec 32 := 0#32
  ![v1299.toNat, 0]

def k0_dev53 (v0 : BitVec 32) : Nat :=
  let c0_i32_1283 : BitVec 32 := 0#32
  let c1_i32_1282 : BitVec 32 := 1#32
  let v1300 : BitVec 32 := Scalar.muli v0 c1_i32_1282
  let v1301 : BitVec 32 := Scalar.addi c0_i32_1283 v1300
  v1301.toNat
def k0_off118 (v1308 : BitVec 32) : Fin 2 → Nat :=
  let c128_i32_1289 : BitVec 32 := 128#32
  let v1311 : BitVec 32 := Scalar.muli v1308 c128_i32_1289
  let c32_i32_1290 : BitVec 32 := 32#32
  let v1312 : BitVec 32 := Scalar.addi v1311 c32_i32_1290
  let c0_i32_1297 : BitVec 32 := 0#32
  ![v1312.toNat, 0]

def k0_chk109 (v1308 : BitVec 32) : Prop :=
  (∀ a, (k0_off118 v1308) a + S32x4096.size a ≤ S4096x4096.size a) ∧
  (∀ (hinb : ∀ a, (k0_off118 v1308) a + S32x4096.size a ≤ S4096x4096.size a), (Rect.unit (s := S4096x4096) (k0_off118 v1308) S32x4096.size hinb).WholeWords (EltTy.packing .i8))
theorem k0_off118_inb : ∀ (v1308 : BitVec 32) (k0_hw109 : k0_chk109 v1308), ∀ a, (k0_off118 v1308) a + S32x4096.size a ≤ S4096x4096.size a := fun v1308 k0_hw109 => k0_hw109.1
theorem k0_off118_wordsi8 : ∀ (v1308 : BitVec 32) (k0_hw109 : k0_chk109 v1308), (Rect.unit (s := S4096x4096) (k0_off118 v1308) S32x4096.size (k0_off118_inb v1308 k0_hw109)).WholeWords (EltTy.packing .i8) := fun v1308 k0_hw109 => k0_hw109.2 (k0_off118_inb v1308 k0_hw109)

def k0_off119 (v1319 : BitVec 32) : Fin 2 → Nat :=
  let c128_i32_1302 : BitVec 32 := 128#32
  let v1322 : BitVec 32 := Scalar.muli v1319 c128_i32_1302
  let c32_i32_1303 : BitVec 32 := 32#32
  let v1323 : BitVec 32 := Scalar.addi v1322 c32_i32_1303
  let c0_i32_1310 : BitVec 32 := 0#32
  ![v1323.toNat, 0]

def k0_dev54 (v1 : BitVec 32) : Nat :=
  let c0_i32_1309 : BitVec 32 := 0#32
  let c1_i32_1308 : BitVec 32 := 1#32
  let v1324 : BitVec 32 := Scalar.muli v1 c1_i32_1308
  let v1325 : BitVec 32 := Scalar.addi c0_i32_1309 v1324
  v1325.toNat
def k0_off120 (v1332 : BitVec 32) : Fin 2 → Nat :=
  let c128_i32_1315 : BitVec 32 := 128#32
  let v1335 : BitVec 32 := Scalar.muli v1332 c128_i32_1315
  let c64_i32_1316 : BitVec 32 := 64#32
  let v1336 : BitVec 32 := Scalar.addi v1335 c64_i32_1316
  let c0_i32_1323 : BitVec 32 := 0#32
  ![v1336.toNat, 0]

def k0_chk111 (v1332 : BitVec 32) : Prop :=
  (∀ a, (k0_off120 v1332) a + S32x4096.size a ≤ S4096x4096.size a) ∧
  (∀ (hinb : ∀ a, (k0_off120 v1332) a + S32x4096.size a ≤ S4096x4096.size a), (Rect.unit (s := S4096x4096) (k0_off120 v1332) S32x4096.size hinb).WholeWords (EltTy.packing .i8))
theorem k0_off120_inb : ∀ (v1332 : BitVec 32) (k0_hw111 : k0_chk111 v1332), ∀ a, (k0_off120 v1332) a + S32x4096.size a ≤ S4096x4096.size a := fun v1332 k0_hw111 => k0_hw111.1
theorem k0_off120_wordsi8 : ∀ (v1332 : BitVec 32) (k0_hw111 : k0_chk111 v1332), (Rect.unit (s := S4096x4096) (k0_off120 v1332) S32x4096.size (k0_off120_inb v1332 k0_hw111)).WholeWords (EltTy.packing .i8) := fun v1332 k0_hw111 => k0_hw111.2 (k0_off120_inb v1332 k0_hw111)

def k0_off121 (v1343 : BitVec 32) : Fin 2 → Nat :=
  let c128_i32_1328 : BitVec 32 := 128#32
  let v1346 : BitVec 32 := Scalar.muli v1343 c128_i32_1328
  let c64_i32_1329 : BitVec 32 := 64#32
  let v1347 : BitVec 32 := Scalar.addi v1346 c64_i32_1329
  let c0_i32_1336 : BitVec 32 := 0#32
  ![v1347.toNat, 0]

def k0_dev55 (v0 : BitVec 32) : Nat :=
  let c0_i32_1335 : BitVec 32 := 0#32
  let c1_i32_1334 : BitVec 32 := 1#32
  let v1348 : BitVec 32 := Scalar.muli v0 c1_i32_1334
  let v1349 : BitVec 32 := Scalar.addi c0_i32_1335 v1348
  v1349.toNat
def k0_off122 (v1356 : BitVec 32) : Fin 2 → Nat :=
  let c128_i32_1341 : BitVec 32 := 128#32
  let v1359 : BitVec 32 := Scalar.muli v1356 c128_i32_1341
  let c64_i32_1342 : BitVec 32 := 64#32
  let v1360 : BitVec 32 := Scalar.addi v1359 c64_i32_1342
  let c0_i32_1349 : BitVec 32 := 0#32
  ![v1360.toNat, 0]

def k0_chk113 (v1356 : BitVec 32) : Prop :=
  (∀ a, (k0_off122 v1356) a + S32x4096.size a ≤ S4096x4096.size a) ∧
  (∀ (hinb : ∀ a, (k0_off122 v1356) a + S32x4096.size a ≤ S4096x4096.size a), (Rect.unit (s := S4096x4096) (k0_off122 v1356) S32x4096.size hinb).WholeWords (EltTy.packing .i8))
theorem k0_off122_inb : ∀ (v1356 : BitVec 32) (k0_hw113 : k0_chk113 v1356), ∀ a, (k0_off122 v1356) a + S32x4096.size a ≤ S4096x4096.size a := fun v1356 k0_hw113 => k0_hw113.1
theorem k0_off122_wordsi8 : ∀ (v1356 : BitVec 32) (k0_hw113 : k0_chk113 v1356), (Rect.unit (s := S4096x4096) (k0_off122 v1356) S32x4096.size (k0_off122_inb v1356 k0_hw113)).WholeWords (EltTy.packing .i8) := fun v1356 k0_hw113 => k0_hw113.2 (k0_off122_inb v1356 k0_hw113)

def k0_off123 (v1367 : BitVec 32) : Fin 2 → Nat :=
  let c128_i32_1354 : BitVec 32 := 128#32
  let v1370 : BitVec 32 := Scalar.muli v1367 c128_i32_1354
  let c64_i32_1355 : BitVec 32 := 64#32
  let v1371 : BitVec 32 := Scalar.addi v1370 c64_i32_1355
  let c0_i32_1362 : BitVec 32 := 0#32
  ![v1371.toNat, 0]

def k0_dev56 (v1 : BitVec 32) : Nat :=
  let c0_i32_1361 : BitVec 32 := 0#32
  let c1_i32_1360 : BitVec 32 := 1#32
  let v1372 : BitVec 32 := Scalar.muli v1 c1_i32_1360
  let v1373 : BitVec 32 := Scalar.addi c0_i32_1361 v1372
  v1373.toNat
def k0_off124 (v1380 : BitVec 32) : Fin 2 → Nat :=
  let c128_i32_1367 : BitVec 32 := 128#32
  let v1383 : BitVec 32 := Scalar.muli v1380 c128_i32_1367
  let c96_i32_1368 : BitVec 32 := 96#32
  let v1384 : BitVec 32 := Scalar.addi v1383 c96_i32_1368
  let c0_i32_1375 : BitVec 32 := 0#32
  ![v1384.toNat, 0]

def k0_chk115 (v1380 : BitVec 32) : Prop :=
  (∀ a, (k0_off124 v1380) a + S32x4096.size a ≤ S4096x4096.size a) ∧
  (∀ (hinb : ∀ a, (k0_off124 v1380) a + S32x4096.size a ≤ S4096x4096.size a), (Rect.unit (s := S4096x4096) (k0_off124 v1380) S32x4096.size hinb).WholeWords (EltTy.packing .i8))
theorem k0_off124_inb : ∀ (v1380 : BitVec 32) (k0_hw115 : k0_chk115 v1380), ∀ a, (k0_off124 v1380) a + S32x4096.size a ≤ S4096x4096.size a := fun v1380 k0_hw115 => k0_hw115.1
theorem k0_off124_wordsi8 : ∀ (v1380 : BitVec 32) (k0_hw115 : k0_chk115 v1380), (Rect.unit (s := S4096x4096) (k0_off124 v1380) S32x4096.size (k0_off124_inb v1380 k0_hw115)).WholeWords (EltTy.packing .i8) := fun v1380 k0_hw115 => k0_hw115.2 (k0_off124_inb v1380 k0_hw115)

def k0_off125 (v1391 : BitVec 32) : Fin 2 → Nat :=
  let c128_i32_1380 : BitVec 32 := 128#32
  let v1394 : BitVec 32 := Scalar.muli v1391 c128_i32_1380
  let c96_i32_1381 : BitVec 32 := 96#32
  let v1395 : BitVec 32 := Scalar.addi v1394 c96_i32_1381
  let c0_i32_1388 : BitVec 32 := 0#32
  ![v1395.toNat, 0]

def k0_dev57 (v0 : BitVec 32) : Nat :=
  let c0_i32_1387 : BitVec 32 := 0#32
  let c1_i32_1386 : BitVec 32 := 1#32
  let v1396 : BitVec 32 := Scalar.muli v0 c1_i32_1386
  let v1397 : BitVec 32 := Scalar.addi c0_i32_1387 v1396
  v1397.toNat
def k0_off126 (v1404 : BitVec 32) : Fin 2 → Nat :=
  let c128_i32_1393 : BitVec 32 := 128#32
  let v1407 : BitVec 32 := Scalar.muli v1404 c128_i32_1393
  let c96_i32_1394 : BitVec 32 := 96#32
  let v1408 : BitVec 32 := Scalar.addi v1407 c96_i32_1394
  let c0_i32_1401 : BitVec 32 := 0#32
  ![v1408.toNat, 0]

def k0_chk117 (v1404 : BitVec 32) : Prop :=
  (∀ a, (k0_off126 v1404) a + S32x4096.size a ≤ S4096x4096.size a) ∧
  (∀ (hinb : ∀ a, (k0_off126 v1404) a + S32x4096.size a ≤ S4096x4096.size a), (Rect.unit (s := S4096x4096) (k0_off126 v1404) S32x4096.size hinb).WholeWords (EltTy.packing .i8))
theorem k0_off126_inb : ∀ (v1404 : BitVec 32) (k0_hw117 : k0_chk117 v1404), ∀ a, (k0_off126 v1404) a + S32x4096.size a ≤ S4096x4096.size a := fun v1404 k0_hw117 => k0_hw117.1
theorem k0_off126_wordsi8 : ∀ (v1404 : BitVec 32) (k0_hw117 : k0_chk117 v1404), (Rect.unit (s := S4096x4096) (k0_off126 v1404) S32x4096.size (k0_off126_inb v1404 k0_hw117)).WholeWords (EltTy.packing .i8) := fun v1404 k0_hw117 => k0_hw117.2 (k0_off126_inb v1404 k0_hw117)

def k0_off127 (v1415 : BitVec 32) : Fin 2 → Nat :=
  let c128_i32_1406 : BitVec 32 := 128#32
  let v1418 : BitVec 32 := Scalar.muli v1415 c128_i32_1406
  let c96_i32_1407 : BitVec 32 := 96#32
  let v1419 : BitVec 32 := Scalar.addi v1418 c96_i32_1407
  let c0_i32_1414 : BitVec 32 := 0#32
  ![v1419.toNat, 0]

def k0_dev58 (v1 : BitVec 32) : Nat :=
  let c0_i32_1413 : BitVec 32 := 0#32
  let c1_i32_1412 : BitVec 32 := 1#32
  let v1420 : BitVec 32 := Scalar.muli v1 c1_i32_1412
  let v1421 : BitVec 32 := Scalar.addi c0_i32_1413 v1420
  v1421.toNat
def k0_off128 (v1428 : BitVec 32) : Fin 2 → Nat :=
  let c128_i32_1417 : BitVec 32 := 128#32
  let v1429 : BitVec 32 := Scalar.muli v1428 c128_i32_1417
  let v1430 : Index := Scalar.indexCast v1429
  let c0_1418 : Index := 0#32
  ![v1430.toNat, 0]

def k0_off129 (v1428 : BitVec 32) : Fin 2 → Nat :=
  let c128_i32_1417 : BitVec 32 := 128#32
  let v1429 : BitVec 32 := Scalar.muli v1428 c128_i32_1417
  let v1440 : Index := Scalar.indexCast v1429
  let c0_1423 : Index := 0#32
  ![v1440.toNat, 0]

def k0_chk119 (v1428 : BitVec 32) : Prop :=
  (∀ a, (k0_off128 v1428) a + S128x4096.size a ≤ S4096x4096.size a) ∧
  (∀ a, (k0_off129 v1428) a + S128x64.size a ≤ S4096x64.size a)
theorem k0_off128_inb : ∀ (v1428 : BitVec 32) (k0_hw119 : k0_chk119 v1428), ∀ a, (k0_off128 v1428) a + S128x4096.size a ≤ S4096x4096.size a := fun v1428 k0_hw119 => k0_hw119.1
theorem k0_off129_inb : ∀ (v1428 : BitVec 32) (k0_hw119 : k0_chk119 v1428), ∀ a, (k0_off129 v1428) a + S128x64.size a ≤ S4096x64.size a := fun v1428 k0_hw119 => k0_hw119.2

def k0_off130 (v1442 : BitVec 32) : Fin 2 → Nat :=
  let c128_i32_1425 : BitVec 32 := 128#32
  let v1443 : BitVec 32 := Scalar.muli v1442 c128_i32_1425
  let v1444 : Index := Scalar.indexCast v1443
  let c0_1426 : Index := 0#32
  ![v1444.toNat, 0]

def k0_off131 (v1442 : BitVec 32) : Fin 2 → Nat :=
  let c128_i32_1425 : BitVec 32 := 128#32
  let v1443 : BitVec 32 := Scalar.muli v1442 c128_i32_1425
  let v1454 : Index := Scalar.indexCast v1443
  let c0_1431 : Index := 0#32
  ![v1454.toNat, 0]

def k0_chk120 (v1442 : BitVec 32) : Prop :=
  (∀ a, (k0_off130 v1442) a + S128x4096.size a ≤ S4096x4096.size a) ∧
  (∀ a, (k0_off131 v1442) a + S128x64.size a ≤ S4096x64.size a)
theorem k0_off130_inb : ∀ (v1442 : BitVec 32) (k0_hw120 : k0_chk120 v1442), ∀ a, (k0_off130 v1442) a + S128x4096.size a ≤ S4096x4096.size a := fun v1442 k0_hw120 => k0_hw120.1
theorem k0_off131_inb : ∀ (v1442 : BitVec 32) (k0_hw120 : k0_chk120 v1442), ∀ a, (k0_off131 v1442) a + S128x64.size a ≤ S4096x64.size a := fun v1442 k0_hw120 => k0_hw120.2

def k0_off132 (v1456 : BitVec 32) : Fin 2 → Nat :=
  let c128_i32_1434 : BitVec 32 := 128#32
  let v1459 : BitVec 32 := Scalar.muli v1456 c128_i32_1434
  let c0_i32_1435 : BitVec 32 := 0#32
  let v1460 : BitVec 32 := Scalar.addi v1459 c0_i32_1435
  let c0_i32_1442 : BitVec 32 := 0#32
  ![v1460.toNat, 0]

def k0_chk121 (v1456 : BitVec 32) : Prop :=
  (∀ a, (k0_off132 v1456) a + S32x4096.size a ≤ S4096x4096.size a) ∧
  (∀ (hinb : ∀ a, (k0_off132 v1456) a + S32x4096.size a ≤ S4096x4096.size a), (Rect.unit (s := S4096x4096) (k0_off132 v1456) S32x4096.size hinb).WholeWords (EltTy.packing .i8))
theorem k0_off132_inb : ∀ (v1456 : BitVec 32) (k0_hw121 : k0_chk121 v1456), ∀ a, (k0_off132 v1456) a + S32x4096.size a ≤ S4096x4096.size a := fun v1456 k0_hw121 => k0_hw121.1
theorem k0_off132_wordsi8 : ∀ (v1456 : BitVec 32) (k0_hw121 : k0_chk121 v1456), (Rect.unit (s := S4096x4096) (k0_off132 v1456) S32x4096.size (k0_off132_inb v1456 k0_hw121)).WholeWords (EltTy.packing .i8) := fun v1456 k0_hw121 => k0_hw121.2 (k0_off132_inb v1456 k0_hw121)

def k0_off133 (v1467 : BitVec 32) : Fin 2 → Nat :=
  let c128_i32_1446 : BitVec 32 := 128#32
  let v1470 : BitVec 32 := Scalar.muli v1467 c128_i32_1446
  let c0_i32_1447 : BitVec 32 := 0#32
  let v1471 : BitVec 32 := Scalar.addi v1470 c0_i32_1447
  let c0_i32_1453 : BitVec 32 := 0#32
  ![v1471.toNat, 0]

def k0_dev59 (v0 : BitVec 32) : Nat :=
  let c0_i32_1452 : BitVec 32 := 0#32
  let c1_i32_1451 : BitVec 32 := 1#32
  let v1472 : BitVec 32 := Scalar.muli v0 c1_i32_1451
  let v1473 : BitVec 32 := Scalar.addi c0_i32_1452 v1472
  v1473.toNat
def k0_off134 (v1480 : BitVec 32) : Fin 2 → Nat :=
  let c128_i32_1457 : BitVec 32 := 128#32
  let v1483 : BitVec 32 := Scalar.muli v1480 c128_i32_1457
  let c0_i32_1458 : BitVec 32 := 0#32
  let v1484 : BitVec 32 := Scalar.addi v1483 c0_i32_1458
  let c0_i32_1465 : BitVec 32 := 0#32
  ![v1484.toNat, 0]

def k0_chk123 (v1480 : BitVec 32) : Prop :=
  (∀ a, (k0_off134 v1480) a + S32x4096.size a ≤ S4096x4096.size a) ∧
  (∀ (hinb : ∀ a, (k0_off134 v1480) a + S32x4096.size a ≤ S4096x4096.size a), (Rect.unit (s := S4096x4096) (k0_off134 v1480) S32x4096.size hinb).WholeWords (EltTy.packing .i8))
theorem k0_off134_inb : ∀ (v1480 : BitVec 32) (k0_hw123 : k0_chk123 v1480), ∀ a, (k0_off134 v1480) a + S32x4096.size a ≤ S4096x4096.size a := fun v1480 k0_hw123 => k0_hw123.1
theorem k0_off134_wordsi8 : ∀ (v1480 : BitVec 32) (k0_hw123 : k0_chk123 v1480), (Rect.unit (s := S4096x4096) (k0_off134 v1480) S32x4096.size (k0_off134_inb v1480 k0_hw123)).WholeWords (EltTy.packing .i8) := fun v1480 k0_hw123 => k0_hw123.2 (k0_off134_inb v1480 k0_hw123)

def k0_off135 (v1491 : BitVec 32) : Fin 2 → Nat :=
  let c128_i32_1469 : BitVec 32 := 128#32
  let v1494 : BitVec 32 := Scalar.muli v1491 c128_i32_1469
  let c0_i32_1470 : BitVec 32 := 0#32
  let v1495 : BitVec 32 := Scalar.addi v1494 c0_i32_1470
  let c0_i32_1477 : BitVec 32 := 0#32
  ![v1495.toNat, 0]

def k0_dev60 (v1 : BitVec 32) : Nat :=
  let c0_i32_1476 : BitVec 32 := 0#32
  let c1_i32_1475 : BitVec 32 := 1#32
  let v1496 : BitVec 32 := Scalar.muli v1 c1_i32_1475
  let v1497 : BitVec 32 := Scalar.addi c0_i32_1476 v1496
  v1497.toNat
def k0_off136 (v1504 : BitVec 32) : Fin 2 → Nat :=
  let c128_i32_1482 : BitVec 32 := 128#32
  let v1507 : BitVec 32 := Scalar.muli v1504 c128_i32_1482
  let c32_i32_1483 : BitVec 32 := 32#32
  let v1508 : BitVec 32 := Scalar.addi v1507 c32_i32_1483
  let c0_i32_1490 : BitVec 32 := 0#32
  ![v1508.toNat, 0]

def k0_chk125 (v1504 : BitVec 32) : Prop :=
  (∀ a, (k0_off136 v1504) a + S32x4096.size a ≤ S4096x4096.size a) ∧
  (∀ (hinb : ∀ a, (k0_off136 v1504) a + S32x4096.size a ≤ S4096x4096.size a), (Rect.unit (s := S4096x4096) (k0_off136 v1504) S32x4096.size hinb).WholeWords (EltTy.packing .i8))
theorem k0_off136_inb : ∀ (v1504 : BitVec 32) (k0_hw125 : k0_chk125 v1504), ∀ a, (k0_off136 v1504) a + S32x4096.size a ≤ S4096x4096.size a := fun v1504 k0_hw125 => k0_hw125.1
theorem k0_off136_wordsi8 : ∀ (v1504 : BitVec 32) (k0_hw125 : k0_chk125 v1504), (Rect.unit (s := S4096x4096) (k0_off136 v1504) S32x4096.size (k0_off136_inb v1504 k0_hw125)).WholeWords (EltTy.packing .i8) := fun v1504 k0_hw125 => k0_hw125.2 (k0_off136_inb v1504 k0_hw125)

def k0_off137 (v1515 : BitVec 32) : Fin 2 → Nat :=
  let c128_i32_1495 : BitVec 32 := 128#32
  let v1518 : BitVec 32 := Scalar.muli v1515 c128_i32_1495
  let c32_i32_1496 : BitVec 32 := 32#32
  let v1519 : BitVec 32 := Scalar.addi v1518 c32_i32_1496
  let c0_i32_1503 : BitVec 32 := 0#32
  ![v1519.toNat, 0]

def k0_dev61 (v0 : BitVec 32) : Nat :=
  let c0_i32_1502 : BitVec 32 := 0#32
  let c1_i32_1501 : BitVec 32 := 1#32
  let v1520 : BitVec 32 := Scalar.muli v0 c1_i32_1501
  let v1521 : BitVec 32 := Scalar.addi c0_i32_1502 v1520
  v1521.toNat
def k0_off138 (v1528 : BitVec 32) : Fin 2 → Nat :=
  let c128_i32_1508 : BitVec 32 := 128#32
  let v1531 : BitVec 32 := Scalar.muli v1528 c128_i32_1508
  let c32_i32_1509 : BitVec 32 := 32#32
  let v1532 : BitVec 32 := Scalar.addi v1531 c32_i32_1509
  let c0_i32_1516 : BitVec 32 := 0#32
  ![v1532.toNat, 0]

def k0_chk127 (v1528 : BitVec 32) : Prop :=
  (∀ a, (k0_off138 v1528) a + S32x4096.size a ≤ S4096x4096.size a) ∧
  (∀ (hinb : ∀ a, (k0_off138 v1528) a + S32x4096.size a ≤ S4096x4096.size a), (Rect.unit (s := S4096x4096) (k0_off138 v1528) S32x4096.size hinb).WholeWords (EltTy.packing .i8))
theorem k0_off138_inb : ∀ (v1528 : BitVec 32) (k0_hw127 : k0_chk127 v1528), ∀ a, (k0_off138 v1528) a + S32x4096.size a ≤ S4096x4096.size a := fun v1528 k0_hw127 => k0_hw127.1
theorem k0_off138_wordsi8 : ∀ (v1528 : BitVec 32) (k0_hw127 : k0_chk127 v1528), (Rect.unit (s := S4096x4096) (k0_off138 v1528) S32x4096.size (k0_off138_inb v1528 k0_hw127)).WholeWords (EltTy.packing .i8) := fun v1528 k0_hw127 => k0_hw127.2 (k0_off138_inb v1528 k0_hw127)

def k0_off139 (v1539 : BitVec 32) : Fin 2 → Nat :=
  let c128_i32_1521 : BitVec 32 := 128#32
  let v1542 : BitVec 32 := Scalar.muli v1539 c128_i32_1521
  let c32_i32_1522 : BitVec 32 := 32#32
  let v1543 : BitVec 32 := Scalar.addi v1542 c32_i32_1522
  let c0_i32_1529 : BitVec 32 := 0#32
  ![v1543.toNat, 0]

def k0_dev62 (v1 : BitVec 32) : Nat :=
  let c0_i32_1528 : BitVec 32 := 0#32
  let c1_i32_1527 : BitVec 32 := 1#32
  let v1544 : BitVec 32 := Scalar.muli v1 c1_i32_1527
  let v1545 : BitVec 32 := Scalar.addi c0_i32_1528 v1544
  v1545.toNat
def k0_off140 (v1552 : BitVec 32) : Fin 2 → Nat :=
  let c128_i32_1534 : BitVec 32 := 128#32
  let v1555 : BitVec 32 := Scalar.muli v1552 c128_i32_1534
  let c64_i32_1535 : BitVec 32 := 64#32
  let v1556 : BitVec 32 := Scalar.addi v1555 c64_i32_1535
  let c0_i32_1542 : BitVec 32 := 0#32
  ![v1556.toNat, 0]

def k0_chk129 (v1552 : BitVec 32) : Prop :=
  (∀ a, (k0_off140 v1552) a + S32x4096.size a ≤ S4096x4096.size a) ∧
  (∀ (hinb : ∀ a, (k0_off140 v1552) a + S32x4096.size a ≤ S4096x4096.size a), (Rect.unit (s := S4096x4096) (k0_off140 v1552) S32x4096.size hinb).WholeWords (EltTy.packing .i8))
theorem k0_off140_inb : ∀ (v1552 : BitVec 32) (k0_hw129 : k0_chk129 v1552), ∀ a, (k0_off140 v1552) a + S32x4096.size a ≤ S4096x4096.size a := fun v1552 k0_hw129 => k0_hw129.1
theorem k0_off140_wordsi8 : ∀ (v1552 : BitVec 32) (k0_hw129 : k0_chk129 v1552), (Rect.unit (s := S4096x4096) (k0_off140 v1552) S32x4096.size (k0_off140_inb v1552 k0_hw129)).WholeWords (EltTy.packing .i8) := fun v1552 k0_hw129 => k0_hw129.2 (k0_off140_inb v1552 k0_hw129)

def k0_off141 (v1563 : BitVec 32) : Fin 2 → Nat :=
  let c128_i32_1547 : BitVec 32 := 128#32
  let v1566 : BitVec 32 := Scalar.muli v1563 c128_i32_1547
  let c64_i32_1548 : BitVec 32 := 64#32
  let v1567 : BitVec 32 := Scalar.addi v1566 c64_i32_1548
  let c0_i32_1555 : BitVec 32 := 0#32
  ![v1567.toNat, 0]

def k0_dev63 (v0 : BitVec 32) : Nat :=
  let c0_i32_1554 : BitVec 32 := 0#32
  let c1_i32_1553 : BitVec 32 := 1#32
  let v1568 : BitVec 32 := Scalar.muli v0 c1_i32_1553
  let v1569 : BitVec 32 := Scalar.addi c0_i32_1554 v1568
  v1569.toNat
def k0_off142 (v1576 : BitVec 32) : Fin 2 → Nat :=
  let c128_i32_1560 : BitVec 32 := 128#32
  let v1579 : BitVec 32 := Scalar.muli v1576 c128_i32_1560
  let c64_i32_1561 : BitVec 32 := 64#32
  let v1580 : BitVec 32 := Scalar.addi v1579 c64_i32_1561
  let c0_i32_1568 : BitVec 32 := 0#32
  ![v1580.toNat, 0]

def k0_chk131 (v1576 : BitVec 32) : Prop :=
  (∀ a, (k0_off142 v1576) a + S32x4096.size a ≤ S4096x4096.size a) ∧
  (∀ (hinb : ∀ a, (k0_off142 v1576) a + S32x4096.size a ≤ S4096x4096.size a), (Rect.unit (s := S4096x4096) (k0_off142 v1576) S32x4096.size hinb).WholeWords (EltTy.packing .i8))
theorem k0_off142_inb : ∀ (v1576 : BitVec 32) (k0_hw131 : k0_chk131 v1576), ∀ a, (k0_off142 v1576) a + S32x4096.size a ≤ S4096x4096.size a := fun v1576 k0_hw131 => k0_hw131.1
theorem k0_off142_wordsi8 : ∀ (v1576 : BitVec 32) (k0_hw131 : k0_chk131 v1576), (Rect.unit (s := S4096x4096) (k0_off142 v1576) S32x4096.size (k0_off142_inb v1576 k0_hw131)).WholeWords (EltTy.packing .i8) := fun v1576 k0_hw131 => k0_hw131.2 (k0_off142_inb v1576 k0_hw131)

def k0_off143 (v1587 : BitVec 32) : Fin 2 → Nat :=
  let c128_i32_1573 : BitVec 32 := 128#32
  let v1590 : BitVec 32 := Scalar.muli v1587 c128_i32_1573
  let c64_i32_1574 : BitVec 32 := 64#32
  let v1591 : BitVec 32 := Scalar.addi v1590 c64_i32_1574
  let c0_i32_1581 : BitVec 32 := 0#32
  ![v1591.toNat, 0]

def k0_dev64 (v1 : BitVec 32) : Nat :=
  let c0_i32_1580 : BitVec 32 := 0#32
  let c1_i32_1579 : BitVec 32 := 1#32
  let v1592 : BitVec 32 := Scalar.muli v1 c1_i32_1579
  let v1593 : BitVec 32 := Scalar.addi c0_i32_1580 v1592
  v1593.toNat
def k0_off144 (v1600 : BitVec 32) : Fin 2 → Nat :=
  let c128_i32_1586 : BitVec 32 := 128#32
  let v1603 : BitVec 32 := Scalar.muli v1600 c128_i32_1586
  let c96_i32_1587 : BitVec 32 := 96#32
  let v1604 : BitVec 32 := Scalar.addi v1603 c96_i32_1587
  let c0_i32_1594 : BitVec 32 := 0#32
  ![v1604.toNat, 0]

def k0_chk133 (v1600 : BitVec 32) : Prop :=
  (∀ a, (k0_off144 v1600) a + S32x4096.size a ≤ S4096x4096.size a) ∧
  (∀ (hinb : ∀ a, (k0_off144 v1600) a + S32x4096.size a ≤ S4096x4096.size a), (Rect.unit (s := S4096x4096) (k0_off144 v1600) S32x4096.size hinb).WholeWords (EltTy.packing .i8))
theorem k0_off144_inb : ∀ (v1600 : BitVec 32) (k0_hw133 : k0_chk133 v1600), ∀ a, (k0_off144 v1600) a + S32x4096.size a ≤ S4096x4096.size a := fun v1600 k0_hw133 => k0_hw133.1
theorem k0_off144_wordsi8 : ∀ (v1600 : BitVec 32) (k0_hw133 : k0_chk133 v1600), (Rect.unit (s := S4096x4096) (k0_off144 v1600) S32x4096.size (k0_off144_inb v1600 k0_hw133)).WholeWords (EltTy.packing .i8) := fun v1600 k0_hw133 => k0_hw133.2 (k0_off144_inb v1600 k0_hw133)

def k0_off145 (v1611 : BitVec 32) : Fin 2 → Nat :=
  let c128_i32_1599 : BitVec 32 := 128#32
  let v1614 : BitVec 32 := Scalar.muli v1611 c128_i32_1599
  let c96_i32_1600 : BitVec 32 := 96#32
  let v1615 : BitVec 32 := Scalar.addi v1614 c96_i32_1600
  let c0_i32_1607 : BitVec 32 := 0#32
  ![v1615.toNat, 0]

def k0_dev65 (v0 : BitVec 32) : Nat :=
  let c0_i32_1606 : BitVec 32 := 0#32
  let c1_i32_1605 : BitVec 32 := 1#32
  let v1616 : BitVec 32 := Scalar.muli v0 c1_i32_1605
  let v1617 : BitVec 32 := Scalar.addi c0_i32_1606 v1616
  v1617.toNat
def k0_off146 (v1624 : BitVec 32) : Fin 2 → Nat :=
  let c128_i32_1612 : BitVec 32 := 128#32
  let v1627 : BitVec 32 := Scalar.muli v1624 c128_i32_1612
  let c96_i32_1613 : BitVec 32 := 96#32
  let v1628 : BitVec 32 := Scalar.addi v1627 c96_i32_1613
  let c0_i32_1620 : BitVec 32 := 0#32
  ![v1628.toNat, 0]

def k0_chk135 (v1624 : BitVec 32) : Prop :=
  (∀ a, (k0_off146 v1624) a + S32x4096.size a ≤ S4096x4096.size a) ∧
  (∀ (hinb : ∀ a, (k0_off146 v1624) a + S32x4096.size a ≤ S4096x4096.size a), (Rect.unit (s := S4096x4096) (k0_off146 v1624) S32x4096.size hinb).WholeWords (EltTy.packing .i8))
theorem k0_off146_inb : ∀ (v1624 : BitVec 32) (k0_hw135 : k0_chk135 v1624), ∀ a, (k0_off146 v1624) a + S32x4096.size a ≤ S4096x4096.size a := fun v1624 k0_hw135 => k0_hw135.1
theorem k0_off146_wordsi8 : ∀ (v1624 : BitVec 32) (k0_hw135 : k0_chk135 v1624), (Rect.unit (s := S4096x4096) (k0_off146 v1624) S32x4096.size (k0_off146_inb v1624 k0_hw135)).WholeWords (EltTy.packing .i8) := fun v1624 k0_hw135 => k0_hw135.2 (k0_off146_inb v1624 k0_hw135)

def k0_off147 (v1635 : BitVec 32) : Fin 2 → Nat :=
  let c128_i32_1625 : BitVec 32 := 128#32
  let v1638 : BitVec 32 := Scalar.muli v1635 c128_i32_1625
  let c96_i32_1626 : BitVec 32 := 96#32
  let v1639 : BitVec 32 := Scalar.addi v1638 c96_i32_1626
  let c0_i32_1633 : BitVec 32 := 0#32
  ![v1639.toNat, 0]

def k0_dev66 (v1 : BitVec 32) : Nat :=
  let c0_i32_1632 : BitVec 32 := 0#32
  let c1_i32_1631 : BitVec 32 := 1#32
  let v1640 : BitVec 32 := Scalar.muli v1 c1_i32_1631
  let v1641 : BitVec 32 := Scalar.addi c0_i32_1632 v1640
  v1641.toNat
def k0_off148 (v1648 : BitVec 32) : Fin 2 → Nat :=
  let c128_i32_1636 : BitVec 32 := 128#32
  let v1649 : BitVec 32 := Scalar.muli v1648 c128_i32_1636
  let v1650 : Index := Scalar.indexCast v1649
  let c0_1637 : Index := 0#32
  ![v1650.toNat, 0]

def k0_off149 (v1648 : BitVec 32) : Fin 2 → Nat :=
  let c128_i32_1636 : BitVec 32 := 128#32
  let v1649 : BitVec 32 := Scalar.muli v1648 c128_i32_1636
  let v1660 : Index := Scalar.indexCast v1649
  let c0_1642 : Index := 0#32
  ![v1660.toNat, 0]

def k0_chk137 (v1648 : BitVec 32) : Prop :=
  (∀ a, (k0_off148 v1648) a + S128x4096.size a ≤ S4096x4096.size a) ∧
  (∀ a, (k0_off149 v1648) a + S128x64.size a ≤ S4096x64.size a)
theorem k0_off148_inb : ∀ (v1648 : BitVec 32) (k0_hw137 : k0_chk137 v1648), ∀ a, (k0_off148 v1648) a + S128x4096.size a ≤ S4096x4096.size a := fun v1648 k0_hw137 => k0_hw137.1
theorem k0_off149_inb : ∀ (v1648 : BitVec 32) (k0_hw137 : k0_chk137 v1648), ∀ a, (k0_off149 v1648) a + S128x64.size a ≤ S4096x64.size a := fun v1648 k0_hw137 => k0_hw137.2

def k0_off150 (v1662 : BitVec 32) : Fin 2 → Nat :=
  let c128_i32_1644 : BitVec 32 := 128#32
  let v1663 : BitVec 32 := Scalar.muli v1662 c128_i32_1644
  let v1664 : Index := Scalar.indexCast v1663
  let c0_1645 : Index := 0#32
  ![v1664.toNat, 0]

def k0_off151 (v1662 : BitVec 32) : Fin 2 → Nat :=
  let c128_i32_1644 : BitVec 32 := 128#32
  let v1663 : BitVec 32 := Scalar.muli v1662 c128_i32_1644
  let v1674 : Index := Scalar.indexCast v1663
  let c0_1650 : Index := 0#32
  ![v1674.toNat, 0]

def k0_chk138 (v1662 : BitVec 32) : Prop :=
  (∀ a, (k0_off150 v1662) a + S128x4096.size a ≤ S4096x4096.size a) ∧
  (∀ a, (k0_off151 v1662) a + S128x64.size a ≤ S4096x64.size a)
theorem k0_off150_inb : ∀ (v1662 : BitVec 32) (k0_hw138 : k0_chk138 v1662), ∀ a, (k0_off150 v1662) a + S128x4096.size a ≤ S4096x4096.size a := fun v1662 k0_hw138 => k0_hw138.1
theorem k0_off151_inb : ∀ (v1662 : BitVec 32) (k0_hw138 : k0_chk138 v1662), ∀ a, (k0_off151 v1662) a + S128x64.size a ≤ S4096x64.size a := fun v1662 k0_hw138 => k0_hw138.2

def k0_off152 (v1676 : BitVec 32) : Fin 2 → Nat :=
  let c128_i32_1653 : BitVec 32 := 128#32
  let v1679 : BitVec 32 := Scalar.muli v1676 c128_i32_1653
  let c0_i32_1654 : BitVec 32 := 0#32
  let v1680 : BitVec 32 := Scalar.addi v1679 c0_i32_1654
  let c0_i32_1661 : BitVec 32 := 0#32
  ![v1680.toNat, 0]

def k0_chk139 (v1676 : BitVec 32) : Prop :=
  (∀ a, (k0_off152 v1676) a + S32x4096.size a ≤ S4096x4096.size a) ∧
  (∀ (hinb : ∀ a, (k0_off152 v1676) a + S32x4096.size a ≤ S4096x4096.size a), (Rect.unit (s := S4096x4096) (k0_off152 v1676) S32x4096.size hinb).WholeWords (EltTy.packing .i8))
theorem k0_off152_inb : ∀ (v1676 : BitVec 32) (k0_hw139 : k0_chk139 v1676), ∀ a, (k0_off152 v1676) a + S32x4096.size a ≤ S4096x4096.size a := fun v1676 k0_hw139 => k0_hw139.1
theorem k0_off152_wordsi8 : ∀ (v1676 : BitVec 32) (k0_hw139 : k0_chk139 v1676), (Rect.unit (s := S4096x4096) (k0_off152 v1676) S32x4096.size (k0_off152_inb v1676 k0_hw139)).WholeWords (EltTy.packing .i8) := fun v1676 k0_hw139 => k0_hw139.2 (k0_off152_inb v1676 k0_hw139)

def k0_off153 (v1687 : BitVec 32) : Fin 2 → Nat :=
  let c128_i32_1665 : BitVec 32 := 128#32
  let v1690 : BitVec 32 := Scalar.muli v1687 c128_i32_1665
  let c0_i32_1666 : BitVec 32 := 0#32
  let v1691 : BitVec 32 := Scalar.addi v1690 c0_i32_1666
  let c0_i32_1672 : BitVec 32 := 0#32
  ![v1691.toNat, 0]

def k0_dev67 (v0 : BitVec 32) : Nat :=
  let c0_i32_1671 : BitVec 32 := 0#32
  let c1_i32_1670 : BitVec 32 := 1#32
  let v1692 : BitVec 32 := Scalar.muli v0 c1_i32_1670
  let v1693 : BitVec 32 := Scalar.addi c0_i32_1671 v1692
  v1693.toNat
def k0_off154 (v1700 : BitVec 32) : Fin 2 → Nat :=
  let c128_i32_1676 : BitVec 32 := 128#32
  let v1703 : BitVec 32 := Scalar.muli v1700 c128_i32_1676
  let c0_i32_1677 : BitVec 32 := 0#32
  let v1704 : BitVec 32 := Scalar.addi v1703 c0_i32_1677
  let c0_i32_1684 : BitVec 32 := 0#32
  ![v1704.toNat, 0]

def k0_chk141 (v1700 : BitVec 32) : Prop :=
  (∀ a, (k0_off154 v1700) a + S32x4096.size a ≤ S4096x4096.size a) ∧
  (∀ (hinb : ∀ a, (k0_off154 v1700) a + S32x4096.size a ≤ S4096x4096.size a), (Rect.unit (s := S4096x4096) (k0_off154 v1700) S32x4096.size hinb).WholeWords (EltTy.packing .i8))
theorem k0_off154_inb : ∀ (v1700 : BitVec 32) (k0_hw141 : k0_chk141 v1700), ∀ a, (k0_off154 v1700) a + S32x4096.size a ≤ S4096x4096.size a := fun v1700 k0_hw141 => k0_hw141.1
theorem k0_off154_wordsi8 : ∀ (v1700 : BitVec 32) (k0_hw141 : k0_chk141 v1700), (Rect.unit (s := S4096x4096) (k0_off154 v1700) S32x4096.size (k0_off154_inb v1700 k0_hw141)).WholeWords (EltTy.packing .i8) := fun v1700 k0_hw141 => k0_hw141.2 (k0_off154_inb v1700 k0_hw141)

def k0_off155 (v1711 : BitVec 32) : Fin 2 → Nat :=
  let c128_i32_1688 : BitVec 32 := 128#32
  let v1714 : BitVec 32 := Scalar.muli v1711 c128_i32_1688
  let c0_i32_1689 : BitVec 32 := 0#32
  let v1715 : BitVec 32 := Scalar.addi v1714 c0_i32_1689
  let c0_i32_1696 : BitVec 32 := 0#32
  ![v1715.toNat, 0]

def k0_dev68 (v1 : BitVec 32) : Nat :=
  let c0_i32_1695 : BitVec 32 := 0#32
  let c1_i32_1694 : BitVec 32 := 1#32
  let v1716 : BitVec 32 := Scalar.muli v1 c1_i32_1694
  let v1717 : BitVec 32 := Scalar.addi c0_i32_1695 v1716
  v1717.toNat
def k0_off156 (v1724 : BitVec 32) : Fin 2 → Nat :=
  let c128_i32_1701 : BitVec 32 := 128#32
  let v1727 : BitVec 32 := Scalar.muli v1724 c128_i32_1701
  let c32_i32_1702 : BitVec 32 := 32#32
  let v1728 : BitVec 32 := Scalar.addi v1727 c32_i32_1702
  let c0_i32_1709 : BitVec 32 := 0#32
  ![v1728.toNat, 0]

def k0_chk143 (v1724 : BitVec 32) : Prop :=
  (∀ a, (k0_off156 v1724) a + S32x4096.size a ≤ S4096x4096.size a) ∧
  (∀ (hinb : ∀ a, (k0_off156 v1724) a + S32x4096.size a ≤ S4096x4096.size a), (Rect.unit (s := S4096x4096) (k0_off156 v1724) S32x4096.size hinb).WholeWords (EltTy.packing .i8))
theorem k0_off156_inb : ∀ (v1724 : BitVec 32) (k0_hw143 : k0_chk143 v1724), ∀ a, (k0_off156 v1724) a + S32x4096.size a ≤ S4096x4096.size a := fun v1724 k0_hw143 => k0_hw143.1
theorem k0_off156_wordsi8 : ∀ (v1724 : BitVec 32) (k0_hw143 : k0_chk143 v1724), (Rect.unit (s := S4096x4096) (k0_off156 v1724) S32x4096.size (k0_off156_inb v1724 k0_hw143)).WholeWords (EltTy.packing .i8) := fun v1724 k0_hw143 => k0_hw143.2 (k0_off156_inb v1724 k0_hw143)

def k0_off157 (v1735 : BitVec 32) : Fin 2 → Nat :=
  let c128_i32_1714 : BitVec 32 := 128#32
  let v1738 : BitVec 32 := Scalar.muli v1735 c128_i32_1714
  let c32_i32_1715 : BitVec 32 := 32#32
  let v1739 : BitVec 32 := Scalar.addi v1738 c32_i32_1715
  let c0_i32_1722 : BitVec 32 := 0#32
  ![v1739.toNat, 0]

def k0_dev69 (v0 : BitVec 32) : Nat :=
  let c0_i32_1721 : BitVec 32 := 0#32
  let c1_i32_1720 : BitVec 32 := 1#32
  let v1740 : BitVec 32 := Scalar.muli v0 c1_i32_1720
  let v1741 : BitVec 32 := Scalar.addi c0_i32_1721 v1740
  v1741.toNat
def k0_off158 (v1748 : BitVec 32) : Fin 2 → Nat :=
  let c128_i32_1727 : BitVec 32 := 128#32
  let v1751 : BitVec 32 := Scalar.muli v1748 c128_i32_1727
  let c32_i32_1728 : BitVec 32 := 32#32
  let v1752 : BitVec 32 := Scalar.addi v1751 c32_i32_1728
  let c0_i32_1735 : BitVec 32 := 0#32
  ![v1752.toNat, 0]

def k0_chk145 (v1748 : BitVec 32) : Prop :=
  (∀ a, (k0_off158 v1748) a + S32x4096.size a ≤ S4096x4096.size a) ∧
  (∀ (hinb : ∀ a, (k0_off158 v1748) a + S32x4096.size a ≤ S4096x4096.size a), (Rect.unit (s := S4096x4096) (k0_off158 v1748) S32x4096.size hinb).WholeWords (EltTy.packing .i8))
theorem k0_off158_inb : ∀ (v1748 : BitVec 32) (k0_hw145 : k0_chk145 v1748), ∀ a, (k0_off158 v1748) a + S32x4096.size a ≤ S4096x4096.size a := fun v1748 k0_hw145 => k0_hw145.1
theorem k0_off158_wordsi8 : ∀ (v1748 : BitVec 32) (k0_hw145 : k0_chk145 v1748), (Rect.unit (s := S4096x4096) (k0_off158 v1748) S32x4096.size (k0_off158_inb v1748 k0_hw145)).WholeWords (EltTy.packing .i8) := fun v1748 k0_hw145 => k0_hw145.2 (k0_off158_inb v1748 k0_hw145)

def k0_off159 (v1759 : BitVec 32) : Fin 2 → Nat :=
  let c128_i32_1740 : BitVec 32 := 128#32
  let v1762 : BitVec 32 := Scalar.muli v1759 c128_i32_1740
  let c32_i32_1741 : BitVec 32 := 32#32
  let v1763 : BitVec 32 := Scalar.addi v1762 c32_i32_1741
  let c0_i32_1748 : BitVec 32 := 0#32
  ![v1763.toNat, 0]

def k0_dev70 (v1 : BitVec 32) : Nat :=
  let c0_i32_1747 : BitVec 32 := 0#32
  let c1_i32_1746 : BitVec 32 := 1#32
  let v1764 : BitVec 32 := Scalar.muli v1 c1_i32_1746
  let v1765 : BitVec 32 := Scalar.addi c0_i32_1747 v1764
  v1765.toNat
def k0_off160 (v1772 : BitVec 32) : Fin 2 → Nat :=
  let c128_i32_1753 : BitVec 32 := 128#32
  let v1775 : BitVec 32 := Scalar.muli v1772 c128_i32_1753
  let c64_i32_1754 : BitVec 32 := 64#32
  let v1776 : BitVec 32 := Scalar.addi v1775 c64_i32_1754
  let c0_i32_1761 : BitVec 32 := 0#32
  ![v1776.toNat, 0]

def k0_chk147 (v1772 : BitVec 32) : Prop :=
  (∀ a, (k0_off160 v1772) a + S32x4096.size a ≤ S4096x4096.size a) ∧
  (∀ (hinb : ∀ a, (k0_off160 v1772) a + S32x4096.size a ≤ S4096x4096.size a), (Rect.unit (s := S4096x4096) (k0_off160 v1772) S32x4096.size hinb).WholeWords (EltTy.packing .i8))
theorem k0_off160_inb : ∀ (v1772 : BitVec 32) (k0_hw147 : k0_chk147 v1772), ∀ a, (k0_off160 v1772) a + S32x4096.size a ≤ S4096x4096.size a := fun v1772 k0_hw147 => k0_hw147.1
theorem k0_off160_wordsi8 : ∀ (v1772 : BitVec 32) (k0_hw147 : k0_chk147 v1772), (Rect.unit (s := S4096x4096) (k0_off160 v1772) S32x4096.size (k0_off160_inb v1772 k0_hw147)).WholeWords (EltTy.packing .i8) := fun v1772 k0_hw147 => k0_hw147.2 (k0_off160_inb v1772 k0_hw147)

def k0_off161 (v1783 : BitVec 32) : Fin 2 → Nat :=
  let c128_i32_1766 : BitVec 32 := 128#32
  let v1786 : BitVec 32 := Scalar.muli v1783 c128_i32_1766
  let c64_i32_1767 : BitVec 32 := 64#32
  let v1787 : BitVec 32 := Scalar.addi v1786 c64_i32_1767
  let c0_i32_1774 : BitVec 32 := 0#32
  ![v1787.toNat, 0]

def k0_dev71 (v0 : BitVec 32) : Nat :=
  let c0_i32_1773 : BitVec 32 := 0#32
  let c1_i32_1772 : BitVec 32 := 1#32
  let v1788 : BitVec 32 := Scalar.muli v0 c1_i32_1772
  let v1789 : BitVec 32 := Scalar.addi c0_i32_1773 v1788
  v1789.toNat
def k0_off162 (v1796 : BitVec 32) : Fin 2 → Nat :=
  let c128_i32_1779 : BitVec 32 := 128#32
  let v1799 : BitVec 32 := Scalar.muli v1796 c128_i32_1779
  let c64_i32_1780 : BitVec 32 := 64#32
  let v1800 : BitVec 32 := Scalar.addi v1799 c64_i32_1780
  let c0_i32_1787 : BitVec 32 := 0#32
  ![v1800.toNat, 0]

def k0_chk149 (v1796 : BitVec 32) : Prop :=
  (∀ a, (k0_off162 v1796) a + S32x4096.size a ≤ S4096x4096.size a) ∧
  (∀ (hinb : ∀ a, (k0_off162 v1796) a + S32x4096.size a ≤ S4096x4096.size a), (Rect.unit (s := S4096x4096) (k0_off162 v1796) S32x4096.size hinb).WholeWords (EltTy.packing .i8))
theorem k0_off162_inb : ∀ (v1796 : BitVec 32) (k0_hw149 : k0_chk149 v1796), ∀ a, (k0_off162 v1796) a + S32x4096.size a ≤ S4096x4096.size a := fun v1796 k0_hw149 => k0_hw149.1
theorem k0_off162_wordsi8 : ∀ (v1796 : BitVec 32) (k0_hw149 : k0_chk149 v1796), (Rect.unit (s := S4096x4096) (k0_off162 v1796) S32x4096.size (k0_off162_inb v1796 k0_hw149)).WholeWords (EltTy.packing .i8) := fun v1796 k0_hw149 => k0_hw149.2 (k0_off162_inb v1796 k0_hw149)

def k0_off163 (v1807 : BitVec 32) : Fin 2 → Nat :=
  let c128_i32_1792 : BitVec 32 := 128#32
  let v1810 : BitVec 32 := Scalar.muli v1807 c128_i32_1792
  let c64_i32_1793 : BitVec 32 := 64#32
  let v1811 : BitVec 32 := Scalar.addi v1810 c64_i32_1793
  let c0_i32_1800 : BitVec 32 := 0#32
  ![v1811.toNat, 0]

def k0_dev72 (v1 : BitVec 32) : Nat :=
  let c0_i32_1799 : BitVec 32 := 0#32
  let c1_i32_1798 : BitVec 32 := 1#32
  let v1812 : BitVec 32 := Scalar.muli v1 c1_i32_1798
  let v1813 : BitVec 32 := Scalar.addi c0_i32_1799 v1812
  v1813.toNat
def k0_off164 (v1820 : BitVec 32) : Fin 2 → Nat :=
  let c128_i32_1805 : BitVec 32 := 128#32
  let v1823 : BitVec 32 := Scalar.muli v1820 c128_i32_1805
  let c96_i32_1806 : BitVec 32 := 96#32
  let v1824 : BitVec 32 := Scalar.addi v1823 c96_i32_1806
  let c0_i32_1813 : BitVec 32 := 0#32
  ![v1824.toNat, 0]

def k0_chk151 (v1820 : BitVec 32) : Prop :=
  (∀ a, (k0_off164 v1820) a + S32x4096.size a ≤ S4096x4096.size a) ∧
  (∀ (hinb : ∀ a, (k0_off164 v1820) a + S32x4096.size a ≤ S4096x4096.size a), (Rect.unit (s := S4096x4096) (k0_off164 v1820) S32x4096.size hinb).WholeWords (EltTy.packing .i8))
theorem k0_off164_inb : ∀ (v1820 : BitVec 32) (k0_hw151 : k0_chk151 v1820), ∀ a, (k0_off164 v1820) a + S32x4096.size a ≤ S4096x4096.size a := fun v1820 k0_hw151 => k0_hw151.1
theorem k0_off164_wordsi8 : ∀ (v1820 : BitVec 32) (k0_hw151 : k0_chk151 v1820), (Rect.unit (s := S4096x4096) (k0_off164 v1820) S32x4096.size (k0_off164_inb v1820 k0_hw151)).WholeWords (EltTy.packing .i8) := fun v1820 k0_hw151 => k0_hw151.2 (k0_off164_inb v1820 k0_hw151)

def k0_off165 (v1831 : BitVec 32) : Fin 2 → Nat :=
  let c128_i32_1818 : BitVec 32 := 128#32
  let v1834 : BitVec 32 := Scalar.muli v1831 c128_i32_1818
  let c96_i32_1819 : BitVec 32 := 96#32
  let v1835 : BitVec 32 := Scalar.addi v1834 c96_i32_1819
  let c0_i32_1826 : BitVec 32 := 0#32
  ![v1835.toNat, 0]

def k0_dev73 (v0 : BitVec 32) : Nat :=
  let c0_i32_1825 : BitVec 32 := 0#32
  let c1_i32_1824 : BitVec 32 := 1#32
  let v1836 : BitVec 32 := Scalar.muli v0 c1_i32_1824
  let v1837 : BitVec 32 := Scalar.addi c0_i32_1825 v1836
  v1837.toNat
def k0_off166 (v1844 : BitVec 32) : Fin 2 → Nat :=
  let c128_i32_1831 : BitVec 32 := 128#32
  let v1847 : BitVec 32 := Scalar.muli v1844 c128_i32_1831
  let c96_i32_1832 : BitVec 32 := 96#32
  let v1848 : BitVec 32 := Scalar.addi v1847 c96_i32_1832
  let c0_i32_1839 : BitVec 32 := 0#32
  ![v1848.toNat, 0]

def k0_chk153 (v1844 : BitVec 32) : Prop :=
  (∀ a, (k0_off166 v1844) a + S32x4096.size a ≤ S4096x4096.size a) ∧
  (∀ (hinb : ∀ a, (k0_off166 v1844) a + S32x4096.size a ≤ S4096x4096.size a), (Rect.unit (s := S4096x4096) (k0_off166 v1844) S32x4096.size hinb).WholeWords (EltTy.packing .i8))
theorem k0_off166_inb : ∀ (v1844 : BitVec 32) (k0_hw153 : k0_chk153 v1844), ∀ a, (k0_off166 v1844) a + S32x4096.size a ≤ S4096x4096.size a := fun v1844 k0_hw153 => k0_hw153.1
theorem k0_off166_wordsi8 : ∀ (v1844 : BitVec 32) (k0_hw153 : k0_chk153 v1844), (Rect.unit (s := S4096x4096) (k0_off166 v1844) S32x4096.size (k0_off166_inb v1844 k0_hw153)).WholeWords (EltTy.packing .i8) := fun v1844 k0_hw153 => k0_hw153.2 (k0_off166_inb v1844 k0_hw153)

def k0_off167 (v1855 : BitVec 32) : Fin 2 → Nat :=
  let c128_i32_1844 : BitVec 32 := 128#32
  let v1858 : BitVec 32 := Scalar.muli v1855 c128_i32_1844
  let c96_i32_1845 : BitVec 32 := 96#32
  let v1859 : BitVec 32 := Scalar.addi v1858 c96_i32_1845
  let c0_i32_1852 : BitVec 32 := 0#32
  ![v1859.toNat, 0]

def k0_dev74 (v1 : BitVec 32) : Nat :=
  let c0_i32_1851 : BitVec 32 := 0#32
  let c1_i32_1850 : BitVec 32 := 1#32
  let v1860 : BitVec 32 := Scalar.muli v1 c1_i32_1850
  let v1861 : BitVec 32 := Scalar.addi c0_i32_1851 v1860
  v1861.toNat
def k0_off168 (v1868 : BitVec 32) : Fin 2 → Nat :=
  let c128_i32_1855 : BitVec 32 := 128#32
  let v1869 : BitVec 32 := Scalar.muli v1868 c128_i32_1855
  let v1870 : Index := Scalar.indexCast v1869
  let c0_1856 : Index := 0#32
  ![v1870.toNat, 0]

def k0_off169 (v1868 : BitVec 32) : Fin 2 → Nat :=
  let c128_i32_1855 : BitVec 32 := 128#32
  let v1869 : BitVec 32 := Scalar.muli v1868 c128_i32_1855
  let v1880 : Index := Scalar.indexCast v1869
  let c0_1861 : Index := 0#32
  ![v1880.toNat, 0]

def k0_chk155 (v1868 : BitVec 32) : Prop :=
  (∀ a, (k0_off168 v1868) a + S128x4096.size a ≤ S4096x4096.size a) ∧
  (∀ a, (k0_off169 v1868) a + S128x64.size a ≤ S4096x64.size a)
theorem k0_off168_inb : ∀ (v1868 : BitVec 32) (k0_hw155 : k0_chk155 v1868), ∀ a, (k0_off168 v1868) a + S128x4096.size a ≤ S4096x4096.size a := fun v1868 k0_hw155 => k0_hw155.1
theorem k0_off169_inb : ∀ (v1868 : BitVec 32) (k0_hw155 : k0_chk155 v1868), ∀ a, (k0_off169 v1868) a + S128x64.size a ≤ S4096x64.size a := fun v1868 k0_hw155 => k0_hw155.2

def k0_off170 (v1882 : BitVec 32) : Fin 2 → Nat :=
  let c128_i32_1863 : BitVec 32 := 128#32
  let v1883 : BitVec 32 := Scalar.muli v1882 c128_i32_1863
  let v1884 : Index := Scalar.indexCast v1883
  let c0_1864 : Index := 0#32
  ![v1884.toNat, 0]

def k0_off171 (v1882 : BitVec 32) : Fin 2 → Nat :=
  let c128_i32_1863 : BitVec 32 := 128#32
  let v1883 : BitVec 32 := Scalar.muli v1882 c128_i32_1863
  let v1894 : Index := Scalar.indexCast v1883
  let c0_1869 : Index := 0#32
  ![v1894.toNat, 0]

def k0_chk156 (v1882 : BitVec 32) : Prop :=
  (∀ a, (k0_off170 v1882) a + S128x4096.size a ≤ S4096x4096.size a) ∧
  (∀ a, (k0_off171 v1882) a + S128x64.size a ≤ S4096x64.size a)
theorem k0_off170_inb : ∀ (v1882 : BitVec 32) (k0_hw156 : k0_chk156 v1882), ∀ a, (k0_off170 v1882) a + S128x4096.size a ≤ S4096x4096.size a := fun v1882 k0_hw156 => k0_hw156.1
theorem k0_off171_inb : ∀ (v1882 : BitVec 32) (k0_hw156 : k0_chk156 v1882), ∀ a, (k0_off171 v1882) a + S128x64.size a ≤ S4096x64.size a := fun v1882 k0_hw156 => k0_hw156.2

def k0_off172 (v1896 : BitVec 32) : Fin 2 → Nat :=
  let c128_i32_1872 : BitVec 32 := 128#32
  let v1899 : BitVec 32 := Scalar.muli v1896 c128_i32_1872
  let c0_i32_1873 : BitVec 32 := 0#32
  let v1900 : BitVec 32 := Scalar.addi v1899 c0_i32_1873
  let c0_i32_1880 : BitVec 32 := 0#32
  ![v1900.toNat, 0]

def k0_chk157 (v1896 : BitVec 32) : Prop :=
  (∀ a, (k0_off172 v1896) a + S32x4096.size a ≤ S4096x4096.size a) ∧
  (∀ (hinb : ∀ a, (k0_off172 v1896) a + S32x4096.size a ≤ S4096x4096.size a), (Rect.unit (s := S4096x4096) (k0_off172 v1896) S32x4096.size hinb).WholeWords (EltTy.packing .i8))
theorem k0_off172_inb : ∀ (v1896 : BitVec 32) (k0_hw157 : k0_chk157 v1896), ∀ a, (k0_off172 v1896) a + S32x4096.size a ≤ S4096x4096.size a := fun v1896 k0_hw157 => k0_hw157.1
theorem k0_off172_wordsi8 : ∀ (v1896 : BitVec 32) (k0_hw157 : k0_chk157 v1896), (Rect.unit (s := S4096x4096) (k0_off172 v1896) S32x4096.size (k0_off172_inb v1896 k0_hw157)).WholeWords (EltTy.packing .i8) := fun v1896 k0_hw157 => k0_hw157.2 (k0_off172_inb v1896 k0_hw157)

def k0_off173 (v1907 : BitVec 32) : Fin 2 → Nat :=
  let c128_i32_1884 : BitVec 32 := 128#32
  let v1910 : BitVec 32 := Scalar.muli v1907 c128_i32_1884
  let c0_i32_1885 : BitVec 32 := 0#32
  let v1911 : BitVec 32 := Scalar.addi v1910 c0_i32_1885
  let c0_i32_1891 : BitVec 32 := 0#32
  ![v1911.toNat, 0]

def k0_dev75 (v0 : BitVec 32) : Nat :=
  let c0_i32_1890 : BitVec 32 := 0#32
  let c1_i32_1889 : BitVec 32 := 1#32
  let v1912 : BitVec 32 := Scalar.muli v0 c1_i32_1889
  let v1913 : BitVec 32 := Scalar.addi c0_i32_1890 v1912
  v1913.toNat
def k0_off174 (v1920 : BitVec 32) : Fin 2 → Nat :=
  let c128_i32_1895 : BitVec 32 := 128#32
  let v1923 : BitVec 32 := Scalar.muli v1920 c128_i32_1895
  let c0_i32_1896 : BitVec 32 := 0#32
  let v1924 : BitVec 32 := Scalar.addi v1923 c0_i32_1896
  let c0_i32_1903 : BitVec 32 := 0#32
  ![v1924.toNat, 0]

def k0_chk159 (v1920 : BitVec 32) : Prop :=
  (∀ a, (k0_off174 v1920) a + S32x4096.size a ≤ S4096x4096.size a) ∧
  (∀ (hinb : ∀ a, (k0_off174 v1920) a + S32x4096.size a ≤ S4096x4096.size a), (Rect.unit (s := S4096x4096) (k0_off174 v1920) S32x4096.size hinb).WholeWords (EltTy.packing .i8))
theorem k0_off174_inb : ∀ (v1920 : BitVec 32) (k0_hw159 : k0_chk159 v1920), ∀ a, (k0_off174 v1920) a + S32x4096.size a ≤ S4096x4096.size a := fun v1920 k0_hw159 => k0_hw159.1
theorem k0_off174_wordsi8 : ∀ (v1920 : BitVec 32) (k0_hw159 : k0_chk159 v1920), (Rect.unit (s := S4096x4096) (k0_off174 v1920) S32x4096.size (k0_off174_inb v1920 k0_hw159)).WholeWords (EltTy.packing .i8) := fun v1920 k0_hw159 => k0_hw159.2 (k0_off174_inb v1920 k0_hw159)

def k0_off175 (v1931 : BitVec 32) : Fin 2 → Nat :=
  let c128_i32_1907 : BitVec 32 := 128#32
  let v1934 : BitVec 32 := Scalar.muli v1931 c128_i32_1907
  let c0_i32_1908 : BitVec 32 := 0#32
  let v1935 : BitVec 32 := Scalar.addi v1934 c0_i32_1908
  let c0_i32_1915 : BitVec 32 := 0#32
  ![v1935.toNat, 0]

def k0_dev76 (v1 : BitVec 32) : Nat :=
  let c0_i32_1914 : BitVec 32 := 0#32
  let c1_i32_1913 : BitVec 32 := 1#32
  let v1936 : BitVec 32 := Scalar.muli v1 c1_i32_1913
  let v1937 : BitVec 32 := Scalar.addi c0_i32_1914 v1936
  v1937.toNat
def k0_off176 (v1944 : BitVec 32) : Fin 2 → Nat :=
  let c128_i32_1920 : BitVec 32 := 128#32
  let v1947 : BitVec 32 := Scalar.muli v1944 c128_i32_1920
  let c32_i32_1921 : BitVec 32 := 32#32
  let v1948 : BitVec 32 := Scalar.addi v1947 c32_i32_1921
  let c0_i32_1928 : BitVec 32 := 0#32
  ![v1948.toNat, 0]

def k0_chk161 (v1944 : BitVec 32) : Prop :=
  (∀ a, (k0_off176 v1944) a + S32x4096.size a ≤ S4096x4096.size a) ∧
  (∀ (hinb : ∀ a, (k0_off176 v1944) a + S32x4096.size a ≤ S4096x4096.size a), (Rect.unit (s := S4096x4096) (k0_off176 v1944) S32x4096.size hinb).WholeWords (EltTy.packing .i8))
theorem k0_off176_inb : ∀ (v1944 : BitVec 32) (k0_hw161 : k0_chk161 v1944), ∀ a, (k0_off176 v1944) a + S32x4096.size a ≤ S4096x4096.size a := fun v1944 k0_hw161 => k0_hw161.1
theorem k0_off176_wordsi8 : ∀ (v1944 : BitVec 32) (k0_hw161 : k0_chk161 v1944), (Rect.unit (s := S4096x4096) (k0_off176 v1944) S32x4096.size (k0_off176_inb v1944 k0_hw161)).WholeWords (EltTy.packing .i8) := fun v1944 k0_hw161 => k0_hw161.2 (k0_off176_inb v1944 k0_hw161)

def k0_off177 (v1955 : BitVec 32) : Fin 2 → Nat :=
  let c128_i32_1933 : BitVec 32 := 128#32
  let v1958 : BitVec 32 := Scalar.muli v1955 c128_i32_1933
  let c32_i32_1934 : BitVec 32 := 32#32
  let v1959 : BitVec 32 := Scalar.addi v1958 c32_i32_1934
  let c0_i32_1941 : BitVec 32 := 0#32
  ![v1959.toNat, 0]

def k0_dev77 (v0 : BitVec 32) : Nat :=
  let c0_i32_1940 : BitVec 32 := 0#32
  let c1_i32_1939 : BitVec 32 := 1#32
  let v1960 : BitVec 32 := Scalar.muli v0 c1_i32_1939
  let v1961 : BitVec 32 := Scalar.addi c0_i32_1940 v1960
  v1961.toNat
def k0_off178 (v1968 : BitVec 32) : Fin 2 → Nat :=
  let c128_i32_1946 : BitVec 32 := 128#32
  let v1971 : BitVec 32 := Scalar.muli v1968 c128_i32_1946
  let c32_i32_1947 : BitVec 32 := 32#32
  let v1972 : BitVec 32 := Scalar.addi v1971 c32_i32_1947
  let c0_i32_1954 : BitVec 32 := 0#32
  ![v1972.toNat, 0]

def k0_chk163 (v1968 : BitVec 32) : Prop :=
  (∀ a, (k0_off178 v1968) a + S32x4096.size a ≤ S4096x4096.size a) ∧
  (∀ (hinb : ∀ a, (k0_off178 v1968) a + S32x4096.size a ≤ S4096x4096.size a), (Rect.unit (s := S4096x4096) (k0_off178 v1968) S32x4096.size hinb).WholeWords (EltTy.packing .i8))
theorem k0_off178_inb : ∀ (v1968 : BitVec 32) (k0_hw163 : k0_chk163 v1968), ∀ a, (k0_off178 v1968) a + S32x4096.size a ≤ S4096x4096.size a := fun v1968 k0_hw163 => k0_hw163.1
theorem k0_off178_wordsi8 : ∀ (v1968 : BitVec 32) (k0_hw163 : k0_chk163 v1968), (Rect.unit (s := S4096x4096) (k0_off178 v1968) S32x4096.size (k0_off178_inb v1968 k0_hw163)).WholeWords (EltTy.packing .i8) := fun v1968 k0_hw163 => k0_hw163.2 (k0_off178_inb v1968 k0_hw163)

def k0_off179 (v1979 : BitVec 32) : Fin 2 → Nat :=
  let c128_i32_1959 : BitVec 32 := 128#32
  let v1982 : BitVec 32 := Scalar.muli v1979 c128_i32_1959
  let c32_i32_1960 : BitVec 32 := 32#32
  let v1983 : BitVec 32 := Scalar.addi v1982 c32_i32_1960
  let c0_i32_1967 : BitVec 32 := 0#32
  ![v1983.toNat, 0]

def k0_dev78 (v1 : BitVec 32) : Nat :=
  let c0_i32_1966 : BitVec 32 := 0#32
  let c1_i32_1965 : BitVec 32 := 1#32
  let v1984 : BitVec 32 := Scalar.muli v1 c1_i32_1965
  let v1985 : BitVec 32 := Scalar.addi c0_i32_1966 v1984
  v1985.toNat
def k0_off180 (v1992 : BitVec 32) : Fin 2 → Nat :=
  let c128_i32_1972 : BitVec 32 := 128#32
  let v1995 : BitVec 32 := Scalar.muli v1992 c128_i32_1972
  let c64_i32_1973 : BitVec 32 := 64#32
  let v1996 : BitVec 32 := Scalar.addi v1995 c64_i32_1973
  let c0_i32_1980 : BitVec 32 := 0#32
  ![v1996.toNat, 0]

def k0_chk165 (v1992 : BitVec 32) : Prop :=
  (∀ a, (k0_off180 v1992) a + S32x4096.size a ≤ S4096x4096.size a) ∧
  (∀ (hinb : ∀ a, (k0_off180 v1992) a + S32x4096.size a ≤ S4096x4096.size a), (Rect.unit (s := S4096x4096) (k0_off180 v1992) S32x4096.size hinb).WholeWords (EltTy.packing .i8))
theorem k0_off180_inb : ∀ (v1992 : BitVec 32) (k0_hw165 : k0_chk165 v1992), ∀ a, (k0_off180 v1992) a + S32x4096.size a ≤ S4096x4096.size a := fun v1992 k0_hw165 => k0_hw165.1
theorem k0_off180_wordsi8 : ∀ (v1992 : BitVec 32) (k0_hw165 : k0_chk165 v1992), (Rect.unit (s := S4096x4096) (k0_off180 v1992) S32x4096.size (k0_off180_inb v1992 k0_hw165)).WholeWords (EltTy.packing .i8) := fun v1992 k0_hw165 => k0_hw165.2 (k0_off180_inb v1992 k0_hw165)

def k0_off181 (v2003 : BitVec 32) : Fin 2 → Nat :=
  let c128_i32_1985 : BitVec 32 := 128#32
  let v2006 : BitVec 32 := Scalar.muli v2003 c128_i32_1985
  let c64_i32_1986 : BitVec 32 := 64#32
  let v2007 : BitVec 32 := Scalar.addi v2006 c64_i32_1986
  let c0_i32_1993 : BitVec 32 := 0#32
  ![v2007.toNat, 0]

def k0_dev79 (v0 : BitVec 32) : Nat :=
  let c0_i32_1992 : BitVec 32 := 0#32
  let c1_i32_1991 : BitVec 32 := 1#32
  let v2008 : BitVec 32 := Scalar.muli v0 c1_i32_1991
  let v2009 : BitVec 32 := Scalar.addi c0_i32_1992 v2008
  v2009.toNat
def k0_off182 (v2016 : BitVec 32) : Fin 2 → Nat :=
  let c128_i32_1998 : BitVec 32 := 128#32
  let v2019 : BitVec 32 := Scalar.muli v2016 c128_i32_1998
  let c64_i32_1999 : BitVec 32 := 64#32
  let v2020 : BitVec 32 := Scalar.addi v2019 c64_i32_1999
  let c0_i32_2006 : BitVec 32 := 0#32
  ![v2020.toNat, 0]

def k0_chk167 (v2016 : BitVec 32) : Prop :=
  (∀ a, (k0_off182 v2016) a + S32x4096.size a ≤ S4096x4096.size a) ∧
  (∀ (hinb : ∀ a, (k0_off182 v2016) a + S32x4096.size a ≤ S4096x4096.size a), (Rect.unit (s := S4096x4096) (k0_off182 v2016) S32x4096.size hinb).WholeWords (EltTy.packing .i8))
theorem k0_off182_inb : ∀ (v2016 : BitVec 32) (k0_hw167 : k0_chk167 v2016), ∀ a, (k0_off182 v2016) a + S32x4096.size a ≤ S4096x4096.size a := fun v2016 k0_hw167 => k0_hw167.1
theorem k0_off182_wordsi8 : ∀ (v2016 : BitVec 32) (k0_hw167 : k0_chk167 v2016), (Rect.unit (s := S4096x4096) (k0_off182 v2016) S32x4096.size (k0_off182_inb v2016 k0_hw167)).WholeWords (EltTy.packing .i8) := fun v2016 k0_hw167 => k0_hw167.2 (k0_off182_inb v2016 k0_hw167)

def k0_off183 (v2027 : BitVec 32) : Fin 2 → Nat :=
  let c128_i32_2011 : BitVec 32 := 128#32
  let v2030 : BitVec 32 := Scalar.muli v2027 c128_i32_2011
  let c64_i32_2012 : BitVec 32 := 64#32
  let v2031 : BitVec 32 := Scalar.addi v2030 c64_i32_2012
  let c0_i32_2019 : BitVec 32 := 0#32
  ![v2031.toNat, 0]

def k0_dev80 (v1 : BitVec 32) : Nat :=
  let c0_i32_2018 : BitVec 32 := 0#32
  let c1_i32_2017 : BitVec 32 := 1#32
  let v2032 : BitVec 32 := Scalar.muli v1 c1_i32_2017
  let v2033 : BitVec 32 := Scalar.addi c0_i32_2018 v2032
  v2033.toNat
def k0_off184 (v2040 : BitVec 32) : Fin 2 → Nat :=
  let c128_i32_2024 : BitVec 32 := 128#32
  let v2043 : BitVec 32 := Scalar.muli v2040 c128_i32_2024
  let c96_i32_2025 : BitVec 32 := 96#32
  let v2044 : BitVec 32 := Scalar.addi v2043 c96_i32_2025
  let c0_i32_2032 : BitVec 32 := 0#32
  ![v2044.toNat, 0]

def k0_chk169 (v2040 : BitVec 32) : Prop :=
  (∀ a, (k0_off184 v2040) a + S32x4096.size a ≤ S4096x4096.size a) ∧
  (∀ (hinb : ∀ a, (k0_off184 v2040) a + S32x4096.size a ≤ S4096x4096.size a), (Rect.unit (s := S4096x4096) (k0_off184 v2040) S32x4096.size hinb).WholeWords (EltTy.packing .i8))
theorem k0_off184_inb : ∀ (v2040 : BitVec 32) (k0_hw169 : k0_chk169 v2040), ∀ a, (k0_off184 v2040) a + S32x4096.size a ≤ S4096x4096.size a := fun v2040 k0_hw169 => k0_hw169.1
theorem k0_off184_wordsi8 : ∀ (v2040 : BitVec 32) (k0_hw169 : k0_chk169 v2040), (Rect.unit (s := S4096x4096) (k0_off184 v2040) S32x4096.size (k0_off184_inb v2040 k0_hw169)).WholeWords (EltTy.packing .i8) := fun v2040 k0_hw169 => k0_hw169.2 (k0_off184_inb v2040 k0_hw169)

def k0_off185 (v2051 : BitVec 32) : Fin 2 → Nat :=
  let c128_i32_2037 : BitVec 32 := 128#32
  let v2054 : BitVec 32 := Scalar.muli v2051 c128_i32_2037
  let c96_i32_2038 : BitVec 32 := 96#32
  let v2055 : BitVec 32 := Scalar.addi v2054 c96_i32_2038
  let c0_i32_2045 : BitVec 32 := 0#32
  ![v2055.toNat, 0]

def k0_dev81 (v0 : BitVec 32) : Nat :=
  let c0_i32_2044 : BitVec 32 := 0#32
  let c1_i32_2043 : BitVec 32 := 1#32
  let v2056 : BitVec 32 := Scalar.muli v0 c1_i32_2043
  let v2057 : BitVec 32 := Scalar.addi c0_i32_2044 v2056
  v2057.toNat
def k0_off186 (v2064 : BitVec 32) : Fin 2 → Nat :=
  let c128_i32_2050 : BitVec 32 := 128#32
  let v2067 : BitVec 32 := Scalar.muli v2064 c128_i32_2050
  let c96_i32_2051 : BitVec 32 := 96#32
  let v2068 : BitVec 32 := Scalar.addi v2067 c96_i32_2051
  let c0_i32_2058 : BitVec 32 := 0#32
  ![v2068.toNat, 0]

def k0_chk171 (v2064 : BitVec 32) : Prop :=
  (∀ a, (k0_off186 v2064) a + S32x4096.size a ≤ S4096x4096.size a) ∧
  (∀ (hinb : ∀ a, (k0_off186 v2064) a + S32x4096.size a ≤ S4096x4096.size a), (Rect.unit (s := S4096x4096) (k0_off186 v2064) S32x4096.size hinb).WholeWords (EltTy.packing .i8))
theorem k0_off186_inb : ∀ (v2064 : BitVec 32) (k0_hw171 : k0_chk171 v2064), ∀ a, (k0_off186 v2064) a + S32x4096.size a ≤ S4096x4096.size a := fun v2064 k0_hw171 => k0_hw171.1
theorem k0_off186_wordsi8 : ∀ (v2064 : BitVec 32) (k0_hw171 : k0_chk171 v2064), (Rect.unit (s := S4096x4096) (k0_off186 v2064) S32x4096.size (k0_off186_inb v2064 k0_hw171)).WholeWords (EltTy.packing .i8) := fun v2064 k0_hw171 => k0_hw171.2 (k0_off186_inb v2064 k0_hw171)

def k0_off187 (v2075 : BitVec 32) : Fin 2 → Nat :=
  let c128_i32_2063 : BitVec 32 := 128#32
  let v2078 : BitVec 32 := Scalar.muli v2075 c128_i32_2063
  let c96_i32_2064 : BitVec 32 := 96#32
  let v2079 : BitVec 32 := Scalar.addi v2078 c96_i32_2064
  let c0_i32_2071 : BitVec 32 := 0#32
  ![v2079.toNat, 0]

def k0_dev82 (v1 : BitVec 32) : Nat :=
  let c0_i32_2070 : BitVec 32 := 0#32
  let c1_i32_2069 : BitVec 32 := 1#32
  let v2080 : BitVec 32 := Scalar.muli v1 c1_i32_2069
  let v2081 : BitVec 32 := Scalar.addi c0_i32_2070 v2080
  v2081.toNat
def k0_off188 (v2088 : BitVec 32) : Fin 2 → Nat :=
  let c128_i32_2074 : BitVec 32 := 128#32
  let v2089 : BitVec 32 := Scalar.muli v2088 c128_i32_2074
  let v2090 : Index := Scalar.indexCast v2089
  let c0_2075 : Index := 0#32
  ![v2090.toNat, 0]

def k0_off189 (v2088 : BitVec 32) : Fin 2 → Nat :=
  let c128_i32_2074 : BitVec 32 := 128#32
  let v2089 : BitVec 32 := Scalar.muli v2088 c128_i32_2074
  let v2100 : Index := Scalar.indexCast v2089
  let c0_2080 : Index := 0#32
  ![v2100.toNat, 0]

def k0_chk173 (v2088 : BitVec 32) : Prop :=
  (∀ a, (k0_off188 v2088) a + S128x4096.size a ≤ S4096x4096.size a) ∧
  (∀ a, (k0_off189 v2088) a + S128x64.size a ≤ S4096x64.size a)
theorem k0_off188_inb : ∀ (v2088 : BitVec 32) (k0_hw173 : k0_chk173 v2088), ∀ a, (k0_off188 v2088) a + S128x4096.size a ≤ S4096x4096.size a := fun v2088 k0_hw173 => k0_hw173.1
theorem k0_off189_inb : ∀ (v2088 : BitVec 32) (k0_hw173 : k0_chk173 v2088), ∀ a, (k0_off189 v2088) a + S128x64.size a ≤ S4096x64.size a := fun v2088 k0_hw173 => k0_hw173.2

def k0_off190 (v2102 : BitVec 32) : Fin 2 → Nat :=
  let c128_i32_2082 : BitVec 32 := 128#32
  let v2103 : BitVec 32 := Scalar.muli v2102 c128_i32_2082
  let v2104 : Index := Scalar.indexCast v2103
  let c0_2083 : Index := 0#32
  ![v2104.toNat, 0]

def k0_off191 (v2102 : BitVec 32) : Fin 2 → Nat :=
  let c128_i32_2082 : BitVec 32 := 128#32
  let v2103 : BitVec 32 := Scalar.muli v2102 c128_i32_2082
  let v2114 : Index := Scalar.indexCast v2103
  let c0_2088 : Index := 0#32
  ![v2114.toNat, 0]

def k0_chk174 (v2102 : BitVec 32) : Prop :=
  (∀ a, (k0_off190 v2102) a + S128x4096.size a ≤ S4096x4096.size a) ∧
  (∀ a, (k0_off191 v2102) a + S128x64.size a ≤ S4096x64.size a)
theorem k0_off190_inb : ∀ (v2102 : BitVec 32) (k0_hw174 : k0_chk174 v2102), ∀ a, (k0_off190 v2102) a + S128x4096.size a ≤ S4096x4096.size a := fun v2102 k0_hw174 => k0_hw174.1
theorem k0_off191_inb : ∀ (v2102 : BitVec 32) (k0_hw174 : k0_chk174 v2102), ∀ a, (k0_off191 v2102) a + S128x64.size a ≤ S4096x64.size a := fun v2102 k0_hw174 => k0_hw174.2

def k0_off192 (v2116 : BitVec 32) : Fin 2 → Nat :=
  let c128_i32_2091 : BitVec 32 := 128#32
  let v2119 : BitVec 32 := Scalar.muli v2116 c128_i32_2091
  let c0_i32_2092 : BitVec 32 := 0#32
  let v2120 : BitVec 32 := Scalar.addi v2119 c0_i32_2092
  let c0_i32_2099 : BitVec 32 := 0#32
  ![v2120.toNat, 0]

def k0_chk175 (v2116 : BitVec 32) : Prop :=
  (∀ a, (k0_off192 v2116) a + S32x4096.size a ≤ S4096x4096.size a) ∧
  (∀ (hinb : ∀ a, (k0_off192 v2116) a + S32x4096.size a ≤ S4096x4096.size a), (Rect.unit (s := S4096x4096) (k0_off192 v2116) S32x4096.size hinb).WholeWords (EltTy.packing .i8))
theorem k0_off192_inb : ∀ (v2116 : BitVec 32) (k0_hw175 : k0_chk175 v2116), ∀ a, (k0_off192 v2116) a + S32x4096.size a ≤ S4096x4096.size a := fun v2116 k0_hw175 => k0_hw175.1
theorem k0_off192_wordsi8 : ∀ (v2116 : BitVec 32) (k0_hw175 : k0_chk175 v2116), (Rect.unit (s := S4096x4096) (k0_off192 v2116) S32x4096.size (k0_off192_inb v2116 k0_hw175)).WholeWords (EltTy.packing .i8) := fun v2116 k0_hw175 => k0_hw175.2 (k0_off192_inb v2116 k0_hw175)

def k0_off193 (v2127 : BitVec 32) : Fin 2 → Nat :=
  let c128_i32_2103 : BitVec 32 := 128#32
  let v2130 : BitVec 32 := Scalar.muli v2127 c128_i32_2103
  let c0_i32_2104 : BitVec 32 := 0#32
  let v2131 : BitVec 32 := Scalar.addi v2130 c0_i32_2104
  let c0_i32_2110 : BitVec 32 := 0#32
  ![v2131.toNat, 0]

def k0_dev83 (v0 : BitVec 32) : Nat :=
  let c0_i32_2109 : BitVec 32 := 0#32
  let c1_i32_2108 : BitVec 32 := 1#32
  let v2132 : BitVec 32 := Scalar.muli v0 c1_i32_2108
  let v2133 : BitVec 32 := Scalar.addi c0_i32_2109 v2132
  v2133.toNat
def k0_off194 (v2140 : BitVec 32) : Fin 2 → Nat :=
  let c128_i32_2114 : BitVec 32 := 128#32
  let v2143 : BitVec 32 := Scalar.muli v2140 c128_i32_2114
  let c0_i32_2115 : BitVec 32 := 0#32
  let v2144 : BitVec 32 := Scalar.addi v2143 c0_i32_2115
  let c0_i32_2122 : BitVec 32 := 0#32
  ![v2144.toNat, 0]

def k0_chk177 (v2140 : BitVec 32) : Prop :=
  (∀ a, (k0_off194 v2140) a + S32x4096.size a ≤ S4096x4096.size a) ∧
  (∀ (hinb : ∀ a, (k0_off194 v2140) a + S32x4096.size a ≤ S4096x4096.size a), (Rect.unit (s := S4096x4096) (k0_off194 v2140) S32x4096.size hinb).WholeWords (EltTy.packing .i8))
theorem k0_off194_inb : ∀ (v2140 : BitVec 32) (k0_hw177 : k0_chk177 v2140), ∀ a, (k0_off194 v2140) a + S32x4096.size a ≤ S4096x4096.size a := fun v2140 k0_hw177 => k0_hw177.1
theorem k0_off194_wordsi8 : ∀ (v2140 : BitVec 32) (k0_hw177 : k0_chk177 v2140), (Rect.unit (s := S4096x4096) (k0_off194 v2140) S32x4096.size (k0_off194_inb v2140 k0_hw177)).WholeWords (EltTy.packing .i8) := fun v2140 k0_hw177 => k0_hw177.2 (k0_off194_inb v2140 k0_hw177)

def k0_off195 (v2151 : BitVec 32) : Fin 2 → Nat :=
  let c128_i32_2126 : BitVec 32 := 128#32
  let v2154 : BitVec 32 := Scalar.muli v2151 c128_i32_2126
  let c0_i32_2127 : BitVec 32 := 0#32
  let v2155 : BitVec 32 := Scalar.addi v2154 c0_i32_2127
  let c0_i32_2134 : BitVec 32 := 0#32
  ![v2155.toNat, 0]

def k0_dev84 (v1 : BitVec 32) : Nat :=
  let c0_i32_2133 : BitVec 32 := 0#32
  let c1_i32_2132 : BitVec 32 := 1#32
  let v2156 : BitVec 32 := Scalar.muli v1 c1_i32_2132
  let v2157 : BitVec 32 := Scalar.addi c0_i32_2133 v2156
  v2157.toNat
def k0_off196 (v2164 : BitVec 32) : Fin 2 → Nat :=
  let c128_i32_2139 : BitVec 32 := 128#32
  let v2167 : BitVec 32 := Scalar.muli v2164 c128_i32_2139
  let c32_i32_2140 : BitVec 32 := 32#32
  let v2168 : BitVec 32 := Scalar.addi v2167 c32_i32_2140
  let c0_i32_2147 : BitVec 32 := 0#32
  ![v2168.toNat, 0]

def k0_chk179 (v2164 : BitVec 32) : Prop :=
  (∀ a, (k0_off196 v2164) a + S32x4096.size a ≤ S4096x4096.size a) ∧
  (∀ (hinb : ∀ a, (k0_off196 v2164) a + S32x4096.size a ≤ S4096x4096.size a), (Rect.unit (s := S4096x4096) (k0_off196 v2164) S32x4096.size hinb).WholeWords (EltTy.packing .i8))
theorem k0_off196_inb : ∀ (v2164 : BitVec 32) (k0_hw179 : k0_chk179 v2164), ∀ a, (k0_off196 v2164) a + S32x4096.size a ≤ S4096x4096.size a := fun v2164 k0_hw179 => k0_hw179.1
theorem k0_off196_wordsi8 : ∀ (v2164 : BitVec 32) (k0_hw179 : k0_chk179 v2164), (Rect.unit (s := S4096x4096) (k0_off196 v2164) S32x4096.size (k0_off196_inb v2164 k0_hw179)).WholeWords (EltTy.packing .i8) := fun v2164 k0_hw179 => k0_hw179.2 (k0_off196_inb v2164 k0_hw179)

def k0_off197 (v2175 : BitVec 32) : Fin 2 → Nat :=
  let c128_i32_2152 : BitVec 32 := 128#32
  let v2178 : BitVec 32 := Scalar.muli v2175 c128_i32_2152
  let c32_i32_2153 : BitVec 32 := 32#32
  let v2179 : BitVec 32 := Scalar.addi v2178 c32_i32_2153
  let c0_i32_2160 : BitVec 32 := 0#32
  ![v2179.toNat, 0]

def k0_dev85 (v0 : BitVec 32) : Nat :=
  let c0_i32_2159 : BitVec 32 := 0#32
  let c1_i32_2158 : BitVec 32 := 1#32
  let v2180 : BitVec 32 := Scalar.muli v0 c1_i32_2158
  let v2181 : BitVec 32 := Scalar.addi c0_i32_2159 v2180
  v2181.toNat
def k0_off198 (v2188 : BitVec 32) : Fin 2 → Nat :=
  let c128_i32_2165 : BitVec 32 := 128#32
  let v2191 : BitVec 32 := Scalar.muli v2188 c128_i32_2165
  let c32_i32_2166 : BitVec 32 := 32#32
  let v2192 : BitVec 32 := Scalar.addi v2191 c32_i32_2166
  let c0_i32_2173 : BitVec 32 := 0#32
  ![v2192.toNat, 0]

def k0_chk181 (v2188 : BitVec 32) : Prop :=
  (∀ a, (k0_off198 v2188) a + S32x4096.size a ≤ S4096x4096.size a) ∧
  (∀ (hinb : ∀ a, (k0_off198 v2188) a + S32x4096.size a ≤ S4096x4096.size a), (Rect.unit (s := S4096x4096) (k0_off198 v2188) S32x4096.size hinb).WholeWords (EltTy.packing .i8))
theorem k0_off198_inb : ∀ (v2188 : BitVec 32) (k0_hw181 : k0_chk181 v2188), ∀ a, (k0_off198 v2188) a + S32x4096.size a ≤ S4096x4096.size a := fun v2188 k0_hw181 => k0_hw181.1
theorem k0_off198_wordsi8 : ∀ (v2188 : BitVec 32) (k0_hw181 : k0_chk181 v2188), (Rect.unit (s := S4096x4096) (k0_off198 v2188) S32x4096.size (k0_off198_inb v2188 k0_hw181)).WholeWords (EltTy.packing .i8) := fun v2188 k0_hw181 => k0_hw181.2 (k0_off198_inb v2188 k0_hw181)

def k0_off199 (v2199 : BitVec 32) : Fin 2 → Nat :=
  let c128_i32_2178 : BitVec 32 := 128#32
  let v2202 : BitVec 32 := Scalar.muli v2199 c128_i32_2178
  let c32_i32_2179 : BitVec 32 := 32#32
  let v2203 : BitVec 32 := Scalar.addi v2202 c32_i32_2179
  let c0_i32_2186 : BitVec 32 := 0#32
  ![v2203.toNat, 0]

def k0_dev86 (v1 : BitVec 32) : Nat :=
  let c0_i32_2185 : BitVec 32 := 0#32
  let c1_i32_2184 : BitVec 32 := 1#32
  let v2204 : BitVec 32 := Scalar.muli v1 c1_i32_2184
  let v2205 : BitVec 32 := Scalar.addi c0_i32_2185 v2204
  v2205.toNat
def k0_off200 (v2212 : BitVec 32) : Fin 2 → Nat :=
  let c128_i32_2191 : BitVec 32 := 128#32
  let v2215 : BitVec 32 := Scalar.muli v2212 c128_i32_2191
  let c64_i32_2192 : BitVec 32 := 64#32
  let v2216 : BitVec 32 := Scalar.addi v2215 c64_i32_2192
  let c0_i32_2199 : BitVec 32 := 0#32
  ![v2216.toNat, 0]

def k0_chk183 (v2212 : BitVec 32) : Prop :=
  (∀ a, (k0_off200 v2212) a + S32x4096.size a ≤ S4096x4096.size a) ∧
  (∀ (hinb : ∀ a, (k0_off200 v2212) a + S32x4096.size a ≤ S4096x4096.size a), (Rect.unit (s := S4096x4096) (k0_off200 v2212) S32x4096.size hinb).WholeWords (EltTy.packing .i8))
theorem k0_off200_inb : ∀ (v2212 : BitVec 32) (k0_hw183 : k0_chk183 v2212), ∀ a, (k0_off200 v2212) a + S32x4096.size a ≤ S4096x4096.size a := fun v2212 k0_hw183 => k0_hw183.1
theorem k0_off200_wordsi8 : ∀ (v2212 : BitVec 32) (k0_hw183 : k0_chk183 v2212), (Rect.unit (s := S4096x4096) (k0_off200 v2212) S32x4096.size (k0_off200_inb v2212 k0_hw183)).WholeWords (EltTy.packing .i8) := fun v2212 k0_hw183 => k0_hw183.2 (k0_off200_inb v2212 k0_hw183)

def k0_off201 (v2223 : BitVec 32) : Fin 2 → Nat :=
  let c128_i32_2204 : BitVec 32 := 128#32
  let v2226 : BitVec 32 := Scalar.muli v2223 c128_i32_2204
  let c64_i32_2205 : BitVec 32 := 64#32
  let v2227 : BitVec 32 := Scalar.addi v2226 c64_i32_2205
  let c0_i32_2212 : BitVec 32 := 0#32
  ![v2227.toNat, 0]

def k0_dev87 (v0 : BitVec 32) : Nat :=
  let c0_i32_2211 : BitVec 32 := 0#32
  let c1_i32_2210 : BitVec 32 := 1#32
  let v2228 : BitVec 32 := Scalar.muli v0 c1_i32_2210
  let v2229 : BitVec 32 := Scalar.addi c0_i32_2211 v2228
  v2229.toNat
def k0_off202 (v2236 : BitVec 32) : Fin 2 → Nat :=
  let c128_i32_2217 : BitVec 32 := 128#32
  let v2239 : BitVec 32 := Scalar.muli v2236 c128_i32_2217
  let c64_i32_2218 : BitVec 32 := 64#32
  let v2240 : BitVec 32 := Scalar.addi v2239 c64_i32_2218
  let c0_i32_2225 : BitVec 32 := 0#32
  ![v2240.toNat, 0]

def k0_chk185 (v2236 : BitVec 32) : Prop :=
  (∀ a, (k0_off202 v2236) a + S32x4096.size a ≤ S4096x4096.size a) ∧
  (∀ (hinb : ∀ a, (k0_off202 v2236) a + S32x4096.size a ≤ S4096x4096.size a), (Rect.unit (s := S4096x4096) (k0_off202 v2236) S32x4096.size hinb).WholeWords (EltTy.packing .i8))
theorem k0_off202_inb : ∀ (v2236 : BitVec 32) (k0_hw185 : k0_chk185 v2236), ∀ a, (k0_off202 v2236) a + S32x4096.size a ≤ S4096x4096.size a := fun v2236 k0_hw185 => k0_hw185.1
theorem k0_off202_wordsi8 : ∀ (v2236 : BitVec 32) (k0_hw185 : k0_chk185 v2236), (Rect.unit (s := S4096x4096) (k0_off202 v2236) S32x4096.size (k0_off202_inb v2236 k0_hw185)).WholeWords (EltTy.packing .i8) := fun v2236 k0_hw185 => k0_hw185.2 (k0_off202_inb v2236 k0_hw185)

def k0_off203 (v2247 : BitVec 32) : Fin 2 → Nat :=
  let c128_i32_2230 : BitVec 32 := 128#32
  let v2250 : BitVec 32 := Scalar.muli v2247 c128_i32_2230
  let c64_i32_2231 : BitVec 32 := 64#32
  let v2251 : BitVec 32 := Scalar.addi v2250 c64_i32_2231
  let c0_i32_2238 : BitVec 32 := 0#32
  ![v2251.toNat, 0]

def k0_dev88 (v1 : BitVec 32) : Nat :=
  let c0_i32_2237 : BitVec 32 := 0#32
  let c1_i32_2236 : BitVec 32 := 1#32
  let v2252 : BitVec 32 := Scalar.muli v1 c1_i32_2236
  let v2253 : BitVec 32 := Scalar.addi c0_i32_2237 v2252
  v2253.toNat
def k0_off204 (v2260 : BitVec 32) : Fin 2 → Nat :=
  let c128_i32_2243 : BitVec 32 := 128#32
  let v2263 : BitVec 32 := Scalar.muli v2260 c128_i32_2243
  let c96_i32_2244 : BitVec 32 := 96#32
  let v2264 : BitVec 32 := Scalar.addi v2263 c96_i32_2244
  let c0_i32_2251 : BitVec 32 := 0#32
  ![v2264.toNat, 0]

def k0_chk187 (v2260 : BitVec 32) : Prop :=
  (∀ a, (k0_off204 v2260) a + S32x4096.size a ≤ S4096x4096.size a) ∧
  (∀ (hinb : ∀ a, (k0_off204 v2260) a + S32x4096.size a ≤ S4096x4096.size a), (Rect.unit (s := S4096x4096) (k0_off204 v2260) S32x4096.size hinb).WholeWords (EltTy.packing .i8))
theorem k0_off204_inb : ∀ (v2260 : BitVec 32) (k0_hw187 : k0_chk187 v2260), ∀ a, (k0_off204 v2260) a + S32x4096.size a ≤ S4096x4096.size a := fun v2260 k0_hw187 => k0_hw187.1
theorem k0_off204_wordsi8 : ∀ (v2260 : BitVec 32) (k0_hw187 : k0_chk187 v2260), (Rect.unit (s := S4096x4096) (k0_off204 v2260) S32x4096.size (k0_off204_inb v2260 k0_hw187)).WholeWords (EltTy.packing .i8) := fun v2260 k0_hw187 => k0_hw187.2 (k0_off204_inb v2260 k0_hw187)

def k0_off205 (v2271 : BitVec 32) : Fin 2 → Nat :=
  let c128_i32_2256 : BitVec 32 := 128#32
  let v2274 : BitVec 32 := Scalar.muli v2271 c128_i32_2256
  let c96_i32_2257 : BitVec 32 := 96#32
  let v2275 : BitVec 32 := Scalar.addi v2274 c96_i32_2257
  let c0_i32_2264 : BitVec 32 := 0#32
  ![v2275.toNat, 0]

def k0_dev89 (v0 : BitVec 32) : Nat :=
  let c0_i32_2263 : BitVec 32 := 0#32
  let c1_i32_2262 : BitVec 32 := 1#32
  let v2276 : BitVec 32 := Scalar.muli v0 c1_i32_2262
  let v2277 : BitVec 32 := Scalar.addi c0_i32_2263 v2276
  v2277.toNat
def k0_off206 (v2284 : BitVec 32) : Fin 2 → Nat :=
  let c128_i32_2269 : BitVec 32 := 128#32
  let v2287 : BitVec 32 := Scalar.muli v2284 c128_i32_2269
  let c96_i32_2270 : BitVec 32 := 96#32
  let v2288 : BitVec 32 := Scalar.addi v2287 c96_i32_2270
  let c0_i32_2277 : BitVec 32 := 0#32
  ![v2288.toNat, 0]

def k0_chk189 (v2284 : BitVec 32) : Prop :=
  (∀ a, (k0_off206 v2284) a + S32x4096.size a ≤ S4096x4096.size a) ∧
  (∀ (hinb : ∀ a, (k0_off206 v2284) a + S32x4096.size a ≤ S4096x4096.size a), (Rect.unit (s := S4096x4096) (k0_off206 v2284) S32x4096.size hinb).WholeWords (EltTy.packing .i8))
theorem k0_off206_inb : ∀ (v2284 : BitVec 32) (k0_hw189 : k0_chk189 v2284), ∀ a, (k0_off206 v2284) a + S32x4096.size a ≤ S4096x4096.size a := fun v2284 k0_hw189 => k0_hw189.1
theorem k0_off206_wordsi8 : ∀ (v2284 : BitVec 32) (k0_hw189 : k0_chk189 v2284), (Rect.unit (s := S4096x4096) (k0_off206 v2284) S32x4096.size (k0_off206_inb v2284 k0_hw189)).WholeWords (EltTy.packing .i8) := fun v2284 k0_hw189 => k0_hw189.2 (k0_off206_inb v2284 k0_hw189)

def k0_off207 (v2295 : BitVec 32) : Fin 2 → Nat :=
  let c128_i32_2282 : BitVec 32 := 128#32
  let v2298 : BitVec 32 := Scalar.muli v2295 c128_i32_2282
  let c96_i32_2283 : BitVec 32 := 96#32
  let v2299 : BitVec 32 := Scalar.addi v2298 c96_i32_2283
  let c0_i32_2290 : BitVec 32 := 0#32
  ![v2299.toNat, 0]

def k0_dev90 (v1 : BitVec 32) : Nat :=
  let c0_i32_2289 : BitVec 32 := 0#32
  let c1_i32_2288 : BitVec 32 := 1#32
  let v2300 : BitVec 32 := Scalar.muli v1 c1_i32_2288
  let v2301 : BitVec 32 := Scalar.addi c0_i32_2289 v2300
  v2301.toNat
def k0_off208 (v2308 : BitVec 32) : Fin 2 → Nat :=
  let c128_i32_2293 : BitVec 32 := 128#32
  let v2309 : BitVec 32 := Scalar.muli v2308 c128_i32_2293
  let v2310 : Index := Scalar.indexCast v2309
  let c0_2294 : Index := 0#32
  ![v2310.toNat, 0]

def k0_off209 (v2308 : BitVec 32) : Fin 2 → Nat :=
  let c128_i32_2293 : BitVec 32 := 128#32
  let v2309 : BitVec 32 := Scalar.muli v2308 c128_i32_2293
  let v2320 : Index := Scalar.indexCast v2309
  let c0_2299 : Index := 0#32
  ![v2320.toNat, 0]

def k0_chk191 (v2308 : BitVec 32) : Prop :=
  (∀ a, (k0_off208 v2308) a + S128x4096.size a ≤ S4096x4096.size a) ∧
  (∀ a, (k0_off209 v2308) a + S128x64.size a ≤ S4096x64.size a)
theorem k0_off208_inb : ∀ (v2308 : BitVec 32) (k0_hw191 : k0_chk191 v2308), ∀ a, (k0_off208 v2308) a + S128x4096.size a ≤ S4096x4096.size a := fun v2308 k0_hw191 => k0_hw191.1
theorem k0_off209_inb : ∀ (v2308 : BitVec 32) (k0_hw191 : k0_chk191 v2308), ∀ a, (k0_off209 v2308) a + S128x64.size a ≤ S4096x64.size a := fun v2308 k0_hw191 => k0_hw191.2

def k0_off210 (v2322 : BitVec 32) : Fin 2 → Nat :=
  let c128_i32_2301 : BitVec 32 := 128#32
  let v2323 : BitVec 32 := Scalar.muli v2322 c128_i32_2301
  let v2324 : Index := Scalar.indexCast v2323
  let c0_2302 : Index := 0#32
  ![v2324.toNat, 0]

def k0_off211 (v2322 : BitVec 32) : Fin 2 → Nat :=
  let c128_i32_2301 : BitVec 32 := 128#32
  let v2323 : BitVec 32 := Scalar.muli v2322 c128_i32_2301
  let v2334 : Index := Scalar.indexCast v2323
  let c0_2307 : Index := 0#32
  ![v2334.toNat, 0]

def k0_chk192 (v2322 : BitVec 32) : Prop :=
  (∀ a, (k0_off210 v2322) a + S128x4096.size a ≤ S4096x4096.size a) ∧
  (∀ a, (k0_off211 v2322) a + S128x64.size a ≤ S4096x64.size a)
theorem k0_off210_inb : ∀ (v2322 : BitVec 32) (k0_hw192 : k0_chk192 v2322), ∀ a, (k0_off210 v2322) a + S128x4096.size a ≤ S4096x4096.size a := fun v2322 k0_hw192 => k0_hw192.1
theorem k0_off211_inb : ∀ (v2322 : BitVec 32) (k0_hw192 : k0_chk192 v2322), ∀ a, (k0_off211 v2322) a + S128x64.size a ≤ S4096x64.size a := fun v2322 k0_hw192 => k0_hw192.2

def k0_off212 (v2336 : BitVec 32) : Fin 2 → Nat :=
  let c128_i32_2310 : BitVec 32 := 128#32
  let v2339 : BitVec 32 := Scalar.muli v2336 c128_i32_2310
  let c0_i32_2311 : BitVec 32 := 0#32
  let v2340 : BitVec 32 := Scalar.addi v2339 c0_i32_2311
  let c0_i32_2318 : BitVec 32 := 0#32
  ![v2340.toNat, 0]

def k0_chk193 (v2336 : BitVec 32) : Prop :=
  (∀ a, (k0_off212 v2336) a + S32x4096.size a ≤ S4096x4096.size a) ∧
  (∀ (hinb : ∀ a, (k0_off212 v2336) a + S32x4096.size a ≤ S4096x4096.size a), (Rect.unit (s := S4096x4096) (k0_off212 v2336) S32x4096.size hinb).WholeWords (EltTy.packing .i8))
theorem k0_off212_inb : ∀ (v2336 : BitVec 32) (k0_hw193 : k0_chk193 v2336), ∀ a, (k0_off212 v2336) a + S32x4096.size a ≤ S4096x4096.size a := fun v2336 k0_hw193 => k0_hw193.1
theorem k0_off212_wordsi8 : ∀ (v2336 : BitVec 32) (k0_hw193 : k0_chk193 v2336), (Rect.unit (s := S4096x4096) (k0_off212 v2336) S32x4096.size (k0_off212_inb v2336 k0_hw193)).WholeWords (EltTy.packing .i8) := fun v2336 k0_hw193 => k0_hw193.2 (k0_off212_inb v2336 k0_hw193)

def k0_off213 (v2347 : BitVec 32) : Fin 2 → Nat :=
  let c128_i32_2322 : BitVec 32 := 128#32
  let v2350 : BitVec 32 := Scalar.muli v2347 c128_i32_2322
  let c0_i32_2323 : BitVec 32 := 0#32
  let v2351 : BitVec 32 := Scalar.addi v2350 c0_i32_2323
  let c0_i32_2329 : BitVec 32 := 0#32
  ![v2351.toNat, 0]

def k0_dev91 (v0 : BitVec 32) : Nat :=
  let c0_i32_2328 : BitVec 32 := 0#32
  let c1_i32_2327 : BitVec 32 := 1#32
  let v2352 : BitVec 32 := Scalar.muli v0 c1_i32_2327
  let v2353 : BitVec 32 := Scalar.addi c0_i32_2328 v2352
  v2353.toNat
def k0_off214 (v2360 : BitVec 32) : Fin 2 → Nat :=
  let c128_i32_2333 : BitVec 32 := 128#32
  let v2363 : BitVec 32 := Scalar.muli v2360 c128_i32_2333
  let c0_i32_2334 : BitVec 32 := 0#32
  let v2364 : BitVec 32 := Scalar.addi v2363 c0_i32_2334
  let c0_i32_2341 : BitVec 32 := 0#32
  ![v2364.toNat, 0]

def k0_chk195 (v2360 : BitVec 32) : Prop :=
  (∀ a, (k0_off214 v2360) a + S32x4096.size a ≤ S4096x4096.size a) ∧
  (∀ (hinb : ∀ a, (k0_off214 v2360) a + S32x4096.size a ≤ S4096x4096.size a), (Rect.unit (s := S4096x4096) (k0_off214 v2360) S32x4096.size hinb).WholeWords (EltTy.packing .i8))
theorem k0_off214_inb : ∀ (v2360 : BitVec 32) (k0_hw195 : k0_chk195 v2360), ∀ a, (k0_off214 v2360) a + S32x4096.size a ≤ S4096x4096.size a := fun v2360 k0_hw195 => k0_hw195.1
theorem k0_off214_wordsi8 : ∀ (v2360 : BitVec 32) (k0_hw195 : k0_chk195 v2360), (Rect.unit (s := S4096x4096) (k0_off214 v2360) S32x4096.size (k0_off214_inb v2360 k0_hw195)).WholeWords (EltTy.packing .i8) := fun v2360 k0_hw195 => k0_hw195.2 (k0_off214_inb v2360 k0_hw195)

def k0_off215 (v2371 : BitVec 32) : Fin 2 → Nat :=
  let c128_i32_2345 : BitVec 32 := 128#32
  let v2374 : BitVec 32 := Scalar.muli v2371 c128_i32_2345
  let c0_i32_2346 : BitVec 32 := 0#32
  let v2375 : BitVec 32 := Scalar.addi v2374 c0_i32_2346
  let c0_i32_2353 : BitVec 32 := 0#32
  ![v2375.toNat, 0]

def k0_dev92 (v1 : BitVec 32) : Nat :=
  let c0_i32_2352 : BitVec 32 := 0#32
  let c1_i32_2351 : BitVec 32 := 1#32
  let v2376 : BitVec 32 := Scalar.muli v1 c1_i32_2351
  let v2377 : BitVec 32 := Scalar.addi c0_i32_2352 v2376
  v2377.toNat
def k0_off216 (v2384 : BitVec 32) : Fin 2 → Nat :=
  let c128_i32_2358 : BitVec 32 := 128#32
  let v2387 : BitVec 32 := Scalar.muli v2384 c128_i32_2358
  let c32_i32_2359 : BitVec 32 := 32#32
  let v2388 : BitVec 32 := Scalar.addi v2387 c32_i32_2359
  let c0_i32_2366 : BitVec 32 := 0#32
  ![v2388.toNat, 0]

def k0_chk197 (v2384 : BitVec 32) : Prop :=
  (∀ a, (k0_off216 v2384) a + S32x4096.size a ≤ S4096x4096.size a) ∧
  (∀ (hinb : ∀ a, (k0_off216 v2384) a + S32x4096.size a ≤ S4096x4096.size a), (Rect.unit (s := S4096x4096) (k0_off216 v2384) S32x4096.size hinb).WholeWords (EltTy.packing .i8))
theorem k0_off216_inb : ∀ (v2384 : BitVec 32) (k0_hw197 : k0_chk197 v2384), ∀ a, (k0_off216 v2384) a + S32x4096.size a ≤ S4096x4096.size a := fun v2384 k0_hw197 => k0_hw197.1
theorem k0_off216_wordsi8 : ∀ (v2384 : BitVec 32) (k0_hw197 : k0_chk197 v2384), (Rect.unit (s := S4096x4096) (k0_off216 v2384) S32x4096.size (k0_off216_inb v2384 k0_hw197)).WholeWords (EltTy.packing .i8) := fun v2384 k0_hw197 => k0_hw197.2 (k0_off216_inb v2384 k0_hw197)

def k0_off217 (v2395 : BitVec 32) : Fin 2 → Nat :=
  let c128_i32_2371 : BitVec 32 := 128#32
  let v2398 : BitVec 32 := Scalar.muli v2395 c128_i32_2371
  let c32_i32_2372 : BitVec 32 := 32#32
  let v2399 : BitVec 32 := Scalar.addi v2398 c32_i32_2372
  let c0_i32_2379 : BitVec 32 := 0#32
  ![v2399.toNat, 0]

def k0_dev93 (v0 : BitVec 32) : Nat :=
  let c0_i32_2378 : BitVec 32 := 0#32
  let c1_i32_2377 : BitVec 32 := 1#32
  let v2400 : BitVec 32 := Scalar.muli v0 c1_i32_2377
  let v2401 : BitVec 32 := Scalar.addi c0_i32_2378 v2400
  v2401.toNat
def k0_off218 (v2408 : BitVec 32) : Fin 2 → Nat :=
  let c128_i32_2384 : BitVec 32 := 128#32
  let v2411 : BitVec 32 := Scalar.muli v2408 c128_i32_2384
  let c32_i32_2385 : BitVec 32 := 32#32
  let v2412 : BitVec 32 := Scalar.addi v2411 c32_i32_2385
  let c0_i32_2392 : BitVec 32 := 0#32
  ![v2412.toNat, 0]

def k0_chk199 (v2408 : BitVec 32) : Prop :=
  (∀ a, (k0_off218 v2408) a + S32x4096.size a ≤ S4096x4096.size a) ∧
  (∀ (hinb : ∀ a, (k0_off218 v2408) a + S32x4096.size a ≤ S4096x4096.size a), (Rect.unit (s := S4096x4096) (k0_off218 v2408) S32x4096.size hinb).WholeWords (EltTy.packing .i8))
theorem k0_off218_inb : ∀ (v2408 : BitVec 32) (k0_hw199 : k0_chk199 v2408), ∀ a, (k0_off218 v2408) a + S32x4096.size a ≤ S4096x4096.size a := fun v2408 k0_hw199 => k0_hw199.1
theorem k0_off218_wordsi8 : ∀ (v2408 : BitVec 32) (k0_hw199 : k0_chk199 v2408), (Rect.unit (s := S4096x4096) (k0_off218 v2408) S32x4096.size (k0_off218_inb v2408 k0_hw199)).WholeWords (EltTy.packing .i8) := fun v2408 k0_hw199 => k0_hw199.2 (k0_off218_inb v2408 k0_hw199)

def k0_off219 (v2419 : BitVec 32) : Fin 2 → Nat :=
  let c128_i32_2397 : BitVec 32 := 128#32
  let v2422 : BitVec 32 := Scalar.muli v2419 c128_i32_2397
  let c32_i32_2398 : BitVec 32 := 32#32
  let v2423 : BitVec 32 := Scalar.addi v2422 c32_i32_2398
  let c0_i32_2405 : BitVec 32 := 0#32
  ![v2423.toNat, 0]

def k0_dev94 (v1 : BitVec 32) : Nat :=
  let c0_i32_2404 : BitVec 32 := 0#32
  let c1_i32_2403 : BitVec 32 := 1#32
  let v2424 : BitVec 32 := Scalar.muli v1 c1_i32_2403
  let v2425 : BitVec 32 := Scalar.addi c0_i32_2404 v2424
  v2425.toNat
def k0_off220 (v2432 : BitVec 32) : Fin 2 → Nat :=
  let c128_i32_2410 : BitVec 32 := 128#32
  let v2435 : BitVec 32 := Scalar.muli v2432 c128_i32_2410
  let c64_i32_2411 : BitVec 32 := 64#32
  let v2436 : BitVec 32 := Scalar.addi v2435 c64_i32_2411
  let c0_i32_2418 : BitVec 32 := 0#32
  ![v2436.toNat, 0]

def k0_chk201 (v2432 : BitVec 32) : Prop :=
  (∀ a, (k0_off220 v2432) a + S32x4096.size a ≤ S4096x4096.size a) ∧
  (∀ (hinb : ∀ a, (k0_off220 v2432) a + S32x4096.size a ≤ S4096x4096.size a), (Rect.unit (s := S4096x4096) (k0_off220 v2432) S32x4096.size hinb).WholeWords (EltTy.packing .i8))
theorem k0_off220_inb : ∀ (v2432 : BitVec 32) (k0_hw201 : k0_chk201 v2432), ∀ a, (k0_off220 v2432) a + S32x4096.size a ≤ S4096x4096.size a := fun v2432 k0_hw201 => k0_hw201.1
theorem k0_off220_wordsi8 : ∀ (v2432 : BitVec 32) (k0_hw201 : k0_chk201 v2432), (Rect.unit (s := S4096x4096) (k0_off220 v2432) S32x4096.size (k0_off220_inb v2432 k0_hw201)).WholeWords (EltTy.packing .i8) := fun v2432 k0_hw201 => k0_hw201.2 (k0_off220_inb v2432 k0_hw201)

def k0_off221 (v2443 : BitVec 32) : Fin 2 → Nat :=
  let c128_i32_2423 : BitVec 32 := 128#32
  let v2446 : BitVec 32 := Scalar.muli v2443 c128_i32_2423
  let c64_i32_2424 : BitVec 32 := 64#32
  let v2447 : BitVec 32 := Scalar.addi v2446 c64_i32_2424
  let c0_i32_2431 : BitVec 32 := 0#32
  ![v2447.toNat, 0]

def k0_dev95 (v0 : BitVec 32) : Nat :=
  let c0_i32_2430 : BitVec 32 := 0#32
  let c1_i32_2429 : BitVec 32 := 1#32
  let v2448 : BitVec 32 := Scalar.muli v0 c1_i32_2429
  let v2449 : BitVec 32 := Scalar.addi c0_i32_2430 v2448
  v2449.toNat
def k0_off222 (v2456 : BitVec 32) : Fin 2 → Nat :=
  let c128_i32_2436 : BitVec 32 := 128#32
  let v2459 : BitVec 32 := Scalar.muli v2456 c128_i32_2436
  let c64_i32_2437 : BitVec 32 := 64#32
  let v2460 : BitVec 32 := Scalar.addi v2459 c64_i32_2437
  let c0_i32_2444 : BitVec 32 := 0#32
  ![v2460.toNat, 0]

def k0_chk203 (v2456 : BitVec 32) : Prop :=
  (∀ a, (k0_off222 v2456) a + S32x4096.size a ≤ S4096x4096.size a) ∧
  (∀ (hinb : ∀ a, (k0_off222 v2456) a + S32x4096.size a ≤ S4096x4096.size a), (Rect.unit (s := S4096x4096) (k0_off222 v2456) S32x4096.size hinb).WholeWords (EltTy.packing .i8))
theorem k0_off222_inb : ∀ (v2456 : BitVec 32) (k0_hw203 : k0_chk203 v2456), ∀ a, (k0_off222 v2456) a + S32x4096.size a ≤ S4096x4096.size a := fun v2456 k0_hw203 => k0_hw203.1
theorem k0_off222_wordsi8 : ∀ (v2456 : BitVec 32) (k0_hw203 : k0_chk203 v2456), (Rect.unit (s := S4096x4096) (k0_off222 v2456) S32x4096.size (k0_off222_inb v2456 k0_hw203)).WholeWords (EltTy.packing .i8) := fun v2456 k0_hw203 => k0_hw203.2 (k0_off222_inb v2456 k0_hw203)

def k0_off223 (v2467 : BitVec 32) : Fin 2 → Nat :=
  let c128_i32_2449 : BitVec 32 := 128#32
  let v2470 : BitVec 32 := Scalar.muli v2467 c128_i32_2449
  let c64_i32_2450 : BitVec 32 := 64#32
  let v2471 : BitVec 32 := Scalar.addi v2470 c64_i32_2450
  let c0_i32_2457 : BitVec 32 := 0#32
  ![v2471.toNat, 0]

def k0_dev96 (v1 : BitVec 32) : Nat :=
  let c0_i32_2456 : BitVec 32 := 0#32
  let c1_i32_2455 : BitVec 32 := 1#32
  let v2472 : BitVec 32 := Scalar.muli v1 c1_i32_2455
  let v2473 : BitVec 32 := Scalar.addi c0_i32_2456 v2472
  v2473.toNat
def k0_off224 (v2480 : BitVec 32) : Fin 2 → Nat :=
  let c128_i32_2462 : BitVec 32 := 128#32
  let v2483 : BitVec 32 := Scalar.muli v2480 c128_i32_2462
  let c96_i32_2463 : BitVec 32 := 96#32
  let v2484 : BitVec 32 := Scalar.addi v2483 c96_i32_2463
  let c0_i32_2470 : BitVec 32 := 0#32
  ![v2484.toNat, 0]

def k0_chk205 (v2480 : BitVec 32) : Prop :=
  (∀ a, (k0_off224 v2480) a + S32x4096.size a ≤ S4096x4096.size a) ∧
  (∀ (hinb : ∀ a, (k0_off224 v2480) a + S32x4096.size a ≤ S4096x4096.size a), (Rect.unit (s := S4096x4096) (k0_off224 v2480) S32x4096.size hinb).WholeWords (EltTy.packing .i8))
theorem k0_off224_inb : ∀ (v2480 : BitVec 32) (k0_hw205 : k0_chk205 v2480), ∀ a, (k0_off224 v2480) a + S32x4096.size a ≤ S4096x4096.size a := fun v2480 k0_hw205 => k0_hw205.1
theorem k0_off224_wordsi8 : ∀ (v2480 : BitVec 32) (k0_hw205 : k0_chk205 v2480), (Rect.unit (s := S4096x4096) (k0_off224 v2480) S32x4096.size (k0_off224_inb v2480 k0_hw205)).WholeWords (EltTy.packing .i8) := fun v2480 k0_hw205 => k0_hw205.2 (k0_off224_inb v2480 k0_hw205)

def k0_off225 (v2491 : BitVec 32) : Fin 2 → Nat :=
  let c128_i32_2475 : BitVec 32 := 128#32
  let v2494 : BitVec 32 := Scalar.muli v2491 c128_i32_2475
  let c96_i32_2476 : BitVec 32 := 96#32
  let v2495 : BitVec 32 := Scalar.addi v2494 c96_i32_2476
  let c0_i32_2483 : BitVec 32 := 0#32
  ![v2495.toNat, 0]

def k0_dev97 (v0 : BitVec 32) : Nat :=
  let c0_i32_2482 : BitVec 32 := 0#32
  let c1_i32_2481 : BitVec 32 := 1#32
  let v2496 : BitVec 32 := Scalar.muli v0 c1_i32_2481
  let v2497 : BitVec 32 := Scalar.addi c0_i32_2482 v2496
  v2497.toNat
def k0_off226 (v2504 : BitVec 32) : Fin 2 → Nat :=
  let c128_i32_2488 : BitVec 32 := 128#32
  let v2507 : BitVec 32 := Scalar.muli v2504 c128_i32_2488
  let c96_i32_2489 : BitVec 32 := 96#32
  let v2508 : BitVec 32 := Scalar.addi v2507 c96_i32_2489
  let c0_i32_2496 : BitVec 32 := 0#32
  ![v2508.toNat, 0]

def k0_chk207 (v2504 : BitVec 32) : Prop :=
  (∀ a, (k0_off226 v2504) a + S32x4096.size a ≤ S4096x4096.size a) ∧
  (∀ (hinb : ∀ a, (k0_off226 v2504) a + S32x4096.size a ≤ S4096x4096.size a), (Rect.unit (s := S4096x4096) (k0_off226 v2504) S32x4096.size hinb).WholeWords (EltTy.packing .i8))
theorem k0_off226_inb : ∀ (v2504 : BitVec 32) (k0_hw207 : k0_chk207 v2504), ∀ a, (k0_off226 v2504) a + S32x4096.size a ≤ S4096x4096.size a := fun v2504 k0_hw207 => k0_hw207.1
theorem k0_off226_wordsi8 : ∀ (v2504 : BitVec 32) (k0_hw207 : k0_chk207 v2504), (Rect.unit (s := S4096x4096) (k0_off226 v2504) S32x4096.size (k0_off226_inb v2504 k0_hw207)).WholeWords (EltTy.packing .i8) := fun v2504 k0_hw207 => k0_hw207.2 (k0_off226_inb v2504 k0_hw207)

def k0_off227 (v2515 : BitVec 32) : Fin 2 → Nat :=
  let c128_i32_2501 : BitVec 32 := 128#32
  let v2518 : BitVec 32 := Scalar.muli v2515 c128_i32_2501
  let c96_i32_2502 : BitVec 32 := 96#32
  let v2519 : BitVec 32 := Scalar.addi v2518 c96_i32_2502
  let c0_i32_2509 : BitVec 32 := 0#32
  ![v2519.toNat, 0]

def k0_dev98 (v1 : BitVec 32) : Nat :=
  let c0_i32_2508 : BitVec 32 := 0#32
  let c1_i32_2507 : BitVec 32 := 1#32
  let v2520 : BitVec 32 := Scalar.muli v1 c1_i32_2507
  let v2521 : BitVec 32 := Scalar.addi c0_i32_2508 v2520
  v2521.toNat
def k0_off228 (v2528 : BitVec 32) : Fin 2 → Nat :=
  let c128_i32_2512 : BitVec 32 := 128#32
  let v2529 : BitVec 32 := Scalar.muli v2528 c128_i32_2512
  let v2530 : Index := Scalar.indexCast v2529
  let c0_2513 : Index := 0#32
  ![v2530.toNat, 0]

def k0_off229 (v2528 : BitVec 32) : Fin 2 → Nat :=
  let c128_i32_2512 : BitVec 32 := 128#32
  let v2529 : BitVec 32 := Scalar.muli v2528 c128_i32_2512
  let v2540 : Index := Scalar.indexCast v2529
  let c0_2518 : Index := 0#32
  ![v2540.toNat, 0]

def k0_chk209 (v2528 : BitVec 32) : Prop :=
  (∀ a, (k0_off228 v2528) a + S128x4096.size a ≤ S4096x4096.size a) ∧
  (∀ a, (k0_off229 v2528) a + S128x64.size a ≤ S4096x64.size a)
theorem k0_off228_inb : ∀ (v2528 : BitVec 32) (k0_hw209 : k0_chk209 v2528), ∀ a, (k0_off228 v2528) a + S128x4096.size a ≤ S4096x4096.size a := fun v2528 k0_hw209 => k0_hw209.1
theorem k0_off229_inb : ∀ (v2528 : BitVec 32) (k0_hw209 : k0_chk209 v2528), ∀ a, (k0_off229 v2528) a + S128x64.size a ≤ S4096x64.size a := fun v2528 k0_hw209 => k0_hw209.2

def k0_off230 (v2542 : BitVec 32) : Fin 2 → Nat :=
  let c128_i32_2520 : BitVec 32 := 128#32
  let v2543 : BitVec 32 := Scalar.muli v2542 c128_i32_2520
  let v2544 : Index := Scalar.indexCast v2543
  let c0_2521 : Index := 0#32
  ![v2544.toNat, 0]

def k0_off231 (v2542 : BitVec 32) : Fin 2 → Nat :=
  let c128_i32_2520 : BitVec 32 := 128#32
  let v2543 : BitVec 32 := Scalar.muli v2542 c128_i32_2520
  let v2554 : Index := Scalar.indexCast v2543
  let c0_2526 : Index := 0#32
  ![v2554.toNat, 0]

def k0_chk210 (v2542 : BitVec 32) : Prop :=
  (∀ a, (k0_off230 v2542) a + S128x4096.size a ≤ S4096x4096.size a) ∧
  (∀ a, (k0_off231 v2542) a + S128x64.size a ≤ S4096x64.size a)
theorem k0_off230_inb : ∀ (v2542 : BitVec 32) (k0_hw210 : k0_chk210 v2542), ∀ a, (k0_off230 v2542) a + S128x4096.size a ≤ S4096x4096.size a := fun v2542 k0_hw210 => k0_hw210.1
theorem k0_off231_inb : ∀ (v2542 : BitVec 32) (k0_hw210 : k0_chk210 v2542), ∀ a, (k0_off231 v2542) a + S128x64.size a ≤ S4096x64.size a := fun v2542 k0_hw210 => k0_hw210.2

def k0_off232 (v2556 : BitVec 32) : Fin 2 → Nat :=
  let c128_i32_2529 : BitVec 32 := 128#32
  let v2559 : BitVec 32 := Scalar.muli v2556 c128_i32_2529
  let c0_i32_2530 : BitVec 32 := 0#32
  let v2560 : BitVec 32 := Scalar.addi v2559 c0_i32_2530
  let c0_i32_2537 : BitVec 32 := 0#32
  ![v2560.toNat, 0]

def k0_chk211 (v2556 : BitVec 32) : Prop :=
  (∀ a, (k0_off232 v2556) a + S32x4096.size a ≤ S4096x4096.size a) ∧
  (∀ (hinb : ∀ a, (k0_off232 v2556) a + S32x4096.size a ≤ S4096x4096.size a), (Rect.unit (s := S4096x4096) (k0_off232 v2556) S32x4096.size hinb).WholeWords (EltTy.packing .i8))
theorem k0_off232_inb : ∀ (v2556 : BitVec 32) (k0_hw211 : k0_chk211 v2556), ∀ a, (k0_off232 v2556) a + S32x4096.size a ≤ S4096x4096.size a := fun v2556 k0_hw211 => k0_hw211.1
theorem k0_off232_wordsi8 : ∀ (v2556 : BitVec 32) (k0_hw211 : k0_chk211 v2556), (Rect.unit (s := S4096x4096) (k0_off232 v2556) S32x4096.size (k0_off232_inb v2556 k0_hw211)).WholeWords (EltTy.packing .i8) := fun v2556 k0_hw211 => k0_hw211.2 (k0_off232_inb v2556 k0_hw211)

def k0_off233 (v2567 : BitVec 32) : Fin 2 → Nat :=
  let c128_i32_2541 : BitVec 32 := 128#32
  let v2570 : BitVec 32 := Scalar.muli v2567 c128_i32_2541
  let c0_i32_2542 : BitVec 32 := 0#32
  let v2571 : BitVec 32 := Scalar.addi v2570 c0_i32_2542
  let c0_i32_2548 : BitVec 32 := 0#32
  ![v2571.toNat, 0]

def k0_dev99 (v0 : BitVec 32) : Nat :=
  let c0_i32_2547 : BitVec 32 := 0#32
  let c1_i32_2546 : BitVec 32 := 1#32
  let v2572 : BitVec 32 := Scalar.muli v0 c1_i32_2546
  let v2573 : BitVec 32 := Scalar.addi c0_i32_2547 v2572
  v2573.toNat
def k0_off234 (v2580 : BitVec 32) : Fin 2 → Nat :=
  let c128_i32_2552 : BitVec 32 := 128#32
  let v2583 : BitVec 32 := Scalar.muli v2580 c128_i32_2552
  let c0_i32_2553 : BitVec 32 := 0#32
  let v2584 : BitVec 32 := Scalar.addi v2583 c0_i32_2553
  let c0_i32_2560 : BitVec 32 := 0#32
  ![v2584.toNat, 0]

def k0_chk213 (v2580 : BitVec 32) : Prop :=
  (∀ a, (k0_off234 v2580) a + S32x4096.size a ≤ S4096x4096.size a) ∧
  (∀ (hinb : ∀ a, (k0_off234 v2580) a + S32x4096.size a ≤ S4096x4096.size a), (Rect.unit (s := S4096x4096) (k0_off234 v2580) S32x4096.size hinb).WholeWords (EltTy.packing .i8))
theorem k0_off234_inb : ∀ (v2580 : BitVec 32) (k0_hw213 : k0_chk213 v2580), ∀ a, (k0_off234 v2580) a + S32x4096.size a ≤ S4096x4096.size a := fun v2580 k0_hw213 => k0_hw213.1
theorem k0_off234_wordsi8 : ∀ (v2580 : BitVec 32) (k0_hw213 : k0_chk213 v2580), (Rect.unit (s := S4096x4096) (k0_off234 v2580) S32x4096.size (k0_off234_inb v2580 k0_hw213)).WholeWords (EltTy.packing .i8) := fun v2580 k0_hw213 => k0_hw213.2 (k0_off234_inb v2580 k0_hw213)

def k0_off235 (v2591 : BitVec 32) : Fin 2 → Nat :=
  let c128_i32_2564 : BitVec 32 := 128#32
  let v2594 : BitVec 32 := Scalar.muli v2591 c128_i32_2564
  let c0_i32_2565 : BitVec 32 := 0#32
  let v2595 : BitVec 32 := Scalar.addi v2594 c0_i32_2565
  let c0_i32_2572 : BitVec 32 := 0#32
  ![v2595.toNat, 0]

def k0_dev100 (v1 : BitVec 32) : Nat :=
  let c0_i32_2571 : BitVec 32 := 0#32
  let c1_i32_2570 : BitVec 32 := 1#32
  let v2596 : BitVec 32 := Scalar.muli v1 c1_i32_2570
  let v2597 : BitVec 32 := Scalar.addi c0_i32_2571 v2596
  v2597.toNat
def k0_off236 (v2604 : BitVec 32) : Fin 2 → Nat :=
  let c128_i32_2577 : BitVec 32 := 128#32
  let v2607 : BitVec 32 := Scalar.muli v2604 c128_i32_2577
  let c32_i32_2578 : BitVec 32 := 32#32
  let v2608 : BitVec 32 := Scalar.addi v2607 c32_i32_2578
  let c0_i32_2585 : BitVec 32 := 0#32
  ![v2608.toNat, 0]

def k0_chk215 (v2604 : BitVec 32) : Prop :=
  (∀ a, (k0_off236 v2604) a + S32x4096.size a ≤ S4096x4096.size a) ∧
  (∀ (hinb : ∀ a, (k0_off236 v2604) a + S32x4096.size a ≤ S4096x4096.size a), (Rect.unit (s := S4096x4096) (k0_off236 v2604) S32x4096.size hinb).WholeWords (EltTy.packing .i8))
theorem k0_off236_inb : ∀ (v2604 : BitVec 32) (k0_hw215 : k0_chk215 v2604), ∀ a, (k0_off236 v2604) a + S32x4096.size a ≤ S4096x4096.size a := fun v2604 k0_hw215 => k0_hw215.1
theorem k0_off236_wordsi8 : ∀ (v2604 : BitVec 32) (k0_hw215 : k0_chk215 v2604), (Rect.unit (s := S4096x4096) (k0_off236 v2604) S32x4096.size (k0_off236_inb v2604 k0_hw215)).WholeWords (EltTy.packing .i8) := fun v2604 k0_hw215 => k0_hw215.2 (k0_off236_inb v2604 k0_hw215)

def k0_off237 (v2615 : BitVec 32) : Fin 2 → Nat :=
  let c128_i32_2590 : BitVec 32 := 128#32
  let v2618 : BitVec 32 := Scalar.muli v2615 c128_i32_2590
  let c32_i32_2591 : BitVec 32 := 32#32
  let v2619 : BitVec 32 := Scalar.addi v2618 c32_i32_2591
  let c0_i32_2598 : BitVec 32 := 0#32
  ![v2619.toNat, 0]

def k0_dev101 (v0 : BitVec 32) : Nat :=
  let c0_i32_2597 : BitVec 32 := 0#32
  let c1_i32_2596 : BitVec 32 := 1#32
  let v2620 : BitVec 32 := Scalar.muli v0 c1_i32_2596
  let v2621 : BitVec 32 := Scalar.addi c0_i32_2597 v2620
  v2621.toNat
def k0_off238 (v2628 : BitVec 32) : Fin 2 → Nat :=
  let c128_i32_2603 : BitVec 32 := 128#32
  let v2631 : BitVec 32 := Scalar.muli v2628 c128_i32_2603
  let c32_i32_2604 : BitVec 32 := 32#32
  let v2632 : BitVec 32 := Scalar.addi v2631 c32_i32_2604
  let c0_i32_2611 : BitVec 32 := 0#32
  ![v2632.toNat, 0]

def k0_chk217 (v2628 : BitVec 32) : Prop :=
  (∀ a, (k0_off238 v2628) a + S32x4096.size a ≤ S4096x4096.size a) ∧
  (∀ (hinb : ∀ a, (k0_off238 v2628) a + S32x4096.size a ≤ S4096x4096.size a), (Rect.unit (s := S4096x4096) (k0_off238 v2628) S32x4096.size hinb).WholeWords (EltTy.packing .i8))
theorem k0_off238_inb : ∀ (v2628 : BitVec 32) (k0_hw217 : k0_chk217 v2628), ∀ a, (k0_off238 v2628) a + S32x4096.size a ≤ S4096x4096.size a := fun v2628 k0_hw217 => k0_hw217.1
theorem k0_off238_wordsi8 : ∀ (v2628 : BitVec 32) (k0_hw217 : k0_chk217 v2628), (Rect.unit (s := S4096x4096) (k0_off238 v2628) S32x4096.size (k0_off238_inb v2628 k0_hw217)).WholeWords (EltTy.packing .i8) := fun v2628 k0_hw217 => k0_hw217.2 (k0_off238_inb v2628 k0_hw217)

def k0_off239 (v2639 : BitVec 32) : Fin 2 → Nat :=
  let c128_i32_2616 : BitVec 32 := 128#32
  let v2642 : BitVec 32 := Scalar.muli v2639 c128_i32_2616
  let c32_i32_2617 : BitVec 32 := 32#32
  let v2643 : BitVec 32 := Scalar.addi v2642 c32_i32_2617
  let c0_i32_2624 : BitVec 32 := 0#32
  ![v2643.toNat, 0]

def k0_dev102 (v1 : BitVec 32) : Nat :=
  let c0_i32_2623 : BitVec 32 := 0#32
  let c1_i32_2622 : BitVec 32 := 1#32
  let v2644 : BitVec 32 := Scalar.muli v1 c1_i32_2622
  let v2645 : BitVec 32 := Scalar.addi c0_i32_2623 v2644
  v2645.toNat
def k0_off240 (v2652 : BitVec 32) : Fin 2 → Nat :=
  let c128_i32_2629 : BitVec 32 := 128#32
  let v2655 : BitVec 32 := Scalar.muli v2652 c128_i32_2629
  let c64_i32_2630 : BitVec 32 := 64#32
  let v2656 : BitVec 32 := Scalar.addi v2655 c64_i32_2630
  let c0_i32_2637 : BitVec 32 := 0#32
  ![v2656.toNat, 0]

def k0_chk219 (v2652 : BitVec 32) : Prop :=
  (∀ a, (k0_off240 v2652) a + S32x4096.size a ≤ S4096x4096.size a) ∧
  (∀ (hinb : ∀ a, (k0_off240 v2652) a + S32x4096.size a ≤ S4096x4096.size a), (Rect.unit (s := S4096x4096) (k0_off240 v2652) S32x4096.size hinb).WholeWords (EltTy.packing .i8))
theorem k0_off240_inb : ∀ (v2652 : BitVec 32) (k0_hw219 : k0_chk219 v2652), ∀ a, (k0_off240 v2652) a + S32x4096.size a ≤ S4096x4096.size a := fun v2652 k0_hw219 => k0_hw219.1
theorem k0_off240_wordsi8 : ∀ (v2652 : BitVec 32) (k0_hw219 : k0_chk219 v2652), (Rect.unit (s := S4096x4096) (k0_off240 v2652) S32x4096.size (k0_off240_inb v2652 k0_hw219)).WholeWords (EltTy.packing .i8) := fun v2652 k0_hw219 => k0_hw219.2 (k0_off240_inb v2652 k0_hw219)

def k0_off241 (v2663 : BitVec 32) : Fin 2 → Nat :=
  let c128_i32_2642 : BitVec 32 := 128#32
  let v2666 : BitVec 32 := Scalar.muli v2663 c128_i32_2642
  let c64_i32_2643 : BitVec 32 := 64#32
  let v2667 : BitVec 32 := Scalar.addi v2666 c64_i32_2643
  let c0_i32_2650 : BitVec 32 := 0#32
  ![v2667.toNat, 0]

def k0_dev103 (v0 : BitVec 32) : Nat :=
  let c0_i32_2649 : BitVec 32 := 0#32
  let c1_i32_2648 : BitVec 32 := 1#32
  let v2668 : BitVec 32 := Scalar.muli v0 c1_i32_2648
  let v2669 : BitVec 32 := Scalar.addi c0_i32_2649 v2668
  v2669.toNat
def k0_off242 (v2676 : BitVec 32) : Fin 2 → Nat :=
  let c128_i32_2655 : BitVec 32 := 128#32
  let v2679 : BitVec 32 := Scalar.muli v2676 c128_i32_2655
  let c64_i32_2656 : BitVec 32 := 64#32
  let v2680 : BitVec 32 := Scalar.addi v2679 c64_i32_2656
  let c0_i32_2663 : BitVec 32 := 0#32
  ![v2680.toNat, 0]

def k0_chk221 (v2676 : BitVec 32) : Prop :=
  (∀ a, (k0_off242 v2676) a + S32x4096.size a ≤ S4096x4096.size a) ∧
  (∀ (hinb : ∀ a, (k0_off242 v2676) a + S32x4096.size a ≤ S4096x4096.size a), (Rect.unit (s := S4096x4096) (k0_off242 v2676) S32x4096.size hinb).WholeWords (EltTy.packing .i8))
theorem k0_off242_inb : ∀ (v2676 : BitVec 32) (k0_hw221 : k0_chk221 v2676), ∀ a, (k0_off242 v2676) a + S32x4096.size a ≤ S4096x4096.size a := fun v2676 k0_hw221 => k0_hw221.1
theorem k0_off242_wordsi8 : ∀ (v2676 : BitVec 32) (k0_hw221 : k0_chk221 v2676), (Rect.unit (s := S4096x4096) (k0_off242 v2676) S32x4096.size (k0_off242_inb v2676 k0_hw221)).WholeWords (EltTy.packing .i8) := fun v2676 k0_hw221 => k0_hw221.2 (k0_off242_inb v2676 k0_hw221)

def k0_off243 (v2687 : BitVec 32) : Fin 2 → Nat :=
  let c128_i32_2668 : BitVec 32 := 128#32
  let v2690 : BitVec 32 := Scalar.muli v2687 c128_i32_2668
  let c64_i32_2669 : BitVec 32 := 64#32
  let v2691 : BitVec 32 := Scalar.addi v2690 c64_i32_2669
  let c0_i32_2676 : BitVec 32 := 0#32
  ![v2691.toNat, 0]

def k0_dev104 (v1 : BitVec 32) : Nat :=
  let c0_i32_2675 : BitVec 32 := 0#32
  let c1_i32_2674 : BitVec 32 := 1#32
  let v2692 : BitVec 32 := Scalar.muli v1 c1_i32_2674
  let v2693 : BitVec 32 := Scalar.addi c0_i32_2675 v2692
  v2693.toNat
def k0_off244 (v2700 : BitVec 32) : Fin 2 → Nat :=
  let c128_i32_2681 : BitVec 32 := 128#32
  let v2703 : BitVec 32 := Scalar.muli v2700 c128_i32_2681
  let c96_i32_2682 : BitVec 32 := 96#32
  let v2704 : BitVec 32 := Scalar.addi v2703 c96_i32_2682
  let c0_i32_2689 : BitVec 32 := 0#32
  ![v2704.toNat, 0]

def k0_chk223 (v2700 : BitVec 32) : Prop :=
  (∀ a, (k0_off244 v2700) a + S32x4096.size a ≤ S4096x4096.size a) ∧
  (∀ (hinb : ∀ a, (k0_off244 v2700) a + S32x4096.size a ≤ S4096x4096.size a), (Rect.unit (s := S4096x4096) (k0_off244 v2700) S32x4096.size hinb).WholeWords (EltTy.packing .i8))
theorem k0_off244_inb : ∀ (v2700 : BitVec 32) (k0_hw223 : k0_chk223 v2700), ∀ a, (k0_off244 v2700) a + S32x4096.size a ≤ S4096x4096.size a := fun v2700 k0_hw223 => k0_hw223.1
theorem k0_off244_wordsi8 : ∀ (v2700 : BitVec 32) (k0_hw223 : k0_chk223 v2700), (Rect.unit (s := S4096x4096) (k0_off244 v2700) S32x4096.size (k0_off244_inb v2700 k0_hw223)).WholeWords (EltTy.packing .i8) := fun v2700 k0_hw223 => k0_hw223.2 (k0_off244_inb v2700 k0_hw223)

def k0_off245 (v2711 : BitVec 32) : Fin 2 → Nat :=
  let c128_i32_2694 : BitVec 32 := 128#32
  let v2714 : BitVec 32 := Scalar.muli v2711 c128_i32_2694
  let c96_i32_2695 : BitVec 32 := 96#32
  let v2715 : BitVec 32 := Scalar.addi v2714 c96_i32_2695
  let c0_i32_2702 : BitVec 32 := 0#32
  ![v2715.toNat, 0]

def k0_dev105 (v0 : BitVec 32) : Nat :=
  let c0_i32_2701 : BitVec 32 := 0#32
  let c1_i32_2700 : BitVec 32 := 1#32
  let v2716 : BitVec 32 := Scalar.muli v0 c1_i32_2700
  let v2717 : BitVec 32 := Scalar.addi c0_i32_2701 v2716
  v2717.toNat
def k0_off246 (v2724 : BitVec 32) : Fin 2 → Nat :=
  let c128_i32_2707 : BitVec 32 := 128#32
  let v2727 : BitVec 32 := Scalar.muli v2724 c128_i32_2707
  let c96_i32_2708 : BitVec 32 := 96#32
  let v2728 : BitVec 32 := Scalar.addi v2727 c96_i32_2708
  let c0_i32_2715 : BitVec 32 := 0#32
  ![v2728.toNat, 0]

def k0_chk225 (v2724 : BitVec 32) : Prop :=
  (∀ a, (k0_off246 v2724) a + S32x4096.size a ≤ S4096x4096.size a) ∧
  (∀ (hinb : ∀ a, (k0_off246 v2724) a + S32x4096.size a ≤ S4096x4096.size a), (Rect.unit (s := S4096x4096) (k0_off246 v2724) S32x4096.size hinb).WholeWords (EltTy.packing .i8))
theorem k0_off246_inb : ∀ (v2724 : BitVec 32) (k0_hw225 : k0_chk225 v2724), ∀ a, (k0_off246 v2724) a + S32x4096.size a ≤ S4096x4096.size a := fun v2724 k0_hw225 => k0_hw225.1
theorem k0_off246_wordsi8 : ∀ (v2724 : BitVec 32) (k0_hw225 : k0_chk225 v2724), (Rect.unit (s := S4096x4096) (k0_off246 v2724) S32x4096.size (k0_off246_inb v2724 k0_hw225)).WholeWords (EltTy.packing .i8) := fun v2724 k0_hw225 => k0_hw225.2 (k0_off246_inb v2724 k0_hw225)

def k0_off247 (v2735 : BitVec 32) : Fin 2 → Nat :=
  let c128_i32_2720 : BitVec 32 := 128#32
  let v2738 : BitVec 32 := Scalar.muli v2735 c128_i32_2720
  let c96_i32_2721 : BitVec 32 := 96#32
  let v2739 : BitVec 32 := Scalar.addi v2738 c96_i32_2721
  let c0_i32_2728 : BitVec 32 := 0#32
  ![v2739.toNat, 0]

def k0_dev106 (v1 : BitVec 32) : Nat :=
  let c0_i32_2727 : BitVec 32 := 0#32
  let c1_i32_2726 : BitVec 32 := 1#32
  let v2740 : BitVec 32 := Scalar.muli v1 c1_i32_2726
  let v2741 : BitVec 32 := Scalar.addi c0_i32_2727 v2740
  v2741.toNat
def k0_off248 (v2748 : BitVec 32) : Fin 2 → Nat :=
  let c128_i32_2731 : BitVec 32 := 128#32
  let v2749 : BitVec 32 := Scalar.muli v2748 c128_i32_2731
  let v2750 : Index := Scalar.indexCast v2749
  let c0_2732 : Index := 0#32
  ![v2750.toNat, 0]

def k0_off249 (v2748 : BitVec 32) : Fin 2 → Nat :=
  let c128_i32_2731 : BitVec 32 := 128#32
  let v2749 : BitVec 32 := Scalar.muli v2748 c128_i32_2731
  let v2760 : Index := Scalar.indexCast v2749
  let c0_2737 : Index := 0#32
  ![v2760.toNat, 0]

def k0_chk227 (v2748 : BitVec 32) : Prop :=
  (∀ a, (k0_off248 v2748) a + S128x4096.size a ≤ S4096x4096.size a) ∧
  (∀ a, (k0_off249 v2748) a + S128x64.size a ≤ S4096x64.size a)
theorem k0_off248_inb : ∀ (v2748 : BitVec 32) (k0_hw227 : k0_chk227 v2748), ∀ a, (k0_off248 v2748) a + S128x4096.size a ≤ S4096x4096.size a := fun v2748 k0_hw227 => k0_hw227.1
theorem k0_off249_inb : ∀ (v2748 : BitVec 32) (k0_hw227 : k0_chk227 v2748), ∀ a, (k0_off249 v2748) a + S128x64.size a ≤ S4096x64.size a := fun v2748 k0_hw227 => k0_hw227.2

def k0_off250 (v2762 : BitVec 32) : Fin 2 → Nat :=
  let c128_i32_2739 : BitVec 32 := 128#32
  let v2763 : BitVec 32 := Scalar.muli v2762 c128_i32_2739
  let v2764 : Index := Scalar.indexCast v2763
  let c0_2740 : Index := 0#32
  ![v2764.toNat, 0]

def k0_off251 (v2762 : BitVec 32) : Fin 2 → Nat :=
  let c128_i32_2739 : BitVec 32 := 128#32
  let v2763 : BitVec 32 := Scalar.muli v2762 c128_i32_2739
  let v2774 : Index := Scalar.indexCast v2763
  let c0_2745 : Index := 0#32
  ![v2774.toNat, 0]

def k0_chk228 (v2762 : BitVec 32) : Prop :=
  (∀ a, (k0_off250 v2762) a + S128x4096.size a ≤ S4096x4096.size a) ∧
  (∀ a, (k0_off251 v2762) a + S128x64.size a ≤ S4096x64.size a)
theorem k0_off250_inb : ∀ (v2762 : BitVec 32) (k0_hw228 : k0_chk228 v2762), ∀ a, (k0_off250 v2762) a + S128x4096.size a ≤ S4096x4096.size a := fun v2762 k0_hw228 => k0_hw228.1
theorem k0_off251_inb : ∀ (v2762 : BitVec 32) (k0_hw228 : k0_chk228 v2762), ∀ a, (k0_off251 v2762) a + S128x64.size a ≤ S4096x64.size a := fun v2762 k0_hw228 => k0_hw228.2

def k0_off252 (v2776 : BitVec 32) : Fin 2 → Nat :=
  let c128_i32_2748 : BitVec 32 := 128#32
  let v2779 : BitVec 32 := Scalar.muli v2776 c128_i32_2748
  let c0_i32_2749 : BitVec 32 := 0#32
  let v2780 : BitVec 32 := Scalar.addi v2779 c0_i32_2749
  let c0_i32_2756 : BitVec 32 := 0#32
  ![v2780.toNat, 0]

def k0_chk229 (v2776 : BitVec 32) : Prop :=
  (∀ a, (k0_off252 v2776) a + S32x4096.size a ≤ S4096x4096.size a) ∧
  (∀ (hinb : ∀ a, (k0_off252 v2776) a + S32x4096.size a ≤ S4096x4096.size a), (Rect.unit (s := S4096x4096) (k0_off252 v2776) S32x4096.size hinb).WholeWords (EltTy.packing .i8))
theorem k0_off252_inb : ∀ (v2776 : BitVec 32) (k0_hw229 : k0_chk229 v2776), ∀ a, (k0_off252 v2776) a + S32x4096.size a ≤ S4096x4096.size a := fun v2776 k0_hw229 => k0_hw229.1
theorem k0_off252_wordsi8 : ∀ (v2776 : BitVec 32) (k0_hw229 : k0_chk229 v2776), (Rect.unit (s := S4096x4096) (k0_off252 v2776) S32x4096.size (k0_off252_inb v2776 k0_hw229)).WholeWords (EltTy.packing .i8) := fun v2776 k0_hw229 => k0_hw229.2 (k0_off252_inb v2776 k0_hw229)

def k0_off253 (v2787 : BitVec 32) : Fin 2 → Nat :=
  let c128_i32_2760 : BitVec 32 := 128#32
  let v2790 : BitVec 32 := Scalar.muli v2787 c128_i32_2760
  let c0_i32_2761 : BitVec 32 := 0#32
  let v2791 : BitVec 32 := Scalar.addi v2790 c0_i32_2761
  let c0_i32_2767 : BitVec 32 := 0#32
  ![v2791.toNat, 0]

def k0_dev107 (v0 : BitVec 32) : Nat :=
  let c0_i32_2766 : BitVec 32 := 0#32
  let c1_i32_2765 : BitVec 32 := 1#32
  let v2792 : BitVec 32 := Scalar.muli v0 c1_i32_2765
  let v2793 : BitVec 32 := Scalar.addi c0_i32_2766 v2792
  v2793.toNat
def k0_off254 (v2800 : BitVec 32) : Fin 2 → Nat :=
  let c128_i32_2771 : BitVec 32 := 128#32
  let v2803 : BitVec 32 := Scalar.muli v2800 c128_i32_2771
  let c0_i32_2772 : BitVec 32 := 0#32
  let v2804 : BitVec 32 := Scalar.addi v2803 c0_i32_2772
  let c0_i32_2779 : BitVec 32 := 0#32
  ![v2804.toNat, 0]

def k0_chk231 (v2800 : BitVec 32) : Prop :=
  (∀ a, (k0_off254 v2800) a + S32x4096.size a ≤ S4096x4096.size a) ∧
  (∀ (hinb : ∀ a, (k0_off254 v2800) a + S32x4096.size a ≤ S4096x4096.size a), (Rect.unit (s := S4096x4096) (k0_off254 v2800) S32x4096.size hinb).WholeWords (EltTy.packing .i8))
theorem k0_off254_inb : ∀ (v2800 : BitVec 32) (k0_hw231 : k0_chk231 v2800), ∀ a, (k0_off254 v2800) a + S32x4096.size a ≤ S4096x4096.size a := fun v2800 k0_hw231 => k0_hw231.1
theorem k0_off254_wordsi8 : ∀ (v2800 : BitVec 32) (k0_hw231 : k0_chk231 v2800), (Rect.unit (s := S4096x4096) (k0_off254 v2800) S32x4096.size (k0_off254_inb v2800 k0_hw231)).WholeWords (EltTy.packing .i8) := fun v2800 k0_hw231 => k0_hw231.2 (k0_off254_inb v2800 k0_hw231)

def k0_off255 (v2811 : BitVec 32) : Fin 2 → Nat :=
  let c128_i32_2783 : BitVec 32 := 128#32
  let v2814 : BitVec 32 := Scalar.muli v2811 c128_i32_2783
  let c0_i32_2784 : BitVec 32 := 0#32
  let v2815 : BitVec 32 := Scalar.addi v2814 c0_i32_2784
  let c0_i32_2791 : BitVec 32 := 0#32
  ![v2815.toNat, 0]

def k0_dev108 (v1 : BitVec 32) : Nat :=
  let c0_i32_2790 : BitVec 32 := 0#32
  let c1_i32_2789 : BitVec 32 := 1#32
  let v2816 : BitVec 32 := Scalar.muli v1 c1_i32_2789
  let v2817 : BitVec 32 := Scalar.addi c0_i32_2790 v2816
  v2817.toNat
def k0_off256 (v2824 : BitVec 32) : Fin 2 → Nat :=
  let c128_i32_2796 : BitVec 32 := 128#32
  let v2827 : BitVec 32 := Scalar.muli v2824 c128_i32_2796
  let c32_i32_2797 : BitVec 32 := 32#32
  let v2828 : BitVec 32 := Scalar.addi v2827 c32_i32_2797
  let c0_i32_2804 : BitVec 32 := 0#32
  ![v2828.toNat, 0]

def k0_chk233 (v2824 : BitVec 32) : Prop :=
  (∀ a, (k0_off256 v2824) a + S32x4096.size a ≤ S4096x4096.size a) ∧
  (∀ (hinb : ∀ a, (k0_off256 v2824) a + S32x4096.size a ≤ S4096x4096.size a), (Rect.unit (s := S4096x4096) (k0_off256 v2824) S32x4096.size hinb).WholeWords (EltTy.packing .i8))
theorem k0_off256_inb : ∀ (v2824 : BitVec 32) (k0_hw233 : k0_chk233 v2824), ∀ a, (k0_off256 v2824) a + S32x4096.size a ≤ S4096x4096.size a := fun v2824 k0_hw233 => k0_hw233.1
theorem k0_off256_wordsi8 : ∀ (v2824 : BitVec 32) (k0_hw233 : k0_chk233 v2824), (Rect.unit (s := S4096x4096) (k0_off256 v2824) S32x4096.size (k0_off256_inb v2824 k0_hw233)).WholeWords (EltTy.packing .i8) := fun v2824 k0_hw233 => k0_hw233.2 (k0_off256_inb v2824 k0_hw233)

def k0_off257 (v2835 : BitVec 32) : Fin 2 → Nat :=
  let c128_i32_2809 : BitVec 32 := 128#32
  let v2838 : BitVec 32 := Scalar.muli v2835 c128_i32_2809
  let c32_i32_2810 : BitVec 32 := 32#32
  let v2839 : BitVec 32 := Scalar.addi v2838 c32_i32_2810
  let c0_i32_2817 : BitVec 32 := 0#32
  ![v2839.toNat, 0]

def k0_dev109 (v0 : BitVec 32) : Nat :=
  let c0_i32_2816 : BitVec 32 := 0#32
  let c1_i32_2815 : BitVec 32 := 1#32
  let v2840 : BitVec 32 := Scalar.muli v0 c1_i32_2815
  let v2841 : BitVec 32 := Scalar.addi c0_i32_2816 v2840
  v2841.toNat
def k0_off258 (v2848 : BitVec 32) : Fin 2 → Nat :=
  let c128_i32_2822 : BitVec 32 := 128#32
  let v2851 : BitVec 32 := Scalar.muli v2848 c128_i32_2822
  let c32_i32_2823 : BitVec 32 := 32#32
  let v2852 : BitVec 32 := Scalar.addi v2851 c32_i32_2823
  let c0_i32_2830 : BitVec 32 := 0#32
  ![v2852.toNat, 0]

def k0_chk235 (v2848 : BitVec 32) : Prop :=
  (∀ a, (k0_off258 v2848) a + S32x4096.size a ≤ S4096x4096.size a) ∧
  (∀ (hinb : ∀ a, (k0_off258 v2848) a + S32x4096.size a ≤ S4096x4096.size a), (Rect.unit (s := S4096x4096) (k0_off258 v2848) S32x4096.size hinb).WholeWords (EltTy.packing .i8))
theorem k0_off258_inb : ∀ (v2848 : BitVec 32) (k0_hw235 : k0_chk235 v2848), ∀ a, (k0_off258 v2848) a + S32x4096.size a ≤ S4096x4096.size a := fun v2848 k0_hw235 => k0_hw235.1
theorem k0_off258_wordsi8 : ∀ (v2848 : BitVec 32) (k0_hw235 : k0_chk235 v2848), (Rect.unit (s := S4096x4096) (k0_off258 v2848) S32x4096.size (k0_off258_inb v2848 k0_hw235)).WholeWords (EltTy.packing .i8) := fun v2848 k0_hw235 => k0_hw235.2 (k0_off258_inb v2848 k0_hw235)

def k0_off259 (v2859 : BitVec 32) : Fin 2 → Nat :=
  let c128_i32_2835 : BitVec 32 := 128#32
  let v2862 : BitVec 32 := Scalar.muli v2859 c128_i32_2835
  let c32_i32_2836 : BitVec 32 := 32#32
  let v2863 : BitVec 32 := Scalar.addi v2862 c32_i32_2836
  let c0_i32_2843 : BitVec 32 := 0#32
  ![v2863.toNat, 0]

def k0_dev110 (v1 : BitVec 32) : Nat :=
  let c0_i32_2842 : BitVec 32 := 0#32
  let c1_i32_2841 : BitVec 32 := 1#32
  let v2864 : BitVec 32 := Scalar.muli v1 c1_i32_2841
  let v2865 : BitVec 32 := Scalar.addi c0_i32_2842 v2864
  v2865.toNat
def k0_off260 (v2872 : BitVec 32) : Fin 2 → Nat :=
  let c128_i32_2848 : BitVec 32 := 128#32
  let v2875 : BitVec 32 := Scalar.muli v2872 c128_i32_2848
  let c64_i32_2849 : BitVec 32 := 64#32
  let v2876 : BitVec 32 := Scalar.addi v2875 c64_i32_2849
  let c0_i32_2856 : BitVec 32 := 0#32
  ![v2876.toNat, 0]

def k0_chk237 (v2872 : BitVec 32) : Prop :=
  (∀ a, (k0_off260 v2872) a + S32x4096.size a ≤ S4096x4096.size a) ∧
  (∀ (hinb : ∀ a, (k0_off260 v2872) a + S32x4096.size a ≤ S4096x4096.size a), (Rect.unit (s := S4096x4096) (k0_off260 v2872) S32x4096.size hinb).WholeWords (EltTy.packing .i8))
theorem k0_off260_inb : ∀ (v2872 : BitVec 32) (k0_hw237 : k0_chk237 v2872), ∀ a, (k0_off260 v2872) a + S32x4096.size a ≤ S4096x4096.size a := fun v2872 k0_hw237 => k0_hw237.1
theorem k0_off260_wordsi8 : ∀ (v2872 : BitVec 32) (k0_hw237 : k0_chk237 v2872), (Rect.unit (s := S4096x4096) (k0_off260 v2872) S32x4096.size (k0_off260_inb v2872 k0_hw237)).WholeWords (EltTy.packing .i8) := fun v2872 k0_hw237 => k0_hw237.2 (k0_off260_inb v2872 k0_hw237)

def k0_off261 (v2883 : BitVec 32) : Fin 2 → Nat :=
  let c128_i32_2861 : BitVec 32 := 128#32
  let v2886 : BitVec 32 := Scalar.muli v2883 c128_i32_2861
  let c64_i32_2862 : BitVec 32 := 64#32
  let v2887 : BitVec 32 := Scalar.addi v2886 c64_i32_2862
  let c0_i32_2869 : BitVec 32 := 0#32
  ![v2887.toNat, 0]

def k0_dev111 (v0 : BitVec 32) : Nat :=
  let c0_i32_2868 : BitVec 32 := 0#32
  let c1_i32_2867 : BitVec 32 := 1#32
  let v2888 : BitVec 32 := Scalar.muli v0 c1_i32_2867
  let v2889 : BitVec 32 := Scalar.addi c0_i32_2868 v2888
  v2889.toNat
def k0_off262 (v2896 : BitVec 32) : Fin 2 → Nat :=
  let c128_i32_2874 : BitVec 32 := 128#32
  let v2899 : BitVec 32 := Scalar.muli v2896 c128_i32_2874
  let c64_i32_2875 : BitVec 32 := 64#32
  let v2900 : BitVec 32 := Scalar.addi v2899 c64_i32_2875
  let c0_i32_2882 : BitVec 32 := 0#32
  ![v2900.toNat, 0]

def k0_chk239 (v2896 : BitVec 32) : Prop :=
  (∀ a, (k0_off262 v2896) a + S32x4096.size a ≤ S4096x4096.size a) ∧
  (∀ (hinb : ∀ a, (k0_off262 v2896) a + S32x4096.size a ≤ S4096x4096.size a), (Rect.unit (s := S4096x4096) (k0_off262 v2896) S32x4096.size hinb).WholeWords (EltTy.packing .i8))
theorem k0_off262_inb : ∀ (v2896 : BitVec 32) (k0_hw239 : k0_chk239 v2896), ∀ a, (k0_off262 v2896) a + S32x4096.size a ≤ S4096x4096.size a := fun v2896 k0_hw239 => k0_hw239.1
theorem k0_off262_wordsi8 : ∀ (v2896 : BitVec 32) (k0_hw239 : k0_chk239 v2896), (Rect.unit (s := S4096x4096) (k0_off262 v2896) S32x4096.size (k0_off262_inb v2896 k0_hw239)).WholeWords (EltTy.packing .i8) := fun v2896 k0_hw239 => k0_hw239.2 (k0_off262_inb v2896 k0_hw239)

def k0_off263 (v2907 : BitVec 32) : Fin 2 → Nat :=
  let c128_i32_2887 : BitVec 32 := 128#32
  let v2910 : BitVec 32 := Scalar.muli v2907 c128_i32_2887
  let c64_i32_2888 : BitVec 32 := 64#32
  let v2911 : BitVec 32 := Scalar.addi v2910 c64_i32_2888
  let c0_i32_2895 : BitVec 32 := 0#32
  ![v2911.toNat, 0]

def k0_dev112 (v1 : BitVec 32) : Nat :=
  let c0_i32_2894 : BitVec 32 := 0#32
  let c1_i32_2893 : BitVec 32 := 1#32
  let v2912 : BitVec 32 := Scalar.muli v1 c1_i32_2893
  let v2913 : BitVec 32 := Scalar.addi c0_i32_2894 v2912
  v2913.toNat
def k0_off264 (v2920 : BitVec 32) : Fin 2 → Nat :=
  let c128_i32_2900 : BitVec 32 := 128#32
  let v2923 : BitVec 32 := Scalar.muli v2920 c128_i32_2900
  let c96_i32_2901 : BitVec 32 := 96#32
  let v2924 : BitVec 32 := Scalar.addi v2923 c96_i32_2901
  let c0_i32_2908 : BitVec 32 := 0#32
  ![v2924.toNat, 0]

def k0_chk241 (v2920 : BitVec 32) : Prop :=
  (∀ a, (k0_off264 v2920) a + S32x4096.size a ≤ S4096x4096.size a) ∧
  (∀ (hinb : ∀ a, (k0_off264 v2920) a + S32x4096.size a ≤ S4096x4096.size a), (Rect.unit (s := S4096x4096) (k0_off264 v2920) S32x4096.size hinb).WholeWords (EltTy.packing .i8))
theorem k0_off264_inb : ∀ (v2920 : BitVec 32) (k0_hw241 : k0_chk241 v2920), ∀ a, (k0_off264 v2920) a + S32x4096.size a ≤ S4096x4096.size a := fun v2920 k0_hw241 => k0_hw241.1
theorem k0_off264_wordsi8 : ∀ (v2920 : BitVec 32) (k0_hw241 : k0_chk241 v2920), (Rect.unit (s := S4096x4096) (k0_off264 v2920) S32x4096.size (k0_off264_inb v2920 k0_hw241)).WholeWords (EltTy.packing .i8) := fun v2920 k0_hw241 => k0_hw241.2 (k0_off264_inb v2920 k0_hw241)

def k0_off265 (v2931 : BitVec 32) : Fin 2 → Nat :=
  let c128_i32_2913 : BitVec 32 := 128#32
  let v2934 : BitVec 32 := Scalar.muli v2931 c128_i32_2913
  let c96_i32_2914 : BitVec 32 := 96#32
  let v2935 : BitVec 32 := Scalar.addi v2934 c96_i32_2914
  let c0_i32_2921 : BitVec 32 := 0#32
  ![v2935.toNat, 0]

def k0_dev113 (v0 : BitVec 32) : Nat :=
  let c0_i32_2920 : BitVec 32 := 0#32
  let c1_i32_2919 : BitVec 32 := 1#32
  let v2936 : BitVec 32 := Scalar.muli v0 c1_i32_2919
  let v2937 : BitVec 32 := Scalar.addi c0_i32_2920 v2936
  v2937.toNat
def k0_off266 (v2944 : BitVec 32) : Fin 2 → Nat :=
  let c128_i32_2926 : BitVec 32 := 128#32
  let v2947 : BitVec 32 := Scalar.muli v2944 c128_i32_2926
  let c96_i32_2927 : BitVec 32 := 96#32
  let v2948 : BitVec 32 := Scalar.addi v2947 c96_i32_2927
  let c0_i32_2934 : BitVec 32 := 0#32
  ![v2948.toNat, 0]

def k0_chk243 (v2944 : BitVec 32) : Prop :=
  (∀ a, (k0_off266 v2944) a + S32x4096.size a ≤ S4096x4096.size a) ∧
  (∀ (hinb : ∀ a, (k0_off266 v2944) a + S32x4096.size a ≤ S4096x4096.size a), (Rect.unit (s := S4096x4096) (k0_off266 v2944) S32x4096.size hinb).WholeWords (EltTy.packing .i8))
theorem k0_off266_inb : ∀ (v2944 : BitVec 32) (k0_hw243 : k0_chk243 v2944), ∀ a, (k0_off266 v2944) a + S32x4096.size a ≤ S4096x4096.size a := fun v2944 k0_hw243 => k0_hw243.1
theorem k0_off266_wordsi8 : ∀ (v2944 : BitVec 32) (k0_hw243 : k0_chk243 v2944), (Rect.unit (s := S4096x4096) (k0_off266 v2944) S32x4096.size (k0_off266_inb v2944 k0_hw243)).WholeWords (EltTy.packing .i8) := fun v2944 k0_hw243 => k0_hw243.2 (k0_off266_inb v2944 k0_hw243)

def k0_off267 (v2955 : BitVec 32) : Fin 2 → Nat :=
  let c128_i32_2939 : BitVec 32 := 128#32
  let v2958 : BitVec 32 := Scalar.muli v2955 c128_i32_2939
  let c96_i32_2940 : BitVec 32 := 96#32
  let v2959 : BitVec 32 := Scalar.addi v2958 c96_i32_2940
  let c0_i32_2947 : BitVec 32 := 0#32
  ![v2959.toNat, 0]

def k0_dev114 (v1 : BitVec 32) : Nat :=
  let c0_i32_2946 : BitVec 32 := 0#32
  let c1_i32_2945 : BitVec 32 := 1#32
  let v2960 : BitVec 32 := Scalar.muli v1 c1_i32_2945
  let v2961 : BitVec 32 := Scalar.addi c0_i32_2946 v2960
  v2961.toNat
def k0_off268 (v2968 : BitVec 32) : Fin 2 → Nat :=
  let c128_i32_2950 : BitVec 32 := 128#32
  let v2969 : BitVec 32 := Scalar.muli v2968 c128_i32_2950
  let v2970 : Index := Scalar.indexCast v2969
  let c0_2951 : Index := 0#32
  ![v2970.toNat, 0]

def k0_off269 (v2968 : BitVec 32) : Fin 2 → Nat :=
  let c128_i32_2950 : BitVec 32 := 128#32
  let v2969 : BitVec 32 := Scalar.muli v2968 c128_i32_2950
  let v2980 : Index := Scalar.indexCast v2969
  let c0_2956 : Index := 0#32
  ![v2980.toNat, 0]

def k0_chk245 (v2968 : BitVec 32) : Prop :=
  (∀ a, (k0_off268 v2968) a + S128x4096.size a ≤ S4096x4096.size a) ∧
  (∀ a, (k0_off269 v2968) a + S128x64.size a ≤ S4096x64.size a)
theorem k0_off268_inb : ∀ (v2968 : BitVec 32) (k0_hw245 : k0_chk245 v2968), ∀ a, (k0_off268 v2968) a + S128x4096.size a ≤ S4096x4096.size a := fun v2968 k0_hw245 => k0_hw245.1
theorem k0_off269_inb : ∀ (v2968 : BitVec 32) (k0_hw245 : k0_chk245 v2968), ∀ a, (k0_off269 v2968) a + S128x64.size a ≤ S4096x64.size a := fun v2968 k0_hw245 => k0_hw245.2

def k0_off270 (v2982 : BitVec 32) : Fin 2 → Nat :=
  let c128_i32_2958 : BitVec 32 := 128#32
  let v2983 : BitVec 32 := Scalar.muli v2982 c128_i32_2958
  let v2984 : Index := Scalar.indexCast v2983
  let c0_2959 : Index := 0#32
  ![v2984.toNat, 0]

def k0_off271 (v2982 : BitVec 32) : Fin 2 → Nat :=
  let c128_i32_2958 : BitVec 32 := 128#32
  let v2983 : BitVec 32 := Scalar.muli v2982 c128_i32_2958
  let v2994 : Index := Scalar.indexCast v2983
  let c0_2964 : Index := 0#32
  ![v2994.toNat, 0]

def k0_chk246 (v2982 : BitVec 32) : Prop :=
  (∀ a, (k0_off270 v2982) a + S128x4096.size a ≤ S4096x4096.size a) ∧
  (∀ a, (k0_off271 v2982) a + S128x64.size a ≤ S4096x64.size a)
theorem k0_off270_inb : ∀ (v2982 : BitVec 32) (k0_hw246 : k0_chk246 v2982), ∀ a, (k0_off270 v2982) a + S128x4096.size a ≤ S4096x4096.size a := fun v2982 k0_hw246 => k0_hw246.1
theorem k0_off271_inb : ∀ (v2982 : BitVec 32) (k0_hw246 : k0_chk246 v2982), ∀ a, (k0_off271 v2982) a + S128x64.size a ≤ S4096x64.size a := fun v2982 k0_hw246 => k0_hw246.2

def k0_off272 (v2996 : BitVec 32) : Fin 2 → Nat :=
  let c128_i32_2967 : BitVec 32 := 128#32
  let v2999 : BitVec 32 := Scalar.muli v2996 c128_i32_2967
  let c0_i32_2968 : BitVec 32 := 0#32
  let v3000 : BitVec 32 := Scalar.addi v2999 c0_i32_2968
  let c0_i32_2975 : BitVec 32 := 0#32
  ![v3000.toNat, 0]

def k0_chk247 (v2996 : BitVec 32) : Prop :=
  (∀ a, (k0_off272 v2996) a + S32x4096.size a ≤ S4096x4096.size a) ∧
  (∀ (hinb : ∀ a, (k0_off272 v2996) a + S32x4096.size a ≤ S4096x4096.size a), (Rect.unit (s := S4096x4096) (k0_off272 v2996) S32x4096.size hinb).WholeWords (EltTy.packing .i8))
theorem k0_off272_inb : ∀ (v2996 : BitVec 32) (k0_hw247 : k0_chk247 v2996), ∀ a, (k0_off272 v2996) a + S32x4096.size a ≤ S4096x4096.size a := fun v2996 k0_hw247 => k0_hw247.1
theorem k0_off272_wordsi8 : ∀ (v2996 : BitVec 32) (k0_hw247 : k0_chk247 v2996), (Rect.unit (s := S4096x4096) (k0_off272 v2996) S32x4096.size (k0_off272_inb v2996 k0_hw247)).WholeWords (EltTy.packing .i8) := fun v2996 k0_hw247 => k0_hw247.2 (k0_off272_inb v2996 k0_hw247)

def k0_off273 (v3007 : BitVec 32) : Fin 2 → Nat :=
  let c128_i32_2979 : BitVec 32 := 128#32
  let v3010 : BitVec 32 := Scalar.muli v3007 c128_i32_2979
  let c0_i32_2980 : BitVec 32 := 0#32
  let v3011 : BitVec 32 := Scalar.addi v3010 c0_i32_2980
  let c0_i32_2986 : BitVec 32 := 0#32
  ![v3011.toNat, 0]

def k0_dev115 (v0 : BitVec 32) : Nat :=
  let c0_i32_2985 : BitVec 32 := 0#32
  let c1_i32_2984 : BitVec 32 := 1#32
  let v3012 : BitVec 32 := Scalar.muli v0 c1_i32_2984
  let v3013 : BitVec 32 := Scalar.addi c0_i32_2985 v3012
  v3013.toNat
def k0_off274 (v3020 : BitVec 32) : Fin 2 → Nat :=
  let c128_i32_2990 : BitVec 32 := 128#32
  let v3023 : BitVec 32 := Scalar.muli v3020 c128_i32_2990
  let c0_i32_2991 : BitVec 32 := 0#32
  let v3024 : BitVec 32 := Scalar.addi v3023 c0_i32_2991
  let c0_i32_2998 : BitVec 32 := 0#32
  ![v3024.toNat, 0]

def k0_chk249 (v3020 : BitVec 32) : Prop :=
  (∀ a, (k0_off274 v3020) a + S32x4096.size a ≤ S4096x4096.size a) ∧
  (∀ (hinb : ∀ a, (k0_off274 v3020) a + S32x4096.size a ≤ S4096x4096.size a), (Rect.unit (s := S4096x4096) (k0_off274 v3020) S32x4096.size hinb).WholeWords (EltTy.packing .i8))
theorem k0_off274_inb : ∀ (v3020 : BitVec 32) (k0_hw249 : k0_chk249 v3020), ∀ a, (k0_off274 v3020) a + S32x4096.size a ≤ S4096x4096.size a := fun v3020 k0_hw249 => k0_hw249.1
theorem k0_off274_wordsi8 : ∀ (v3020 : BitVec 32) (k0_hw249 : k0_chk249 v3020), (Rect.unit (s := S4096x4096) (k0_off274 v3020) S32x4096.size (k0_off274_inb v3020 k0_hw249)).WholeWords (EltTy.packing .i8) := fun v3020 k0_hw249 => k0_hw249.2 (k0_off274_inb v3020 k0_hw249)

def k0_off275 (v3031 : BitVec 32) : Fin 2 → Nat :=
  let c128_i32_3002 : BitVec 32 := 128#32
  let v3034 : BitVec 32 := Scalar.muli v3031 c128_i32_3002
  let c0_i32_3003 : BitVec 32 := 0#32
  let v3035 : BitVec 32 := Scalar.addi v3034 c0_i32_3003
  let c0_i32_3010 : BitVec 32 := 0#32
  ![v3035.toNat, 0]

def k0_dev116 (v1 : BitVec 32) : Nat :=
  let c0_i32_3009 : BitVec 32 := 0#32
  let c1_i32_3008 : BitVec 32 := 1#32
  let v3036 : BitVec 32 := Scalar.muli v1 c1_i32_3008
  let v3037 : BitVec 32 := Scalar.addi c0_i32_3009 v3036
  v3037.toNat
def k0_off276 (v3044 : BitVec 32) : Fin 2 → Nat :=
  let c128_i32_3015 : BitVec 32 := 128#32
  let v3047 : BitVec 32 := Scalar.muli v3044 c128_i32_3015
  let c32_i32_3016 : BitVec 32 := 32#32
  let v3048 : BitVec 32 := Scalar.addi v3047 c32_i32_3016
  let c0_i32_3023 : BitVec 32 := 0#32
  ![v3048.toNat, 0]

def k0_chk251 (v3044 : BitVec 32) : Prop :=
  (∀ a, (k0_off276 v3044) a + S32x4096.size a ≤ S4096x4096.size a) ∧
  (∀ (hinb : ∀ a, (k0_off276 v3044) a + S32x4096.size a ≤ S4096x4096.size a), (Rect.unit (s := S4096x4096) (k0_off276 v3044) S32x4096.size hinb).WholeWords (EltTy.packing .i8))
theorem k0_off276_inb : ∀ (v3044 : BitVec 32) (k0_hw251 : k0_chk251 v3044), ∀ a, (k0_off276 v3044) a + S32x4096.size a ≤ S4096x4096.size a := fun v3044 k0_hw251 => k0_hw251.1
theorem k0_off276_wordsi8 : ∀ (v3044 : BitVec 32) (k0_hw251 : k0_chk251 v3044), (Rect.unit (s := S4096x4096) (k0_off276 v3044) S32x4096.size (k0_off276_inb v3044 k0_hw251)).WholeWords (EltTy.packing .i8) := fun v3044 k0_hw251 => k0_hw251.2 (k0_off276_inb v3044 k0_hw251)

def k0_off277 (v3055 : BitVec 32) : Fin 2 → Nat :=
  let c128_i32_3028 : BitVec 32 := 128#32
  let v3058 : BitVec 32 := Scalar.muli v3055 c128_i32_3028
  let c32_i32_3029 : BitVec 32 := 32#32
  let v3059 : BitVec 32 := Scalar.addi v3058 c32_i32_3029
  let c0_i32_3036 : BitVec 32 := 0#32
  ![v3059.toNat, 0]

def k0_dev117 (v0 : BitVec 32) : Nat :=
  let c0_i32_3035 : BitVec 32 := 0#32
  let c1_i32_3034 : BitVec 32 := 1#32
  let v3060 : BitVec 32 := Scalar.muli v0 c1_i32_3034
  let v3061 : BitVec 32 := Scalar.addi c0_i32_3035 v3060
  v3061.toNat
def k0_off278 (v3068 : BitVec 32) : Fin 2 → Nat :=
  let c128_i32_3041 : BitVec 32 := 128#32
  let v3071 : BitVec 32 := Scalar.muli v3068 c128_i32_3041
  let c32_i32_3042 : BitVec 32 := 32#32
  let v3072 : BitVec 32 := Scalar.addi v3071 c32_i32_3042
  let c0_i32_3049 : BitVec 32 := 0#32
  ![v3072.toNat, 0]

def k0_chk253 (v3068 : BitVec 32) : Prop :=
  (∀ a, (k0_off278 v3068) a + S32x4096.size a ≤ S4096x4096.size a) ∧
  (∀ (hinb : ∀ a, (k0_off278 v3068) a + S32x4096.size a ≤ S4096x4096.size a), (Rect.unit (s := S4096x4096) (k0_off278 v3068) S32x4096.size hinb).WholeWords (EltTy.packing .i8))
theorem k0_off278_inb : ∀ (v3068 : BitVec 32) (k0_hw253 : k0_chk253 v3068), ∀ a, (k0_off278 v3068) a + S32x4096.size a ≤ S4096x4096.size a := fun v3068 k0_hw253 => k0_hw253.1
theorem k0_off278_wordsi8 : ∀ (v3068 : BitVec 32) (k0_hw253 : k0_chk253 v3068), (Rect.unit (s := S4096x4096) (k0_off278 v3068) S32x4096.size (k0_off278_inb v3068 k0_hw253)).WholeWords (EltTy.packing .i8) := fun v3068 k0_hw253 => k0_hw253.2 (k0_off278_inb v3068 k0_hw253)

def k0_off279 (v3079 : BitVec 32) : Fin 2 → Nat :=
  let c128_i32_3054 : BitVec 32 := 128#32
  let v3082 : BitVec 32 := Scalar.muli v3079 c128_i32_3054
  let c32_i32_3055 : BitVec 32 := 32#32
  let v3083 : BitVec 32 := Scalar.addi v3082 c32_i32_3055
  let c0_i32_3062 : BitVec 32 := 0#32
  ![v3083.toNat, 0]

def k0_dev118 (v1 : BitVec 32) : Nat :=
  let c0_i32_3061 : BitVec 32 := 0#32
  let c1_i32_3060 : BitVec 32 := 1#32
  let v3084 : BitVec 32 := Scalar.muli v1 c1_i32_3060
  let v3085 : BitVec 32 := Scalar.addi c0_i32_3061 v3084
  v3085.toNat
def k0_off280 (v3092 : BitVec 32) : Fin 2 → Nat :=
  let c128_i32_3067 : BitVec 32 := 128#32
  let v3095 : BitVec 32 := Scalar.muli v3092 c128_i32_3067
  let c64_i32_3068 : BitVec 32 := 64#32
  let v3096 : BitVec 32 := Scalar.addi v3095 c64_i32_3068
  let c0_i32_3075 : BitVec 32 := 0#32
  ![v3096.toNat, 0]

def k0_chk255 (v3092 : BitVec 32) : Prop :=
  (∀ a, (k0_off280 v3092) a + S32x4096.size a ≤ S4096x4096.size a) ∧
  (∀ (hinb : ∀ a, (k0_off280 v3092) a + S32x4096.size a ≤ S4096x4096.size a), (Rect.unit (s := S4096x4096) (k0_off280 v3092) S32x4096.size hinb).WholeWords (EltTy.packing .i8))
theorem k0_off280_inb : ∀ (v3092 : BitVec 32) (k0_hw255 : k0_chk255 v3092), ∀ a, (k0_off280 v3092) a + S32x4096.size a ≤ S4096x4096.size a := fun v3092 k0_hw255 => k0_hw255.1
theorem k0_off280_wordsi8 : ∀ (v3092 : BitVec 32) (k0_hw255 : k0_chk255 v3092), (Rect.unit (s := S4096x4096) (k0_off280 v3092) S32x4096.size (k0_off280_inb v3092 k0_hw255)).WholeWords (EltTy.packing .i8) := fun v3092 k0_hw255 => k0_hw255.2 (k0_off280_inb v3092 k0_hw255)

def k0_off281 (v3103 : BitVec 32) : Fin 2 → Nat :=
  let c128_i32_3080 : BitVec 32 := 128#32
  let v3106 : BitVec 32 := Scalar.muli v3103 c128_i32_3080
  let c64_i32_3081 : BitVec 32 := 64#32
  let v3107 : BitVec 32 := Scalar.addi v3106 c64_i32_3081
  let c0_i32_3088 : BitVec 32 := 0#32
  ![v3107.toNat, 0]

def k0_dev119 (v0 : BitVec 32) : Nat :=
  let c0_i32_3087 : BitVec 32 := 0#32
  let c1_i32_3086 : BitVec 32 := 1#32
  let v3108 : BitVec 32 := Scalar.muli v0 c1_i32_3086
  let v3109 : BitVec 32 := Scalar.addi c0_i32_3087 v3108
  v3109.toNat
def k0_off282 (v3116 : BitVec 32) : Fin 2 → Nat :=
  let c128_i32_3093 : BitVec 32 := 128#32
  let v3119 : BitVec 32 := Scalar.muli v3116 c128_i32_3093
  let c64_i32_3094 : BitVec 32 := 64#32
  let v3120 : BitVec 32 := Scalar.addi v3119 c64_i32_3094
  let c0_i32_3101 : BitVec 32 := 0#32
  ![v3120.toNat, 0]

def k0_chk257 (v3116 : BitVec 32) : Prop :=
  (∀ a, (k0_off282 v3116) a + S32x4096.size a ≤ S4096x4096.size a) ∧
  (∀ (hinb : ∀ a, (k0_off282 v3116) a + S32x4096.size a ≤ S4096x4096.size a), (Rect.unit (s := S4096x4096) (k0_off282 v3116) S32x4096.size hinb).WholeWords (EltTy.packing .i8))
theorem k0_off282_inb : ∀ (v3116 : BitVec 32) (k0_hw257 : k0_chk257 v3116), ∀ a, (k0_off282 v3116) a + S32x4096.size a ≤ S4096x4096.size a := fun v3116 k0_hw257 => k0_hw257.1
theorem k0_off282_wordsi8 : ∀ (v3116 : BitVec 32) (k0_hw257 : k0_chk257 v3116), (Rect.unit (s := S4096x4096) (k0_off282 v3116) S32x4096.size (k0_off282_inb v3116 k0_hw257)).WholeWords (EltTy.packing .i8) := fun v3116 k0_hw257 => k0_hw257.2 (k0_off282_inb v3116 k0_hw257)

def k0_off283 (v3127 : BitVec 32) : Fin 2 → Nat :=
  let c128_i32_3106 : BitVec 32 := 128#32
  let v3130 : BitVec 32 := Scalar.muli v3127 c128_i32_3106
  let c64_i32_3107 : BitVec 32 := 64#32
  let v3131 : BitVec 32 := Scalar.addi v3130 c64_i32_3107
  let c0_i32_3114 : BitVec 32 := 0#32
  ![v3131.toNat, 0]

def k0_dev120 (v1 : BitVec 32) : Nat :=
  let c0_i32_3113 : BitVec 32 := 0#32
  let c1_i32_3112 : BitVec 32 := 1#32
  let v3132 : BitVec 32 := Scalar.muli v1 c1_i32_3112
  let v3133 : BitVec 32 := Scalar.addi c0_i32_3113 v3132
  v3133.toNat
def k0_off284 (v3140 : BitVec 32) : Fin 2 → Nat :=
  let c128_i32_3119 : BitVec 32 := 128#32
  let v3143 : BitVec 32 := Scalar.muli v3140 c128_i32_3119
  let c96_i32_3120 : BitVec 32 := 96#32
  let v3144 : BitVec 32 := Scalar.addi v3143 c96_i32_3120
  let c0_i32_3127 : BitVec 32 := 0#32
  ![v3144.toNat, 0]

def k0_chk259 (v3140 : BitVec 32) : Prop :=
  (∀ a, (k0_off284 v3140) a + S32x4096.size a ≤ S4096x4096.size a) ∧
  (∀ (hinb : ∀ a, (k0_off284 v3140) a + S32x4096.size a ≤ S4096x4096.size a), (Rect.unit (s := S4096x4096) (k0_off284 v3140) S32x4096.size hinb).WholeWords (EltTy.packing .i8))
theorem k0_off284_inb : ∀ (v3140 : BitVec 32) (k0_hw259 : k0_chk259 v3140), ∀ a, (k0_off284 v3140) a + S32x4096.size a ≤ S4096x4096.size a := fun v3140 k0_hw259 => k0_hw259.1
theorem k0_off284_wordsi8 : ∀ (v3140 : BitVec 32) (k0_hw259 : k0_chk259 v3140), (Rect.unit (s := S4096x4096) (k0_off284 v3140) S32x4096.size (k0_off284_inb v3140 k0_hw259)).WholeWords (EltTy.packing .i8) := fun v3140 k0_hw259 => k0_hw259.2 (k0_off284_inb v3140 k0_hw259)

def k0_off285 (v3151 : BitVec 32) : Fin 2 → Nat :=
  let c128_i32_3132 : BitVec 32 := 128#32
  let v3154 : BitVec 32 := Scalar.muli v3151 c128_i32_3132
  let c96_i32_3133 : BitVec 32 := 96#32
  let v3155 : BitVec 32 := Scalar.addi v3154 c96_i32_3133
  let c0_i32_3140 : BitVec 32 := 0#32
  ![v3155.toNat, 0]

def k0_dev121 (v0 : BitVec 32) : Nat :=
  let c0_i32_3139 : BitVec 32 := 0#32
  let c1_i32_3138 : BitVec 32 := 1#32
  let v3156 : BitVec 32 := Scalar.muli v0 c1_i32_3138
  let v3157 : BitVec 32 := Scalar.addi c0_i32_3139 v3156
  v3157.toNat
def k0_off286 (v3164 : BitVec 32) : Fin 2 → Nat :=
  let c128_i32_3145 : BitVec 32 := 128#32
  let v3167 : BitVec 32 := Scalar.muli v3164 c128_i32_3145
  let c96_i32_3146 : BitVec 32 := 96#32
  let v3168 : BitVec 32 := Scalar.addi v3167 c96_i32_3146
  let c0_i32_3153 : BitVec 32 := 0#32
  ![v3168.toNat, 0]

def k0_chk261 (v3164 : BitVec 32) : Prop :=
  (∀ a, (k0_off286 v3164) a + S32x4096.size a ≤ S4096x4096.size a) ∧
  (∀ (hinb : ∀ a, (k0_off286 v3164) a + S32x4096.size a ≤ S4096x4096.size a), (Rect.unit (s := S4096x4096) (k0_off286 v3164) S32x4096.size hinb).WholeWords (EltTy.packing .i8))
theorem k0_off286_inb : ∀ (v3164 : BitVec 32) (k0_hw261 : k0_chk261 v3164), ∀ a, (k0_off286 v3164) a + S32x4096.size a ≤ S4096x4096.size a := fun v3164 k0_hw261 => k0_hw261.1
theorem k0_off286_wordsi8 : ∀ (v3164 : BitVec 32) (k0_hw261 : k0_chk261 v3164), (Rect.unit (s := S4096x4096) (k0_off286 v3164) S32x4096.size (k0_off286_inb v3164 k0_hw261)).WholeWords (EltTy.packing .i8) := fun v3164 k0_hw261 => k0_hw261.2 (k0_off286_inb v3164 k0_hw261)

def k0_off287 (v3175 : BitVec 32) : Fin 2 → Nat :=
  let c128_i32_3158 : BitVec 32 := 128#32
  let v3178 : BitVec 32 := Scalar.muli v3175 c128_i32_3158
  let c96_i32_3159 : BitVec 32 := 96#32
  let v3179 : BitVec 32 := Scalar.addi v3178 c96_i32_3159
  let c0_i32_3166 : BitVec 32 := 0#32
  ![v3179.toNat, 0]

def k0_dev122 (v1 : BitVec 32) : Nat :=
  let c0_i32_3165 : BitVec 32 := 0#32
  let c1_i32_3164 : BitVec 32 := 1#32
  let v3180 : BitVec 32 := Scalar.muli v1 c1_i32_3164
  let v3181 : BitVec 32 := Scalar.addi c0_i32_3165 v3180
  v3181.toNat
def k0_off288 (v3188 : BitVec 32) : Fin 2 → Nat :=
  let c128_i32_3169 : BitVec 32 := 128#32
  let v3189 : BitVec 32 := Scalar.muli v3188 c128_i32_3169
  let v3190 : Index := Scalar.indexCast v3189
  let c0_3170 : Index := 0#32
  ![v3190.toNat, 0]

def k0_off289 (v3188 : BitVec 32) : Fin 2 → Nat :=
  let c128_i32_3169 : BitVec 32 := 128#32
  let v3189 : BitVec 32 := Scalar.muli v3188 c128_i32_3169
  let v3200 : Index := Scalar.indexCast v3189
  let c0_3175 : Index := 0#32
  ![v3200.toNat, 0]

def k0_chk263 (v3188 : BitVec 32) : Prop :=
  (∀ a, (k0_off288 v3188) a + S128x4096.size a ≤ S4096x4096.size a) ∧
  (∀ a, (k0_off289 v3188) a + S128x64.size a ≤ S4096x64.size a)
theorem k0_off288_inb : ∀ (v3188 : BitVec 32) (k0_hw263 : k0_chk263 v3188), ∀ a, (k0_off288 v3188) a + S128x4096.size a ≤ S4096x4096.size a := fun v3188 k0_hw263 => k0_hw263.1
theorem k0_off289_inb : ∀ (v3188 : BitVec 32) (k0_hw263 : k0_chk263 v3188), ∀ a, (k0_off289 v3188) a + S128x64.size a ≤ S4096x64.size a := fun v3188 k0_hw263 => k0_hw263.2

def k0_off290 (v3202 : BitVec 32) : Fin 2 → Nat :=
  let c128_i32_3177 : BitVec 32 := 128#32
  let v3203 : BitVec 32 := Scalar.muli v3202 c128_i32_3177
  let v3204 : Index := Scalar.indexCast v3203
  let c0_3178 : Index := 0#32
  ![v3204.toNat, 0]

def k0_off291 (v3202 : BitVec 32) : Fin 2 → Nat :=
  let c128_i32_3177 : BitVec 32 := 128#32
  let v3203 : BitVec 32 := Scalar.muli v3202 c128_i32_3177
  let v3214 : Index := Scalar.indexCast v3203
  let c0_3183 : Index := 0#32
  ![v3214.toNat, 0]

def k0_chk264 (v3202 : BitVec 32) : Prop :=
  (∀ a, (k0_off290 v3202) a + S128x4096.size a ≤ S4096x4096.size a) ∧
  (∀ a, (k0_off291 v3202) a + S128x64.size a ≤ S4096x64.size a)
theorem k0_off290_inb : ∀ (v3202 : BitVec 32) (k0_hw264 : k0_chk264 v3202), ∀ a, (k0_off290 v3202) a + S128x4096.size a ≤ S4096x4096.size a := fun v3202 k0_hw264 => k0_hw264.1
theorem k0_off291_inb : ∀ (v3202 : BitVec 32) (k0_hw264 : k0_chk264 v3202), ∀ a, (k0_off291 v3202) a + S128x64.size a ≤ S4096x64.size a := fun v3202 k0_hw264 => k0_hw264.2

def k0_off292 (v3216 : BitVec 32) : Fin 2 → Nat :=
  let c128_i32_3186 : BitVec 32 := 128#32
  let v3219 : BitVec 32 := Scalar.muli v3216 c128_i32_3186
  let c0_i32_3187 : BitVec 32 := 0#32
  let v3220 : BitVec 32 := Scalar.addi v3219 c0_i32_3187
  let c0_i32_3194 : BitVec 32 := 0#32
  ![v3220.toNat, 0]

def k0_chk265 (v3216 : BitVec 32) : Prop :=
  (∀ a, (k0_off292 v3216) a + S32x4096.size a ≤ S4096x4096.size a) ∧
  (∀ (hinb : ∀ a, (k0_off292 v3216) a + S32x4096.size a ≤ S4096x4096.size a), (Rect.unit (s := S4096x4096) (k0_off292 v3216) S32x4096.size hinb).WholeWords (EltTy.packing .i8))
theorem k0_off292_inb : ∀ (v3216 : BitVec 32) (k0_hw265 : k0_chk265 v3216), ∀ a, (k0_off292 v3216) a + S32x4096.size a ≤ S4096x4096.size a := fun v3216 k0_hw265 => k0_hw265.1
theorem k0_off292_wordsi8 : ∀ (v3216 : BitVec 32) (k0_hw265 : k0_chk265 v3216), (Rect.unit (s := S4096x4096) (k0_off292 v3216) S32x4096.size (k0_off292_inb v3216 k0_hw265)).WholeWords (EltTy.packing .i8) := fun v3216 k0_hw265 => k0_hw265.2 (k0_off292_inb v3216 k0_hw265)

def k0_off293 (v3227 : BitVec 32) : Fin 2 → Nat :=
  let c128_i32_3198 : BitVec 32 := 128#32
  let v3230 : BitVec 32 := Scalar.muli v3227 c128_i32_3198
  let c0_i32_3199 : BitVec 32 := 0#32
  let v3231 : BitVec 32 := Scalar.addi v3230 c0_i32_3199
  let c0_i32_3205 : BitVec 32 := 0#32
  ![v3231.toNat, 0]

def k0_dev123 (v0 : BitVec 32) : Nat :=
  let c0_i32_3204 : BitVec 32 := 0#32
  let c1_i32_3203 : BitVec 32 := 1#32
  let v3232 : BitVec 32 := Scalar.muli v0 c1_i32_3203
  let v3233 : BitVec 32 := Scalar.addi c0_i32_3204 v3232
  v3233.toNat
def k0_off294 (v3240 : BitVec 32) : Fin 2 → Nat :=
  let c128_i32_3209 : BitVec 32 := 128#32
  let v3243 : BitVec 32 := Scalar.muli v3240 c128_i32_3209
  let c0_i32_3210 : BitVec 32 := 0#32
  let v3244 : BitVec 32 := Scalar.addi v3243 c0_i32_3210
  let c0_i32_3217 : BitVec 32 := 0#32
  ![v3244.toNat, 0]

def k0_chk267 (v3240 : BitVec 32) : Prop :=
  (∀ a, (k0_off294 v3240) a + S32x4096.size a ≤ S4096x4096.size a) ∧
  (∀ (hinb : ∀ a, (k0_off294 v3240) a + S32x4096.size a ≤ S4096x4096.size a), (Rect.unit (s := S4096x4096) (k0_off294 v3240) S32x4096.size hinb).WholeWords (EltTy.packing .i8))
theorem k0_off294_inb : ∀ (v3240 : BitVec 32) (k0_hw267 : k0_chk267 v3240), ∀ a, (k0_off294 v3240) a + S32x4096.size a ≤ S4096x4096.size a := fun v3240 k0_hw267 => k0_hw267.1
theorem k0_off294_wordsi8 : ∀ (v3240 : BitVec 32) (k0_hw267 : k0_chk267 v3240), (Rect.unit (s := S4096x4096) (k0_off294 v3240) S32x4096.size (k0_off294_inb v3240 k0_hw267)).WholeWords (EltTy.packing .i8) := fun v3240 k0_hw267 => k0_hw267.2 (k0_off294_inb v3240 k0_hw267)

def k0_off295 (v3251 : BitVec 32) : Fin 2 → Nat :=
  let c128_i32_3222 : BitVec 32 := 128#32
  let v3254 : BitVec 32 := Scalar.muli v3251 c128_i32_3222
  let c32_i32_3223 : BitVec 32 := 32#32
  let v3255 : BitVec 32 := Scalar.addi v3254 c32_i32_3223
  let c0_i32_3230 : BitVec 32 := 0#32
  ![v3255.toNat, 0]

def k0_chk268 (v3251 : BitVec 32) : Prop :=
  (∀ a, (k0_off295 v3251) a + S32x4096.size a ≤ S4096x4096.size a) ∧
  (∀ (hinb : ∀ a, (k0_off295 v3251) a + S32x4096.size a ≤ S4096x4096.size a), (Rect.unit (s := S4096x4096) (k0_off295 v3251) S32x4096.size hinb).WholeWords (EltTy.packing .i8))
theorem k0_off295_inb : ∀ (v3251 : BitVec 32) (k0_hw268 : k0_chk268 v3251), ∀ a, (k0_off295 v3251) a + S32x4096.size a ≤ S4096x4096.size a := fun v3251 k0_hw268 => k0_hw268.1
theorem k0_off295_wordsi8 : ∀ (v3251 : BitVec 32) (k0_hw268 : k0_chk268 v3251), (Rect.unit (s := S4096x4096) (k0_off295 v3251) S32x4096.size (k0_off295_inb v3251 k0_hw268)).WholeWords (EltTy.packing .i8) := fun v3251 k0_hw268 => k0_hw268.2 (k0_off295_inb v3251 k0_hw268)

def k0_off296 (v3262 : BitVec 32) : Fin 2 → Nat :=
  let c128_i32_3235 : BitVec 32 := 128#32
  let v3265 : BitVec 32 := Scalar.muli v3262 c128_i32_3235
  let c32_i32_3236 : BitVec 32 := 32#32
  let v3266 : BitVec 32 := Scalar.addi v3265 c32_i32_3236
  let c0_i32_3243 : BitVec 32 := 0#32
  ![v3266.toNat, 0]

def k0_dev124 (v0 : BitVec 32) : Nat :=
  let c0_i32_3242 : BitVec 32 := 0#32
  let c1_i32_3241 : BitVec 32 := 1#32
  let v3267 : BitVec 32 := Scalar.muli v0 c1_i32_3241
  let v3268 : BitVec 32 := Scalar.addi c0_i32_3242 v3267
  v3268.toNat

def k0_chk2_0 (v0 : BitVec 32) : Prop :=
  ((k0_dev2 v0) < nD) ∧
  ((k0_dev3 v0) < nD) ∧
  ((k0_dev4 v0) < nD) ∧
  ((k0_dev5 v0) < nD) ∧
  ((k0_dev6 v0) < nD) ∧
  ((k0_dev11 v0) < nD) ∧
  ((k0_dev13 v0) < nD) ∧
  ((k0_dev15 v0) < nD) ∧
  ((k0_dev17 v0) < nD) ∧
  ((k0_dev19 v0) < nD) ∧
  ((k0_dev21 v0) < nD) ∧
  ((k0_dev23 v0) < nD) ∧
  ((k0_dev25 v0) < nD) ∧
  ((k0_dev27 v0) < nD) ∧
  ((k0_dev29 v0) < nD) ∧
  ((k0_dev31 v0) < nD) ∧
  ((k0_dev33 v0) < nD) ∧
  ((k0_dev35 v0) < nD) ∧
  ((k0_dev37 v0) < nD) ∧
  ((k0_dev39 v0) < nD) ∧
  ((k0_dev41 v0) < nD) ∧
  ((k0_dev43 v0) < nD) ∧
  ((k0_dev45 v0) < nD) ∧
  ((k0_dev47 v0) < nD) ∧
  ((k0_dev49 v0) < nD) ∧
  ((k0_dev51 v0) < nD) ∧
  ((k0_dev53 v0) < nD) ∧
  ((k0_dev55 v0) < nD) ∧
  ((k0_dev57 v0) < nD) ∧
  ((k0_dev59 v0) < nD) ∧
  ((k0_dev61 v0) < nD) ∧
  ((k0_dev63 v0) < nD)
def k0_chk2_1 (v0 : BitVec 32) : Prop :=
  ((k0_dev65 v0) < nD) ∧
  ((k0_dev67 v0) < nD) ∧
  ((k0_dev69 v0) < nD) ∧
  ((k0_dev71 v0) < nD) ∧
  ((k0_dev73 v0) < nD) ∧
  ((k0_dev75 v0) < nD) ∧
  ((k0_dev77 v0) < nD) ∧
  ((k0_dev79 v0) < nD) ∧
  ((k0_dev81 v0) < nD) ∧
  ((k0_dev83 v0) < nD) ∧
  ((k0_dev85 v0) < nD) ∧
  ((k0_dev87 v0) < nD) ∧
  ((k0_dev89 v0) < nD) ∧
  ((k0_dev91 v0) < nD) ∧
  ((k0_dev93 v0) < nD) ∧
  ((k0_dev95 v0) < nD) ∧
  ((k0_dev97 v0) < nD) ∧
  ((k0_dev99 v0) < nD) ∧
  ((k0_dev101 v0) < nD) ∧
  ((k0_dev103 v0) < nD) ∧
  ((k0_dev105 v0) < nD) ∧
  ((k0_dev107 v0) < nD) ∧
  ((k0_dev109 v0) < nD) ∧
  ((k0_dev111 v0) < nD) ∧
  ((k0_dev113 v0) < nD) ∧
  ((k0_dev115 v0) < nD) ∧
  ((k0_dev117 v0) < nD) ∧
  ((k0_dev119 v0) < nD) ∧
  ((k0_dev121 v0) < nD) ∧
  ((k0_dev123 v0) < nD) ∧
  ((k0_dev124 v0) < nD)
def k0_chk2 (v0 : BitVec 32) : Prop :=
  k0_chk2_0 v0 ∧
  k0_chk2_1 v0
theorem k0_dev2_lt : ∀ (v0 : BitVec 32) (k0_hw2 : k0_chk2 v0), (k0_dev2 v0) < nD := fun v0 k0_hw2 => k0_hw2.1.1
theorem k0_dev3_lt : ∀ (v0 : BitVec 32) (k0_hw2 : k0_chk2 v0), (k0_dev3 v0) < nD := fun v0 k0_hw2 => k0_hw2.1.2.1
theorem k0_dev4_lt : ∀ (v0 : BitVec 32) (k0_hw2 : k0_chk2 v0), (k0_dev4 v0) < nD := fun v0 k0_hw2 => k0_hw2.1.2.2.1
theorem k0_dev5_lt : ∀ (v0 : BitVec 32) (k0_hw2 : k0_chk2 v0), (k0_dev5 v0) < nD := fun v0 k0_hw2 => k0_hw2.1.2.2.2.1
theorem k0_dev6_lt : ∀ (v0 : BitVec 32) (k0_hw2 : k0_chk2 v0), (k0_dev6 v0) < nD := fun v0 k0_hw2 => k0_hw2.1.2.2.2.2.1
theorem k0_dev11_lt : ∀ (v0 : BitVec 32) (k0_hw2 : k0_chk2 v0), (k0_dev11 v0) < nD := fun v0 k0_hw2 => k0_hw2.1.2.2.2.2.2.1
theorem k0_dev13_lt : ∀ (v0 : BitVec 32) (k0_hw2 : k0_chk2 v0), (k0_dev13 v0) < nD := fun v0 k0_hw2 => k0_hw2.1.2.2.2.2.2.2.1
theorem k0_dev15_lt : ∀ (v0 : BitVec 32) (k0_hw2 : k0_chk2 v0), (k0_dev15 v0) < nD := fun v0 k0_hw2 => k0_hw2.1.2.2.2.2.2.2.2.1
theorem k0_dev17_lt : ∀ (v0 : BitVec 32) (k0_hw2 : k0_chk2 v0), (k0_dev17 v0) < nD := fun v0 k0_hw2 => k0_hw2.1.2.2.2.2.2.2.2.2.1
theorem k0_dev19_lt : ∀ (v0 : BitVec 32) (k0_hw2 : k0_chk2 v0), (k0_dev19 v0) < nD := fun v0 k0_hw2 => k0_hw2.1.2.2.2.2.2.2.2.2.2.1
theorem k0_dev21_lt : ∀ (v0 : BitVec 32) (k0_hw2 : k0_chk2 v0), (k0_dev21 v0) < nD := fun v0 k0_hw2 => k0_hw2.1.2.2.2.2.2.2.2.2.2.2.1
theorem k0_dev23_lt : ∀ (v0 : BitVec 32) (k0_hw2 : k0_chk2 v0), (k0_dev23 v0) < nD := fun v0 k0_hw2 => k0_hw2.1.2.2.2.2.2.2.2.2.2.2.2.1
theorem k0_dev25_lt : ∀ (v0 : BitVec 32) (k0_hw2 : k0_chk2 v0), (k0_dev25 v0) < nD := fun v0 k0_hw2 => k0_hw2.1.2.2.2.2.2.2.2.2.2.2.2.2.1
theorem k0_dev27_lt : ∀ (v0 : BitVec 32) (k0_hw2 : k0_chk2 v0), (k0_dev27 v0) < nD := fun v0 k0_hw2 => k0_hw2.1.2.2.2.2.2.2.2.2.2.2.2.2.2.1
theorem k0_dev29_lt : ∀ (v0 : BitVec 32) (k0_hw2 : k0_chk2 v0), (k0_dev29 v0) < nD := fun v0 k0_hw2 => k0_hw2.1.2.2.2.2.2.2.2.2.2.2.2.2.2.2.1
theorem k0_dev31_lt : ∀ (v0 : BitVec 32) (k0_hw2 : k0_chk2 v0), (k0_dev31 v0) < nD := fun v0 k0_hw2 => k0_hw2.1.2.2.2.2.2.2.2.2.2.2.2.2.2.2.2.1
theorem k0_dev33_lt : ∀ (v0 : BitVec 32) (k0_hw2 : k0_chk2 v0), (k0_dev33 v0) < nD := fun v0 k0_hw2 => k0_hw2.1.2.2.2.2.2.2.2.2.2.2.2.2.2.2.2.2.1
theorem k0_dev35_lt : ∀ (v0 : BitVec 32) (k0_hw2 : k0_chk2 v0), (k0_dev35 v0) < nD := fun v0 k0_hw2 => k0_hw2.1.2.2.2.2.2.2.2.2.2.2.2.2.2.2.2.2.2.1
theorem k0_dev37_lt : ∀ (v0 : BitVec 32) (k0_hw2 : k0_chk2 v0), (k0_dev37 v0) < nD := fun v0 k0_hw2 => k0_hw2.1.2.2.2.2.2.2.2.2.2.2.2.2.2.2.2.2.2.2.1
theorem k0_dev39_lt : ∀ (v0 : BitVec 32) (k0_hw2 : k0_chk2 v0), (k0_dev39 v0) < nD := fun v0 k0_hw2 => k0_hw2.1.2.2.2.2.2.2.2.2.2.2.2.2.2.2.2.2.2.2.2.1
theorem k0_dev41_lt : ∀ (v0 : BitVec 32) (k0_hw2 : k0_chk2 v0), (k0_dev41 v0) < nD := fun v0 k0_hw2 => k0_hw2.1.2.2.2.2.2.2.2.2.2.2.2.2.2.2.2.2.2.2.2.2.1
theorem k0_dev43_lt : ∀ (v0 : BitVec 32) (k0_hw2 : k0_chk2 v0), (k0_dev43 v0) < nD := fun v0 k0_hw2 => k0_hw2.1.2.2.2.2.2.2.2.2.2.2.2.2.2.2.2.2.2.2.2.2.2.1
theorem k0_dev45_lt : ∀ (v0 : BitVec 32) (k0_hw2 : k0_chk2 v0), (k0_dev45 v0) < nD := fun v0 k0_hw2 => k0_hw2.1.2.2.2.2.2.2.2.2.2.2.2.2.2.2.2.2.2.2.2.2.2.2.1
theorem k0_dev47_lt : ∀ (v0 : BitVec 32) (k0_hw2 : k0_chk2 v0), (k0_dev47 v0) < nD := fun v0 k0_hw2 => k0_hw2.1.2.2.2.2.2.2.2.2.2.2.2.2.2.2.2.2.2.2.2.2.2.2.2.1
theorem k0_dev49_lt : ∀ (v0 : BitVec 32) (k0_hw2 : k0_chk2 v0), (k0_dev49 v0) < nD := fun v0 k0_hw2 => k0_hw2.1.2.2.2.2.2.2.2.2.2.2.2.2.2.2.2.2.2.2.2.2.2.2.2.2.1
theorem k0_dev51_lt : ∀ (v0 : BitVec 32) (k0_hw2 : k0_chk2 v0), (k0_dev51 v0) < nD := fun v0 k0_hw2 => k0_hw2.1.2.2.2.2.2.2.2.2.2.2.2.2.2.2.2.2.2.2.2.2.2.2.2.2.2.1
theorem k0_dev53_lt : ∀ (v0 : BitVec 32) (k0_hw2 : k0_chk2 v0), (k0_dev53 v0) < nD := fun v0 k0_hw2 => k0_hw2.1.2.2.2.2.2.2.2.2.2.2.2.2.2.2.2.2.2.2.2.2.2.2.2.2.2.2.1
theorem k0_dev55_lt : ∀ (v0 : BitVec 32) (k0_hw2 : k0_chk2 v0), (k0_dev55 v0) < nD := fun v0 k0_hw2 => k0_hw2.1.2.2.2.2.2.2.2.2.2.2.2.2.2.2.2.2.2.2.2.2.2.2.2.2.2.2.2.1
theorem k0_dev57_lt : ∀ (v0 : BitVec 32) (k0_hw2 : k0_chk2 v0), (k0_dev57 v0) < nD := fun v0 k0_hw2 => k0_hw2.1.2.2.2.2.2.2.2.2.2.2.2.2.2.2.2.2.2.2.2.2.2.2.2.2.2.2.2.2.1
theorem k0_dev59_lt : ∀ (v0 : BitVec 32) (k0_hw2 : k0_chk2 v0), (k0_dev59 v0) < nD := fun v0 k0_hw2 => k0_hw2.1.2.2.2.2.2.2.2.2.2.2.2.2.2.2.2.2.2.2.2.2.2.2.2.2.2.2.2.2.2.1
theorem k0_dev61_lt : ∀ (v0 : BitVec 32) (k0_hw2 : k0_chk2 v0), (k0_dev61 v0) < nD := fun v0 k0_hw2 => k0_hw2.1.2.2.2.2.2.2.2.2.2.2.2.2.2.2.2.2.2.2.2.2.2.2.2.2.2.2.2.2.2.2.1
theorem k0_dev63_lt : ∀ (v0 : BitVec 32) (k0_hw2 : k0_chk2 v0), (k0_dev63 v0) < nD := fun v0 k0_hw2 => k0_hw2.1.2.2.2.2.2.2.2.2.2.2.2.2.2.2.2.2.2.2.2.2.2.2.2.2.2.2.2.2.2.2.2
theorem k0_dev65_lt : ∀ (v0 : BitVec 32) (k0_hw2 : k0_chk2 v0), (k0_dev65 v0) < nD := fun v0 k0_hw2 => k0_hw2.2.1
theorem k0_dev67_lt : ∀ (v0 : BitVec 32) (k0_hw2 : k0_chk2 v0), (k0_dev67 v0) < nD := fun v0 k0_hw2 => k0_hw2.2.2.1
theorem k0_dev69_lt : ∀ (v0 : BitVec 32) (k0_hw2 : k0_chk2 v0), (k0_dev69 v0) < nD := fun v0 k0_hw2 => k0_hw2.2.2.2.1
theorem k0_dev71_lt : ∀ (v0 : BitVec 32) (k0_hw2 : k0_chk2 v0), (k0_dev71 v0) < nD := fun v0 k0_hw2 => k0_hw2.2.2.2.2.1
theorem k0_dev73_lt : ∀ (v0 : BitVec 32) (k0_hw2 : k0_chk2 v0), (k0_dev73 v0) < nD := fun v0 k0_hw2 => k0_hw2.2.2.2.2.2.1
theorem k0_dev75_lt : ∀ (v0 : BitVec 32) (k0_hw2 : k0_chk2 v0), (k0_dev75 v0) < nD := fun v0 k0_hw2 => k0_hw2.2.2.2.2.2.2.1
theorem k0_dev77_lt : ∀ (v0 : BitVec 32) (k0_hw2 : k0_chk2 v0), (k0_dev77 v0) < nD := fun v0 k0_hw2 => k0_hw2.2.2.2.2.2.2.2.1
theorem k0_dev79_lt : ∀ (v0 : BitVec 32) (k0_hw2 : k0_chk2 v0), (k0_dev79 v0) < nD := fun v0 k0_hw2 => k0_hw2.2.2.2.2.2.2.2.2.1
theorem k0_dev81_lt : ∀ (v0 : BitVec 32) (k0_hw2 : k0_chk2 v0), (k0_dev81 v0) < nD := fun v0 k0_hw2 => k0_hw2.2.2.2.2.2.2.2.2.2.1
theorem k0_dev83_lt : ∀ (v0 : BitVec 32) (k0_hw2 : k0_chk2 v0), (k0_dev83 v0) < nD := fun v0 k0_hw2 => k0_hw2.2.2.2.2.2.2.2.2.2.2.1
theorem k0_dev85_lt : ∀ (v0 : BitVec 32) (k0_hw2 : k0_chk2 v0), (k0_dev85 v0) < nD := fun v0 k0_hw2 => k0_hw2.2.2.2.2.2.2.2.2.2.2.2.1
theorem k0_dev87_lt : ∀ (v0 : BitVec 32) (k0_hw2 : k0_chk2 v0), (k0_dev87 v0) < nD := fun v0 k0_hw2 => k0_hw2.2.2.2.2.2.2.2.2.2.2.2.2.1
theorem k0_dev89_lt : ∀ (v0 : BitVec 32) (k0_hw2 : k0_chk2 v0), (k0_dev89 v0) < nD := fun v0 k0_hw2 => k0_hw2.2.2.2.2.2.2.2.2.2.2.2.2.2.1
theorem k0_dev91_lt : ∀ (v0 : BitVec 32) (k0_hw2 : k0_chk2 v0), (k0_dev91 v0) < nD := fun v0 k0_hw2 => k0_hw2.2.2.2.2.2.2.2.2.2.2.2.2.2.2.1
theorem k0_dev93_lt : ∀ (v0 : BitVec 32) (k0_hw2 : k0_chk2 v0), (k0_dev93 v0) < nD := fun v0 k0_hw2 => k0_hw2.2.2.2.2.2.2.2.2.2.2.2.2.2.2.2.1
theorem k0_dev95_lt : ∀ (v0 : BitVec 32) (k0_hw2 : k0_chk2 v0), (k0_dev95 v0) < nD := fun v0 k0_hw2 => k0_hw2.2.2.2.2.2.2.2.2.2.2.2.2.2.2.2.2.1
theorem k0_dev97_lt : ∀ (v0 : BitVec 32) (k0_hw2 : k0_chk2 v0), (k0_dev97 v0) < nD := fun v0 k0_hw2 => k0_hw2.2.2.2.2.2.2.2.2.2.2.2.2.2.2.2.2.2.1
theorem k0_dev99_lt : ∀ (v0 : BitVec 32) (k0_hw2 : k0_chk2 v0), (k0_dev99 v0) < nD := fun v0 k0_hw2 => k0_hw2.2.2.2.2.2.2.2.2.2.2.2.2.2.2.2.2.2.2.1
theorem k0_dev101_lt : ∀ (v0 : BitVec 32) (k0_hw2 : k0_chk2 v0), (k0_dev101 v0) < nD := fun v0 k0_hw2 => k0_hw2.2.2.2.2.2.2.2.2.2.2.2.2.2.2.2.2.2.2.2.1
theorem k0_dev103_lt : ∀ (v0 : BitVec 32) (k0_hw2 : k0_chk2 v0), (k0_dev103 v0) < nD := fun v0 k0_hw2 => k0_hw2.2.2.2.2.2.2.2.2.2.2.2.2.2.2.2.2.2.2.2.2.1
theorem k0_dev105_lt : ∀ (v0 : BitVec 32) (k0_hw2 : k0_chk2 v0), (k0_dev105 v0) < nD := fun v0 k0_hw2 => k0_hw2.2.2.2.2.2.2.2.2.2.2.2.2.2.2.2.2.2.2.2.2.2.1
theorem k0_dev107_lt : ∀ (v0 : BitVec 32) (k0_hw2 : k0_chk2 v0), (k0_dev107 v0) < nD := fun v0 k0_hw2 => k0_hw2.2.2.2.2.2.2.2.2.2.2.2.2.2.2.2.2.2.2.2.2.2.2.1
theorem k0_dev109_lt : ∀ (v0 : BitVec 32) (k0_hw2 : k0_chk2 v0), (k0_dev109 v0) < nD := fun v0 k0_hw2 => k0_hw2.2.2.2.2.2.2.2.2.2.2.2.2.2.2.2.2.2.2.2.2.2.2.2.1
theorem k0_dev111_lt : ∀ (v0 : BitVec 32) (k0_hw2 : k0_chk2 v0), (k0_dev111 v0) < nD := fun v0 k0_hw2 => k0_hw2.2.2.2.2.2.2.2.2.2.2.2.2.2.2.2.2.2.2.2.2.2.2.2.2.1
theorem k0_dev113_lt : ∀ (v0 : BitVec 32) (k0_hw2 : k0_chk2 v0), (k0_dev113 v0) < nD := fun v0 k0_hw2 => k0_hw2.2.2.2.2.2.2.2.2.2.2.2.2.2.2.2.2.2.2.2.2.2.2.2.2.2.1
theorem k0_dev115_lt : ∀ (v0 : BitVec 32) (k0_hw2 : k0_chk2 v0), (k0_dev115 v0) < nD := fun v0 k0_hw2 => k0_hw2.2.2.2.2.2.2.2.2.2.2.2.2.2.2.2.2.2.2.2.2.2.2.2.2.2.2.1
theorem k0_dev117_lt : ∀ (v0 : BitVec 32) (k0_hw2 : k0_chk2 v0), (k0_dev117 v0) < nD := fun v0 k0_hw2 => k0_hw2.2.2.2.2.2.2.2.2.2.2.2.2.2.2.2.2.2.2.2.2.2.2.2.2.2.2.2.1
theorem k0_dev119_lt : ∀ (v0 : BitVec 32) (k0_hw2 : k0_chk2 v0), (k0_dev119 v0) < nD := fun v0 k0_hw2 => k0_hw2.2.2.2.2.2.2.2.2.2.2.2.2.2.2.2.2.2.2.2.2.2.2.2.2.2.2.2.2.1
theorem k0_dev121_lt : ∀ (v0 : BitVec 32) (k0_hw2 : k0_chk2 v0), (k0_dev121 v0) < nD := fun v0 k0_hw2 => k0_hw2.2.2.2.2.2.2.2.2.2.2.2.2.2.2.2.2.2.2.2.2.2.2.2.2.2.2.2.2.2.1
theorem k0_dev123_lt : ∀ (v0 : BitVec 32) (k0_hw2 : k0_chk2 v0), (k0_dev123 v0) < nD := fun v0 k0_hw2 => k0_hw2.2.2.2.2.2.2.2.2.2.2.2.2.2.2.2.2.2.2.2.2.2.2.2.2.2.2.2.2.2.2.1
theorem k0_dev124_lt : ∀ (v0 : BitVec 32) (k0_hw2 : k0_chk2 v0), (k0_dev124 v0) < nD := fun v0 k0_hw2 => k0_hw2.2.2.2.2.2.2.2.2.2.2.2.2.2.2.2.2.2.2.2.2.2.2.2.2.2.2.2.2.2.2.2

def k0_off297 (v3275 : BitVec 32) : Fin 2 → Nat :=
  let c128_i32_3248 : BitVec 32 := 128#32
  let v3278 : BitVec 32 := Scalar.muli v3275 c128_i32_3248
  let c32_i32_3249 : BitVec 32 := 32#32
  let v3279 : BitVec 32 := Scalar.addi v3278 c32_i32_3249
  let c0_i32_3256 : BitVec 32 := 0#32
  ![v3279.toNat, 0]

def k0_chk270 (v3275 : BitVec 32) : Prop :=
  (∀ a, (k0_off297 v3275) a + S32x4096.size a ≤ S4096x4096.size a) ∧
  (∀ (hinb : ∀ a, (k0_off297 v3275) a + S32x4096.size a ≤ S4096x4096.size a), (Rect.unit (s := S4096x4096) (k0_off297 v3275) S32x4096.size hinb).WholeWords (EltTy.packing .i8))
theorem k0_off297_inb : ∀ (v3275 : BitVec 32) (k0_hw270 : k0_chk270 v3275), ∀ a, (k0_off297 v3275) a + S32x4096.size a ≤ S4096x4096.size a := fun v3275 k0_hw270 => k0_hw270.1
theorem k0_off297_wordsi8 : ∀ (v3275 : BitVec 32) (k0_hw270 : k0_chk270 v3275), (Rect.unit (s := S4096x4096) (k0_off297 v3275) S32x4096.size (k0_off297_inb v3275 k0_hw270)).WholeWords (EltTy.packing .i8) := fun v3275 k0_hw270 => k0_hw270.2 (k0_off297_inb v3275 k0_hw270)

def k0_off298 (v3286 : BitVec 32) : Fin 2 → Nat :=
  let c128_i32_3261 : BitVec 32 := 128#32
  let v3289 : BitVec 32 := Scalar.muli v3286 c128_i32_3261
  let c64_i32_3262 : BitVec 32 := 64#32
  let v3290 : BitVec 32 := Scalar.addi v3289 c64_i32_3262
  let c0_i32_3269 : BitVec 32 := 0#32
  ![v3290.toNat, 0]

def k0_chk271 (v3286 : BitVec 32) : Prop :=
  (∀ a, (k0_off298 v3286) a + S32x4096.size a ≤ S4096x4096.size a) ∧
  (∀ (hinb : ∀ a, (k0_off298 v3286) a + S32x4096.size a ≤ S4096x4096.size a), (Rect.unit (s := S4096x4096) (k0_off298 v3286) S32x4096.size hinb).WholeWords (EltTy.packing .i8))
theorem k0_off298_inb : ∀ (v3286 : BitVec 32) (k0_hw271 : k0_chk271 v3286), ∀ a, (k0_off298 v3286) a + S32x4096.size a ≤ S4096x4096.size a := fun v3286 k0_hw271 => k0_hw271.1
theorem k0_off298_wordsi8 : ∀ (v3286 : BitVec 32) (k0_hw271 : k0_chk271 v3286), (Rect.unit (s := S4096x4096) (k0_off298 v3286) S32x4096.size (k0_off298_inb v3286 k0_hw271)).WholeWords (EltTy.packing .i8) := fun v3286 k0_hw271 => k0_hw271.2 (k0_off298_inb v3286 k0_hw271)

def k0_off299 (v3297 : BitVec 32) : Fin 2 → Nat :=
  let c128_i32_3274 : BitVec 32 := 128#32
  let v3300 : BitVec 32 := Scalar.muli v3297 c128_i32_3274
  let c64_i32_3275 : BitVec 32 := 64#32
  let v3301 : BitVec 32 := Scalar.addi v3300 c64_i32_3275
  let c0_i32_3282 : BitVec 32 := 0#32
  ![v3301.toNat, 0]

def k0_chk272 (v3297 : BitVec 32) : Prop :=
  (∀ a, (k0_off299 v3297) a + S32x4096.size a ≤ S4096x4096.size a) ∧
  (∀ (hinb : ∀ a, (k0_off299 v3297) a + S32x4096.size a ≤ S4096x4096.size a), (Rect.unit (s := S4096x4096) (k0_off299 v3297) S32x4096.size hinb).WholeWords (EltTy.packing .i8))
theorem k0_off299_inb : ∀ (v3297 : BitVec 32) (k0_hw272 : k0_chk272 v3297), ∀ a, (k0_off299 v3297) a + S32x4096.size a ≤ S4096x4096.size a := fun v3297 k0_hw272 => k0_hw272.1
theorem k0_off299_wordsi8 : ∀ (v3297 : BitVec 32) (k0_hw272 : k0_chk272 v3297), (Rect.unit (s := S4096x4096) (k0_off299 v3297) S32x4096.size (k0_off299_inb v3297 k0_hw272)).WholeWords (EltTy.packing .i8) := fun v3297 k0_hw272 => k0_hw272.2 (k0_off299_inb v3297 k0_hw272)

def k0_off300 (v3308 : BitVec 32) : Fin 2 → Nat :=
  let c128_i32_3286 : BitVec 32 := 128#32
  let v3311 : BitVec 32 := Scalar.muli v3308 c128_i32_3286
  let c64_i32_3287 : BitVec 32 := 64#32
  let v3312 : BitVec 32 := Scalar.addi v3311 c64_i32_3287
  let c0_i32_3294 : BitVec 32 := 0#32
  ![v3312.toNat, 0]

def k0_dev125 (v1 : BitVec 32) : Nat :=
  let c0_i32_3293 : BitVec 32 := 0#32
  let c1_i32_3292 : BitVec 32 := 1#32
  let v3313 : BitVec 32 := Scalar.muli v1 c1_i32_3292
  let v3314 : BitVec 32 := Scalar.addi c0_i32_3293 v3313
  v3314.toNat
def k0_off301 (v3321 : BitVec 32) : Fin 2 → Nat :=
  let c128_i32_3299 : BitVec 32 := 128#32
  let v3324 : BitVec 32 := Scalar.muli v3321 c128_i32_3299
  let c96_i32_3300 : BitVec 32 := 96#32
  let v3325 : BitVec 32 := Scalar.addi v3324 c96_i32_3300
  let c0_i32_3307 : BitVec 32 := 0#32
  ![v3325.toNat, 0]

def k0_chk274 (v3321 : BitVec 32) : Prop :=
  (∀ a, (k0_off301 v3321) a + S32x4096.size a ≤ S4096x4096.size a) ∧
  (∀ (hinb : ∀ a, (k0_off301 v3321) a + S32x4096.size a ≤ S4096x4096.size a), (Rect.unit (s := S4096x4096) (k0_off301 v3321) S32x4096.size hinb).WholeWords (EltTy.packing .i8))
theorem k0_off301_inb : ∀ (v3321 : BitVec 32) (k0_hw274 : k0_chk274 v3321), ∀ a, (k0_off301 v3321) a + S32x4096.size a ≤ S4096x4096.size a := fun v3321 k0_hw274 => k0_hw274.1
theorem k0_off301_wordsi8 : ∀ (v3321 : BitVec 32) (k0_hw274 : k0_chk274 v3321), (Rect.unit (s := S4096x4096) (k0_off301 v3321) S32x4096.size (k0_off301_inb v3321 k0_hw274)).WholeWords (EltTy.packing .i8) := fun v3321 k0_hw274 => k0_hw274.2 (k0_off301_inb v3321 k0_hw274)

def k0_off302 (v3332 : BitVec 32) : Fin 2 → Nat :=
  let c128_i32_3312 : BitVec 32 := 128#32
  let v3335 : BitVec 32 := Scalar.muli v3332 c128_i32_3312
  let c96_i32_3313 : BitVec 32 := 96#32
  let v3336 : BitVec 32 := Scalar.addi v3335 c96_i32_3313
  let c0_i32_3320 : BitVec 32 := 0#32
  ![v3336.toNat, 0]

def k0_chk275 (v3332 : BitVec 32) : Prop :=
  (∀ a, (k0_off302 v3332) a + S32x4096.size a ≤ S4096x4096.size a) ∧
  (∀ (hinb : ∀ a, (k0_off302 v3332) a + S32x4096.size a ≤ S4096x4096.size a), (Rect.unit (s := S4096x4096) (k0_off302 v3332) S32x4096.size hinb).WholeWords (EltTy.packing .i8))
theorem k0_off302_inb : ∀ (v3332 : BitVec 32) (k0_hw275 : k0_chk275 v3332), ∀ a, (k0_off302 v3332) a + S32x4096.size a ≤ S4096x4096.size a := fun v3332 k0_hw275 => k0_hw275.1
theorem k0_off302_wordsi8 : ∀ (v3332 : BitVec 32) (k0_hw275 : k0_chk275 v3332), (Rect.unit (s := S4096x4096) (k0_off302 v3332) S32x4096.size (k0_off302_inb v3332 k0_hw275)).WholeWords (EltTy.packing .i8) := fun v3332 k0_hw275 => k0_hw275.2 (k0_off302_inb v3332 k0_hw275)

def k0_off303 (v3343 : BitVec 32) : Fin 2 → Nat :=
  let c128_i32_3325 : BitVec 32 := 128#32
  let v3346 : BitVec 32 := Scalar.muli v3343 c128_i32_3325
  let c96_i32_3326 : BitVec 32 := 96#32
  let v3347 : BitVec 32 := Scalar.addi v3346 c96_i32_3326
  let c0_i32_3333 : BitVec 32 := 0#32
  ![v3347.toNat, 0]

def k0_dev126 (v1 : BitVec 32) : Nat :=
  let c0_i32_3332 : BitVec 32 := 0#32
  let c1_i32_3331 : BitVec 32 := 1#32
  let v3348 : BitVec 32 := Scalar.muli v1 c1_i32_3331
  let v3349 : BitVec 32 := Scalar.addi c0_i32_3332 v3348
  v3349.toNat

def k0_chk1_0 (v1 : BitVec 32) : Prop :=
  ((k0_dev1 v1) < nD) ∧
  ((k0_dev7 v1) < nD) ∧
  ((k0_dev8 v1) < nD) ∧
  ((k0_dev9 v1) < nD) ∧
  ((k0_dev10 v1) < nD) ∧
  ((k0_dev12 v1) < nD) ∧
  ((k0_dev14 v1) < nD) ∧
  ((k0_dev16 v1) < nD) ∧
  ((k0_dev18 v1) < nD) ∧
  ((k0_dev20 v1) < nD) ∧
  ((k0_dev22 v1) < nD) ∧
  ((k0_dev24 v1) < nD) ∧
  ((k0_dev26 v1) < nD) ∧
  ((k0_dev28 v1) < nD) ∧
  ((k0_dev30 v1) < nD) ∧
  ((k0_dev32 v1) < nD) ∧
  ((k0_dev34 v1) < nD) ∧
  ((k0_dev36 v1) < nD) ∧
  ((k0_dev38 v1) < nD) ∧
  ((k0_dev40 v1) < nD) ∧
  ((k0_dev42 v1) < nD) ∧
  ((k0_dev44 v1) < nD) ∧
  ((k0_dev46 v1) < nD) ∧
  ((k0_dev48 v1) < nD) ∧
  ((k0_dev50 v1) < nD) ∧
  ((k0_dev52 v1) < nD) ∧
  ((k0_dev54 v1) < nD) ∧
  ((k0_dev56 v1) < nD) ∧
  ((k0_dev58 v1) < nD) ∧
  ((k0_dev60 v1) < nD) ∧
  ((k0_dev62 v1) < nD) ∧
  ((k0_dev64 v1) < nD)
def k0_chk1_1 (v1 : BitVec 32) : Prop :=
  ((k0_dev66 v1) < nD) ∧
  ((k0_dev68 v1) < nD) ∧
  ((k0_dev70 v1) < nD) ∧
  ((k0_dev72 v1) < nD) ∧
  ((k0_dev74 v1) < nD) ∧
  ((k0_dev76 v1) < nD) ∧
  ((k0_dev78 v1) < nD) ∧
  ((k0_dev80 v1) < nD) ∧
  ((k0_dev82 v1) < nD) ∧
  ((k0_dev84 v1) < nD) ∧
  ((k0_dev86 v1) < nD) ∧
  ((k0_dev88 v1) < nD) ∧
  ((k0_dev90 v1) < nD) ∧
  ((k0_dev92 v1) < nD) ∧
  ((k0_dev94 v1) < nD) ∧
  ((k0_dev96 v1) < nD) ∧
  ((k0_dev98 v1) < nD) ∧
  ((k0_dev100 v1) < nD) ∧
  ((k0_dev102 v1) < nD) ∧
  ((k0_dev104 v1) < nD) ∧
  ((k0_dev106 v1) < nD) ∧
  ((k0_dev108 v1) < nD) ∧
  ((k0_dev110 v1) < nD) ∧
  ((k0_dev112 v1) < nD) ∧
  ((k0_dev114 v1) < nD) ∧
  ((k0_dev116 v1) < nD) ∧
  ((k0_dev118 v1) < nD) ∧
  ((k0_dev120 v1) < nD) ∧
  ((k0_dev122 v1) < nD) ∧
  ((k0_dev125 v1) < nD) ∧
  ((k0_dev126 v1) < nD)
def k0_chk1 (v1 : BitVec 32) : Prop :=
  k0_chk1_0 v1 ∧
  k0_chk1_1 v1
theorem k0_dev1_lt : ∀ (v1 : BitVec 32) (k0_hw1 : k0_chk1 v1), (k0_dev1 v1) < nD := fun v1 k0_hw1 => k0_hw1.1.1
theorem k0_dev7_lt : ∀ (v1 : BitVec 32) (k0_hw1 : k0_chk1 v1), (k0_dev7 v1) < nD := fun v1 k0_hw1 => k0_hw1.1.2.1
theorem k0_dev8_lt : ∀ (v1 : BitVec 32) (k0_hw1 : k0_chk1 v1), (k0_dev8 v1) < nD := fun v1 k0_hw1 => k0_hw1.1.2.2.1
theorem k0_dev9_lt : ∀ (v1 : BitVec 32) (k0_hw1 : k0_chk1 v1), (k0_dev9 v1) < nD := fun v1 k0_hw1 => k0_hw1.1.2.2.2.1
theorem k0_dev10_lt : ∀ (v1 : BitVec 32) (k0_hw1 : k0_chk1 v1), (k0_dev10 v1) < nD := fun v1 k0_hw1 => k0_hw1.1.2.2.2.2.1
theorem k0_dev12_lt : ∀ (v1 : BitVec 32) (k0_hw1 : k0_chk1 v1), (k0_dev12 v1) < nD := fun v1 k0_hw1 => k0_hw1.1.2.2.2.2.2.1
theorem k0_dev14_lt : ∀ (v1 : BitVec 32) (k0_hw1 : k0_chk1 v1), (k0_dev14 v1) < nD := fun v1 k0_hw1 => k0_hw1.1.2.2.2.2.2.2.1
theorem k0_dev16_lt : ∀ (v1 : BitVec 32) (k0_hw1 : k0_chk1 v1), (k0_dev16 v1) < nD := fun v1 k0_hw1 => k0_hw1.1.2.2.2.2.2.2.2.1
theorem k0_dev18_lt : ∀ (v1 : BitVec 32) (k0_hw1 : k0_chk1 v1), (k0_dev18 v1) < nD := fun v1 k0_hw1 => k0_hw1.1.2.2.2.2.2.2.2.2.1
theorem k0_dev20_lt : ∀ (v1 : BitVec 32) (k0_hw1 : k0_chk1 v1), (k0_dev20 v1) < nD := fun v1 k0_hw1 => k0_hw1.1.2.2.2.2.2.2.2.2.2.1
theorem k0_dev22_lt : ∀ (v1 : BitVec 32) (k0_hw1 : k0_chk1 v1), (k0_dev22 v1) < nD := fun v1 k0_hw1 => k0_hw1.1.2.2.2.2.2.2.2.2.2.2.1
theorem k0_dev24_lt : ∀ (v1 : BitVec 32) (k0_hw1 : k0_chk1 v1), (k0_dev24 v1) < nD := fun v1 k0_hw1 => k0_hw1.1.2.2.2.2.2.2.2.2.2.2.2.1
theorem k0_dev26_lt : ∀ (v1 : BitVec 32) (k0_hw1 : k0_chk1 v1), (k0_dev26 v1) < nD := fun v1 k0_hw1 => k0_hw1.1.2.2.2.2.2.2.2.2.2.2.2.2.1
theorem k0_dev28_lt : ∀ (v1 : BitVec 32) (k0_hw1 : k0_chk1 v1), (k0_dev28 v1) < nD := fun v1 k0_hw1 => k0_hw1.1.2.2.2.2.2.2.2.2.2.2.2.2.2.1
theorem k0_dev30_lt : ∀ (v1 : BitVec 32) (k0_hw1 : k0_chk1 v1), (k0_dev30 v1) < nD := fun v1 k0_hw1 => k0_hw1.1.2.2.2.2.2.2.2.2.2.2.2.2.2.2.1
theorem k0_dev32_lt : ∀ (v1 : BitVec 32) (k0_hw1 : k0_chk1 v1), (k0_dev32 v1) < nD := fun v1 k0_hw1 => k0_hw1.1.2.2.2.2.2.2.2.2.2.2.2.2.2.2.2.1
theorem k0_dev34_lt : ∀ (v1 : BitVec 32) (k0_hw1 : k0_chk1 v1), (k0_dev34 v1) < nD := fun v1 k0_hw1 => k0_hw1.1.2.2.2.2.2.2.2.2.2.2.2.2.2.2.2.2.1
theorem k0_dev36_lt : ∀ (v1 : BitVec 32) (k0_hw1 : k0_chk1 v1), (k0_dev36 v1) < nD := fun v1 k0_hw1 => k0_hw1.1.2.2.2.2.2.2.2.2.2.2.2.2.2.2.2.2.2.1
theorem k0_dev38_lt : ∀ (v1 : BitVec 32) (k0_hw1 : k0_chk1 v1), (k0_dev38 v1) < nD := fun v1 k0_hw1 => k0_hw1.1.2.2.2.2.2.2.2.2.2.2.2.2.2.2.2.2.2.2.1
theorem k0_dev40_lt : ∀ (v1 : BitVec 32) (k0_hw1 : k0_chk1 v1), (k0_dev40 v1) < nD := fun v1 k0_hw1 => k0_hw1.1.2.2.2.2.2.2.2.2.2.2.2.2.2.2.2.2.2.2.2.1
theorem k0_dev42_lt : ∀ (v1 : BitVec 32) (k0_hw1 : k0_chk1 v1), (k0_dev42 v1) < nD := fun v1 k0_hw1 => k0_hw1.1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.1.2.2.2.2.2.2.2.2.2.2.2.2.2.2.2.2.2.2.2.2.2.2.1
theorem k0_dev48_lt : ∀ (v1 : BitVec 32) (k0_hw1 : k0_chk1 v1), (k0_dev48 v1) < nD := fun v1 k0_hw1 => k0_hw1.1.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.1.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.1.2.2.2.2.2.2.2.2.2.2.2.2.2.2.2.2.2.2.2.2.2.2.2.2.2.1
theorem k0_dev54_lt : ∀ (v1 : BitVec 32) (k0_hw1 : k0_chk1 v1), (k0_dev54 v1) < nD := fun v1 k0_hw1 => k0_hw1.1.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.1.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.1.2.2.2.2.2.2.2.2.2.2.2.2.2.2.2.2.2.2.2.2.2.2.2.2.2.2.2.2.1
theorem k0_dev60_lt : ∀ (v1 : BitVec 32) (k0_hw1 : k0_chk1 v1), (k0_dev60 v1) < nD := fun v1 k0_hw1 => k0_hw1.1.2.2.2.2.2.2.2.2.2.2.2.2.2.2.2.2.2.2.2.2.2.2.2.2.2.2.2.2.2.1
theorem k0_dev62_lt : ∀ (v1 : BitVec 32) (k0_hw1 : k0_chk1 v1), (k0_dev62 v1) < nD := fun v1 k0_hw1 => k0_hw1.1.2.2.2.2.2.2.2.2.2.2.2.2.2.2.2.2.2.2.2.2.2.2.2.2.2.2.2.2.2.2.1
theorem k0_dev64_lt : ∀ (v1 : BitVec 32) (k0_hw1 : k0_chk1 v1), (k0_dev64 v1) < nD := fun v1 k0_hw1 => k0_hw1.1.2.2.2.2.2.2.2.2.2.2.2.2.2.2.2.2.2.2.2.2.2.2.2.2.2.2.2.2.2.2.2
theorem k0_dev66_lt : ∀ (v1 : BitVec 32) (k0_hw1 : k0_chk1 v1), (k0_dev66 v1) < nD := fun v1 k0_hw1 => k0_hw1.2.1
theorem k0_dev68_lt : ∀ (v1 : BitVec 32) (k0_hw1 : k0_chk1 v1), (k0_dev68 v1) < nD := fun v1 k0_hw1 => k0_hw1.2.2.1
theorem k0_dev70_lt : ∀ (v1 : BitVec 32) (k0_hw1 : k0_chk1 v1), (k0_dev70 v1) < nD := fun v1 k0_hw1 => k0_hw1.2.2.2.1
theorem k0_dev72_lt : ∀ (v1 : BitVec 32) (k0_hw1 : k0_chk1 v1), (k0_dev72 v1) < nD := fun v1 k0_hw1 => k0_hw1.2.2.2.2.1
theorem k0_dev74_lt : ∀ (v1 : BitVec 32) (k0_hw1 : k0_chk1 v1), (k0_dev74 v1) < nD := fun v1 k0_hw1 => k0_hw1.2.2.2.2.2.1
theorem k0_dev76_lt : ∀ (v1 : BitVec 32) (k0_hw1 : k0_chk1 v1), (k0_dev76 v1) < nD := fun v1 k0_hw1 => k0_hw1.2.2.2.2.2.2.1
theorem k0_dev78_lt : ∀ (v1 : BitVec 32) (k0_hw1 : k0_chk1 v1), (k0_dev78 v1) < nD := fun v1 k0_hw1 => k0_hw1.2.2.2.2.2.2.2.1
theorem k0_dev80_lt : ∀ (v1 : BitVec 32) (k0_hw1 : k0_chk1 v1), (k0_dev80 v1) < nD := fun v1 k0_hw1 => k0_hw1.2.2.2.2.2.2.2.2.1
theorem k0_dev82_lt : ∀ (v1 : BitVec 32) (k0_hw1 : k0_chk1 v1), (k0_dev82 v1) < nD := fun v1 k0_hw1 => k0_hw1.2.2.2.2.2.2.2.2.2.1
theorem k0_dev84_lt : ∀ (v1 : BitVec 32) (k0_hw1 : k0_chk1 v1), (k0_dev84 v1) < nD := fun v1 k0_hw1 => k0_hw1.2.2.2.2.2.2.2.2.2.2.1
theorem k0_dev86_lt : ∀ (v1 : BitVec 32) (k0_hw1 : k0_chk1 v1), (k0_dev86 v1) < nD := fun v1 k0_hw1 => k0_hw1.2.2.2.2.2.2.2.2.2.2.2.1
theorem k0_dev88_lt : ∀ (v1 : BitVec 32) (k0_hw1 : k0_chk1 v1), (k0_dev88 v1) < nD := fun v1 k0_hw1 => k0_hw1.2.2.2.2.2.2.2.2.2.2.2.2.1
theorem k0_dev90_lt : ∀ (v1 : BitVec 32) (k0_hw1 : k0_chk1 v1), (k0_dev90 v1) < nD := fun v1 k0_hw1 => k0_hw1.2.2.2.2.2.2.2.2.2.2.2.2.2.1
theorem k0_dev92_lt : ∀ (v1 : BitVec 32) (k0_hw1 : k0_chk1 v1), (k0_dev92 v1) < nD := fun v1 k0_hw1 => k0_hw1.2.2.2.2.2.2.2.2.2.2.2.2.2.2.1
theorem k0_dev94_lt : ∀ (v1 : BitVec 32) (k0_hw1 : k0_chk1 v1), (k0_dev94 v1) < nD := fun v1 k0_hw1 => k0_hw1.2.2.2.2.2.2.2.2.2.2.2.2.2.2.2.1
theorem k0_dev96_lt : ∀ (v1 : BitVec 32) (k0_hw1 : k0_chk1 v1), (k0_dev96 v1) < nD := fun v1 k0_hw1 => k0_hw1.2.2.2.2.2.2.2.2.2.2.2.2.2.2.2.2.1
theorem k0_dev98_lt : ∀ (v1 : BitVec 32) (k0_hw1 : k0_chk1 v1), (k0_dev98 v1) < nD := fun v1 k0_hw1 => k0_hw1.2.2.2.2.2.2.2.2.2.2.2.2.2.2.2.2.2.1
theorem k0_dev100_lt : ∀ (v1 : BitVec 32) (k0_hw1 : k0_chk1 v1), (k0_dev100 v1) < nD := fun v1 k0_hw1 => k0_hw1.2.2.2.2.2.2.2.2.2.2.2.2.2.2.2.2.2.2.1
theorem k0_dev102_lt : ∀ (v1 : BitVec 32) (k0_hw1 : k0_chk1 v1), (k0_dev102 v1) < nD := fun v1 k0_hw1 => k0_hw1.2.2.2.2.2.2.2.2.2.2.2.2.2.2.2.2.2.2.2.1
theorem k0_dev104_lt : ∀ (v1 : BitVec 32) (k0_hw1 : k0_chk1 v1), (k0_dev104 v1) < nD := fun v1 k0_hw1 => k0_hw1.2.2.2.2.2.2.2.2.2.2.2.2.2.2.2.2.2.2.2.2.1
theorem k0_dev106_lt : ∀ (v1 : BitVec 32) (k0_hw1 : k0_chk1 v1), (k0_dev106 v1) < nD := fun v1 k0_hw1 => k0_hw1.2.2.2.2.2.2.2.2.2.2.2.2.2.2.2.2.2.2.2.2.2.1
theorem k0_dev108_lt : ∀ (v1 : BitVec 32) (k0_hw1 : k0_chk1 v1), (k0_dev108 v1) < nD := fun v1 k0_hw1 => k0_hw1.2.2.2.2.2.2.2.2.2.2.2.2.2.2.2.2.2.2.2.2.2.2.1
theorem k0_dev110_lt : ∀ (v1 : BitVec 32) (k0_hw1 : k0_chk1 v1), (k0_dev110 v1) < nD := fun v1 k0_hw1 => k0_hw1.2.2.2.2.2.2.2.2.2.2.2.2.2.2.2.2.2.2.2.2.2.2.2.1
theorem k0_dev112_lt : ∀ (v1 : BitVec 32) (k0_hw1 : k0_chk1 v1), (k0_dev112 v1) < nD := fun v1 k0_hw1 => k0_hw1.2.2.2.2.2.2.2.2.2.2.2.2.2.2.2.2.2.2.2.2.2.2.2.2.1
theorem k0_dev114_lt : ∀ (v1 : BitVec 32) (k0_hw1 : k0_chk1 v1), (k0_dev114 v1) < nD := fun v1 k0_hw1 => k0_hw1.2.2.2.2.2.2.2.2.2.2.2.2.2.2.2.2.2.2.2.2.2.2.2.2.2.1
theorem k0_dev116_lt : ∀ (v1 : BitVec 32) (k0_hw1 : k0_chk1 v1), (k0_dev116 v1) < nD := fun v1 k0_hw1 => k0_hw1.2.2.2.2.2.2.2.2.2.2.2.2.2.2.2.2.2.2.2.2.2.2.2.2.2.2.1
theorem k0_dev118_lt : ∀ (v1 : BitVec 32) (k0_hw1 : k0_chk1 v1), (k0_dev118 v1) < nD := fun v1 k0_hw1 => k0_hw1.2.2.2.2.2.2.2.2.2.2.2.2.2.2.2.2.2.2.2.2.2.2.2.2.2.2.2.1
theorem k0_dev120_lt : ∀ (v1 : BitVec 32) (k0_hw1 : k0_chk1 v1), (k0_dev120 v1) < nD := fun v1 k0_hw1 => k0_hw1.2.2.2.2.2.2.2.2.2.2.2.2.2.2.2.2.2.2.2.2.2.2.2.2.2.2.2.2.1
theorem k0_dev122_lt : ∀ (v1 : BitVec 32) (k0_hw1 : k0_chk1 v1), (k0_dev122 v1) < nD := fun v1 k0_hw1 => k0_hw1.2.2.2.2.2.2.2.2.2.2.2.2.2.2.2.2.2.2.2.2.2.2.2.2.2.2.2.2.2.1
theorem k0_dev125_lt : ∀ (v1 : BitVec 32) (k0_hw1 : k0_chk1 v1), (k0_dev125 v1) < nD := fun v1 k0_hw1 => k0_hw1.2.2.2.2.2.2.2.2.2.2.2.2.2.2.2.2.2.2.2.2.2.2.2.2.2.2.2.2.2.2.1
theorem k0_dev126_lt : ∀ (v1 : BitVec 32) (k0_hw1 : k0_chk1 v1), (k0_dev126 v1) < nD := fun v1 k0_hw1 => k0_hw1.2.2.2.2.2.2.2.2.2.2.2.2.2.2.2.2.2.2.2.2.2.2.2.2.2.2.2.2.2.2.2

def k0_off304 (v3356 : BitVec 32) : Fin 2 → Nat :=
  let c128_i32_3336 : BitVec 32 := 128#32
  let v3357 : BitVec 32 := Scalar.muli v3356 c128_i32_3336
  let v3358 : Index := Scalar.indexCast v3357
  let c0_3337 : Index := 0#32
  ![v3358.toNat, 0]

def k0_off305 (v3356 : BitVec 32) : Fin 2 → Nat :=
  let c128_i32_3336 : BitVec 32 := 128#32
  let v3357 : BitVec 32 := Scalar.muli v3356 c128_i32_3336
  let v3368 : Index := Scalar.indexCast v3357
  let c0_3342 : Index := 0#32
  ![v3368.toNat, 0]

def k0_chk277 (v3356 : BitVec 32) : Prop :=
  (∀ a, (k0_off304 v3356) a + S128x4096.size a ≤ S4096x4096.size a) ∧
  (∀ a, (k0_off305 v3356) a + S128x64.size a ≤ S4096x64.size a)
theorem k0_off304_inb : ∀ (v3356 : BitVec 32) (k0_hw277 : k0_chk277 v3356), ∀ a, (k0_off304 v3356) a + S128x4096.size a ≤ S4096x4096.size a := fun v3356 k0_hw277 => k0_hw277.1
theorem k0_off305_inb : ∀ (v3356 : BitVec 32) (k0_hw277 : k0_chk277 v3356), ∀ a, (k0_off305 v3356) a + S128x64.size a ≤ S4096x64.size a := fun v3356 k0_hw277 => k0_hw277.2

def k0_off306 (v3370 : BitVec 32) : Fin 2 → Nat :=
  let c128_i32_3344 : BitVec 32 := 128#32
  let v3371 : BitVec 32 := Scalar.muli v3370 c128_i32_3344
  let v3372 : Index := Scalar.indexCast v3371
  let c0_3345 : Index := 0#32
  ![v3372.toNat, 0]

def k0_off307 (v3370 : BitVec 32) : Fin 2 → Nat :=
  let c128_i32_3344 : BitVec 32 := 128#32
  let v3371 : BitVec 32 := Scalar.muli v3370 c128_i32_3344
  let v3382 : Index := Scalar.indexCast v3371
  let c0_3350 : Index := 0#32
  ![v3382.toNat, 0]

def k0_chk278 (v3370 : BitVec 32) : Prop :=
  (∀ a, (k0_off306 v3370) a + S128x4096.size a ≤ S4096x4096.size a) ∧
  (∀ a, (k0_off307 v3370) a + S128x64.size a ≤ S4096x64.size a)
theorem k0_off306_inb : ∀ (v3370 : BitVec 32) (k0_hw278 : k0_chk278 v3370), ∀ a, (k0_off306 v3370) a + S128x4096.size a ≤ S4096x4096.size a := fun v3370 k0_hw278 => k0_hw278.1
theorem k0_off307_inb : ∀ (v3370 : BitVec 32) (k0_hw278 : k0_chk278 v3370), ∀ a, (k0_off307 v3370) a + S128x64.size a ≤ S4096x64.size a := fun v3370 k0_hw278 => k0_hw278.2

def k0_off308 (v3384 : BitVec 32) : Fin 2 → Nat :=
  let c128_i32_3353 : BitVec 32 := 128#32
  let v3387 : BitVec 32 := Scalar.muli v3384 c128_i32_3353
  let c0_i32_3354 : BitVec 32 := 0#32
  let v3388 : BitVec 32 := Scalar.addi v3387 c0_i32_3354
  let c0_i32_3361 : BitVec 32 := 0#32
  ![v3388.toNat, 0]

def k0_chk279 (v3384 : BitVec 32) : Prop :=
  (∀ a, (k0_off308 v3384) a + S32x4096.size a ≤ S4096x4096.size a) ∧
  (∀ (hinb : ∀ a, (k0_off308 v3384) a + S32x4096.size a ≤ S4096x4096.size a), (Rect.unit (s := S4096x4096) (k0_off308 v3384) S32x4096.size hinb).WholeWords (EltTy.packing .i8))
theorem k0_off308_inb : ∀ (v3384 : BitVec 32) (k0_hw279 : k0_chk279 v3384), ∀ a, (k0_off308 v3384) a + S32x4096.size a ≤ S4096x4096.size a := fun v3384 k0_hw279 => k0_hw279.1
theorem k0_off308_wordsi8 : ∀ (v3384 : BitVec 32) (k0_hw279 : k0_chk279 v3384), (Rect.unit (s := S4096x4096) (k0_off308 v3384) S32x4096.size (k0_off308_inb v3384 k0_hw279)).WholeWords (EltTy.packing .i8) := fun v3384 k0_hw279 => k0_hw279.2 (k0_off308_inb v3384 k0_hw279)

def k0_off309 (v3395 : BitVec 32) : Fin 2 → Nat :=
  let c128_i32_3366 : BitVec 32 := 128#32
  let v3398 : BitVec 32 := Scalar.muli v3395 c128_i32_3366
  let c32_i32_3367 : BitVec 32 := 32#32
  let v3399 : BitVec 32 := Scalar.addi v3398 c32_i32_3367
  let c0_i32_3374 : BitVec 32 := 0#32
  ![v3399.toNat, 0]

def k0_chk280 (v3395 : BitVec 32) : Prop :=
  (∀ a, (k0_off309 v3395) a + S32x4096.size a ≤ S4096x4096.size a) ∧
  (∀ (hinb : ∀ a, (k0_off309 v3395) a + S32x4096.size a ≤ S4096x4096.size a), (Rect.unit (s := S4096x4096) (k0_off309 v3395) S32x4096.size hinb).WholeWords (EltTy.packing .i8))
theorem k0_off309_inb : ∀ (v3395 : BitVec 32) (k0_hw280 : k0_chk280 v3395), ∀ a, (k0_off309 v3395) a + S32x4096.size a ≤ S4096x4096.size a := fun v3395 k0_hw280 => k0_hw280.1
theorem k0_off309_wordsi8 : ∀ (v3395 : BitVec 32) (k0_hw280 : k0_chk280 v3395), (Rect.unit (s := S4096x4096) (k0_off309 v3395) S32x4096.size (k0_off309_inb v3395 k0_hw280)).WholeWords (EltTy.packing .i8) := fun v3395 k0_hw280 => k0_hw280.2 (k0_off309_inb v3395 k0_hw280)

def k0_off310 (v3406 : BitVec 32) : Fin 2 → Nat :=
  let c128_i32_3378 : BitVec 32 := 128#32
  let v3409 : BitVec 32 := Scalar.muli v3406 c128_i32_3378
  let c64_i32_3379 : BitVec 32 := 64#32
  let v3410 : BitVec 32 := Scalar.addi v3409 c64_i32_3379
  let c0_i32_3386 : BitVec 32 := 0#32
  ![v3410.toNat, 0]

def k0_chk281 (v3406 : BitVec 32) : Prop :=
  (∀ a, (k0_off310 v3406) a + S32x4096.size a ≤ S4096x4096.size a) ∧
  (∀ (hinb : ∀ a, (k0_off310 v3406) a + S32x4096.size a ≤ S4096x4096.size a), (Rect.unit (s := S4096x4096) (k0_off310 v3406) S32x4096.size hinb).WholeWords (EltTy.packing .i8))
theorem k0_off310_inb : ∀ (v3406 : BitVec 32) (k0_hw281 : k0_chk281 v3406), ∀ a, (k0_off310 v3406) a + S32x4096.size a ≤ S4096x4096.size a := fun v3406 k0_hw281 => k0_hw281.1
theorem k0_off310_wordsi8 : ∀ (v3406 : BitVec 32) (k0_hw281 : k0_chk281 v3406), (Rect.unit (s := S4096x4096) (k0_off310 v3406) S32x4096.size (k0_off310_inb v3406 k0_hw281)).WholeWords (EltTy.packing .i8) := fun v3406 k0_hw281 => k0_hw281.2 (k0_off310_inb v3406 k0_hw281)

def k0_off311 (v3417 : BitVec 32) : Fin 2 → Nat :=
  let c128_i32_3391 : BitVec 32 := 128#32
  let v3420 : BitVec 32 := Scalar.muli v3417 c128_i32_3391
  let c96_i32_3392 : BitVec 32 := 96#32
  let v3421 : BitVec 32 := Scalar.addi v3420 c96_i32_3392
  let c0_i32_3399 : BitVec 32 := 0#32
  ![v3421.toNat, 0]

def k0_chk282 (v3417 : BitVec 32) : Prop :=
  (∀ a, (k0_off311 v3417) a + S32x4096.size a ≤ S4096x4096.size a) ∧
  (∀ (hinb : ∀ a, (k0_off311 v3417) a + S32x4096.size a ≤ S4096x4096.size a), (Rect.unit (s := S4096x4096) (k0_off311 v3417) S32x4096.size hinb).WholeWords (EltTy.packing .i8))
theorem k0_off311_inb : ∀ (v3417 : BitVec 32) (k0_hw282 : k0_chk282 v3417), ∀ a, (k0_off311 v3417) a + S32x4096.size a ≤ S4096x4096.size a := fun v3417 k0_hw282 => k0_hw282.1
theorem k0_off311_wordsi8 : ∀ (v3417 : BitVec 32) (k0_hw282 : k0_chk282 v3417), (Rect.unit (s := S4096x4096) (k0_off311 v3417) S32x4096.size (k0_off311_inb v3417 k0_hw282)).WholeWords (EltTy.packing .i8) := fun v3417 k0_hw282 => k0_hw282.2 (k0_off311_inb v3417 k0_hw282)

def k0_off312 (v18 : BitVec 32) : Fin 2 → Nat :=
  let c128_i32_10 : BitVec 32 := 128#32
  let v19 : BitVec 32 := Scalar.muli v18 c128_i32_10
  let c0_i32_11 : BitVec 32 := 0#32
  let v20 : BitVec 32 := Scalar.addi v19 c0_i32_11
  let c0_i32_3406 : BitVec 32 := 0#32
  ![v20.toNat, 0]

def k0_chk4 (v18 : BitVec 32) : Prop :=
  (∀ a, (k0_off2 v18) a + S32x4096.size a ≤ S4096x4096.size a) ∧
  (∀ (hinb : ∀ a, (k0_off2 v18) a + S32x4096.size a ≤ S4096x4096.size a), (Rect.unit (s := S4096x4096) (k0_off2 v18) S32x4096.size hinb).WholeWords (EltTy.packing .i8)) ∧
  (∀ a, (k0_off312 v18) a + S32x4096.size a ≤ S4096x4096.size a) ∧
  (∀ (hinb : ∀ a, (k0_off312 v18) a + S32x4096.size a ≤ S4096x4096.size a), (Rect.unit (s := S4096x4096) (k0_off312 v18) S32x4096.size hinb).WholeWords (EltTy.packing .i8))
theorem k0_off2_inb : ∀ (v18 : BitVec 32) (k0_hw4 : k0_chk4 v18), ∀ a, (k0_off2 v18) a + S32x4096.size a ≤ S4096x4096.size a := fun v18 k0_hw4 => k0_hw4.1
theorem k0_off2_wordsi8 : ∀ (v18 : BitVec 32) (k0_hw4 : k0_chk4 v18), (Rect.unit (s := S4096x4096) (k0_off2 v18) S32x4096.size (k0_off2_inb v18 k0_hw4)).WholeWords (EltTy.packing .i8) := fun v18 k0_hw4 => k0_hw4.2.1 (k0_off2_inb v18 k0_hw4)
theorem k0_off312_inb : ∀ (v18 : BitVec 32) (k0_hw4 : k0_chk4 v18), ∀ a, (k0_off312 v18) a + S32x4096.size a ≤ S4096x4096.size a := fun v18 k0_hw4 => k0_hw4.2.2.1
theorem k0_off312_wordsi8 : ∀ (v18 : BitVec 32) (k0_hw4 : k0_chk4 v18), (Rect.unit (s := S4096x4096) (k0_off312 v18) S32x4096.size (k0_off312_inb v18 k0_hw4)).WholeWords (EltTy.packing .i8) := fun v18 k0_hw4 => k0_hw4.2.2.2 (k0_off312_inb v18 k0_hw4)

def k0_off313 (v31 : BitVec 32) : Fin 2 → Nat :=
  let c128_i32_23 : BitVec 32 := 128#32
  let v32 : BitVec 32 := Scalar.muli v31 c128_i32_23
  let c32_i32 : BitVec 32 := 32#32
  let v33 : BitVec 32 := Scalar.addi v32 c32_i32
  let c0_i32_3413 : BitVec 32 := 0#32
  ![v33.toNat, 0]

def k0_chk5 (v31 : BitVec 32) : Prop :=
  (∀ a, (k0_off3 v31) a + S32x4096.size a ≤ S4096x4096.size a) ∧
  (∀ (hinb : ∀ a, (k0_off3 v31) a + S32x4096.size a ≤ S4096x4096.size a), (Rect.unit (s := S4096x4096) (k0_off3 v31) S32x4096.size hinb).WholeWords (EltTy.packing .i8)) ∧
  (∀ a, (k0_off313 v31) a + S32x4096.size a ≤ S4096x4096.size a) ∧
  (∀ (hinb : ∀ a, (k0_off313 v31) a + S32x4096.size a ≤ S4096x4096.size a), (Rect.unit (s := S4096x4096) (k0_off313 v31) S32x4096.size hinb).WholeWords (EltTy.packing .i8))
theorem k0_off3_inb : ∀ (v31 : BitVec 32) (k0_hw5 : k0_chk5 v31), ∀ a, (k0_off3 v31) a + S32x4096.size a ≤ S4096x4096.size a := fun v31 k0_hw5 => k0_hw5.1
theorem k0_off3_wordsi8 : ∀ (v31 : BitVec 32) (k0_hw5 : k0_chk5 v31), (Rect.unit (s := S4096x4096) (k0_off3 v31) S32x4096.size (k0_off3_inb v31 k0_hw5)).WholeWords (EltTy.packing .i8) := fun v31 k0_hw5 => k0_hw5.2.1 (k0_off3_inb v31 k0_hw5)
theorem k0_off313_inb : ∀ (v31 : BitVec 32) (k0_hw5 : k0_chk5 v31), ∀ a, (k0_off313 v31) a + S32x4096.size a ≤ S4096x4096.size a := fun v31 k0_hw5 => k0_hw5.2.2.1
theorem k0_off313_wordsi8 : ∀ (v31 : BitVec 32) (k0_hw5 : k0_chk5 v31), (Rect.unit (s := S4096x4096) (k0_off313 v31) S32x4096.size (k0_off313_inb v31 k0_hw5)).WholeWords (EltTy.packing .i8) := fun v31 k0_hw5 => k0_hw5.2.2.2 (k0_off313_inb v31 k0_hw5)

def k0_off314 (v44 : BitVec 32) : Fin 2 → Nat :=
  let c128_i32_35 : BitVec 32 := 128#32
  let v45 : BitVec 32 := Scalar.muli v44 c128_i32_35
  let c64_i32 : BitVec 32 := 64#32
  let v46 : BitVec 32 := Scalar.addi v45 c64_i32
  let c0_i32_3420 : BitVec 32 := 0#32
  ![v46.toNat, 0]

def k0_chk6 (v44 : BitVec 32) : Prop :=
  (∀ a, (k0_off4 v44) a + S32x4096.size a ≤ S4096x4096.size a) ∧
  (∀ (hinb : ∀ a, (k0_off4 v44) a + S32x4096.size a ≤ S4096x4096.size a), (Rect.unit (s := S4096x4096) (k0_off4 v44) S32x4096.size hinb).WholeWords (EltTy.packing .i8)) ∧
  (∀ a, (k0_off314 v44) a + S32x4096.size a ≤ S4096x4096.size a) ∧
  (∀ (hinb : ∀ a, (k0_off314 v44) a + S32x4096.size a ≤ S4096x4096.size a), (Rect.unit (s := S4096x4096) (k0_off314 v44) S32x4096.size hinb).WholeWords (EltTy.packing .i8))
theorem k0_off4_inb : ∀ (v44 : BitVec 32) (k0_hw6 : k0_chk6 v44), ∀ a, (k0_off4 v44) a + S32x4096.size a ≤ S4096x4096.size a := fun v44 k0_hw6 => k0_hw6.1
theorem k0_off4_wordsi8 : ∀ (v44 : BitVec 32) (k0_hw6 : k0_chk6 v44), (Rect.unit (s := S4096x4096) (k0_off4 v44) S32x4096.size (k0_off4_inb v44 k0_hw6)).WholeWords (EltTy.packing .i8) := fun v44 k0_hw6 => k0_hw6.2.1 (k0_off4_inb v44 k0_hw6)
theorem k0_off314_inb : ∀ (v44 : BitVec 32) (k0_hw6 : k0_chk6 v44), ∀ a, (k0_off314 v44) a + S32x4096.size a ≤ S4096x4096.size a := fun v44 k0_hw6 => k0_hw6.2.2.1
theorem k0_off314_wordsi8 : ∀ (v44 : BitVec 32) (k0_hw6 : k0_chk6 v44), (Rect.unit (s := S4096x4096) (k0_off314 v44) S32x4096.size (k0_off314_inb v44 k0_hw6)).WholeWords (EltTy.packing .i8) := fun v44 k0_hw6 => k0_hw6.2.2.2 (k0_off314_inb v44 k0_hw6)

def k0_off315 (v57 : BitVec 32) : Fin 2 → Nat :=
  let c128_i32_47 : BitVec 32 := 128#32
  let v58 : BitVec 32 := Scalar.muli v57 c128_i32_47
  let c96_i32 : BitVec 32 := 96#32
  let v59 : BitVec 32 := Scalar.addi v58 c96_i32
  let c0_i32_3427 : BitVec 32 := 0#32
  ![v59.toNat, 0]

def k0_chk7 (v57 : BitVec 32) : Prop :=
  (∀ a, (k0_off5 v57) a + S32x4096.size a ≤ S4096x4096.size a) ∧
  (∀ (hinb : ∀ a, (k0_off5 v57) a + S32x4096.size a ≤ S4096x4096.size a), (Rect.unit (s := S4096x4096) (k0_off5 v57) S32x4096.size hinb).WholeWords (EltTy.packing .i8)) ∧
  (∀ a, (k0_off315 v57) a + S32x4096.size a ≤ S4096x4096.size a) ∧
  (∀ (hinb : ∀ a, (k0_off315 v57) a + S32x4096.size a ≤ S4096x4096.size a), (Rect.unit (s := S4096x4096) (k0_off315 v57) S32x4096.size hinb).WholeWords (EltTy.packing .i8))
theorem k0_off5_inb : ∀ (v57 : BitVec 32) (k0_hw7 : k0_chk7 v57), ∀ a, (k0_off5 v57) a + S32x4096.size a ≤ S4096x4096.size a := fun v57 k0_hw7 => k0_hw7.1
theorem k0_off5_wordsi8 : ∀ (v57 : BitVec 32) (k0_hw7 : k0_chk7 v57), (Rect.unit (s := S4096x4096) (k0_off5 v57) S32x4096.size (k0_off5_inb v57 k0_hw7)).WholeWords (EltTy.packing .i8) := fun v57 k0_hw7 => k0_hw7.2.1 (k0_off5_inb v57 k0_hw7)
theorem k0_off315_inb : ∀ (v57 : BitVec 32) (k0_hw7 : k0_chk7 v57), ∀ a, (k0_off315 v57) a + S32x4096.size a ≤ S4096x4096.size a := fun v57 k0_hw7 => k0_hw7.2.2.1
theorem k0_off315_wordsi8 : ∀ (v57 : BitVec 32) (k0_hw7 : k0_chk7 v57), (Rect.unit (s := S4096x4096) (k0_off315 v57) S32x4096.size (k0_off315_inb v57 k0_hw7)).WholeWords (EltTy.packing .i8) := fun v57 k0_hw7 => k0_hw7.2.2.2 (k0_off315_inb v57 k0_hw7)

def k0_off316 (v70 : BitVec 32) : Fin 2 → Nat :=
  let c128_i32_57 : BitVec 32 := 128#32
  let v71 : BitVec 32 := Scalar.muli v70 c128_i32_57
  let c0_i32_58 : BitVec 32 := 0#32
  let v72 : BitVec 32 := Scalar.addi v71 c0_i32_58
  let c0_i32_3434 : BitVec 32 := 0#32
  ![v72.toNat, 0]

def k0_chk8 (v70 : BitVec 32) : Prop :=
  (∀ a, (k0_off6 v70) a + S32x4096.size a ≤ S4096x4096.size a) ∧
  (∀ (hinb : ∀ a, (k0_off6 v70) a + S32x4096.size a ≤ S4096x4096.size a), (Rect.unit (s := S4096x4096) (k0_off6 v70) S32x4096.size hinb).WholeWords (EltTy.packing .i8)) ∧
  (∀ a, (k0_off316 v70) a + S32x4096.size a ≤ S4096x4096.size a) ∧
  (∀ (hinb : ∀ a, (k0_off316 v70) a + S32x4096.size a ≤ S4096x4096.size a), (Rect.unit (s := S4096x4096) (k0_off316 v70) S32x4096.size hinb).WholeWords (EltTy.packing .i8))
theorem k0_off6_inb : ∀ (v70 : BitVec 32) (k0_hw8 : k0_chk8 v70), ∀ a, (k0_off6 v70) a + S32x4096.size a ≤ S4096x4096.size a := fun v70 k0_hw8 => k0_hw8.1
theorem k0_off6_wordsi8 : ∀ (v70 : BitVec 32) (k0_hw8 : k0_chk8 v70), (Rect.unit (s := S4096x4096) (k0_off6 v70) S32x4096.size (k0_off6_inb v70 k0_hw8)).WholeWords (EltTy.packing .i8) := fun v70 k0_hw8 => k0_hw8.2.1 (k0_off6_inb v70 k0_hw8)
theorem k0_off316_inb : ∀ (v70 : BitVec 32) (k0_hw8 : k0_chk8 v70), ∀ a, (k0_off316 v70) a + S32x4096.size a ≤ S4096x4096.size a := fun v70 k0_hw8 => k0_hw8.2.2.1
theorem k0_off316_wordsi8 : ∀ (v70 : BitVec 32) (k0_hw8 : k0_chk8 v70), (Rect.unit (s := S4096x4096) (k0_off316 v70) S32x4096.size (k0_off316_inb v70 k0_hw8)).WholeWords (EltTy.packing .i8) := fun v70 k0_hw8 => k0_hw8.2.2.2 (k0_off316_inb v70 k0_hw8)

def k0_off317 (v83 : BitVec 32) : Fin 2 → Nat :=
  let c128_i32_70 : BitVec 32 := 128#32
  let v84 : BitVec 32 := Scalar.muli v83 c128_i32_70
  let c32_i32_71 : BitVec 32 := 32#32
  let v85 : BitVec 32 := Scalar.addi v84 c32_i32_71
  let c0_i32_3441 : BitVec 32 := 0#32
  ![v85.toNat, 0]

def k0_chk9 (v83 : BitVec 32) : Prop :=
  (∀ a, (k0_off7 v83) a + S32x4096.size a ≤ S4096x4096.size a) ∧
  (∀ (hinb : ∀ a, (k0_off7 v83) a + S32x4096.size a ≤ S4096x4096.size a), (Rect.unit (s := S4096x4096) (k0_off7 v83) S32x4096.size hinb).WholeWords (EltTy.packing .i8)) ∧
  (∀ a, (k0_off317 v83) a + S32x4096.size a ≤ S4096x4096.size a) ∧
  (∀ (hinb : ∀ a, (k0_off317 v83) a + S32x4096.size a ≤ S4096x4096.size a), (Rect.unit (s := S4096x4096) (k0_off317 v83) S32x4096.size hinb).WholeWords (EltTy.packing .i8))
theorem k0_off7_inb : ∀ (v83 : BitVec 32) (k0_hw9 : k0_chk9 v83), ∀ a, (k0_off7 v83) a + S32x4096.size a ≤ S4096x4096.size a := fun v83 k0_hw9 => k0_hw9.1
theorem k0_off7_wordsi8 : ∀ (v83 : BitVec 32) (k0_hw9 : k0_chk9 v83), (Rect.unit (s := S4096x4096) (k0_off7 v83) S32x4096.size (k0_off7_inb v83 k0_hw9)).WholeWords (EltTy.packing .i8) := fun v83 k0_hw9 => k0_hw9.2.1 (k0_off7_inb v83 k0_hw9)
theorem k0_off317_inb : ∀ (v83 : BitVec 32) (k0_hw9 : k0_chk9 v83), ∀ a, (k0_off317 v83) a + S32x4096.size a ≤ S4096x4096.size a := fun v83 k0_hw9 => k0_hw9.2.2.1
theorem k0_off317_wordsi8 : ∀ (v83 : BitVec 32) (k0_hw9 : k0_chk9 v83), (Rect.unit (s := S4096x4096) (k0_off317 v83) S32x4096.size (k0_off317_inb v83 k0_hw9)).WholeWords (EltTy.packing .i8) := fun v83 k0_hw9 => k0_hw9.2.2.2 (k0_off317_inb v83 k0_hw9)

def k0_off318 (v96 : BitVec 32) : Fin 2 → Nat :=
  let c128_i32_83 : BitVec 32 := 128#32
  let v97 : BitVec 32 := Scalar.muli v96 c128_i32_83
  let c64_i32_84 : BitVec 32 := 64#32
  let v98 : BitVec 32 := Scalar.addi v97 c64_i32_84
  let c0_i32_3448 : BitVec 32 := 0#32
  ![v98.toNat, 0]

def k0_chk10 (v96 : BitVec 32) : Prop :=
  (∀ a, (k0_off8 v96) a + S32x4096.size a ≤ S4096x4096.size a) ∧
  (∀ (hinb : ∀ a, (k0_off8 v96) a + S32x4096.size a ≤ S4096x4096.size a), (Rect.unit (s := S4096x4096) (k0_off8 v96) S32x4096.size hinb).WholeWords (EltTy.packing .i8)) ∧
  (∀ a, (k0_off318 v96) a + S32x4096.size a ≤ S4096x4096.size a) ∧
  (∀ (hinb : ∀ a, (k0_off318 v96) a + S32x4096.size a ≤ S4096x4096.size a), (Rect.unit (s := S4096x4096) (k0_off318 v96) S32x4096.size hinb).WholeWords (EltTy.packing .i8))
theorem k0_off8_inb : ∀ (v96 : BitVec 32) (k0_hw10 : k0_chk10 v96), ∀ a, (k0_off8 v96) a + S32x4096.size a ≤ S4096x4096.size a := fun v96 k0_hw10 => k0_hw10.1
theorem k0_off8_wordsi8 : ∀ (v96 : BitVec 32) (k0_hw10 : k0_chk10 v96), (Rect.unit (s := S4096x4096) (k0_off8 v96) S32x4096.size (k0_off8_inb v96 k0_hw10)).WholeWords (EltTy.packing .i8) := fun v96 k0_hw10 => k0_hw10.2.1 (k0_off8_inb v96 k0_hw10)
theorem k0_off318_inb : ∀ (v96 : BitVec 32) (k0_hw10 : k0_chk10 v96), ∀ a, (k0_off318 v96) a + S32x4096.size a ≤ S4096x4096.size a := fun v96 k0_hw10 => k0_hw10.2.2.1
theorem k0_off318_wordsi8 : ∀ (v96 : BitVec 32) (k0_hw10 : k0_chk10 v96), (Rect.unit (s := S4096x4096) (k0_off318 v96) S32x4096.size (k0_off318_inb v96 k0_hw10)).WholeWords (EltTy.packing .i8) := fun v96 k0_hw10 => k0_hw10.2.2.2 (k0_off318_inb v96 k0_hw10)

def k0_off319 (v109 : BitVec 32) : Fin 2 → Nat :=
  let c128_i32_96 : BitVec 32 := 128#32
  let v110 : BitVec 32 := Scalar.muli v109 c128_i32_96
  let c96_i32_97 : BitVec 32 := 96#32
  let v111 : BitVec 32 := Scalar.addi v110 c96_i32_97
  let c0_i32_3455 : BitVec 32 := 0#32
  ![v111.toNat, 0]

def k0_chk11 (v109 : BitVec 32) : Prop :=
  (∀ a, (k0_off9 v109) a + S32x4096.size a ≤ S4096x4096.size a) ∧
  (∀ (hinb : ∀ a, (k0_off9 v109) a + S32x4096.size a ≤ S4096x4096.size a), (Rect.unit (s := S4096x4096) (k0_off9 v109) S32x4096.size hinb).WholeWords (EltTy.packing .i8)) ∧
  (∀ a, (k0_off319 v109) a + S32x4096.size a ≤ S4096x4096.size a) ∧
  (∀ (hinb : ∀ a, (k0_off319 v109) a + S32x4096.size a ≤ S4096x4096.size a), (Rect.unit (s := S4096x4096) (k0_off319 v109) S32x4096.size hinb).WholeWords (EltTy.packing .i8))
theorem k0_off9_inb : ∀ (v109 : BitVec 32) (k0_hw11 : k0_chk11 v109), ∀ a, (k0_off9 v109) a + S32x4096.size a ≤ S4096x4096.size a := fun v109 k0_hw11 => k0_hw11.1
theorem k0_off9_wordsi8 : ∀ (v109 : BitVec 32) (k0_hw11 : k0_chk11 v109), (Rect.unit (s := S4096x4096) (k0_off9 v109) S32x4096.size (k0_off9_inb v109 k0_hw11)).WholeWords (EltTy.packing .i8) := fun v109 k0_hw11 => k0_hw11.2.1 (k0_off9_inb v109 k0_hw11)
theorem k0_off319_inb : ∀ (v109 : BitVec 32) (k0_hw11 : k0_chk11 v109), ∀ a, (k0_off319 v109) a + S32x4096.size a ≤ S4096x4096.size a := fun v109 k0_hw11 => k0_hw11.2.2.1
theorem k0_off319_wordsi8 : ∀ (v109 : BitVec 32) (k0_hw11 : k0_chk11 v109), (Rect.unit (s := S4096x4096) (k0_off319 v109) S32x4096.size (k0_off319_inb v109 k0_hw11)).WholeWords (EltTy.packing .i8) := fun v109 k0_hw11 => k0_hw11.2.2.2 (k0_off319_inb v109 k0_hw11)

def k0_off320 (v147 : BitVec 32) : Fin 2 → Nat :=
  let c128_i32_127 : BitVec 32 := 128#32
  let v148 : BitVec 32 := Scalar.muli v147 c128_i32_127
  let c0_i32_128 : BitVec 32 := 0#32
  let v149 : BitVec 32 := Scalar.addi v148 c0_i32_128
  let c0_i32_3462 : BitVec 32 := 0#32
  ![v149.toNat, 0]

def k0_chk14 (v147 : BitVec 32) : Prop :=
  (∀ a, (k0_off13 v147) a + S32x4096.size a ≤ S4096x4096.size a) ∧
  (∀ (hinb : ∀ a, (k0_off13 v147) a + S32x4096.size a ≤ S4096x4096.size a), (Rect.unit (s := S4096x4096) (k0_off13 v147) S32x4096.size hinb).WholeWords (EltTy.packing .i8)) ∧
  (∀ a, (k0_off320 v147) a + S32x4096.size a ≤ S4096x4096.size a) ∧
  (∀ (hinb : ∀ a, (k0_off320 v147) a + S32x4096.size a ≤ S4096x4096.size a), (Rect.unit (s := S4096x4096) (k0_off320 v147) S32x4096.size hinb).WholeWords (EltTy.packing .i8))
theorem k0_off13_inb : ∀ (v147 : BitVec 32) (k0_hw14 : k0_chk14 v147), ∀ a, (k0_off13 v147) a + S32x4096.size a ≤ S4096x4096.size a := fun v147 k0_hw14 => k0_hw14.1
theorem k0_off13_wordsi8 : ∀ (v147 : BitVec 32) (k0_hw14 : k0_chk14 v147), (Rect.unit (s := S4096x4096) (k0_off13 v147) S32x4096.size (k0_off13_inb v147 k0_hw14)).WholeWords (EltTy.packing .i8) := fun v147 k0_hw14 => k0_hw14.2.1 (k0_off13_inb v147 k0_hw14)
theorem k0_off320_inb : ∀ (v147 : BitVec 32) (k0_hw14 : k0_chk14 v147), ∀ a, (k0_off320 v147) a + S32x4096.size a ≤ S4096x4096.size a := fun v147 k0_hw14 => k0_hw14.2.2.1
theorem k0_off320_wordsi8 : ∀ (v147 : BitVec 32) (k0_hw14 : k0_chk14 v147), (Rect.unit (s := S4096x4096) (k0_off320 v147) S32x4096.size (k0_off320_inb v147 k0_hw14)).WholeWords (EltTy.packing .i8) := fun v147 k0_hw14 => k0_hw14.2.2.2 (k0_off320_inb v147 k0_hw14)

def k0_off321 (v171 : BitVec 32) : Fin 2 → Nat :=
  let c128_i32_151 : BitVec 32 := 128#32
  let v172 : BitVec 32 := Scalar.muli v171 c128_i32_151
  let c0_i32_152 : BitVec 32 := 0#32
  let v173 : BitVec 32 := Scalar.addi v172 c0_i32_152
  let c0_i32_3469 : BitVec 32 := 0#32
  ![v173.toNat, 0]

def k0_chk16 (v171 : BitVec 32) : Prop :=
  (∀ a, (k0_off15 v171) a + S32x4096.size a ≤ S4096x4096.size a) ∧
  (∀ (hinb : ∀ a, (k0_off15 v171) a + S32x4096.size a ≤ S4096x4096.size a), (Rect.unit (s := S4096x4096) (k0_off15 v171) S32x4096.size hinb).WholeWords (EltTy.packing .i8)) ∧
  (∀ a, (k0_off321 v171) a + S32x4096.size a ≤ S4096x4096.size a) ∧
  (∀ (hinb : ∀ a, (k0_off321 v171) a + S32x4096.size a ≤ S4096x4096.size a), (Rect.unit (s := S4096x4096) (k0_off321 v171) S32x4096.size hinb).WholeWords (EltTy.packing .i8))
theorem k0_off15_inb : ∀ (v171 : BitVec 32) (k0_hw16 : k0_chk16 v171), ∀ a, (k0_off15 v171) a + S32x4096.size a ≤ S4096x4096.size a := fun v171 k0_hw16 => k0_hw16.1
theorem k0_off15_wordsi8 : ∀ (v171 : BitVec 32) (k0_hw16 : k0_chk16 v171), (Rect.unit (s := S4096x4096) (k0_off15 v171) S32x4096.size (k0_off15_inb v171 k0_hw16)).WholeWords (EltTy.packing .i8) := fun v171 k0_hw16 => k0_hw16.2.1 (k0_off15_inb v171 k0_hw16)
theorem k0_off321_inb : ∀ (v171 : BitVec 32) (k0_hw16 : k0_chk16 v171), ∀ a, (k0_off321 v171) a + S32x4096.size a ≤ S4096x4096.size a := fun v171 k0_hw16 => k0_hw16.2.2.1
theorem k0_off321_wordsi8 : ∀ (v171 : BitVec 32) (k0_hw16 : k0_chk16 v171), (Rect.unit (s := S4096x4096) (k0_off321 v171) S32x4096.size (k0_off321_inb v171 k0_hw16)).WholeWords (EltTy.packing .i8) := fun v171 k0_hw16 => k0_hw16.2.2.2 (k0_off321_inb v171 k0_hw16)

def k0_off322 (v195 : BitVec 32) : Fin 2 → Nat :=
  let c128_i32_177 : BitVec 32 := 128#32
  let v196 : BitVec 32 := Scalar.muli v195 c128_i32_177
  let c32_i32_178 : BitVec 32 := 32#32
  let v197 : BitVec 32 := Scalar.addi v196 c32_i32_178
  let c0_i32_3476 : BitVec 32 := 0#32
  ![v197.toNat, 0]

def k0_chk18 (v195 : BitVec 32) : Prop :=
  (∀ a, (k0_off17 v195) a + S32x4096.size a ≤ S4096x4096.size a) ∧
  (∀ (hinb : ∀ a, (k0_off17 v195) a + S32x4096.size a ≤ S4096x4096.size a), (Rect.unit (s := S4096x4096) (k0_off17 v195) S32x4096.size hinb).WholeWords (EltTy.packing .i8)) ∧
  (∀ a, (k0_off322 v195) a + S32x4096.size a ≤ S4096x4096.size a) ∧
  (∀ (hinb : ∀ a, (k0_off322 v195) a + S32x4096.size a ≤ S4096x4096.size a), (Rect.unit (s := S4096x4096) (k0_off322 v195) S32x4096.size hinb).WholeWords (EltTy.packing .i8))
theorem k0_off17_inb : ∀ (v195 : BitVec 32) (k0_hw18 : k0_chk18 v195), ∀ a, (k0_off17 v195) a + S32x4096.size a ≤ S4096x4096.size a := fun v195 k0_hw18 => k0_hw18.1
theorem k0_off17_wordsi8 : ∀ (v195 : BitVec 32) (k0_hw18 : k0_chk18 v195), (Rect.unit (s := S4096x4096) (k0_off17 v195) S32x4096.size (k0_off17_inb v195 k0_hw18)).WholeWords (EltTy.packing .i8) := fun v195 k0_hw18 => k0_hw18.2.1 (k0_off17_inb v195 k0_hw18)
theorem k0_off322_inb : ∀ (v195 : BitVec 32) (k0_hw18 : k0_chk18 v195), ∀ a, (k0_off322 v195) a + S32x4096.size a ≤ S4096x4096.size a := fun v195 k0_hw18 => k0_hw18.2.2.1
theorem k0_off322_wordsi8 : ∀ (v195 : BitVec 32) (k0_hw18 : k0_chk18 v195), (Rect.unit (s := S4096x4096) (k0_off322 v195) S32x4096.size (k0_off322_inb v195 k0_hw18)).WholeWords (EltTy.packing .i8) := fun v195 k0_hw18 => k0_hw18.2.2.2 (k0_off322_inb v195 k0_hw18)

def k0_off323 (v219 : BitVec 32) : Fin 2 → Nat :=
  let c128_i32_203 : BitVec 32 := 128#32
  let v220 : BitVec 32 := Scalar.muli v219 c128_i32_203
  let c32_i32_204 : BitVec 32 := 32#32
  let v221 : BitVec 32 := Scalar.addi v220 c32_i32_204
  let c0_i32_3483 : BitVec 32 := 0#32
  ![v221.toNat, 0]

def k0_chk20 (v219 : BitVec 32) : Prop :=
  (∀ a, (k0_off19 v219) a + S32x4096.size a ≤ S4096x4096.size a) ∧
  (∀ (hinb : ∀ a, (k0_off19 v219) a + S32x4096.size a ≤ S4096x4096.size a), (Rect.unit (s := S4096x4096) (k0_off19 v219) S32x4096.size hinb).WholeWords (EltTy.packing .i8)) ∧
  (∀ a, (k0_off323 v219) a + S32x4096.size a ≤ S4096x4096.size a) ∧
  (∀ (hinb : ∀ a, (k0_off323 v219) a + S32x4096.size a ≤ S4096x4096.size a), (Rect.unit (s := S4096x4096) (k0_off323 v219) S32x4096.size hinb).WholeWords (EltTy.packing .i8))
theorem k0_off19_inb : ∀ (v219 : BitVec 32) (k0_hw20 : k0_chk20 v219), ∀ a, (k0_off19 v219) a + S32x4096.size a ≤ S4096x4096.size a := fun v219 k0_hw20 => k0_hw20.1
theorem k0_off19_wordsi8 : ∀ (v219 : BitVec 32) (k0_hw20 : k0_chk20 v219), (Rect.unit (s := S4096x4096) (k0_off19 v219) S32x4096.size (k0_off19_inb v219 k0_hw20)).WholeWords (EltTy.packing .i8) := fun v219 k0_hw20 => k0_hw20.2.1 (k0_off19_inb v219 k0_hw20)
theorem k0_off323_inb : ∀ (v219 : BitVec 32) (k0_hw20 : k0_chk20 v219), ∀ a, (k0_off323 v219) a + S32x4096.size a ≤ S4096x4096.size a := fun v219 k0_hw20 => k0_hw20.2.2.1
theorem k0_off323_wordsi8 : ∀ (v219 : BitVec 32) (k0_hw20 : k0_chk20 v219), (Rect.unit (s := S4096x4096) (k0_off323 v219) S32x4096.size (k0_off323_inb v219 k0_hw20)).WholeWords (EltTy.packing .i8) := fun v219 k0_hw20 => k0_hw20.2.2.2 (k0_off323_inb v219 k0_hw20)

def k0_off324 (v243 : BitVec 32) : Fin 2 → Nat :=
  let c128_i32_229 : BitVec 32 := 128#32
  let v244 : BitVec 32 := Scalar.muli v243 c128_i32_229
  let c64_i32_230 : BitVec 32 := 64#32
  let v245 : BitVec 32 := Scalar.addi v244 c64_i32_230
  let c0_i32_3490 : BitVec 32 := 0#32
  ![v245.toNat, 0]

def k0_chk22 (v243 : BitVec 32) : Prop :=
  (∀ a, (k0_off21 v243) a + S32x4096.size a ≤ S4096x4096.size a) ∧
  (∀ (hinb : ∀ a, (k0_off21 v243) a + S32x4096.size a ≤ S4096x4096.size a), (Rect.unit (s := S4096x4096) (k0_off21 v243) S32x4096.size hinb).WholeWords (EltTy.packing .i8)) ∧
  (∀ a, (k0_off324 v243) a + S32x4096.size a ≤ S4096x4096.size a) ∧
  (∀ (hinb : ∀ a, (k0_off324 v243) a + S32x4096.size a ≤ S4096x4096.size a), (Rect.unit (s := S4096x4096) (k0_off324 v243) S32x4096.size hinb).WholeWords (EltTy.packing .i8))
theorem k0_off21_inb : ∀ (v243 : BitVec 32) (k0_hw22 : k0_chk22 v243), ∀ a, (k0_off21 v243) a + S32x4096.size a ≤ S4096x4096.size a := fun v243 k0_hw22 => k0_hw22.1
theorem k0_off21_wordsi8 : ∀ (v243 : BitVec 32) (k0_hw22 : k0_chk22 v243), (Rect.unit (s := S4096x4096) (k0_off21 v243) S32x4096.size (k0_off21_inb v243 k0_hw22)).WholeWords (EltTy.packing .i8) := fun v243 k0_hw22 => k0_hw22.2.1 (k0_off21_inb v243 k0_hw22)
theorem k0_off324_inb : ∀ (v243 : BitVec 32) (k0_hw22 : k0_chk22 v243), ∀ a, (k0_off324 v243) a + S32x4096.size a ≤ S4096x4096.size a := fun v243 k0_hw22 => k0_hw22.2.2.1
theorem k0_off324_wordsi8 : ∀ (v243 : BitVec 32) (k0_hw22 : k0_chk22 v243), (Rect.unit (s := S4096x4096) (k0_off324 v243) S32x4096.size (k0_off324_inb v243 k0_hw22)).WholeWords (EltTy.packing .i8) := fun v243 k0_hw22 => k0_hw22.2.2.2 (k0_off324_inb v243 k0_hw22)

def k0_off325 (v267 : BitVec 32) : Fin 2 → Nat :=
  let c128_i32_255 : BitVec 32 := 128#32
  let v268 : BitVec 32 := Scalar.muli v267 c128_i32_255
  let c64_i32_256 : BitVec 32 := 64#32
  let v269 : BitVec 32 := Scalar.addi v268 c64_i32_256
  let c0_i32_3497 : BitVec 32 := 0#32
  ![v269.toNat, 0]

def k0_chk24 (v267 : BitVec 32) : Prop :=
  (∀ a, (k0_off23 v267) a + S32x4096.size a ≤ S4096x4096.size a) ∧
  (∀ (hinb : ∀ a, (k0_off23 v267) a + S32x4096.size a ≤ S4096x4096.size a), (Rect.unit (s := S4096x4096) (k0_off23 v267) S32x4096.size hinb).WholeWords (EltTy.packing .i8)) ∧
  (∀ a, (k0_off325 v267) a + S32x4096.size a ≤ S4096x4096.size a) ∧
  (∀ (hinb : ∀ a, (k0_off325 v267) a + S32x4096.size a ≤ S4096x4096.size a), (Rect.unit (s := S4096x4096) (k0_off325 v267) S32x4096.size hinb).WholeWords (EltTy.packing .i8))
theorem k0_off23_inb : ∀ (v267 : BitVec 32) (k0_hw24 : k0_chk24 v267), ∀ a, (k0_off23 v267) a + S32x4096.size a ≤ S4096x4096.size a := fun v267 k0_hw24 => k0_hw24.1
theorem k0_off23_wordsi8 : ∀ (v267 : BitVec 32) (k0_hw24 : k0_chk24 v267), (Rect.unit (s := S4096x4096) (k0_off23 v267) S32x4096.size (k0_off23_inb v267 k0_hw24)).WholeWords (EltTy.packing .i8) := fun v267 k0_hw24 => k0_hw24.2.1 (k0_off23_inb v267 k0_hw24)
theorem k0_off325_inb : ∀ (v267 : BitVec 32) (k0_hw24 : k0_chk24 v267), ∀ a, (k0_off325 v267) a + S32x4096.size a ≤ S4096x4096.size a := fun v267 k0_hw24 => k0_hw24.2.2.1
theorem k0_off325_wordsi8 : ∀ (v267 : BitVec 32) (k0_hw24 : k0_chk24 v267), (Rect.unit (s := S4096x4096) (k0_off325 v267) S32x4096.size (k0_off325_inb v267 k0_hw24)).WholeWords (EltTy.packing .i8) := fun v267 k0_hw24 => k0_hw24.2.2.2 (k0_off325_inb v267 k0_hw24)

def k0_off326 (v291 : BitVec 32) : Fin 2 → Nat :=
  let c128_i32_281 : BitVec 32 := 128#32
  let v292 : BitVec 32 := Scalar.muli v291 c128_i32_281
  let c96_i32_282 : BitVec 32 := 96#32
  let v293 : BitVec 32 := Scalar.addi v292 c96_i32_282
  let c0_i32_3504 : BitVec 32 := 0#32
  ![v293.toNat, 0]

def k0_chk26 (v291 : BitVec 32) : Prop :=
  (∀ a, (k0_off25 v291) a + S32x4096.size a ≤ S4096x4096.size a) ∧
  (∀ (hinb : ∀ a, (k0_off25 v291) a + S32x4096.size a ≤ S4096x4096.size a), (Rect.unit (s := S4096x4096) (k0_off25 v291) S32x4096.size hinb).WholeWords (EltTy.packing .i8)) ∧
  (∀ a, (k0_off326 v291) a + S32x4096.size a ≤ S4096x4096.size a) ∧
  (∀ (hinb : ∀ a, (k0_off326 v291) a + S32x4096.size a ≤ S4096x4096.size a), (Rect.unit (s := S4096x4096) (k0_off326 v291) S32x4096.size hinb).WholeWords (EltTy.packing .i8))
theorem k0_off25_inb : ∀ (v291 : BitVec 32) (k0_hw26 : k0_chk26 v291), ∀ a, (k0_off25 v291) a + S32x4096.size a ≤ S4096x4096.size a := fun v291 k0_hw26 => k0_hw26.1
theorem k0_off25_wordsi8 : ∀ (v291 : BitVec 32) (k0_hw26 : k0_chk26 v291), (Rect.unit (s := S4096x4096) (k0_off25 v291) S32x4096.size (k0_off25_inb v291 k0_hw26)).WholeWords (EltTy.packing .i8) := fun v291 k0_hw26 => k0_hw26.2.1 (k0_off25_inb v291 k0_hw26)
theorem k0_off326_inb : ∀ (v291 : BitVec 32) (k0_hw26 : k0_chk26 v291), ∀ a, (k0_off326 v291) a + S32x4096.size a ≤ S4096x4096.size a := fun v291 k0_hw26 => k0_hw26.2.2.1
theorem k0_off326_wordsi8 : ∀ (v291 : BitVec 32) (k0_hw26 : k0_chk26 v291), (Rect.unit (s := S4096x4096) (k0_off326 v291) S32x4096.size (k0_off326_inb v291 k0_hw26)).WholeWords (EltTy.packing .i8) := fun v291 k0_hw26 => k0_hw26.2.2.2 (k0_off326_inb v291 k0_hw26)

def k0_off327 (v315 : BitVec 32) : Fin 2 → Nat :=
  let c128_i32_307 : BitVec 32 := 128#32
  let v316 : BitVec 32 := Scalar.muli v315 c128_i32_307
  let c96_i32_308 : BitVec 32 := 96#32
  let v317 : BitVec 32 := Scalar.addi v316 c96_i32_308
  let c0_i32_3511 : BitVec 32 := 0#32
  ![v317.toNat, 0]

def k0_chk28 (v315 : BitVec 32) : Prop :=
  (∀ a, (k0_off27 v315) a + S32x4096.size a ≤ S4096x4096.size a) ∧
  (∀ (hinb : ∀ a, (k0_off27 v315) a + S32x4096.size a ≤ S4096x4096.size a), (Rect.unit (s := S4096x4096) (k0_off27 v315) S32x4096.size hinb).WholeWords (EltTy.packing .i8)) ∧
  (∀ a, (k0_off327 v315) a + S32x4096.size a ≤ S4096x4096.size a) ∧
  (∀ (hinb : ∀ a, (k0_off327 v315) a + S32x4096.size a ≤ S4096x4096.size a), (Rect.unit (s := S4096x4096) (k0_off327 v315) S32x4096.size hinb).WholeWords (EltTy.packing .i8))
theorem k0_off27_inb : ∀ (v315 : BitVec 32) (k0_hw28 : k0_chk28 v315), ∀ a, (k0_off27 v315) a + S32x4096.size a ≤ S4096x4096.size a := fun v315 k0_hw28 => k0_hw28.1
theorem k0_off27_wordsi8 : ∀ (v315 : BitVec 32) (k0_hw28 : k0_chk28 v315), (Rect.unit (s := S4096x4096) (k0_off27 v315) S32x4096.size (k0_off27_inb v315 k0_hw28)).WholeWords (EltTy.packing .i8) := fun v315 k0_hw28 => k0_hw28.2.1 (k0_off27_inb v315 k0_hw28)
theorem k0_off327_inb : ∀ (v315 : BitVec 32) (k0_hw28 : k0_chk28 v315), ∀ a, (k0_off327 v315) a + S32x4096.size a ≤ S4096x4096.size a := fun v315 k0_hw28 => k0_hw28.2.2.1
theorem k0_off327_wordsi8 : ∀ (v315 : BitVec 32) (k0_hw28 : k0_chk28 v315), (Rect.unit (s := S4096x4096) (k0_off327 v315) S32x4096.size (k0_off327_inb v315 k0_hw28)).WholeWords (EltTy.packing .i8) := fun v315 k0_hw28 => k0_hw28.2.2.2 (k0_off327_inb v315 k0_hw28)

def k0_off328 (v367 : BitVec 32) : Fin 2 → Nat :=
  let c128_i32_347 : BitVec 32 := 128#32
  let v368 : BitVec 32 := Scalar.muli v367 c128_i32_347
  let c0_i32_348 : BitVec 32 := 0#32
  let v369 : BitVec 32 := Scalar.addi v368 c0_i32_348
  let c0_i32_3518 : BitVec 32 := 0#32
  ![v369.toNat, 0]

def k0_chk32 (v367 : BitVec 32) : Prop :=
  (∀ a, (k0_off33 v367) a + S32x4096.size a ≤ S4096x4096.size a) ∧
  (∀ (hinb : ∀ a, (k0_off33 v367) a + S32x4096.size a ≤ S4096x4096.size a), (Rect.unit (s := S4096x4096) (k0_off33 v367) S32x4096.size hinb).WholeWords (EltTy.packing .i8)) ∧
  (∀ a, (k0_off328 v367) a + S32x4096.size a ≤ S4096x4096.size a) ∧
  (∀ (hinb : ∀ a, (k0_off328 v367) a + S32x4096.size a ≤ S4096x4096.size a), (Rect.unit (s := S4096x4096) (k0_off328 v367) S32x4096.size hinb).WholeWords (EltTy.packing .i8))
theorem k0_off33_inb : ∀ (v367 : BitVec 32) (k0_hw32 : k0_chk32 v367), ∀ a, (k0_off33 v367) a + S32x4096.size a ≤ S4096x4096.size a := fun v367 k0_hw32 => k0_hw32.1
theorem k0_off33_wordsi8 : ∀ (v367 : BitVec 32) (k0_hw32 : k0_chk32 v367), (Rect.unit (s := S4096x4096) (k0_off33 v367) S32x4096.size (k0_off33_inb v367 k0_hw32)).WholeWords (EltTy.packing .i8) := fun v367 k0_hw32 => k0_hw32.2.1 (k0_off33_inb v367 k0_hw32)
theorem k0_off328_inb : ∀ (v367 : BitVec 32) (k0_hw32 : k0_chk32 v367), ∀ a, (k0_off328 v367) a + S32x4096.size a ≤ S4096x4096.size a := fun v367 k0_hw32 => k0_hw32.2.2.1
theorem k0_off328_wordsi8 : ∀ (v367 : BitVec 32) (k0_hw32 : k0_chk32 v367), (Rect.unit (s := S4096x4096) (k0_off328 v367) S32x4096.size (k0_off328_inb v367 k0_hw32)).WholeWords (EltTy.packing .i8) := fun v367 k0_hw32 => k0_hw32.2.2.2 (k0_off328_inb v367 k0_hw32)

def k0_off329 (v391 : BitVec 32) : Fin 2 → Nat :=
  let c128_i32_371 : BitVec 32 := 128#32
  let v392 : BitVec 32 := Scalar.muli v391 c128_i32_371
  let c0_i32_372 : BitVec 32 := 0#32
  let v393 : BitVec 32 := Scalar.addi v392 c0_i32_372
  let c0_i32_3525 : BitVec 32 := 0#32
  ![v393.toNat, 0]

def k0_chk34 (v391 : BitVec 32) : Prop :=
  (∀ a, (k0_off35 v391) a + S32x4096.size a ≤ S4096x4096.size a) ∧
  (∀ (hinb : ∀ a, (k0_off35 v391) a + S32x4096.size a ≤ S4096x4096.size a), (Rect.unit (s := S4096x4096) (k0_off35 v391) S32x4096.size hinb).WholeWords (EltTy.packing .i8)) ∧
  (∀ a, (k0_off329 v391) a + S32x4096.size a ≤ S4096x4096.size a) ∧
  (∀ (hinb : ∀ a, (k0_off329 v391) a + S32x4096.size a ≤ S4096x4096.size a), (Rect.unit (s := S4096x4096) (k0_off329 v391) S32x4096.size hinb).WholeWords (EltTy.packing .i8))
theorem k0_off35_inb : ∀ (v391 : BitVec 32) (k0_hw34 : k0_chk34 v391), ∀ a, (k0_off35 v391) a + S32x4096.size a ≤ S4096x4096.size a := fun v391 k0_hw34 => k0_hw34.1
theorem k0_off35_wordsi8 : ∀ (v391 : BitVec 32) (k0_hw34 : k0_chk34 v391), (Rect.unit (s := S4096x4096) (k0_off35 v391) S32x4096.size (k0_off35_inb v391 k0_hw34)).WholeWords (EltTy.packing .i8) := fun v391 k0_hw34 => k0_hw34.2.1 (k0_off35_inb v391 k0_hw34)
theorem k0_off329_inb : ∀ (v391 : BitVec 32) (k0_hw34 : k0_chk34 v391), ∀ a, (k0_off329 v391) a + S32x4096.size a ≤ S4096x4096.size a := fun v391 k0_hw34 => k0_hw34.2.2.1
theorem k0_off329_wordsi8 : ∀ (v391 : BitVec 32) (k0_hw34 : k0_chk34 v391), (Rect.unit (s := S4096x4096) (k0_off329 v391) S32x4096.size (k0_off329_inb v391 k0_hw34)).WholeWords (EltTy.packing .i8) := fun v391 k0_hw34 => k0_hw34.2.2.2 (k0_off329_inb v391 k0_hw34)

def k0_off330 (v415 : BitVec 32) : Fin 2 → Nat :=
  let c128_i32_397 : BitVec 32 := 128#32
  let v416 : BitVec 32 := Scalar.muli v415 c128_i32_397
  let c32_i32_398 : BitVec 32 := 32#32
  let v417 : BitVec 32 := Scalar.addi v416 c32_i32_398
  let c0_i32_3532 : BitVec 32 := 0#32
  ![v417.toNat, 0]

def k0_chk36 (v415 : BitVec 32) : Prop :=
  (∀ a, (k0_off37 v415) a + S32x4096.size a ≤ S4096x4096.size a) ∧
  (∀ (hinb : ∀ a, (k0_off37 v415) a + S32x4096.size a ≤ S4096x4096.size a), (Rect.unit (s := S4096x4096) (k0_off37 v415) S32x4096.size hinb).WholeWords (EltTy.packing .i8)) ∧
  (∀ a, (k0_off330 v415) a + S32x4096.size a ≤ S4096x4096.size a) ∧
  (∀ (hinb : ∀ a, (k0_off330 v415) a + S32x4096.size a ≤ S4096x4096.size a), (Rect.unit (s := S4096x4096) (k0_off330 v415) S32x4096.size hinb).WholeWords (EltTy.packing .i8))
theorem k0_off37_inb : ∀ (v415 : BitVec 32) (k0_hw36 : k0_chk36 v415), ∀ a, (k0_off37 v415) a + S32x4096.size a ≤ S4096x4096.size a := fun v415 k0_hw36 => k0_hw36.1
theorem k0_off37_wordsi8 : ∀ (v415 : BitVec 32) (k0_hw36 : k0_chk36 v415), (Rect.unit (s := S4096x4096) (k0_off37 v415) S32x4096.size (k0_off37_inb v415 k0_hw36)).WholeWords (EltTy.packing .i8) := fun v415 k0_hw36 => k0_hw36.2.1 (k0_off37_inb v415 k0_hw36)
theorem k0_off330_inb : ∀ (v415 : BitVec 32) (k0_hw36 : k0_chk36 v415), ∀ a, (k0_off330 v415) a + S32x4096.size a ≤ S4096x4096.size a := fun v415 k0_hw36 => k0_hw36.2.2.1
theorem k0_off330_wordsi8 : ∀ (v415 : BitVec 32) (k0_hw36 : k0_chk36 v415), (Rect.unit (s := S4096x4096) (k0_off330 v415) S32x4096.size (k0_off330_inb v415 k0_hw36)).WholeWords (EltTy.packing .i8) := fun v415 k0_hw36 => k0_hw36.2.2.2 (k0_off330_inb v415 k0_hw36)

def k0_off331 (v439 : BitVec 32) : Fin 2 → Nat :=
  let c128_i32_423 : BitVec 32 := 128#32
  let v440 : BitVec 32 := Scalar.muli v439 c128_i32_423
  let c32_i32_424 : BitVec 32 := 32#32
  let v441 : BitVec 32 := Scalar.addi v440 c32_i32_424
  let c0_i32_3539 : BitVec 32 := 0#32
  ![v441.toNat, 0]

def k0_chk38 (v439 : BitVec 32) : Prop :=
  (∀ a, (k0_off39 v439) a + S32x4096.size a ≤ S4096x4096.size a) ∧
  (∀ (hinb : ∀ a, (k0_off39 v439) a + S32x4096.size a ≤ S4096x4096.size a), (Rect.unit (s := S4096x4096) (k0_off39 v439) S32x4096.size hinb).WholeWords (EltTy.packing .i8)) ∧
  (∀ a, (k0_off331 v439) a + S32x4096.size a ≤ S4096x4096.size a) ∧
  (∀ (hinb : ∀ a, (k0_off331 v439) a + S32x4096.size a ≤ S4096x4096.size a), (Rect.unit (s := S4096x4096) (k0_off331 v439) S32x4096.size hinb).WholeWords (EltTy.packing .i8))
theorem k0_off39_inb : ∀ (v439 : BitVec 32) (k0_hw38 : k0_chk38 v439), ∀ a, (k0_off39 v439) a + S32x4096.size a ≤ S4096x4096.size a := fun v439 k0_hw38 => k0_hw38.1
theorem k0_off39_wordsi8 : ∀ (v439 : BitVec 32) (k0_hw38 : k0_chk38 v439), (Rect.unit (s := S4096x4096) (k0_off39 v439) S32x4096.size (k0_off39_inb v439 k0_hw38)).WholeWords (EltTy.packing .i8) := fun v439 k0_hw38 => k0_hw38.2.1 (k0_off39_inb v439 k0_hw38)
theorem k0_off331_inb : ∀ (v439 : BitVec 32) (k0_hw38 : k0_chk38 v439), ∀ a, (k0_off331 v439) a + S32x4096.size a ≤ S4096x4096.size a := fun v439 k0_hw38 => k0_hw38.2.2.1
theorem k0_off331_wordsi8 : ∀ (v439 : BitVec 32) (k0_hw38 : k0_chk38 v439), (Rect.unit (s := S4096x4096) (k0_off331 v439) S32x4096.size (k0_off331_inb v439 k0_hw38)).WholeWords (EltTy.packing .i8) := fun v439 k0_hw38 => k0_hw38.2.2.2 (k0_off331_inb v439 k0_hw38)

def k0_off332 (v463 : BitVec 32) : Fin 2 → Nat :=
  let c128_i32_449 : BitVec 32 := 128#32
  let v464 : BitVec 32 := Scalar.muli v463 c128_i32_449
  let c64_i32_450 : BitVec 32 := 64#32
  let v465 : BitVec 32 := Scalar.addi v464 c64_i32_450
  let c0_i32_3546 : BitVec 32 := 0#32
  ![v465.toNat, 0]

def k0_chk40 (v463 : BitVec 32) : Prop :=
  (∀ a, (k0_off41 v463) a + S32x4096.size a ≤ S4096x4096.size a) ∧
  (∀ (hinb : ∀ a, (k0_off41 v463) a + S32x4096.size a ≤ S4096x4096.size a), (Rect.unit (s := S4096x4096) (k0_off41 v463) S32x4096.size hinb).WholeWords (EltTy.packing .i8)) ∧
  (∀ a, (k0_off332 v463) a + S32x4096.size a ≤ S4096x4096.size a) ∧
  (∀ (hinb : ∀ a, (k0_off332 v463) a + S32x4096.size a ≤ S4096x4096.size a), (Rect.unit (s := S4096x4096) (k0_off332 v463) S32x4096.size hinb).WholeWords (EltTy.packing .i8))
theorem k0_off41_inb : ∀ (v463 : BitVec 32) (k0_hw40 : k0_chk40 v463), ∀ a, (k0_off41 v463) a + S32x4096.size a ≤ S4096x4096.size a := fun v463 k0_hw40 => k0_hw40.1
theorem k0_off41_wordsi8 : ∀ (v463 : BitVec 32) (k0_hw40 : k0_chk40 v463), (Rect.unit (s := S4096x4096) (k0_off41 v463) S32x4096.size (k0_off41_inb v463 k0_hw40)).WholeWords (EltTy.packing .i8) := fun v463 k0_hw40 => k0_hw40.2.1 (k0_off41_inb v463 k0_hw40)
theorem k0_off332_inb : ∀ (v463 : BitVec 32) (k0_hw40 : k0_chk40 v463), ∀ a, (k0_off332 v463) a + S32x4096.size a ≤ S4096x4096.size a := fun v463 k0_hw40 => k0_hw40.2.2.1
theorem k0_off332_wordsi8 : ∀ (v463 : BitVec 32) (k0_hw40 : k0_chk40 v463), (Rect.unit (s := S4096x4096) (k0_off332 v463) S32x4096.size (k0_off332_inb v463 k0_hw40)).WholeWords (EltTy.packing .i8) := fun v463 k0_hw40 => k0_hw40.2.2.2 (k0_off332_inb v463 k0_hw40)

def k0_off333 (v487 : BitVec 32) : Fin 2 → Nat :=
  let c128_i32_475 : BitVec 32 := 128#32
  let v488 : BitVec 32 := Scalar.muli v487 c128_i32_475
  let c64_i32_476 : BitVec 32 := 64#32
  let v489 : BitVec 32 := Scalar.addi v488 c64_i32_476
  let c0_i32_3553 : BitVec 32 := 0#32
  ![v489.toNat, 0]

def k0_chk42 (v487 : BitVec 32) : Prop :=
  (∀ a, (k0_off43 v487) a + S32x4096.size a ≤ S4096x4096.size a) ∧
  (∀ (hinb : ∀ a, (k0_off43 v487) a + S32x4096.size a ≤ S4096x4096.size a), (Rect.unit (s := S4096x4096) (k0_off43 v487) S32x4096.size hinb).WholeWords (EltTy.packing .i8)) ∧
  (∀ a, (k0_off333 v487) a + S32x4096.size a ≤ S4096x4096.size a) ∧
  (∀ (hinb : ∀ a, (k0_off333 v487) a + S32x4096.size a ≤ S4096x4096.size a), (Rect.unit (s := S4096x4096) (k0_off333 v487) S32x4096.size hinb).WholeWords (EltTy.packing .i8))
theorem k0_off43_inb : ∀ (v487 : BitVec 32) (k0_hw42 : k0_chk42 v487), ∀ a, (k0_off43 v487) a + S32x4096.size a ≤ S4096x4096.size a := fun v487 k0_hw42 => k0_hw42.1
theorem k0_off43_wordsi8 : ∀ (v487 : BitVec 32) (k0_hw42 : k0_chk42 v487), (Rect.unit (s := S4096x4096) (k0_off43 v487) S32x4096.size (k0_off43_inb v487 k0_hw42)).WholeWords (EltTy.packing .i8) := fun v487 k0_hw42 => k0_hw42.2.1 (k0_off43_inb v487 k0_hw42)
theorem k0_off333_inb : ∀ (v487 : BitVec 32) (k0_hw42 : k0_chk42 v487), ∀ a, (k0_off333 v487) a + S32x4096.size a ≤ S4096x4096.size a := fun v487 k0_hw42 => k0_hw42.2.2.1
theorem k0_off333_wordsi8 : ∀ (v487 : BitVec 32) (k0_hw42 : k0_chk42 v487), (Rect.unit (s := S4096x4096) (k0_off333 v487) S32x4096.size (k0_off333_inb v487 k0_hw42)).WholeWords (EltTy.packing .i8) := fun v487 k0_hw42 => k0_hw42.2.2.2 (k0_off333_inb v487 k0_hw42)

def k0_off334 (v511 : BitVec 32) : Fin 2 → Nat :=
  let c128_i32_501 : BitVec 32 := 128#32
  let v512 : BitVec 32 := Scalar.muli v511 c128_i32_501
  let c96_i32_502 : BitVec 32 := 96#32
  let v513 : BitVec 32 := Scalar.addi v512 c96_i32_502
  let c0_i32_3560 : BitVec 32 := 0#32
  ![v513.toNat, 0]

def k0_chk44 (v511 : BitVec 32) : Prop :=
  (∀ a, (k0_off45 v511) a + S32x4096.size a ≤ S4096x4096.size a) ∧
  (∀ (hinb : ∀ a, (k0_off45 v511) a + S32x4096.size a ≤ S4096x4096.size a), (Rect.unit (s := S4096x4096) (k0_off45 v511) S32x4096.size hinb).WholeWords (EltTy.packing .i8)) ∧
  (∀ a, (k0_off334 v511) a + S32x4096.size a ≤ S4096x4096.size a) ∧
  (∀ (hinb : ∀ a, (k0_off334 v511) a + S32x4096.size a ≤ S4096x4096.size a), (Rect.unit (s := S4096x4096) (k0_off334 v511) S32x4096.size hinb).WholeWords (EltTy.packing .i8))
theorem k0_off45_inb : ∀ (v511 : BitVec 32) (k0_hw44 : k0_chk44 v511), ∀ a, (k0_off45 v511) a + S32x4096.size a ≤ S4096x4096.size a := fun v511 k0_hw44 => k0_hw44.1
theorem k0_off45_wordsi8 : ∀ (v511 : BitVec 32) (k0_hw44 : k0_chk44 v511), (Rect.unit (s := S4096x4096) (k0_off45 v511) S32x4096.size (k0_off45_inb v511 k0_hw44)).WholeWords (EltTy.packing .i8) := fun v511 k0_hw44 => k0_hw44.2.1 (k0_off45_inb v511 k0_hw44)
theorem k0_off334_inb : ∀ (v511 : BitVec 32) (k0_hw44 : k0_chk44 v511), ∀ a, (k0_off334 v511) a + S32x4096.size a ≤ S4096x4096.size a := fun v511 k0_hw44 => k0_hw44.2.2.1
theorem k0_off334_wordsi8 : ∀ (v511 : BitVec 32) (k0_hw44 : k0_chk44 v511), (Rect.unit (s := S4096x4096) (k0_off334 v511) S32x4096.size (k0_off334_inb v511 k0_hw44)).WholeWords (EltTy.packing .i8) := fun v511 k0_hw44 => k0_hw44.2.2.2 (k0_off334_inb v511 k0_hw44)

def k0_off335 (v535 : BitVec 32) : Fin 2 → Nat :=
  let c128_i32_527 : BitVec 32 := 128#32
  let v536 : BitVec 32 := Scalar.muli v535 c128_i32_527
  let c96_i32_528 : BitVec 32 := 96#32
  let v537 : BitVec 32 := Scalar.addi v536 c96_i32_528
  let c0_i32_3567 : BitVec 32 := 0#32
  ![v537.toNat, 0]

def k0_chk46 (v535 : BitVec 32) : Prop :=
  (∀ a, (k0_off47 v535) a + S32x4096.size a ≤ S4096x4096.size a) ∧
  (∀ (hinb : ∀ a, (k0_off47 v535) a + S32x4096.size a ≤ S4096x4096.size a), (Rect.unit (s := S4096x4096) (k0_off47 v535) S32x4096.size hinb).WholeWords (EltTy.packing .i8)) ∧
  (∀ a, (k0_off335 v535) a + S32x4096.size a ≤ S4096x4096.size a) ∧
  (∀ (hinb : ∀ a, (k0_off335 v535) a + S32x4096.size a ≤ S4096x4096.size a), (Rect.unit (s := S4096x4096) (k0_off335 v535) S32x4096.size hinb).WholeWords (EltTy.packing .i8))
theorem k0_off47_inb : ∀ (v535 : BitVec 32) (k0_hw46 : k0_chk46 v535), ∀ a, (k0_off47 v535) a + S32x4096.size a ≤ S4096x4096.size a := fun v535 k0_hw46 => k0_hw46.1
theorem k0_off47_wordsi8 : ∀ (v535 : BitVec 32) (k0_hw46 : k0_chk46 v535), (Rect.unit (s := S4096x4096) (k0_off47 v535) S32x4096.size (k0_off47_inb v535 k0_hw46)).WholeWords (EltTy.packing .i8) := fun v535 k0_hw46 => k0_hw46.2.1 (k0_off47_inb v535 k0_hw46)
theorem k0_off335_inb : ∀ (v535 : BitVec 32) (k0_hw46 : k0_chk46 v535), ∀ a, (k0_off335 v535) a + S32x4096.size a ≤ S4096x4096.size a := fun v535 k0_hw46 => k0_hw46.2.2.1
theorem k0_off335_wordsi8 : ∀ (v535 : BitVec 32) (k0_hw46 : k0_chk46 v535), (Rect.unit (s := S4096x4096) (k0_off335 v535) S32x4096.size (k0_off335_inb v535 k0_hw46)).WholeWords (EltTy.packing .i8) := fun v535 k0_hw46 => k0_hw46.2.2.2 (k0_off335_inb v535 k0_hw46)

def k0_off336 (v587 : BitVec 32) : Fin 2 → Nat :=
  let c128_i32_567 : BitVec 32 := 128#32
  let v588 : BitVec 32 := Scalar.muli v587 c128_i32_567
  let c0_i32_568 : BitVec 32 := 0#32
  let v589 : BitVec 32 := Scalar.addi v588 c0_i32_568
  let c0_i32_3574 : BitVec 32 := 0#32
  ![v589.toNat, 0]

def k0_chk50 (v587 : BitVec 32) : Prop :=
  (∀ a, (k0_off53 v587) a + S32x4096.size a ≤ S4096x4096.size a) ∧
  (∀ (hinb : ∀ a, (k0_off53 v587) a + S32x4096.size a ≤ S4096x4096.size a), (Rect.unit (s := S4096x4096) (k0_off53 v587) S32x4096.size hinb).WholeWords (EltTy.packing .i8)) ∧
  (∀ a, (k0_off336 v587) a + S32x4096.size a ≤ S4096x4096.size a) ∧
  (∀ (hinb : ∀ a, (k0_off336 v587) a + S32x4096.size a ≤ S4096x4096.size a), (Rect.unit (s := S4096x4096) (k0_off336 v587) S32x4096.size hinb).WholeWords (EltTy.packing .i8))
theorem k0_off53_inb : ∀ (v587 : BitVec 32) (k0_hw50 : k0_chk50 v587), ∀ a, (k0_off53 v587) a + S32x4096.size a ≤ S4096x4096.size a := fun v587 k0_hw50 => k0_hw50.1
theorem k0_off53_wordsi8 : ∀ (v587 : BitVec 32) (k0_hw50 : k0_chk50 v587), (Rect.unit (s := S4096x4096) (k0_off53 v587) S32x4096.size (k0_off53_inb v587 k0_hw50)).WholeWords (EltTy.packing .i8) := fun v587 k0_hw50 => k0_hw50.2.1 (k0_off53_inb v587 k0_hw50)
theorem k0_off336_inb : ∀ (v587 : BitVec 32) (k0_hw50 : k0_chk50 v587), ∀ a, (k0_off336 v587) a + S32x4096.size a ≤ S4096x4096.size a := fun v587 k0_hw50 => k0_hw50.2.2.1
theorem k0_off336_wordsi8 : ∀ (v587 : BitVec 32) (k0_hw50 : k0_chk50 v587), (Rect.unit (s := S4096x4096) (k0_off336 v587) S32x4096.size (k0_off336_inb v587 k0_hw50)).WholeWords (EltTy.packing .i8) := fun v587 k0_hw50 => k0_hw50.2.2.2 (k0_off336_inb v587 k0_hw50)

def k0_off337 (v611 : BitVec 32) : Fin 2 → Nat :=
  let c128_i32_591 : BitVec 32 := 128#32
  let v612 : BitVec 32 := Scalar.muli v611 c128_i32_591
  let c0_i32_592 : BitVec 32 := 0#32
  let v613 : BitVec 32 := Scalar.addi v612 c0_i32_592
  let c0_i32_3581 : BitVec 32 := 0#32
  ![v613.toNat, 0]

def k0_chk52 (v611 : BitVec 32) : Prop :=
  (∀ a, (k0_off55 v611) a + S32x4096.size a ≤ S4096x4096.size a) ∧
  (∀ (hinb : ∀ a, (k0_off55 v611) a + S32x4096.size a ≤ S4096x4096.size a), (Rect.unit (s := S4096x4096) (k0_off55 v611) S32x4096.size hinb).WholeWords (EltTy.packing .i8)) ∧
  (∀ a, (k0_off337 v611) a + S32x4096.size a ≤ S4096x4096.size a) ∧
  (∀ (hinb : ∀ a, (k0_off337 v611) a + S32x4096.size a ≤ S4096x4096.size a), (Rect.unit (s := S4096x4096) (k0_off337 v611) S32x4096.size hinb).WholeWords (EltTy.packing .i8))
theorem k0_off55_inb : ∀ (v611 : BitVec 32) (k0_hw52 : k0_chk52 v611), ∀ a, (k0_off55 v611) a + S32x4096.size a ≤ S4096x4096.size a := fun v611 k0_hw52 => k0_hw52.1
theorem k0_off55_wordsi8 : ∀ (v611 : BitVec 32) (k0_hw52 : k0_chk52 v611), (Rect.unit (s := S4096x4096) (k0_off55 v611) S32x4096.size (k0_off55_inb v611 k0_hw52)).WholeWords (EltTy.packing .i8) := fun v611 k0_hw52 => k0_hw52.2.1 (k0_off55_inb v611 k0_hw52)
theorem k0_off337_inb : ∀ (v611 : BitVec 32) (k0_hw52 : k0_chk52 v611), ∀ a, (k0_off337 v611) a + S32x4096.size a ≤ S4096x4096.size a := fun v611 k0_hw52 => k0_hw52.2.2.1
theorem k0_off337_wordsi8 : ∀ (v611 : BitVec 32) (k0_hw52 : k0_chk52 v611), (Rect.unit (s := S4096x4096) (k0_off337 v611) S32x4096.size (k0_off337_inb v611 k0_hw52)).WholeWords (EltTy.packing .i8) := fun v611 k0_hw52 => k0_hw52.2.2.2 (k0_off337_inb v611 k0_hw52)

def k0_off338 (v635 : BitVec 32) : Fin 2 → Nat :=
  let c128_i32_617 : BitVec 32 := 128#32
  let v636 : BitVec 32 := Scalar.muli v635 c128_i32_617
  let c32_i32_618 : BitVec 32 := 32#32
  let v637 : BitVec 32 := Scalar.addi v636 c32_i32_618
  let c0_i32_3588 : BitVec 32 := 0#32
  ![v637.toNat, 0]

def k0_chk54 (v635 : BitVec 32) : Prop :=
  (∀ a, (k0_off57 v635) a + S32x4096.size a ≤ S4096x4096.size a) ∧
  (∀ (hinb : ∀ a, (k0_off57 v635) a + S32x4096.size a ≤ S4096x4096.size a), (Rect.unit (s := S4096x4096) (k0_off57 v635) S32x4096.size hinb).WholeWords (EltTy.packing .i8)) ∧
  (∀ a, (k0_off338 v635) a + S32x4096.size a ≤ S4096x4096.size a) ∧
  (∀ (hinb : ∀ a, (k0_off338 v635) a + S32x4096.size a ≤ S4096x4096.size a), (Rect.unit (s := S4096x4096) (k0_off338 v635) S32x4096.size hinb).WholeWords (EltTy.packing .i8))
theorem k0_off57_inb : ∀ (v635 : BitVec 32) (k0_hw54 : k0_chk54 v635), ∀ a, (k0_off57 v635) a + S32x4096.size a ≤ S4096x4096.size a := fun v635 k0_hw54 => k0_hw54.1
theorem k0_off57_wordsi8 : ∀ (v635 : BitVec 32) (k0_hw54 : k0_chk54 v635), (Rect.unit (s := S4096x4096) (k0_off57 v635) S32x4096.size (k0_off57_inb v635 k0_hw54)).WholeWords (EltTy.packing .i8) := fun v635 k0_hw54 => k0_hw54.2.1 (k0_off57_inb v635 k0_hw54)
theorem k0_off338_inb : ∀ (v635 : BitVec 32) (k0_hw54 : k0_chk54 v635), ∀ a, (k0_off338 v635) a + S32x4096.size a ≤ S4096x4096.size a := fun v635 k0_hw54 => k0_hw54.2.2.1
theorem k0_off338_wordsi8 : ∀ (v635 : BitVec 32) (k0_hw54 : k0_chk54 v635), (Rect.unit (s := S4096x4096) (k0_off338 v635) S32x4096.size (k0_off338_inb v635 k0_hw54)).WholeWords (EltTy.packing .i8) := fun v635 k0_hw54 => k0_hw54.2.2.2 (k0_off338_inb v635 k0_hw54)

def k0_off339 (v659 : BitVec 32) : Fin 2 → Nat :=
  let c128_i32_643 : BitVec 32 := 128#32
  let v660 : BitVec 32 := Scalar.muli v659 c128_i32_643
  let c32_i32_644 : BitVec 32 := 32#32
  let v661 : BitVec 32 := Scalar.addi v660 c32_i32_644
  let c0_i32_3595 : BitVec 32 := 0#32
  ![v661.toNat, 0]

def k0_chk56 (v659 : BitVec 32) : Prop :=
  (∀ a, (k0_off59 v659) a + S32x4096.size a ≤ S4096x4096.size a) ∧
  (∀ (hinb : ∀ a, (k0_off59 v659) a + S32x4096.size a ≤ S4096x4096.size a), (Rect.unit (s := S4096x4096) (k0_off59 v659) S32x4096.size hinb).WholeWords (EltTy.packing .i8)) ∧
  (∀ a, (k0_off339 v659) a + S32x4096.size a ≤ S4096x4096.size a) ∧
  (∀ (hinb : ∀ a, (k0_off339 v659) a + S32x4096.size a ≤ S4096x4096.size a), (Rect.unit (s := S4096x4096) (k0_off339 v659) S32x4096.size hinb).WholeWords (EltTy.packing .i8))
theorem k0_off59_inb : ∀ (v659 : BitVec 32) (k0_hw56 : k0_chk56 v659), ∀ a, (k0_off59 v659) a + S32x4096.size a ≤ S4096x4096.size a := fun v659 k0_hw56 => k0_hw56.1
theorem k0_off59_wordsi8 : ∀ (v659 : BitVec 32) (k0_hw56 : k0_chk56 v659), (Rect.unit (s := S4096x4096) (k0_off59 v659) S32x4096.size (k0_off59_inb v659 k0_hw56)).WholeWords (EltTy.packing .i8) := fun v659 k0_hw56 => k0_hw56.2.1 (k0_off59_inb v659 k0_hw56)
theorem k0_off339_inb : ∀ (v659 : BitVec 32) (k0_hw56 : k0_chk56 v659), ∀ a, (k0_off339 v659) a + S32x4096.size a ≤ S4096x4096.size a := fun v659 k0_hw56 => k0_hw56.2.2.1
theorem k0_off339_wordsi8 : ∀ (v659 : BitVec 32) (k0_hw56 : k0_chk56 v659), (Rect.unit (s := S4096x4096) (k0_off339 v659) S32x4096.size (k0_off339_inb v659 k0_hw56)).WholeWords (EltTy.packing .i8) := fun v659 k0_hw56 => k0_hw56.2.2.2 (k0_off339_inb v659 k0_hw56)

def k0_off340 (v683 : BitVec 32) : Fin 2 → Nat :=
  let c128_i32_669 : BitVec 32 := 128#32
  let v684 : BitVec 32 := Scalar.muli v683 c128_i32_669
  let c64_i32_670 : BitVec 32 := 64#32
  let v685 : BitVec 32 := Scalar.addi v684 c64_i32_670
  let c0_i32_3602 : BitVec 32 := 0#32
  ![v685.toNat, 0]

def k0_chk58 (v683 : BitVec 32) : Prop :=
  (∀ a, (k0_off61 v683) a + S32x4096.size a ≤ S4096x4096.size a) ∧
  (∀ (hinb : ∀ a, (k0_off61 v683) a + S32x4096.size a ≤ S4096x4096.size a), (Rect.unit (s := S4096x4096) (k0_off61 v683) S32x4096.size hinb).WholeWords (EltTy.packing .i8)) ∧
  (∀ a, (k0_off340 v683) a + S32x4096.size a ≤ S4096x4096.size a) ∧
  (∀ (hinb : ∀ a, (k0_off340 v683) a + S32x4096.size a ≤ S4096x4096.size a), (Rect.unit (s := S4096x4096) (k0_off340 v683) S32x4096.size hinb).WholeWords (EltTy.packing .i8))
theorem k0_off61_inb : ∀ (v683 : BitVec 32) (k0_hw58 : k0_chk58 v683), ∀ a, (k0_off61 v683) a + S32x4096.size a ≤ S4096x4096.size a := fun v683 k0_hw58 => k0_hw58.1
theorem k0_off61_wordsi8 : ∀ (v683 : BitVec 32) (k0_hw58 : k0_chk58 v683), (Rect.unit (s := S4096x4096) (k0_off61 v683) S32x4096.size (k0_off61_inb v683 k0_hw58)).WholeWords (EltTy.packing .i8) := fun v683 k0_hw58 => k0_hw58.2.1 (k0_off61_inb v683 k0_hw58)
theorem k0_off340_inb : ∀ (v683 : BitVec 32) (k0_hw58 : k0_chk58 v683), ∀ a, (k0_off340 v683) a + S32x4096.size a ≤ S4096x4096.size a := fun v683 k0_hw58 => k0_hw58.2.2.1
theorem k0_off340_wordsi8 : ∀ (v683 : BitVec 32) (k0_hw58 : k0_chk58 v683), (Rect.unit (s := S4096x4096) (k0_off340 v683) S32x4096.size (k0_off340_inb v683 k0_hw58)).WholeWords (EltTy.packing .i8) := fun v683 k0_hw58 => k0_hw58.2.2.2 (k0_off340_inb v683 k0_hw58)

def k0_off341 (v707 : BitVec 32) : Fin 2 → Nat :=
  let c128_i32_695 : BitVec 32 := 128#32
  let v708 : BitVec 32 := Scalar.muli v707 c128_i32_695
  let c64_i32_696 : BitVec 32 := 64#32
  let v709 : BitVec 32 := Scalar.addi v708 c64_i32_696
  let c0_i32_3609 : BitVec 32 := 0#32
  ![v709.toNat, 0]

def k0_chk60 (v707 : BitVec 32) : Prop :=
  (∀ a, (k0_off63 v707) a + S32x4096.size a ≤ S4096x4096.size a) ∧
  (∀ (hinb : ∀ a, (k0_off63 v707) a + S32x4096.size a ≤ S4096x4096.size a), (Rect.unit (s := S4096x4096) (k0_off63 v707) S32x4096.size hinb).WholeWords (EltTy.packing .i8)) ∧
  (∀ a, (k0_off341 v707) a + S32x4096.size a ≤ S4096x4096.size a) ∧
  (∀ (hinb : ∀ a, (k0_off341 v707) a + S32x4096.size a ≤ S4096x4096.size a), (Rect.unit (s := S4096x4096) (k0_off341 v707) S32x4096.size hinb).WholeWords (EltTy.packing .i8))
theorem k0_off63_inb : ∀ (v707 : BitVec 32) (k0_hw60 : k0_chk60 v707), ∀ a, (k0_off63 v707) a + S32x4096.size a ≤ S4096x4096.size a := fun v707 k0_hw60 => k0_hw60.1
theorem k0_off63_wordsi8 : ∀ (v707 : BitVec 32) (k0_hw60 : k0_chk60 v707), (Rect.unit (s := S4096x4096) (k0_off63 v707) S32x4096.size (k0_off63_inb v707 k0_hw60)).WholeWords (EltTy.packing .i8) := fun v707 k0_hw60 => k0_hw60.2.1 (k0_off63_inb v707 k0_hw60)
theorem k0_off341_inb : ∀ (v707 : BitVec 32) (k0_hw60 : k0_chk60 v707), ∀ a, (k0_off341 v707) a + S32x4096.size a ≤ S4096x4096.size a := fun v707 k0_hw60 => k0_hw60.2.2.1
theorem k0_off341_wordsi8 : ∀ (v707 : BitVec 32) (k0_hw60 : k0_chk60 v707), (Rect.unit (s := S4096x4096) (k0_off341 v707) S32x4096.size (k0_off341_inb v707 k0_hw60)).WholeWords (EltTy.packing .i8) := fun v707 k0_hw60 => k0_hw60.2.2.2 (k0_off341_inb v707 k0_hw60)

def k0_off342 (v731 : BitVec 32) : Fin 2 → Nat :=
  let c128_i32_721 : BitVec 32 := 128#32
  let v732 : BitVec 32 := Scalar.muli v731 c128_i32_721
  let c96_i32_722 : BitVec 32 := 96#32
  let v733 : BitVec 32 := Scalar.addi v732 c96_i32_722
  let c0_i32_3616 : BitVec 32 := 0#32
  ![v733.toNat, 0]

def k0_chk62 (v731 : BitVec 32) : Prop :=
  (∀ a, (k0_off65 v731) a + S32x4096.size a ≤ S4096x4096.size a) ∧
  (∀ (hinb : ∀ a, (k0_off65 v731) a + S32x4096.size a ≤ S4096x4096.size a), (Rect.unit (s := S4096x4096) (k0_off65 v731) S32x4096.size hinb).WholeWords (EltTy.packing .i8)) ∧
  (∀ a, (k0_off342 v731) a + S32x4096.size a ≤ S4096x4096.size a) ∧
  (∀ (hinb : ∀ a, (k0_off342 v731) a + S32x4096.size a ≤ S4096x4096.size a), (Rect.unit (s := S4096x4096) (k0_off342 v731) S32x4096.size hinb).WholeWords (EltTy.packing .i8))
theorem k0_off65_inb : ∀ (v731 : BitVec 32) (k0_hw62 : k0_chk62 v731), ∀ a, (k0_off65 v731) a + S32x4096.size a ≤ S4096x4096.size a := fun v731 k0_hw62 => k0_hw62.1
theorem k0_off65_wordsi8 : ∀ (v731 : BitVec 32) (k0_hw62 : k0_chk62 v731), (Rect.unit (s := S4096x4096) (k0_off65 v731) S32x4096.size (k0_off65_inb v731 k0_hw62)).WholeWords (EltTy.packing .i8) := fun v731 k0_hw62 => k0_hw62.2.1 (k0_off65_inb v731 k0_hw62)
theorem k0_off342_inb : ∀ (v731 : BitVec 32) (k0_hw62 : k0_chk62 v731), ∀ a, (k0_off342 v731) a + S32x4096.size a ≤ S4096x4096.size a := fun v731 k0_hw62 => k0_hw62.2.2.1
theorem k0_off342_wordsi8 : ∀ (v731 : BitVec 32) (k0_hw62 : k0_chk62 v731), (Rect.unit (s := S4096x4096) (k0_off342 v731) S32x4096.size (k0_off342_inb v731 k0_hw62)).WholeWords (EltTy.packing .i8) := fun v731 k0_hw62 => k0_hw62.2.2.2 (k0_off342_inb v731 k0_hw62)

def k0_off343 (v755 : BitVec 32) : Fin 2 → Nat :=
  let c128_i32_747 : BitVec 32 := 128#32
  let v756 : BitVec 32 := Scalar.muli v755 c128_i32_747
  let c96_i32_748 : BitVec 32 := 96#32
  let v757 : BitVec 32 := Scalar.addi v756 c96_i32_748
  let c0_i32_3623 : BitVec 32 := 0#32
  ![v757.toNat, 0]

def k0_chk64 (v755 : BitVec 32) : Prop :=
  (∀ a, (k0_off67 v755) a + S32x4096.size a ≤ S4096x4096.size a) ∧
  (∀ (hinb : ∀ a, (k0_off67 v755) a + S32x4096.size a ≤ S4096x4096.size a), (Rect.unit (s := S4096x4096) (k0_off67 v755) S32x4096.size hinb).WholeWords (EltTy.packing .i8)) ∧
  (∀ a, (k0_off343 v755) a + S32x4096.size a ≤ S4096x4096.size a) ∧
  (∀ (hinb : ∀ a, (k0_off343 v755) a + S32x4096.size a ≤ S4096x4096.size a), (Rect.unit (s := S4096x4096) (k0_off343 v755) S32x4096.size hinb).WholeWords (EltTy.packing .i8))
theorem k0_off67_inb : ∀ (v755 : BitVec 32) (k0_hw64 : k0_chk64 v755), ∀ a, (k0_off67 v755) a + S32x4096.size a ≤ S4096x4096.size a := fun v755 k0_hw64 => k0_hw64.1
theorem k0_off67_wordsi8 : ∀ (v755 : BitVec 32) (k0_hw64 : k0_chk64 v755), (Rect.unit (s := S4096x4096) (k0_off67 v755) S32x4096.size (k0_off67_inb v755 k0_hw64)).WholeWords (EltTy.packing .i8) := fun v755 k0_hw64 => k0_hw64.2.1 (k0_off67_inb v755 k0_hw64)
theorem k0_off343_inb : ∀ (v755 : BitVec 32) (k0_hw64 : k0_chk64 v755), ∀ a, (k0_off343 v755) a + S32x4096.size a ≤ S4096x4096.size a := fun v755 k0_hw64 => k0_hw64.2.2.1
theorem k0_off343_wordsi8 : ∀ (v755 : BitVec 32) (k0_hw64 : k0_chk64 v755), (Rect.unit (s := S4096x4096) (k0_off343 v755) S32x4096.size (k0_off343_inb v755 k0_hw64)).WholeWords (EltTy.packing .i8) := fun v755 k0_hw64 => k0_hw64.2.2.2 (k0_off343_inb v755 k0_hw64)

def k0_off344 (v807 : BitVec 32) : Fin 2 → Nat :=
  let c128_i32_787 : BitVec 32 := 128#32
  let v808 : BitVec 32 := Scalar.muli v807 c128_i32_787
  let c0_i32_788 : BitVec 32 := 0#32
  let v809 : BitVec 32 := Scalar.addi v808 c0_i32_788
  let c0_i32_3630 : BitVec 32 := 0#32
  ![v809.toNat, 0]

def k0_chk68 (v807 : BitVec 32) : Prop :=
  (∀ a, (k0_off73 v807) a + S32x4096.size a ≤ S4096x4096.size a) ∧
  (∀ (hinb : ∀ a, (k0_off73 v807) a + S32x4096.size a ≤ S4096x4096.size a), (Rect.unit (s := S4096x4096) (k0_off73 v807) S32x4096.size hinb).WholeWords (EltTy.packing .i8)) ∧
  (∀ a, (k0_off344 v807) a + S32x4096.size a ≤ S4096x4096.size a) ∧
  (∀ (hinb : ∀ a, (k0_off344 v807) a + S32x4096.size a ≤ S4096x4096.size a), (Rect.unit (s := S4096x4096) (k0_off344 v807) S32x4096.size hinb).WholeWords (EltTy.packing .i8))
theorem k0_off73_inb : ∀ (v807 : BitVec 32) (k0_hw68 : k0_chk68 v807), ∀ a, (k0_off73 v807) a + S32x4096.size a ≤ S4096x4096.size a := fun v807 k0_hw68 => k0_hw68.1
theorem k0_off73_wordsi8 : ∀ (v807 : BitVec 32) (k0_hw68 : k0_chk68 v807), (Rect.unit (s := S4096x4096) (k0_off73 v807) S32x4096.size (k0_off73_inb v807 k0_hw68)).WholeWords (EltTy.packing .i8) := fun v807 k0_hw68 => k0_hw68.2.1 (k0_off73_inb v807 k0_hw68)
theorem k0_off344_inb : ∀ (v807 : BitVec 32) (k0_hw68 : k0_chk68 v807), ∀ a, (k0_off344 v807) a + S32x4096.size a ≤ S4096x4096.size a := fun v807 k0_hw68 => k0_hw68.2.2.1
theorem k0_off344_wordsi8 : ∀ (v807 : BitVec 32) (k0_hw68 : k0_chk68 v807), (Rect.unit (s := S4096x4096) (k0_off344 v807) S32x4096.size (k0_off344_inb v807 k0_hw68)).WholeWords (EltTy.packing .i8) := fun v807 k0_hw68 => k0_hw68.2.2.2 (k0_off344_inb v807 k0_hw68)

def k0_off345 (v831 : BitVec 32) : Fin 2 → Nat :=
  let c128_i32_810 : BitVec 32 := 128#32
  let v832 : BitVec 32 := Scalar.muli v831 c128_i32_810
  let c0_i32_811 : BitVec 32 := 0#32
  let v833 : BitVec 32 := Scalar.addi v832 c0_i32_811
  let c0_i32_3637 : BitVec 32 := 0#32
  ![v833.toNat, 0]

def k0_chk70 (v831 : BitVec 32) : Prop :=
  (∀ a, (k0_off75 v831) a + S32x4096.size a ≤ S4096x4096.size a) ∧
  (∀ (hinb : ∀ a, (k0_off75 v831) a + S32x4096.size a ≤ S4096x4096.size a), (Rect.unit (s := S4096x4096) (k0_off75 v831) S32x4096.size hinb).WholeWords (EltTy.packing .i8)) ∧
  (∀ a, (k0_off345 v831) a + S32x4096.size a ≤ S4096x4096.size a) ∧
  (∀ (hinb : ∀ a, (k0_off345 v831) a + S32x4096.size a ≤ S4096x4096.size a), (Rect.unit (s := S4096x4096) (k0_off345 v831) S32x4096.size hinb).WholeWords (EltTy.packing .i8))
theorem k0_off75_inb : ∀ (v831 : BitVec 32) (k0_hw70 : k0_chk70 v831), ∀ a, (k0_off75 v831) a + S32x4096.size a ≤ S4096x4096.size a := fun v831 k0_hw70 => k0_hw70.1
theorem k0_off75_wordsi8 : ∀ (v831 : BitVec 32) (k0_hw70 : k0_chk70 v831), (Rect.unit (s := S4096x4096) (k0_off75 v831) S32x4096.size (k0_off75_inb v831 k0_hw70)).WholeWords (EltTy.packing .i8) := fun v831 k0_hw70 => k0_hw70.2.1 (k0_off75_inb v831 k0_hw70)
theorem k0_off345_inb : ∀ (v831 : BitVec 32) (k0_hw70 : k0_chk70 v831), ∀ a, (k0_off345 v831) a + S32x4096.size a ≤ S4096x4096.size a := fun v831 k0_hw70 => k0_hw70.2.2.1
theorem k0_off345_wordsi8 : ∀ (v831 : BitVec 32) (k0_hw70 : k0_chk70 v831), (Rect.unit (s := S4096x4096) (k0_off345 v831) S32x4096.size (k0_off345_inb v831 k0_hw70)).WholeWords (EltTy.packing .i8) := fun v831 k0_hw70 => k0_hw70.2.2.2 (k0_off345_inb v831 k0_hw70)

def k0_off346 (v855 : BitVec 32) : Fin 2 → Nat :=
  let c128_i32_836 : BitVec 32 := 128#32
  let v856 : BitVec 32 := Scalar.muli v855 c128_i32_836
  let c32_i32_837 : BitVec 32 := 32#32
  let v857 : BitVec 32 := Scalar.addi v856 c32_i32_837
  let c0_i32_3644 : BitVec 32 := 0#32
  ![v857.toNat, 0]

def k0_chk72 (v855 : BitVec 32) : Prop :=
  (∀ a, (k0_off77 v855) a + S32x4096.size a ≤ S4096x4096.size a) ∧
  (∀ (hinb : ∀ a, (k0_off77 v855) a + S32x4096.size a ≤ S4096x4096.size a), (Rect.unit (s := S4096x4096) (k0_off77 v855) S32x4096.size hinb).WholeWords (EltTy.packing .i8)) ∧
  (∀ a, (k0_off346 v855) a + S32x4096.size a ≤ S4096x4096.size a) ∧
  (∀ (hinb : ∀ a, (k0_off346 v855) a + S32x4096.size a ≤ S4096x4096.size a), (Rect.unit (s := S4096x4096) (k0_off346 v855) S32x4096.size hinb).WholeWords (EltTy.packing .i8))
theorem k0_off77_inb : ∀ (v855 : BitVec 32) (k0_hw72 : k0_chk72 v855), ∀ a, (k0_off77 v855) a + S32x4096.size a ≤ S4096x4096.size a := fun v855 k0_hw72 => k0_hw72.1
theorem k0_off77_wordsi8 : ∀ (v855 : BitVec 32) (k0_hw72 : k0_chk72 v855), (Rect.unit (s := S4096x4096) (k0_off77 v855) S32x4096.size (k0_off77_inb v855 k0_hw72)).WholeWords (EltTy.packing .i8) := fun v855 k0_hw72 => k0_hw72.2.1 (k0_off77_inb v855 k0_hw72)
theorem k0_off346_inb : ∀ (v855 : BitVec 32) (k0_hw72 : k0_chk72 v855), ∀ a, (k0_off346 v855) a + S32x4096.size a ≤ S4096x4096.size a := fun v855 k0_hw72 => k0_hw72.2.2.1
theorem k0_off346_wordsi8 : ∀ (v855 : BitVec 32) (k0_hw72 : k0_chk72 v855), (Rect.unit (s := S4096x4096) (k0_off346 v855) S32x4096.size (k0_off346_inb v855 k0_hw72)).WholeWords (EltTy.packing .i8) := fun v855 k0_hw72 => k0_hw72.2.2.2 (k0_off346_inb v855 k0_hw72)

def k0_off347 (v879 : BitVec 32) : Fin 2 → Nat :=
  let c128_i32_862 : BitVec 32 := 128#32
  let v880 : BitVec 32 := Scalar.muli v879 c128_i32_862
  let c32_i32_863 : BitVec 32 := 32#32
  let v881 : BitVec 32 := Scalar.addi v880 c32_i32_863
  let c0_i32_3651 : BitVec 32 := 0#32
  ![v881.toNat, 0]

def k0_chk74 (v879 : BitVec 32) : Prop :=
  (∀ a, (k0_off79 v879) a + S32x4096.size a ≤ S4096x4096.size a) ∧
  (∀ (hinb : ∀ a, (k0_off79 v879) a + S32x4096.size a ≤ S4096x4096.size a), (Rect.unit (s := S4096x4096) (k0_off79 v879) S32x4096.size hinb).WholeWords (EltTy.packing .i8)) ∧
  (∀ a, (k0_off347 v879) a + S32x4096.size a ≤ S4096x4096.size a) ∧
  (∀ (hinb : ∀ a, (k0_off347 v879) a + S32x4096.size a ≤ S4096x4096.size a), (Rect.unit (s := S4096x4096) (k0_off347 v879) S32x4096.size hinb).WholeWords (EltTy.packing .i8))
theorem k0_off79_inb : ∀ (v879 : BitVec 32) (k0_hw74 : k0_chk74 v879), ∀ a, (k0_off79 v879) a + S32x4096.size a ≤ S4096x4096.size a := fun v879 k0_hw74 => k0_hw74.1
theorem k0_off79_wordsi8 : ∀ (v879 : BitVec 32) (k0_hw74 : k0_chk74 v879), (Rect.unit (s := S4096x4096) (k0_off79 v879) S32x4096.size (k0_off79_inb v879 k0_hw74)).WholeWords (EltTy.packing .i8) := fun v879 k0_hw74 => k0_hw74.2.1 (k0_off79_inb v879 k0_hw74)
theorem k0_off347_inb : ∀ (v879 : BitVec 32) (k0_hw74 : k0_chk74 v879), ∀ a, (k0_off347 v879) a + S32x4096.size a ≤ S4096x4096.size a := fun v879 k0_hw74 => k0_hw74.2.2.1
theorem k0_off347_wordsi8 : ∀ (v879 : BitVec 32) (k0_hw74 : k0_chk74 v879), (Rect.unit (s := S4096x4096) (k0_off347 v879) S32x4096.size (k0_off347_inb v879 k0_hw74)).WholeWords (EltTy.packing .i8) := fun v879 k0_hw74 => k0_hw74.2.2.2 (k0_off347_inb v879 k0_hw74)

def k0_off348 (v903 : BitVec 32) : Fin 2 → Nat :=
  let c128_i32_888 : BitVec 32 := 128#32
  let v904 : BitVec 32 := Scalar.muli v903 c128_i32_888
  let c64_i32_889 : BitVec 32 := 64#32
  let v905 : BitVec 32 := Scalar.addi v904 c64_i32_889
  let c0_i32_3658 : BitVec 32 := 0#32
  ![v905.toNat, 0]

def k0_chk76 (v903 : BitVec 32) : Prop :=
  (∀ a, (k0_off81 v903) a + S32x4096.size a ≤ S4096x4096.size a) ∧
  (∀ (hinb : ∀ a, (k0_off81 v903) a + S32x4096.size a ≤ S4096x4096.size a), (Rect.unit (s := S4096x4096) (k0_off81 v903) S32x4096.size hinb).WholeWords (EltTy.packing .i8)) ∧
  (∀ a, (k0_off348 v903) a + S32x4096.size a ≤ S4096x4096.size a) ∧
  (∀ (hinb : ∀ a, (k0_off348 v903) a + S32x4096.size a ≤ S4096x4096.size a), (Rect.unit (s := S4096x4096) (k0_off348 v903) S32x4096.size hinb).WholeWords (EltTy.packing .i8))
theorem k0_off81_inb : ∀ (v903 : BitVec 32) (k0_hw76 : k0_chk76 v903), ∀ a, (k0_off81 v903) a + S32x4096.size a ≤ S4096x4096.size a := fun v903 k0_hw76 => k0_hw76.1
theorem k0_off81_wordsi8 : ∀ (v903 : BitVec 32) (k0_hw76 : k0_chk76 v903), (Rect.unit (s := S4096x4096) (k0_off81 v903) S32x4096.size (k0_off81_inb v903 k0_hw76)).WholeWords (EltTy.packing .i8) := fun v903 k0_hw76 => k0_hw76.2.1 (k0_off81_inb v903 k0_hw76)
theorem k0_off348_inb : ∀ (v903 : BitVec 32) (k0_hw76 : k0_chk76 v903), ∀ a, (k0_off348 v903) a + S32x4096.size a ≤ S4096x4096.size a := fun v903 k0_hw76 => k0_hw76.2.2.1
theorem k0_off348_wordsi8 : ∀ (v903 : BitVec 32) (k0_hw76 : k0_chk76 v903), (Rect.unit (s := S4096x4096) (k0_off348 v903) S32x4096.size (k0_off348_inb v903 k0_hw76)).WholeWords (EltTy.packing .i8) := fun v903 k0_hw76 => k0_hw76.2.2.2 (k0_off348_inb v903 k0_hw76)

def k0_off349 (v927 : BitVec 32) : Fin 2 → Nat :=
  let c128_i32_914 : BitVec 32 := 128#32
  let v928 : BitVec 32 := Scalar.muli v927 c128_i32_914
  let c64_i32_915 : BitVec 32 := 64#32
  let v929 : BitVec 32 := Scalar.addi v928 c64_i32_915
  let c0_i32_3665 : BitVec 32 := 0#32
  ![v929.toNat, 0]

def k0_chk78 (v927 : BitVec 32) : Prop :=
  (∀ a, (k0_off83 v927) a + S32x4096.size a ≤ S4096x4096.size a) ∧
  (∀ (hinb : ∀ a, (k0_off83 v927) a + S32x4096.size a ≤ S4096x4096.size a), (Rect.unit (s := S4096x4096) (k0_off83 v927) S32x4096.size hinb).WholeWords (EltTy.packing .i8)) ∧
  (∀ a, (k0_off349 v927) a + S32x4096.size a ≤ S4096x4096.size a) ∧
  (∀ (hinb : ∀ a, (k0_off349 v927) a + S32x4096.size a ≤ S4096x4096.size a), (Rect.unit (s := S4096x4096) (k0_off349 v927) S32x4096.size hinb).WholeWords (EltTy.packing .i8))
theorem k0_off83_inb : ∀ (v927 : BitVec 32) (k0_hw78 : k0_chk78 v927), ∀ a, (k0_off83 v927) a + S32x4096.size a ≤ S4096x4096.size a := fun v927 k0_hw78 => k0_hw78.1
theorem k0_off83_wordsi8 : ∀ (v927 : BitVec 32) (k0_hw78 : k0_chk78 v927), (Rect.unit (s := S4096x4096) (k0_off83 v927) S32x4096.size (k0_off83_inb v927 k0_hw78)).WholeWords (EltTy.packing .i8) := fun v927 k0_hw78 => k0_hw78.2.1 (k0_off83_inb v927 k0_hw78)
theorem k0_off349_inb : ∀ (v927 : BitVec 32) (k0_hw78 : k0_chk78 v927), ∀ a, (k0_off349 v927) a + S32x4096.size a ≤ S4096x4096.size a := fun v927 k0_hw78 => k0_hw78.2.2.1
theorem k0_off349_wordsi8 : ∀ (v927 : BitVec 32) (k0_hw78 : k0_chk78 v927), (Rect.unit (s := S4096x4096) (k0_off349 v927) S32x4096.size (k0_off349_inb v927 k0_hw78)).WholeWords (EltTy.packing .i8) := fun v927 k0_hw78 => k0_hw78.2.2.2 (k0_off349_inb v927 k0_hw78)

def k0_off350 (v951 : BitVec 32) : Fin 2 → Nat :=
  let c128_i32_940 : BitVec 32 := 128#32
  let v952 : BitVec 32 := Scalar.muli v951 c128_i32_940
  let c96_i32_941 : BitVec 32 := 96#32
  let v953 : BitVec 32 := Scalar.addi v952 c96_i32_941
  let c0_i32_3672 : BitVec 32 := 0#32
  ![v953.toNat, 0]

def k0_chk80 (v951 : BitVec 32) : Prop :=
  (∀ a, (k0_off85 v951) a + S32x4096.size a ≤ S4096x4096.size a) ∧
  (∀ (hinb : ∀ a, (k0_off85 v951) a + S32x4096.size a ≤ S4096x4096.size a), (Rect.unit (s := S4096x4096) (k0_off85 v951) S32x4096.size hinb).WholeWords (EltTy.packing .i8)) ∧
  (∀ a, (k0_off350 v951) a + S32x4096.size a ≤ S4096x4096.size a) ∧
  (∀ (hinb : ∀ a, (k0_off350 v951) a + S32x4096.size a ≤ S4096x4096.size a), (Rect.unit (s := S4096x4096) (k0_off350 v951) S32x4096.size hinb).WholeWords (EltTy.packing .i8))
theorem k0_off85_inb : ∀ (v951 : BitVec 32) (k0_hw80 : k0_chk80 v951), ∀ a, (k0_off85 v951) a + S32x4096.size a ≤ S4096x4096.size a := fun v951 k0_hw80 => k0_hw80.1
theorem k0_off85_wordsi8 : ∀ (v951 : BitVec 32) (k0_hw80 : k0_chk80 v951), (Rect.unit (s := S4096x4096) (k0_off85 v951) S32x4096.size (k0_off85_inb v951 k0_hw80)).WholeWords (EltTy.packing .i8) := fun v951 k0_hw80 => k0_hw80.2.1 (k0_off85_inb v951 k0_hw80)
theorem k0_off350_inb : ∀ (v951 : BitVec 32) (k0_hw80 : k0_chk80 v951), ∀ a, (k0_off350 v951) a + S32x4096.size a ≤ S4096x4096.size a := fun v951 k0_hw80 => k0_hw80.2.2.1
theorem k0_off350_wordsi8 : ∀ (v951 : BitVec 32) (k0_hw80 : k0_chk80 v951), (Rect.unit (s := S4096x4096) (k0_off350 v951) S32x4096.size (k0_off350_inb v951 k0_hw80)).WholeWords (EltTy.packing .i8) := fun v951 k0_hw80 => k0_hw80.2.2.2 (k0_off350_inb v951 k0_hw80)

def k0_off351 (v975 : BitVec 32) : Fin 2 → Nat :=
  let c128_i32_966 : BitVec 32 := 128#32
  let v976 : BitVec 32 := Scalar.muli v975 c128_i32_966
  let c96_i32_967 : BitVec 32 := 96#32
  let v977 : BitVec 32 := Scalar.addi v976 c96_i32_967
  let c0_i32_3679 : BitVec 32 := 0#32
  ![v977.toNat, 0]

def k0_chk82 (v975 : BitVec 32) : Prop :=
  (∀ a, (k0_off87 v975) a + S32x4096.size a ≤ S4096x4096.size a) ∧
  (∀ (hinb : ∀ a, (k0_off87 v975) a + S32x4096.size a ≤ S4096x4096.size a), (Rect.unit (s := S4096x4096) (k0_off87 v975) S32x4096.size hinb).WholeWords (EltTy.packing .i8)) ∧
  (∀ a, (k0_off351 v975) a + S32x4096.size a ≤ S4096x4096.size a) ∧
  (∀ (hinb : ∀ a, (k0_off351 v975) a + S32x4096.size a ≤ S4096x4096.size a), (Rect.unit (s := S4096x4096) (k0_off351 v975) S32x4096.size hinb).WholeWords (EltTy.packing .i8))
theorem k0_off87_inb : ∀ (v975 : BitVec 32) (k0_hw82 : k0_chk82 v975), ∀ a, (k0_off87 v975) a + S32x4096.size a ≤ S4096x4096.size a := fun v975 k0_hw82 => k0_hw82.1
theorem k0_off87_wordsi8 : ∀ (v975 : BitVec 32) (k0_hw82 : k0_chk82 v975), (Rect.unit (s := S4096x4096) (k0_off87 v975) S32x4096.size (k0_off87_inb v975 k0_hw82)).WholeWords (EltTy.packing .i8) := fun v975 k0_hw82 => k0_hw82.2.1 (k0_off87_inb v975 k0_hw82)
theorem k0_off351_inb : ∀ (v975 : BitVec 32) (k0_hw82 : k0_chk82 v975), ∀ a, (k0_off351 v975) a + S32x4096.size a ≤ S4096x4096.size a := fun v975 k0_hw82 => k0_hw82.2.2.1
theorem k0_off351_wordsi8 : ∀ (v975 : BitVec 32) (k0_hw82 : k0_chk82 v975), (Rect.unit (s := S4096x4096) (k0_off351 v975) S32x4096.size (k0_off351_inb v975 k0_hw82)).WholeWords (EltTy.packing .i8) := fun v975 k0_hw82 => k0_hw82.2.2.2 (k0_off351_inb v975 k0_hw82)

def k0_off352 (v1027 : BitVec 32) : Fin 2 → Nat :=
  let c128_i32_1006 : BitVec 32 := 128#32
  let v1028 : BitVec 32 := Scalar.muli v1027 c128_i32_1006
  let c0_i32_1007 : BitVec 32 := 0#32
  let v1029 : BitVec 32 := Scalar.addi v1028 c0_i32_1007
  let c0_i32_3686 : BitVec 32 := 0#32
  ![v1029.toNat, 0]

def k0_chk86 (v1027 : BitVec 32) : Prop :=
  (∀ a, (k0_off93 v1027) a + S32x4096.size a ≤ S4096x4096.size a) ∧
  (∀ (hinb : ∀ a, (k0_off93 v1027) a + S32x4096.size a ≤ S4096x4096.size a), (Rect.unit (s := S4096x4096) (k0_off93 v1027) S32x4096.size hinb).WholeWords (EltTy.packing .i8)) ∧
  (∀ a, (k0_off352 v1027) a + S32x4096.size a ≤ S4096x4096.size a) ∧
  (∀ (hinb : ∀ a, (k0_off352 v1027) a + S32x4096.size a ≤ S4096x4096.size a), (Rect.unit (s := S4096x4096) (k0_off352 v1027) S32x4096.size hinb).WholeWords (EltTy.packing .i8))
theorem k0_off93_inb : ∀ (v1027 : BitVec 32) (k0_hw86 : k0_chk86 v1027), ∀ a, (k0_off93 v1027) a + S32x4096.size a ≤ S4096x4096.size a := fun v1027 k0_hw86 => k0_hw86.1
theorem k0_off93_wordsi8 : ∀ (v1027 : BitVec 32) (k0_hw86 : k0_chk86 v1027), (Rect.unit (s := S4096x4096) (k0_off93 v1027) S32x4096.size (k0_off93_inb v1027 k0_hw86)).WholeWords (EltTy.packing .i8) := fun v1027 k0_hw86 => k0_hw86.2.1 (k0_off93_inb v1027 k0_hw86)
theorem k0_off352_inb : ∀ (v1027 : BitVec 32) (k0_hw86 : k0_chk86 v1027), ∀ a, (k0_off352 v1027) a + S32x4096.size a ≤ S4096x4096.size a := fun v1027 k0_hw86 => k0_hw86.2.2.1
theorem k0_off352_wordsi8 : ∀ (v1027 : BitVec 32) (k0_hw86 : k0_chk86 v1027), (Rect.unit (s := S4096x4096) (k0_off352 v1027) S32x4096.size (k0_off352_inb v1027 k0_hw86)).WholeWords (EltTy.packing .i8) := fun v1027 k0_hw86 => k0_hw86.2.2.2 (k0_off352_inb v1027 k0_hw86)

def k0_off353 (v1051 : BitVec 32) : Fin 2 → Nat :=
  let c128_i32_1029 : BitVec 32 := 128#32
  let v1052 : BitVec 32 := Scalar.muli v1051 c128_i32_1029
  let c0_i32_1030 : BitVec 32 := 0#32
  let v1053 : BitVec 32 := Scalar.addi v1052 c0_i32_1030
  let c0_i32_3693 : BitVec 32 := 0#32
  ![v1053.toNat, 0]

def k0_chk88 (v1051 : BitVec 32) : Prop :=
  (∀ a, (k0_off95 v1051) a + S32x4096.size a ≤ S4096x4096.size a) ∧
  (∀ (hinb : ∀ a, (k0_off95 v1051) a + S32x4096.size a ≤ S4096x4096.size a), (Rect.unit (s := S4096x4096) (k0_off95 v1051) S32x4096.size hinb).WholeWords (EltTy.packing .i8)) ∧
  (∀ a, (k0_off353 v1051) a + S32x4096.size a ≤ S4096x4096.size a) ∧
  (∀ (hinb : ∀ a, (k0_off353 v1051) a + S32x4096.size a ≤ S4096x4096.size a), (Rect.unit (s := S4096x4096) (k0_off353 v1051) S32x4096.size hinb).WholeWords (EltTy.packing .i8))
theorem k0_off95_inb : ∀ (v1051 : BitVec 32) (k0_hw88 : k0_chk88 v1051), ∀ a, (k0_off95 v1051) a + S32x4096.size a ≤ S4096x4096.size a := fun v1051 k0_hw88 => k0_hw88.1
theorem k0_off95_wordsi8 : ∀ (v1051 : BitVec 32) (k0_hw88 : k0_chk88 v1051), (Rect.unit (s := S4096x4096) (k0_off95 v1051) S32x4096.size (k0_off95_inb v1051 k0_hw88)).WholeWords (EltTy.packing .i8) := fun v1051 k0_hw88 => k0_hw88.2.1 (k0_off95_inb v1051 k0_hw88)
theorem k0_off353_inb : ∀ (v1051 : BitVec 32) (k0_hw88 : k0_chk88 v1051), ∀ a, (k0_off353 v1051) a + S32x4096.size a ≤ S4096x4096.size a := fun v1051 k0_hw88 => k0_hw88.2.2.1
theorem k0_off353_wordsi8 : ∀ (v1051 : BitVec 32) (k0_hw88 : k0_chk88 v1051), (Rect.unit (s := S4096x4096) (k0_off353 v1051) S32x4096.size (k0_off353_inb v1051 k0_hw88)).WholeWords (EltTy.packing .i8) := fun v1051 k0_hw88 => k0_hw88.2.2.2 (k0_off353_inb v1051 k0_hw88)

def k0_off354 (v1075 : BitVec 32) : Fin 2 → Nat :=
  let c128_i32_1055 : BitVec 32 := 128#32
  let v1076 : BitVec 32 := Scalar.muli v1075 c128_i32_1055
  let c32_i32_1056 : BitVec 32 := 32#32
  let v1077 : BitVec 32 := Scalar.addi v1076 c32_i32_1056
  let c0_i32_3700 : BitVec 32 := 0#32
  ![v1077.toNat, 0]

def k0_chk90 (v1075 : BitVec 32) : Prop :=
  (∀ a, (k0_off97 v1075) a + S32x4096.size a ≤ S4096x4096.size a) ∧
  (∀ (hinb : ∀ a, (k0_off97 v1075) a + S32x4096.size a ≤ S4096x4096.size a), (Rect.unit (s := S4096x4096) (k0_off97 v1075) S32x4096.size hinb).WholeWords (EltTy.packing .i8)) ∧
  (∀ a, (k0_off354 v1075) a + S32x4096.size a ≤ S4096x4096.size a) ∧
  (∀ (hinb : ∀ a, (k0_off354 v1075) a + S32x4096.size a ≤ S4096x4096.size a), (Rect.unit (s := S4096x4096) (k0_off354 v1075) S32x4096.size hinb).WholeWords (EltTy.packing .i8))
theorem k0_off97_inb : ∀ (v1075 : BitVec 32) (k0_hw90 : k0_chk90 v1075), ∀ a, (k0_off97 v1075) a + S32x4096.size a ≤ S4096x4096.size a := fun v1075 k0_hw90 => k0_hw90.1
theorem k0_off97_wordsi8 : ∀ (v1075 : BitVec 32) (k0_hw90 : k0_chk90 v1075), (Rect.unit (s := S4096x4096) (k0_off97 v1075) S32x4096.size (k0_off97_inb v1075 k0_hw90)).WholeWords (EltTy.packing .i8) := fun v1075 k0_hw90 => k0_hw90.2.1 (k0_off97_inb v1075 k0_hw90)
theorem k0_off354_inb : ∀ (v1075 : BitVec 32) (k0_hw90 : k0_chk90 v1075), ∀ a, (k0_off354 v1075) a + S32x4096.size a ≤ S4096x4096.size a := fun v1075 k0_hw90 => k0_hw90.2.2.1
theorem k0_off354_wordsi8 : ∀ (v1075 : BitVec 32) (k0_hw90 : k0_chk90 v1075), (Rect.unit (s := S4096x4096) (k0_off354 v1075) S32x4096.size (k0_off354_inb v1075 k0_hw90)).WholeWords (EltTy.packing .i8) := fun v1075 k0_hw90 => k0_hw90.2.2.2 (k0_off354_inb v1075 k0_hw90)

def k0_off355 (v1099 : BitVec 32) : Fin 2 → Nat :=
  let c128_i32_1081 : BitVec 32 := 128#32
  let v1100 : BitVec 32 := Scalar.muli v1099 c128_i32_1081
  let c32_i32_1082 : BitVec 32 := 32#32
  let v1101 : BitVec 32 := Scalar.addi v1100 c32_i32_1082
  let c0_i32_3707 : BitVec 32 := 0#32
  ![v1101.toNat, 0]

def k0_chk92 (v1099 : BitVec 32) : Prop :=
  (∀ a, (k0_off99 v1099) a + S32x4096.size a ≤ S4096x4096.size a) ∧
  (∀ (hinb : ∀ a, (k0_off99 v1099) a + S32x4096.size a ≤ S4096x4096.size a), (Rect.unit (s := S4096x4096) (k0_off99 v1099) S32x4096.size hinb).WholeWords (EltTy.packing .i8)) ∧
  (∀ a, (k0_off355 v1099) a + S32x4096.size a ≤ S4096x4096.size a) ∧
  (∀ (hinb : ∀ a, (k0_off355 v1099) a + S32x4096.size a ≤ S4096x4096.size a), (Rect.unit (s := S4096x4096) (k0_off355 v1099) S32x4096.size hinb).WholeWords (EltTy.packing .i8))
theorem k0_off99_inb : ∀ (v1099 : BitVec 32) (k0_hw92 : k0_chk92 v1099), ∀ a, (k0_off99 v1099) a + S32x4096.size a ≤ S4096x4096.size a := fun v1099 k0_hw92 => k0_hw92.1
theorem k0_off99_wordsi8 : ∀ (v1099 : BitVec 32) (k0_hw92 : k0_chk92 v1099), (Rect.unit (s := S4096x4096) (k0_off99 v1099) S32x4096.size (k0_off99_inb v1099 k0_hw92)).WholeWords (EltTy.packing .i8) := fun v1099 k0_hw92 => k0_hw92.2.1 (k0_off99_inb v1099 k0_hw92)
theorem k0_off355_inb : ∀ (v1099 : BitVec 32) (k0_hw92 : k0_chk92 v1099), ∀ a, (k0_off355 v1099) a + S32x4096.size a ≤ S4096x4096.size a := fun v1099 k0_hw92 => k0_hw92.2.2.1
theorem k0_off355_wordsi8 : ∀ (v1099 : BitVec 32) (k0_hw92 : k0_chk92 v1099), (Rect.unit (s := S4096x4096) (k0_off355 v1099) S32x4096.size (k0_off355_inb v1099 k0_hw92)).WholeWords (EltTy.packing .i8) := fun v1099 k0_hw92 => k0_hw92.2.2.2 (k0_off355_inb v1099 k0_hw92)

def k0_off356 (v1123 : BitVec 32) : Fin 2 → Nat :=
  let c128_i32_1107 : BitVec 32 := 128#32
  let v1124 : BitVec 32 := Scalar.muli v1123 c128_i32_1107
  let c64_i32_1108 : BitVec 32 := 64#32
  let v1125 : BitVec 32 := Scalar.addi v1124 c64_i32_1108
  let c0_i32_3714 : BitVec 32 := 0#32
  ![v1125.toNat, 0]

def k0_chk94 (v1123 : BitVec 32) : Prop :=
  (∀ a, (k0_off101 v1123) a + S32x4096.size a ≤ S4096x4096.size a) ∧
  (∀ (hinb : ∀ a, (k0_off101 v1123) a + S32x4096.size a ≤ S4096x4096.size a), (Rect.unit (s := S4096x4096) (k0_off101 v1123) S32x4096.size hinb).WholeWords (EltTy.packing .i8)) ∧
  (∀ a, (k0_off356 v1123) a + S32x4096.size a ≤ S4096x4096.size a) ∧
  (∀ (hinb : ∀ a, (k0_off356 v1123) a + S32x4096.size a ≤ S4096x4096.size a), (Rect.unit (s := S4096x4096) (k0_off356 v1123) S32x4096.size hinb).WholeWords (EltTy.packing .i8))
theorem k0_off101_inb : ∀ (v1123 : BitVec 32) (k0_hw94 : k0_chk94 v1123), ∀ a, (k0_off101 v1123) a + S32x4096.size a ≤ S4096x4096.size a := fun v1123 k0_hw94 => k0_hw94.1
theorem k0_off101_wordsi8 : ∀ (v1123 : BitVec 32) (k0_hw94 : k0_chk94 v1123), (Rect.unit (s := S4096x4096) (k0_off101 v1123) S32x4096.size (k0_off101_inb v1123 k0_hw94)).WholeWords (EltTy.packing .i8) := fun v1123 k0_hw94 => k0_hw94.2.1 (k0_off101_inb v1123 k0_hw94)
theorem k0_off356_inb : ∀ (v1123 : BitVec 32) (k0_hw94 : k0_chk94 v1123), ∀ a, (k0_off356 v1123) a + S32x4096.size a ≤ S4096x4096.size a := fun v1123 k0_hw94 => k0_hw94.2.2.1
theorem k0_off356_wordsi8 : ∀ (v1123 : BitVec 32) (k0_hw94 : k0_chk94 v1123), (Rect.unit (s := S4096x4096) (k0_off356 v1123) S32x4096.size (k0_off356_inb v1123 k0_hw94)).WholeWords (EltTy.packing .i8) := fun v1123 k0_hw94 => k0_hw94.2.2.2 (k0_off356_inb v1123 k0_hw94)

def k0_off357 (v1147 : BitVec 32) : Fin 2 → Nat :=
  let c128_i32_1133 : BitVec 32 := 128#32
  let v1148 : BitVec 32 := Scalar.muli v1147 c128_i32_1133
  let c64_i32_1134 : BitVec 32 := 64#32
  let v1149 : BitVec 32 := Scalar.addi v1148 c64_i32_1134
  let c0_i32_3721 : BitVec 32 := 0#32
  ![v1149.toNat, 0]

def k0_chk96 (v1147 : BitVec 32) : Prop :=
  (∀ a, (k0_off103 v1147) a + S32x4096.size a ≤ S4096x4096.size a) ∧
  (∀ (hinb : ∀ a, (k0_off103 v1147) a + S32x4096.size a ≤ S4096x4096.size a), (Rect.unit (s := S4096x4096) (k0_off103 v1147) S32x4096.size hinb).WholeWords (EltTy.packing .i8)) ∧
  (∀ a, (k0_off357 v1147) a + S32x4096.size a ≤ S4096x4096.size a) ∧
  (∀ (hinb : ∀ a, (k0_off357 v1147) a + S32x4096.size a ≤ S4096x4096.size a), (Rect.unit (s := S4096x4096) (k0_off357 v1147) S32x4096.size hinb).WholeWords (EltTy.packing .i8))
theorem k0_off103_inb : ∀ (v1147 : BitVec 32) (k0_hw96 : k0_chk96 v1147), ∀ a, (k0_off103 v1147) a + S32x4096.size a ≤ S4096x4096.size a := fun v1147 k0_hw96 => k0_hw96.1
theorem k0_off103_wordsi8 : ∀ (v1147 : BitVec 32) (k0_hw96 : k0_chk96 v1147), (Rect.unit (s := S4096x4096) (k0_off103 v1147) S32x4096.size (k0_off103_inb v1147 k0_hw96)).WholeWords (EltTy.packing .i8) := fun v1147 k0_hw96 => k0_hw96.2.1 (k0_off103_inb v1147 k0_hw96)
theorem k0_off357_inb : ∀ (v1147 : BitVec 32) (k0_hw96 : k0_chk96 v1147), ∀ a, (k0_off357 v1147) a + S32x4096.size a ≤ S4096x4096.size a := fun v1147 k0_hw96 => k0_hw96.2.2.1
theorem k0_off357_wordsi8 : ∀ (v1147 : BitVec 32) (k0_hw96 : k0_chk96 v1147), (Rect.unit (s := S4096x4096) (k0_off357 v1147) S32x4096.size (k0_off357_inb v1147 k0_hw96)).WholeWords (EltTy.packing .i8) := fun v1147 k0_hw96 => k0_hw96.2.2.2 (k0_off357_inb v1147 k0_hw96)

def k0_off358 (v1171 : BitVec 32) : Fin 2 → Nat :=
  let c128_i32_1159 : BitVec 32 := 128#32
  let v1172 : BitVec 32 := Scalar.muli v1171 c128_i32_1159
  let c96_i32_1160 : BitVec 32 := 96#32
  let v1173 : BitVec 32 := Scalar.addi v1172 c96_i32_1160
  let c0_i32_3728 : BitVec 32 := 0#32
  ![v1173.toNat, 0]

def k0_chk98 (v1171 : BitVec 32) : Prop :=
  (∀ a, (k0_off105 v1171) a + S32x4096.size a ≤ S4096x4096.size a) ∧
  (∀ (hinb : ∀ a, (k0_off105 v1171) a + S32x4096.size a ≤ S4096x4096.size a), (Rect.unit (s := S4096x4096) (k0_off105 v1171) S32x4096.size hinb).WholeWords (EltTy.packing .i8)) ∧
  (∀ a, (k0_off358 v1171) a + S32x4096.size a ≤ S4096x4096.size a) ∧
  (∀ (hinb : ∀ a, (k0_off358 v1171) a + S32x4096.size a ≤ S4096x4096.size a), (Rect.unit (s := S4096x4096) (k0_off358 v1171) S32x4096.size hinb).WholeWords (EltTy.packing .i8))
theorem k0_off105_inb : ∀ (v1171 : BitVec 32) (k0_hw98 : k0_chk98 v1171), ∀ a, (k0_off105 v1171) a + S32x4096.size a ≤ S4096x4096.size a := fun v1171 k0_hw98 => k0_hw98.1
theorem k0_off105_wordsi8 : ∀ (v1171 : BitVec 32) (k0_hw98 : k0_chk98 v1171), (Rect.unit (s := S4096x4096) (k0_off105 v1171) S32x4096.size (k0_off105_inb v1171 k0_hw98)).WholeWords (EltTy.packing .i8) := fun v1171 k0_hw98 => k0_hw98.2.1 (k0_off105_inb v1171 k0_hw98)
theorem k0_off358_inb : ∀ (v1171 : BitVec 32) (k0_hw98 : k0_chk98 v1171), ∀ a, (k0_off358 v1171) a + S32x4096.size a ≤ S4096x4096.size a := fun v1171 k0_hw98 => k0_hw98.2.2.1
theorem k0_off358_wordsi8 : ∀ (v1171 : BitVec 32) (k0_hw98 : k0_chk98 v1171), (Rect.unit (s := S4096x4096) (k0_off358 v1171) S32x4096.size (k0_off358_inb v1171 k0_hw98)).WholeWords (EltTy.packing .i8) := fun v1171 k0_hw98 => k0_hw98.2.2.2 (k0_off358_inb v1171 k0_hw98)

def k0_off359 (v1195 : BitVec 32) : Fin 2 → Nat :=
  let c128_i32_1185 : BitVec 32 := 128#32
  let v1196 : BitVec 32 := Scalar.muli v1195 c128_i32_1185
  let c96_i32_1186 : BitVec 32 := 96#32
  let v1197 : BitVec 32 := Scalar.addi v1196 c96_i32_1186
  let c0_i32_3735 : BitVec 32 := 0#32
  ![v1197.toNat, 0]

def k0_chk100 (v1195 : BitVec 32) : Prop :=
  (∀ a, (k0_off107 v1195) a + S32x4096.size a ≤ S4096x4096.size a) ∧
  (∀ (hinb : ∀ a, (k0_off107 v1195) a + S32x4096.size a ≤ S4096x4096.size a), (Rect.unit (s := S4096x4096) (k0_off107 v1195) S32x4096.size hinb).WholeWords (EltTy.packing .i8)) ∧
  (∀ a, (k0_off359 v1195) a + S32x4096.size a ≤ S4096x4096.size a) ∧
  (∀ (hinb : ∀ a, (k0_off359 v1195) a + S32x4096.size a ≤ S4096x4096.size a), (Rect.unit (s := S4096x4096) (k0_off359 v1195) S32x4096.size hinb).WholeWords (EltTy.packing .i8))
theorem k0_off107_inb : ∀ (v1195 : BitVec 32) (k0_hw100 : k0_chk100 v1195), ∀ a, (k0_off107 v1195) a + S32x4096.size a ≤ S4096x4096.size a := fun v1195 k0_hw100 => k0_hw100.1
theorem k0_off107_wordsi8 : ∀ (v1195 : BitVec 32) (k0_hw100 : k0_chk100 v1195), (Rect.unit (s := S4096x4096) (k0_off107 v1195) S32x4096.size (k0_off107_inb v1195 k0_hw100)).WholeWords (EltTy.packing .i8) := fun v1195 k0_hw100 => k0_hw100.2.1 (k0_off107_inb v1195 k0_hw100)
theorem k0_off359_inb : ∀ (v1195 : BitVec 32) (k0_hw100 : k0_chk100 v1195), ∀ a, (k0_off359 v1195) a + S32x4096.size a ≤ S4096x4096.size a := fun v1195 k0_hw100 => k0_hw100.2.2.1
theorem k0_off359_wordsi8 : ∀ (v1195 : BitVec 32) (k0_hw100 : k0_chk100 v1195), (Rect.unit (s := S4096x4096) (k0_off359 v1195) S32x4096.size (k0_off359_inb v1195 k0_hw100)).WholeWords (EltTy.packing .i8) := fun v1195 k0_hw100 => k0_hw100.2.2.2 (k0_off359_inb v1195 k0_hw100)

def k0_off360 (v1247 : BitVec 32) : Fin 2 → Nat :=
  let c128_i32_1225 : BitVec 32 := 128#32
  let v1248 : BitVec 32 := Scalar.muli v1247 c128_i32_1225
  let c0_i32_1226 : BitVec 32 := 0#32
  let v1249 : BitVec 32 := Scalar.addi v1248 c0_i32_1226
  let c0_i32_3742 : BitVec 32 := 0#32
  ![v1249.toNat, 0]

def k0_chk104 (v1247 : BitVec 32) : Prop :=
  (∀ a, (k0_off113 v1247) a + S32x4096.size a ≤ S4096x4096.size a) ∧
  (∀ (hinb : ∀ a, (k0_off113 v1247) a + S32x4096.size a ≤ S4096x4096.size a), (Rect.unit (s := S4096x4096) (k0_off113 v1247) S32x4096.size hinb).WholeWords (EltTy.packing .i8)) ∧
  (∀ a, (k0_off360 v1247) a + S32x4096.size a ≤ S4096x4096.size a) ∧
  (∀ (hinb : ∀ a, (k0_off360 v1247) a + S32x4096.size a ≤ S4096x4096.size a), (Rect.unit (s := S4096x4096) (k0_off360 v1247) S32x4096.size hinb).WholeWords (EltTy.packing .i8))
theorem k0_off113_inb : ∀ (v1247 : BitVec 32) (k0_hw104 : k0_chk104 v1247), ∀ a, (k0_off113 v1247) a + S32x4096.size a ≤ S4096x4096.size a := fun v1247 k0_hw104 => k0_hw104.1
theorem k0_off113_wordsi8 : ∀ (v1247 : BitVec 32) (k0_hw104 : k0_chk104 v1247), (Rect.unit (s := S4096x4096) (k0_off113 v1247) S32x4096.size (k0_off113_inb v1247 k0_hw104)).WholeWords (EltTy.packing .i8) := fun v1247 k0_hw104 => k0_hw104.2.1 (k0_off113_inb v1247 k0_hw104)
theorem k0_off360_inb : ∀ (v1247 : BitVec 32) (k0_hw104 : k0_chk104 v1247), ∀ a, (k0_off360 v1247) a + S32x4096.size a ≤ S4096x4096.size a := fun v1247 k0_hw104 => k0_hw104.2.2.1
theorem k0_off360_wordsi8 : ∀ (v1247 : BitVec 32) (k0_hw104 : k0_chk104 v1247), (Rect.unit (s := S4096x4096) (k0_off360 v1247) S32x4096.size (k0_off360_inb v1247 k0_hw104)).WholeWords (EltTy.packing .i8) := fun v1247 k0_hw104 => k0_hw104.2.2.2 (k0_off360_inb v1247 k0_hw104)

def k0_off361 (v1271 : BitVec 32) : Fin 2 → Nat :=
  let c128_i32_1248 : BitVec 32 := 128#32
  let v1272 : BitVec 32 := Scalar.muli v1271 c128_i32_1248
  let c0_i32_1249 : BitVec 32 := 0#32
  let v1273 : BitVec 32 := Scalar.addi v1272 c0_i32_1249
  let c0_i32_3749 : BitVec 32 := 0#32
  ![v1273.toNat, 0]

def k0_chk106 (v1271 : BitVec 32) : Prop :=
  (∀ a, (k0_off115 v1271) a + S32x4096.size a ≤ S4096x4096.size a) ∧
  (∀ (hinb : ∀ a, (k0_off115 v1271) a + S32x4096.size a ≤ S4096x4096.size a), (Rect.unit (s := S4096x4096) (k0_off115 v1271) S32x4096.size hinb).WholeWords (EltTy.packing .i8)) ∧
  (∀ a, (k0_off361 v1271) a + S32x4096.size a ≤ S4096x4096.size a) ∧
  (∀ (hinb : ∀ a, (k0_off361 v1271) a + S32x4096.size a ≤ S4096x4096.size a), (Rect.unit (s := S4096x4096) (k0_off361 v1271) S32x4096.size hinb).WholeWords (EltTy.packing .i8))
theorem k0_off115_inb : ∀ (v1271 : BitVec 32) (k0_hw106 : k0_chk106 v1271), ∀ a, (k0_off115 v1271) a + S32x4096.size a ≤ S4096x4096.size a := fun v1271 k0_hw106 => k0_hw106.1
theorem k0_off115_wordsi8 : ∀ (v1271 : BitVec 32) (k0_hw106 : k0_chk106 v1271), (Rect.unit (s := S4096x4096) (k0_off115 v1271) S32x4096.size (k0_off115_inb v1271 k0_hw106)).WholeWords (EltTy.packing .i8) := fun v1271 k0_hw106 => k0_hw106.2.1 (k0_off115_inb v1271 k0_hw106)
theorem k0_off361_inb : ∀ (v1271 : BitVec 32) (k0_hw106 : k0_chk106 v1271), ∀ a, (k0_off361 v1271) a + S32x4096.size a ≤ S4096x4096.size a := fun v1271 k0_hw106 => k0_hw106.2.2.1
theorem k0_off361_wordsi8 : ∀ (v1271 : BitVec 32) (k0_hw106 : k0_chk106 v1271), (Rect.unit (s := S4096x4096) (k0_off361 v1271) S32x4096.size (k0_off361_inb v1271 k0_hw106)).WholeWords (EltTy.packing .i8) := fun v1271 k0_hw106 => k0_hw106.2.2.2 (k0_off361_inb v1271 k0_hw106)

def k0_off362 (v1295 : BitVec 32) : Fin 2 → Nat :=
  let c128_i32_1274 : BitVec 32 := 128#32
  let v1296 : BitVec 32 := Scalar.muli v1295 c128_i32_1274
  let c32_i32_1275 : BitVec 32 := 32#32
  let v1297 : BitVec 32 := Scalar.addi v1296 c32_i32_1275
  let c0_i32_3756 : BitVec 32 := 0#32
  ![v1297.toNat, 0]

def k0_chk108 (v1295 : BitVec 32) : Prop :=
  (∀ a, (k0_off117 v1295) a + S32x4096.size a ≤ S4096x4096.size a) ∧
  (∀ (hinb : ∀ a, (k0_off117 v1295) a + S32x4096.size a ≤ S4096x4096.size a), (Rect.unit (s := S4096x4096) (k0_off117 v1295) S32x4096.size hinb).WholeWords (EltTy.packing .i8)) ∧
  (∀ a, (k0_off362 v1295) a + S32x4096.size a ≤ S4096x4096.size a) ∧
  (∀ (hinb : ∀ a, (k0_off362 v1295) a + S32x4096.size a ≤ S4096x4096.size a), (Rect.unit (s := S4096x4096) (k0_off362 v1295) S32x4096.size hinb).WholeWords (EltTy.packing .i8))
theorem k0_off117_inb : ∀ (v1295 : BitVec 32) (k0_hw108 : k0_chk108 v1295), ∀ a, (k0_off117 v1295) a + S32x4096.size a ≤ S4096x4096.size a := fun v1295 k0_hw108 => k0_hw108.1
theorem k0_off117_wordsi8 : ∀ (v1295 : BitVec 32) (k0_hw108 : k0_chk108 v1295), (Rect.unit (s := S4096x4096) (k0_off117 v1295) S32x4096.size (k0_off117_inb v1295 k0_hw108)).WholeWords (EltTy.packing .i8) := fun v1295 k0_hw108 => k0_hw108.2.1 (k0_off117_inb v1295 k0_hw108)
theorem k0_off362_inb : ∀ (v1295 : BitVec 32) (k0_hw108 : k0_chk108 v1295), ∀ a, (k0_off362 v1295) a + S32x4096.size a ≤ S4096x4096.size a := fun v1295 k0_hw108 => k0_hw108.2.2.1
theorem k0_off362_wordsi8 : ∀ (v1295 : BitVec 32) (k0_hw108 : k0_chk108 v1295), (Rect.unit (s := S4096x4096) (k0_off362 v1295) S32x4096.size (k0_off362_inb v1295 k0_hw108)).WholeWords (EltTy.packing .i8) := fun v1295 k0_hw108 => k0_hw108.2.2.2 (k0_off362_inb v1295 k0_hw108)

def k0_off363 (v1319 : BitVec 32) : Fin 2 → Nat :=
  let c128_i32_1300 : BitVec 32 := 128#32
  let v1320 : BitVec 32 := Scalar.muli v1319 c128_i32_1300
  let c32_i32_1301 : BitVec 32 := 32#32
  let v1321 : BitVec 32 := Scalar.addi v1320 c32_i32_1301
  let c0_i32_3763 : BitVec 32 := 0#32
  ![v1321.toNat, 0]

def k0_chk110 (v1319 : BitVec 32) : Prop :=
  (∀ a, (k0_off119 v1319) a + S32x4096.size a ≤ S4096x4096.size a) ∧
  (∀ (hinb : ∀ a, (k0_off119 v1319) a + S32x4096.size a ≤ S4096x4096.size a), (Rect.unit (s := S4096x4096) (k0_off119 v1319) S32x4096.size hinb).WholeWords (EltTy.packing .i8)) ∧
  (∀ a, (k0_off363 v1319) a + S32x4096.size a ≤ S4096x4096.size a) ∧
  (∀ (hinb : ∀ a, (k0_off363 v1319) a + S32x4096.size a ≤ S4096x4096.size a), (Rect.unit (s := S4096x4096) (k0_off363 v1319) S32x4096.size hinb).WholeWords (EltTy.packing .i8))
theorem k0_off119_inb : ∀ (v1319 : BitVec 32) (k0_hw110 : k0_chk110 v1319), ∀ a, (k0_off119 v1319) a + S32x4096.size a ≤ S4096x4096.size a := fun v1319 k0_hw110 => k0_hw110.1
theorem k0_off119_wordsi8 : ∀ (v1319 : BitVec 32) (k0_hw110 : k0_chk110 v1319), (Rect.unit (s := S4096x4096) (k0_off119 v1319) S32x4096.size (k0_off119_inb v1319 k0_hw110)).WholeWords (EltTy.packing .i8) := fun v1319 k0_hw110 => k0_hw110.2.1 (k0_off119_inb v1319 k0_hw110)
theorem k0_off363_inb : ∀ (v1319 : BitVec 32) (k0_hw110 : k0_chk110 v1319), ∀ a, (k0_off363 v1319) a + S32x4096.size a ≤ S4096x4096.size a := fun v1319 k0_hw110 => k0_hw110.2.2.1
theorem k0_off363_wordsi8 : ∀ (v1319 : BitVec 32) (k0_hw110 : k0_chk110 v1319), (Rect.unit (s := S4096x4096) (k0_off363 v1319) S32x4096.size (k0_off363_inb v1319 k0_hw110)).WholeWords (EltTy.packing .i8) := fun v1319 k0_hw110 => k0_hw110.2.2.2 (k0_off363_inb v1319 k0_hw110)

def k0_off364 (v1343 : BitVec 32) : Fin 2 → Nat :=
  let c128_i32_1326 : BitVec 32 := 128#32
  let v1344 : BitVec 32 := Scalar.muli v1343 c128_i32_1326
  let c64_i32_1327 : BitVec 32 := 64#32
  let v1345 : BitVec 32 := Scalar.addi v1344 c64_i32_1327
  let c0_i32_3770 : BitVec 32 := 0#32
  ![v1345.toNat, 0]

def k0_chk112 (v1343 : BitVec 32) : Prop :=
  (∀ a, (k0_off121 v1343) a + S32x4096.size a ≤ S4096x4096.size a) ∧
  (∀ (hinb : ∀ a, (k0_off121 v1343) a + S32x4096.size a ≤ S4096x4096.size a), (Rect.unit (s := S4096x4096) (k0_off121 v1343) S32x4096.size hinb).WholeWords (EltTy.packing .i8)) ∧
  (∀ a, (k0_off364 v1343) a + S32x4096.size a ≤ S4096x4096.size a) ∧
  (∀ (hinb : ∀ a, (k0_off364 v1343) a + S32x4096.size a ≤ S4096x4096.size a), (Rect.unit (s := S4096x4096) (k0_off364 v1343) S32x4096.size hinb).WholeWords (EltTy.packing .i8))
theorem k0_off121_inb : ∀ (v1343 : BitVec 32) (k0_hw112 : k0_chk112 v1343), ∀ a, (k0_off121 v1343) a + S32x4096.size a ≤ S4096x4096.size a := fun v1343 k0_hw112 => k0_hw112.1
theorem k0_off121_wordsi8 : ∀ (v1343 : BitVec 32) (k0_hw112 : k0_chk112 v1343), (Rect.unit (s := S4096x4096) (k0_off121 v1343) S32x4096.size (k0_off121_inb v1343 k0_hw112)).WholeWords (EltTy.packing .i8) := fun v1343 k0_hw112 => k0_hw112.2.1 (k0_off121_inb v1343 k0_hw112)
theorem k0_off364_inb : ∀ (v1343 : BitVec 32) (k0_hw112 : k0_chk112 v1343), ∀ a, (k0_off364 v1343) a + S32x4096.size a ≤ S4096x4096.size a := fun v1343 k0_hw112 => k0_hw112.2.2.1
theorem k0_off364_wordsi8 : ∀ (v1343 : BitVec 32) (k0_hw112 : k0_chk112 v1343), (Rect.unit (s := S4096x4096) (k0_off364 v1343) S32x4096.size (k0_off364_inb v1343 k0_hw112)).WholeWords (EltTy.packing .i8) := fun v1343 k0_hw112 => k0_hw112.2.2.2 (k0_off364_inb v1343 k0_hw112)

def k0_off365 (v1367 : BitVec 32) : Fin 2 → Nat :=
  let c128_i32_1352 : BitVec 32 := 128#32
  let v1368 : BitVec 32 := Scalar.muli v1367 c128_i32_1352
  let c64_i32_1353 : BitVec 32 := 64#32
  let v1369 : BitVec 32 := Scalar.addi v1368 c64_i32_1353
  let c0_i32_3777 : BitVec 32 := 0#32
  ![v1369.toNat, 0]

def k0_chk114 (v1367 : BitVec 32) : Prop :=
  (∀ a, (k0_off123 v1367) a + S32x4096.size a ≤ S4096x4096.size a) ∧
  (∀ (hinb : ∀ a, (k0_off123 v1367) a + S32x4096.size a ≤ S4096x4096.size a), (Rect.unit (s := S4096x4096) (k0_off123 v1367) S32x4096.size hinb).WholeWords (EltTy.packing .i8)) ∧
  (∀ a, (k0_off365 v1367) a + S32x4096.size a ≤ S4096x4096.size a) ∧
  (∀ (hinb : ∀ a, (k0_off365 v1367) a + S32x4096.size a ≤ S4096x4096.size a), (Rect.unit (s := S4096x4096) (k0_off365 v1367) S32x4096.size hinb).WholeWords (EltTy.packing .i8))
theorem k0_off123_inb : ∀ (v1367 : BitVec 32) (k0_hw114 : k0_chk114 v1367), ∀ a, (k0_off123 v1367) a + S32x4096.size a ≤ S4096x4096.size a := fun v1367 k0_hw114 => k0_hw114.1
theorem k0_off123_wordsi8 : ∀ (v1367 : BitVec 32) (k0_hw114 : k0_chk114 v1367), (Rect.unit (s := S4096x4096) (k0_off123 v1367) S32x4096.size (k0_off123_inb v1367 k0_hw114)).WholeWords (EltTy.packing .i8) := fun v1367 k0_hw114 => k0_hw114.2.1 (k0_off123_inb v1367 k0_hw114)
theorem k0_off365_inb : ∀ (v1367 : BitVec 32) (k0_hw114 : k0_chk114 v1367), ∀ a, (k0_off365 v1367) a + S32x4096.size a ≤ S4096x4096.size a := fun v1367 k0_hw114 => k0_hw114.2.2.1
theorem k0_off365_wordsi8 : ∀ (v1367 : BitVec 32) (k0_hw114 : k0_chk114 v1367), (Rect.unit (s := S4096x4096) (k0_off365 v1367) S32x4096.size (k0_off365_inb v1367 k0_hw114)).WholeWords (EltTy.packing .i8) := fun v1367 k0_hw114 => k0_hw114.2.2.2 (k0_off365_inb v1367 k0_hw114)

def k0_off366 (v1391 : BitVec 32) : Fin 2 → Nat :=
  let c128_i32_1378 : BitVec 32 := 128#32
  let v1392 : BitVec 32 := Scalar.muli v1391 c128_i32_1378
  let c96_i32_1379 : BitVec 32 := 96#32
  let v1393 : BitVec 32 := Scalar.addi v1392 c96_i32_1379
  let c0_i32_3784 : BitVec 32 := 0#32
  ![v1393.toNat, 0]

def k0_chk116 (v1391 : BitVec 32) : Prop :=
  (∀ a, (k0_off125 v1391) a + S32x4096.size a ≤ S4096x4096.size a) ∧
  (∀ (hinb : ∀ a, (k0_off125 v1391) a + S32x4096.size a ≤ S4096x4096.size a), (Rect.unit (s := S4096x4096) (k0_off125 v1391) S32x4096.size hinb).WholeWords (EltTy.packing .i8)) ∧
  (∀ a, (k0_off366 v1391) a + S32x4096.size a ≤ S4096x4096.size a) ∧
  (∀ (hinb : ∀ a, (k0_off366 v1391) a + S32x4096.size a ≤ S4096x4096.size a), (Rect.unit (s := S4096x4096) (k0_off366 v1391) S32x4096.size hinb).WholeWords (EltTy.packing .i8))
theorem k0_off125_inb : ∀ (v1391 : BitVec 32) (k0_hw116 : k0_chk116 v1391), ∀ a, (k0_off125 v1391) a + S32x4096.size a ≤ S4096x4096.size a := fun v1391 k0_hw116 => k0_hw116.1
theorem k0_off125_wordsi8 : ∀ (v1391 : BitVec 32) (k0_hw116 : k0_chk116 v1391), (Rect.unit (s := S4096x4096) (k0_off125 v1391) S32x4096.size (k0_off125_inb v1391 k0_hw116)).WholeWords (EltTy.packing .i8) := fun v1391 k0_hw116 => k0_hw116.2.1 (k0_off125_inb v1391 k0_hw116)
theorem k0_off366_inb : ∀ (v1391 : BitVec 32) (k0_hw116 : k0_chk116 v1391), ∀ a, (k0_off366 v1391) a + S32x4096.size a ≤ S4096x4096.size a := fun v1391 k0_hw116 => k0_hw116.2.2.1
theorem k0_off366_wordsi8 : ∀ (v1391 : BitVec 32) (k0_hw116 : k0_chk116 v1391), (Rect.unit (s := S4096x4096) (k0_off366 v1391) S32x4096.size (k0_off366_inb v1391 k0_hw116)).WholeWords (EltTy.packing .i8) := fun v1391 k0_hw116 => k0_hw116.2.2.2 (k0_off366_inb v1391 k0_hw116)

def k0_off367 (v1415 : BitVec 32) : Fin 2 → Nat :=
  let c128_i32_1404 : BitVec 32 := 128#32
  let v1416 : BitVec 32 := Scalar.muli v1415 c128_i32_1404
  let c96_i32_1405 : BitVec 32 := 96#32
  let v1417 : BitVec 32 := Scalar.addi v1416 c96_i32_1405
  let c0_i32_3791 : BitVec 32 := 0#32
  ![v1417.toNat, 0]

def k0_chk118 (v1415 : BitVec 32) : Prop :=
  (∀ a, (k0_off127 v1415) a + S32x4096.size a ≤ S4096x4096.size a) ∧
  (∀ (hinb : ∀ a, (k0_off127 v1415) a + S32x4096.size a ≤ S4096x4096.size a), (Rect.unit (s := S4096x4096) (k0_off127 v1415) S32x4096.size hinb).WholeWords (EltTy.packing .i8)) ∧
  (∀ a, (k0_off367 v1415) a + S32x4096.size a ≤ S4096x4096.size a) ∧
  (∀ (hinb : ∀ a, (k0_off367 v1415) a + S32x4096.size a ≤ S4096x4096.size a), (Rect.unit (s := S4096x4096) (k0_off367 v1415) S32x4096.size hinb).WholeWords (EltTy.packing .i8))
theorem k0_off127_inb : ∀ (v1415 : BitVec 32) (k0_hw118 : k0_chk118 v1415), ∀ a, (k0_off127 v1415) a + S32x4096.size a ≤ S4096x4096.size a := fun v1415 k0_hw118 => k0_hw118.1
theorem k0_off127_wordsi8 : ∀ (v1415 : BitVec 32) (k0_hw118 : k0_chk118 v1415), (Rect.unit (s := S4096x4096) (k0_off127 v1415) S32x4096.size (k0_off127_inb v1415 k0_hw118)).WholeWords (EltTy.packing .i8) := fun v1415 k0_hw118 => k0_hw118.2.1 (k0_off127_inb v1415 k0_hw118)
theorem k0_off367_inb : ∀ (v1415 : BitVec 32) (k0_hw118 : k0_chk118 v1415), ∀ a, (k0_off367 v1415) a + S32x4096.size a ≤ S4096x4096.size a := fun v1415 k0_hw118 => k0_hw118.2.2.1
theorem k0_off367_wordsi8 : ∀ (v1415 : BitVec 32) (k0_hw118 : k0_chk118 v1415), (Rect.unit (s := S4096x4096) (k0_off367 v1415) S32x4096.size (k0_off367_inb v1415 k0_hw118)).WholeWords (EltTy.packing .i8) := fun v1415 k0_hw118 => k0_hw118.2.2.2 (k0_off367_inb v1415 k0_hw118)

def k0_off368 (v1467 : BitVec 32) : Fin 2 → Nat :=
  let c128_i32_1444 : BitVec 32 := 128#32
  let v1468 : BitVec 32 := Scalar.muli v1467 c128_i32_1444
  let c0_i32_1445 : BitVec 32 := 0#32
  let v1469 : BitVec 32 := Scalar.addi v1468 c0_i32_1445
  let c0_i32_3798 : BitVec 32 := 0#32
  ![v1469.toNat, 0]

def k0_chk122 (v1467 : BitVec 32) : Prop :=
  (∀ a, (k0_off133 v1467) a + S32x4096.size a ≤ S4096x4096.size a) ∧
  (∀ (hinb : ∀ a, (k0_off133 v1467) a + S32x4096.size a ≤ S4096x4096.size a), (Rect.unit (s := S4096x4096) (k0_off133 v1467) S32x4096.size hinb).WholeWords (EltTy.packing .i8)) ∧
  (∀ a, (k0_off368 v1467) a + S32x4096.size a ≤ S4096x4096.size a) ∧
  (∀ (hinb : ∀ a, (k0_off368 v1467) a + S32x4096.size a ≤ S4096x4096.size a), (Rect.unit (s := S4096x4096) (k0_off368 v1467) S32x4096.size hinb).WholeWords (EltTy.packing .i8))
theorem k0_off133_inb : ∀ (v1467 : BitVec 32) (k0_hw122 : k0_chk122 v1467), ∀ a, (k0_off133 v1467) a + S32x4096.size a ≤ S4096x4096.size a := fun v1467 k0_hw122 => k0_hw122.1
theorem k0_off133_wordsi8 : ∀ (v1467 : BitVec 32) (k0_hw122 : k0_chk122 v1467), (Rect.unit (s := S4096x4096) (k0_off133 v1467) S32x4096.size (k0_off133_inb v1467 k0_hw122)).WholeWords (EltTy.packing .i8) := fun v1467 k0_hw122 => k0_hw122.2.1 (k0_off133_inb v1467 k0_hw122)
theorem k0_off368_inb : ∀ (v1467 : BitVec 32) (k0_hw122 : k0_chk122 v1467), ∀ a, (k0_off368 v1467) a + S32x4096.size a ≤ S4096x4096.size a := fun v1467 k0_hw122 => k0_hw122.2.2.1
theorem k0_off368_wordsi8 : ∀ (v1467 : BitVec 32) (k0_hw122 : k0_chk122 v1467), (Rect.unit (s := S4096x4096) (k0_off368 v1467) S32x4096.size (k0_off368_inb v1467 k0_hw122)).WholeWords (EltTy.packing .i8) := fun v1467 k0_hw122 => k0_hw122.2.2.2 (k0_off368_inb v1467 k0_hw122)

def k0_off369 (v1491 : BitVec 32) : Fin 2 → Nat :=
  let c128_i32_1467 : BitVec 32 := 128#32
  let v1492 : BitVec 32 := Scalar.muli v1491 c128_i32_1467
  let c0_i32_1468 : BitVec 32 := 0#32
  let v1493 : BitVec 32 := Scalar.addi v1492 c0_i32_1468
  let c0_i32_3805 : BitVec 32 := 0#32
  ![v1493.toNat, 0]

def k0_chk124 (v1491 : BitVec 32) : Prop :=
  (∀ a, (k0_off135 v1491) a + S32x4096.size a ≤ S4096x4096.size a) ∧
  (∀ (hinb : ∀ a, (k0_off135 v1491) a + S32x4096.size a ≤ S4096x4096.size a), (Rect.unit (s := S4096x4096) (k0_off135 v1491) S32x4096.size hinb).WholeWords (EltTy.packing .i8)) ∧
  (∀ a, (k0_off369 v1491) a + S32x4096.size a ≤ S4096x4096.size a) ∧
  (∀ (hinb : ∀ a, (k0_off369 v1491) a + S32x4096.size a ≤ S4096x4096.size a), (Rect.unit (s := S4096x4096) (k0_off369 v1491) S32x4096.size hinb).WholeWords (EltTy.packing .i8))
theorem k0_off135_inb : ∀ (v1491 : BitVec 32) (k0_hw124 : k0_chk124 v1491), ∀ a, (k0_off135 v1491) a + S32x4096.size a ≤ S4096x4096.size a := fun v1491 k0_hw124 => k0_hw124.1
theorem k0_off135_wordsi8 : ∀ (v1491 : BitVec 32) (k0_hw124 : k0_chk124 v1491), (Rect.unit (s := S4096x4096) (k0_off135 v1491) S32x4096.size (k0_off135_inb v1491 k0_hw124)).WholeWords (EltTy.packing .i8) := fun v1491 k0_hw124 => k0_hw124.2.1 (k0_off135_inb v1491 k0_hw124)
theorem k0_off369_inb : ∀ (v1491 : BitVec 32) (k0_hw124 : k0_chk124 v1491), ∀ a, (k0_off369 v1491) a + S32x4096.size a ≤ S4096x4096.size a := fun v1491 k0_hw124 => k0_hw124.2.2.1
theorem k0_off369_wordsi8 : ∀ (v1491 : BitVec 32) (k0_hw124 : k0_chk124 v1491), (Rect.unit (s := S4096x4096) (k0_off369 v1491) S32x4096.size (k0_off369_inb v1491 k0_hw124)).WholeWords (EltTy.packing .i8) := fun v1491 k0_hw124 => k0_hw124.2.2.2 (k0_off369_inb v1491 k0_hw124)

def k0_off370 (v1515 : BitVec 32) : Fin 2 → Nat :=
  let c128_i32_1493 : BitVec 32 := 128#32
  let v1516 : BitVec 32 := Scalar.muli v1515 c128_i32_1493
  let c32_i32_1494 : BitVec 32 := 32#32
  let v1517 : BitVec 32 := Scalar.addi v1516 c32_i32_1494
  let c0_i32_3812 : BitVec 32 := 0#32
  ![v1517.toNat, 0]

def k0_chk126 (v1515 : BitVec 32) : Prop :=
  (∀ a, (k0_off137 v1515) a + S32x4096.size a ≤ S4096x4096.size a) ∧
  (∀ (hinb : ∀ a, (k0_off137 v1515) a + S32x4096.size a ≤ S4096x4096.size a), (Rect.unit (s := S4096x4096) (k0_off137 v1515) S32x4096.size hinb).WholeWords (EltTy.packing .i8)) ∧
  (∀ a, (k0_off370 v1515) a + S32x4096.size a ≤ S4096x4096.size a) ∧
  (∀ (hinb : ∀ a, (k0_off370 v1515) a + S32x4096.size a ≤ S4096x4096.size a), (Rect.unit (s := S4096x4096) (k0_off370 v1515) S32x4096.size hinb).WholeWords (EltTy.packing .i8))
theorem k0_off137_inb : ∀ (v1515 : BitVec 32) (k0_hw126 : k0_chk126 v1515), ∀ a, (k0_off137 v1515) a + S32x4096.size a ≤ S4096x4096.size a := fun v1515 k0_hw126 => k0_hw126.1
theorem k0_off137_wordsi8 : ∀ (v1515 : BitVec 32) (k0_hw126 : k0_chk126 v1515), (Rect.unit (s := S4096x4096) (k0_off137 v1515) S32x4096.size (k0_off137_inb v1515 k0_hw126)).WholeWords (EltTy.packing .i8) := fun v1515 k0_hw126 => k0_hw126.2.1 (k0_off137_inb v1515 k0_hw126)
theorem k0_off370_inb : ∀ (v1515 : BitVec 32) (k0_hw126 : k0_chk126 v1515), ∀ a, (k0_off370 v1515) a + S32x4096.size a ≤ S4096x4096.size a := fun v1515 k0_hw126 => k0_hw126.2.2.1
theorem k0_off370_wordsi8 : ∀ (v1515 : BitVec 32) (k0_hw126 : k0_chk126 v1515), (Rect.unit (s := S4096x4096) (k0_off370 v1515) S32x4096.size (k0_off370_inb v1515 k0_hw126)).WholeWords (EltTy.packing .i8) := fun v1515 k0_hw126 => k0_hw126.2.2.2 (k0_off370_inb v1515 k0_hw126)

def k0_off371 (v1539 : BitVec 32) : Fin 2 → Nat :=
  let c128_i32_1519 : BitVec 32 := 128#32
  let v1540 : BitVec 32 := Scalar.muli v1539 c128_i32_1519
  let c32_i32_1520 : BitVec 32 := 32#32
  let v1541 : BitVec 32 := Scalar.addi v1540 c32_i32_1520
  let c0_i32_3819 : BitVec 32 := 0#32
  ![v1541.toNat, 0]

def k0_chk128 (v1539 : BitVec 32) : Prop :=
  (∀ a, (k0_off139 v1539) a + S32x4096.size a ≤ S4096x4096.size a) ∧
  (∀ (hinb : ∀ a, (k0_off139 v1539) a + S32x4096.size a ≤ S4096x4096.size a), (Rect.unit (s := S4096x4096) (k0_off139 v1539) S32x4096.size hinb).WholeWords (EltTy.packing .i8)) ∧
  (∀ a, (k0_off371 v1539) a + S32x4096.size a ≤ S4096x4096.size a) ∧
  (∀ (hinb : ∀ a, (k0_off371 v1539) a + S32x4096.size a ≤ S4096x4096.size a), (Rect.unit (s := S4096x4096) (k0_off371 v1539) S32x4096.size hinb).WholeWords (EltTy.packing .i8))
theorem k0_off139_inb : ∀ (v1539 : BitVec 32) (k0_hw128 : k0_chk128 v1539), ∀ a, (k0_off139 v1539) a + S32x4096.size a ≤ S4096x4096.size a := fun v1539 k0_hw128 => k0_hw128.1
theorem k0_off139_wordsi8 : ∀ (v1539 : BitVec 32) (k0_hw128 : k0_chk128 v1539), (Rect.unit (s := S4096x4096) (k0_off139 v1539) S32x4096.size (k0_off139_inb v1539 k0_hw128)).WholeWords (EltTy.packing .i8) := fun v1539 k0_hw128 => k0_hw128.2.1 (k0_off139_inb v1539 k0_hw128)
theorem k0_off371_inb : ∀ (v1539 : BitVec 32) (k0_hw128 : k0_chk128 v1539), ∀ a, (k0_off371 v1539) a + S32x4096.size a ≤ S4096x4096.size a := fun v1539 k0_hw128 => k0_hw128.2.2.1
theorem k0_off371_wordsi8 : ∀ (v1539 : BitVec 32) (k0_hw128 : k0_chk128 v1539), (Rect.unit (s := S4096x4096) (k0_off371 v1539) S32x4096.size (k0_off371_inb v1539 k0_hw128)).WholeWords (EltTy.packing .i8) := fun v1539 k0_hw128 => k0_hw128.2.2.2 (k0_off371_inb v1539 k0_hw128)

def k0_off372 (v1563 : BitVec 32) : Fin 2 → Nat :=
  let c128_i32_1545 : BitVec 32 := 128#32
  let v1564 : BitVec 32 := Scalar.muli v1563 c128_i32_1545
  let c64_i32_1546 : BitVec 32 := 64#32
  let v1565 : BitVec 32 := Scalar.addi v1564 c64_i32_1546
  let c0_i32_3826 : BitVec 32 := 0#32
  ![v1565.toNat, 0]

def k0_chk130 (v1563 : BitVec 32) : Prop :=
  (∀ a, (k0_off141 v1563) a + S32x4096.size a ≤ S4096x4096.size a) ∧
  (∀ (hinb : ∀ a, (k0_off141 v1563) a + S32x4096.size a ≤ S4096x4096.size a), (Rect.unit (s := S4096x4096) (k0_off141 v1563) S32x4096.size hinb).WholeWords (EltTy.packing .i8)) ∧
  (∀ a, (k0_off372 v1563) a + S32x4096.size a ≤ S4096x4096.size a) ∧
  (∀ (hinb : ∀ a, (k0_off372 v1563) a + S32x4096.size a ≤ S4096x4096.size a), (Rect.unit (s := S4096x4096) (k0_off372 v1563) S32x4096.size hinb).WholeWords (EltTy.packing .i8))
theorem k0_off141_inb : ∀ (v1563 : BitVec 32) (k0_hw130 : k0_chk130 v1563), ∀ a, (k0_off141 v1563) a + S32x4096.size a ≤ S4096x4096.size a := fun v1563 k0_hw130 => k0_hw130.1
theorem k0_off141_wordsi8 : ∀ (v1563 : BitVec 32) (k0_hw130 : k0_chk130 v1563), (Rect.unit (s := S4096x4096) (k0_off141 v1563) S32x4096.size (k0_off141_inb v1563 k0_hw130)).WholeWords (EltTy.packing .i8) := fun v1563 k0_hw130 => k0_hw130.2.1 (k0_off141_inb v1563 k0_hw130)
theorem k0_off372_inb : ∀ (v1563 : BitVec 32) (k0_hw130 : k0_chk130 v1563), ∀ a, (k0_off372 v1563) a + S32x4096.size a ≤ S4096x4096.size a := fun v1563 k0_hw130 => k0_hw130.2.2.1
theorem k0_off372_wordsi8 : ∀ (v1563 : BitVec 32) (k0_hw130 : k0_chk130 v1563), (Rect.unit (s := S4096x4096) (k0_off372 v1563) S32x4096.size (k0_off372_inb v1563 k0_hw130)).WholeWords (EltTy.packing .i8) := fun v1563 k0_hw130 => k0_hw130.2.2.2 (k0_off372_inb v1563 k0_hw130)

def k0_off373 (v1587 : BitVec 32) : Fin 2 → Nat :=
  let c128_i32_1571 : BitVec 32 := 128#32
  let v1588 : BitVec 32 := Scalar.muli v1587 c128_i32_1571
  let c64_i32_1572 : BitVec 32 := 64#32
  let v1589 : BitVec 32 := Scalar.addi v1588 c64_i32_1572
  let c0_i32_3833 : BitVec 32 := 0#32
  ![v1589.toNat, 0]

def k0_chk132 (v1587 : BitVec 32) : Prop :=
  (∀ a, (k0_off143 v1587) a + S32x4096.size a ≤ S4096x4096.size a) ∧
  (∀ (hinb : ∀ a, (k0_off143 v1587) a + S32x4096.size a ≤ S4096x4096.size a), (Rect.unit (s := S4096x4096) (k0_off143 v1587) S32x4096.size hinb).WholeWords (EltTy.packing .i8)) ∧
  (∀ a, (k0_off373 v1587) a + S32x4096.size a ≤ S4096x4096.size a) ∧
  (∀ (hinb : ∀ a, (k0_off373 v1587) a + S32x4096.size a ≤ S4096x4096.size a), (Rect.unit (s := S4096x4096) (k0_off373 v1587) S32x4096.size hinb).WholeWords (EltTy.packing .i8))
theorem k0_off143_inb : ∀ (v1587 : BitVec 32) (k0_hw132 : k0_chk132 v1587), ∀ a, (k0_off143 v1587) a + S32x4096.size a ≤ S4096x4096.size a := fun v1587 k0_hw132 => k0_hw132.1
theorem k0_off143_wordsi8 : ∀ (v1587 : BitVec 32) (k0_hw132 : k0_chk132 v1587), (Rect.unit (s := S4096x4096) (k0_off143 v1587) S32x4096.size (k0_off143_inb v1587 k0_hw132)).WholeWords (EltTy.packing .i8) := fun v1587 k0_hw132 => k0_hw132.2.1 (k0_off143_inb v1587 k0_hw132)
theorem k0_off373_inb : ∀ (v1587 : BitVec 32) (k0_hw132 : k0_chk132 v1587), ∀ a, (k0_off373 v1587) a + S32x4096.size a ≤ S4096x4096.size a := fun v1587 k0_hw132 => k0_hw132.2.2.1
theorem k0_off373_wordsi8 : ∀ (v1587 : BitVec 32) (k0_hw132 : k0_chk132 v1587), (Rect.unit (s := S4096x4096) (k0_off373 v1587) S32x4096.size (k0_off373_inb v1587 k0_hw132)).WholeWords (EltTy.packing .i8) := fun v1587 k0_hw132 => k0_hw132.2.2.2 (k0_off373_inb v1587 k0_hw132)

def k0_off374 (v1611 : BitVec 32) : Fin 2 → Nat :=
  let c128_i32_1597 : BitVec 32 := 128#32
  let v1612 : BitVec 32 := Scalar.muli v1611 c128_i32_1597
  let c96_i32_1598 : BitVec 32 := 96#32
  let v1613 : BitVec 32 := Scalar.addi v1612 c96_i32_1598
  let c0_i32_3840 : BitVec 32 := 0#32
  ![v1613.toNat, 0]

def k0_chk134 (v1611 : BitVec 32) : Prop :=
  (∀ a, (k0_off145 v1611) a + S32x4096.size a ≤ S4096x4096.size a) ∧
  (∀ (hinb : ∀ a, (k0_off145 v1611) a + S32x4096.size a ≤ S4096x4096.size a), (Rect.unit (s := S4096x4096) (k0_off145 v1611) S32x4096.size hinb).WholeWords (EltTy.packing .i8)) ∧
  (∀ a, (k0_off374 v1611) a + S32x4096.size a ≤ S4096x4096.size a) ∧
  (∀ (hinb : ∀ a, (k0_off374 v1611) a + S32x4096.size a ≤ S4096x4096.size a), (Rect.unit (s := S4096x4096) (k0_off374 v1611) S32x4096.size hinb).WholeWords (EltTy.packing .i8))
theorem k0_off145_inb : ∀ (v1611 : BitVec 32) (k0_hw134 : k0_chk134 v1611), ∀ a, (k0_off145 v1611) a + S32x4096.size a ≤ S4096x4096.size a := fun v1611 k0_hw134 => k0_hw134.1
theorem k0_off145_wordsi8 : ∀ (v1611 : BitVec 32) (k0_hw134 : k0_chk134 v1611), (Rect.unit (s := S4096x4096) (k0_off145 v1611) S32x4096.size (k0_off145_inb v1611 k0_hw134)).WholeWords (EltTy.packing .i8) := fun v1611 k0_hw134 => k0_hw134.2.1 (k0_off145_inb v1611 k0_hw134)
theorem k0_off374_inb : ∀ (v1611 : BitVec 32) (k0_hw134 : k0_chk134 v1611), ∀ a, (k0_off374 v1611) a + S32x4096.size a ≤ S4096x4096.size a := fun v1611 k0_hw134 => k0_hw134.2.2.1
theorem k0_off374_wordsi8 : ∀ (v1611 : BitVec 32) (k0_hw134 : k0_chk134 v1611), (Rect.unit (s := S4096x4096) (k0_off374 v1611) S32x4096.size (k0_off374_inb v1611 k0_hw134)).WholeWords (EltTy.packing .i8) := fun v1611 k0_hw134 => k0_hw134.2.2.2 (k0_off374_inb v1611 k0_hw134)

def k0_off375 (v1635 : BitVec 32) : Fin 2 → Nat :=
  let c128_i32_1623 : BitVec 32 := 128#32
  let v1636 : BitVec 32 := Scalar.muli v1635 c128_i32_1623
  let c96_i32_1624 : BitVec 32 := 96#32
  let v1637 : BitVec 32 := Scalar.addi v1636 c96_i32_1624
  let c0_i32_3847 : BitVec 32 := 0#32
  ![v1637.toNat, 0]

def k0_chk136 (v1635 : BitVec 32) : Prop :=
  (∀ a, (k0_off147 v1635) a + S32x4096.size a ≤ S4096x4096.size a) ∧
  (∀ (hinb : ∀ a, (k0_off147 v1635) a + S32x4096.size a ≤ S4096x4096.size a), (Rect.unit (s := S4096x4096) (k0_off147 v1635) S32x4096.size hinb).WholeWords (EltTy.packing .i8)) ∧
  (∀ a, (k0_off375 v1635) a + S32x4096.size a ≤ S4096x4096.size a) ∧
  (∀ (hinb : ∀ a, (k0_off375 v1635) a + S32x4096.size a ≤ S4096x4096.size a), (Rect.unit (s := S4096x4096) (k0_off375 v1635) S32x4096.size hinb).WholeWords (EltTy.packing .i8))
theorem k0_off147_inb : ∀ (v1635 : BitVec 32) (k0_hw136 : k0_chk136 v1635), ∀ a, (k0_off147 v1635) a + S32x4096.size a ≤ S4096x4096.size a := fun v1635 k0_hw136 => k0_hw136.1
theorem k0_off147_wordsi8 : ∀ (v1635 : BitVec 32) (k0_hw136 : k0_chk136 v1635), (Rect.unit (s := S4096x4096) (k0_off147 v1635) S32x4096.size (k0_off147_inb v1635 k0_hw136)).WholeWords (EltTy.packing .i8) := fun v1635 k0_hw136 => k0_hw136.2.1 (k0_off147_inb v1635 k0_hw136)
theorem k0_off375_inb : ∀ (v1635 : BitVec 32) (k0_hw136 : k0_chk136 v1635), ∀ a, (k0_off375 v1635) a + S32x4096.size a ≤ S4096x4096.size a := fun v1635 k0_hw136 => k0_hw136.2.2.1
theorem k0_off375_wordsi8 : ∀ (v1635 : BitVec 32) (k0_hw136 : k0_chk136 v1635), (Rect.unit (s := S4096x4096) (k0_off375 v1635) S32x4096.size (k0_off375_inb v1635 k0_hw136)).WholeWords (EltTy.packing .i8) := fun v1635 k0_hw136 => k0_hw136.2.2.2 (k0_off375_inb v1635 k0_hw136)

def k0_off376 (v1687 : BitVec 32) : Fin 2 → Nat :=
  let c128_i32_1663 : BitVec 32 := 128#32
  let v1688 : BitVec 32 := Scalar.muli v1687 c128_i32_1663
  let c0_i32_1664 : BitVec 32 := 0#32
  let v1689 : BitVec 32 := Scalar.addi v1688 c0_i32_1664
  let c0_i32_3854 : BitVec 32 := 0#32
  ![v1689.toNat, 0]

def k0_chk140 (v1687 : BitVec 32) : Prop :=
  (∀ a, (k0_off153 v1687) a + S32x4096.size a ≤ S4096x4096.size a) ∧
  (∀ (hinb : ∀ a, (k0_off153 v1687) a + S32x4096.size a ≤ S4096x4096.size a), (Rect.unit (s := S4096x4096) (k0_off153 v1687) S32x4096.size hinb).WholeWords (EltTy.packing .i8)) ∧
  (∀ a, (k0_off376 v1687) a + S32x4096.size a ≤ S4096x4096.size a) ∧
  (∀ (hinb : ∀ a, (k0_off376 v1687) a + S32x4096.size a ≤ S4096x4096.size a), (Rect.unit (s := S4096x4096) (k0_off376 v1687) S32x4096.size hinb).WholeWords (EltTy.packing .i8))
theorem k0_off153_inb : ∀ (v1687 : BitVec 32) (k0_hw140 : k0_chk140 v1687), ∀ a, (k0_off153 v1687) a + S32x4096.size a ≤ S4096x4096.size a := fun v1687 k0_hw140 => k0_hw140.1
theorem k0_off153_wordsi8 : ∀ (v1687 : BitVec 32) (k0_hw140 : k0_chk140 v1687), (Rect.unit (s := S4096x4096) (k0_off153 v1687) S32x4096.size (k0_off153_inb v1687 k0_hw140)).WholeWords (EltTy.packing .i8) := fun v1687 k0_hw140 => k0_hw140.2.1 (k0_off153_inb v1687 k0_hw140)
theorem k0_off376_inb : ∀ (v1687 : BitVec 32) (k0_hw140 : k0_chk140 v1687), ∀ a, (k0_off376 v1687) a + S32x4096.size a ≤ S4096x4096.size a := fun v1687 k0_hw140 => k0_hw140.2.2.1
theorem k0_off376_wordsi8 : ∀ (v1687 : BitVec 32) (k0_hw140 : k0_chk140 v1687), (Rect.unit (s := S4096x4096) (k0_off376 v1687) S32x4096.size (k0_off376_inb v1687 k0_hw140)).WholeWords (EltTy.packing .i8) := fun v1687 k0_hw140 => k0_hw140.2.2.2 (k0_off376_inb v1687 k0_hw140)

def k0_off377 (v1711 : BitVec 32) : Fin 2 → Nat :=
  let c128_i32_1686 : BitVec 32 := 128#32
  let v1712 : BitVec 32 := Scalar.muli v1711 c128_i32_1686
  let c0_i32_1687 : BitVec 32 := 0#32
  let v1713 : BitVec 32 := Scalar.addi v1712 c0_i32_1687
  let c0_i32_3861 : BitVec 32 := 0#32
  ![v1713.toNat, 0]

def k0_chk142 (v1711 : BitVec 32) : Prop :=
  (∀ a, (k0_off155 v1711) a + S32x4096.size a ≤ S4096x4096.size a) ∧
  (∀ (hinb : ∀ a, (k0_off155 v1711) a + S32x4096.size a ≤ S4096x4096.size a), (Rect.unit (s := S4096x4096) (k0_off155 v1711) S32x4096.size hinb).WholeWords (EltTy.packing .i8)) ∧
  (∀ a, (k0_off377 v1711) a + S32x4096.size a ≤ S4096x4096.size a) ∧
  (∀ (hinb : ∀ a, (k0_off377 v1711) a + S32x4096.size a ≤ S4096x4096.size a), (Rect.unit (s := S4096x4096) (k0_off377 v1711) S32x4096.size hinb).WholeWords (EltTy.packing .i8))
theorem k0_off155_inb : ∀ (v1711 : BitVec 32) (k0_hw142 : k0_chk142 v1711), ∀ a, (k0_off155 v1711) a + S32x4096.size a ≤ S4096x4096.size a := fun v1711 k0_hw142 => k0_hw142.1
theorem k0_off155_wordsi8 : ∀ (v1711 : BitVec 32) (k0_hw142 : k0_chk142 v1711), (Rect.unit (s := S4096x4096) (k0_off155 v1711) S32x4096.size (k0_off155_inb v1711 k0_hw142)).WholeWords (EltTy.packing .i8) := fun v1711 k0_hw142 => k0_hw142.2.1 (k0_off155_inb v1711 k0_hw142)
theorem k0_off377_inb : ∀ (v1711 : BitVec 32) (k0_hw142 : k0_chk142 v1711), ∀ a, (k0_off377 v1711) a + S32x4096.size a ≤ S4096x4096.size a := fun v1711 k0_hw142 => k0_hw142.2.2.1
theorem k0_off377_wordsi8 : ∀ (v1711 : BitVec 32) (k0_hw142 : k0_chk142 v1711), (Rect.unit (s := S4096x4096) (k0_off377 v1711) S32x4096.size (k0_off377_inb v1711 k0_hw142)).WholeWords (EltTy.packing .i8) := fun v1711 k0_hw142 => k0_hw142.2.2.2 (k0_off377_inb v1711 k0_hw142)

def k0_off378 (v1735 : BitVec 32) : Fin 2 → Nat :=
  let c128_i32_1712 : BitVec 32 := 128#32
  let v1736 : BitVec 32 := Scalar.muli v1735 c128_i32_1712
  let c32_i32_1713 : BitVec 32 := 32#32
  let v1737 : BitVec 32 := Scalar.addi v1736 c32_i32_1713
  let c0_i32_3868 : BitVec 32 := 0#32
  ![v1737.toNat, 0]

def k0_chk144 (v1735 : BitVec 32) : Prop :=
  (∀ a, (k0_off157 v1735) a + S32x4096.size a ≤ S4096x4096.size a) ∧
  (∀ (hinb : ∀ a, (k0_off157 v1735) a + S32x4096.size a ≤ S4096x4096.size a), (Rect.unit (s := S4096x4096) (k0_off157 v1735) S32x4096.size hinb).WholeWords (EltTy.packing .i8)) ∧
  (∀ a, (k0_off378 v1735) a + S32x4096.size a ≤ S4096x4096.size a) ∧
  (∀ (hinb : ∀ a, (k0_off378 v1735) a + S32x4096.size a ≤ S4096x4096.size a), (Rect.unit (s := S4096x4096) (k0_off378 v1735) S32x4096.size hinb).WholeWords (EltTy.packing .i8))
theorem k0_off157_inb : ∀ (v1735 : BitVec 32) (k0_hw144 : k0_chk144 v1735), ∀ a, (k0_off157 v1735) a + S32x4096.size a ≤ S4096x4096.size a := fun v1735 k0_hw144 => k0_hw144.1
theorem k0_off157_wordsi8 : ∀ (v1735 : BitVec 32) (k0_hw144 : k0_chk144 v1735), (Rect.unit (s := S4096x4096) (k0_off157 v1735) S32x4096.size (k0_off157_inb v1735 k0_hw144)).WholeWords (EltTy.packing .i8) := fun v1735 k0_hw144 => k0_hw144.2.1 (k0_off157_inb v1735 k0_hw144)
theorem k0_off378_inb : ∀ (v1735 : BitVec 32) (k0_hw144 : k0_chk144 v1735), ∀ a, (k0_off378 v1735) a + S32x4096.size a ≤ S4096x4096.size a := fun v1735 k0_hw144 => k0_hw144.2.2.1
theorem k0_off378_wordsi8 : ∀ (v1735 : BitVec 32) (k0_hw144 : k0_chk144 v1735), (Rect.unit (s := S4096x4096) (k0_off378 v1735) S32x4096.size (k0_off378_inb v1735 k0_hw144)).WholeWords (EltTy.packing .i8) := fun v1735 k0_hw144 => k0_hw144.2.2.2 (k0_off378_inb v1735 k0_hw144)

def k0_off379 (v1759 : BitVec 32) : Fin 2 → Nat :=
  let c128_i32_1738 : BitVec 32 := 128#32
  let v1760 : BitVec 32 := Scalar.muli v1759 c128_i32_1738
  let c32_i32_1739 : BitVec 32 := 32#32
  let v1761 : BitVec 32 := Scalar.addi v1760 c32_i32_1739
  let c0_i32_3875 : BitVec 32 := 0#32
  ![v1761.toNat, 0]

def k0_chk146 (v1759 : BitVec 32) : Prop :=
  (∀ a, (k0_off159 v1759) a + S32x4096.size a ≤ S4096x4096.size a) ∧
  (∀ (hinb : ∀ a, (k0_off159 v1759) a + S32x4096.size a ≤ S4096x4096.size a), (Rect.unit (s := S4096x4096) (k0_off159 v1759) S32x4096.size hinb).WholeWords (EltTy.packing .i8)) ∧
  (∀ a, (k0_off379 v1759) a + S32x4096.size a ≤ S4096x4096.size a) ∧
  (∀ (hinb : ∀ a, (k0_off379 v1759) a + S32x4096.size a ≤ S4096x4096.size a), (Rect.unit (s := S4096x4096) (k0_off379 v1759) S32x4096.size hinb).WholeWords (EltTy.packing .i8))
theorem k0_off159_inb : ∀ (v1759 : BitVec 32) (k0_hw146 : k0_chk146 v1759), ∀ a, (k0_off159 v1759) a + S32x4096.size a ≤ S4096x4096.size a := fun v1759 k0_hw146 => k0_hw146.1
theorem k0_off159_wordsi8 : ∀ (v1759 : BitVec 32) (k0_hw146 : k0_chk146 v1759), (Rect.unit (s := S4096x4096) (k0_off159 v1759) S32x4096.size (k0_off159_inb v1759 k0_hw146)).WholeWords (EltTy.packing .i8) := fun v1759 k0_hw146 => k0_hw146.2.1 (k0_off159_inb v1759 k0_hw146)
theorem k0_off379_inb : ∀ (v1759 : BitVec 32) (k0_hw146 : k0_chk146 v1759), ∀ a, (k0_off379 v1759) a + S32x4096.size a ≤ S4096x4096.size a := fun v1759 k0_hw146 => k0_hw146.2.2.1
theorem k0_off379_wordsi8 : ∀ (v1759 : BitVec 32) (k0_hw146 : k0_chk146 v1759), (Rect.unit (s := S4096x4096) (k0_off379 v1759) S32x4096.size (k0_off379_inb v1759 k0_hw146)).WholeWords (EltTy.packing .i8) := fun v1759 k0_hw146 => k0_hw146.2.2.2 (k0_off379_inb v1759 k0_hw146)

def k0_off380 (v1783 : BitVec 32) : Fin 2 → Nat :=
  let c128_i32_1764 : BitVec 32 := 128#32
  let v1784 : BitVec 32 := Scalar.muli v1783 c128_i32_1764
  let c64_i32_1765 : BitVec 32 := 64#32
  let v1785 : BitVec 32 := Scalar.addi v1784 c64_i32_1765
  let c0_i32_3882 : BitVec 32 := 0#32
  ![v1785.toNat, 0]

def k0_chk148 (v1783 : BitVec 32) : Prop :=
  (∀ a, (k0_off161 v1783) a + S32x4096.size a ≤ S4096x4096.size a) ∧
  (∀ (hinb : ∀ a, (k0_off161 v1783) a + S32x4096.size a ≤ S4096x4096.size a), (Rect.unit (s := S4096x4096) (k0_off161 v1783) S32x4096.size hinb).WholeWords (EltTy.packing .i8)) ∧
  (∀ a, (k0_off380 v1783) a + S32x4096.size a ≤ S4096x4096.size a) ∧
  (∀ (hinb : ∀ a, (k0_off380 v1783) a + S32x4096.size a ≤ S4096x4096.size a), (Rect.unit (s := S4096x4096) (k0_off380 v1783) S32x4096.size hinb).WholeWords (EltTy.packing .i8))
theorem k0_off161_inb : ∀ (v1783 : BitVec 32) (k0_hw148 : k0_chk148 v1783), ∀ a, (k0_off161 v1783) a + S32x4096.size a ≤ S4096x4096.size a := fun v1783 k0_hw148 => k0_hw148.1
theorem k0_off161_wordsi8 : ∀ (v1783 : BitVec 32) (k0_hw148 : k0_chk148 v1783), (Rect.unit (s := S4096x4096) (k0_off161 v1783) S32x4096.size (k0_off161_inb v1783 k0_hw148)).WholeWords (EltTy.packing .i8) := fun v1783 k0_hw148 => k0_hw148.2.1 (k0_off161_inb v1783 k0_hw148)
theorem k0_off380_inb : ∀ (v1783 : BitVec 32) (k0_hw148 : k0_chk148 v1783), ∀ a, (k0_off380 v1783) a + S32x4096.size a ≤ S4096x4096.size a := fun v1783 k0_hw148 => k0_hw148.2.2.1
theorem k0_off380_wordsi8 : ∀ (v1783 : BitVec 32) (k0_hw148 : k0_chk148 v1783), (Rect.unit (s := S4096x4096) (k0_off380 v1783) S32x4096.size (k0_off380_inb v1783 k0_hw148)).WholeWords (EltTy.packing .i8) := fun v1783 k0_hw148 => k0_hw148.2.2.2 (k0_off380_inb v1783 k0_hw148)

def k0_off381 (v1807 : BitVec 32) : Fin 2 → Nat :=
  let c128_i32_1790 : BitVec 32 := 128#32
  let v1808 : BitVec 32 := Scalar.muli v1807 c128_i32_1790
  let c64_i32_1791 : BitVec 32 := 64#32
  let v1809 : BitVec 32 := Scalar.addi v1808 c64_i32_1791
  let c0_i32_3889 : BitVec 32 := 0#32
  ![v1809.toNat, 0]

def k0_chk150 (v1807 : BitVec 32) : Prop :=
  (∀ a, (k0_off163 v1807) a + S32x4096.size a ≤ S4096x4096.size a) ∧
  (∀ (hinb : ∀ a, (k0_off163 v1807) a + S32x4096.size a ≤ S4096x4096.size a), (Rect.unit (s := S4096x4096) (k0_off163 v1807) S32x4096.size hinb).WholeWords (EltTy.packing .i8)) ∧
  (∀ a, (k0_off381 v1807) a + S32x4096.size a ≤ S4096x4096.size a) ∧
  (∀ (hinb : ∀ a, (k0_off381 v1807) a + S32x4096.size a ≤ S4096x4096.size a), (Rect.unit (s := S4096x4096) (k0_off381 v1807) S32x4096.size hinb).WholeWords (EltTy.packing .i8))
theorem k0_off163_inb : ∀ (v1807 : BitVec 32) (k0_hw150 : k0_chk150 v1807), ∀ a, (k0_off163 v1807) a + S32x4096.size a ≤ S4096x4096.size a := fun v1807 k0_hw150 => k0_hw150.1
theorem k0_off163_wordsi8 : ∀ (v1807 : BitVec 32) (k0_hw150 : k0_chk150 v1807), (Rect.unit (s := S4096x4096) (k0_off163 v1807) S32x4096.size (k0_off163_inb v1807 k0_hw150)).WholeWords (EltTy.packing .i8) := fun v1807 k0_hw150 => k0_hw150.2.1 (k0_off163_inb v1807 k0_hw150)
theorem k0_off381_inb : ∀ (v1807 : BitVec 32) (k0_hw150 : k0_chk150 v1807), ∀ a, (k0_off381 v1807) a + S32x4096.size a ≤ S4096x4096.size a := fun v1807 k0_hw150 => k0_hw150.2.2.1
theorem k0_off381_wordsi8 : ∀ (v1807 : BitVec 32) (k0_hw150 : k0_chk150 v1807), (Rect.unit (s := S4096x4096) (k0_off381 v1807) S32x4096.size (k0_off381_inb v1807 k0_hw150)).WholeWords (EltTy.packing .i8) := fun v1807 k0_hw150 => k0_hw150.2.2.2 (k0_off381_inb v1807 k0_hw150)

def k0_off382 (v1831 : BitVec 32) : Fin 2 → Nat :=
  let c128_i32_1816 : BitVec 32 := 128#32
  let v1832 : BitVec 32 := Scalar.muli v1831 c128_i32_1816
  let c96_i32_1817 : BitVec 32 := 96#32
  let v1833 : BitVec 32 := Scalar.addi v1832 c96_i32_1817
  let c0_i32_3896 : BitVec 32 := 0#32
  ![v1833.toNat, 0]

def k0_chk152 (v1831 : BitVec 32) : Prop :=
  (∀ a, (k0_off165 v1831) a + S32x4096.size a ≤ S4096x4096.size a) ∧
  (∀ (hinb : ∀ a, (k0_off165 v1831) a + S32x4096.size a ≤ S4096x4096.size a), (Rect.unit (s := S4096x4096) (k0_off165 v1831) S32x4096.size hinb).WholeWords (EltTy.packing .i8)) ∧
  (∀ a, (k0_off382 v1831) a + S32x4096.size a ≤ S4096x4096.size a) ∧
  (∀ (hinb : ∀ a, (k0_off382 v1831) a + S32x4096.size a ≤ S4096x4096.size a), (Rect.unit (s := S4096x4096) (k0_off382 v1831) S32x4096.size hinb).WholeWords (EltTy.packing .i8))
theorem k0_off165_inb : ∀ (v1831 : BitVec 32) (k0_hw152 : k0_chk152 v1831), ∀ a, (k0_off165 v1831) a + S32x4096.size a ≤ S4096x4096.size a := fun v1831 k0_hw152 => k0_hw152.1
theorem k0_off165_wordsi8 : ∀ (v1831 : BitVec 32) (k0_hw152 : k0_chk152 v1831), (Rect.unit (s := S4096x4096) (k0_off165 v1831) S32x4096.size (k0_off165_inb v1831 k0_hw152)).WholeWords (EltTy.packing .i8) := fun v1831 k0_hw152 => k0_hw152.2.1 (k0_off165_inb v1831 k0_hw152)
theorem k0_off382_inb : ∀ (v1831 : BitVec 32) (k0_hw152 : k0_chk152 v1831), ∀ a, (k0_off382 v1831) a + S32x4096.size a ≤ S4096x4096.size a := fun v1831 k0_hw152 => k0_hw152.2.2.1
theorem k0_off382_wordsi8 : ∀ (v1831 : BitVec 32) (k0_hw152 : k0_chk152 v1831), (Rect.unit (s := S4096x4096) (k0_off382 v1831) S32x4096.size (k0_off382_inb v1831 k0_hw152)).WholeWords (EltTy.packing .i8) := fun v1831 k0_hw152 => k0_hw152.2.2.2 (k0_off382_inb v1831 k0_hw152)

def k0_off383 (v1855 : BitVec 32) : Fin 2 → Nat :=
  let c128_i32_1842 : BitVec 32 := 128#32
  let v1856 : BitVec 32 := Scalar.muli v1855 c128_i32_1842
  let c96_i32_1843 : BitVec 32 := 96#32
  let v1857 : BitVec 32 := Scalar.addi v1856 c96_i32_1843
  let c0_i32_3903 : BitVec 32 := 0#32
  ![v1857.toNat, 0]

def k0_chk154 (v1855 : BitVec 32) : Prop :=
  (∀ a, (k0_off167 v1855) a + S32x4096.size a ≤ S4096x4096.size a) ∧
  (∀ (hinb : ∀ a, (k0_off167 v1855) a + S32x4096.size a ≤ S4096x4096.size a), (Rect.unit (s := S4096x4096) (k0_off167 v1855) S32x4096.size hinb).WholeWords (EltTy.packing .i8)) ∧
  (∀ a, (k0_off383 v1855) a + S32x4096.size a ≤ S4096x4096.size a) ∧
  (∀ (hinb : ∀ a, (k0_off383 v1855) a + S32x4096.size a ≤ S4096x4096.size a), (Rect.unit (s := S4096x4096) (k0_off383 v1855) S32x4096.size hinb).WholeWords (EltTy.packing .i8))
theorem k0_off167_inb : ∀ (v1855 : BitVec 32) (k0_hw154 : k0_chk154 v1855), ∀ a, (k0_off167 v1855) a + S32x4096.size a ≤ S4096x4096.size a := fun v1855 k0_hw154 => k0_hw154.1
theorem k0_off167_wordsi8 : ∀ (v1855 : BitVec 32) (k0_hw154 : k0_chk154 v1855), (Rect.unit (s := S4096x4096) (k0_off167 v1855) S32x4096.size (k0_off167_inb v1855 k0_hw154)).WholeWords (EltTy.packing .i8) := fun v1855 k0_hw154 => k0_hw154.2.1 (k0_off167_inb v1855 k0_hw154)
theorem k0_off383_inb : ∀ (v1855 : BitVec 32) (k0_hw154 : k0_chk154 v1855), ∀ a, (k0_off383 v1855) a + S32x4096.size a ≤ S4096x4096.size a := fun v1855 k0_hw154 => k0_hw154.2.2.1
theorem k0_off383_wordsi8 : ∀ (v1855 : BitVec 32) (k0_hw154 : k0_chk154 v1855), (Rect.unit (s := S4096x4096) (k0_off383 v1855) S32x4096.size (k0_off383_inb v1855 k0_hw154)).WholeWords (EltTy.packing .i8) := fun v1855 k0_hw154 => k0_hw154.2.2.2 (k0_off383_inb v1855 k0_hw154)

def k0_off384 (v1907 : BitVec 32) : Fin 2 → Nat :=
  let c128_i32_1882 : BitVec 32 := 128#32
  let v1908 : BitVec 32 := Scalar.muli v1907 c128_i32_1882
  let c0_i32_1883 : BitVec 32 := 0#32
  let v1909 : BitVec 32 := Scalar.addi v1908 c0_i32_1883
  let c0_i32_3910 : BitVec 32 := 0#32
  ![v1909.toNat, 0]

def k0_chk158 (v1907 : BitVec 32) : Prop :=
  (∀ a, (k0_off173 v1907) a + S32x4096.size a ≤ S4096x4096.size a) ∧
  (∀ (hinb : ∀ a, (k0_off173 v1907) a + S32x4096.size a ≤ S4096x4096.size a), (Rect.unit (s := S4096x4096) (k0_off173 v1907) S32x4096.size hinb).WholeWords (EltTy.packing .i8)) ∧
  (∀ a, (k0_off384 v1907) a + S32x4096.size a ≤ S4096x4096.size a) ∧
  (∀ (hinb : ∀ a, (k0_off384 v1907) a + S32x4096.size a ≤ S4096x4096.size a), (Rect.unit (s := S4096x4096) (k0_off384 v1907) S32x4096.size hinb).WholeWords (EltTy.packing .i8))
theorem k0_off173_inb : ∀ (v1907 : BitVec 32) (k0_hw158 : k0_chk158 v1907), ∀ a, (k0_off173 v1907) a + S32x4096.size a ≤ S4096x4096.size a := fun v1907 k0_hw158 => k0_hw158.1
theorem k0_off173_wordsi8 : ∀ (v1907 : BitVec 32) (k0_hw158 : k0_chk158 v1907), (Rect.unit (s := S4096x4096) (k0_off173 v1907) S32x4096.size (k0_off173_inb v1907 k0_hw158)).WholeWords (EltTy.packing .i8) := fun v1907 k0_hw158 => k0_hw158.2.1 (k0_off173_inb v1907 k0_hw158)
theorem k0_off384_inb : ∀ (v1907 : BitVec 32) (k0_hw158 : k0_chk158 v1907), ∀ a, (k0_off384 v1907) a + S32x4096.size a ≤ S4096x4096.size a := fun v1907 k0_hw158 => k0_hw158.2.2.1
theorem k0_off384_wordsi8 : ∀ (v1907 : BitVec 32) (k0_hw158 : k0_chk158 v1907), (Rect.unit (s := S4096x4096) (k0_off384 v1907) S32x4096.size (k0_off384_inb v1907 k0_hw158)).WholeWords (EltTy.packing .i8) := fun v1907 k0_hw158 => k0_hw158.2.2.2 (k0_off384_inb v1907 k0_hw158)

def k0_off385 (v1931 : BitVec 32) : Fin 2 → Nat :=
  let c128_i32_1905 : BitVec 32 := 128#32
  let v1932 : BitVec 32 := Scalar.muli v1931 c128_i32_1905
  let c0_i32_1906 : BitVec 32 := 0#32
  let v1933 : BitVec 32 := Scalar.addi v1932 c0_i32_1906
  let c0_i32_3917 : BitVec 32 := 0#32
  ![v1933.toNat, 0]

def k0_chk160 (v1931 : BitVec 32) : Prop :=
  (∀ a, (k0_off175 v1931) a + S32x4096.size a ≤ S4096x4096.size a) ∧
  (∀ (hinb : ∀ a, (k0_off175 v1931) a + S32x4096.size a ≤ S4096x4096.size a), (Rect.unit (s := S4096x4096) (k0_off175 v1931) S32x4096.size hinb).WholeWords (EltTy.packing .i8)) ∧
  (∀ a, (k0_off385 v1931) a + S32x4096.size a ≤ S4096x4096.size a) ∧
  (∀ (hinb : ∀ a, (k0_off385 v1931) a + S32x4096.size a ≤ S4096x4096.size a), (Rect.unit (s := S4096x4096) (k0_off385 v1931) S32x4096.size hinb).WholeWords (EltTy.packing .i8))
theorem k0_off175_inb : ∀ (v1931 : BitVec 32) (k0_hw160 : k0_chk160 v1931), ∀ a, (k0_off175 v1931) a + S32x4096.size a ≤ S4096x4096.size a := fun v1931 k0_hw160 => k0_hw160.1
theorem k0_off175_wordsi8 : ∀ (v1931 : BitVec 32) (k0_hw160 : k0_chk160 v1931), (Rect.unit (s := S4096x4096) (k0_off175 v1931) S32x4096.size (k0_off175_inb v1931 k0_hw160)).WholeWords (EltTy.packing .i8) := fun v1931 k0_hw160 => k0_hw160.2.1 (k0_off175_inb v1931 k0_hw160)
theorem k0_off385_inb : ∀ (v1931 : BitVec 32) (k0_hw160 : k0_chk160 v1931), ∀ a, (k0_off385 v1931) a + S32x4096.size a ≤ S4096x4096.size a := fun v1931 k0_hw160 => k0_hw160.2.2.1
theorem k0_off385_wordsi8 : ∀ (v1931 : BitVec 32) (k0_hw160 : k0_chk160 v1931), (Rect.unit (s := S4096x4096) (k0_off385 v1931) S32x4096.size (k0_off385_inb v1931 k0_hw160)).WholeWords (EltTy.packing .i8) := fun v1931 k0_hw160 => k0_hw160.2.2.2 (k0_off385_inb v1931 k0_hw160)

def k0_off386 (v1955 : BitVec 32) : Fin 2 → Nat :=
  let c128_i32_1931 : BitVec 32 := 128#32
  let v1956 : BitVec 32 := Scalar.muli v1955 c128_i32_1931
  let c32_i32_1932 : BitVec 32 := 32#32
  let v1957 : BitVec 32 := Scalar.addi v1956 c32_i32_1932
  let c0_i32_3924 : BitVec 32 := 0#32
  ![v1957.toNat, 0]

def k0_chk162 (v1955 : BitVec 32) : Prop :=
  (∀ a, (k0_off177 v1955) a + S32x4096.size a ≤ S4096x4096.size a) ∧
  (∀ (hinb : ∀ a, (k0_off177 v1955) a + S32x4096.size a ≤ S4096x4096.size a), (Rect.unit (s := S4096x4096) (k0_off177 v1955) S32x4096.size hinb).WholeWords (EltTy.packing .i8)) ∧
  (∀ a, (k0_off386 v1955) a + S32x4096.size a ≤ S4096x4096.size a) ∧
  (∀ (hinb : ∀ a, (k0_off386 v1955) a + S32x4096.size a ≤ S4096x4096.size a), (Rect.unit (s := S4096x4096) (k0_off386 v1955) S32x4096.size hinb).WholeWords (EltTy.packing .i8))
theorem k0_off177_inb : ∀ (v1955 : BitVec 32) (k0_hw162 : k0_chk162 v1955), ∀ a, (k0_off177 v1955) a + S32x4096.size a ≤ S4096x4096.size a := fun v1955 k0_hw162 => k0_hw162.1
theorem k0_off177_wordsi8 : ∀ (v1955 : BitVec 32) (k0_hw162 : k0_chk162 v1955), (Rect.unit (s := S4096x4096) (k0_off177 v1955) S32x4096.size (k0_off177_inb v1955 k0_hw162)).WholeWords (EltTy.packing .i8) := fun v1955 k0_hw162 => k0_hw162.2.1 (k0_off177_inb v1955 k0_hw162)
theorem k0_off386_inb : ∀ (v1955 : BitVec 32) (k0_hw162 : k0_chk162 v1955), ∀ a, (k0_off386 v1955) a + S32x4096.size a ≤ S4096x4096.size a := fun v1955 k0_hw162 => k0_hw162.2.2.1
theorem k0_off386_wordsi8 : ∀ (v1955 : BitVec 32) (k0_hw162 : k0_chk162 v1955), (Rect.unit (s := S4096x4096) (k0_off386 v1955) S32x4096.size (k0_off386_inb v1955 k0_hw162)).WholeWords (EltTy.packing .i8) := fun v1955 k0_hw162 => k0_hw162.2.2.2 (k0_off386_inb v1955 k0_hw162)

def k0_off387 (v1979 : BitVec 32) : Fin 2 → Nat :=
  let c128_i32_1957 : BitVec 32 := 128#32
  let v1980 : BitVec 32 := Scalar.muli v1979 c128_i32_1957
  let c32_i32_1958 : BitVec 32 := 32#32
  let v1981 : BitVec 32 := Scalar.addi v1980 c32_i32_1958
  let c0_i32_3931 : BitVec 32 := 0#32
  ![v1981.toNat, 0]

def k0_chk164 (v1979 : BitVec 32) : Prop :=
  (∀ a, (k0_off179 v1979) a + S32x4096.size a ≤ S4096x4096.size a) ∧
  (∀ (hinb : ∀ a, (k0_off179 v1979) a + S32x4096.size a ≤ S4096x4096.size a), (Rect.unit (s := S4096x4096) (k0_off179 v1979) S32x4096.size hinb).WholeWords (EltTy.packing .i8)) ∧
  (∀ a, (k0_off387 v1979) a + S32x4096.size a ≤ S4096x4096.size a) ∧
  (∀ (hinb : ∀ a, (k0_off387 v1979) a + S32x4096.size a ≤ S4096x4096.size a), (Rect.unit (s := S4096x4096) (k0_off387 v1979) S32x4096.size hinb).WholeWords (EltTy.packing .i8))
theorem k0_off179_inb : ∀ (v1979 : BitVec 32) (k0_hw164 : k0_chk164 v1979), ∀ a, (k0_off179 v1979) a + S32x4096.size a ≤ S4096x4096.size a := fun v1979 k0_hw164 => k0_hw164.1
theorem k0_off179_wordsi8 : ∀ (v1979 : BitVec 32) (k0_hw164 : k0_chk164 v1979), (Rect.unit (s := S4096x4096) (k0_off179 v1979) S32x4096.size (k0_off179_inb v1979 k0_hw164)).WholeWords (EltTy.packing .i8) := fun v1979 k0_hw164 => k0_hw164.2.1 (k0_off179_inb v1979 k0_hw164)
theorem k0_off387_inb : ∀ (v1979 : BitVec 32) (k0_hw164 : k0_chk164 v1979), ∀ a, (k0_off387 v1979) a + S32x4096.size a ≤ S4096x4096.size a := fun v1979 k0_hw164 => k0_hw164.2.2.1
theorem k0_off387_wordsi8 : ∀ (v1979 : BitVec 32) (k0_hw164 : k0_chk164 v1979), (Rect.unit (s := S4096x4096) (k0_off387 v1979) S32x4096.size (k0_off387_inb v1979 k0_hw164)).WholeWords (EltTy.packing .i8) := fun v1979 k0_hw164 => k0_hw164.2.2.2 (k0_off387_inb v1979 k0_hw164)

def k0_off388 (v2003 : BitVec 32) : Fin 2 → Nat :=
  let c128_i32_1983 : BitVec 32 := 128#32
  let v2004 : BitVec 32 := Scalar.muli v2003 c128_i32_1983
  let c64_i32_1984 : BitVec 32 := 64#32
  let v2005 : BitVec 32 := Scalar.addi v2004 c64_i32_1984
  let c0_i32_3938 : BitVec 32 := 0#32
  ![v2005.toNat, 0]

def k0_chk166 (v2003 : BitVec 32) : Prop :=
  (∀ a, (k0_off181 v2003) a + S32x4096.size a ≤ S4096x4096.size a) ∧
  (∀ (hinb : ∀ a, (k0_off181 v2003) a + S32x4096.size a ≤ S4096x4096.size a), (Rect.unit (s := S4096x4096) (k0_off181 v2003) S32x4096.size hinb).WholeWords (EltTy.packing .i8)) ∧
  (∀ a, (k0_off388 v2003) a + S32x4096.size a ≤ S4096x4096.size a) ∧
  (∀ (hinb : ∀ a, (k0_off388 v2003) a + S32x4096.size a ≤ S4096x4096.size a), (Rect.unit (s := S4096x4096) (k0_off388 v2003) S32x4096.size hinb).WholeWords (EltTy.packing .i8))
theorem k0_off181_inb : ∀ (v2003 : BitVec 32) (k0_hw166 : k0_chk166 v2003), ∀ a, (k0_off181 v2003) a + S32x4096.size a ≤ S4096x4096.size a := fun v2003 k0_hw166 => k0_hw166.1
theorem k0_off181_wordsi8 : ∀ (v2003 : BitVec 32) (k0_hw166 : k0_chk166 v2003), (Rect.unit (s := S4096x4096) (k0_off181 v2003) S32x4096.size (k0_off181_inb v2003 k0_hw166)).WholeWords (EltTy.packing .i8) := fun v2003 k0_hw166 => k0_hw166.2.1 (k0_off181_inb v2003 k0_hw166)
theorem k0_off388_inb : ∀ (v2003 : BitVec 32) (k0_hw166 : k0_chk166 v2003), ∀ a, (k0_off388 v2003) a + S32x4096.size a ≤ S4096x4096.size a := fun v2003 k0_hw166 => k0_hw166.2.2.1
theorem k0_off388_wordsi8 : ∀ (v2003 : BitVec 32) (k0_hw166 : k0_chk166 v2003), (Rect.unit (s := S4096x4096) (k0_off388 v2003) S32x4096.size (k0_off388_inb v2003 k0_hw166)).WholeWords (EltTy.packing .i8) := fun v2003 k0_hw166 => k0_hw166.2.2.2 (k0_off388_inb v2003 k0_hw166)

def k0_off389 (v2027 : BitVec 32) : Fin 2 → Nat :=
  let c128_i32_2009 : BitVec 32 := 128#32
  let v2028 : BitVec 32 := Scalar.muli v2027 c128_i32_2009
  let c64_i32_2010 : BitVec 32 := 64#32
  let v2029 : BitVec 32 := Scalar.addi v2028 c64_i32_2010
  let c0_i32_3945 : BitVec 32 := 0#32
  ![v2029.toNat, 0]

def k0_chk168 (v2027 : BitVec 32) : Prop :=
  (∀ a, (k0_off183 v2027) a + S32x4096.size a ≤ S4096x4096.size a) ∧
  (∀ (hinb : ∀ a, (k0_off183 v2027) a + S32x4096.size a ≤ S4096x4096.size a), (Rect.unit (s := S4096x4096) (k0_off183 v2027) S32x4096.size hinb).WholeWords (EltTy.packing .i8)) ∧
  (∀ a, (k0_off389 v2027) a + S32x4096.size a ≤ S4096x4096.size a) ∧
  (∀ (hinb : ∀ a, (k0_off389 v2027) a + S32x4096.size a ≤ S4096x4096.size a), (Rect.unit (s := S4096x4096) (k0_off389 v2027) S32x4096.size hinb).WholeWords (EltTy.packing .i8))
theorem k0_off183_inb : ∀ (v2027 : BitVec 32) (k0_hw168 : k0_chk168 v2027), ∀ a, (k0_off183 v2027) a + S32x4096.size a ≤ S4096x4096.size a := fun v2027 k0_hw168 => k0_hw168.1
theorem k0_off183_wordsi8 : ∀ (v2027 : BitVec 32) (k0_hw168 : k0_chk168 v2027), (Rect.unit (s := S4096x4096) (k0_off183 v2027) S32x4096.size (k0_off183_inb v2027 k0_hw168)).WholeWords (EltTy.packing .i8) := fun v2027 k0_hw168 => k0_hw168.2.1 (k0_off183_inb v2027 k0_hw168)
theorem k0_off389_inb : ∀ (v2027 : BitVec 32) (k0_hw168 : k0_chk168 v2027), ∀ a, (k0_off389 v2027) a + S32x4096.size a ≤ S4096x4096.size a := fun v2027 k0_hw168 => k0_hw168.2.2.1
theorem k0_off389_wordsi8 : ∀ (v2027 : BitVec 32) (k0_hw168 : k0_chk168 v2027), (Rect.unit (s := S4096x4096) (k0_off389 v2027) S32x4096.size (k0_off389_inb v2027 k0_hw168)).WholeWords (EltTy.packing .i8) := fun v2027 k0_hw168 => k0_hw168.2.2.2 (k0_off389_inb v2027 k0_hw168)

def k0_off390 (v2051 : BitVec 32) : Fin 2 → Nat :=
  let c128_i32_2035 : BitVec 32 := 128#32
  let v2052 : BitVec 32 := Scalar.muli v2051 c128_i32_2035
  let c96_i32_2036 : BitVec 32 := 96#32
  let v2053 : BitVec 32 := Scalar.addi v2052 c96_i32_2036
  let c0_i32_3952 : BitVec 32 := 0#32
  ![v2053.toNat, 0]

def k0_chk170 (v2051 : BitVec 32) : Prop :=
  (∀ a, (k0_off185 v2051) a + S32x4096.size a ≤ S4096x4096.size a) ∧
  (∀ (hinb : ∀ a, (k0_off185 v2051) a + S32x4096.size a ≤ S4096x4096.size a), (Rect.unit (s := S4096x4096) (k0_off185 v2051) S32x4096.size hinb).WholeWords (EltTy.packing .i8)) ∧
  (∀ a, (k0_off390 v2051) a + S32x4096.size a ≤ S4096x4096.size a) ∧
  (∀ (hinb : ∀ a, (k0_off390 v2051) a + S32x4096.size a ≤ S4096x4096.size a), (Rect.unit (s := S4096x4096) (k0_off390 v2051) S32x4096.size hinb).WholeWords (EltTy.packing .i8))
theorem k0_off185_inb : ∀ (v2051 : BitVec 32) (k0_hw170 : k0_chk170 v2051), ∀ a, (k0_off185 v2051) a + S32x4096.size a ≤ S4096x4096.size a := fun v2051 k0_hw170 => k0_hw170.1
theorem k0_off185_wordsi8 : ∀ (v2051 : BitVec 32) (k0_hw170 : k0_chk170 v2051), (Rect.unit (s := S4096x4096) (k0_off185 v2051) S32x4096.size (k0_off185_inb v2051 k0_hw170)).WholeWords (EltTy.packing .i8) := fun v2051 k0_hw170 => k0_hw170.2.1 (k0_off185_inb v2051 k0_hw170)
theorem k0_off390_inb : ∀ (v2051 : BitVec 32) (k0_hw170 : k0_chk170 v2051), ∀ a, (k0_off390 v2051) a + S32x4096.size a ≤ S4096x4096.size a := fun v2051 k0_hw170 => k0_hw170.2.2.1
theorem k0_off390_wordsi8 : ∀ (v2051 : BitVec 32) (k0_hw170 : k0_chk170 v2051), (Rect.unit (s := S4096x4096) (k0_off390 v2051) S32x4096.size (k0_off390_inb v2051 k0_hw170)).WholeWords (EltTy.packing .i8) := fun v2051 k0_hw170 => k0_hw170.2.2.2 (k0_off390_inb v2051 k0_hw170)

def k0_off391 (v2075 : BitVec 32) : Fin 2 → Nat :=
  let c128_i32_2061 : BitVec 32 := 128#32
  let v2076 : BitVec 32 := Scalar.muli v2075 c128_i32_2061
  let c96_i32_2062 : BitVec 32 := 96#32
  let v2077 : BitVec 32 := Scalar.addi v2076 c96_i32_2062
  let c0_i32_3959 : BitVec 32 := 0#32
  ![v2077.toNat, 0]

def k0_chk172 (v2075 : BitVec 32) : Prop :=
  (∀ a, (k0_off187 v2075) a + S32x4096.size a ≤ S4096x4096.size a) ∧
  (∀ (hinb : ∀ a, (k0_off187 v2075) a + S32x4096.size a ≤ S4096x4096.size a), (Rect.unit (s := S4096x4096) (k0_off187 v2075) S32x4096.size hinb).WholeWords (EltTy.packing .i8)) ∧
  (∀ a, (k0_off391 v2075) a + S32x4096.size a ≤ S4096x4096.size a) ∧
  (∀ (hinb : ∀ a, (k0_off391 v2075) a + S32x4096.size a ≤ S4096x4096.size a), (Rect.unit (s := S4096x4096) (k0_off391 v2075) S32x4096.size hinb).WholeWords (EltTy.packing .i8))
theorem k0_off187_inb : ∀ (v2075 : BitVec 32) (k0_hw172 : k0_chk172 v2075), ∀ a, (k0_off187 v2075) a + S32x4096.size a ≤ S4096x4096.size a := fun v2075 k0_hw172 => k0_hw172.1
theorem k0_off187_wordsi8 : ∀ (v2075 : BitVec 32) (k0_hw172 : k0_chk172 v2075), (Rect.unit (s := S4096x4096) (k0_off187 v2075) S32x4096.size (k0_off187_inb v2075 k0_hw172)).WholeWords (EltTy.packing .i8) := fun v2075 k0_hw172 => k0_hw172.2.1 (k0_off187_inb v2075 k0_hw172)
theorem k0_off391_inb : ∀ (v2075 : BitVec 32) (k0_hw172 : k0_chk172 v2075), ∀ a, (k0_off391 v2075) a + S32x4096.size a ≤ S4096x4096.size a := fun v2075 k0_hw172 => k0_hw172.2.2.1
theorem k0_off391_wordsi8 : ∀ (v2075 : BitVec 32) (k0_hw172 : k0_chk172 v2075), (Rect.unit (s := S4096x4096) (k0_off391 v2075) S32x4096.size (k0_off391_inb v2075 k0_hw172)).WholeWords (EltTy.packing .i8) := fun v2075 k0_hw172 => k0_hw172.2.2.2 (k0_off391_inb v2075 k0_hw172)

def k0_off392 (v2127 : BitVec 32) : Fin 2 → Nat :=
  let c128_i32_2101 : BitVec 32 := 128#32
  let v2128 : BitVec 32 := Scalar.muli v2127 c128_i32_2101
  let c0_i32_2102 : BitVec 32 := 0#32
  let v2129 : BitVec 32 := Scalar.addi v2128 c0_i32_2102
  let c0_i32_3966 : BitVec 32 := 0#32
  ![v2129.toNat, 0]

def k0_chk176 (v2127 : BitVec 32) : Prop :=
  (∀ a, (k0_off193 v2127) a + S32x4096.size a ≤ S4096x4096.size a) ∧
  (∀ (hinb : ∀ a, (k0_off193 v2127) a + S32x4096.size a ≤ S4096x4096.size a), (Rect.unit (s := S4096x4096) (k0_off193 v2127) S32x4096.size hinb).WholeWords (EltTy.packing .i8)) ∧
  (∀ a, (k0_off392 v2127) a + S32x4096.size a ≤ S4096x4096.size a) ∧
  (∀ (hinb : ∀ a, (k0_off392 v2127) a + S32x4096.size a ≤ S4096x4096.size a), (Rect.unit (s := S4096x4096) (k0_off392 v2127) S32x4096.size hinb).WholeWords (EltTy.packing .i8))
theorem k0_off193_inb : ∀ (v2127 : BitVec 32) (k0_hw176 : k0_chk176 v2127), ∀ a, (k0_off193 v2127) a + S32x4096.size a ≤ S4096x4096.size a := fun v2127 k0_hw176 => k0_hw176.1
theorem k0_off193_wordsi8 : ∀ (v2127 : BitVec 32) (k0_hw176 : k0_chk176 v2127), (Rect.unit (s := S4096x4096) (k0_off193 v2127) S32x4096.size (k0_off193_inb v2127 k0_hw176)).WholeWords (EltTy.packing .i8) := fun v2127 k0_hw176 => k0_hw176.2.1 (k0_off193_inb v2127 k0_hw176)
theorem k0_off392_inb : ∀ (v2127 : BitVec 32) (k0_hw176 : k0_chk176 v2127), ∀ a, (k0_off392 v2127) a + S32x4096.size a ≤ S4096x4096.size a := fun v2127 k0_hw176 => k0_hw176.2.2.1
theorem k0_off392_wordsi8 : ∀ (v2127 : BitVec 32) (k0_hw176 : k0_chk176 v2127), (Rect.unit (s := S4096x4096) (k0_off392 v2127) S32x4096.size (k0_off392_inb v2127 k0_hw176)).WholeWords (EltTy.packing .i8) := fun v2127 k0_hw176 => k0_hw176.2.2.2 (k0_off392_inb v2127 k0_hw176)

def k0_off393 (v2151 : BitVec 32) : Fin 2 → Nat :=
  let c128_i32_2124 : BitVec 32 := 128#32
  let v2152 : BitVec 32 := Scalar.muli v2151 c128_i32_2124
  let c0_i32_2125 : BitVec 32 := 0#32
  let v2153 : BitVec 32 := Scalar.addi v2152 c0_i32_2125
  let c0_i32_3973 : BitVec 32 := 0#32
  ![v2153.toNat, 0]

def k0_chk178 (v2151 : BitVec 32) : Prop :=
  (∀ a, (k0_off195 v2151) a + S32x4096.size a ≤ S4096x4096.size a) ∧
  (∀ (hinb : ∀ a, (k0_off195 v2151) a + S32x4096.size a ≤ S4096x4096.size a), (Rect.unit (s := S4096x4096) (k0_off195 v2151) S32x4096.size hinb).WholeWords (EltTy.packing .i8)) ∧
  (∀ a, (k0_off393 v2151) a + S32x4096.size a ≤ S4096x4096.size a) ∧
  (∀ (hinb : ∀ a, (k0_off393 v2151) a + S32x4096.size a ≤ S4096x4096.size a), (Rect.unit (s := S4096x4096) (k0_off393 v2151) S32x4096.size hinb).WholeWords (EltTy.packing .i8))
theorem k0_off195_inb : ∀ (v2151 : BitVec 32) (k0_hw178 : k0_chk178 v2151), ∀ a, (k0_off195 v2151) a + S32x4096.size a ≤ S4096x4096.size a := fun v2151 k0_hw178 => k0_hw178.1
theorem k0_off195_wordsi8 : ∀ (v2151 : BitVec 32) (k0_hw178 : k0_chk178 v2151), (Rect.unit (s := S4096x4096) (k0_off195 v2151) S32x4096.size (k0_off195_inb v2151 k0_hw178)).WholeWords (EltTy.packing .i8) := fun v2151 k0_hw178 => k0_hw178.2.1 (k0_off195_inb v2151 k0_hw178)
theorem k0_off393_inb : ∀ (v2151 : BitVec 32) (k0_hw178 : k0_chk178 v2151), ∀ a, (k0_off393 v2151) a + S32x4096.size a ≤ S4096x4096.size a := fun v2151 k0_hw178 => k0_hw178.2.2.1
theorem k0_off393_wordsi8 : ∀ (v2151 : BitVec 32) (k0_hw178 : k0_chk178 v2151), (Rect.unit (s := S4096x4096) (k0_off393 v2151) S32x4096.size (k0_off393_inb v2151 k0_hw178)).WholeWords (EltTy.packing .i8) := fun v2151 k0_hw178 => k0_hw178.2.2.2 (k0_off393_inb v2151 k0_hw178)

def k0_off394 (v2175 : BitVec 32) : Fin 2 → Nat :=
  let c128_i32_2150 : BitVec 32 := 128#32
  let v2176 : BitVec 32 := Scalar.muli v2175 c128_i32_2150
  let c32_i32_2151 : BitVec 32 := 32#32
  let v2177 : BitVec 32 := Scalar.addi v2176 c32_i32_2151
  let c0_i32_3980 : BitVec 32 := 0#32
  ![v2177.toNat, 0]

def k0_chk180 (v2175 : BitVec 32) : Prop :=
  (∀ a, (k0_off197 v2175) a + S32x4096.size a ≤ S4096x4096.size a) ∧
  (∀ (hinb : ∀ a, (k0_off197 v2175) a + S32x4096.size a ≤ S4096x4096.size a), (Rect.unit (s := S4096x4096) (k0_off197 v2175) S32x4096.size hinb).WholeWords (EltTy.packing .i8)) ∧
  (∀ a, (k0_off394 v2175) a + S32x4096.size a ≤ S4096x4096.size a) ∧
  (∀ (hinb : ∀ a, (k0_off394 v2175) a + S32x4096.size a ≤ S4096x4096.size a), (Rect.unit (s := S4096x4096) (k0_off394 v2175) S32x4096.size hinb).WholeWords (EltTy.packing .i8))
theorem k0_off197_inb : ∀ (v2175 : BitVec 32) (k0_hw180 : k0_chk180 v2175), ∀ a, (k0_off197 v2175) a + S32x4096.size a ≤ S4096x4096.size a := fun v2175 k0_hw180 => k0_hw180.1
theorem k0_off197_wordsi8 : ∀ (v2175 : BitVec 32) (k0_hw180 : k0_chk180 v2175), (Rect.unit (s := S4096x4096) (k0_off197 v2175) S32x4096.size (k0_off197_inb v2175 k0_hw180)).WholeWords (EltTy.packing .i8) := fun v2175 k0_hw180 => k0_hw180.2.1 (k0_off197_inb v2175 k0_hw180)
theorem k0_off394_inb : ∀ (v2175 : BitVec 32) (k0_hw180 : k0_chk180 v2175), ∀ a, (k0_off394 v2175) a + S32x4096.size a ≤ S4096x4096.size a := fun v2175 k0_hw180 => k0_hw180.2.2.1
theorem k0_off394_wordsi8 : ∀ (v2175 : BitVec 32) (k0_hw180 : k0_chk180 v2175), (Rect.unit (s := S4096x4096) (k0_off394 v2175) S32x4096.size (k0_off394_inb v2175 k0_hw180)).WholeWords (EltTy.packing .i8) := fun v2175 k0_hw180 => k0_hw180.2.2.2 (k0_off394_inb v2175 k0_hw180)

def k0_off395 (v2199 : BitVec 32) : Fin 2 → Nat :=
  let c128_i32_2176 : BitVec 32 := 128#32
  let v2200 : BitVec 32 := Scalar.muli v2199 c128_i32_2176
  let c32_i32_2177 : BitVec 32 := 32#32
  let v2201 : BitVec 32 := Scalar.addi v2200 c32_i32_2177
  let c0_i32_3987 : BitVec 32 := 0#32
  ![v2201.toNat, 0]

def k0_chk182 (v2199 : BitVec 32) : Prop :=
  (∀ a, (k0_off199 v2199) a + S32x4096.size a ≤ S4096x4096.size a) ∧
  (∀ (hinb : ∀ a, (k0_off199 v2199) a + S32x4096.size a ≤ S4096x4096.size a), (Rect.unit (s := S4096x4096) (k0_off199 v2199) S32x4096.size hinb).WholeWords (EltTy.packing .i8)) ∧
  (∀ a, (k0_off395 v2199) a + S32x4096.size a ≤ S4096x4096.size a) ∧
  (∀ (hinb : ∀ a, (k0_off395 v2199) a + S32x4096.size a ≤ S4096x4096.size a), (Rect.unit (s := S4096x4096) (k0_off395 v2199) S32x4096.size hinb).WholeWords (EltTy.packing .i8))
theorem k0_off199_inb : ∀ (v2199 : BitVec 32) (k0_hw182 : k0_chk182 v2199), ∀ a, (k0_off199 v2199) a + S32x4096.size a ≤ S4096x4096.size a := fun v2199 k0_hw182 => k0_hw182.1
theorem k0_off199_wordsi8 : ∀ (v2199 : BitVec 32) (k0_hw182 : k0_chk182 v2199), (Rect.unit (s := S4096x4096) (k0_off199 v2199) S32x4096.size (k0_off199_inb v2199 k0_hw182)).WholeWords (EltTy.packing .i8) := fun v2199 k0_hw182 => k0_hw182.2.1 (k0_off199_inb v2199 k0_hw182)
theorem k0_off395_inb : ∀ (v2199 : BitVec 32) (k0_hw182 : k0_chk182 v2199), ∀ a, (k0_off395 v2199) a + S32x4096.size a ≤ S4096x4096.size a := fun v2199 k0_hw182 => k0_hw182.2.2.1
theorem k0_off395_wordsi8 : ∀ (v2199 : BitVec 32) (k0_hw182 : k0_chk182 v2199), (Rect.unit (s := S4096x4096) (k0_off395 v2199) S32x4096.size (k0_off395_inb v2199 k0_hw182)).WholeWords (EltTy.packing .i8) := fun v2199 k0_hw182 => k0_hw182.2.2.2 (k0_off395_inb v2199 k0_hw182)

def k0_off396 (v2223 : BitVec 32) : Fin 2 → Nat :=
  let c128_i32_2202 : BitVec 32 := 128#32
  let v2224 : BitVec 32 := Scalar.muli v2223 c128_i32_2202
  let c64_i32_2203 : BitVec 32 := 64#32
  let v2225 : BitVec 32 := Scalar.addi v2224 c64_i32_2203
  let c0_i32_3994 : BitVec 32 := 0#32
  ![v2225.toNat, 0]

def k0_chk184 (v2223 : BitVec 32) : Prop :=
  (∀ a, (k0_off201 v2223) a + S32x4096.size a ≤ S4096x4096.size a) ∧
  (∀ (hinb : ∀ a, (k0_off201 v2223) a + S32x4096.size a ≤ S4096x4096.size a), (Rect.unit (s := S4096x4096) (k0_off201 v2223) S32x4096.size hinb).WholeWords (EltTy.packing .i8)) ∧
  (∀ a, (k0_off396 v2223) a + S32x4096.size a ≤ S4096x4096.size a) ∧
  (∀ (hinb : ∀ a, (k0_off396 v2223) a + S32x4096.size a ≤ S4096x4096.size a), (Rect.unit (s := S4096x4096) (k0_off396 v2223) S32x4096.size hinb).WholeWords (EltTy.packing .i8))
theorem k0_off201_inb : ∀ (v2223 : BitVec 32) (k0_hw184 : k0_chk184 v2223), ∀ a, (k0_off201 v2223) a + S32x4096.size a ≤ S4096x4096.size a := fun v2223 k0_hw184 => k0_hw184.1
theorem k0_off201_wordsi8 : ∀ (v2223 : BitVec 32) (k0_hw184 : k0_chk184 v2223), (Rect.unit (s := S4096x4096) (k0_off201 v2223) S32x4096.size (k0_off201_inb v2223 k0_hw184)).WholeWords (EltTy.packing .i8) := fun v2223 k0_hw184 => k0_hw184.2.1 (k0_off201_inb v2223 k0_hw184)
theorem k0_off396_inb : ∀ (v2223 : BitVec 32) (k0_hw184 : k0_chk184 v2223), ∀ a, (k0_off396 v2223) a + S32x4096.size a ≤ S4096x4096.size a := fun v2223 k0_hw184 => k0_hw184.2.2.1
theorem k0_off396_wordsi8 : ∀ (v2223 : BitVec 32) (k0_hw184 : k0_chk184 v2223), (Rect.unit (s := S4096x4096) (k0_off396 v2223) S32x4096.size (k0_off396_inb v2223 k0_hw184)).WholeWords (EltTy.packing .i8) := fun v2223 k0_hw184 => k0_hw184.2.2.2 (k0_off396_inb v2223 k0_hw184)

def k0_off397 (v2247 : BitVec 32) : Fin 2 → Nat :=
  let c128_i32_2228 : BitVec 32 := 128#32
  let v2248 : BitVec 32 := Scalar.muli v2247 c128_i32_2228
  let c64_i32_2229 : BitVec 32 := 64#32
  let v2249 : BitVec 32 := Scalar.addi v2248 c64_i32_2229
  let c0_i32_4001 : BitVec 32 := 0#32
  ![v2249.toNat, 0]

def k0_chk186 (v2247 : BitVec 32) : Prop :=
  (∀ a, (k0_off203 v2247) a + S32x4096.size a ≤ S4096x4096.size a) ∧
  (∀ (hinb : ∀ a, (k0_off203 v2247) a + S32x4096.size a ≤ S4096x4096.size a), (Rect.unit (s := S4096x4096) (k0_off203 v2247) S32x4096.size hinb).WholeWords (EltTy.packing .i8)) ∧
  (∀ a, (k0_off397 v2247) a + S32x4096.size a ≤ S4096x4096.size a) ∧
  (∀ (hinb : ∀ a, (k0_off397 v2247) a + S32x4096.size a ≤ S4096x4096.size a), (Rect.unit (s := S4096x4096) (k0_off397 v2247) S32x4096.size hinb).WholeWords (EltTy.packing .i8))
theorem k0_off203_inb : ∀ (v2247 : BitVec 32) (k0_hw186 : k0_chk186 v2247), ∀ a, (k0_off203 v2247) a + S32x4096.size a ≤ S4096x4096.size a := fun v2247 k0_hw186 => k0_hw186.1
theorem k0_off203_wordsi8 : ∀ (v2247 : BitVec 32) (k0_hw186 : k0_chk186 v2247), (Rect.unit (s := S4096x4096) (k0_off203 v2247) S32x4096.size (k0_off203_inb v2247 k0_hw186)).WholeWords (EltTy.packing .i8) := fun v2247 k0_hw186 => k0_hw186.2.1 (k0_off203_inb v2247 k0_hw186)
theorem k0_off397_inb : ∀ (v2247 : BitVec 32) (k0_hw186 : k0_chk186 v2247), ∀ a, (k0_off397 v2247) a + S32x4096.size a ≤ S4096x4096.size a := fun v2247 k0_hw186 => k0_hw186.2.2.1
theorem k0_off397_wordsi8 : ∀ (v2247 : BitVec 32) (k0_hw186 : k0_chk186 v2247), (Rect.unit (s := S4096x4096) (k0_off397 v2247) S32x4096.size (k0_off397_inb v2247 k0_hw186)).WholeWords (EltTy.packing .i8) := fun v2247 k0_hw186 => k0_hw186.2.2.2 (k0_off397_inb v2247 k0_hw186)

def k0_off398 (v2271 : BitVec 32) : Fin 2 → Nat :=
  let c128_i32_2254 : BitVec 32 := 128#32
  let v2272 : BitVec 32 := Scalar.muli v2271 c128_i32_2254
  let c96_i32_2255 : BitVec 32 := 96#32
  let v2273 : BitVec 32 := Scalar.addi v2272 c96_i32_2255
  let c0_i32_4008 : BitVec 32 := 0#32
  ![v2273.toNat, 0]

def k0_chk188 (v2271 : BitVec 32) : Prop :=
  (∀ a, (k0_off205 v2271) a + S32x4096.size a ≤ S4096x4096.size a) ∧
  (∀ (hinb : ∀ a, (k0_off205 v2271) a + S32x4096.size a ≤ S4096x4096.size a), (Rect.unit (s := S4096x4096) (k0_off205 v2271) S32x4096.size hinb).WholeWords (EltTy.packing .i8)) ∧
  (∀ a, (k0_off398 v2271) a + S32x4096.size a ≤ S4096x4096.size a) ∧
  (∀ (hinb : ∀ a, (k0_off398 v2271) a + S32x4096.size a ≤ S4096x4096.size a), (Rect.unit (s := S4096x4096) (k0_off398 v2271) S32x4096.size hinb).WholeWords (EltTy.packing .i8))
theorem k0_off205_inb : ∀ (v2271 : BitVec 32) (k0_hw188 : k0_chk188 v2271), ∀ a, (k0_off205 v2271) a + S32x4096.size a ≤ S4096x4096.size a := fun v2271 k0_hw188 => k0_hw188.1
theorem k0_off205_wordsi8 : ∀ (v2271 : BitVec 32) (k0_hw188 : k0_chk188 v2271), (Rect.unit (s := S4096x4096) (k0_off205 v2271) S32x4096.size (k0_off205_inb v2271 k0_hw188)).WholeWords (EltTy.packing .i8) := fun v2271 k0_hw188 => k0_hw188.2.1 (k0_off205_inb v2271 k0_hw188)
theorem k0_off398_inb : ∀ (v2271 : BitVec 32) (k0_hw188 : k0_chk188 v2271), ∀ a, (k0_off398 v2271) a + S32x4096.size a ≤ S4096x4096.size a := fun v2271 k0_hw188 => k0_hw188.2.2.1
theorem k0_off398_wordsi8 : ∀ (v2271 : BitVec 32) (k0_hw188 : k0_chk188 v2271), (Rect.unit (s := S4096x4096) (k0_off398 v2271) S32x4096.size (k0_off398_inb v2271 k0_hw188)).WholeWords (EltTy.packing .i8) := fun v2271 k0_hw188 => k0_hw188.2.2.2 (k0_off398_inb v2271 k0_hw188)

def k0_off399 (v2295 : BitVec 32) : Fin 2 → Nat :=
  let c128_i32_2280 : BitVec 32 := 128#32
  let v2296 : BitVec 32 := Scalar.muli v2295 c128_i32_2280
  let c96_i32_2281 : BitVec 32 := 96#32
  let v2297 : BitVec 32 := Scalar.addi v2296 c96_i32_2281
  let c0_i32_4015 : BitVec 32 := 0#32
  ![v2297.toNat, 0]

def k0_chk190 (v2295 : BitVec 32) : Prop :=
  (∀ a, (k0_off207 v2295) a + S32x4096.size a ≤ S4096x4096.size a) ∧
  (∀ (hinb : ∀ a, (k0_off207 v2295) a + S32x4096.size a ≤ S4096x4096.size a), (Rect.unit (s := S4096x4096) (k0_off207 v2295) S32x4096.size hinb).WholeWords (EltTy.packing .i8)) ∧
  (∀ a, (k0_off399 v2295) a + S32x4096.size a ≤ S4096x4096.size a) ∧
  (∀ (hinb : ∀ a, (k0_off399 v2295) a + S32x4096.size a ≤ S4096x4096.size a), (Rect.unit (s := S4096x4096) (k0_off399 v2295) S32x4096.size hinb).WholeWords (EltTy.packing .i8))
theorem k0_off207_inb : ∀ (v2295 : BitVec 32) (k0_hw190 : k0_chk190 v2295), ∀ a, (k0_off207 v2295) a + S32x4096.size a ≤ S4096x4096.size a := fun v2295 k0_hw190 => k0_hw190.1
theorem k0_off207_wordsi8 : ∀ (v2295 : BitVec 32) (k0_hw190 : k0_chk190 v2295), (Rect.unit (s := S4096x4096) (k0_off207 v2295) S32x4096.size (k0_off207_inb v2295 k0_hw190)).WholeWords (EltTy.packing .i8) := fun v2295 k0_hw190 => k0_hw190.2.1 (k0_off207_inb v2295 k0_hw190)
theorem k0_off399_inb : ∀ (v2295 : BitVec 32) (k0_hw190 : k0_chk190 v2295), ∀ a, (k0_off399 v2295) a + S32x4096.size a ≤ S4096x4096.size a := fun v2295 k0_hw190 => k0_hw190.2.2.1
theorem k0_off399_wordsi8 : ∀ (v2295 : BitVec 32) (k0_hw190 : k0_chk190 v2295), (Rect.unit (s := S4096x4096) (k0_off399 v2295) S32x4096.size (k0_off399_inb v2295 k0_hw190)).WholeWords (EltTy.packing .i8) := fun v2295 k0_hw190 => k0_hw190.2.2.2 (k0_off399_inb v2295 k0_hw190)

def k0_off400 (v2347 : BitVec 32) : Fin 2 → Nat :=
  let c128_i32_2320 : BitVec 32 := 128#32
  let v2348 : BitVec 32 := Scalar.muli v2347 c128_i32_2320
  let c0_i32_2321 : BitVec 32 := 0#32
  let v2349 : BitVec 32 := Scalar.addi v2348 c0_i32_2321
  let c0_i32_4022 : BitVec 32 := 0#32
  ![v2349.toNat, 0]

def k0_chk194 (v2347 : BitVec 32) : Prop :=
  (∀ a, (k0_off213 v2347) a + S32x4096.size a ≤ S4096x4096.size a) ∧
  (∀ (hinb : ∀ a, (k0_off213 v2347) a + S32x4096.size a ≤ S4096x4096.size a), (Rect.unit (s := S4096x4096) (k0_off213 v2347) S32x4096.size hinb).WholeWords (EltTy.packing .i8)) ∧
  (∀ a, (k0_off400 v2347) a + S32x4096.size a ≤ S4096x4096.size a) ∧
  (∀ (hinb : ∀ a, (k0_off400 v2347) a + S32x4096.size a ≤ S4096x4096.size a), (Rect.unit (s := S4096x4096) (k0_off400 v2347) S32x4096.size hinb).WholeWords (EltTy.packing .i8))
theorem k0_off213_inb : ∀ (v2347 : BitVec 32) (k0_hw194 : k0_chk194 v2347), ∀ a, (k0_off213 v2347) a + S32x4096.size a ≤ S4096x4096.size a := fun v2347 k0_hw194 => k0_hw194.1
theorem k0_off213_wordsi8 : ∀ (v2347 : BitVec 32) (k0_hw194 : k0_chk194 v2347), (Rect.unit (s := S4096x4096) (k0_off213 v2347) S32x4096.size (k0_off213_inb v2347 k0_hw194)).WholeWords (EltTy.packing .i8) := fun v2347 k0_hw194 => k0_hw194.2.1 (k0_off213_inb v2347 k0_hw194)
theorem k0_off400_inb : ∀ (v2347 : BitVec 32) (k0_hw194 : k0_chk194 v2347), ∀ a, (k0_off400 v2347) a + S32x4096.size a ≤ S4096x4096.size a := fun v2347 k0_hw194 => k0_hw194.2.2.1
theorem k0_off400_wordsi8 : ∀ (v2347 : BitVec 32) (k0_hw194 : k0_chk194 v2347), (Rect.unit (s := S4096x4096) (k0_off400 v2347) S32x4096.size (k0_off400_inb v2347 k0_hw194)).WholeWords (EltTy.packing .i8) := fun v2347 k0_hw194 => k0_hw194.2.2.2 (k0_off400_inb v2347 k0_hw194)

def k0_off401 (v2371 : BitVec 32) : Fin 2 → Nat :=
  let c128_i32_2343 : BitVec 32 := 128#32
  let v2372 : BitVec 32 := Scalar.muli v2371 c128_i32_2343
  let c0_i32_2344 : BitVec 32 := 0#32
  let v2373 : BitVec 32 := Scalar.addi v2372 c0_i32_2344
  let c0_i32_4029 : BitVec 32 := 0#32
  ![v2373.toNat, 0]

def k0_chk196 (v2371 : BitVec 32) : Prop :=
  (∀ a, (k0_off215 v2371) a + S32x4096.size a ≤ S4096x4096.size a) ∧
  (∀ (hinb : ∀ a, (k0_off215 v2371) a + S32x4096.size a ≤ S4096x4096.size a), (Rect.unit (s := S4096x4096) (k0_off215 v2371) S32x4096.size hinb).WholeWords (EltTy.packing .i8)) ∧
  (∀ a, (k0_off401 v2371) a + S32x4096.size a ≤ S4096x4096.size a) ∧
  (∀ (hinb : ∀ a, (k0_off401 v2371) a + S32x4096.size a ≤ S4096x4096.size a), (Rect.unit (s := S4096x4096) (k0_off401 v2371) S32x4096.size hinb).WholeWords (EltTy.packing .i8))
theorem k0_off215_inb : ∀ (v2371 : BitVec 32) (k0_hw196 : k0_chk196 v2371), ∀ a, (k0_off215 v2371) a + S32x4096.size a ≤ S4096x4096.size a := fun v2371 k0_hw196 => k0_hw196.1
theorem k0_off215_wordsi8 : ∀ (v2371 : BitVec 32) (k0_hw196 : k0_chk196 v2371), (Rect.unit (s := S4096x4096) (k0_off215 v2371) S32x4096.size (k0_off215_inb v2371 k0_hw196)).WholeWords (EltTy.packing .i8) := fun v2371 k0_hw196 => k0_hw196.2.1 (k0_off215_inb v2371 k0_hw196)
theorem k0_off401_inb : ∀ (v2371 : BitVec 32) (k0_hw196 : k0_chk196 v2371), ∀ a, (k0_off401 v2371) a + S32x4096.size a ≤ S4096x4096.size a := fun v2371 k0_hw196 => k0_hw196.2.2.1
theorem k0_off401_wordsi8 : ∀ (v2371 : BitVec 32) (k0_hw196 : k0_chk196 v2371), (Rect.unit (s := S4096x4096) (k0_off401 v2371) S32x4096.size (k0_off401_inb v2371 k0_hw196)).WholeWords (EltTy.packing .i8) := fun v2371 k0_hw196 => k0_hw196.2.2.2 (k0_off401_inb v2371 k0_hw196)

def k0_off402 (v2395 : BitVec 32) : Fin 2 → Nat :=
  let c128_i32_2369 : BitVec 32 := 128#32
  let v2396 : BitVec 32 := Scalar.muli v2395 c128_i32_2369
  let c32_i32_2370 : BitVec 32 := 32#32
  let v2397 : BitVec 32 := Scalar.addi v2396 c32_i32_2370
  let c0_i32_4036 : BitVec 32 := 0#32
  ![v2397.toNat, 0]

def k0_chk198 (v2395 : BitVec 32) : Prop :=
  (∀ a, (k0_off217 v2395) a + S32x4096.size a ≤ S4096x4096.size a) ∧
  (∀ (hinb : ∀ a, (k0_off217 v2395) a + S32x4096.size a ≤ S4096x4096.size a), (Rect.unit (s := S4096x4096) (k0_off217 v2395) S32x4096.size hinb).WholeWords (EltTy.packing .i8)) ∧
  (∀ a, (k0_off402 v2395) a + S32x4096.size a ≤ S4096x4096.size a) ∧
  (∀ (hinb : ∀ a, (k0_off402 v2395) a + S32x4096.size a ≤ S4096x4096.size a), (Rect.unit (s := S4096x4096) (k0_off402 v2395) S32x4096.size hinb).WholeWords (EltTy.packing .i8))
theorem k0_off217_inb : ∀ (v2395 : BitVec 32) (k0_hw198 : k0_chk198 v2395), ∀ a, (k0_off217 v2395) a + S32x4096.size a ≤ S4096x4096.size a := fun v2395 k0_hw198 => k0_hw198.1
theorem k0_off217_wordsi8 : ∀ (v2395 : BitVec 32) (k0_hw198 : k0_chk198 v2395), (Rect.unit (s := S4096x4096) (k0_off217 v2395) S32x4096.size (k0_off217_inb v2395 k0_hw198)).WholeWords (EltTy.packing .i8) := fun v2395 k0_hw198 => k0_hw198.2.1 (k0_off217_inb v2395 k0_hw198)
theorem k0_off402_inb : ∀ (v2395 : BitVec 32) (k0_hw198 : k0_chk198 v2395), ∀ a, (k0_off402 v2395) a + S32x4096.size a ≤ S4096x4096.size a := fun v2395 k0_hw198 => k0_hw198.2.2.1
theorem k0_off402_wordsi8 : ∀ (v2395 : BitVec 32) (k0_hw198 : k0_chk198 v2395), (Rect.unit (s := S4096x4096) (k0_off402 v2395) S32x4096.size (k0_off402_inb v2395 k0_hw198)).WholeWords (EltTy.packing .i8) := fun v2395 k0_hw198 => k0_hw198.2.2.2 (k0_off402_inb v2395 k0_hw198)

def k0_off403 (v2419 : BitVec 32) : Fin 2 → Nat :=
  let c128_i32_2395 : BitVec 32 := 128#32
  let v2420 : BitVec 32 := Scalar.muli v2419 c128_i32_2395
  let c32_i32_2396 : BitVec 32 := 32#32
  let v2421 : BitVec 32 := Scalar.addi v2420 c32_i32_2396
  let c0_i32_4043 : BitVec 32 := 0#32
  ![v2421.toNat, 0]

def k0_chk200 (v2419 : BitVec 32) : Prop :=
  (∀ a, (k0_off219 v2419) a + S32x4096.size a ≤ S4096x4096.size a) ∧
  (∀ (hinb : ∀ a, (k0_off219 v2419) a + S32x4096.size a ≤ S4096x4096.size a), (Rect.unit (s := S4096x4096) (k0_off219 v2419) S32x4096.size hinb).WholeWords (EltTy.packing .i8)) ∧
  (∀ a, (k0_off403 v2419) a + S32x4096.size a ≤ S4096x4096.size a) ∧
  (∀ (hinb : ∀ a, (k0_off403 v2419) a + S32x4096.size a ≤ S4096x4096.size a), (Rect.unit (s := S4096x4096) (k0_off403 v2419) S32x4096.size hinb).WholeWords (EltTy.packing .i8))
theorem k0_off219_inb : ∀ (v2419 : BitVec 32) (k0_hw200 : k0_chk200 v2419), ∀ a, (k0_off219 v2419) a + S32x4096.size a ≤ S4096x4096.size a := fun v2419 k0_hw200 => k0_hw200.1
theorem k0_off219_wordsi8 : ∀ (v2419 : BitVec 32) (k0_hw200 : k0_chk200 v2419), (Rect.unit (s := S4096x4096) (k0_off219 v2419) S32x4096.size (k0_off219_inb v2419 k0_hw200)).WholeWords (EltTy.packing .i8) := fun v2419 k0_hw200 => k0_hw200.2.1 (k0_off219_inb v2419 k0_hw200)
theorem k0_off403_inb : ∀ (v2419 : BitVec 32) (k0_hw200 : k0_chk200 v2419), ∀ a, (k0_off403 v2419) a + S32x4096.size a ≤ S4096x4096.size a := fun v2419 k0_hw200 => k0_hw200.2.2.1
theorem k0_off403_wordsi8 : ∀ (v2419 : BitVec 32) (k0_hw200 : k0_chk200 v2419), (Rect.unit (s := S4096x4096) (k0_off403 v2419) S32x4096.size (k0_off403_inb v2419 k0_hw200)).WholeWords (EltTy.packing .i8) := fun v2419 k0_hw200 => k0_hw200.2.2.2 (k0_off403_inb v2419 k0_hw200)

def k0_off404 (v2443 : BitVec 32) : Fin 2 → Nat :=
  let c128_i32_2421 : BitVec 32 := 128#32
  let v2444 : BitVec 32 := Scalar.muli v2443 c128_i32_2421
  let c64_i32_2422 : BitVec 32 := 64#32
  let v2445 : BitVec 32 := Scalar.addi v2444 c64_i32_2422
  let c0_i32_4050 : BitVec 32 := 0#32
  ![v2445.toNat, 0]

def k0_chk202 (v2443 : BitVec 32) : Prop :=
  (∀ a, (k0_off221 v2443) a + S32x4096.size a ≤ S4096x4096.size a) ∧
  (∀ (hinb : ∀ a, (k0_off221 v2443) a + S32x4096.size a ≤ S4096x4096.size a), (Rect.unit (s := S4096x4096) (k0_off221 v2443) S32x4096.size hinb).WholeWords (EltTy.packing .i8)) ∧
  (∀ a, (k0_off404 v2443) a + S32x4096.size a ≤ S4096x4096.size a) ∧
  (∀ (hinb : ∀ a, (k0_off404 v2443) a + S32x4096.size a ≤ S4096x4096.size a), (Rect.unit (s := S4096x4096) (k0_off404 v2443) S32x4096.size hinb).WholeWords (EltTy.packing .i8))
theorem k0_off221_inb : ∀ (v2443 : BitVec 32) (k0_hw202 : k0_chk202 v2443), ∀ a, (k0_off221 v2443) a + S32x4096.size a ≤ S4096x4096.size a := fun v2443 k0_hw202 => k0_hw202.1
theorem k0_off221_wordsi8 : ∀ (v2443 : BitVec 32) (k0_hw202 : k0_chk202 v2443), (Rect.unit (s := S4096x4096) (k0_off221 v2443) S32x4096.size (k0_off221_inb v2443 k0_hw202)).WholeWords (EltTy.packing .i8) := fun v2443 k0_hw202 => k0_hw202.2.1 (k0_off221_inb v2443 k0_hw202)
theorem k0_off404_inb : ∀ (v2443 : BitVec 32) (k0_hw202 : k0_chk202 v2443), ∀ a, (k0_off404 v2443) a + S32x4096.size a ≤ S4096x4096.size a := fun v2443 k0_hw202 => k0_hw202.2.2.1
theorem k0_off404_wordsi8 : ∀ (v2443 : BitVec 32) (k0_hw202 : k0_chk202 v2443), (Rect.unit (s := S4096x4096) (k0_off404 v2443) S32x4096.size (k0_off404_inb v2443 k0_hw202)).WholeWords (EltTy.packing .i8) := fun v2443 k0_hw202 => k0_hw202.2.2.2 (k0_off404_inb v2443 k0_hw202)

def k0_off405 (v2467 : BitVec 32) : Fin 2 → Nat :=
  let c128_i32_2447 : BitVec 32 := 128#32
  let v2468 : BitVec 32 := Scalar.muli v2467 c128_i32_2447
  let c64_i32_2448 : BitVec 32 := 64#32
  let v2469 : BitVec 32 := Scalar.addi v2468 c64_i32_2448
  let c0_i32_4057 : BitVec 32 := 0#32
  ![v2469.toNat, 0]

def k0_chk204 (v2467 : BitVec 32) : Prop :=
  (∀ a, (k0_off223 v2467) a + S32x4096.size a ≤ S4096x4096.size a) ∧
  (∀ (hinb : ∀ a, (k0_off223 v2467) a + S32x4096.size a ≤ S4096x4096.size a), (Rect.unit (s := S4096x4096) (k0_off223 v2467) S32x4096.size hinb).WholeWords (EltTy.packing .i8)) ∧
  (∀ a, (k0_off405 v2467) a + S32x4096.size a ≤ S4096x4096.size a) ∧
  (∀ (hinb : ∀ a, (k0_off405 v2467) a + S32x4096.size a ≤ S4096x4096.size a), (Rect.unit (s := S4096x4096) (k0_off405 v2467) S32x4096.size hinb).WholeWords (EltTy.packing .i8))
theorem k0_off223_inb : ∀ (v2467 : BitVec 32) (k0_hw204 : k0_chk204 v2467), ∀ a, (k0_off223 v2467) a + S32x4096.size a ≤ S4096x4096.size a := fun v2467 k0_hw204 => k0_hw204.1
theorem k0_off223_wordsi8 : ∀ (v2467 : BitVec 32) (k0_hw204 : k0_chk204 v2467), (Rect.unit (s := S4096x4096) (k0_off223 v2467) S32x4096.size (k0_off223_inb v2467 k0_hw204)).WholeWords (EltTy.packing .i8) := fun v2467 k0_hw204 => k0_hw204.2.1 (k0_off223_inb v2467 k0_hw204)
theorem k0_off405_inb : ∀ (v2467 : BitVec 32) (k0_hw204 : k0_chk204 v2467), ∀ a, (k0_off405 v2467) a + S32x4096.size a ≤ S4096x4096.size a := fun v2467 k0_hw204 => k0_hw204.2.2.1
theorem k0_off405_wordsi8 : ∀ (v2467 : BitVec 32) (k0_hw204 : k0_chk204 v2467), (Rect.unit (s := S4096x4096) (k0_off405 v2467) S32x4096.size (k0_off405_inb v2467 k0_hw204)).WholeWords (EltTy.packing .i8) := fun v2467 k0_hw204 => k0_hw204.2.2.2 (k0_off405_inb v2467 k0_hw204)

def k0_off406 (v2491 : BitVec 32) : Fin 2 → Nat :=
  let c128_i32_2473 : BitVec 32 := 128#32
  let v2492 : BitVec 32 := Scalar.muli v2491 c128_i32_2473
  let c96_i32_2474 : BitVec 32 := 96#32
  let v2493 : BitVec 32 := Scalar.addi v2492 c96_i32_2474
  let c0_i32_4064 : BitVec 32 := 0#32
  ![v2493.toNat, 0]

def k0_chk206 (v2491 : BitVec 32) : Prop :=
  (∀ a, (k0_off225 v2491) a + S32x4096.size a ≤ S4096x4096.size a) ∧
  (∀ (hinb : ∀ a, (k0_off225 v2491) a + S32x4096.size a ≤ S4096x4096.size a), (Rect.unit (s := S4096x4096) (k0_off225 v2491) S32x4096.size hinb).WholeWords (EltTy.packing .i8)) ∧
  (∀ a, (k0_off406 v2491) a + S32x4096.size a ≤ S4096x4096.size a) ∧
  (∀ (hinb : ∀ a, (k0_off406 v2491) a + S32x4096.size a ≤ S4096x4096.size a), (Rect.unit (s := S4096x4096) (k0_off406 v2491) S32x4096.size hinb).WholeWords (EltTy.packing .i8))
theorem k0_off225_inb : ∀ (v2491 : BitVec 32) (k0_hw206 : k0_chk206 v2491), ∀ a, (k0_off225 v2491) a + S32x4096.size a ≤ S4096x4096.size a := fun v2491 k0_hw206 => k0_hw206.1
theorem k0_off225_wordsi8 : ∀ (v2491 : BitVec 32) (k0_hw206 : k0_chk206 v2491), (Rect.unit (s := S4096x4096) (k0_off225 v2491) S32x4096.size (k0_off225_inb v2491 k0_hw206)).WholeWords (EltTy.packing .i8) := fun v2491 k0_hw206 => k0_hw206.2.1 (k0_off225_inb v2491 k0_hw206)
theorem k0_off406_inb : ∀ (v2491 : BitVec 32) (k0_hw206 : k0_chk206 v2491), ∀ a, (k0_off406 v2491) a + S32x4096.size a ≤ S4096x4096.size a := fun v2491 k0_hw206 => k0_hw206.2.2.1
theorem k0_off406_wordsi8 : ∀ (v2491 : BitVec 32) (k0_hw206 : k0_chk206 v2491), (Rect.unit (s := S4096x4096) (k0_off406 v2491) S32x4096.size (k0_off406_inb v2491 k0_hw206)).WholeWords (EltTy.packing .i8) := fun v2491 k0_hw206 => k0_hw206.2.2.2 (k0_off406_inb v2491 k0_hw206)

def k0_off407 (v2515 : BitVec 32) : Fin 2 → Nat :=
  let c128_i32_2499 : BitVec 32 := 128#32
  let v2516 : BitVec 32 := Scalar.muli v2515 c128_i32_2499
  let c96_i32_2500 : BitVec 32 := 96#32
  let v2517 : BitVec 32 := Scalar.addi v2516 c96_i32_2500
  let c0_i32_4071 : BitVec 32 := 0#32
  ![v2517.toNat, 0]

def k0_chk208 (v2515 : BitVec 32) : Prop :=
  (∀ a, (k0_off227 v2515) a + S32x4096.size a ≤ S4096x4096.size a) ∧
  (∀ (hinb : ∀ a, (k0_off227 v2515) a + S32x4096.size a ≤ S4096x4096.size a), (Rect.unit (s := S4096x4096) (k0_off227 v2515) S32x4096.size hinb).WholeWords (EltTy.packing .i8)) ∧
  (∀ a, (k0_off407 v2515) a + S32x4096.size a ≤ S4096x4096.size a) ∧
  (∀ (hinb : ∀ a, (k0_off407 v2515) a + S32x4096.size a ≤ S4096x4096.size a), (Rect.unit (s := S4096x4096) (k0_off407 v2515) S32x4096.size hinb).WholeWords (EltTy.packing .i8))
theorem k0_off227_inb : ∀ (v2515 : BitVec 32) (k0_hw208 : k0_chk208 v2515), ∀ a, (k0_off227 v2515) a + S32x4096.size a ≤ S4096x4096.size a := fun v2515 k0_hw208 => k0_hw208.1
theorem k0_off227_wordsi8 : ∀ (v2515 : BitVec 32) (k0_hw208 : k0_chk208 v2515), (Rect.unit (s := S4096x4096) (k0_off227 v2515) S32x4096.size (k0_off227_inb v2515 k0_hw208)).WholeWords (EltTy.packing .i8) := fun v2515 k0_hw208 => k0_hw208.2.1 (k0_off227_inb v2515 k0_hw208)
theorem k0_off407_inb : ∀ (v2515 : BitVec 32) (k0_hw208 : k0_chk208 v2515), ∀ a, (k0_off407 v2515) a + S32x4096.size a ≤ S4096x4096.size a := fun v2515 k0_hw208 => k0_hw208.2.2.1
theorem k0_off407_wordsi8 : ∀ (v2515 : BitVec 32) (k0_hw208 : k0_chk208 v2515), (Rect.unit (s := S4096x4096) (k0_off407 v2515) S32x4096.size (k0_off407_inb v2515 k0_hw208)).WholeWords (EltTy.packing .i8) := fun v2515 k0_hw208 => k0_hw208.2.2.2 (k0_off407_inb v2515 k0_hw208)

def k0_off408 (v2567 : BitVec 32) : Fin 2 → Nat :=
  let c128_i32_2539 : BitVec 32 := 128#32
  let v2568 : BitVec 32 := Scalar.muli v2567 c128_i32_2539
  let c0_i32_2540 : BitVec 32 := 0#32
  let v2569 : BitVec 32 := Scalar.addi v2568 c0_i32_2540
  let c0_i32_4078 : BitVec 32 := 0#32
  ![v2569.toNat, 0]

def k0_chk212 (v2567 : BitVec 32) : Prop :=
  (∀ a, (k0_off233 v2567) a + S32x4096.size a ≤ S4096x4096.size a) ∧
  (∀ (hinb : ∀ a, (k0_off233 v2567) a + S32x4096.size a ≤ S4096x4096.size a), (Rect.unit (s := S4096x4096) (k0_off233 v2567) S32x4096.size hinb).WholeWords (EltTy.packing .i8)) ∧
  (∀ a, (k0_off408 v2567) a + S32x4096.size a ≤ S4096x4096.size a) ∧
  (∀ (hinb : ∀ a, (k0_off408 v2567) a + S32x4096.size a ≤ S4096x4096.size a), (Rect.unit (s := S4096x4096) (k0_off408 v2567) S32x4096.size hinb).WholeWords (EltTy.packing .i8))
theorem k0_off233_inb : ∀ (v2567 : BitVec 32) (k0_hw212 : k0_chk212 v2567), ∀ a, (k0_off233 v2567) a + S32x4096.size a ≤ S4096x4096.size a := fun v2567 k0_hw212 => k0_hw212.1
theorem k0_off233_wordsi8 : ∀ (v2567 : BitVec 32) (k0_hw212 : k0_chk212 v2567), (Rect.unit (s := S4096x4096) (k0_off233 v2567) S32x4096.size (k0_off233_inb v2567 k0_hw212)).WholeWords (EltTy.packing .i8) := fun v2567 k0_hw212 => k0_hw212.2.1 (k0_off233_inb v2567 k0_hw212)
theorem k0_off408_inb : ∀ (v2567 : BitVec 32) (k0_hw212 : k0_chk212 v2567), ∀ a, (k0_off408 v2567) a + S32x4096.size a ≤ S4096x4096.size a := fun v2567 k0_hw212 => k0_hw212.2.2.1
theorem k0_off408_wordsi8 : ∀ (v2567 : BitVec 32) (k0_hw212 : k0_chk212 v2567), (Rect.unit (s := S4096x4096) (k0_off408 v2567) S32x4096.size (k0_off408_inb v2567 k0_hw212)).WholeWords (EltTy.packing .i8) := fun v2567 k0_hw212 => k0_hw212.2.2.2 (k0_off408_inb v2567 k0_hw212)

def k0_off409 (v2591 : BitVec 32) : Fin 2 → Nat :=
  let c128_i32_2562 : BitVec 32 := 128#32
  let v2592 : BitVec 32 := Scalar.muli v2591 c128_i32_2562
  let c0_i32_2563 : BitVec 32 := 0#32
  let v2593 : BitVec 32 := Scalar.addi v2592 c0_i32_2563
  let c0_i32_4085 : BitVec 32 := 0#32
  ![v2593.toNat, 0]

def k0_chk214 (v2591 : BitVec 32) : Prop :=
  (∀ a, (k0_off235 v2591) a + S32x4096.size a ≤ S4096x4096.size a) ∧
  (∀ (hinb : ∀ a, (k0_off235 v2591) a + S32x4096.size a ≤ S4096x4096.size a), (Rect.unit (s := S4096x4096) (k0_off235 v2591) S32x4096.size hinb).WholeWords (EltTy.packing .i8)) ∧
  (∀ a, (k0_off409 v2591) a + S32x4096.size a ≤ S4096x4096.size a) ∧
  (∀ (hinb : ∀ a, (k0_off409 v2591) a + S32x4096.size a ≤ S4096x4096.size a), (Rect.unit (s := S4096x4096) (k0_off409 v2591) S32x4096.size hinb).WholeWords (EltTy.packing .i8))
theorem k0_off235_inb : ∀ (v2591 : BitVec 32) (k0_hw214 : k0_chk214 v2591), ∀ a, (k0_off235 v2591) a + S32x4096.size a ≤ S4096x4096.size a := fun v2591 k0_hw214 => k0_hw214.1
theorem k0_off235_wordsi8 : ∀ (v2591 : BitVec 32) (k0_hw214 : k0_chk214 v2591), (Rect.unit (s := S4096x4096) (k0_off235 v2591) S32x4096.size (k0_off235_inb v2591 k0_hw214)).WholeWords (EltTy.packing .i8) := fun v2591 k0_hw214 => k0_hw214.2.1 (k0_off235_inb v2591 k0_hw214)
theorem k0_off409_inb : ∀ (v2591 : BitVec 32) (k0_hw214 : k0_chk214 v2591), ∀ a, (k0_off409 v2591) a + S32x4096.size a ≤ S4096x4096.size a := fun v2591 k0_hw214 => k0_hw214.2.2.1
theorem k0_off409_wordsi8 : ∀ (v2591 : BitVec 32) (k0_hw214 : k0_chk214 v2591), (Rect.unit (s := S4096x4096) (k0_off409 v2591) S32x4096.size (k0_off409_inb v2591 k0_hw214)).WholeWords (EltTy.packing .i8) := fun v2591 k0_hw214 => k0_hw214.2.2.2 (k0_off409_inb v2591 k0_hw214)

def k0_off410 (v2615 : BitVec 32) : Fin 2 → Nat :=
  let c128_i32_2588 : BitVec 32 := 128#32
  let v2616 : BitVec 32 := Scalar.muli v2615 c128_i32_2588
  let c32_i32_2589 : BitVec 32 := 32#32
  let v2617 : BitVec 32 := Scalar.addi v2616 c32_i32_2589
  let c0_i32_4092 : BitVec 32 := 0#32
  ![v2617.toNat, 0]

def k0_chk216 (v2615 : BitVec 32) : Prop :=
  (∀ a, (k0_off237 v2615) a + S32x4096.size a ≤ S4096x4096.size a) ∧
  (∀ (hinb : ∀ a, (k0_off237 v2615) a + S32x4096.size a ≤ S4096x4096.size a), (Rect.unit (s := S4096x4096) (k0_off237 v2615) S32x4096.size hinb).WholeWords (EltTy.packing .i8)) ∧
  (∀ a, (k0_off410 v2615) a + S32x4096.size a ≤ S4096x4096.size a) ∧
  (∀ (hinb : ∀ a, (k0_off410 v2615) a + S32x4096.size a ≤ S4096x4096.size a), (Rect.unit (s := S4096x4096) (k0_off410 v2615) S32x4096.size hinb).WholeWords (EltTy.packing .i8))
theorem k0_off237_inb : ∀ (v2615 : BitVec 32) (k0_hw216 : k0_chk216 v2615), ∀ a, (k0_off237 v2615) a + S32x4096.size a ≤ S4096x4096.size a := fun v2615 k0_hw216 => k0_hw216.1
theorem k0_off237_wordsi8 : ∀ (v2615 : BitVec 32) (k0_hw216 : k0_chk216 v2615), (Rect.unit (s := S4096x4096) (k0_off237 v2615) S32x4096.size (k0_off237_inb v2615 k0_hw216)).WholeWords (EltTy.packing .i8) := fun v2615 k0_hw216 => k0_hw216.2.1 (k0_off237_inb v2615 k0_hw216)
theorem k0_off410_inb : ∀ (v2615 : BitVec 32) (k0_hw216 : k0_chk216 v2615), ∀ a, (k0_off410 v2615) a + S32x4096.size a ≤ S4096x4096.size a := fun v2615 k0_hw216 => k0_hw216.2.2.1
theorem k0_off410_wordsi8 : ∀ (v2615 : BitVec 32) (k0_hw216 : k0_chk216 v2615), (Rect.unit (s := S4096x4096) (k0_off410 v2615) S32x4096.size (k0_off410_inb v2615 k0_hw216)).WholeWords (EltTy.packing .i8) := fun v2615 k0_hw216 => k0_hw216.2.2.2 (k0_off410_inb v2615 k0_hw216)

def k0_off411 (v2639 : BitVec 32) : Fin 2 → Nat :=
  let c128_i32_2614 : BitVec 32 := 128#32
  let v2640 : BitVec 32 := Scalar.muli v2639 c128_i32_2614
  let c32_i32_2615 : BitVec 32 := 32#32
  let v2641 : BitVec 32 := Scalar.addi v2640 c32_i32_2615
  let c0_i32_4099 : BitVec 32 := 0#32
  ![v2641.toNat, 0]

def k0_chk218 (v2639 : BitVec 32) : Prop :=
  (∀ a, (k0_off239 v2639) a + S32x4096.size a ≤ S4096x4096.size a) ∧
  (∀ (hinb : ∀ a, (k0_off239 v2639) a + S32x4096.size a ≤ S4096x4096.size a), (Rect.unit (s := S4096x4096) (k0_off239 v2639) S32x4096.size hinb).WholeWords (EltTy.packing .i8)) ∧
  (∀ a, (k0_off411 v2639) a + S32x4096.size a ≤ S4096x4096.size a) ∧
  (∀ (hinb : ∀ a, (k0_off411 v2639) a + S32x4096.size a ≤ S4096x4096.size a), (Rect.unit (s := S4096x4096) (k0_off411 v2639) S32x4096.size hinb).WholeWords (EltTy.packing .i8))
theorem k0_off239_inb : ∀ (v2639 : BitVec 32) (k0_hw218 : k0_chk218 v2639), ∀ a, (k0_off239 v2639) a + S32x4096.size a ≤ S4096x4096.size a := fun v2639 k0_hw218 => k0_hw218.1
theorem k0_off239_wordsi8 : ∀ (v2639 : BitVec 32) (k0_hw218 : k0_chk218 v2639), (Rect.unit (s := S4096x4096) (k0_off239 v2639) S32x4096.size (k0_off239_inb v2639 k0_hw218)).WholeWords (EltTy.packing .i8) := fun v2639 k0_hw218 => k0_hw218.2.1 (k0_off239_inb v2639 k0_hw218)
theorem k0_off411_inb : ∀ (v2639 : BitVec 32) (k0_hw218 : k0_chk218 v2639), ∀ a, (k0_off411 v2639) a + S32x4096.size a ≤ S4096x4096.size a := fun v2639 k0_hw218 => k0_hw218.2.2.1
theorem k0_off411_wordsi8 : ∀ (v2639 : BitVec 32) (k0_hw218 : k0_chk218 v2639), (Rect.unit (s := S4096x4096) (k0_off411 v2639) S32x4096.size (k0_off411_inb v2639 k0_hw218)).WholeWords (EltTy.packing .i8) := fun v2639 k0_hw218 => k0_hw218.2.2.2 (k0_off411_inb v2639 k0_hw218)

def k0_off412 (v2663 : BitVec 32) : Fin 2 → Nat :=
  let c128_i32_2640 : BitVec 32 := 128#32
  let v2664 : BitVec 32 := Scalar.muli v2663 c128_i32_2640
  let c64_i32_2641 : BitVec 32 := 64#32
  let v2665 : BitVec 32 := Scalar.addi v2664 c64_i32_2641
  let c0_i32_4106 : BitVec 32 := 0#32
  ![v2665.toNat, 0]

def k0_chk220 (v2663 : BitVec 32) : Prop :=
  (∀ a, (k0_off241 v2663) a + S32x4096.size a ≤ S4096x4096.size a) ∧
  (∀ (hinb : ∀ a, (k0_off241 v2663) a + S32x4096.size a ≤ S4096x4096.size a), (Rect.unit (s := S4096x4096) (k0_off241 v2663) S32x4096.size hinb).WholeWords (EltTy.packing .i8)) ∧
  (∀ a, (k0_off412 v2663) a + S32x4096.size a ≤ S4096x4096.size a) ∧
  (∀ (hinb : ∀ a, (k0_off412 v2663) a + S32x4096.size a ≤ S4096x4096.size a), (Rect.unit (s := S4096x4096) (k0_off412 v2663) S32x4096.size hinb).WholeWords (EltTy.packing .i8))
theorem k0_off241_inb : ∀ (v2663 : BitVec 32) (k0_hw220 : k0_chk220 v2663), ∀ a, (k0_off241 v2663) a + S32x4096.size a ≤ S4096x4096.size a := fun v2663 k0_hw220 => k0_hw220.1
theorem k0_off241_wordsi8 : ∀ (v2663 : BitVec 32) (k0_hw220 : k0_chk220 v2663), (Rect.unit (s := S4096x4096) (k0_off241 v2663) S32x4096.size (k0_off241_inb v2663 k0_hw220)).WholeWords (EltTy.packing .i8) := fun v2663 k0_hw220 => k0_hw220.2.1 (k0_off241_inb v2663 k0_hw220)
theorem k0_off412_inb : ∀ (v2663 : BitVec 32) (k0_hw220 : k0_chk220 v2663), ∀ a, (k0_off412 v2663) a + S32x4096.size a ≤ S4096x4096.size a := fun v2663 k0_hw220 => k0_hw220.2.2.1
theorem k0_off412_wordsi8 : ∀ (v2663 : BitVec 32) (k0_hw220 : k0_chk220 v2663), (Rect.unit (s := S4096x4096) (k0_off412 v2663) S32x4096.size (k0_off412_inb v2663 k0_hw220)).WholeWords (EltTy.packing .i8) := fun v2663 k0_hw220 => k0_hw220.2.2.2 (k0_off412_inb v2663 k0_hw220)

def k0_off413 (v2687 : BitVec 32) : Fin 2 → Nat :=
  let c128_i32_2666 : BitVec 32 := 128#32
  let v2688 : BitVec 32 := Scalar.muli v2687 c128_i32_2666
  let c64_i32_2667 : BitVec 32 := 64#32
  let v2689 : BitVec 32 := Scalar.addi v2688 c64_i32_2667
  let c0_i32_4113 : BitVec 32 := 0#32
  ![v2689.toNat, 0]

def k0_chk222 (v2687 : BitVec 32) : Prop :=
  (∀ a, (k0_off243 v2687) a + S32x4096.size a ≤ S4096x4096.size a) ∧
  (∀ (hinb : ∀ a, (k0_off243 v2687) a + S32x4096.size a ≤ S4096x4096.size a), (Rect.unit (s := S4096x4096) (k0_off243 v2687) S32x4096.size hinb).WholeWords (EltTy.packing .i8)) ∧
  (∀ a, (k0_off413 v2687) a + S32x4096.size a ≤ S4096x4096.size a) ∧
  (∀ (hinb : ∀ a, (k0_off413 v2687) a + S32x4096.size a ≤ S4096x4096.size a), (Rect.unit (s := S4096x4096) (k0_off413 v2687) S32x4096.size hinb).WholeWords (EltTy.packing .i8))
theorem k0_off243_inb : ∀ (v2687 : BitVec 32) (k0_hw222 : k0_chk222 v2687), ∀ a, (k0_off243 v2687) a + S32x4096.size a ≤ S4096x4096.size a := fun v2687 k0_hw222 => k0_hw222.1
theorem k0_off243_wordsi8 : ∀ (v2687 : BitVec 32) (k0_hw222 : k0_chk222 v2687), (Rect.unit (s := S4096x4096) (k0_off243 v2687) S32x4096.size (k0_off243_inb v2687 k0_hw222)).WholeWords (EltTy.packing .i8) := fun v2687 k0_hw222 => k0_hw222.2.1 (k0_off243_inb v2687 k0_hw222)
theorem k0_off413_inb : ∀ (v2687 : BitVec 32) (k0_hw222 : k0_chk222 v2687), ∀ a, (k0_off413 v2687) a + S32x4096.size a ≤ S4096x4096.size a := fun v2687 k0_hw222 => k0_hw222.2.2.1
theorem k0_off413_wordsi8 : ∀ (v2687 : BitVec 32) (k0_hw222 : k0_chk222 v2687), (Rect.unit (s := S4096x4096) (k0_off413 v2687) S32x4096.size (k0_off413_inb v2687 k0_hw222)).WholeWords (EltTy.packing .i8) := fun v2687 k0_hw222 => k0_hw222.2.2.2 (k0_off413_inb v2687 k0_hw222)

def k0_off414 (v2711 : BitVec 32) : Fin 2 → Nat :=
  let c128_i32_2692 : BitVec 32 := 128#32
  let v2712 : BitVec 32 := Scalar.muli v2711 c128_i32_2692
  let c96_i32_2693 : BitVec 32 := 96#32
  let v2713 : BitVec 32 := Scalar.addi v2712 c96_i32_2693
  let c0_i32_4120 : BitVec 32 := 0#32
  ![v2713.toNat, 0]

def k0_chk224 (v2711 : BitVec 32) : Prop :=
  (∀ a, (k0_off245 v2711) a + S32x4096.size a ≤ S4096x4096.size a) ∧
  (∀ (hinb : ∀ a, (k0_off245 v2711) a + S32x4096.size a ≤ S4096x4096.size a), (Rect.unit (s := S4096x4096) (k0_off245 v2711) S32x4096.size hinb).WholeWords (EltTy.packing .i8)) ∧
  (∀ a, (k0_off414 v2711) a + S32x4096.size a ≤ S4096x4096.size a) ∧
  (∀ (hinb : ∀ a, (k0_off414 v2711) a + S32x4096.size a ≤ S4096x4096.size a), (Rect.unit (s := S4096x4096) (k0_off414 v2711) S32x4096.size hinb).WholeWords (EltTy.packing .i8))
theorem k0_off245_inb : ∀ (v2711 : BitVec 32) (k0_hw224 : k0_chk224 v2711), ∀ a, (k0_off245 v2711) a + S32x4096.size a ≤ S4096x4096.size a := fun v2711 k0_hw224 => k0_hw224.1
theorem k0_off245_wordsi8 : ∀ (v2711 : BitVec 32) (k0_hw224 : k0_chk224 v2711), (Rect.unit (s := S4096x4096) (k0_off245 v2711) S32x4096.size (k0_off245_inb v2711 k0_hw224)).WholeWords (EltTy.packing .i8) := fun v2711 k0_hw224 => k0_hw224.2.1 (k0_off245_inb v2711 k0_hw224)
theorem k0_off414_inb : ∀ (v2711 : BitVec 32) (k0_hw224 : k0_chk224 v2711), ∀ a, (k0_off414 v2711) a + S32x4096.size a ≤ S4096x4096.size a := fun v2711 k0_hw224 => k0_hw224.2.2.1
theorem k0_off414_wordsi8 : ∀ (v2711 : BitVec 32) (k0_hw224 : k0_chk224 v2711), (Rect.unit (s := S4096x4096) (k0_off414 v2711) S32x4096.size (k0_off414_inb v2711 k0_hw224)).WholeWords (EltTy.packing .i8) := fun v2711 k0_hw224 => k0_hw224.2.2.2 (k0_off414_inb v2711 k0_hw224)

def k0_off415 (v2735 : BitVec 32) : Fin 2 → Nat :=
  let c128_i32_2718 : BitVec 32 := 128#32
  let v2736 : BitVec 32 := Scalar.muli v2735 c128_i32_2718
  let c96_i32_2719 : BitVec 32 := 96#32
  let v2737 : BitVec 32 := Scalar.addi v2736 c96_i32_2719
  let c0_i32_4127 : BitVec 32 := 0#32
  ![v2737.toNat, 0]

def k0_chk226 (v2735 : BitVec 32) : Prop :=
  (∀ a, (k0_off247 v2735) a + S32x4096.size a ≤ S4096x4096.size a) ∧
  (∀ (hinb : ∀ a, (k0_off247 v2735) a + S32x4096.size a ≤ S4096x4096.size a), (Rect.unit (s := S4096x4096) (k0_off247 v2735) S32x4096.size hinb).WholeWords (EltTy.packing .i8)) ∧
  (∀ a, (k0_off415 v2735) a + S32x4096.size a ≤ S4096x4096.size a) ∧
  (∀ (hinb : ∀ a, (k0_off415 v2735) a + S32x4096.size a ≤ S4096x4096.size a), (Rect.unit (s := S4096x4096) (k0_off415 v2735) S32x4096.size hinb).WholeWords (EltTy.packing .i8))
theorem k0_off247_inb : ∀ (v2735 : BitVec 32) (k0_hw226 : k0_chk226 v2735), ∀ a, (k0_off247 v2735) a + S32x4096.size a ≤ S4096x4096.size a := fun v2735 k0_hw226 => k0_hw226.1
theorem k0_off247_wordsi8 : ∀ (v2735 : BitVec 32) (k0_hw226 : k0_chk226 v2735), (Rect.unit (s := S4096x4096) (k0_off247 v2735) S32x4096.size (k0_off247_inb v2735 k0_hw226)).WholeWords (EltTy.packing .i8) := fun v2735 k0_hw226 => k0_hw226.2.1 (k0_off247_inb v2735 k0_hw226)
theorem k0_off415_inb : ∀ (v2735 : BitVec 32) (k0_hw226 : k0_chk226 v2735), ∀ a, (k0_off415 v2735) a + S32x4096.size a ≤ S4096x4096.size a := fun v2735 k0_hw226 => k0_hw226.2.2.1
theorem k0_off415_wordsi8 : ∀ (v2735 : BitVec 32) (k0_hw226 : k0_chk226 v2735), (Rect.unit (s := S4096x4096) (k0_off415 v2735) S32x4096.size (k0_off415_inb v2735 k0_hw226)).WholeWords (EltTy.packing .i8) := fun v2735 k0_hw226 => k0_hw226.2.2.2 (k0_off415_inb v2735 k0_hw226)

def k0_off416 (v2787 : BitVec 32) : Fin 2 → Nat :=
  let c128_i32_2758 : BitVec 32 := 128#32
  let v2788 : BitVec 32 := Scalar.muli v2787 c128_i32_2758
  let c0_i32_2759 : BitVec 32 := 0#32
  let v2789 : BitVec 32 := Scalar.addi v2788 c0_i32_2759
  let c0_i32_4134 : BitVec 32 := 0#32
  ![v2789.toNat, 0]

def k0_chk230 (v2787 : BitVec 32) : Prop :=
  (∀ a, (k0_off253 v2787) a + S32x4096.size a ≤ S4096x4096.size a) ∧
  (∀ (hinb : ∀ a, (k0_off253 v2787) a + S32x4096.size a ≤ S4096x4096.size a), (Rect.unit (s := S4096x4096) (k0_off253 v2787) S32x4096.size hinb).WholeWords (EltTy.packing .i8)) ∧
  (∀ a, (k0_off416 v2787) a + S32x4096.size a ≤ S4096x4096.size a) ∧
  (∀ (hinb : ∀ a, (k0_off416 v2787) a + S32x4096.size a ≤ S4096x4096.size a), (Rect.unit (s := S4096x4096) (k0_off416 v2787) S32x4096.size hinb).WholeWords (EltTy.packing .i8))
theorem k0_off253_inb : ∀ (v2787 : BitVec 32) (k0_hw230 : k0_chk230 v2787), ∀ a, (k0_off253 v2787) a + S32x4096.size a ≤ S4096x4096.size a := fun v2787 k0_hw230 => k0_hw230.1
theorem k0_off253_wordsi8 : ∀ (v2787 : BitVec 32) (k0_hw230 : k0_chk230 v2787), (Rect.unit (s := S4096x4096) (k0_off253 v2787) S32x4096.size (k0_off253_inb v2787 k0_hw230)).WholeWords (EltTy.packing .i8) := fun v2787 k0_hw230 => k0_hw230.2.1 (k0_off253_inb v2787 k0_hw230)
theorem k0_off416_inb : ∀ (v2787 : BitVec 32) (k0_hw230 : k0_chk230 v2787), ∀ a, (k0_off416 v2787) a + S32x4096.size a ≤ S4096x4096.size a := fun v2787 k0_hw230 => k0_hw230.2.2.1
theorem k0_off416_wordsi8 : ∀ (v2787 : BitVec 32) (k0_hw230 : k0_chk230 v2787), (Rect.unit (s := S4096x4096) (k0_off416 v2787) S32x4096.size (k0_off416_inb v2787 k0_hw230)).WholeWords (EltTy.packing .i8) := fun v2787 k0_hw230 => k0_hw230.2.2.2 (k0_off416_inb v2787 k0_hw230)

def k0_off417 (v2811 : BitVec 32) : Fin 2 → Nat :=
  let c128_i32_2781 : BitVec 32 := 128#32
  let v2812 : BitVec 32 := Scalar.muli v2811 c128_i32_2781
  let c0_i32_2782 : BitVec 32 := 0#32
  let v2813 : BitVec 32 := Scalar.addi v2812 c0_i32_2782
  let c0_i32_4141 : BitVec 32 := 0#32
  ![v2813.toNat, 0]

def k0_chk232 (v2811 : BitVec 32) : Prop :=
  (∀ a, (k0_off255 v2811) a + S32x4096.size a ≤ S4096x4096.size a) ∧
  (∀ (hinb : ∀ a, (k0_off255 v2811) a + S32x4096.size a ≤ S4096x4096.size a), (Rect.unit (s := S4096x4096) (k0_off255 v2811) S32x4096.size hinb).WholeWords (EltTy.packing .i8)) ∧
  (∀ a, (k0_off417 v2811) a + S32x4096.size a ≤ S4096x4096.size a) ∧
  (∀ (hinb : ∀ a, (k0_off417 v2811) a + S32x4096.size a ≤ S4096x4096.size a), (Rect.unit (s := S4096x4096) (k0_off417 v2811) S32x4096.size hinb).WholeWords (EltTy.packing .i8))
theorem k0_off255_inb : ∀ (v2811 : BitVec 32) (k0_hw232 : k0_chk232 v2811), ∀ a, (k0_off255 v2811) a + S32x4096.size a ≤ S4096x4096.size a := fun v2811 k0_hw232 => k0_hw232.1
theorem k0_off255_wordsi8 : ∀ (v2811 : BitVec 32) (k0_hw232 : k0_chk232 v2811), (Rect.unit (s := S4096x4096) (k0_off255 v2811) S32x4096.size (k0_off255_inb v2811 k0_hw232)).WholeWords (EltTy.packing .i8) := fun v2811 k0_hw232 => k0_hw232.2.1 (k0_off255_inb v2811 k0_hw232)
theorem k0_off417_inb : ∀ (v2811 : BitVec 32) (k0_hw232 : k0_chk232 v2811), ∀ a, (k0_off417 v2811) a + S32x4096.size a ≤ S4096x4096.size a := fun v2811 k0_hw232 => k0_hw232.2.2.1
theorem k0_off417_wordsi8 : ∀ (v2811 : BitVec 32) (k0_hw232 : k0_chk232 v2811), (Rect.unit (s := S4096x4096) (k0_off417 v2811) S32x4096.size (k0_off417_inb v2811 k0_hw232)).WholeWords (EltTy.packing .i8) := fun v2811 k0_hw232 => k0_hw232.2.2.2 (k0_off417_inb v2811 k0_hw232)

def k0_off418 (v2835 : BitVec 32) : Fin 2 → Nat :=
  let c128_i32_2807 : BitVec 32 := 128#32
  let v2836 : BitVec 32 := Scalar.muli v2835 c128_i32_2807
  let c32_i32_2808 : BitVec 32 := 32#32
  let v2837 : BitVec 32 := Scalar.addi v2836 c32_i32_2808
  let c0_i32_4148 : BitVec 32 := 0#32
  ![v2837.toNat, 0]

def k0_chk234 (v2835 : BitVec 32) : Prop :=
  (∀ a, (k0_off257 v2835) a + S32x4096.size a ≤ S4096x4096.size a) ∧
  (∀ (hinb : ∀ a, (k0_off257 v2835) a + S32x4096.size a ≤ S4096x4096.size a), (Rect.unit (s := S4096x4096) (k0_off257 v2835) S32x4096.size hinb).WholeWords (EltTy.packing .i8)) ∧
  (∀ a, (k0_off418 v2835) a + S32x4096.size a ≤ S4096x4096.size a) ∧
  (∀ (hinb : ∀ a, (k0_off418 v2835) a + S32x4096.size a ≤ S4096x4096.size a), (Rect.unit (s := S4096x4096) (k0_off418 v2835) S32x4096.size hinb).WholeWords (EltTy.packing .i8))
theorem k0_off257_inb : ∀ (v2835 : BitVec 32) (k0_hw234 : k0_chk234 v2835), ∀ a, (k0_off257 v2835) a + S32x4096.size a ≤ S4096x4096.size a := fun v2835 k0_hw234 => k0_hw234.1
theorem k0_off257_wordsi8 : ∀ (v2835 : BitVec 32) (k0_hw234 : k0_chk234 v2835), (Rect.unit (s := S4096x4096) (k0_off257 v2835) S32x4096.size (k0_off257_inb v2835 k0_hw234)).WholeWords (EltTy.packing .i8) := fun v2835 k0_hw234 => k0_hw234.2.1 (k0_off257_inb v2835 k0_hw234)
theorem k0_off418_inb : ∀ (v2835 : BitVec 32) (k0_hw234 : k0_chk234 v2835), ∀ a, (k0_off418 v2835) a + S32x4096.size a ≤ S4096x4096.size a := fun v2835 k0_hw234 => k0_hw234.2.2.1
theorem k0_off418_wordsi8 : ∀ (v2835 : BitVec 32) (k0_hw234 : k0_chk234 v2835), (Rect.unit (s := S4096x4096) (k0_off418 v2835) S32x4096.size (k0_off418_inb v2835 k0_hw234)).WholeWords (EltTy.packing .i8) := fun v2835 k0_hw234 => k0_hw234.2.2.2 (k0_off418_inb v2835 k0_hw234)

def k0_off419 (v2859 : BitVec 32) : Fin 2 → Nat :=
  let c128_i32_2833 : BitVec 32 := 128#32
  let v2860 : BitVec 32 := Scalar.muli v2859 c128_i32_2833
  let c32_i32_2834 : BitVec 32 := 32#32
  let v2861 : BitVec 32 := Scalar.addi v2860 c32_i32_2834
  let c0_i32_4155 : BitVec 32 := 0#32
  ![v2861.toNat, 0]

def k0_chk236 (v2859 : BitVec 32) : Prop :=
  (∀ a, (k0_off259 v2859) a + S32x4096.size a ≤ S4096x4096.size a) ∧
  (∀ (hinb : ∀ a, (k0_off259 v2859) a + S32x4096.size a ≤ S4096x4096.size a), (Rect.unit (s := S4096x4096) (k0_off259 v2859) S32x4096.size hinb).WholeWords (EltTy.packing .i8)) ∧
  (∀ a, (k0_off419 v2859) a + S32x4096.size a ≤ S4096x4096.size a) ∧
  (∀ (hinb : ∀ a, (k0_off419 v2859) a + S32x4096.size a ≤ S4096x4096.size a), (Rect.unit (s := S4096x4096) (k0_off419 v2859) S32x4096.size hinb).WholeWords (EltTy.packing .i8))
theorem k0_off259_inb : ∀ (v2859 : BitVec 32) (k0_hw236 : k0_chk236 v2859), ∀ a, (k0_off259 v2859) a + S32x4096.size a ≤ S4096x4096.size a := fun v2859 k0_hw236 => k0_hw236.1
theorem k0_off259_wordsi8 : ∀ (v2859 : BitVec 32) (k0_hw236 : k0_chk236 v2859), (Rect.unit (s := S4096x4096) (k0_off259 v2859) S32x4096.size (k0_off259_inb v2859 k0_hw236)).WholeWords (EltTy.packing .i8) := fun v2859 k0_hw236 => k0_hw236.2.1 (k0_off259_inb v2859 k0_hw236)
theorem k0_off419_inb : ∀ (v2859 : BitVec 32) (k0_hw236 : k0_chk236 v2859), ∀ a, (k0_off419 v2859) a + S32x4096.size a ≤ S4096x4096.size a := fun v2859 k0_hw236 => k0_hw236.2.2.1
theorem k0_off419_wordsi8 : ∀ (v2859 : BitVec 32) (k0_hw236 : k0_chk236 v2859), (Rect.unit (s := S4096x4096) (k0_off419 v2859) S32x4096.size (k0_off419_inb v2859 k0_hw236)).WholeWords (EltTy.packing .i8) := fun v2859 k0_hw236 => k0_hw236.2.2.2 (k0_off419_inb v2859 k0_hw236)

def k0_off420 (v2883 : BitVec 32) : Fin 2 → Nat :=
  let c128_i32_2859 : BitVec 32 := 128#32
  let v2884 : BitVec 32 := Scalar.muli v2883 c128_i32_2859
  let c64_i32_2860 : BitVec 32 := 64#32
  let v2885 : BitVec 32 := Scalar.addi v2884 c64_i32_2860
  let c0_i32_4162 : BitVec 32 := 0#32
  ![v2885.toNat, 0]

def k0_chk238 (v2883 : BitVec 32) : Prop :=
  (∀ a, (k0_off261 v2883) a + S32x4096.size a ≤ S4096x4096.size a) ∧
  (∀ (hinb : ∀ a, (k0_off261 v2883) a + S32x4096.size a ≤ S4096x4096.size a), (Rect.unit (s := S4096x4096) (k0_off261 v2883) S32x4096.size hinb).WholeWords (EltTy.packing .i8)) ∧
  (∀ a, (k0_off420 v2883) a + S32x4096.size a ≤ S4096x4096.size a) ∧
  (∀ (hinb : ∀ a, (k0_off420 v2883) a + S32x4096.size a ≤ S4096x4096.size a), (Rect.unit (s := S4096x4096) (k0_off420 v2883) S32x4096.size hinb).WholeWords (EltTy.packing .i8))
theorem k0_off261_inb : ∀ (v2883 : BitVec 32) (k0_hw238 : k0_chk238 v2883), ∀ a, (k0_off261 v2883) a + S32x4096.size a ≤ S4096x4096.size a := fun v2883 k0_hw238 => k0_hw238.1
theorem k0_off261_wordsi8 : ∀ (v2883 : BitVec 32) (k0_hw238 : k0_chk238 v2883), (Rect.unit (s := S4096x4096) (k0_off261 v2883) S32x4096.size (k0_off261_inb v2883 k0_hw238)).WholeWords (EltTy.packing .i8) := fun v2883 k0_hw238 => k0_hw238.2.1 (k0_off261_inb v2883 k0_hw238)
theorem k0_off420_inb : ∀ (v2883 : BitVec 32) (k0_hw238 : k0_chk238 v2883), ∀ a, (k0_off420 v2883) a + S32x4096.size a ≤ S4096x4096.size a := fun v2883 k0_hw238 => k0_hw238.2.2.1
theorem k0_off420_wordsi8 : ∀ (v2883 : BitVec 32) (k0_hw238 : k0_chk238 v2883), (Rect.unit (s := S4096x4096) (k0_off420 v2883) S32x4096.size (k0_off420_inb v2883 k0_hw238)).WholeWords (EltTy.packing .i8) := fun v2883 k0_hw238 => k0_hw238.2.2.2 (k0_off420_inb v2883 k0_hw238)

def k0_off421 (v2907 : BitVec 32) : Fin 2 → Nat :=
  let c128_i32_2885 : BitVec 32 := 128#32
  let v2908 : BitVec 32 := Scalar.muli v2907 c128_i32_2885
  let c64_i32_2886 : BitVec 32 := 64#32
  let v2909 : BitVec 32 := Scalar.addi v2908 c64_i32_2886
  let c0_i32_4169 : BitVec 32 := 0#32
  ![v2909.toNat, 0]

def k0_chk240 (v2907 : BitVec 32) : Prop :=
  (∀ a, (k0_off263 v2907) a + S32x4096.size a ≤ S4096x4096.size a) ∧
  (∀ (hinb : ∀ a, (k0_off263 v2907) a + S32x4096.size a ≤ S4096x4096.size a), (Rect.unit (s := S4096x4096) (k0_off263 v2907) S32x4096.size hinb).WholeWords (EltTy.packing .i8)) ∧
  (∀ a, (k0_off421 v2907) a + S32x4096.size a ≤ S4096x4096.size a) ∧
  (∀ (hinb : ∀ a, (k0_off421 v2907) a + S32x4096.size a ≤ S4096x4096.size a), (Rect.unit (s := S4096x4096) (k0_off421 v2907) S32x4096.size hinb).WholeWords (EltTy.packing .i8))
theorem k0_off263_inb : ∀ (v2907 : BitVec 32) (k0_hw240 : k0_chk240 v2907), ∀ a, (k0_off263 v2907) a + S32x4096.size a ≤ S4096x4096.size a := fun v2907 k0_hw240 => k0_hw240.1
theorem k0_off263_wordsi8 : ∀ (v2907 : BitVec 32) (k0_hw240 : k0_chk240 v2907), (Rect.unit (s := S4096x4096) (k0_off263 v2907) S32x4096.size (k0_off263_inb v2907 k0_hw240)).WholeWords (EltTy.packing .i8) := fun v2907 k0_hw240 => k0_hw240.2.1 (k0_off263_inb v2907 k0_hw240)
theorem k0_off421_inb : ∀ (v2907 : BitVec 32) (k0_hw240 : k0_chk240 v2907), ∀ a, (k0_off421 v2907) a + S32x4096.size a ≤ S4096x4096.size a := fun v2907 k0_hw240 => k0_hw240.2.2.1
theorem k0_off421_wordsi8 : ∀ (v2907 : BitVec 32) (k0_hw240 : k0_chk240 v2907), (Rect.unit (s := S4096x4096) (k0_off421 v2907) S32x4096.size (k0_off421_inb v2907 k0_hw240)).WholeWords (EltTy.packing .i8) := fun v2907 k0_hw240 => k0_hw240.2.2.2 (k0_off421_inb v2907 k0_hw240)

def k0_off422 (v2931 : BitVec 32) : Fin 2 → Nat :=
  let c128_i32_2911 : BitVec 32 := 128#32
  let v2932 : BitVec 32 := Scalar.muli v2931 c128_i32_2911
  let c96_i32_2912 : BitVec 32 := 96#32
  let v2933 : BitVec 32 := Scalar.addi v2932 c96_i32_2912
  let c0_i32_4176 : BitVec 32 := 0#32
  ![v2933.toNat, 0]

def k0_chk242 (v2931 : BitVec 32) : Prop :=
  (∀ a, (k0_off265 v2931) a + S32x4096.size a ≤ S4096x4096.size a) ∧
  (∀ (hinb : ∀ a, (k0_off265 v2931) a + S32x4096.size a ≤ S4096x4096.size a), (Rect.unit (s := S4096x4096) (k0_off265 v2931) S32x4096.size hinb).WholeWords (EltTy.packing .i8)) ∧
  (∀ a, (k0_off422 v2931) a + S32x4096.size a ≤ S4096x4096.size a) ∧
  (∀ (hinb : ∀ a, (k0_off422 v2931) a + S32x4096.size a ≤ S4096x4096.size a), (Rect.unit (s := S4096x4096) (k0_off422 v2931) S32x4096.size hinb).WholeWords (EltTy.packing .i8))
theorem k0_off265_inb : ∀ (v2931 : BitVec 32) (k0_hw242 : k0_chk242 v2931), ∀ a, (k0_off265 v2931) a + S32x4096.size a ≤ S4096x4096.size a := fun v2931 k0_hw242 => k0_hw242.1
theorem k0_off265_wordsi8 : ∀ (v2931 : BitVec 32) (k0_hw242 : k0_chk242 v2931), (Rect.unit (s := S4096x4096) (k0_off265 v2931) S32x4096.size (k0_off265_inb v2931 k0_hw242)).WholeWords (EltTy.packing .i8) := fun v2931 k0_hw242 => k0_hw242.2.1 (k0_off265_inb v2931 k0_hw242)
theorem k0_off422_inb : ∀ (v2931 : BitVec 32) (k0_hw242 : k0_chk242 v2931), ∀ a, (k0_off422 v2931) a + S32x4096.size a ≤ S4096x4096.size a := fun v2931 k0_hw242 => k0_hw242.2.2.1
theorem k0_off422_wordsi8 : ∀ (v2931 : BitVec 32) (k0_hw242 : k0_chk242 v2931), (Rect.unit (s := S4096x4096) (k0_off422 v2931) S32x4096.size (k0_off422_inb v2931 k0_hw242)).WholeWords (EltTy.packing .i8) := fun v2931 k0_hw242 => k0_hw242.2.2.2 (k0_off422_inb v2931 k0_hw242)

def k0_off423 (v2955 : BitVec 32) : Fin 2 → Nat :=
  let c128_i32_2937 : BitVec 32 := 128#32
  let v2956 : BitVec 32 := Scalar.muli v2955 c128_i32_2937
  let c96_i32_2938 : BitVec 32 := 96#32
  let v2957 : BitVec 32 := Scalar.addi v2956 c96_i32_2938
  let c0_i32_4183 : BitVec 32 := 0#32
  ![v2957.toNat, 0]

def k0_chk244 (v2955 : BitVec 32) : Prop :=
  (∀ a, (k0_off267 v2955) a + S32x4096.size a ≤ S4096x4096.size a) ∧
  (∀ (hinb : ∀ a, (k0_off267 v2955) a + S32x4096.size a ≤ S4096x4096.size a), (Rect.unit (s := S4096x4096) (k0_off267 v2955) S32x4096.size hinb).WholeWords (EltTy.packing .i8)) ∧
  (∀ a, (k0_off423 v2955) a + S32x4096.size a ≤ S4096x4096.size a) ∧
  (∀ (hinb : ∀ a, (k0_off423 v2955) a + S32x4096.size a ≤ S4096x4096.size a), (Rect.unit (s := S4096x4096) (k0_off423 v2955) S32x4096.size hinb).WholeWords (EltTy.packing .i8))
theorem k0_off267_inb : ∀ (v2955 : BitVec 32) (k0_hw244 : k0_chk244 v2955), ∀ a, (k0_off267 v2955) a + S32x4096.size a ≤ S4096x4096.size a := fun v2955 k0_hw244 => k0_hw244.1
theorem k0_off267_wordsi8 : ∀ (v2955 : BitVec 32) (k0_hw244 : k0_chk244 v2955), (Rect.unit (s := S4096x4096) (k0_off267 v2955) S32x4096.size (k0_off267_inb v2955 k0_hw244)).WholeWords (EltTy.packing .i8) := fun v2955 k0_hw244 => k0_hw244.2.1 (k0_off267_inb v2955 k0_hw244)
theorem k0_off423_inb : ∀ (v2955 : BitVec 32) (k0_hw244 : k0_chk244 v2955), ∀ a, (k0_off423 v2955) a + S32x4096.size a ≤ S4096x4096.size a := fun v2955 k0_hw244 => k0_hw244.2.2.1
theorem k0_off423_wordsi8 : ∀ (v2955 : BitVec 32) (k0_hw244 : k0_chk244 v2955), (Rect.unit (s := S4096x4096) (k0_off423 v2955) S32x4096.size (k0_off423_inb v2955 k0_hw244)).WholeWords (EltTy.packing .i8) := fun v2955 k0_hw244 => k0_hw244.2.2.2 (k0_off423_inb v2955 k0_hw244)

def k0_off424 (v3007 : BitVec 32) : Fin 2 → Nat :=
  let c128_i32_2977 : BitVec 32 := 128#32
  let v3008 : BitVec 32 := Scalar.muli v3007 c128_i32_2977
  let c0_i32_2978 : BitVec 32 := 0#32
  let v3009 : BitVec 32 := Scalar.addi v3008 c0_i32_2978
  let c0_i32_4190 : BitVec 32 := 0#32
  ![v3009.toNat, 0]

def k0_chk248 (v3007 : BitVec 32) : Prop :=
  (∀ a, (k0_off273 v3007) a + S32x4096.size a ≤ S4096x4096.size a) ∧
  (∀ (hinb : ∀ a, (k0_off273 v3007) a + S32x4096.size a ≤ S4096x4096.size a), (Rect.unit (s := S4096x4096) (k0_off273 v3007) S32x4096.size hinb).WholeWords (EltTy.packing .i8)) ∧
  (∀ a, (k0_off424 v3007) a + S32x4096.size a ≤ S4096x4096.size a) ∧
  (∀ (hinb : ∀ a, (k0_off424 v3007) a + S32x4096.size a ≤ S4096x4096.size a), (Rect.unit (s := S4096x4096) (k0_off424 v3007) S32x4096.size hinb).WholeWords (EltTy.packing .i8))
theorem k0_off273_inb : ∀ (v3007 : BitVec 32) (k0_hw248 : k0_chk248 v3007), ∀ a, (k0_off273 v3007) a + S32x4096.size a ≤ S4096x4096.size a := fun v3007 k0_hw248 => k0_hw248.1
theorem k0_off273_wordsi8 : ∀ (v3007 : BitVec 32) (k0_hw248 : k0_chk248 v3007), (Rect.unit (s := S4096x4096) (k0_off273 v3007) S32x4096.size (k0_off273_inb v3007 k0_hw248)).WholeWords (EltTy.packing .i8) := fun v3007 k0_hw248 => k0_hw248.2.1 (k0_off273_inb v3007 k0_hw248)
theorem k0_off424_inb : ∀ (v3007 : BitVec 32) (k0_hw248 : k0_chk248 v3007), ∀ a, (k0_off424 v3007) a + S32x4096.size a ≤ S4096x4096.size a := fun v3007 k0_hw248 => k0_hw248.2.2.1
theorem k0_off424_wordsi8 : ∀ (v3007 : BitVec 32) (k0_hw248 : k0_chk248 v3007), (Rect.unit (s := S4096x4096) (k0_off424 v3007) S32x4096.size (k0_off424_inb v3007 k0_hw248)).WholeWords (EltTy.packing .i8) := fun v3007 k0_hw248 => k0_hw248.2.2.2 (k0_off424_inb v3007 k0_hw248)

def k0_off425 (v3031 : BitVec 32) : Fin 2 → Nat :=
  let c128_i32_3000 : BitVec 32 := 128#32
  let v3032 : BitVec 32 := Scalar.muli v3031 c128_i32_3000
  let c0_i32_3001 : BitVec 32 := 0#32
  let v3033 : BitVec 32 := Scalar.addi v3032 c0_i32_3001
  let c0_i32_4197 : BitVec 32 := 0#32
  ![v3033.toNat, 0]

def k0_chk250 (v3031 : BitVec 32) : Prop :=
  (∀ a, (k0_off275 v3031) a + S32x4096.size a ≤ S4096x4096.size a) ∧
  (∀ (hinb : ∀ a, (k0_off275 v3031) a + S32x4096.size a ≤ S4096x4096.size a), (Rect.unit (s := S4096x4096) (k0_off275 v3031) S32x4096.size hinb).WholeWords (EltTy.packing .i8)) ∧
  (∀ a, (k0_off425 v3031) a + S32x4096.size a ≤ S4096x4096.size a) ∧
  (∀ (hinb : ∀ a, (k0_off425 v3031) a + S32x4096.size a ≤ S4096x4096.size a), (Rect.unit (s := S4096x4096) (k0_off425 v3031) S32x4096.size hinb).WholeWords (EltTy.packing .i8))
theorem k0_off275_inb : ∀ (v3031 : BitVec 32) (k0_hw250 : k0_chk250 v3031), ∀ a, (k0_off275 v3031) a + S32x4096.size a ≤ S4096x4096.size a := fun v3031 k0_hw250 => k0_hw250.1
theorem k0_off275_wordsi8 : ∀ (v3031 : BitVec 32) (k0_hw250 : k0_chk250 v3031), (Rect.unit (s := S4096x4096) (k0_off275 v3031) S32x4096.size (k0_off275_inb v3031 k0_hw250)).WholeWords (EltTy.packing .i8) := fun v3031 k0_hw250 => k0_hw250.2.1 (k0_off275_inb v3031 k0_hw250)
theorem k0_off425_inb : ∀ (v3031 : BitVec 32) (k0_hw250 : k0_chk250 v3031), ∀ a, (k0_off425 v3031) a + S32x4096.size a ≤ S4096x4096.size a := fun v3031 k0_hw250 => k0_hw250.2.2.1
theorem k0_off425_wordsi8 : ∀ (v3031 : BitVec 32) (k0_hw250 : k0_chk250 v3031), (Rect.unit (s := S4096x4096) (k0_off425 v3031) S32x4096.size (k0_off425_inb v3031 k0_hw250)).WholeWords (EltTy.packing .i8) := fun v3031 k0_hw250 => k0_hw250.2.2.2 (k0_off425_inb v3031 k0_hw250)

def k0_off426 (v3055 : BitVec 32) : Fin 2 → Nat :=
  let c128_i32_3026 : BitVec 32 := 128#32
  let v3056 : BitVec 32 := Scalar.muli v3055 c128_i32_3026
  let c32_i32_3027 : BitVec 32 := 32#32
  let v3057 : BitVec 32 := Scalar.addi v3056 c32_i32_3027
  let c0_i32_4204 : BitVec 32 := 0#32
  ![v3057.toNat, 0]

def k0_chk252 (v3055 : BitVec 32) : Prop :=
  (∀ a, (k0_off277 v3055) a + S32x4096.size a ≤ S4096x4096.size a) ∧
  (∀ (hinb : ∀ a, (k0_off277 v3055) a + S32x4096.size a ≤ S4096x4096.size a), (Rect.unit (s := S4096x4096) (k0_off277 v3055) S32x4096.size hinb).WholeWords (EltTy.packing .i8)) ∧
  (∀ a, (k0_off426 v3055) a + S32x4096.size a ≤ S4096x4096.size a) ∧
  (∀ (hinb : ∀ a, (k0_off426 v3055) a + S32x4096.size a ≤ S4096x4096.size a), (Rect.unit (s := S4096x4096) (k0_off426 v3055) S32x4096.size hinb).WholeWords (EltTy.packing .i8))
theorem k0_off277_inb : ∀ (v3055 : BitVec 32) (k0_hw252 : k0_chk252 v3055), ∀ a, (k0_off277 v3055) a + S32x4096.size a ≤ S4096x4096.size a := fun v3055 k0_hw252 => k0_hw252.1
theorem k0_off277_wordsi8 : ∀ (v3055 : BitVec 32) (k0_hw252 : k0_chk252 v3055), (Rect.unit (s := S4096x4096) (k0_off277 v3055) S32x4096.size (k0_off277_inb v3055 k0_hw252)).WholeWords (EltTy.packing .i8) := fun v3055 k0_hw252 => k0_hw252.2.1 (k0_off277_inb v3055 k0_hw252)
theorem k0_off426_inb : ∀ (v3055 : BitVec 32) (k0_hw252 : k0_chk252 v3055), ∀ a, (k0_off426 v3055) a + S32x4096.size a ≤ S4096x4096.size a := fun v3055 k0_hw252 => k0_hw252.2.2.1
theorem k0_off426_wordsi8 : ∀ (v3055 : BitVec 32) (k0_hw252 : k0_chk252 v3055), (Rect.unit (s := S4096x4096) (k0_off426 v3055) S32x4096.size (k0_off426_inb v3055 k0_hw252)).WholeWords (EltTy.packing .i8) := fun v3055 k0_hw252 => k0_hw252.2.2.2 (k0_off426_inb v3055 k0_hw252)

def k0_off427 (v3079 : BitVec 32) : Fin 2 → Nat :=
  let c128_i32_3052 : BitVec 32 := 128#32
  let v3080 : BitVec 32 := Scalar.muli v3079 c128_i32_3052
  let c32_i32_3053 : BitVec 32 := 32#32
  let v3081 : BitVec 32 := Scalar.addi v3080 c32_i32_3053
  let c0_i32_4211 : BitVec 32 := 0#32
  ![v3081.toNat, 0]

def k0_chk254 (v3079 : BitVec 32) : Prop :=
  (∀ a, (k0_off279 v3079) a + S32x4096.size a ≤ S4096x4096.size a) ∧
  (∀ (hinb : ∀ a, (k0_off279 v3079) a + S32x4096.size a ≤ S4096x4096.size a), (Rect.unit (s := S4096x4096) (k0_off279 v3079) S32x4096.size hinb).WholeWords (EltTy.packing .i8)) ∧
  (∀ a, (k0_off427 v3079) a + S32x4096.size a ≤ S4096x4096.size a) ∧
  (∀ (hinb : ∀ a, (k0_off427 v3079) a + S32x4096.size a ≤ S4096x4096.size a), (Rect.unit (s := S4096x4096) (k0_off427 v3079) S32x4096.size hinb).WholeWords (EltTy.packing .i8))
theorem k0_off279_inb : ∀ (v3079 : BitVec 32) (k0_hw254 : k0_chk254 v3079), ∀ a, (k0_off279 v3079) a + S32x4096.size a ≤ S4096x4096.size a := fun v3079 k0_hw254 => k0_hw254.1
theorem k0_off279_wordsi8 : ∀ (v3079 : BitVec 32) (k0_hw254 : k0_chk254 v3079), (Rect.unit (s := S4096x4096) (k0_off279 v3079) S32x4096.size (k0_off279_inb v3079 k0_hw254)).WholeWords (EltTy.packing .i8) := fun v3079 k0_hw254 => k0_hw254.2.1 (k0_off279_inb v3079 k0_hw254)
theorem k0_off427_inb : ∀ (v3079 : BitVec 32) (k0_hw254 : k0_chk254 v3079), ∀ a, (k0_off427 v3079) a + S32x4096.size a ≤ S4096x4096.size a := fun v3079 k0_hw254 => k0_hw254.2.2.1
theorem k0_off427_wordsi8 : ∀ (v3079 : BitVec 32) (k0_hw254 : k0_chk254 v3079), (Rect.unit (s := S4096x4096) (k0_off427 v3079) S32x4096.size (k0_off427_inb v3079 k0_hw254)).WholeWords (EltTy.packing .i8) := fun v3079 k0_hw254 => k0_hw254.2.2.2 (k0_off427_inb v3079 k0_hw254)

def k0_off428 (v3103 : BitVec 32) : Fin 2 → Nat :=
  let c128_i32_3078 : BitVec 32 := 128#32
  let v3104 : BitVec 32 := Scalar.muli v3103 c128_i32_3078
  let c64_i32_3079 : BitVec 32 := 64#32
  let v3105 : BitVec 32 := Scalar.addi v3104 c64_i32_3079
  let c0_i32_4218 : BitVec 32 := 0#32
  ![v3105.toNat, 0]

def k0_chk256 (v3103 : BitVec 32) : Prop :=
  (∀ a, (k0_off281 v3103) a + S32x4096.size a ≤ S4096x4096.size a) ∧
  (∀ (hinb : ∀ a, (k0_off281 v3103) a + S32x4096.size a ≤ S4096x4096.size a), (Rect.unit (s := S4096x4096) (k0_off281 v3103) S32x4096.size hinb).WholeWords (EltTy.packing .i8)) ∧
  (∀ a, (k0_off428 v3103) a + S32x4096.size a ≤ S4096x4096.size a) ∧
  (∀ (hinb : ∀ a, (k0_off428 v3103) a + S32x4096.size a ≤ S4096x4096.size a), (Rect.unit (s := S4096x4096) (k0_off428 v3103) S32x4096.size hinb).WholeWords (EltTy.packing .i8))
theorem k0_off281_inb : ∀ (v3103 : BitVec 32) (k0_hw256 : k0_chk256 v3103), ∀ a, (k0_off281 v3103) a + S32x4096.size a ≤ S4096x4096.size a := fun v3103 k0_hw256 => k0_hw256.1
theorem k0_off281_wordsi8 : ∀ (v3103 : BitVec 32) (k0_hw256 : k0_chk256 v3103), (Rect.unit (s := S4096x4096) (k0_off281 v3103) S32x4096.size (k0_off281_inb v3103 k0_hw256)).WholeWords (EltTy.packing .i8) := fun v3103 k0_hw256 => k0_hw256.2.1 (k0_off281_inb v3103 k0_hw256)
theorem k0_off428_inb : ∀ (v3103 : BitVec 32) (k0_hw256 : k0_chk256 v3103), ∀ a, (k0_off428 v3103) a + S32x4096.size a ≤ S4096x4096.size a := fun v3103 k0_hw256 => k0_hw256.2.2.1
theorem k0_off428_wordsi8 : ∀ (v3103 : BitVec 32) (k0_hw256 : k0_chk256 v3103), (Rect.unit (s := S4096x4096) (k0_off428 v3103) S32x4096.size (k0_off428_inb v3103 k0_hw256)).WholeWords (EltTy.packing .i8) := fun v3103 k0_hw256 => k0_hw256.2.2.2 (k0_off428_inb v3103 k0_hw256)

def k0_off429 (v3127 : BitVec 32) : Fin 2 → Nat :=
  let c128_i32_3104 : BitVec 32 := 128#32
  let v3128 : BitVec 32 := Scalar.muli v3127 c128_i32_3104
  let c64_i32_3105 : BitVec 32 := 64#32
  let v3129 : BitVec 32 := Scalar.addi v3128 c64_i32_3105
  let c0_i32_4225 : BitVec 32 := 0#32
  ![v3129.toNat, 0]

def k0_chk258 (v3127 : BitVec 32) : Prop :=
  (∀ a, (k0_off283 v3127) a + S32x4096.size a ≤ S4096x4096.size a) ∧
  (∀ (hinb : ∀ a, (k0_off283 v3127) a + S32x4096.size a ≤ S4096x4096.size a), (Rect.unit (s := S4096x4096) (k0_off283 v3127) S32x4096.size hinb).WholeWords (EltTy.packing .i8)) ∧
  (∀ a, (k0_off429 v3127) a + S32x4096.size a ≤ S4096x4096.size a) ∧
  (∀ (hinb : ∀ a, (k0_off429 v3127) a + S32x4096.size a ≤ S4096x4096.size a), (Rect.unit (s := S4096x4096) (k0_off429 v3127) S32x4096.size hinb).WholeWords (EltTy.packing .i8))
theorem k0_off283_inb : ∀ (v3127 : BitVec 32) (k0_hw258 : k0_chk258 v3127), ∀ a, (k0_off283 v3127) a + S32x4096.size a ≤ S4096x4096.size a := fun v3127 k0_hw258 => k0_hw258.1
theorem k0_off283_wordsi8 : ∀ (v3127 : BitVec 32) (k0_hw258 : k0_chk258 v3127), (Rect.unit (s := S4096x4096) (k0_off283 v3127) S32x4096.size (k0_off283_inb v3127 k0_hw258)).WholeWords (EltTy.packing .i8) := fun v3127 k0_hw258 => k0_hw258.2.1 (k0_off283_inb v3127 k0_hw258)
theorem k0_off429_inb : ∀ (v3127 : BitVec 32) (k0_hw258 : k0_chk258 v3127), ∀ a, (k0_off429 v3127) a + S32x4096.size a ≤ S4096x4096.size a := fun v3127 k0_hw258 => k0_hw258.2.2.1
theorem k0_off429_wordsi8 : ∀ (v3127 : BitVec 32) (k0_hw258 : k0_chk258 v3127), (Rect.unit (s := S4096x4096) (k0_off429 v3127) S32x4096.size (k0_off429_inb v3127 k0_hw258)).WholeWords (EltTy.packing .i8) := fun v3127 k0_hw258 => k0_hw258.2.2.2 (k0_off429_inb v3127 k0_hw258)

def k0_off430 (v3151 : BitVec 32) : Fin 2 → Nat :=
  let c128_i32_3130 : BitVec 32 := 128#32
  let v3152 : BitVec 32 := Scalar.muli v3151 c128_i32_3130
  let c96_i32_3131 : BitVec 32 := 96#32
  let v3153 : BitVec 32 := Scalar.addi v3152 c96_i32_3131
  let c0_i32_4232 : BitVec 32 := 0#32
  ![v3153.toNat, 0]

def k0_chk260 (v3151 : BitVec 32) : Prop :=
  (∀ a, (k0_off285 v3151) a + S32x4096.size a ≤ S4096x4096.size a) ∧
  (∀ (hinb : ∀ a, (k0_off285 v3151) a + S32x4096.size a ≤ S4096x4096.size a), (Rect.unit (s := S4096x4096) (k0_off285 v3151) S32x4096.size hinb).WholeWords (EltTy.packing .i8)) ∧
  (∀ a, (k0_off430 v3151) a + S32x4096.size a ≤ S4096x4096.size a) ∧
  (∀ (hinb : ∀ a, (k0_off430 v3151) a + S32x4096.size a ≤ S4096x4096.size a), (Rect.unit (s := S4096x4096) (k0_off430 v3151) S32x4096.size hinb).WholeWords (EltTy.packing .i8))
theorem k0_off285_inb : ∀ (v3151 : BitVec 32) (k0_hw260 : k0_chk260 v3151), ∀ a, (k0_off285 v3151) a + S32x4096.size a ≤ S4096x4096.size a := fun v3151 k0_hw260 => k0_hw260.1
theorem k0_off285_wordsi8 : ∀ (v3151 : BitVec 32) (k0_hw260 : k0_chk260 v3151), (Rect.unit (s := S4096x4096) (k0_off285 v3151) S32x4096.size (k0_off285_inb v3151 k0_hw260)).WholeWords (EltTy.packing .i8) := fun v3151 k0_hw260 => k0_hw260.2.1 (k0_off285_inb v3151 k0_hw260)
theorem k0_off430_inb : ∀ (v3151 : BitVec 32) (k0_hw260 : k0_chk260 v3151), ∀ a, (k0_off430 v3151) a + S32x4096.size a ≤ S4096x4096.size a := fun v3151 k0_hw260 => k0_hw260.2.2.1
theorem k0_off430_wordsi8 : ∀ (v3151 : BitVec 32) (k0_hw260 : k0_chk260 v3151), (Rect.unit (s := S4096x4096) (k0_off430 v3151) S32x4096.size (k0_off430_inb v3151 k0_hw260)).WholeWords (EltTy.packing .i8) := fun v3151 k0_hw260 => k0_hw260.2.2.2 (k0_off430_inb v3151 k0_hw260)

def k0_off431 (v3175 : BitVec 32) : Fin 2 → Nat :=
  let c128_i32_3156 : BitVec 32 := 128#32
  let v3176 : BitVec 32 := Scalar.muli v3175 c128_i32_3156
  let c96_i32_3157 : BitVec 32 := 96#32
  let v3177 : BitVec 32 := Scalar.addi v3176 c96_i32_3157
  let c0_i32_4239 : BitVec 32 := 0#32
  ![v3177.toNat, 0]

def k0_chk262 (v3175 : BitVec 32) : Prop :=
  (∀ a, (k0_off287 v3175) a + S32x4096.size a ≤ S4096x4096.size a) ∧
  (∀ (hinb : ∀ a, (k0_off287 v3175) a + S32x4096.size a ≤ S4096x4096.size a), (Rect.unit (s := S4096x4096) (k0_off287 v3175) S32x4096.size hinb).WholeWords (EltTy.packing .i8)) ∧
  (∀ a, (k0_off431 v3175) a + S32x4096.size a ≤ S4096x4096.size a) ∧
  (∀ (hinb : ∀ a, (k0_off431 v3175) a + S32x4096.size a ≤ S4096x4096.size a), (Rect.unit (s := S4096x4096) (k0_off431 v3175) S32x4096.size hinb).WholeWords (EltTy.packing .i8))
theorem k0_off287_inb : ∀ (v3175 : BitVec 32) (k0_hw262 : k0_chk262 v3175), ∀ a, (k0_off287 v3175) a + S32x4096.size a ≤ S4096x4096.size a := fun v3175 k0_hw262 => k0_hw262.1
theorem k0_off287_wordsi8 : ∀ (v3175 : BitVec 32) (k0_hw262 : k0_chk262 v3175), (Rect.unit (s := S4096x4096) (k0_off287 v3175) S32x4096.size (k0_off287_inb v3175 k0_hw262)).WholeWords (EltTy.packing .i8) := fun v3175 k0_hw262 => k0_hw262.2.1 (k0_off287_inb v3175 k0_hw262)
theorem k0_off431_inb : ∀ (v3175 : BitVec 32) (k0_hw262 : k0_chk262 v3175), ∀ a, (k0_off431 v3175) a + S32x4096.size a ≤ S4096x4096.size a := fun v3175 k0_hw262 => k0_hw262.2.2.1
theorem k0_off431_wordsi8 : ∀ (v3175 : BitVec 32) (k0_hw262 : k0_chk262 v3175), (Rect.unit (s := S4096x4096) (k0_off431 v3175) S32x4096.size (k0_off431_inb v3175 k0_hw262)).WholeWords (EltTy.packing .i8) := fun v3175 k0_hw262 => k0_hw262.2.2.2 (k0_off431_inb v3175 k0_hw262)

def k0_off432 (v3227 : BitVec 32) : Fin 2 → Nat :=
  let c128_i32_3196 : BitVec 32 := 128#32
  let v3228 : BitVec 32 := Scalar.muli v3227 c128_i32_3196
  let c0_i32_3197 : BitVec 32 := 0#32
  let v3229 : BitVec 32 := Scalar.addi v3228 c0_i32_3197
  let c0_i32_4246 : BitVec 32 := 0#32
  ![v3229.toNat, 0]

def k0_chk266 (v3227 : BitVec 32) : Prop :=
  (∀ a, (k0_off293 v3227) a + S32x4096.size a ≤ S4096x4096.size a) ∧
  (∀ (hinb : ∀ a, (k0_off293 v3227) a + S32x4096.size a ≤ S4096x4096.size a), (Rect.unit (s := S4096x4096) (k0_off293 v3227) S32x4096.size hinb).WholeWords (EltTy.packing .i8)) ∧
  (∀ a, (k0_off432 v3227) a + S32x4096.size a ≤ S4096x4096.size a) ∧
  (∀ (hinb : ∀ a, (k0_off432 v3227) a + S32x4096.size a ≤ S4096x4096.size a), (Rect.unit (s := S4096x4096) (k0_off432 v3227) S32x4096.size hinb).WholeWords (EltTy.packing .i8))
theorem k0_off293_inb : ∀ (v3227 : BitVec 32) (k0_hw266 : k0_chk266 v3227), ∀ a, (k0_off293 v3227) a + S32x4096.size a ≤ S4096x4096.size a := fun v3227 k0_hw266 => k0_hw266.1
theorem k0_off293_wordsi8 : ∀ (v3227 : BitVec 32) (k0_hw266 : k0_chk266 v3227), (Rect.unit (s := S4096x4096) (k0_off293 v3227) S32x4096.size (k0_off293_inb v3227 k0_hw266)).WholeWords (EltTy.packing .i8) := fun v3227 k0_hw266 => k0_hw266.2.1 (k0_off293_inb v3227 k0_hw266)
theorem k0_off432_inb : ∀ (v3227 : BitVec 32) (k0_hw266 : k0_chk266 v3227), ∀ a, (k0_off432 v3227) a + S32x4096.size a ≤ S4096x4096.size a := fun v3227 k0_hw266 => k0_hw266.2.2.1
theorem k0_off432_wordsi8 : ∀ (v3227 : BitVec 32) (k0_hw266 : k0_chk266 v3227), (Rect.unit (s := S4096x4096) (k0_off432 v3227) S32x4096.size (k0_off432_inb v3227 k0_hw266)).WholeWords (EltTy.packing .i8) := fun v3227 k0_hw266 => k0_hw266.2.2.2 (k0_off432_inb v3227 k0_hw266)

def k0_off433 (v3262 : BitVec 32) : Fin 2 → Nat :=
  let c128_i32_3233 : BitVec 32 := 128#32
  let v3263 : BitVec 32 := Scalar.muli v3262 c128_i32_3233
  let c32_i32_3234 : BitVec 32 := 32#32
  let v3264 : BitVec 32 := Scalar.addi v3263 c32_i32_3234
  let c0_i32_4253 : BitVec 32 := 0#32
  ![v3264.toNat, 0]

def k0_chk269 (v3262 : BitVec 32) : Prop :=
  (∀ a, (k0_off296 v3262) a + S32x4096.size a ≤ S4096x4096.size a) ∧
  (∀ (hinb : ∀ a, (k0_off296 v3262) a + S32x4096.size a ≤ S4096x4096.size a), (Rect.unit (s := S4096x4096) (k0_off296 v3262) S32x4096.size hinb).WholeWords (EltTy.packing .i8)) ∧
  (∀ a, (k0_off433 v3262) a + S32x4096.size a ≤ S4096x4096.size a) ∧
  (∀ (hinb : ∀ a, (k0_off433 v3262) a + S32x4096.size a ≤ S4096x4096.size a), (Rect.unit (s := S4096x4096) (k0_off433 v3262) S32x4096.size hinb).WholeWords (EltTy.packing .i8))
theorem k0_off296_inb : ∀ (v3262 : BitVec 32) (k0_hw269 : k0_chk269 v3262), ∀ a, (k0_off296 v3262) a + S32x4096.size a ≤ S4096x4096.size a := fun v3262 k0_hw269 => k0_hw269.1
theorem k0_off296_wordsi8 : ∀ (v3262 : BitVec 32) (k0_hw269 : k0_chk269 v3262), (Rect.unit (s := S4096x4096) (k0_off296 v3262) S32x4096.size (k0_off296_inb v3262 k0_hw269)).WholeWords (EltTy.packing .i8) := fun v3262 k0_hw269 => k0_hw269.2.1 (k0_off296_inb v3262 k0_hw269)
theorem k0_off433_inb : ∀ (v3262 : BitVec 32) (k0_hw269 : k0_chk269 v3262), ∀ a, (k0_off433 v3262) a + S32x4096.size a ≤ S4096x4096.size a := fun v3262 k0_hw269 => k0_hw269.2.2.1
theorem k0_off433_wordsi8 : ∀ (v3262 : BitVec 32) (k0_hw269 : k0_chk269 v3262), (Rect.unit (s := S4096x4096) (k0_off433 v3262) S32x4096.size (k0_off433_inb v3262 k0_hw269)).WholeWords (EltTy.packing .i8) := fun v3262 k0_hw269 => k0_hw269.2.2.2 (k0_off433_inb v3262 k0_hw269)

def k0_off434 (v3308 : BitVec 32) : Fin 2 → Nat :=
  let c128_i32_3284 : BitVec 32 := 128#32
  let v3309 : BitVec 32 := Scalar.muli v3308 c128_i32_3284
  let c64_i32_3285 : BitVec 32 := 64#32
  let v3310 : BitVec 32 := Scalar.addi v3309 c64_i32_3285
  let c0_i32_4260 : BitVec 32 := 0#32
  ![v3310.toNat, 0]

def k0_chk273 (v3308 : BitVec 32) : Prop :=
  (∀ a, (k0_off300 v3308) a + S32x4096.size a ≤ S4096x4096.size a) ∧
  (∀ (hinb : ∀ a, (k0_off300 v3308) a + S32x4096.size a ≤ S4096x4096.size a), (Rect.unit (s := S4096x4096) (k0_off300 v3308) S32x4096.size hinb).WholeWords (EltTy.packing .i8)) ∧
  (∀ a, (k0_off434 v3308) a + S32x4096.size a ≤ S4096x4096.size a) ∧
  (∀ (hinb : ∀ a, (k0_off434 v3308) a + S32x4096.size a ≤ S4096x4096.size a), (Rect.unit (s := S4096x4096) (k0_off434 v3308) S32x4096.size hinb).WholeWords (EltTy.packing .i8))
theorem k0_off300_inb : ∀ (v3308 : BitVec 32) (k0_hw273 : k0_chk273 v3308), ∀ a, (k0_off300 v3308) a + S32x4096.size a ≤ S4096x4096.size a := fun v3308 k0_hw273 => k0_hw273.1
theorem k0_off300_wordsi8 : ∀ (v3308 : BitVec 32) (k0_hw273 : k0_chk273 v3308), (Rect.unit (s := S4096x4096) (k0_off300 v3308) S32x4096.size (k0_off300_inb v3308 k0_hw273)).WholeWords (EltTy.packing .i8) := fun v3308 k0_hw273 => k0_hw273.2.1 (k0_off300_inb v3308 k0_hw273)
theorem k0_off434_inb : ∀ (v3308 : BitVec 32) (k0_hw273 : k0_chk273 v3308), ∀ a, (k0_off434 v3308) a + S32x4096.size a ≤ S4096x4096.size a := fun v3308 k0_hw273 => k0_hw273.2.2.1
theorem k0_off434_wordsi8 : ∀ (v3308 : BitVec 32) (k0_hw273 : k0_chk273 v3308), (Rect.unit (s := S4096x4096) (k0_off434 v3308) S32x4096.size (k0_off434_inb v3308 k0_hw273)).WholeWords (EltTy.packing .i8) := fun v3308 k0_hw273 => k0_hw273.2.2.2 (k0_off434_inb v3308 k0_hw273)

def k0_off435 (v3343 : BitVec 32) : Fin 2 → Nat :=
  let c128_i32_3323 : BitVec 32 := 128#32
  let v3344 : BitVec 32 := Scalar.muli v3343 c128_i32_3323
  let c96_i32_3324 : BitVec 32 := 96#32
  let v3345 : BitVec 32 := Scalar.addi v3344 c96_i32_3324
  let c0_i32_4267 : BitVec 32 := 0#32
  ![v3345.toNat, 0]

def k0_chk276 (v3343 : BitVec 32) : Prop :=
  (∀ a, (k0_off303 v3343) a + S32x4096.size a ≤ S4096x4096.size a) ∧
  (∀ (hinb : ∀ a, (k0_off303 v3343) a + S32x4096.size a ≤ S4096x4096.size a), (Rect.unit (s := S4096x4096) (k0_off303 v3343) S32x4096.size hinb).WholeWords (EltTy.packing .i8)) ∧
  (∀ a, (k0_off435 v3343) a + S32x4096.size a ≤ S4096x4096.size a) ∧
  (∀ (hinb : ∀ a, (k0_off435 v3343) a + S32x4096.size a ≤ S4096x4096.size a), (Rect.unit (s := S4096x4096) (k0_off435 v3343) S32x4096.size hinb).WholeWords (EltTy.packing .i8))
theorem k0_off303_inb : ∀ (v3343 : BitVec 32) (k0_hw276 : k0_chk276 v3343), ∀ a, (k0_off303 v3343) a + S32x4096.size a ≤ S4096x4096.size a := fun v3343 k0_hw276 => k0_hw276.1
theorem k0_off303_wordsi8 : ∀ (v3343 : BitVec 32) (k0_hw276 : k0_chk276 v3343), (Rect.unit (s := S4096x4096) (k0_off303 v3343) S32x4096.size (k0_off303_inb v3343 k0_hw276)).WholeWords (EltTy.packing .i8) := fun v3343 k0_hw276 => k0_hw276.2.1 (k0_off303_inb v3343 k0_hw276)
theorem k0_off435_inb : ∀ (v3343 : BitVec 32) (k0_hw276 : k0_chk276 v3343), ∀ a, (k0_off435 v3343) a + S32x4096.size a ≤ S4096x4096.size a := fun v3343 k0_hw276 => k0_hw276.2.2.1
theorem k0_off435_wordsi8 : ∀ (v3343 : BitVec 32) (k0_hw276 : k0_chk276 v3343), (Rect.unit (s := S4096x4096) (k0_off435 v3343) S32x4096.size (k0_off435_inb v3343 k0_hw276)).WholeWords (EltTy.packing .i8) := fun v3343 k0_hw276 => k0_hw276.2.2.2 (k0_off435_inb v3343 k0_hw276)

def k0_off436 (v3924 : BitVec 32) : Fin 2 → Nat :=
  let c128_i32_4270 : BitVec 32 := 128#32
  let v3925 : BitVec 32 := Scalar.muli v3924 c128_i32_4270
  let v3926 : Index := Scalar.indexCast v3925
  let c0_4271 : Index := 0#32
  ![v3926.toNat, 0]

def k0_off437 (v3924 : BitVec 32) : Fin 2 → Nat :=
  let c128_i32_4270 : BitVec 32 := 128#32
  let v3925 : BitVec 32 := Scalar.muli v3924 c128_i32_4270
  let v3936 : Index := Scalar.indexCast v3925
  let c0_4276 : Index := 0#32
  ![v3936.toNat, 0]

def k0_chk283 (v3924 : BitVec 32) : Prop :=
  (∀ a, (k0_off436 v3924) a + S128x4096.size a ≤ S4096x4096.size a) ∧
  (∀ a, (k0_off437 v3924) a + S128x64.size a ≤ S4096x64.size a)
theorem k0_off436_inb : ∀ (v3924 : BitVec 32) (k0_hw283 : k0_chk283 v3924), ∀ a, (k0_off436 v3924) a + S128x4096.size a ≤ S4096x4096.size a := fun v3924 k0_hw283 => k0_hw283.1
theorem k0_off437_inb : ∀ (v3924 : BitVec 32) (k0_hw283 : k0_chk283 v3924), ∀ a, (k0_off437 v3924) a + S128x64.size a ≤ S4096x64.size a := fun v3924 k0_hw283 => k0_hw283.2

abbrev stage0_0 : Fin 1 → Memref sig .tc .smem S66 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Ring.lean ====
module

public import proofs.«01_k».proof.Proof.Gen.KernelIdeal.Skeleton
public import proofs.«01_k».proof.Proof.Gen.KernelIdeal.Points

@[expose] public section

noncomputable section

/-!
The kernel's body as a program built from a few repeated steps, in continuation form, and the equation with the printed body.
-/
namespace Cert.KernelIdeal.Ring

open Idealize.ShloMosaic Idealize.ShloMosaic.TcCoe Idealize.SL.Sem
open Cert.KernelIdeal Cert.KernelIdeal.Gen

variable {F : FTy → Type} [FloatOps F]

/-- A program of one TensorCore of this kernel. -/
abbrev PR (F : FTy → Type) : Type 1 := Prog (TpuEff nD τ sig (Elt F) Λ₀ .tc) PUnit

/-- The barrier semaphore. -/
abbrev barS : Sem sig := (SemArray.scalar (sig.barrier 0 rfl) : Sems sig S_).sem

/-! ## Offsets and what is asked of a table entry -/

/-- Where sub-slab `s` (32 rows) of chunk `v` (128 rows) starts in the gathered array. -/
def soff (s : Fin 4) (v : BitVec 32) : Fin 2 → Nat :=
  ![(Scalar.addi (Scalar.muli v 128#32) (BitVec.ofNat 32 (32 * s.val))).toNat, 0]

/-- Where chunk `v` starts. -/
def coff (v : BitVec 32) : Fin 2 → Nat := ![(Scalar.indexCast (Scalar.muli v 128#32)).toNat, 0]

/-- The device a table entry addresses. -/
def devOf (v : BitVec 32) : Nat := (Scalar.addi 0#32 (Scalar.muli v 1#32)).toNat

def chkR (s : Fin 4) (v : BitVec 32) : Prop :=
  (∀ a, (soff s v) a + S32x4096.size a ≤ S4096x4096.size a) ∧
  (∀ (hinb : ∀ a, (soff s v) a + S32x4096.size a ≤ S4096x4096.size a), (Rect.unit (s := S4096x4096) (soff s v) S32x4096.size hinb).WholeWords (EltTy.packing .i8))
instance chkR.dec : ∀ (s : Fin 4) (v : BitVec 32), Decidable (chkR s v) := fun s v => decidable_of_iff' _ (Iff.of_eq (chkR.eq_1 s v))

def chkS (s : Fin 4) (v : BitVec 32) : Prop :=
  (∀ a, (soff s v) a + S32x4096.size a ≤ S4096x4096.size a) ∧
  (∀ (hinb : ∀ a, (soff s v) a + S32x4096.size a ≤ S4096x4096.size a), (Rect.unit (s := S4096x4096) (soff s v) S32x4096.size hinb).WholeWords (EltTy.packing .i8)) ∧
  (∀ a, (soff s v) a + S32x4096.size a ≤ S4096x4096.size a) ∧
  (∀ (hinb : ∀ a, (soff s v) a + S32x4096.size a ≤ S4096x4096.size a), (Rect.unit (s := S4096x4096) (soff s v) S32x4096.size hinb).WholeWords (EltTy.packing .i8))
instance chkS.dec : ∀ (s : Fin 4) (v : BitVec 32), Decidable (chkS s v) := fun s v => decidable_of_iff' _ (Iff.of_eq (chkS.eq_1 s v))

def chkX (v : BitVec 32) : Prop :=
  (∀ a, (coff v) a + S128x4096.size a ≤ S4096x4096.size a) ∧
  (∀ (hinb : ∀ a, (coff v) a + S128x4096.size a ≤ S4096x4096.size a), (Rect.unit (s := S4096x4096) (coff v) S128x4096.size hinb).PackedRows (EltTy.packing .i8))
instance chkX.dec : ∀ (v : BitVec 32), Decidable (chkX v) := fun v => decidable_of_iff' _ (Iff.of_eq (chkX.eq_1 v))

def chkG (v : BitVec 32) : Prop :=
  (∀ a, (coff v) a + S128x4096.size a ≤ S4096x4096.size a) ∧
  (∀ a, (coff v) a + S128x64.size a ≤ S4096x64.size a)
instance chkG.dec : ∀ (v : BitVec 32), Decidable (chkG v) := fun v => decidable_of_iff' _ (Iff.of_eq (chkG.eq_1 v))

/-- What one chunk contributes to the result. -/
def gemm (sc : F .f32) (l : Vec F S128x4096 .i8) (w : Vec F S4096x64 .i8) : FVec F S128x64 .f32 :=
  maximumf (mulf (sitofp .f32 (matmulI8 IntMxuNumerics.v7x dot_S128x4096_S4096x64_S128x64_1_0_0_1_n_n l
    (shapeCast S4096x64 w shapeCasts_S4096x64_S4096x64) (constantI S128x64 32 0#32))) (broadcast S128x64 sc))
    (broadcast S128x64 (Scalar.ofBits .f32 0x00000000#32))

section Args

variable (arg0 : Memref sig .tc .smem S66 .i32) (arg1 : Memref sig .tc .vmem S128x4096 .i8)
  (arg2 : Memref sig .tc .vmem S4096x64 .i8) (arg3 arg4 : Memref sig .tc .smem S1 .f32)
  (arg5 : Memref sig .tc .vmem S4096x64 .f32) (arg6 : Memref sig .tc .vmem S4096x4096 .i8) (harg6 : arg6.IsWhole)

/-! ## Steps -/

theorem inbM (k : Fin 66) : ∀ a, (![k.val] : Fin 1 → Nat) a + S1.size a ≤ S66.size a := by
  intro a; fin_cases a; have := k.isLt; simp [S1, S66]; omega
theorem inbSem (h : Fin 16) (s : Fin 4) : ∀ a, (![h.val, s.val] : Fin 2 → Nat) a + S1x1.size a ≤ S16x4.size a := by
  intro a; have := h.isLt; have := s.isLt; fin_cases a <;> simp [S1x1, S16x4] <;> omega

/-- Read entry `k` of the table. -/
def ldm (k : Fin 66) (K : BitVec 32 → PR F) : PR F :=
  smemLoadElt arg0 (Rect.unit (s := S66) ![k.val] S1.size (inbM k)) (View.loads_smem_one rfl numel1_S1)
    (Shape.Idx.first (numel1_S1.symm ▸ Nat.one_pos)) K

/-- The semaphore `(h, s)` of one of the four arrays. -/
def semAt (A : DmaSems sig S16x4) (h : Fin 16) (s : Fin 4) : DmaSem sig :=
  ((A.slice (Rect.unit (s := S16x4) ![h.val, s.val] S1x1.size (inbSem h s))).squeeze S_ squeezes_S1x1_S_).sem

/-- Sub-slab `s` of chunk `v`, as a view. -/
def slab (s : Fin 4) (v : BitVec 32) (hin : ∀ a, (soff s v) a + S32x4096.size a ≤ S4096x4096.size a) :
    Memref sig .tc .vmem S32x4096 .i8 :=
  arg6.slice (Rect.unit (s := S4096x4096) (soff s v) S32x4096.size hin) (fun _ => rfl)

/-- Start the copy of sub-slab `s` of chunk `v` to device `d`, hop `h`. -/
def sendD (A B : DmaSems sig S16x4) (h : Fin 16) (s : Fin 4) (v : BitVec 32) (hw : chkS s v) (d : Dev nD) (K : PR F) : PR F :=
  .op (.enqueueDma (slab arg6 s v hw.1) (.remote (Dev.tc d) (slab arg6 s v hw.1) (.dma (semAt A h s))) (.dma (semAt B h s))
    (harg6.wordExact_slice rfl _ (hw.2.1 hw.1)) (harg6.wordExact_slice rfl _ (hw.2.1 hw.1)) ⟨⟨rfl, Or.inl rfl⟩, trivial⟩) fun _ => K

/-- Read the table for the chunk to forward, start its copy. -/
def send (A B : DmaSems sig S16x4) (k : Fin 66) (h : Fin 16) (s : Fin 4) (d : Dev nD)
    (K : (v : BitVec 32) → chkS s v → PR F) : PR F :=
  ldm arg0 k fun v => .op (.assume (chkS s v) (chkS.dec s v)) fun w => sendD arg6 harg6 A B h s v w.down d (K v w.down)

/-- Wait on semaphore `(h, s)` of array `A` for a copy of sub-slab `s` of chunk `v`. -/
def waitD (A : DmaSems sig S16x4) (h : Fin 16) (s : Fin 4) (v : BitVec 32)
    (hin : ∀ a, (soff s v) a + S32x4096.size a ≤ S4096x4096.size a)
    (hww : ∀ (hinb : ∀ a, (soff s v) a + S32x4096.size a ≤ S4096x4096.size a), (Rect.unit (s := S4096x4096) (soff s v) S32x4096.size hinb).WholeWords (EltTy.packing .i8))
    (K : PR F) : PR F :=
  .op (.waitDma2 (semAt A h s) (slab arg6 s v hin) (slab arg6 s v hin)
    (harg6.wordExact_slice rfl _ (hww hin)) (harg6.wordExact_slice rfl _ (hww hin))) fun _ => K

/-- Read the table for the chunk to arrive, wait for it. -/
def recv (A : DmaSems sig S16x4) (k : Fin 66) (h : Fin 16) (s : Fin 4) (K : PR F) : PR F :=
  ldm arg0 k fun v => .op (.assume (chkR s v) (chkR.dec s v)) fun w => waitD arg6 harg6 A h s v w.down.1 w.down.2 K

/-- Multiply chunk `table[k]` and store it. -/
def gemmAt (k : Fin 66) (sc : F .f32) (K : PR F) : PR F :=
  ldm arg0 k fun v => .op (.assume (chkG v) (chkG.dec v)) fun w =>
  .op (.load arg6 (Rect.unit (s := S4096x4096) (coff v) S128x4096.size w.down.1).toLoadRect (View.loadsAt_vmem h_S128x4096)) fun l =>
  .op (.load arg2 (Rect.unit (s := S4096x64) ![0, 0] S4096x64.size inb_S4096x64_S4096x64_0_0).toLoadRect (View.loadsAt_vmem h_S4096x64)) fun r =>
  .op (.load arg5 (Rect.unit (s := S4096x64) (coff v) S128x64.size w.down.2).toLoadRect (View.loadsAt_vmem h_S128x64)) fun _ =>
  .op (.store arg5 (Rect.unit (s := S4096x64) (coff v) S128x64.size w.down.2) (gemm sc l r) Finset.univ (View.stores_vmem_bits_univ h_S128x64 rfl) (.inl rfl)) fun _ => K

/-- A copy started: its direction (true: right), hop, sub-slab and chunk. -/
structure Sent where
  dir : Bool
  h : Fin 16
  s : Fin 4
  v : BitVec 32
  ok : chkS s v

/-! The semaphores of departure and of arrival by direction; the neighbours by direction. -/

variable (A B : Bool → DmaSems sig S16x4) (nb : Bool → Dev nD)

/-- Wait for the copies of the list to have left. -/
def drain (l : List Sent) (K : PR F) : PR F :=
  match l with
  | [] => K
  | e :: l => waitD arg6 harg6 (A e.dir) e.h e.s e.v e.ok.2.2.1 e.ok.2.2.2 (drain l K)

/-- The table's entries by direction and hop: the chunk to send, the chunk to arrive. -/
def kS (dir : Bool) (h : Fin 16) : Fin 66 := match dir with
  | true => ⟨2 + h.val, by omega⟩
  | false => ⟨34 + h.val, by omega⟩
def kR (dir : Bool) (h : Fin 16) : Fin 66 := match dir with
  | true => ⟨18 + h.val, by omega⟩
  | false => ⟨50 + h.val, by omega⟩

/-- Whether sub-slab `s` goes in a direction at hop `h`: all of them except at the last hop, where half goes each way. -/
def goes (dir : Bool) (h : Fin 16) (s : Fin 4) : Bool := match dir with
  | true => or (Nat.blt h.val 15) (Nat.blt s.val 2)
  | false => or (Nat.blt h.val 15) (Nat.ble 2 s.val)

/-- Sub-slab `s` in one direction: wait for it at hop `h`, pass it on at hop `h'`. -/
def pass (dir : Bool) (h h' : Fin 16) (s : Fin 4) (acc : List Sent) (K : List Sent → PR F) : PR F :=
  recv arg0 arg6 harg6 (B dir) (kR dir h) h s <|
  match goes dir h' s with
  | true => send arg0 arg6 harg6 (A dir) (B dir) (kS dir h') h' s (nb dir) fun v hv => K (acc ++ [⟨dir, h', s, v, hv⟩])
  | false => K acc

def passes (h h' : Fin 16) (l : List (Fin 4)) (acc : List Sent) (K : List Sent → PR F) : PR F :=
  match l with
  | [] => K acc
  | s :: l => pass arg0 arg6 harg6 A B nb true h h' s acc fun acc => pass arg0 arg6 harg6 A B nb false h h' s acc fun acc =>
      passes h h' l acc K

/-- The hops after the first: pass on the four sub-slabs each way, then multiply the two chunks that arrived. -/
def hops (sc : F .f32) (l : List (Fin 16 × Fin 16)) (acc : List Sent) (K : List Sent → PR F) : PR F :=
  match l with
  | [] => K acc
  | (h, h') :: l => passes arg0 arg6 harg6 A B nb h h' [0, 1, 2, 3] acc fun acc =>
      gemmAt arg0 arg2 arg5 arg6 (kR true h) sc <| gemmAt arg0 arg2 arg5 arg6 (kR false h) sc <| hops sc l acc K

/-- The first hop's copies, in one direction. -/
def first (dir : Bool) (l : List (Fin 4)) (acc : List Sent) (K : List Sent → PR F) : PR F :=
  match l with
  | [] => K acc
  | s :: l => send arg0 arg6 harg6 (A dir) (B dir) (kS dir 0) 0 s (nb dir) fun v hv => first dir l (acc ++ [⟨dir, 0, s, v, hv⟩]) K

/-- The consecutive hops. -/
def hopList : List (Fin 16 × Fin 16) :=
  [(0, 1), (1, 2), (2, 3), (3, 4), (4, 5), (5, 6), (6, 7), (7, 8), (8, 9), (9, 10), (10, 11), (11, 12), (12, 13), (13, 14), (14, 15)]

/-- The last hop's arrivals, in one direction. -/
def lasts (dir : Bool) (l : List (Fin 4)) (K : PR F) : PR F :=
  match l with
  | [] => K
  | s :: l => recv arg0 arg6 harg6 (B dir) (kR dir 15) 15 s (lasts dir l K)

/-- The last hop's arrivals, the departures, the last product. -/
def finish (sc : F .f32) (acc : List Sent) : PR F :=
  lasts arg0 arg6 harg6 B true [0, 1] <| lasts arg0 arg6 harg6 B false [2, 3] <|
  drain arg6 harg6 A acc <| gemmAt arg0 arg2 arg5 arg6 (kR true 15) sc <| .ret ⟨⟩

/-- From the first copies on. -/
def talk (sc : F .f32) : PR F :=
  first arg0 arg6 harg6 A B nb true [0, 1, 2, 3] [] fun acc =>
  first arg0 arg6 harg6 A B nb false [0, 1, 2, 3] acc fun acc =>
  gemmAt arg0 arg2 arg5 arg6 (kS true 0) sc <|
  hops arg0 arg2 arg5 arg6 harg6 A B nb sc hopList acc fun acc =>
  finish arg0 arg2 arg5 arg6 harg6 A B sc acc

/-- The own chunk into its place, then the exchange. -/
def own (sc : F .f32) : PR F :=
  ldm arg0 2 fun v => .op (.assume (chkX v) (chkX.dec v)) fun w =>
  .op (.load arg1 (Rect.unit (s := S128x4096) ![0, 0] S128x4096.size inb_S128x4096_S128x4096_0_0).toLoadRect (View.loadsAt_vmem h_S128x4096)) fun l =>
  .op (.load arg6 (Rect.unit (s := S4096x4096) (coff v) S128x4096.size w.down.1).toLoadRect (View.loadsAt_vmem h_S128x4096)) fun _ =>
  .op (.store arg6 (Rect.unit (s := S4096x4096) (coff v) S128x4096.size w.down.1) (k0_pay3 l) Finset.univ
    (View.stores_vmem h_S128x4096 (harg6.storeExact_slice rfl _ (w.down.2 w.down.1)) (fun _ => rfl)) (.inl rfl)) fun _ =>
  talk arg0 arg2 arg5 arg6 harg6 A B nb sc

end Args

/-- The body. -/
def body (arg0 : Memref sig .tc .smem S66 .i32) (arg1 : Memref sig .tc .vmem S128x4096 .i8)
    (arg2 : Memref sig .tc .vmem S4096x64 .i8) (arg3 arg4 : Memref sig .tc .smem S1 .f32)
    (arg5 : Memref sig .tc .vmem S4096x64 .f32) (arg6 : Memref sig .tc .vmem S4096x4096 .i8) (harg6 : arg6.IsWhole)
    (arg7 arg8 arg9 arg10 : DmaSems sig S16x4) : PR F :=
  ldm arg0 0 fun v0 => .op (.assume (k0_chk2 v0) (k0_chk2.dec v0)) fun w0 =>
  ldm arg0 1 fun v1 => .op (.assume (k0_chk1 v1) (k0_chk1.dec v1)) fun w1 =>
  .op (.semSignal (Dev.tc (⟨devOf v1, k0_dev1_lt v1 w1.down⟩ : Dev nD)) barS (1#32).toInt) fun _ =>
  .op (.semSignal (Dev.tc (⟨devOf v0, k0_dev2_lt v0 w0.down⟩ : Dev nD)) barS (1#32).toInt) fun _ =>
  .op (.semWait barS (2#32).toInt) fun _ =>
  smemLoadElt arg3 (Rect.unit (s := S1) ![0] S1.size inb_S1_S1_0) (View.loads_smem_one rfl numel1_S1)
    (Shape.Idx.first (numel1_S1.symm ▸ Nat.one_pos)) fun v7 =>
  smemLoadElt arg4 (Rect.unit (s := S1) ![0] S1.size inb_S1_S1_0) (View.loads_smem_one rfl numel1_S1)
    (Shape.Idx.first (numel1_S1.symm ▸ Nat.one_pos)) fun v8 =>
  own arg0 arg1 arg2 arg5 arg6 harg6 (fun d => match d with | true => arg7 | false => arg9) (fun d => match d with | true => arg8 | false => arg10)
    (fun d => match d with | true => ⟨devOf v0, k0_dev2_lt v0 w0.down⟩ | false => ⟨devOf v1, k0_dev1_lt v1 w1.down⟩) (k0_pay2 v7 v8)

set_option maxRecDepth 65536 in
theorem body_eq (arg0 : Memref sig .tc .smem S66 .i32) (harg0 : arg0.IsWhole) (arg1 : Memref sig .tc .vmem S128x4096 .i8) (harg1 : arg1.IsWhole)
    (arg2 : Memref sig .tc .vmem S4096x64 .i8) (harg2 : arg2.IsWhole) (arg3 : Memref sig .tc .smem S1 .f32) (harg3 : arg3.IsWhole)
    (arg4 : Memref sig .tc .smem S1 .f32) (harg4 : arg4.IsWhole)
    (arg5 : Memref sig .tc .vmem S4096x64 .f32) (harg5 : arg5.IsWhole) (arg6 : Memref sig .tc .vmem S4096x4096 .i8) (harg6 : arg6.IsWhole)
    (arg7 arg8 arg9 arg10 : DmaSems sig S16x4) :
    cc0_body (F := F) arg0 harg0 arg1 harg1 arg2 harg2 arg3 harg3 arg4 harg4 arg5 harg5 arg6 harg6 arg7 arg8 arg9 arg10
      = body arg0 arg1 arg2 arg3 arg4 arg5 arg6 harg6 arg7 arg8 arg9 arg10 := by chain_rfl

end Cert.KernelIdeal.Ring

end
-- ==== Proof.Places.lean ====
module

public import proofs.«01_k».proof.Proof.Ring
public import Idealize.ShloMosaic.Lib.Pipeline.BigSepL

@[expose] public section

noncomputable section

/-!
The ring of devices as a table, the slabs of the gathered array, and the semaphores, with the facts about them.
-/
namespace Cert.KernelIdeal.Ring

open Idealize.ShloMosaic Idealize.ShloMosaic.TcCoe Idealize.SL.Sem
open Cert.KernelIdeal Cert.KernelIdeal.Gen

/-! ## The ring -/

/-- The device at a position of the ring. -/
def ringAt : Fin 32 → Fin 32 :=
  ![0, 2, 4, 6, 14, 12, 10, 8, 16, 18, 20, 22, 30, 28, 26, 24, 25, 27, 29, 31, 23, 21, 19, 17, 9, 11, 13, 15, 7, 5, 3, 1]
/-- The position of a device. -/
def posOf : Fin 32 → Fin 32 :=
  ![0, 31, 1, 30, 2, 29, 3, 28, 7, 24, 6, 25, 5, 26, 4, 27, 8, 23, 9, 22, 10, 21, 11, 20, 15, 16, 14, 17, 13, 18, 12, 19]

theorem ringAt_posOf : ∀ c, ringAt (posOf c) = c := by decide +kernel
theorem posOf_ringAt : ∀ p, posOf (ringAt p) = p := by decide +kernel

/-- The chunk at an offset from device `c` along the ring. -/
def chunk (c : Fin 32) (o : Fin 32) : Fin 32 := ringAt (posOf c + o)

/-- The offset of the chunk that a device sends at hop `n` in a direction. -/
def offs (dir : Bool) (n : ℕ) : Fin 32 := match dir with
  | true => ⟨(32 - n % 32) % 32, Nat.mod_lt _ (by decide)⟩
  | false => ⟨n % 32, Nat.mod_lt _ (by decide)⟩

/-- The neighbour in a direction. -/
def nbr (dir : Bool) (c : Fin 32) : Fin 32 := chunk c (match dir with | true => 1 | false => 31)

theorem nbr_nbr : ∀ dir c, nbr (!dir) (nbr dir c) = c := by decide +kernel
theorem chunk_zero : ∀ c, chunk c 0 = c := by decide +kernel
theorem chunk_inj (c : Fin 32) {o o' : Fin 32} (h : chunk c o = chunk c o') : o = o' := by
  have := congrArg posOf h; unfold chunk at this; rw [posOf_ringAt, posOf_ringAt] at this
  ext; have := congrArg Fin.val this; simp only [Fin.val_add] at this; omega

/-- What a device sends at hop `h`, its neighbour holds at hop `h + 1`. -/
theorem chunk_nbr : ∀ dir (h : Fin 16) c, chunk (nbr dir c) (offs dir (h.val + 1)) = chunk c (offs dir h.val) := by decide +kernel

/-- All the offsets from a device reach all the devices. -/
def chunkEquiv (c : Fin 32) : Fin 32 ≃ Fin 32 := Equiv.ofBijective (chunk c) (Finite.injective_iff_bijective.mp fun _ _ h => chunk_inj c h)
theorem chunkEquiv_apply (c o) : chunkEquiv c o = chunk c o := rfl
def nbrEquiv (dir : Bool) : Fin 32 ≃ Fin 32 := ⟨nbr dir, nbr (!dir), nbr_nbr dir, fun c => by have := nbr_nbr (!dir) c; rwa [Bool.not_not] at this⟩

/-- A chunk's number as a word. -/
def word (e : Fin 32) : BitVec 32 := BitVec.ofNat 32 e.val

/-- The table on device `c`: its neighbours, then the chunk of each hop, sent and received, each way. -/
def tab (c : Fin 32) (k : Fin 66) : Fin 32 :=
  if k.val = 0 then nbr true c else if k.val = 1 then nbr false c
  else if k.val < 18 then chunk c (offs true (k.val - 2)) else if k.val < 34 then chunk c (offs true (k.val - 17))
  else if k.val < 50 then chunk c (offs false (k.val - 34)) else chunk c (offs false (k.val - 49))

theorem tab_kS : ∀ dir h c, tab c (kS dir h) = chunk c (offs dir h.val) := by decide +kernel
theorem tab_kR : ∀ dir h c, tab c (kR dir h) = chunk c (offs dir (h.val + 1)) := by decide +kernel

/-! ## What the program assumes of the table's entries -/

theorem soff_word : ∀ s e, soff s (word e) 0 = 128 * e.val + 32 * s.val ∧ soff s (word e) 1 = 0 := by decide +kernel
theorem coff_word : ∀ e, coff (word e) 0 = 128 * e.val ∧ coff (word e) 1 = 0 := by decide +kernel
theorem devOf_word : ∀ e, devOf (word e) = e.val := by decide +kernel
theorem chkR_word : ∀ s e, chkR s (word e) := by decide +kernel
theorem chkS_word : ∀ s e, chkS s (word e) := by decide +kernel
theorem chkX_word : ∀ e, chkX (word e) := by decide +kernel
theorem chkG_word : ∀ e, chkG (word e) := by decide +kernel

/-! ## The semaphores -/

/-- The arrays of semaphores: of departure and of arrival, by direction. -/
abbrev semD : Bool → DmaSems sig S16x4 := fun d => match d with | true => cc0_scratch1 | false => cc0_scratch3
abbrev semA : Bool → DmaSems sig S16x4 := fun d => match d with | true => cc0_scratch2 | false => cc0_scratch4

/-- A copy: its direction, hop and sub-slab. -/
abbrev Key : Type := Bool × Fin 16 × Fin 4

/-- The semaphore a copy leaves on, at its sender; the one it arrives on, at its receiver. -/
def sS (k : Key) : DmaSem sig := semAt (semD k.1) k.2.1 k.2.2
def sR (k : Key) : DmaSem sig := semAt (semA k.1) k.2.1 k.2.2

def keyNum (k : Key) : ℕ := 4 * k.2.1.val + k.2.2.val
theorem sS_val : ∀ k : Key, (sS k).val = (match k.1 with | true => 6 | false => 134) + keyNum k := by decide +kernel
theorem sR_val : ∀ k : Key, (sR k).val = (match k.1 with | true => 70 | false => 198) + keyNum k := by decide +kernel

theorem keyNum_lt (k : Key) : keyNum k < 64 := by unfold keyNum; omega
theorem keyNum_inj {k k' : Key} (h1 : k.1 = k'.1) (h : keyNum k = keyNum k') : k = k' := by
  obtain ⟨d, h0, s⟩ := k; obtain ⟨d', h0', s'⟩ := k'
  unfold keyNum at h; dsimp only at h h1; subst h1
  have e1 : h0 = h0' := Fin.ext (by omega)
  have e2 : s = s' := Fin.ext (by omega)
  rw [e1, e2]

theorem sS_inj {k k' : Key} (h : sS k = sS k') : k = k' := by
  have hv := congrArg Fin.val h; rw [sS_val, sS_val] at hv
  have h1 := keyNum_lt k; have h2 := keyNum_lt k'
  rcases hk : k.1 with _ | _ <;> rcases hk' : k'.1 with _ | _ <;> rw [hk, hk'] at hv <;> dsimp only at hv
  all_goals first | exact keyNum_inj (hk.trans hk'.symm) (by omega) | omega
theorem sR_inj {k k' : Key} (h : sR k = sR k') : k = k' := by
  have hv := congrArg Fin.val h; rw [sR_val, sR_val] at hv
  have h1 := keyNum_lt k; have h2 := keyNum_lt k'
  rcases hk : k.1 with _ | _ <;> rcases hk' : k'.1 with _ | _ <;> rw [hk, hk'] at hv <;> dsimp only at hv
  all_goals first | exact keyNum_inj (hk.trans hk'.symm) (by omega) | omega
theorem sS_ne_sR (k k' : Key) : sS k ≠ sR k' := by
  intro h
  have hv := congrArg Fin.val h; rw [sS_val, sR_val] at hv
  have h1 := keyNum_lt k; have h2 := keyNum_lt k'
  rcases hk : k.1 with _ | _ <;> rcases hk' : k'.1 with _ | _ <;> rw [hk, hk'] at hv <;> dsimp only at hv <;> omega

/-! ## The slabs -/

/-- The gathered array. -/
abbrev xM : Memref sig .tc .vmem S4096x4096 .i8 := Memref.whole cc0_scratch0

/-- Sub-slab `p.2` of chunk `p.1`. -/
abbrev sl (p : Fin 32 × Fin 4) : Memref sig .tc .vmem S32x4096 .i8 := slab xM p.2 (word p.1) (chkR_word p.2 p.1).1

/-- Its elements. -/
@[irreducible] def slSet (p : Fin 32 × Fin 4) : Finset S4096x4096.Idx :=
  (Rect.unit (s := S4096x4096) (soff p.2 (word p.1)) S32x4096.size (chkR_word p.2 p.1).1).set

theorem sl_set (p : Fin 32 × Fin 4) : (sl p).view.set = slSet p := by
  unfold slSet; exact View.set_slice_whole _ _

theorem mem_sl (p : Fin 32 × Fin 4) (i : S4096x4096.Idx) : i ∈ slSet p ↔ (i 0 : ℕ) / 32 = 4 * p.1.val + p.2.val := by
  unfold slSet
  rw [Rect.mem_set_unit]
  obtain ⟨h0, h1⟩ := soff_word p.2 p.1
  have hi : (i 1 : ℕ) < 4096 := (i 1).isLt
  constructor
  · intro h; have := h 0; rw [h0] at this
    have e : S32x4096.size 0 = 32 := rfl
    rw [e] at this; omega
  · intro h
    refine Fin.forall_fin_two.mpr ⟨?_, ?_⟩
    · change soff p.2 (word p.1) 0 ≤ (i 0 : ℕ) ∧ (i 0 : ℕ) < soff p.2 (word p.1) 0 + 32
      rw [h0]; omega
    · change soff p.2 (word p.1) 1 ≤ (i 1 : ℕ) ∧ (i 1 : ℕ) < soff p.2 (word p.1) 1 + 4096
      rw [h1]; omega

theorem sl_disjoint {p p' : Fin 32 × Fin 4} (h : p ≠ p') : Disjoint (slSet p) (slSet p') := by
  rw [Finset.disjoint_left]
  intro i h1 h2
  have e1 := (mem_sl p i).mp h1; have e2 := (mem_sl p' i).mp h2
  refine h (Prod.ext (Fin.ext ?_) (Fin.ext ?_)) <;> omega

theorem sl_cover : (Finset.univ : Finset (Fin 32 × Fin 4)).biUnion slSet = Finset.univ := by
  ext i
  simp only [Finset.mem_biUnion, Finset.mem_univ, true_and, iff_true]
  have hi : (i 0 : ℕ) < 4096 := (i 0).isLt
  exact ⟨(⟨(i 0 : ℕ) / 128, by omega⟩, ⟨(i 0 : ℕ) / 32 % 4, by omega⟩), (mem_sl _ i).mpr (by dsimp only; omega)⟩

/-- The rectangle of chunk `e`, of the gathered array and of the result. -/
abbrev chunkR (e : Fin 32) : Rect S4096x4096 := Rect.unit (s := S4096x4096) (coff (word e)) S128x4096.size (chkG_word e).1
abbrev outR (e : Fin 32) : Rect S4096x64 := Rect.unit (s := S4096x64) (coff (word e)) S128x64.size (chkG_word e).2

theorem mem_chunkR (e : Fin 32) (i : S4096x4096.Idx) : i ∈ (chunkR e).set ↔ (i 0 : ℕ) / 128 = e.val := by
  rw [Rect.mem_set_unit]
  obtain ⟨h0, h1⟩ := coff_word e
  have hi : (i 1 : ℕ) < 4096 := (i 1).isLt
  constructor
  · intro h; have := h 0; rw [h0] at this
    have e : S128x4096.size 0 = 128 := rfl
    rw [e] at this; omega
  · intro h
    refine Fin.forall_fin_two.mpr ⟨?_, ?_⟩
    · change coff (word e) 0 ≤ (i 0 : ℕ) ∧ (i 0 : ℕ) < coff (word e) 0 + 128
      rw [h0]; omega
    · change coff (word e) 1 ≤ (i 1 : ℕ) ∧ (i 1 : ℕ) < coff (word e) 1 + 4096
      rw [h1]; omega

theorem mem_outR (e : Fin 32) (i : S4096x64.Idx) : i ∈ (outR e).set ↔ (i 0 : ℕ) / 128 = e.val := by
  rw [Rect.mem_set_unit]
  obtain ⟨h0, h1⟩ := coff_word e
  have hi : (i 1 : ℕ) < 64 := (i 1).isLt
  constructor
  · intro h; have := h 0; rw [h0] at this
    have e : S128x64.size 0 = 128 := rfl
    rw [e] at this; omega
  · intro h
    refine Fin.forall_fin_two.mpr ⟨?_, ?_⟩
    · change coff (word e) 0 ≤ (i 0 : ℕ) ∧ (i 0 : ℕ) < coff (word e) 0 + 128
      rw [h0]; omega
    · change coff (word e) 1 ≤ (i 1 : ℕ) ∧ (i 1 : ℕ) < coff (word e) 1 + 64
      rw [h1]; omega

theorem chunkR_eq (e : Fin 32) : (chunkR e).set = (Finset.univ : Finset (Fin 4)).biUnion fun s => slSet (e, s) := by
  ext i
  rw [mem_chunkR, Finset.mem_biUnion]
  have hi : (i 0 : ℕ) < 4096 := (i 0).isLt
  constructor
  · intro h; exact ⟨⟨(i 0 : ℕ) / 32 % 4, by omega⟩, Finset.mem_univ _, (mem_sl _ i).mpr (by dsimp only; omega)⟩
  · rintro ⟨s, -, h⟩; have := (mem_sl _ i).mp h; dsimp only at this; omega

end Cert.KernelIdeal.Ring

end
-- ==== Proof.Protocol.lean ====
module

public import proofs.«01_k».proof.Proof.Places
public import Idealize.ShloMosaic.Lib.Pipeline.Regions
public import Idealize.ShloMosaic.Lib.Pipeline.Kit
public import Idealize.ShloMosaic.Lib.Pipeline.TalkSched
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk
public import Idealize.ShloMosaic.Harness.Basic

@[expose] public section

noncomputable section

/-!
The protocol of the exchange.

Every device has a barrier semaphore, and for every copy (direction, hop, sub-slab) a semaphore the copy leaves on at its sender and one it
arrives on at its receiver. Each of them goes through one round.

* Barrier of device `c`: two units, one from either neighbour. The unit of the neighbour in direction `d` hands over that neighbour's
  places for all the copies that `c` makes in direction `d`, and that the arrival semaphores of these copies are open at the neighbour.
* Departure of copy `k` at `c`: the credit of the copy, by the copy itself; it gives back the share of the source the copy read.
* Arrival of copy `k` at `c`: the credit of the copy, by the neighbour the copy comes from; it gives the place of the copy whole, holding the
  corresponding rows of the gathered array.

A device waits for hop `h` while it still owes copies of hops after `h` only: the level of an arrival is its hop, and the barrier is below.
-/
namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The rounds' resource, with two duties a round. -/
abbrev RR : Type := Rounds.URounds (GSem nD τ sig) Bool
abbrev UU : Type := UR sig nD τ × RR

local notation "𝕄" => MT nD τ sig Unit (Elt F) ℕ UU ℕ

abbrev EP : Emb (UR sig nD τ) (MT nD τ sig Unit (Elt F) ℕ UU ℕ) := embL
abbrev ER : Emb RR (MT nD τ sig Unit (Elt F) ℕ UU ℕ) := embR

abbrev 𝒱₀ : Variants := Variants.none

/-! ## Lists of resources -/

instance bigSepL_storable {I : Type} (l : List I) (Φ : I → sProp 𝕄) [∀ i, Storable (upEmb : UEmb _ 𝕄) (Φ i)] :
    Storable (upEmb : UEmb _ 𝕄) (bigSepL l Φ) := by
  induction l with
  | nil => rw [bigSepL_nil]; exact (inferInstance : Storable (upEmb : UEmb _ 𝕄) iprop(emp))
  | cons a l ih => rw [bigSepL_cons']; infer_instance

theorem bigSepL_sep' {I : Type} (l : List I) (Φ Ψ : I → sProp 𝕄) :
    bigSepL l (fun i => iprop(Φ i ∗ Ψ i)) ⊢ iprop(bigSepL l Φ ∗ bigSepL l Ψ) := by
  induction l with
  | nil => rw [bigSepL_nil, bigSepL_nil, bigSepL_nil]; iintro -; isplitl [] <;> iempintro
  | cons a l ih =>
    rw [bigSepL_cons', bigSepL_cons', bigSepL_cons']
    iintro ⟨⟨H1, H2⟩, H⟩
    ihave H' := ih $$ H
    icases H' with ⟨H3, H4⟩
    isplitl [H1 H3]
    · isplitl [H1] <;> iassumption
    · isplitl [H2] <;> iassumption

theorem bigSepL_join' {I : Type} (l : List I) (Φ Ψ : I → sProp 𝕄) :
    iprop(bigSepL l Φ ∗ bigSepL l Ψ) ⊢ bigSepL l (fun i => iprop(Φ i ∗ Ψ i)) := by
  induction l with
  | nil => rw [bigSepL_nil, bigSepL_nil, bigSepL_nil]; iintro ⟨-, -⟩; iempintro
  | cons a l ih =>
    rw [bigSepL_cons', bigSepL_cons', bigSepL_cons']
    iintro ⟨⟨H1, H2⟩, H3, H4⟩
    isplitl [H1 H3]
    · isplitl [H1] <;> iassumption
    · iapply ih; isplitl [H2] <;> iassumption

theorem bigSepL_flatMap' {I J : Type} (l : List I) (g : I → List J) (Φ : J → sProp 𝕄) :
    bigSepL (l.flatMap g) Φ = bigSepL l (fun i => bigSepL (g i) Φ) := by
  induction l with
  | nil => rfl
  | cons a l ih => rw [List.flatMap_cons, bigSepL_append, bigSepL_cons', ih]

/-! ## Cells -/

abbrev barC (c : Dev nD) : GSem nD τ sig := ((c : Thread nD τ), .reg barS)
abbrev sC (c : Dev nD) (k : Key) : GSem nD τ sig := ((c : Thread nD τ), .dma (sS k))
abbrev rC (c : Dev nD) (k : Key) : GSem nD τ sig := ((c : Thread nD τ), .dma (sR k))

/-- Whether a copy is made. -/
abbrev used (k : Key) : Prop := goes k.1 k.2.1 k.2.2 = true

/-- The credit of one copy. -/
@[irreducible] def N : ℕ := (sl (0, 0)).view.dmaCredit
theorem N_eq (p : Fin 32 × Fin 4) : (sl p).view.dmaCredit = N := by unfold N; rfl
theorem N_amount (p : Fin 32 × Fin 4) (s : DmaSem sig) : (sl p).view.amount (.dma s) = N := N_eq p
theorem N_pos : 0 < N := by unfold N; exact View.dmaCredit_pos _ (by decide)

/-! ## The slabs held -/

/-- A share of a slab on device `c`, at `f`. -/
@[irreducible] def slabP (c : Dev nD) (p : Fin 32 × Fin 4) (q : PosShare TreeShare) (f : Vec F S4096x4096 .i8) : sProp 𝕄 :=
  ((c : Thread nD τ).loc cc0_scratch0) ↦[slSet p]{q} f

instance slabP_storable (c : Dev nD) (p : Fin 32 × Fin 4) (q : PosShare TreeShare) (f : Vec F S4096x4096 .i8) :
    Storable (upEmb : UEmb _ 𝕄) (slabP c p q f) := by unfold slabP; infer_instance

/-- The three shares of a slab: for the copy to the right, for the copy to the left, for reading. -/
def shN : Fin 3 → PosShare TreeShare
  | 0 => (fullShare : PosShare TreeShare).left
  | 1 => (fullShare : PosShare TreeShare).right.left
  | 2 => (fullShare : PosShare TreeShare).right.right
def shI (dir : Bool) : Fin 3 := match dir with | true => 0 | false => 1

/-- Where copy `k` of device `c` comes from; where the copy `k` that arrives at `c` goes. -/
def pS (c : Dev nD) (k : Key) : Fin 32 × Fin 4 := (chunk c (offs k.1 k.2.1.val), k.2.2)
def pR (c : Dev nD) (k : Key) : Fin 32 × Fin 4 := (chunk c (offs k.1 (k.2.1.val + 1)), k.2.2)

theorem pR_nbr (c : Dev nD) (k : Key) : pR (nbr k.1 c) k = pS c k := by
  unfold pR pS; rw [chunk_nbr]

/-- The copies in one direction. -/
def dirKeys (dir : Bool) : List Key :=
  (List.finRange 16).flatMap fun h => (List.finRange 4).flatMap fun s => if goes dir h s then [(dir, h, s)] else []

theorem dirKeys_dir {dir : Bool} {k : Key} (h : k ∈ dirKeys dir) : k.1 = dir := by
  unfold dirKeys at h
  simp only [List.mem_flatMap] at h
  obtain ⟨a, -, s, -, h⟩ := h
  split at h
  · rw [List.mem_singleton.mp h]
  · simp at h

/-! ## The schedule -/

/-- The place of copy `k` of device `c`, and that its arrival semaphore is open. -/
def place (c : Dev nD) (k : Key) : sProp 𝕄 :=
  iprop((∃ f : Vec F S4096x4096 .i8, slabP (nbr k.1 c) (pS c k) fullShare f) ∗ reached ER (rC (nbr k.1 c) k) 0)

instance place_storable (c : Dev nD) (k : Key) : Storable (upEmb : UEmb _ 𝕄) (place (F := F) c k) := by unfold place; infer_instance

def barPay (c : Dev nD) (dir : Bool) : sProp 𝕄 := bigSepL (dirKeys dir) (place (F := F) c)
def sendPay (X : Vec F S4096x4096 .i8) (c : Dev nD) (k : Key) : sProp 𝕄 := slabP c (pS c k) (shN (shI k.1)) X
def recvPay (X : Vec F S4096x4096 .i8) (c : Dev nD) (k : Key) : sProp 𝕄 := slabP c (pR c k) fullShare X

open Classical in
/-- What a semaphore's round hands over. -/
def payOf (X : Vec F S4096x4096 .i8) (c : Dev nD) (d : Bool) : SemLoc sig → sProp 𝕄
  | .reg _ => barPay c d
  | .dma s => if h : ∃ k, s = sS k then sendPay X c h.choose else if h : ∃ k, s = sR k then recvPay X c h.choose else iprop(emp)

open Classical in
/-- The duties of a semaphore's round. -/
def dutyOf : SemLoc sig → Finset Bool
  | .reg _ => Finset.univ
  | .dma s => if ∃ k, used k ∧ (s = sS k ∨ s = sR k) then {true} else ∅

/-- The units of a duty. -/
def amtOf : SemLoc sig → ℕ
  | .reg _ => 1
  | .dma _ => N

/-- One round a semaphore. -/
def rd (X : Vec F S4096x4096 .i8) : Rounds.Schedule (GSem nD τ sig) Bool 𝕄 where
  duties g r := if r = 0 ∧ g.1.2 = .tc then dutyOf g.2 else ∅
  unitless _ := False
  amount g _ _ := amtOf g.2
  payload g _ d := payOf X g.1.1 d g.2
  amount_pos g _ _ _ := by
    rcases g.2 with s | s
    · exact Nat.one_pos
    · exact N_pos

instance rd_payload_storable (X : Vec F S4096x4096 .i8) (g : GSem nD τ sig) (r : ℕ) (d : Bool) :
    BI.Storable (upEmb : UEmb _ 𝕄) ((rd X).payload g r d) := by
  show BI.Storable upEmb (payOf X g.1.1 d g.2)
  rcases g.2 with s | s
  · unfold payOf barPay; infer_instance
  · unfold payOf sendPay recvPay; dsimp only; (repeat' split) <;> infer_instance

section Sched

variable (X : Vec F S4096x4096 .i8) (c : Dev nD)

theorem duties_bar : (rd X).duties (barC c) 0 = Finset.univ := by
  dsimp only [rd]; rw [if_pos ⟨rfl, rfl⟩]; rfl
theorem duties_send {k : Key} (h : used k) : (rd X).duties (sC c k) 0 = {true} := by
  dsimp only [rd]; rw [if_pos ⟨rfl, rfl⟩]; exact if_pos ⟨k, h, .inl rfl⟩
theorem duties_recv {k : Key} (h : used k) : (rd X).duties (rC c k) 0 = {true} := by
  dsimp only [rd]; rw [if_pos ⟨rfl, rfl⟩]; exact if_pos ⟨k, h, .inr rfl⟩
theorem duties_send_not {k : Key} (h : ¬ used k) (r : ℕ) : (rd X).duties (sC c k) r = ∅ := by
  dsimp only [rd]; split
  · refine if_neg ?_
    rintro ⟨k', h', h1 | h1⟩
    · rw [sS_inj h1] at h; exact h h'
    · exact sS_ne_sR _ _ h1
  · rfl
theorem duties_recv_not {k : Key} (h : ¬ used k) (r : ℕ) : (rd X).duties (rC c k) r = ∅ := by
  dsimp only [rd]; split
  · refine if_neg ?_
    rintro ⟨k', h', h1 | h1⟩
    · exact sS_ne_sR _ _ h1.symm
    · rw [sR_inj h1] at h; exact h h'
  · rfl
theorem duties_later (g : GSem nD τ sig) : ∀ r, 1 ≤ r → (rd X).duties g r = ∅ :=
  fun r hr => by dsimp only [rd]; rw [if_neg (fun h => by omega)]

theorem amount_bar (d : Bool) : (rd X).amount (barC c) 0 d = 1 := rfl
theorem amount_dma (s : DmaSem sig) (d : Bool) : (rd X).amount ((c : Thread nD τ), .dma s) 0 d = N := rfl

theorem expect_bar : (rd X).expect (barC c) 0 = 2 := by
  unfold Schedule.expect Schedule.amountOf; rw [duties_bar]; rfl
theorem expect_send {k : Key} (h : used k) : (rd X).expect (sC c k) 0 = N := by
  unfold Schedule.expect Schedule.amountOf; rw [duties_send X c h, Finset.sum_singleton, amount_dma]
theorem expect_recv {k : Key} (h : used k) : (rd X).expect (rC c k) 0 = N := by
  unfold Schedule.expect Schedule.amountOf; rw [duties_recv X c h, Finset.sum_singleton, amount_dma]

theorem payload_bar (d : Bool) : (rd X).payload (barC c) 0 d = barPay c d := rfl
theorem payload_send (k : Key) (d : Bool) : (rd X).payload (sC c k) 0 d = sendPay X c k := by
  have h : ∃ k', sS k = sS k' := ⟨k, rfl⟩
  refine (dif_pos h).trans ?_
  rw [← sS_inj h.choose_spec]
theorem payload_recv (k : Key) (d : Bool) : (rd X).payload (rC c k) 0 d = recvPay X c k := by
  have h : ∃ k', sR k = sR k' := ⟨k, rfl⟩
  refine (dif_neg (fun h => sS_ne_sR _ _ h.choose_spec.symm)).trans ?_
  refine (dif_pos h).trans ?_
  rw [← sR_inj h.choose_spec]

theorem rest_bar : bigSep ((rd X).duties (barC c) 0 \ ∅) (fun d => (rd X).payload (barC c) 0 d) = iprop(barPay c true ∗ barPay c false) := by
  rw [Finset.sdiff_empty, duties_bar, bigSep_univ_eq_bigSepL [true, false] (by decide) (by decide)]; rfl
theorem rest_send {k : Key} (h : used k) :
    bigSep ((rd X).duties (sC c k) 0 \ ∅) (fun d => (rd X).payload (sC c k) 0 d) = sendPay X c k := by
  rw [Finset.sdiff_empty, duties_send X c h, bigSep_singleton, payload_send]
theorem rest_recv {k : Key} (h : used k) :
    bigSep ((rd X).duties (rC c k) 0 \ ∅) (fun d => (rd X).payload (rC c k) 0 d) = recvPay X c k := by
  rw [Finset.sdiff_empty, duties_recv X c h, bigSep_singleton, payload_recv]

end Sched

/-! ## What is owed; the levels -/

/-- The arrivals a device owes its neighbours for the copies of the list. -/
def tal (c : Dev nD) : List Key → CellTallies nD τ sig Unit
  | [] => 0
  | k :: l => tal c l + tallyAt (rC (nbr k.1 c) k) () N

theorem tal_pos {c : Dev nD} {l : List Key} {g : GSem nD τ sig} {i : Unit} (h : 0 < tal c l g i) : ∃ k ∈ l, g = rC (nbr k.1 c) k := by
  induction l with
  | nil => exact absurd h (Nat.lt_irrefl 0)
  | cons k l ih =>
    change 0 < (tal c l + tallyAt (rC (nbr k.1 c) k) () N) g i at h
    rw [show (tal c l + tallyAt (rC (nbr k.1 c) k) () N) g i = tal c l g i + tallyAt (rC (nbr k.1 c) k) () N g i from rfl, tallyAt_apply] at h
    by_cases e : g = rC (nbr k.1 c) k ∧ i = ()
    · exact ⟨k, List.mem_cons_self .., e.1⟩
    · rw [if_neg e] at h
      obtain ⟨k', hk', e'⟩ := ih (by simpa using h)
      exact ⟨k', List.mem_cons_of_mem _ hk', e'⟩

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- An arrival's level is its hop (and two more); the barrier is at one, the rest at zero. -/
def lvOf : SemLoc sig → ℕ
  | .reg _ => 1
  | .dma s => if 70 ≤ s.val ∧ s.val < 134 then (s.val - 70) / 4 + 2 else if 198 ≤ s.val then (s.val - 198) / 4 + 2 else 0
def lv (g : GSem nD τ sig) (_ : Unit) : ℕ := lvOf g.2

theorem lvOf_sR (k : Key) : lvOf (.dma (sR k)) = k.2.1.val + 2 := by
  have e := sR_val k
  obtain ⟨d, h, s⟩ := k
  have h1 := h.isLt; have h2 := s.isLt
  unfold keyNum at e
  unfold lvOf
  dsimp only at e ⊢
  rw [e]
  cases d <;> dsimp only
  · rw [if_neg (by omega), if_pos (by omega)]; omega
  · rw [if_pos (by omega)]; omega

theorem mayWait_recv (c : Dev nD) (k : Key) (l : List Key) (hl : ∀ k' ∈ l, k.2.1.val < k'.2.1.val) :
    (levAts L lv : sProp 𝕄) ⊢ MayWait (c : Thread nD τ) (.dma (sR k)) () (tal c l) :=
  Pipeline.mayWait_of_levAts (by rw [L_tc]; exact Finset.mem_singleton_self _) fun g i hg => by
    obtain ⟨k', hk', e⟩ := tal_pos hg
    subst e
    refine ⟨by rw [L_tc]; exact Finset.mem_singleton_self _, ?_⟩
    show lvOf (.dma (sR k)) < lvOf (.dma (sR k'))
    rw [lvOf_sR, lvOf_sR]; have := hl k' hk'; omega

theorem mayWait_bar (c : Dev nD) (l : List Key) :
    (levAts L lv : sProp 𝕄) ⊢ MayWait (c : Thread nD τ) (.reg barS) () (tal c l) :=
  Pipeline.mayWait_of_levAts (by rw [L_tc]; exact Finset.mem_singleton_self _) fun g i hg => by
    obtain ⟨k', hk', e⟩ := tal_pos hg
    subst e
    refine ⟨by rw [L_tc]; exact Finset.mem_singleton_self _, ?_⟩
    show 1 < lvOf (.dma (sR k'))
    rw [lvOf_sR]; omega

/-! ## The copies in the order of the program -/

def sentAt (dir : Bool) (h : Fin 16) (s : Fin 4) : List Key := if goes dir h s = true then [(dir, h, s)] else []
def hopKeys (h : Fin 16) (l : List (Fin 4)) : List Key := l.flatMap fun s => sentAt true h s ++ sentAt false h s
def firstKeys (dir : Bool) (l : List (Fin 4)) : List Key := l.map fun s => (dir, 0, s)
def hopsKeys (l : List (Fin 16 × Fin 16)) : List Key := l.flatMap fun x => hopKeys x.2 [0, 1, 2, 3]
def progKeys : List Key := firstKeys true [0, 1, 2, 3] ++ (firstKeys false [0, 1, 2, 3] ++ hopsKeys hopList)

set_option maxRecDepth 65536 in
theorem progKeys_perm : (dirKeys true ++ dirKeys false).Perm progKeys := by decide +kernel
set_option maxRecDepth 65536 in
theorem dirKeys_nodup : (dirKeys true ++ dirKeys false).Nodup := by decide +kernel
set_option maxRecDepth 65536 in
theorem used_progKeys : ∀ k ∈ progKeys, used k := by decide +kernel

/-- What a device owes at first: its copies, then a unit to either neighbour, the left one's first. -/
def O₀ (c : Dev nD) : CellTallies nD τ sig Unit := (tal c progKeys + tallyAt (barC (nbr true c)) () 1) + tallyAt (barC (nbr false c)) () 1

/-! ## The ghost state -/

/-- A copy's two semaphores: of departure (`false`), of arrival (`true`). -/
def semOf (x : Bool × Key) : DmaSem sig := match x.1 with | false => sS x.2 | true => sR x.2
theorem semOf_inj {x x' : Bool × Key} (h : semOf x = semOf x') : x = x' := by
  obtain ⟨b, k⟩ := x; obtain ⟨b', k'⟩ := x'
  cases b <;> cases b'
  · exact congrArg (Prod.mk false) (sS_inj h)
  · exact absurd h (sS_ne_sR _ _)
  · exact absurd h.symm (sS_ne_sR _ _)
  · exact congrArg (Prod.mk true) (sR_inj h)

def barEmb : Dev nD ↪ GSem nD τ sig := ⟨barC, fun a b h => by
  have := congrArg (fun g : GSem nD τ sig => g.1.1) h; exact this⟩
def scEmb : Dev nD × (Bool × Key) ↪ GSem nD τ sig := ⟨fun x => ((x.1 : Thread nD τ), .dma (semOf x.2)), fun a b h => by
  have h1 : a.1 = b.1 := congrArg (fun g : GSem nD τ sig => g.1.1) h
  have h2 : (SemLoc.dma (semOf a.2) : SemLoc sig) = .dma (semOf b.2) := congrArg (fun g : GSem nD τ sig => g.2) h
  exact Prod.ext h1 (semOf_inj (SemLoc.dma.inj h2))⟩

/-- The barriers; the copies' semaphores. -/
@[irreducible] def barCells : Finset (GSem nD τ sig) := (Finset.univ : Finset (Dev nD)).map barEmb
@[irreducible] def scCells : Finset (GSem nD τ sig) := (Finset.univ : Finset (Dev nD × (Bool × Key))).map scEmb

theorem disjoint_cells : Disjoint barCells scCells := by
  unfold barCells scCells
  rw [Finset.disjoint_left]
  intro g h1 h2
  obtain ⟨c, -, e1⟩ := Finset.mem_map.mp h1
  obtain ⟨x, -, e2⟩ := Finset.mem_map.mp h2
  have : (SemLoc.reg barS : SemLoc sig) = .dma (semOf x.2) := congrArg (fun g : GSem nD τ sig => g.2) (e1.trans e2.symm)
  cases this

/-- All of them. -/
abbrev cells : Finset (GSem nD τ sig) := barCells ∪ scCells

theorem bar_mem (c : Dev nD) : barC c ∈ cells :=
  Finset.mem_union_left _ (by unfold barCells; exact Finset.mem_map_of_mem barEmb (Finset.mem_univ c))
theorem send_mem (c : Dev nD) (k : Key) : sC c k ∈ cells :=
  Finset.mem_union_right _ (by unfold scCells; exact Finset.mem_map_of_mem scEmb (Finset.mem_univ (c, (false, k))))
theorem recv_mem (c : Dev nD) (k : Key) : rC c k ∈ cells :=
  Finset.mem_union_right _ (by unfold scCells; exact Finset.mem_map_of_mem scEmb (Finset.mem_univ (c, (true, k))))

/-- The invariants, at the names `K`. -/
def invs (X : Vec F S4096x4096 .i8) (K : GSem nD τ sig → ℕ) : sProp 𝕄 :=
  iprop(∀ g : {g // g ∈ cells}, cellInv ER (rd X) (K g.1) g.1)
instance invs_persistent (X : Vec F S4096x4096 .i8) (K : GSem nD τ sig → ℕ) : BI.Persistent (invs X K) := by unfold invs; infer_instance

theorem inv_at (X : Vec F S4096x4096 .i8) (K : GSem nD τ sig → ℕ) {g : GSem nD τ sig} (hg : g ∈ cells) :
    invs X K ⊢ cellInv ER (rd X) (K g) g := by
  unfold invs
  iintro H
  iapply H $$ %(⟨g, hg⟩ : {g // g ∈ cells})

/-- What a device holds to make copy `k`. -/
def sendRes (c : Dev nD) (k : Key) : sProp 𝕄 :=
  iprop(dutyTok ER (sC c k) 0 true ∗ reached ER (sC c k) 0 ∗ dutyTok ER (rC (nbr k.1 c) k) 0 true ∗ place (F := F) c k)
/-- What it holds to wait for the arrival of copy `k`. -/
def waitRes (c : Dev nD) (k : Key) : sProp 𝕄 :=
  iprop(cred (tallyAt (rC c k) () N) ∗ atPos ER (rC c k) 0 ∅ 0)
/-- What it holds of copy `k` under way. -/
def sentRes (c : Dev nD) (k : Key) : sProp 𝕄 := cred (tallyAt (sC c k) () N)
/-- A share of a sub-slab, by its place along the ring from `c`, holding its rows of the gathered array. -/
def piece (X : Vec F S4096x4096 .i8) (c : Dev nD) (x : (Fin 32 × Fin 4) × Fin 3) : sProp 𝕄 :=
  slabP c (chunk c x.1.1, x.1.2) (shN x.2) X
/-- What it owes. -/
def ow (c : Dev nD) (O : CellTallies nD τ sig Unit) : sProp 𝕄 := iprop(∃ W, owes (c : Thread nD τ) O W)

theorem piece_split (X : Vec F S4096x4096 .i8) (c : Dev nD) (p : Fin 32 × Fin 4) :
    slabP c (chunk c p.1, p.2) fullShare X ⊢ iprop(piece X c (p, 0) ∗ piece X c (p, 1) ∗ piece X c (p, 2)) := by
  unfold piece slabP
  refine (pointsTo_share (PosShare.mem_left_op_right _)).1.trans ?_
  refine BI.sep_mono (Entails.refl _) ?_
  exact (pointsTo_share (PosShare.mem_left_op_right _)).1
theorem piece_join (X : Vec F S4096x4096 .i8) (c : Dev nD) (p : Fin 32 × Fin 4) :
    iprop(piece X c (p, 0) ∗ piece X c (p, 1) ∗ piece X c (p, 2)) ⊢ slabP c (chunk c p.1, p.2) fullShare X := by
  unfold piece slabP
  refine BI.Entails.trans (BI.sep_mono (Entails.refl _) ?_) (pointsTo_share (PosShare.mem_left_op_right _)).2
  exact (pointsTo_share (PosShare.mem_left_op_right _)).2

end Cert.KernelIdeal.Ring

end
-- ==== Proof.Steps.lean ====
module

public import proofs.«01_k».proof.Proof.Protocol

@[expose] public section

noncomputable section

/-!
The steps of the body, each with what it takes and gives.
-/
namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The weakest precondition of a piece of the body on device `c`. -/
abbrev WP (c : Dev nD) (p : PR F) (Q : PUnit → sProp 𝕄) : sProp 𝕄 :=
  wp frame (wpE (defs₀ (F := F)) 𝒱₀ c none) Set.univ p Q

/-- The gathered array's memref is whole. -/
abbrev xW : xM.IsWhole := Memref.isWhole_whole cc0_scratch0

/-! ## The table -/

abbrev metaM : Memref sig .tc .smem S66 .i32 := Memref.whole cc0_stg0_0
abbrev wM : Memref sig .tc .vmem S4096x64 .i8 := Memref.whole cc0_stg2_0
abbrev oM : Memref sig .tc .vmem S4096x64 .f32 := Memref.whole cc0_stg5_0

/-- The table on device `c`, as the array of words it is. -/
def tabV (c : Dev nD) : Vec F S66 .i32 := fun i => word (tab c (i 0))

/-- The table in place. -/
def metaP (c : Dev nD) : sProp 𝕄 := ((c : Thread nD τ).loc cc0_stg0_0) ↦{fullShare} (tabV c : Vec F S66 .i32)

theorem wp_ldm (c : Dev nD) (k : Fin 66) (K : BitVec 32 → PR F) (Q : PUnit → sProp 𝕄) :
    metaP c ⊢ iprop((metaP c -∗ WP c (K (word (tab c k))) Q) -∗ WP c (ldm metaM k K) Q) := by
  have h := wp_smemLoadElt (defs := defs₀ (F := F)) (Ix := Unit) (Name := ℕ) (U := UU) (Lvl := ℕ) (Γ := []) 𝒱₀ (c : Thread nD τ) none Set.univ (Q := Q) (m := metaM) (r := Rect.unit (s := S66) ![k.val] S1.size (inbM k))
    (hw := View.loads_smem_one rfl numel1_S1) (x := Shape.Idx.first (numel1_S1.symm ▸ Nat.one_pos)) (k := K) (S := Finset.univ) (q := fullShare)
    (f := (tabV c : Vec F S66 .i32)) (Finset.subset_univ _)
  have e : ((metaM.access (Rect.unit (s := S66) ![k.val] S1.size (inbM k))).read (Elt F) (tabV c : Vec F S66 .i32)
      (Shape.Idx.first (numel1_S1.symm ▸ Nat.one_pos))) = word (tab c k) := by
    show word (tab c _) = word (tab c k)
    congr 2
  rw [e] at h
  exact h

/-! ## Slabs as views -/

theorem slab_view (c : Dev nD) (p : Fin 32 × Fin 4) (q : PosShare TreeShare) (f : Vec F S4096x4096 .i8) :
    ((sl p).view.loc (c : Thread nD τ) ↦[(sl p).view.set]{q} f : sProp 𝕄) = slabP c p q f :=
  by unfold slabP; exact congrArg (fun S => (((c : Thread nD τ).loc cc0_scratch0) ↦[S]{q} f : sProp 𝕄)) (sl_set p)

theorem slab_landed (c : Dev nD) (p : Fin 32 × Fin 4) (f g : Vec F S4096x4096 .i8) :
    ((sl p).view.loc (c : Thread nD τ) ↦[(sl p).view.set]{fullShare} ((sl p).view.write (Elt F) f ((sl p).view.read (Elt F) g) Finset.univ) : sProp 𝕄)
      = slabP c p fullShare g := by
  rw [← slab_view]
  refine pointsTo_congr fun i hi => ?_
  exact (congrFun (View.write_read_eq_piecewise (v := (sl p).view) (Val := Elt F) f g Finset.univ) i).trans (Finset.piecewise_eq_of_mem _ _ _ hi)

/-! ## A copy -/

theorem wp_sendD (X : Vec F S4096x4096 .i8) (κ : GSem nD τ sig → ℕ) (c : Dev nD) (k : Key) (hk : used k) (l : List Key)
    (hw : chkS k.2.2 (word (pS c k).1)) (K : PR F) (Q : PUnit → sProp 𝕄) :
    iprop(invs X κ ∗ slabP c (pS c k) (shN (shI k.1)) X ∗ sendRes c k ∗ ow c (tal c (k :: l)))
      ⊢ iprop((sentRes c k ∗ ow c (tal c l) -∗ WP c K Q)
        -∗ WP c (sendD xM xW (semD k.1) (semA k.1) k.2.1 k.2.2 (word (pS c k).1) hw (nbr k.1 c) K) Q) := by
  unfold sendRes place sentRes ow
  iintro ⟨#HI, Hs, ⟨Ht1, #Hr1, Ht2, ⟨%f, Hd⟩, #Hr2⟩, ⟨%W, HO⟩⟩ Hk
  unfold sendD
  iapply (Rounds.wp_send_pointsTo 𝒱₀ ER (rd X) (c : Thread nD τ) none (c' := (nbr k.1 c : Thread nD τ)) (src := sl (pS c k)) (dst := sl (pS c k))
      (sS := .dma (sS k)) (sem := .dma (sR k)) (q := shN (shI k.1)) (fs := X) (κ₁ := κ (sC c k)) (κ₂ := κ (rC (nbr k.1 c) k))
      (r₁ := 0) (r₂ := 0) (d₁ := true) (d₂ := true) (fd := f)
      (by rw [duties_send X c hk]; exact Finset.mem_singleton_self _) (by rw [duties_recv X _ hk]; exact Finset.mem_singleton_self _)
      () () N (N_amount _ _) (amount_dma X c _ _) (amount_dma X _ _ _) (tal c l) rfl (W := W)
      (by rw [payload_send]; unfold sendPay; rw [slab_view])
      (by rw [payload_recv]; unfold recvPay; rw [pR_nbr]; exact Entails.of_eq (slab_landed _ _ _ _))) $$ [Hs Hd HO Ht1 Ht2]
  · isplitr; · iapply (inv_at X κ (send_mem c k)); iexact HI
    isplitr; · iapply (inv_at X κ (recv_mem (nbr k.1 c) k)); iexact HI
    isplitl [Hs]; · rw [slab_view]; iexact Hs
    isplitl [Hd]; · rw [slab_view]; iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The program's list entry of a copy. -/
def sentOf (c : Dev nD) (k : Key) : Sent := ⟨k.1, k.2.1, k.2.2, word (pS c k).1, chkS_word _ _⟩

theorem wp_send (X : Vec F S4096x4096 .i8) (κ : GSem nD τ sig → ℕ) (c : Dev nD) (dir : Bool) (h : Fin 16) (s : Fin 4) (hk : used (dir, h, s)) (l : List Key)
    (K : (v : BitVec 32) → chkS s v → PR F) (Q : PUnit → sProp 𝕄) :
    iprop(invs X κ ∗ metaP c ∗ slabP c (pS c (dir, h, s)) (shN (shI dir)) X ∗ sendRes c (dir, h, s) ∗ ow c (tal c ((dir, h, s) :: l)))
      ⊢ iprop((metaP c ∗ sentRes c (dir, h, s) ∗ ow c (tal c l) -∗ WP c (K (word (pS c (dir, h, s)).1) (chkS_word _ _)) Q)
        -∗ WP c (send metaM xM xW (semD dir) (semA dir) (kS dir h) h s (nbr dir c) K) Q) := by
  unfold send
  iintro ⟨#HI, Hm, Hs, Hr, HO⟩ Hk
  iapply (wp_ldm c (kS dir h)) $$ Hm
  iintro Hm
  rw [tab_kS]
  iapply (wp_assume 𝒱₀ (c : Thread nD τ) none Set.univ (chkS_word s (chunk c (offs dir h.val))))
  iapply (wp_sendD X κ c (dir, h, s) hk l) $$ [Hs Hr HO]
  · isplitr; · iexact HI
    isplitl [Hs]; · iexact Hs
    isplitl [Hr] <;> iassumption
  iintro ⟨Hc, HO⟩
  iapply Hk
  isplitl [Hm]; · iexact Hm
  isplitl [Hc] <;> iassumption

end Cert.KernelIdeal.Ring

end
-- ==== Proof.Waits.lean ====
module

public import proofs.«01_k».proof.Proof.Steps

@[expose] public section

noncomputable section

/-!
The waits of the body: for an arrival, and for the copies made to have left.
-/
namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## A wait -/

theorem wait_eq (c : Dev nD) (p : Fin 32 × Fin 4) (s : DmaSem sig) (hw1 hw2 : (sl p).view.WordExact) (K : PUnit → sProp 𝕄) :
    wpE (defs₀ (F := F)) 𝒱₀ (c : Thread nD τ) none Set.univ (.waitDma2 s (sl p) (sl p) hw1 hw2) K
      = waitSpec (c : Thread nD τ) Set.univ (.dma s) N K :=
  (wpE_waitDma2_eq 𝒱₀ (c : Thread nD τ) none Set.univ K).trans (by rw [N_eq])

theorem wp_recv (X : Vec F S4096x4096 .i8) (κ : GSem nD τ sig → ℕ) (c : Dev nD) (dir : Bool) (h : Fin 16) (s : Fin 4) (hk : used (dir, h, s)) (l : List Key)
    (hl : ∀ k' ∈ l, h.val < k'.2.1.val) (K : PR F) (Q : PUnit → sProp 𝕄) :
    iprop(invs X κ ∗ levAts L lv ∗ metaP c ∗ waitRes c (dir, h, s) ∗ ow c (tal c l))
      ⊢ iprop((metaP c ∗ atPos ER (rC c (dir, h, s)) 1 ∅ 0 ∗ slabP c (pR c (dir, h, s)) fullShare X ∗ ow c (tal c l) -∗ WP c K Q)
        -∗ WP c (recv metaM xM xW (semA dir) (kR dir h) h s K) Q) := by
  unfold recv waitRes ow
  iintro ⟨#HI, #Hlev, Hm, ⟨Hc, Hat⟩, ⟨%W, HO⟩⟩ Hk
  iapply (wp_ldm c (kR dir h)) $$ Hm
  iintro Hm
  rw [tab_kR]
  iapply (wp_assume 𝒱₀ (c : Thread nD τ) none Set.univ (chkR_word s (chunk c (offs dir (h.val + 1)))))
  unfold waitD
  iapply (Rounds.wp_wait_rest_token 𝒱₀ ER (rd X) (c : Thread nD τ) none (κ := κ (rC c (dir, h, s)))
      (wait_eq c (chunk c (offs dir (h.val + 1)), s) (sR (dir, h, s)) _ _) (Set.mem_univ _) () (O := tal c l) (W := W) (R := 0) (m := 0) (T := ∅)
      ((Nat.zero_add N).trans (expect_recv X c hk).symm)) $$ [Hc HO Hat]
  · isplitr; · iapply (inv_at X κ (recv_mem c (dir, h, s))); iexact HI
    isplitl [Hc]; · iexact Hc
    isplitl [HO]; · iexact HO
    isplitr; · iapply (mayWait_recv c (dir, h, s) l hl); iexact Hlev
    iexact Hat
  iintro ⟨HO, Hat, -, Hpay⟩
  ihave Hp := (Entails.of_eq (rest_recv X c hk)) $$ Hpay
  iapply Hk
  isplitl [Hm]; · iexact Hm
  isplitl [Hat]; · iexact Hat
  isplitl [Hp]; · unfold recvPay; iexact Hp
  iexists _; iexact HO

/-- The copies of the list have left. -/
theorem wp_drain (X : Vec F S4096x4096 .i8) (κ : GSem nD τ sig → ℕ) (c : Dev nD) (l : List Key) (hk : ∀ k ∈ l, used k) (K : PR F) (Q : PUnit → sProp 𝕄) :
    iprop(invs X κ ∗ bigSepL l (sentRes c) ∗ bigSepL l (fun k => atPos ER (sC c k) 0 ∅ 0) ∗ ow c 0)
      ⊢ iprop((bigSepL l (fun k => atPos ER (sC c k) 1 ∅ 0) ∗ bigSepL l (sendPay X c) ∗ ow c 0 -∗ WP c K Q)
        -∗ WP c (drain xM xW semD (l.map (sentOf c)) K) Q) := by
  induction l with
  | nil =>
    iintro ⟨#HI, -, -, HO⟩ Hk
    iapply Hk
    isplitr; · iempintro
    isplitr; · iempintro
    iexact HO
  | cons k l ih =>
    rw [bigSepL_cons', bigSepL_cons', bigSepL_cons', bigSepL_cons', List.map_cons]
    unfold drain waitD
    iintro ⟨#HI, ⟨Hc, Hcs⟩, ⟨Hat, Hats⟩, HO⟩ Hk
    ihave HO := (Entails.of_eq (show ow c 0 = (iprop(∃ W, owes (c : Thread nD τ) 0 W) : sProp 𝕄) from rfl)) $$ HO
    icases HO with ⟨%W, HO⟩
    iapply (Rounds.wp_wait_rest_token 𝒱₀ ER (rd X) (c : Thread nD τ) none (κ := κ (sC c k))
        (wait_eq c (pS c k) (sS k) _ _) (Set.mem_univ _) () (O := 0) (W := W) (R := 0) (m := 0) (T := ∅)
        ((Nat.zero_add N).trans (expect_send X c (hk k (List.mem_cons_self ..))).symm)) $$ [Hc HO Hat]
    · isplitr; · iapply (inv_at X κ (send_mem c k)); iexact HI
      isplitl [Hc]; · unfold sentRes; iexact Hc
      isplitl [HO]; · iexact HO
      isplitr; · rw [MayWait_zero]; iempintro
      iexact Hat
    iintro ⟨HO, Hat, -, Hpay⟩
    ihave Hp := (Entails.of_eq (rest_send X c (hk k (List.mem_cons_self ..)))) $$ Hpay
    iapply (ih (fun k' h' => hk k' (List.mem_cons_of_mem _ h'))) $$ [Hcs Hats HO]
    · isplitr; · iexact HI
      isplitl [Hcs]; · iexact Hcs
      isplitl [Hats]; · iexact Hats
      unfold ow; iexists _; iexact HO
    iintro ⟨Hats, Hps, HO⟩
    iapply Hk
    isplitl [Hat Hats]
    · isplitl [Hat] <;> iassumption
    isplitl [Hp Hps]
    · isplitl [Hp] <;> iassumption
    iexact HO

end Cert.KernelIdeal.Ring

end
-- ==== Proof.Gemm.lean ====
module

public import proofs.«01_k».proof.Proof.Steps

@[expose] public section

noncomputable section

/-!
One chunk's product: what it takes and gives.
-/
namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The values -/

/-- Chunk `e` of the gathered array. -/
def chunkV (X : Vec F S4096x4096 .i8) (e : Fin 32) : Vec F S128x4096 .i8 := fun j => X ((chunkR e).emb j)

/-- The chunk a row of the result is in; the row within it. -/
def rowChunk (i : S4096x64.Idx) : Fin 32 := ⟨(i 0 : ℕ) / 128, by have : (i 0 : ℕ) < 4096 := (i 0).isLt; omega⟩
def rowIn (i : S4096x64.Idx) : S128x64.Idx := fun a => match a with
  | 0 => (⟨(i 0 : ℕ) % 128, Nat.mod_lt _ (by decide)⟩ : Fin 128)
  | 1 => (⟨(i 1 : ℕ), (i 1).isLt⟩ : Fin 64)

/-- The result: every chunk's product, in the chunk's rows. -/
def outG (sc : F .f32) (X : Vec F S4096x4096 .i8) (w : Vec F S4096x64 .i8) : Vec F S4096x64 .f32 :=
  fun i => gemm sc (chunkV X (rowChunk i)) w (rowIn i)

theorem outR_emb (e : Fin 32) (i : S4096x64.Idx) (h : (i 0 : ℕ) / 128 = e.val) : (outR e).emb (rowIn i) = i := by
  obtain ⟨h0, h1⟩ := coff_word e
  funext a
  revert a
  refine Fin.forall_fin_two.mpr ⟨Fin.ext ?_, Fin.ext ?_⟩
  · show coff (word e) 0 + 1 * ((i 0 : ℕ) % 128) = (i 0 : ℕ)
    rw [h0]; omega
  · show coff (word e) 1 + 1 * (i 1 : ℕ) = (i 1 : ℕ)
    rw [h1]; omega

/-! ## What is held -/

/-- The weights in place. -/
def wP (c : Dev nD) (w : Vec F S4096x64 .i8) : sProp 𝕄 := ((c : Thread nD τ).loc cc0_stg2_0) ↦{fullShare} w

/-- The result in place, right in the chunks of the list. -/
def outI (sc : F .f32) (X : Vec F S4096x4096 .i8) (w : Vec F S4096x64 .i8) (c : Dev nD) (D : List (Fin 32)) : sProp 𝕄 :=
  iprop(∃ g : Vec F S4096x64 .f32, (((c : Thread nD τ).loc cc0_stg5_0) ↦{fullShare} g)
    ∗ ⌜∀ o ∈ D, ∀ i : S4096x64.Idx, (i 0 : ℕ) / 128 = (chunk c o).val → g i = outG sc X w i⌝)

/-- The pieces for reading of a chunk's four sub-slabs are the chunk. -/
theorem pieces_chunk (X : Vec F S4096x4096 .i8) (c : Dev nD) (o : Fin 32) :
    bigSepL [0, 1, 2, 3] (fun s => piece X c ((o, s), 2))
      = (((c : Thread nD τ).loc cc0_scratch0) ↦[(chunkR (chunk c o)).set]{shN 2} X : sProp 𝕄) := by
  rw [chunkR_eq]
  refine Eq.trans ?_ (pointsTo_biUnion (ℓ := (c : Thread nD τ).loc cc0_scratch0) Finset.univ (fun s => slSet (chunk c o, s))
    fun s _ s' _ h => sl_disjoint fun e => h (congrArg Prod.snd e)).symm
  rw [bigSep_univ_eq_bigSepL [0, 1, 2, 3] (by decide) (by decide)]
  congr 1
  funext s
  unfold piece slabP
  rfl

theorem out_step (sc : F .f32) (X : Vec F S4096x4096 .i8) (w : Vec F S4096x64 .i8) (e : Fin 32) (g : Vec F S4096x64 .f32) (i : S4096x64.Idx) :
    (((oM.access (outR e)).write (Elt F) g (gemm sc (chunkV X e) w) Finset.univ) : Vec F S4096x64 .f32) i
      = if (i 0 : ℕ) / 128 = e.val then outG sc X w i else g i := by
  split
  · rename_i h
    have hr : rowChunk i = e := Fin.ext h
    have := View.write_emb_of_mem (v := oM.access (outR e)) (Val := Elt F) g (gemm sc (chunkV X e) w) (Finset.mem_univ (rowIn i))
    refine (congrArg _ (outR_emb e i h).symm).trans (this.trans ?_)
    unfold outG; rw [hr]; rfl
  · rename_i h
    refine View.write_of_not_mem (v := oM.access (outR e)) (Val := Elt F) g (gemm sc (chunkV X e) w) Finset.univ fun hm => h ?_
    have hs : (oM.access (outR e)).setOn Finset.univ = (outR e).set := View.set_slice_whole _ _
    exact (mem_outR e i).mp (hs ▸ hm)

theorem wp_gemm (sc : F .f32) (X : Vec F S4096x4096 .i8) (w : Vec F S4096x64 .i8) (c : Dev nD) (k : Fin 66) (o : Fin 32) (hk : tab c k = chunk c o)
    (D : List (Fin 32)) (K : PR F) (Q : PUnit → sProp 𝕄) :
    iprop(metaP c ∗ wP c w ∗ outI sc X w c D ∗ bigSepL [0, 1, 2, 3] (fun s => piece X c ((o, s), 2)))
      ⊢ iprop((metaP c ∗ wP c w ∗ outI sc X w c (o :: D) ∗ bigSepL [0, 1, 2, 3] (fun s => piece X c ((o, s), 2)) -∗ WP c K Q)
        -∗ WP c (gemmAt metaM wM oM xM k sc K) Q) := by
  rw [pieces_chunk]
  unfold gemmAt outI
  iintro ⟨Hm, Hw, ⟨%g, Ho, %hg⟩, Hx⟩ Hk
  iapply (wp_ldm c k) $$ Hm
  iintro Hm
  rw [hk]
  iapply (wp_assume 𝒱₀ (c : Thread nD τ) none Set.univ (chkG_word (chunk c o)))
  iapply (wp_load_rect 𝒱₀ (c : Thread nD τ) none Set.univ (m := xM) (r := chunkR (chunk c o)) (S := (chunkR (chunk c o)).set) (q := shN 2) (f := X)
    (by rw [show (xM.access (chunkR (chunk c o))).set = (chunkR (chunk c o)).set from View.set_slice_whole _ _])) $$ Hx
  iintro Hx
  unfold wP
  iapply (wp_load_rect 𝒱₀ (c : Thread nD τ) none Set.univ (m := wM) (r := Rect.unit (s := S4096x64) ![0, 0] S4096x64.size inb_S4096x64_S4096x64_0_0)
    (S := Finset.univ) (q := fullShare) (f := w) (Finset.subset_univ _)) $$ Hw
  iintro Hw
  iapply (wp_load_rect 𝒱₀ (c : Thread nD τ) none Set.univ (m := oM) (r := outR (chunk c o))
    (S := Finset.univ) (q := fullShare) (f := g) (Finset.subset_univ _)) $$ Ho
  iintro Ho
  iapply (wp_store 𝒱₀ (c : Thread nD τ) none Set.univ (m := oM) (r := outR (chunk c o))
    (S := Finset.univ) (f := g) (Finset.subset_univ _)) $$ Ho
  iintro Ho
  iapply Hk
  isplitl [Hm]; · iexact Hm
  isplitl [Hw]; · iexact Hw
  isplitl [Ho]
  · iexists _
    isplitl [Ho]; · iexact Ho
    ipureintro
    intro o' ho' i hi
    have hwr : (wM.access (Rect.unit (s := S4096x64) ![0, 0] S4096x64.size inb_S4096x64_S4096x64_0_0)).read (Elt F) w = w := by
      funext j
      show w _ = w j
      congr 1
      funext a
      revert a
      refine Fin.forall_fin_two.mpr ⟨Fin.ext ?_, Fin.ext ?_⟩
      · show 0 + 1 * (j 0 : ℕ) = (j 0 : ℕ); omega
      · show 0 + 1 * (j 1 : ℕ) = (j 1 : ℕ); omega
    rw [hwr]
    have hs := out_step sc X w (chunk c o) g i
    refine Eq.trans hs ?_
    split
    · rfl
    · rename_i hne
      rcases List.mem_cons.mp ho' with e | e
      · rw [e] at hi; exact absurd hi hne
      · exact hg o' e i hi
  iexact Hx

end Cert.KernelIdeal.Ring

end
-- ==== Proof.Passes.lean ====
module

public import proofs.«01_k».proof.Proof.Waits
public import proofs.«01_k».proof.Proof.Gemm

@[expose] public section

noncomputable section

/-!
The hops: passing on, the first copies, the last arrivals.
-/
namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem mem_sentAt {dir : Bool} {h : Fin 16} {s : Fin 4} {k : Key} (hk : k ∈ sentAt dir h s) : k.2.1 = h := by
  unfold sentAt at hk
  split at hk
  · rw [List.mem_singleton.mp hk]
  · simp at hk

theorem mem_hopKeys {h : Fin 16} {l : List (Fin 4)} {k : Key} (hk : k ∈ hopKeys h l) : k.2.1 = h := by
  unfold hopKeys at hk
  obtain ⟨s, -, hs⟩ := List.mem_flatMap.mp hk
  rcases List.mem_append.mp hs with e | e <;> exact mem_sentAt e

theorem mem_hopsKeys {l : List (Fin 16 × Fin 16)} {k : Key} (hk : k ∈ hopsKeys l) : ∃ x ∈ l, k.2.1 = x.2 := by
  unfold hopsKeys at hk
  obtain ⟨x, hx, hs⟩ := List.mem_flatMap.mp hk
  exact ⟨x, hx, mem_hopKeys hs⟩

/-! ## One sub-slab passed on -/

def passIn (c : Dev nD) (dir : Bool) (h h' : Fin 16) (s : Fin 4) : sProp 𝕄 :=
  iprop(waitRes (F := F) c (dir, h, s) ∗ bigSepL (sentAt dir h' s) (sendRes (F := F) c))

/-- The pieces kept of a sub-slab that arrived at hop `h`, but the one for reading. -/
def leftAt (dir : Bool) (h h' : Fin 16) (s : Fin 4) : List ((Fin 32 × Fin 4) × Fin 3) :=
  ((offs dir (h.val + 1), s), shI (!dir)) :: if goes dir h' s = true then [] else [((offs dir (h.val + 1), s), shI dir)]

def passOut (X : Vec F S4096x4096 .i8) (c : Dev nD) (dir : Bool) (h h' : Fin 16) (s : Fin 4) : sProp 𝕄 :=
  iprop(atPos ER (rC c (dir, h, s)) 1 ∅ 0 ∗ bigSepL (sentAt dir h' s) (sentRes (F := F) c) ∗ bigSepL (leftAt dir h h' s) (piece X c))

/-- The piece for reading of a sub-slab that arrived at hop `h`. -/
def readP (X : Vec F S4096x4096 .i8) (c : Dev nD) (dir : Bool) (h : Fin 16) (s : Fin 4) : sProp 𝕄 := piece X c ((offs dir (h.val + 1), s), 2)

/-- A sub-slab that arrived, in three: for its own direction, for the other, for reading. -/
theorem arrived_split (X : Vec F S4096x4096 .i8) (c : Dev nD) (dir : Bool) (p : Fin 32 × Fin 4) :
    slabP c (chunk c p.1, p.2) fullShare X ⊢ iprop(piece X c (p, shI dir) ∗ piece X c (p, shI (!dir)) ∗ piece X c (p, 2)) := by
  refine (piece_split X c p).trans ?_
  cases dir
  · show _ ⊢ iprop(piece X c (p, 1) ∗ piece X c (p, 0) ∗ piece X c (p, 2))
    iintro ⟨H0, H1, H2⟩
    isplitl [H1]; · iexact H1
    isplitl [H0] <;> iassumption
  · exact Entails.refl _

theorem wp_pass (X : Vec F S4096x4096 .i8) (κ : GSem nD τ sig → ℕ) (c : Dev nD) (dir : Bool) (h h' : Fin 16) (s : Fin 4) (hk : used (dir, h, s))
    (hh : h'.val = h.val + 1) (l : List Key) (hl : ∀ k' ∈ l, h.val < k'.2.1.val) (acc : List Sent) (K : List Sent → PR F) (Q : PUnit → sProp 𝕄) :
    iprop(invs X κ ∗ levAts L lv ∗ metaP c ∗ passIn c dir h h' s ∗ ow c (tal c (sentAt dir h' s ++ l)))
      ⊢ iprop((metaP c ∗ passOut X c dir h h' s ∗ readP X c dir h s ∗ ow c (tal c l) -∗ WP c (K (acc ++ (sentAt dir h' s).map (sentOf c))) Q)
        -∗ WP c (pass metaM xM xW semD semA (fun d => nbr d c) dir h h' s acc K) Q) := by
  unfold pass passIn passOut readP
  iintro ⟨#HI, #Hlev, Hm, ⟨Hw, Hs⟩, HO⟩ Hk
  iapply (wp_recv X κ c dir h s hk (sentAt dir h' s ++ l) (fun k' hk' => by
    rcases List.mem_append.mp hk' with e | e
    · rw [mem_sentAt e]; omega
    · exact hl k' e)) $$ [Hm Hw HO]
  · isplitr; · iexact HI
    isplitr; · iexact Hlev
    isplitl [Hm]; · iexact Hm
    isplitl [Hw] <;> iassumption
  iintro ⟨Hm, Hat, Hx, HO⟩
  ihave Hx := (show slabP c (pR c (dir, h, s)) fullShare X ⊢ _ from arrived_split X c dir (offs dir (h.val + 1), s)) $$ Hx
  icases Hx with ⟨Hx1, Hx2, Hx3⟩
  have hp : piece X c ((offs dir (h.val + 1), s), shI dir) = slabP c (pS c (dir, h', s)) (shN (shI dir)) X := by
    unfold piece pS; dsimp only; rw [hh]
  unfold sentAt leftAt
  rcases hg : goes dir h' s with _ | _
  · simp only [Bool.false_eq_true, if_false, List.nil_append, List.map_nil, List.append_nil]
    iapply Hk
    isplitl [Hm]; · iexact Hm
    isplitl [Hat Hs Hx1 Hx2]
    · isplitl [Hat]; · iexact Hat
      isplitr; · iempintro
      rw [bigSepL_cons', bigSepL_singleton]
      isplitl [Hx2] <;> iassumption
    isplitl [Hx3] <;> iassumption
  · simp only [if_true, List.map_cons, List.map_nil, bigSepL_singleton, List.cons_append, List.nil_append]
    ihave Hx1 := (Entails.of_eq hp) $$ Hx1
    iapply (wp_send X κ c dir h' s hg l) $$ [Hm Hx1 Hs HO]
    · isplitr; · iexact HI
      isplitl [Hm]; · iexact Hm
      isplitl [Hx1]; · iexact Hx1
      isplitl [Hs]; · iexact Hs
      iexact HO
    iintro ⟨Hm, Hc, HO⟩
    iapply Hk
    isplitl [Hm]; · iexact Hm
    isplitl [Hat Hc Hx2]
    · isplitl [Hat]; · iexact Hat
      isplitl [Hc] <;> iassumption
    isplitl [Hx3] <;> iassumption

theorem wp_passes (X : Vec F S4096x4096 .i8) (κ : GSem nD τ sig → ℕ) (c : Dev nD) (h h' : Fin 16) (hk : ∀ dir s, used (dir, h, s))
    (hh : h'.val = h.val + 1) (l : List Key) (hl : ∀ k' ∈ l, h.val < k'.2.1.val) (ss : List (Fin 4)) (acc : List Sent) (K : List Sent → PR F)
    (Q : PUnit → sProp 𝕄) :
    iprop(invs X κ ∗ levAts L lv ∗ metaP c ∗ bigSepL ss (fun s => iprop(passIn c true h h' s ∗ passIn c false h h' s)) ∗ ow c (tal c (hopKeys h' ss ++ l)))
      ⊢ iprop((metaP c ∗ bigSepL ss (fun s => iprop(passOut X c true h h' s ∗ passOut X c false h h' s)) ∗ bigSepL ss (readP X c true h)
            ∗ bigSepL ss (readP X c false h) ∗ ow c (tal c l) -∗ WP c (K (acc ++ (hopKeys h' ss).map (sentOf c))) Q)
        -∗ WP c (passes metaM xM xW semD semA (fun d => nbr d c) h h' ss acc K) Q) := by
  induction ss generalizing acc with
  | nil =>
    unfold passes
    rw [show (hopKeys h' [] : List Key) = [] from rfl, List.nil_append, List.map_nil, List.append_nil]
    iintro ⟨#HI, #Hlev, Hm, -, HO⟩ Hk
    iapply Hk
    isplitl [Hm]; · iexact Hm
    isplitr; · iempintro
    isplitr; · iempintro
    isplitr; · iempintro
    iexact HO
  | cons s ss ih =>
    unfold passes
    rw [show hopKeys h' (s :: ss) = sentAt true h' s ++ (sentAt false h' s ++ hopKeys h' ss) from by
      unfold hopKeys; rw [List.flatMap_cons, List.append_assoc]]
    rw [bigSepL_cons', bigSepL_cons', bigSepL_cons', bigSepL_cons', List.append_assoc, List.append_assoc]
    have hm : ∀ k' ∈ hopKeys h' ss ++ l, h.val < k'.2.1.val := fun k' hk' => by
      rcases List.mem_append.mp hk' with e | e
      · rw [mem_hopKeys e]; omega
      · exact hl k' e
    iintro ⟨#HI, #Hlev, Hm, ⟨⟨HT, HF⟩, Hss⟩, HO⟩ Hk
    iapply (wp_pass X κ c true h h' s (hk true s) hh (sentAt false h' s ++ (hopKeys h' ss ++ l)) (fun k' hk' => by
      rcases List.mem_append.mp hk' with e | e
      · rw [mem_sentAt e]; omega
      · exact hm k' e)) $$ [Hm HT HO]
    · isplitr; · iexact HI
      isplitr; · iexact Hlev
      isplitl [Hm]; · iexact Hm
      isplitl [HT] <;> iassumption
    iintro ⟨Hm, HT, HrT, HO⟩
    iapply (wp_pass X κ c false h h' s (hk false s) hh (hopKeys h' ss ++ l) hm) $$ [Hm HF HO]
    · isplitr; · iexact HI
      isplitr; · iexact Hlev
      isplitl [Hm]; · iexact Hm
      isplitl [HF] <;> iassumption
    iintro ⟨Hm, HF, HrF, HO⟩
    iapply (ih (acc ++ (sentAt true h' s).map (sentOf c) ++ (sentAt false h' s).map (sentOf c))) $$ [Hm Hss HO]
    · isplitr; · iexact HI
      isplitr; · iexact Hlev
      isplitl [Hm]; · iexact Hm
      isplitl [Hss] <;> iassumption
    iintro ⟨Hm, Hss, HrTs, HrFs, HO⟩
    rw [List.map_append, List.map_append, ← List.append_assoc, ← List.append_assoc]
    iapply Hk
    isplitl [Hm]; · iexact Hm
    isplitl [HT HF Hss]
    · isplitl [HT HF]
      · isplitl [HT] <;> iassumption
      · iexact Hss
    isplitl [HrT HrTs]
    · isplitl [HrT] <;> iassumption
    isplitl [HrF HrFs]
    · isplitl [HrF] <;> iassumption
    iexact HO

/-! ## The hops after the first -/

def hopIn (c : Dev nD) (x : Fin 16 × Fin 16) : sProp 𝕄 :=
  bigSepL [0, 1, 2, 3] (fun s => iprop(passIn (F := F) c true x.1 x.2 s ∗ passIn (F := F) c false x.1 x.2 s))
def hopOut (X : Vec F S4096x4096 .i8) (c : Dev nD) (x : Fin 16 × Fin 16) : sProp 𝕄 :=
  iprop(bigSepL [0, 1, 2, 3] (fun s => iprop(passOut X c true x.1 x.2 s ∗ passOut X c false x.1 x.2 s))
    ∗ bigSepL [0, 1, 2, 3] (readP X c true x.1) ∗ bigSepL [0, 1, 2, 3] (readP X c false x.1))

/-- The offsets of the chunks multiplied after the hops of the list. -/
def doneOf : List (Fin 16 × Fin 16) → List (Fin 32) → List (Fin 32)
  | [], D => D
  | x :: l, D => doneOf l (offs false (x.1.val + 1) :: offs true (x.1.val + 1) :: D)

theorem wp_hops (sc : F .f32) (X : Vec F S4096x4096 .i8) (w : Vec F S4096x64 .i8) (κ : GSem nD τ sig → ℕ) (c : Dev nD) (l : List (Fin 16 × Fin 16))
    (hl : ∀ x ∈ l, x.2.val = x.1.val + 1 ∧ ∀ dir s, used (dir, x.1, s)) (hp : l.Pairwise fun x y => x.1.val < y.2.val)
    (D : List (Fin 32)) (acc : List Sent) (K : List Sent → PR F) (Q : PUnit → sProp 𝕄) :
    iprop(invs X κ ∗ levAts L lv ∗ metaP c ∗ wP c w ∗ outI sc X w c D ∗ bigSepL l (hopIn (F := F) c) ∗ ow c (tal c (hopsKeys l)))
      ⊢ iprop((metaP c ∗ wP c w ∗ outI sc X w c (doneOf l D) ∗ bigSepL l (hopOut X c) ∗ ow c (tal c [])
            -∗ WP c (K (acc ++ (hopsKeys l).map (sentOf c))) Q)
        -∗ WP c (hops metaM wM oM xM xW semD semA (fun d => nbr d c) sc l acc K) Q) := by
  induction l generalizing acc D with
  | nil =>
    unfold hops
    rw [show (hopsKeys [] : List Key) = [] from rfl, List.map_nil, List.append_nil]
    iintro ⟨#HI, #Hlev, Hm, Hw, Ho, -, HO⟩ Hk
    iapply Hk
    isplitl [Hm]; · iexact Hm
    isplitl [Hw]; · iexact Hw
    isplitl [Ho]; · iexact Ho
    isplitr; · iempintro
    iexact HO
  | cons x l ih =>
    obtain ⟨h, h'⟩ := x
    obtain ⟨hh, hu⟩ := hl (h, h') (List.mem_cons_self ..)
    have hp' := List.pairwise_cons.mp hp
    unfold hops
    rw [show hopsKeys ((h, h') :: l) = hopKeys h' [0, 1, 2, 3] ++ hopsKeys l from by unfold hopsKeys; rw [List.flatMap_cons]]
    rw [show doneOf ((h, h') :: l) D = doneOf l (offs false (h.val + 1) :: offs true (h.val + 1) :: D) from rfl]
    rw [bigSepL_cons', bigSepL_cons']
    iintro ⟨#HI, #Hlev, Hm, Hw, Ho, ⟨Hx, Hxs⟩, HO⟩ Hk
    iapply (wp_passes X κ c h h' hu hh (hopsKeys l) (fun k' hk' => by
      obtain ⟨y, hy, e⟩ := mem_hopsKeys hk'
      rw [e]; exact hp'.1 y hy) [0, 1, 2, 3] acc) $$ [Hm Hx HO]
    · isplitr; · iexact HI
      isplitr; · iexact Hlev
      isplitl [Hm]; · iexact Hm
      isplitl [Hx]; · unfold hopIn; iexact Hx
      iexact HO
    iintro ⟨Hm, Hx, HrT, HrF, HO⟩
    iapply (wp_gemm sc X w c (kR true h) (offs true (h.val + 1)) (tab_kR true h c) D) $$ [Hm Hw Ho HrT]
    · isplitl [Hm]; · iexact Hm
      isplitl [Hw]; · iexact Hw
      isplitl [Ho]; · iexact Ho
      unfold readP; iexact HrT
    iintro ⟨Hm, Hw, Ho, HrT⟩
    iapply (wp_gemm sc X w c (kR false h) (offs false (h.val + 1)) (tab_kR false h c) (offs true (h.val + 1) :: D)) $$ [Hm Hw Ho HrF]
    · isplitl [Hm]; · iexact Hm
      isplitl [Hw]; · iexact Hw
      isplitl [Ho]; · iexact Ho
      unfold readP; iexact HrF
    iintro ⟨Hm, Hw, Ho, HrF⟩
    iapply (ih (fun y hy => hl y (List.mem_cons_of_mem _ hy)) hp'.2 (offs false (h.val + 1) :: offs true (h.val + 1) :: D)
      (acc ++ (hopKeys h' [0, 1, 2, 3]).map (sentOf c))) $$ [Hm Hw Ho Hxs HO]
    · isplitr; · iexact HI
      isplitr; · iexact Hlev
      isplitl [Hm]; · iexact Hm
      isplitl [Hw]; · iexact Hw
      isplitl [Ho]; · iexact Ho
      isplitl [Hxs] <;> iassumption
    iintro ⟨Hm, Hw, Ho, Hxs, HO⟩
    rw [List.map_append, ← List.append_assoc]
    iapply Hk
    isplitl [Hm]; · iexact Hm
    isplitl [Hw]; · iexact Hw
    isplitl [Ho]; · iexact Ho
    isplitr [HO]
    · isplitr [Hxs]
      · unfold hopOut
        isplitl [Hx]; · iexact Hx
        isplitl [HrT]; · unfold readP; iexact HrT
        unfold readP; iexact HrF
      · iexact Hxs
    iexact HO

/-! ## The first copies; the last arrivals -/

theorem wp_first (X : Vec F S4096x4096 .i8) (κ : GSem nD τ sig → ℕ) (c : Dev nD) (dir : Bool) (l : List Key) (ss : List (Fin 4))
    (acc : List Sent) (K : List Sent → PR F) (Q : PUnit → sProp 𝕄) :
    iprop(invs X κ ∗ metaP c ∗ bigSepL ss (fun s => piece X c ((0, s), shI dir)) ∗ bigSepL (firstKeys dir ss) (sendRes (F := F) c)
        ∗ ow c (tal c (firstKeys dir ss ++ l)))
      ⊢ iprop((metaP c ∗ bigSepL (firstKeys dir ss) (sentRes (F := F) c) ∗ ow c (tal c l) -∗ WP c (K (acc ++ (firstKeys dir ss).map (sentOf c))) Q)
        -∗ WP c (first metaM xM xW semD semA (fun d => nbr d c) dir ss acc K) Q) := by
  induction ss generalizing acc with
  | nil =>
    unfold first
    rw [show (firstKeys dir [] : List Key) = [] from rfl, List.nil_append, List.map_nil, List.append_nil]
    iintro ⟨#HI, Hm, -, -, HO⟩ Hk
    iapply Hk
    isplitl [Hm]; · iexact Hm
    isplitr; · iempintro
    iexact HO
  | cons s ss ih =>
    unfold first
    rw [show firstKeys dir (s :: ss) = (dir, 0, s) :: firstKeys dir ss from rfl]
    rw [bigSepL_cons', bigSepL_cons', bigSepL_cons', List.map_cons, List.cons_append]
    have hu : used (dir, 0, s) := by cases dir <;> rfl
    have hp : piece X c ((0, s), shI dir) = slabP c (pS c (dir, 0, s)) (shN (shI dir)) X := by
      have e : offs dir 0 = 0 := by cases dir <;> rfl
      show slabP c (chunk c 0, s) (shN (shI dir)) X = slabP c (chunk c (offs dir 0), s) (shN (shI dir)) X
      rw [e]
    rw [hp]
    iintro ⟨#HI, Hm, ⟨Hp, Hps⟩, ⟨Hs, Hss⟩, HO⟩ Hk
    iapply (wp_send X κ c dir 0 s hu (firstKeys dir ss ++ l)) $$ [Hm Hp Hs HO]
    · isplitr; · iexact HI
      isplitl [Hm]; · iexact Hm
      isplitl [Hp]; · iexact Hp
      isplitl [Hs] <;> iassumption
    iintro ⟨Hm, Hc, HO⟩
    iapply (ih (acc ++ [sentOf c (dir, 0, s)])) $$ [Hm Hps Hss HO]
    · isplitr; · iexact HI
      isplitl [Hm]; · iexact Hm
      isplitl [Hps]; · iexact Hps
      isplitl [Hss] <;> iassumption
    iintro ⟨Hm, Hcs, HO⟩
    rw [List.append_assoc, List.singleton_append]
    iapply Hk
    isplitl [Hm]; · iexact Hm
    isplitl [Hc Hcs]
    · isplitl [Hc] <;> iassumption
    iexact HO

theorem wp_lasts (X : Vec F S4096x4096 .i8) (κ : GSem nD τ sig → ℕ) (c : Dev nD) (dir : Bool) (ss : List (Fin 4)) (hu : ∀ s ∈ ss, used (dir, 15, s))
    (K : PR F) (Q : PUnit → sProp 𝕄) :
    iprop(invs X κ ∗ levAts L lv ∗ metaP c ∗ bigSepL ss (fun s => waitRes (F := F) c (dir, 15, s)) ∗ ow c (tal c []))
      ⊢ iprop((metaP c ∗ bigSepL ss (fun s => (atPos ER (rC c (dir, 15, s)) 1 ∅ 0 : sProp 𝕄))
            ∗ bigSepL ss (fun s => slabP c (pR c (dir, 15, s)) fullShare X) ∗ ow c (tal c []) -∗ WP c K Q)
        -∗ WP c (lasts metaM xM xW semA dir ss K) Q) := by
  induction ss with
  | nil =>
    unfold lasts
    iintro ⟨#HI, #Hlev, Hm, -, HO⟩ Hk
    iapply Hk
    isplitl [Hm]; · iexact Hm
    isplitr; · iempintro
    isplitr; · iempintro
    iexact HO
  | cons s ss ih =>
    unfold lasts
    rw [bigSepL_cons', bigSepL_cons', bigSepL_cons']
    iintro ⟨#HI, #Hlev, Hm, ⟨Hw, Hws⟩, HO⟩ Hk
    iapply (wp_recv X κ c dir 15 s (hu s (List.mem_cons_self ..)) [] (fun k' hk' => by simp at hk')) $$ [Hm Hw HO]
    · isplitr; · iexact HI
      isplitr; · iexact Hlev
      isplitl [Hm]; · iexact Hm
      isplitl [Hw] <;> iassumption
    iintro ⟨Hm, Hat, Hx, HO⟩
    iapply (ih (fun s' h' => hu s' (List.mem_cons_of_mem _ h'))) $$ [Hm Hws HO]
    · isplitr; · iexact HI
      isplitr; · iexact Hlev
      isplitl [Hm]; · iexact Hm
      isplitl [Hws] <;> iassumption
    iintro ⟨Hm, Hats, Hxs, HO⟩
    iapply Hk
    isplitl [Hm]; · iexact Hm
    isplitl [Hat Hats]
    · isplitl [Hat] <;> iassumption
    isplitl [Hx Hxs]
    · isplitl [Hx] <;> iassumption
    iexact HO

end Cert.KernelIdeal.Ring

end
-- ==== Proof.Talk.lean ====
module

public import proofs.«01_k».proof.Proof.Passes

@[expose] public section

noncomputable section

/-!
The whole exchange: from the first copies to the last product.
-/
namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Lists of lists -/

theorem flat_in {I J K : Type} (l : List I) (g₁ : I → List J) (g₂ : I → List K) (A : J → sProp 𝕄) (B : K → sProp 𝕄) (Φ : I → sProp 𝕄)
    (h : ∀ i, iprop(bigSepL (g₁ i) A ∗ bigSepL (g₂ i) B) ⊢ Φ i) :
    iprop(bigSepL (l.flatMap g₁) A ∗ bigSepL (l.flatMap g₂) B) ⊢ bigSepL l Φ := by
  rw [bigSepL_flatMap', bigSepL_flatMap']
  exact (bigSepL_join' l _ _).trans (bigSepL_mono fun i _ => h i)

theorem flat_out {I J K P : Type} (l : List I) (g₁ : I → List J) (g₂ : I → List K) (g₃ : I → List P) (A : J → sProp 𝕄) (B : K → sProp 𝕄)
    (C : P → sProp 𝕄) (Φ : I → sProp 𝕄) (h : ∀ i, Φ i ⊢ iprop(bigSepL (g₁ i) A ∗ bigSepL (g₂ i) B ∗ bigSepL (g₃ i) C)) :
    bigSepL l Φ ⊢ iprop(bigSepL (l.flatMap g₁) A ∗ bigSepL (l.flatMap g₂) B ∗ bigSepL (l.flatMap g₃) C) := by
  rw [bigSepL_flatMap', bigSepL_flatMap', bigSepL_flatMap']
  refine (bigSepL_mono fun i _ => h i).trans ((bigSepL_sep' l _ _).trans ?_)
  exact BI.sep_mono (Entails.refl _) (bigSepL_sep' l _ _)

/-! ## The arrivals in the order of the program -/

def recvPair (h : Fin 16) (s : Fin 4) : List Key := [(true, h, s), (false, h, s)]
def recvAt (x : Fin 16 × Fin 16) : List Key := [0, 1, 2, 3].flatMap (recvPair x.1)
def lastKeys (dir : Bool) (l : List (Fin 4)) : List Key := l.map fun s => (dir, 15, s)
def recvKeys : List Key := hopList.flatMap recvAt ++ (lastKeys true [0, 1] ++ lastKeys false [2, 3])

set_option maxRecDepth 65536 in
theorem recvKeys_perm : (dirKeys true ++ dirKeys false).Perm recvKeys := by decide +kernel
set_option maxRecDepth 65536 in
theorem hopList_ok : ∀ x ∈ hopList, x.2.val = x.1.val + 1 ∧ ∀ dir s, used (dir, x.1, s) := by decide +kernel
set_option maxRecDepth 65536 in
theorem hopList_pairwise : hopList.Pairwise fun x y => x.1.val < y.2.val := by decide +kernel

/-- From the lists to the hops. -/
theorem hops_in (c : Dev nD) :
    iprop(bigSepL (hopsKeys hopList) (sendRes (F := F) c) ∗ bigSepL (hopList.flatMap recvAt) (waitRes (F := F) c)) ⊢ bigSepL hopList (hopIn (F := F) c) := by
  unfold hopsKeys
  refine flat_in hopList _ recvAt (sendRes c) (waitRes c) (hopIn c) fun x => ?_
  unfold hopKeys recvAt hopIn
  refine flat_in [0, 1, 2, 3] _ (recvPair x.1) (sendRes c) (waitRes c) _ fun s => ?_
  unfold recvPair passIn
  rw [bigSepL_append, bigSepL_cons', bigSepL_singleton]
  iintro ⟨⟨H1, H2⟩, H3, H4⟩
  isplitl [H1 H3]
  · isplitl [H3] <;> iassumption
  · isplitl [H4] <;> iassumption

/-- The pieces a hop leaves. -/
def hopPieces (x : Fin 16 × Fin 16) : List ((Fin 32 × Fin 4) × Fin 3) :=
  [0, 1, 2, 3].flatMap (fun s => leftAt true x.1 x.2 s ++ leftAt false x.1 x.2 s)
    ++ ([0, 1, 2, 3].map (fun s : Fin 4 => (((offs true (x.1.val + 1), s), 2) : (Fin 32 × Fin 4) × Fin 3))
      ++ [0, 1, 2, 3].map (fun s : Fin 4 => (((offs false (x.1.val + 1), s), 2) : (Fin 32 × Fin 4) × Fin 3)))

/-- From the hops to the lists. -/
theorem hops_out (X : Vec F S4096x4096 .i8) (c : Dev nD) :
    bigSepL hopList (hopOut X c) ⊢ iprop(bigSepL (hopList.flatMap recvAt) (fun k => (atPos ER (rC c k) 1 ∅ 0 : sProp 𝕄))
      ∗ bigSepL (hopsKeys hopList) (sentRes (F := F) c) ∗ bigSepL (hopList.flatMap hopPieces) (piece X c)) := by
  unfold hopsKeys
  refine flat_out hopList recvAt _ hopPieces _ _ _ (hopOut X c) fun x => ?_
  unfold hopKeys recvAt hopOut hopPieces
  rw [bigSepL_append, bigSepL_append, bigSepL_map, bigSepL_map]
  have h1 := flat_out [0, 1, 2, 3] (recvPair x.1) (fun s => sentAt true x.2 s ++ sentAt false x.2 s) (fun s => leftAt true x.1 x.2 s ++ leftAt false x.1 x.2 s)
    (fun k => (atPos ER (rC c k) 1 ∅ 0 : sProp 𝕄)) (sentRes (F := F) c) (piece X c)
    (fun s => iprop(passOut X c true x.1 x.2 s ∗ passOut X c false x.1 x.2 s)) (fun s => by
      unfold recvPair passOut
      rw [bigSepL_append, bigSepL_append, bigSepL_cons', bigSepL_singleton]
      iintro ⟨⟨H1, H2, H3⟩, H4, H5, H6⟩
      isplitl [H1 H4]
      · isplitl [H1] <;> iassumption
      isplitl [H2 H5]
      · isplitl [H2] <;> iassumption
      isplitl [H3] <;> iassumption)
  unfold readP
  iintro ⟨H, HT, HF⟩
  ihave H := h1 $$ H
  icases H with ⟨H1, H2, H3⟩
  isplitl [H1]; · iexact H1
  isplitl [H2]; · iexact H2
  isplitl [H3]; · iexact H3
  isplitl [HT]; · iexact HT
  iexact HF

/-! ## The pieces in the end -/

def ownPieces (i : Fin 3) : List ((Fin 32 × Fin 4) × Fin 3) := [0, 1, 2, 3].map fun s => ((0, s), i)
def lastPieces (i : Fin 3) : List ((Fin 32 × Fin 4) × Fin 3) := [0, 1, 2, 3].map fun s => ((16, s), i)
def sentPieces : List ((Fin 32 × Fin 4) × Fin 3) := progKeys.map fun k => ((offs k.1 k.2.1.val, k.2.2), shI k.1)

def donePieces : List ((Fin 32 × Fin 4) × Fin 3) :=
  hopList.flatMap hopPieces ++ (ownPieces 2 ++ (sentPieces ++ (lastPieces 0 ++ (lastPieces 1 ++ lastPieces 2))))
def slabs : List (Fin 32 × Fin 4) := (List.finRange 32).flatMap fun o => (List.finRange 4).map fun s => (o, s)
def allPieces : List ((Fin 32 × Fin 4) × Fin 3) := slabs.flatMap fun p => [(p, 0), (p, 1), (p, 2)]

set_option maxRecDepth 65536 in
theorem allPieces_nodup : allPieces.Nodup := by decide +kernel
set_option maxRecDepth 65536 in
theorem pieces_perm : allPieces.Perm donePieces := by decide +kernel

theorem sent_pieces (X : Vec F S4096x4096 .i8) (c : Dev nD) : bigSepL progKeys (sendPay X c) = bigSepL sentPieces (piece X c) := by
  unfold sentPieces; rw [bigSepL_map]; rfl

/-- The chunks multiplied. -/
def doneAll : List (Fin 32) := 16 :: doneOf hopList [0]
set_option maxRecDepth 65536 in
theorem doneAll_all : ∀ o, o ∈ doneAll := by decide +kernel

/-! ## The end -/

theorem last_pieces (X : Vec F S4096x4096 .i8) (c : Dev nD) :
    iprop(bigSepL [0, 1] (fun s => slabP c (pR c (true, 15, s)) fullShare X) ∗ bigSepL [2, 3] (fun s => slabP c (pR c (false, 15, s)) fullShare X))
      ⊢ iprop(bigSepL (lastPieces 0) (piece X c) ∗ bigSepL (lastPieces 1) (piece X c) ∗ bigSepL [0, 1, 2, 3] (fun s => piece X c ((16, s), 2))) := by
  have h : ∀ (dir : Bool) (s : Fin 4), slabP c (pR c (dir, 15, s)) fullShare X ⊢ iprop(piece X c ((16, s), 0) ∗ piece X c ((16, s), 1) ∗ piece X c ((16, s), 2)) := fun dir s => by
    have e : pR c (dir, 15, s) = (chunk c 16, s) := by
      have : offs dir 16 = 16 := by cases dir <;> rfl
      show (chunk c (offs dir 16), s) = (chunk c 16, s)
      rw [this]
    rw [e]; exact piece_split X c (16, s)
  have hj : iprop(bigSepL [0, 1] (fun s => slabP c (pR c (true, 15, s)) fullShare X) ∗ bigSepL [2, 3] (fun s => slabP c (pR c (false, 15, s)) fullShare X))
      ⊢ bigSepL [0, 1, 2, 3] (fun s => iprop(piece X c ((16, s), 0) ∗ piece X c ((16, s), 1) ∗ piece X c ((16, s), 2))) := by
    rw [show ([0, 1, 2, 3] : List (Fin 4)) = [0, 1] ++ [2, 3] from rfl, bigSepL_append]
    exact BI.sep_mono (bigSepL_mono fun s _ => h true s) (bigSepL_mono fun s _ => h false s)
  unfold lastPieces
  rw [bigSepL_map, bigSepL_map]
  refine hj.trans ((bigSepL_sep' _ _ _).trans ?_)
  exact BI.sep_mono (Entails.refl _) (bigSepL_sep' _ _ _)

theorem wp_finish (sc : F .f32) (X : Vec F S4096x4096 .i8) (w : Vec F S4096x64 .i8) (κ : GSem nD τ sig → ℕ) (c : Dev nD) (Q : PUnit → sProp 𝕄) :
    iprop(invs X κ ∗ levAts L lv ∗ metaP c ∗ wP c w ∗ outI sc X w c (doneOf hopList [0])
        ∗ bigSepL (lastKeys true [0, 1]) (waitRes (F := F) c) ∗ bigSepL (lastKeys false [2, 3]) (waitRes (F := F) c)
        ∗ bigSepL progKeys (sentRes (F := F) c) ∗ bigSepL progKeys (fun k => (atPos ER (sC c k) 0 ∅ 0 : sProp 𝕄)) ∗ ow c (tal c []))
      ⊢ iprop((metaP c ∗ wP c w ∗ outI sc X w c doneAll
            ∗ bigSepL (lastKeys true [0, 1]) (fun k => (atPos ER (rC c k) 1 ∅ 0 : sProp 𝕄))
            ∗ bigSepL (lastKeys false [2, 3]) (fun k => (atPos ER (rC c k) 1 ∅ 0 : sProp 𝕄))
            ∗ bigSepL progKeys (fun k => (atPos ER (sC c k) 1 ∅ 0 : sProp 𝕄))
            ∗ bigSepL sentPieces (piece X c) ∗ bigSepL (lastPieces 0) (piece X c) ∗ bigSepL (lastPieces 1) (piece X c) ∗ bigSepL (lastPieces 2) (piece X c)
            ∗ ow c 0 -∗ WP c (.ret ⟨⟩) Q)
        -∗ WP c (finish metaM wM oM xM xW semD semA sc (progKeys.map (sentOf c))) Q) := by
  rw [← sent_pieces]
  unfold finish lastKeys
  rw [bigSepL_map, bigSepL_map, bigSepL_map, bigSepL_map]
  iintro ⟨#HI, #Hlev, Hm, Hw, Ho, HwT, HwF, Hs, Hat, HO⟩ Hk
  iapply (wp_lasts X κ c true [0, 1] (by decide)) $$ [Hm HwT HO]
  · isplitr; · iexact HI
    isplitr; · iexact Hlev
    isplitl [Hm]; · iexact Hm
    isplitl [HwT] <;> iassumption
  iintro ⟨Hm, HaT, HxT, HO⟩
  iapply (wp_lasts X κ c false [2, 3] (by decide)) $$ [Hm HwF HO]
  · isplitr; · iexact HI
    isplitr; · iexact Hlev
    isplitl [Hm]; · iexact Hm
    isplitl [HwF] <;> iassumption
  iintro ⟨Hm, HaF, HxF, HO⟩
  iapply (wp_drain X κ c progKeys used_progKeys) $$ [Hs Hat HO]
  · isplitr; · iexact HI
    isplitl [Hs]; · iexact Hs
    isplitl [Hat]; · iexact Hat
    iexact HO
  iintro ⟨Hat, Hsp, HO⟩
  ihave Hx := (last_pieces X c) $$ [HxT HxF]
  · isplitl [HxT] <;> iassumption
  icases Hx with ⟨Hx0, Hx1, Hx2⟩
  iapply (wp_gemm sc X w c (kR true 15) 16 (by rw [tab_kR]; rfl) (doneOf hopList [0])) $$ [Hm Hw Ho Hx2]
  · isplitl [Hm]; · iexact Hm
    isplitl [Hw]; · iexact Hw
    isplitl [Ho] <;> iassumption
  iintro ⟨Hm, Hw, Ho, Hx2⟩
  ihave Hx2 := (Entails.of_eq (bigSepL_map (M := 𝕄) (fun s : Fin 4 => (((16, s), 2) : (Fin 32 × Fin 4) × Fin 3)) [0, 1, 2, 3] (piece X c)).symm) $$ Hx2
  iapply Hk
  isplitl [Hm]; · iexact Hm
  isplitl [Hw]; · iexact Hw
  isplitl [Ho]; · unfold doneAll; iexact Ho
  isplitl [HaT]; · iexact HaT
  isplitl [HaF]; · iexact HaF
  isplitl [Hat]; · iexact Hat
  isplitl [Hsp]; · iexact Hsp
  isplitl [Hx0]; · iexact Hx0
  isplitl [Hx1]; · iexact Hx1
  isplitl [Hx2]; · unfold lastPieces; iexact Hx2
  iexact HO

theorem wp_talk (sc : F .f32) (X : Vec F S4096x4096 .i8) (w : Vec F S4096x64 .i8) (κ : GSem nD τ sig → ℕ) (c : Dev nD) (Q : PUnit → sProp 𝕄) :
    iprop(invs X κ ∗ levAts L lv ∗ metaP c ∗ wP c w ∗ outI sc X w c []
        ∗ (bigSepL (ownPieces 0) (piece X c) ∗ bigSepL (ownPieces 1) (piece X c) ∗ bigSepL (ownPieces 2) (piece X c))
        ∗ bigSepL progKeys (sendRes (F := F) c) ∗ bigSepL recvKeys (waitRes (F := F) c)
        ∗ bigSepL progKeys (fun k => (atPos ER (sC c k) 0 ∅ 0 : sProp 𝕄)) ∗ ow c (tal c progKeys))
      ⊢ iprop((metaP c ∗ wP c w ∗ outI sc X w c doneAll
            ∗ bigSepL recvKeys (fun k => (atPos ER (rC c k) 1 ∅ 0 : sProp 𝕄))
            ∗ bigSepL progKeys (fun k => (atPos ER (sC c k) 1 ∅ 0 : sProp 𝕄))
            ∗ bigSepL allPieces (piece X c) ∗ ow c 0 -∗ WP c (.ret ⟨⟩) Q)
        -∗ WP c (talk metaM wM oM xM xW semD semA (fun d => nbr d c) sc) Q) := by
  rw [TalkSites.bigSepL_perm pieces_perm allPieces_nodup]
  unfold recvKeys donePieces talk
  rw [show bigSepL progKeys (sendRes (F := F) c) = iprop(bigSepL (firstKeys true [0, 1, 2, 3]) (sendRes (F := F) c)
      ∗ bigSepL (firstKeys false [0, 1, 2, 3]) (sendRes (F := F) c) ∗ bigSepL (hopsKeys hopList) (sendRes (F := F) c)) from by
    unfold progKeys; rw [bigSepL_append, bigSepL_append]]
  rw [show tal c progKeys = tal c (firstKeys true [0, 1, 2, 3] ++ (firstKeys false [0, 1, 2, 3] ++ hopsKeys hopList)) from rfl]
  rw [bigSepL_append, bigSepL_append, bigSepL_append, bigSepL_append, bigSepL_append, bigSepL_append, bigSepL_append, bigSepL_append, bigSepL_append]
  rw [show bigSepL (ownPieces 0) (piece X c) = bigSepL [0, 1, 2, 3] (fun s => piece X c ((0, s), shI true)) from bigSepL_map ..,
    show bigSepL (ownPieces 1) (piece X c) = bigSepL [0, 1, 2, 3] (fun s => piece X c ((0, s), shI false)) from bigSepL_map ..,
    show bigSepL (ownPieces 2) (piece X c) = bigSepL [0, 1, 2, 3] (fun s => piece X c ((0, s), 2)) from bigSepL_map ..]
  iintro ⟨#HI, #Hlev, Hm, Hw, Ho, ⟨Hp0, Hp1, Hp2⟩, ⟨HsT, HsF, HsH⟩, ⟨HwH, HwT, HwF⟩, Hat, HO⟩ Hk
  iapply (wp_first X κ c true (firstKeys false [0, 1, 2, 3] ++ hopsKeys hopList) [0, 1, 2, 3] []) $$ [Hm Hp0 HsT HO]
  · isplitr; · iexact HI
    isplitl [Hm]; · iexact Hm
    isplitl [Hp0]; · iexact Hp0
    isplitl [HsT] <;> iassumption
  iintro ⟨Hm, HcT, HO⟩
  iapply (wp_first X κ c false (hopsKeys hopList) [0, 1, 2, 3] ([] ++ (firstKeys true [0, 1, 2, 3]).map (sentOf c))) $$ [Hm Hp1 HsF HO]
  · isplitr; · iexact HI
    isplitl [Hm]; · iexact Hm
    isplitl [Hp1]; · iexact Hp1
    isplitl [HsF] <;> iassumption
  iintro ⟨Hm, HcF, HO⟩
  iapply (wp_gemm sc X w c (kS true 0) 0 (by rw [tab_kS]; rfl) []) $$ [Hm Hw Ho Hp2]
  · isplitl [Hm]; · iexact Hm
    isplitl [Hw]; · iexact Hw
    isplitl [Ho] <;> iassumption
  iintro ⟨Hm, Hw, Ho, Hp2⟩
  ihave Hh := (hops_in c) $$ [HsH HwH]
  · isplitl [HsH] <;> iassumption
  iapply (wp_hops sc X w κ c hopList hopList_ok hopList_pairwise [0]
    ([] ++ (firstKeys true [0, 1, 2, 3]).map (sentOf c) ++ (firstKeys false [0, 1, 2, 3]).map (sentOf c))) $$ [Hm Hw Ho Hh HO]
  · isplitr; · iexact HI
    isplitr; · iexact Hlev
    isplitl [Hm]; · iexact Hm
    isplitl [Hw]; · iexact Hw
    isplitl [Ho]; · iexact Ho
    isplitl [Hh] <;> iassumption
  iintro ⟨Hm, Hw, Ho, Hh, HO⟩
  ihave Hh := (hops_out X c) $$ Hh
  icases Hh with ⟨HaH, HcH, HpH⟩
  rw [show [] ++ (firstKeys true [0, 1, 2, 3]).map (sentOf c) ++ (firstKeys false [0, 1, 2, 3]).map (sentOf c) ++ (hopsKeys hopList).map (sentOf c)
      = progKeys.map (sentOf c) from by unfold progKeys; rw [List.map_append, List.map_append, List.nil_append, List.append_assoc]]
  iapply (wp_finish sc X w κ c) $$ [Hm Hw Ho HwT HwF HcT HcF HcH Hat HO]
  · isplitr; · iexact HI
    isplitr; · iexact Hlev
    isplitl [Hm]; · iexact Hm
    isplitl [Hw]; · iexact Hw
    isplitl [Ho]; · iexact Ho
    isplitl [HwT]; · iexact HwT
    isplitl [HwF]; · iexact HwF
    isplitl [HcT HcF HcH]
    · unfold progKeys
      rw [bigSepL_append, bigSepL_append]
      isplitl [HcT]; · iexact HcT
      isplitl [HcF] <;> iassumption
    isplitl [Hat] <;> iassumption
  iintro ⟨Hm, Hw, Ho, HaT, HaF, Hat, Hsp, Hx0, Hx1, Hx2, HO⟩
  iapply Hk
  isplitl [Hm]; · iexact Hm
  isplitl [Hw]; · iexact Hw
  isplitl [Ho]; · iexact Ho
  isplitl [HaH HaT HaF]
  · isplitl [HaH]; · iexact HaH
    isplitl [HaT] <;> iassumption
  isplitl [Hat]; · iexact Hat
  isplitl [HpH Hp2 Hsp Hx0 Hx1 Hx2]
  · isplitl [HpH]; · iexact HpH
    isplitl [Hp2]; · iexact Hp2
    isplitl [Hsp]; · iexact Hsp
    isplitl [Hx0]; · iexact Hx0
    isplitl [Hx1] <;> iassumption
  iexact HO

end Cert.KernelIdeal.Ring

end
-- ==== Proof.Slabs.lean ====
module

public import proofs.«01_k».proof.Proof.Talk

@[expose] public section

noncomputable section

/-!
The gathered array cut into sub-slabs and put together again; opening and closing the semaphores of the copies.
-/
namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Lists under an update -/

/-- An update on every element, with something that stays true, is an update on the list. -/
theorem bigSepL_update {I : Type} (P : sProp 𝕄) [BI.Persistent P] (l : List I) (Φ Ψ : I → sProp 𝕄)
    (h : ∀ i ∈ l, iprop(P ∗ Φ i) ⊢ (|={Set.univ}=> Ψ i : sProp 𝕄)) : iprop(P ∗ bigSepL l Φ) ⊢ (|={Set.univ}=> bigSepL l Ψ : sProp 𝕄) := by
  induction l with
  | nil => rw [bigSepL_nil, bigSepL_nil]; iintro ⟨-, -⟩; imodintro; iempintro
  | cons a l ih =>
    rw [bigSepL_cons', bigSepL_cons']
    have h1 := h a (List.mem_cons_self)
    have h2 := ih fun i hi => h i (List.mem_cons_of_mem _ hi)
    iintro ⟨#HP, H1, H2⟩
    imod h1 $$ [H1] with H1
    · isplitr; · iexact HP
      iexact H1
    imod h2 $$ [H2] with H2
    · isplitr; · iexact HP
      iexact H2
    imodintro
    isplitl [H1] <;> iassumption

/-! ## The keys -/

/-- The semaphores no copy goes over. -/
def restKeys : List Key := [2, 3].map (fun s : Fin 4 => ((true, 15, s) : Key)) ++ [0, 1].map (fun s : Fin 4 => ((false, 15, s) : Key))
set_option maxRecDepth 65536 in
theorem restKeys_not : ∀ k ∈ restKeys, ¬ used k := by decide +kernel
/-- All of them. -/
def allKeys : List Key := progKeys ++ restKeys
set_option maxRecDepth 65536 in
theorem allKeys_nodup : allKeys.Nodup := by decide +kernel
set_option maxRecDepth 65536 in
theorem allKeys_all : Finset.univ = allKeys.toFinset := by decide +kernel

theorem prog_dirs (Φ : Key → sProp 𝕄) : bigSepL progKeys Φ = iprop(bigSepL (dirKeys true) Φ ∗ bigSepL (dirKeys false) Φ) := by
  rw [← TalkSites.bigSepL_perm progKeys_perm dirKeys_nodup, bigSepL_append]
theorem prog_recv (Φ : Key → sProp 𝕄) : bigSepL progKeys Φ = bigSepL recvKeys Φ := by
  rw [← TalkSites.bigSepL_perm progKeys_perm dirKeys_nodup, ← TalkSites.bigSepL_perm recvKeys_perm dirKeys_nodup]

/-! ## Opening and closing -/

/-- A key's two semaphores unopened, open, and closed. -/
def shut (c : Dev nD) (k : Key) : sProp 𝕄 := iprop(openTok ER (sC c k) ∗ openTok ER (rC c k))
def vals (c : Dev nD) (k : Key) : sProp 𝕄 := iprop(semVal (sC c k) 0 ∗ semVal (rC c k) 0)
def opn (c : Dev nD) (k : Key) : sProp 𝕄 :=
  iprop((atPos ER (sC c k) 0 ∅ 0 ∗ reached ER (sC c k) 0) ∗ (atPos ER (rC c k) 0 ∅ 0 ∗ reached ER (rC c k) 0))
/-- A key's two semaphores at round `r`. -/
def atR (r : ℕ) (c : Dev nD) (k : Key) : sProp 𝕄 := iprop(atPos ER (sC c k) r ∅ 0 ∗ atPos ER (rC c k) r ∅ 0)

theorem open_all (X : Vec F S4096x4096 .i8) (κ : GSem nD τ sig → ℕ) (c : Dev nD) :
    iprop(invs X κ ∗ bigSepL allKeys (fun k => iprop(shut (F := F) c k ∗ vals (F := F) c k))) ⊢ (|={Set.univ}=> bigSepL allKeys (opn (F := F) c) : sProp 𝕄) := by
  refine bigSepL_update _ _ _ _ fun k _ => ?_
  unfold shut vals opn
  iintro ⟨#HI, ⟨Ho1, Ho2⟩, Hv1, Hv2⟩
  imod (Rounds.cell_open ER (rd X) (g := sC c k) (Set.mem_univ (κ (sC c k)))) $$ [Ho1 Hv1] with H1
  · isplitr; · iapply (inv_at X κ (send_mem c k)); iexact HI
    isplitl [Ho1] <;> iassumption
  imod (Rounds.cell_open ER (rd X) (g := rC c k) (Set.mem_univ (κ (rC c k)))) $$ [Ho2 Hv2] with H2
  · isplitr; · iapply (inv_at X κ (recv_mem c k)); iexact HI
    isplitl [Ho2] <;> iassumption
  imodintro
  isplitl [H1] <;> iassumption

theorem close_list (X : Vec F S4096x4096 .i8) (κ : GSem nD τ sig → ℕ) (c : Dev nD) (R : ℕ) (l : List Key)
    (hs : ∀ k ∈ l, ∀ r, R ≤ r → (rd X).duties (sC c k) r = ∅) (hr : ∀ k ∈ l, ∀ r, R ≤ r → (rd X).duties (rC c k) r = ∅) :
    iprop(invs X κ ∗ bigSepL l (atR (F := F) R c)) ⊢ (|={Set.univ}=> bigSepL l (vals (F := F) c) : sProp 𝕄) := by
  refine bigSepL_update _ _ _ _ fun k hk => ?_
  unfold vals atR
  iintro ⟨#HI, H1, H2⟩
  imod (Rounds.cell_close ER (rd X) (g := sC c k) (Set.mem_univ (κ (sC c k))) id (hs k hk)) $$ [H1] with H1
  · isplitr; · iapply (inv_at X κ (send_mem c k)); iexact HI
    iexact H1
  imod (Rounds.cell_close ER (rd X) (g := rC c k) (Set.mem_univ (κ (rC c k))) id (hr k hk)) $$ [H2] with H2
  · isplitr; · iapply (inv_at X κ (recv_mem c k)); iexact HI
    iexact H2
  imodintro
  isplitl [H1] <;> iassumption

theorem close_all (X : Vec F S4096x4096 .i8) (κ : GSem nD τ sig → ℕ) (c : Dev nD) :
    iprop(invs X κ ∗ bigSepL progKeys (atR (F := F) 1 c) ∗ bigSepL restKeys (atR (F := F) 0 c)) ⊢ (|={Set.univ}=> bigSepL allKeys (vals (F := F) c) : sProp 𝕄) := by
  have h1 := close_list X κ c 1 progKeys (fun k _ => duties_later X (sC c k)) (fun k _ => duties_later X (rC c k))
  have h2 := close_list X κ c 0 restKeys (fun k hk r _ => duties_send_not X c (restKeys_not k hk) r) (fun k hk r _ => duties_recv_not X c (restKeys_not k hk) r)
  unfold allKeys
  rw [bigSepL_append]
  iintro ⟨#HI, H1, H2⟩
  imod h1 $$ [H1] with H1
  · isplitr; · iexact HI
    iexact H1
  imod h2 $$ [H2] with H2
  · isplitr; · iexact HI
    iexact H2
  imodintro
  isplitl [H1] <;> iassumption

/-- The region's own semaphores, key by key. -/
def osem (x : Bool × Key) : SemLoc sig := .dma (semOf x)
def osems : List (Bool × Key) := allKeys.flatMap fun k => [(false, k), (true, k)]
set_option maxRecDepth 65536 in
theorem osems_nodup : osems.Nodup := by decide +kernel
set_option maxRecDepth 65536 in
theorem osems_all : Finset.univ = osems.toFinset := by decide +kernel

theorem by_keys (Φ : GSem nD τ sig → sProp 𝕄) (c : Dev nD) :
    (bigSep Finset.univ fun x : Bool × Key => Φ ((c : Thread nD τ), osem x)) = bigSepL allKeys (fun k => iprop(Φ (sC c k) ∗ Φ (rC c k))) := by
  rw [bigSep_univ_eq_bigSepL osems osems_all osems_nodup]
  unfold osems
  rw [bigSepL_flatMap']
  congr 1

theorem ownSems_eq (c : Dev nD) : (Pipeline.ownSems0 osem c : sProp 𝕄) = bigSepL allKeys (vals (F := F) c) :=
  by_keys (fun g => (semVal g 0 : sProp 𝕄)) c

/-! ## The array -/

set_option maxRecDepth 65536 in
theorem slabs_nodup : slabs.Nodup := by decide +kernel
set_option maxRecDepth 65536 in
theorem slabs_all : Finset.univ = slabs.toFinset := by decide +kernel

theorem array_slabs (c : Dev nD) (f : Vec F S4096x4096 .i8) :
    (((c : Thread nD τ).loc cc0_scratch0) ↦{fullShare} f : sProp 𝕄) = bigSepL slabs (fun p => slabP c (chunk c p.1, p.2) fullShare f) := by
  have h := pointsTo_biUnion (ℓ := (c : Thread nD τ).loc cc0_scratch0) (q := fullShare) (f := f) (Ix := Unit) (Name := ℕ) (U := UU) (Lvl := ℕ)
    Finset.univ slSet fun p _ p' _ hne => sl_disjoint hne
  rw [sl_cover] at h
  refine h.trans ?_
  rw [bigSep_univ_equiv (Equiv.prodCongr (chunkEquiv c) (Equiv.refl (Fin 4))), bigSep_univ_eq_bigSepL slabs slabs_all slabs_nodup]
  congr 1
  funext p
  unfold slabP
  rfl

/-- At the start: the own sub-slabs, then the places of what arrives. -/
def startSlabs : List (Fin 32 × Fin 4) :=
  [0, 1, 2, 3].map (fun s : Fin 4 => ((0, s) : Fin 32 × Fin 4))
    ++ ((dirKeys true).map (fun k => (offs k.1 (k.2.1.val + 1), k.2.2)) ++ (dirKeys false).map (fun k => (offs k.1 (k.2.1.val + 1), k.2.2)))
set_option maxRecDepth 65536 in
theorem startSlabs_perm : slabs.Perm startSlabs := by decide +kernel

theorem array_start (c : Dev nD) (f : Vec F S4096x4096 .i8) :
    (((c : Thread nD τ).loc cc0_scratch0) ↦{fullShare} f : sProp 𝕄)
      = iprop((((c : Thread nD τ).loc cc0_scratch0) ↦[(chunkR c).set]{fullShare} f)
        ∗ bigSepL (dirKeys true) (fun k => slabP c (pR c k) fullShare f) ∗ bigSepL (dirKeys false) (fun k => slabP c (pR c k) fullShare f)) := by
  rw [array_slabs, TalkSites.bigSepL_perm startSlabs_perm slabs_nodup]
  unfold startSlabs
  rw [bigSepL_append, bigSepL_append, bigSepL_map, bigSepL_map, bigSepL_map]
  congr 1
  rw [chunkR_eq]
  refine Eq.trans ?_ (pointsTo_biUnion (ℓ := (c : Thread nD τ).loc cc0_scratch0) Finset.univ (fun s => slSet (c, s))
    fun s _ s' _ h => sl_disjoint fun e => h (congrArg Prod.snd e)).symm
  rw [bigSep_univ_eq_bigSepL [0, 1, 2, 3] (by decide) (by decide)]
  congr 1
  funext s
  unfold slabP
  show ((c : Thread nD τ).loc cc0_scratch0 ↦[slSet (chunk c 0, s)]{fullShare} f : sProp 𝕄) = _
  rw [chunk_zero]

/-- The own chunk as its twelve pieces. -/
theorem own_pieces (X : Vec F S4096x4096 .i8) (c : Dev nD) :
    (((c : Thread nD τ).loc cc0_scratch0) ↦[(chunkR c).set]{fullShare} X : sProp 𝕄)
      ⊢ iprop(bigSepL (ownPieces 0) (piece X c) ∗ bigSepL (ownPieces 1) (piece X c) ∗ bigSepL (ownPieces 2) (piece X c)) := by
  have h : (((c : Thread nD τ).loc cc0_scratch0) ↦[(chunkR c).set]{fullShare} X : sProp 𝕄)
      = bigSepL [0, 1, 2, 3] (fun s : Fin 4 => slabP c (chunk c 0, s) fullShare X) := by
    rw [chunkR_eq, chunk_zero]
    refine (pointsTo_biUnion (ℓ := (c : Thread nD τ).loc cc0_scratch0) Finset.univ (fun s => slSet (c, s))
      fun s _ s' _ h => sl_disjoint fun e => h (congrArg Prod.snd e)).trans ?_
    rw [bigSep_univ_eq_bigSepL [0, 1, 2, 3] (by decide) (by decide)]
    congr 1
    funext s
    unfold slabP
    rfl
  rw [h]
  unfold ownPieces
  rw [bigSepL_map, bigSepL_map, bigSepL_map]
  refine (bigSepL_mono fun s _ => piece_split X c (0, s)).trans ((bigSepL_sep' _ _ _).trans ?_)
  exact BI.sep_mono (Entails.refl _) (bigSepL_sep' _ _ _)

/-- All the pieces are the array. -/
theorem array_end (X : Vec F S4096x4096 .i8) (c : Dev nD) :
    bigSepL allPieces (piece X c) ⊢ (((c : Thread nD τ).loc cc0_scratch0) ↦{fullShare} X : sProp 𝕄) := by
  rw [array_slabs]
  unfold allPieces
  rw [bigSepL_flatMap']
  refine bigSepL_mono fun p _ => ?_
  rw [bigSepL_cons', bigSepL_cons', bigSepL_singleton]
  exact piece_join X c p

/-- The payment to a neighbour. -/
theorem bar_pay (c : Dev nD) (d : Bool) (f : Vec F S4096x4096 .i8) :
    iprop(bigSepL (dirKeys (!d)) (fun k => slabP c (pR c k) fullShare f) ∗ bigSepL (dirKeys (!d)) (fun k => (reached ER (rC c k) 0 : sProp 𝕄)))
      ⊢ barPay (F := F) (nbr d c) (!d) := by
  refine (bigSepL_join' _ _ _).trans (bigSepL_mono fun k hk => ?_)
  have hd := dirKeys_dir hk
  have e : nbr k.1 (nbr d c) = c := by rw [hd]; exact nbr_nbr d c
  have e' : pS (nbr d c) k = pR c k := by rw [← pR_nbr, e]
  unfold place
  rw [e, e']
  iintro ⟨H, Hr⟩
  isplitl [H]
  · iexists f; iexact H
  iexact Hr

end Cert.KernelIdeal.Ring

end
-- ==== Proof.Body.lean ====
module

public import proofs.«01_k».proof.Proof.Slabs

@[expose] public section

noncomputable section

/-!
The body on a device, from its own block to the result.
-/
namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## What a device holds for the protocol -/

/-- For the barriers. -/
def bars (c : Dev nD) : sProp 𝕄 :=
  iprop(atPos ER (barC c) 0 ∅ 0 ∗ (dutyTok ER (barC (nbr true c)) 0 false ∗ dutyTok ER (barC (nbr false c)) 0 true)
    ∗ (reached ER (barC (nbr true c)) 0 ∗ reached ER (barC (nbr false c)) 0))
/-- For a copy. -/
def tokRes (c : Dev nD) (k : Key) : sProp 𝕄 := iprop(dutyTok ER (sC c k) 0 true ∗ dutyTok ER (rC (nbr k.1 c) k) 0 true)
/-- The credit it waits with. -/
def credRes (c : Dev nD) : sProp 𝕄 :=
  iprop(cred (tallyAt (barC c) () 2) ∗ bigSepL progKeys (fun k => (cred (tallyAt (rC c k) () N) : sProp 𝕄)))

/-- All of it, the semaphores of the copies open. -/
def ghostO (X : Vec F S4096x4096 .i8) (c : Dev nD) : sProp 𝕄 :=
  iprop(∃ κ, invs X κ ∗ levAts L lv ∗ bars (F := F) c ∗ bigSepL progKeys (tokRes (F := F) c) ∗ credRes (F := F) c ∗ bigSepL allKeys (opn (F := F) c))

/-! ## The windows -/

abbrev blkM : Memref sig .tc .vmem S128x4096 .i8 := Memref.whole cc0_stg1_0
abbrev sxM : Memref sig .tc .smem S1 .f32 := Memref.whole cc0_stg3_0
abbrev swM : Memref sig .tc .smem S1 .f32 := Memref.whole cc0_stg4_0

def blkP (c : Dev nD) (x : Vec F S128x4096 .i8) : sProp 𝕄 := ((c : Thread nD τ).loc cc0_stg1_0) ↦{fullShare} x
def sxP (c : Dev nD) (a : Vec F S1 .f32) : sProp 𝕄 := ((c : Thread nD τ).loc cc0_stg3_0) ↦{fullShare} a
def swP (c : Dev nD) (a : Vec F S1 .f32) : sProp 𝕄 := ((c : Thread nD τ).loc cc0_stg4_0) ↦{fullShare} a

/-- The scale. -/
def scOf (a b : Vec F S1 .f32) : F .f32 :=
  k0_pay2 (a (Shape.Idx.first (s := S1) (numel1_S1.symm ▸ Nat.one_pos))) (b (Shape.Idx.first (s := S1) (numel1_S1.symm ▸ Nat.one_pos)))

theorem idx_one (i j : S1.Idx) : i = j := by
  funext a
  obtain rfl : a = 0 := Subsingleton.elim _ _
  exact Subsingleton.elim (α := Fin 1) _ _

theorem rd_one1 (a : Vec F S1 .f32) (j : S1.Idx) : (sxM.access (Rect.unit (s := S1) ![0] S1.size inb_S1_S1_0)).read (Elt F) a j
    = a (Shape.Idx.first (s := S1) (numel1_S1.symm ▸ Nat.one_pos)) := congrArg a (idx_one _ _)
theorem rd_one2 (a : Vec F S1 .f32) (j : S1.Idx) : (swM.access (Rect.unit (s := S1) ![0] S1.size inb_S1_S1_0)).read (Elt F) a j
    = a (Shape.Idx.first (s := S1) (numel1_S1.symm ▸ Nat.one_pos)) := congrArg a (idx_one _ _)

theorem out_all (sc : F .f32) (X : Vec F S4096x4096 .i8) (w : Vec F S4096x64 .i8) (c : Dev nD) :
    outI sc X w c doneAll ⊢ (((c : Thread nD τ).loc cc0_stg5_0) ↦{fullShare} outG sc X w : sProp 𝕄) := by
  unfold outI
  iintro ⟨%g, Ho, %hg⟩
  have e : g = outG sc X w := funext fun i => by
    have h : chunk c ((chunkEquiv c).symm (rowChunk i)) = rowChunk i := (chunkEquiv c).apply_symm_apply (rowChunk i)
    exact hg _ (doneAll_all _) i (by rw [h]; rfl)
  rw [e]
  iexact Ho

/-! ## The own block -/

theorem own_write (X : Vec F S4096x4096 .i8) (c : Dev nD) (x : Vec F S128x4096 .i8) (hX : chunkV X c = k0_pay3 x) (f : Vec F S4096x4096 .i8) :
    (((c : Thread nD τ).loc cc0_scratch0) ↦[(chunkR c).set]{fullShare} (((xM.access (chunkR c)).write (Elt F) f (k0_pay3 x) Finset.univ) : Vec F S4096x4096 .i8) : sProp 𝕄)
      = (((c : Thread nD τ).loc cc0_scratch0) ↦[(chunkR c).set]{fullShare} X) := by
  refine pointsTo_congr fun i hi => ?_
  have hs : (xM.access (chunkR c)).set = (chunkR c).set := View.set_slice_whole _ _
  rw [← hX]
  have e : chunkV X c = (xM.access (chunkR c)).read (Elt F) X := rfl
  rw [e]
  exact (congrFun (View.write_read_eq_piecewise (v := xM.access (chunkR c)) (Val := Elt F) f X Finset.univ) i).trans
    (Finset.piecewise_eq_of_mem _ _ _ (by
      show i ∈ (xM.access (chunkR c)).set
      rw [hs]; exact hi))

theorem wp_own (sc : F .f32) (X : Vec F S4096x4096 .i8) (x : Vec F S128x4096 .i8) (w : Vec F S4096x64 .i8) (κ : GSem nD τ sig → ℕ) (c : Dev nD)
    (hX : chunkV X c = k0_pay3 x) (f : Vec F S4096x4096 .i8) (g : Vec F S4096x64 .f32) (Q : PUnit → sProp 𝕄) :
    iprop(invs X κ ∗ levAts L lv ∗ metaP c ∗ blkP c x ∗ wP c w ∗ (((c : Thread nD τ).loc cc0_stg5_0) ↦{fullShare} g)
        ∗ (((c : Thread nD τ).loc cc0_scratch0) ↦[(chunkR c).set]{fullShare} f)
        ∗ bigSepL progKeys (sendRes (F := F) c) ∗ bigSepL recvKeys (waitRes (F := F) c)
        ∗ bigSepL progKeys (fun k => (atPos ER (sC c k) 0 ∅ 0 : sProp 𝕄)) ∗ ow c (tal c progKeys))
      ⊢ iprop((metaP c ∗ blkP c x ∗ wP c w ∗ (((c : Thread nD τ).loc cc0_stg5_0) ↦{fullShare} outG sc X w)
            ∗ (((c : Thread nD τ).loc cc0_scratch0) ↦{fullShare} X)
            ∗ bigSepL recvKeys (fun k => (atPos ER (rC c k) 1 ∅ 0 : sProp 𝕄))
            ∗ bigSepL progKeys (fun k => (atPos ER (sC c k) 1 ∅ 0 : sProp 𝕄)) ∗ ow c 0 -∗ WP c (.ret ⟨⟩) Q)
        -∗ WP c (own metaM blkM wM oM xM xW semD semA (fun d => nbr d c) sc) Q) := by
  unfold own blkP
  iintro ⟨#HI, #Hlev, Hm, Hb, Hw, Ho, Hx, Hs, Hr, Hat, HO⟩ Hk
  iapply (wp_ldm c 2) $$ Hm
  iintro Hm
  rw [show tab c 2 = c from (tab_kS true 0 c).trans (chunk_zero c)]
  iapply (wp_assume 𝒱₀ (c : Thread nD τ) none Set.univ (chkX_word c))
  iapply (wp_load_rect 𝒱₀ (c : Thread nD τ) none Set.univ (m := blkM) (r := Rect.unit (s := S128x4096) ![0, 0] S128x4096.size inb_S128x4096_S128x4096_0_0)
    (S := Finset.univ) (q := fullShare) (f := x) (Finset.subset_univ _)) $$ Hb
  iintro Hb
  have hrd : (blkM.access (Rect.unit (s := S128x4096) ![0, 0] S128x4096.size inb_S128x4096_S128x4096_0_0)).read (Elt F) x = x := by
    funext j
    show x _ = x j
    congr 1
    funext a
    revert a
    refine Fin.forall_fin_two.mpr ⟨Fin.ext ?_, Fin.ext ?_⟩
    · show 0 + 1 * (j 0 : ℕ) = (j 0 : ℕ); omega
    · show 0 + 1 * (j 1 : ℕ) = (j 1 : ℕ); omega
  rw [hrd]
  have hs : (xM.access (chunkR c)).set = (chunkR c).set := View.set_slice_whole _ _
  iapply (wp_load_rect 𝒱₀ (c : Thread nD τ) none Set.univ (m := xM) (r := chunkR c) (S := (chunkR c).set) (q := fullShare) (f := f) (by rw [hs])) $$ Hx
  iintro Hx
  iapply (wp_store 𝒱₀ (c : Thread nD τ) none Set.univ (m := xM) (r := chunkR c) (S := (chunkR c).set) (f := f) (w := k0_pay3 x)
    (by show (xM.access (chunkR c)).set ⊆ _; rw [hs])) $$ Hx
  iintro Hx
  ihave Hx := (Entails.of_eq (own_write X c x hX f)) $$ Hx
  ihave Hp := (own_pieces X c) $$ Hx
  iapply (wp_talk sc X w κ c) $$ [Hm Hw Ho Hp Hs Hr Hat HO]
  · isplitr; · iexact HI
    isplitr; · iexact Hlev
    isplitl [Hm]; · iexact Hm
    isplitl [Hw]; · iexact Hw
    isplitl [Ho]
    · unfold outI
      iexists g
      isplitl [Ho]; · iexact Ho
      ipureintro
      intro o ho
      exact absurd ho (List.not_mem_nil)
    isplitl [Hp]; · iexact Hp
    isplitl [Hs]; · iexact Hs
    isplitl [Hr]; · iexact Hr
    isplitl [Hat] <;> iassumption
  iintro ⟨Hm, Hw, Ho, Hr, Hat, Hp, HO⟩
  iapply Hk
  isplitl [Hm]; · iexact Hm
  isplitl [Hb]; · iexact Hb
  isplitl [Hw]; · iexact Hw
  isplitl [Ho]; · iapply (out_all sc X w c); iexact Ho
  isplitl [Hp]; · iapply (array_end X c); iexact Hp
  isplitl [Hr]; · iexact Hr
  isplitl [Hat] <;> iassumption

/-! ## The whole body -/

theorem chk1_word : ∀ c : Fin 32, k0_chk1 (word (tab c 1)) := by decide +kernel
theorem chk2_word : ∀ c : Fin 32, k0_chk2 (word (tab c 0)) := by decide +kernel
theorem tab_0 : ∀ c, tab c 0 = nbr true c := by decide +kernel
theorem tab_1 : ∀ c, tab c 1 = nbr false c := by decide +kernel

/-- From the places of both neighbours to what the copies need. -/
theorem send_all (c : Dev nD) :
    iprop(barPay (F := F) c true ∗ barPay (F := F) c false ∗ bigSepL progKeys (tokRes (F := F) c) ∗ bigSepL progKeys (fun k => (reached ER (sC c k) 0 : sProp 𝕄)))
      ⊢ bigSepL progKeys (sendRes (F := F) c) := by
  have h : iprop(bigSepL progKeys (place (F := F) c) ∗ bigSepL progKeys (tokRes (F := F) c) ∗ bigSepL progKeys (fun k => (reached ER (sC c k) 0 : sProp 𝕄)))
      ⊢ bigSepL progKeys (sendRes (F := F) c) := by
    refine (BI.sep_mono (Entails.refl _) (bigSepL_join' _ _ _)).trans ((bigSepL_join' _ _ _).trans (bigSepL_mono fun k _ => ?_))
    unfold sendRes tokRes
    iintro ⟨Hp, ⟨Ht1, Ht2⟩, Hr⟩
    isplitl [Ht1]; · iexact Ht1
    isplitl [Hr]; · iexact Hr
    isplitl [Ht2] <;> iassumption
  rw [prog_dirs (place (F := F) c)] at h
  unfold barPay
  iintro ⟨H1, H2, H3, H4⟩
  iapply h
  isplitl [H1 H2]
  · isplitl [H1] <;> iassumption
  isplitl [H3] <;> iassumption

/-- The open semaphores, sorted. -/
theorem open_sort (c : Dev nD) :
    bigSepL allKeys (opn (F := F) c)
      ⊢ iprop((bigSepL progKeys (fun k => (atPos ER (sC c k) 0 ∅ 0 : sProp 𝕄)) ∗ bigSepL progKeys (fun k => (reached ER (sC c k) 0 : sProp 𝕄)))
        ∗ (bigSepL recvKeys (fun k => (atPos ER (rC c k) 0 ∅ 0 : sProp 𝕄))
          ∗ bigSepL (dirKeys true) (fun k => (reached ER (rC c k) 0 : sProp 𝕄)) ∗ bigSepL (dirKeys false) (fun k => (reached ER (rC c k) 0 : sProp 𝕄)))
        ∗ bigSepL restKeys (atR (F := F) 0 c)) := by
  rw [← prog_recv, ← prog_dirs (fun k => (reached ER (rC c k) 0 : sProp 𝕄))]
  unfold allKeys
  rw [bigSepL_append]
  have h1 : bigSepL progKeys (opn (F := F) c) ⊢ iprop((bigSepL progKeys (fun k => (atPos ER (sC c k) 0 ∅ 0 : sProp 𝕄)) ∗ bigSepL progKeys (fun k => (reached ER (sC c k) 0 : sProp 𝕄)))
      ∗ (bigSepL progKeys (fun k => (atPos ER (rC c k) 0 ∅ 0 : sProp 𝕄)) ∗ bigSepL progKeys (fun k => (reached ER (rC c k) 0 : sProp 𝕄)))) :=
    (bigSepL_sep' _ _ _).trans (BI.sep_mono (bigSepL_sep' _ _ _) (bigSepL_sep' _ _ _))
  have h2 : bigSepL restKeys (opn (F := F) c) ⊢ bigSepL restKeys (atR (F := F) 0 c) := bigSepL_mono fun k _ => by
    unfold opn atR
    iintro ⟨⟨H1, -⟩, H2, -⟩
    isplitl [H1] <;> iassumption
  iintro ⟨H1, H2⟩
  ihave H1 := h1 $$ H1
  icases H1 with ⟨Ha, Hb⟩
  isplitl [Ha]; · iexact Ha
  isplitl [Hb]; · iexact Hb
  iapply h2; iexact H2

/-- What the body is entered with, beside the protocol's; what it leaves. -/
def bodyPre (X : Vec F S4096x4096 .i8) (x : Vec F S128x4096 .i8) (w : Vec F S4096x64 .i8) (a b : Vec F S1 .f32) (c : Dev nD) : sProp 𝕄 :=
  iprop(ghostO X c ∗ metaP c ∗ blkP c x ∗ wP c w ∗ sxP c a ∗ swP c b ∗ (∃ g : Vec F S4096x64 .f32, ((c : Thread nD τ).loc cc0_stg5_0) ↦{fullShare} g)
    ∗ (∃ f : Vec F S4096x4096 .i8, ((c : Thread nD τ).loc cc0_scratch0) ↦{fullShare} f) ∗ ow c (O₀ c))
def bodyPost (X : Vec F S4096x4096 .i8) (x : Vec F S128x4096 .i8) (w : Vec F S4096x64 .i8) (a b : Vec F S1 .f32) (c : Dev nD) : sProp 𝕄 :=
  iprop(semVal (barC c) 0 ∗ bigSepL allKeys (vals (F := F) c) ∗ metaP c ∗ blkP c x ∗ wP c w ∗ sxP c a ∗ swP c b
    ∗ (((c : Thread nD τ).loc cc0_stg5_0) ↦{fullShare} outG (scOf a b) X w)
    ∗ (∃ f : Vec F S4096x4096 .i8, ((c : Thread nD τ).loc cc0_scratch0) ↦{fullShare} f) ∗ ow c 0)

/-- A unit to the barrier of the neighbour in direction `d`. -/
theorem wp_unit (X : Vec F S4096x4096 .i8) (κ : GSem nD τ sig → ℕ) (c : Dev nD) (d d' : Bool) (hd : d' = !d) (O : CellTallies nD τ sig Unit) (K : PUnit → PR F) (Q : PUnit → sProp 𝕄) :
    iprop(invs X κ ∗ ow c (O + tallyAt (barC (nbr d c)) () 1) ∗ dutyTok ER (barC (nbr d c)) 0 d' ∗ barPay (F := F) (nbr d c) d' ∗ reached ER (barC (nbr d c)) 0)
      ⊢ iprop((ow c O -∗ WP c (K ⟨⟩) Q) -∗ WP c (.op (.semSignal (Dev.tc (nbr d c)) barS (1#32).toInt) K) Q) := by
  rw [show (1#32 : BitVec 32).toInt = ((1 : ℕ) : ℤ) from by decide]
  unfold ow
  iintro ⟨#HI, ⟨%W, HO⟩, Ht, Hp, #Hr⟩ Hk
  iapply (Rounds.wp_signal 𝒱₀ ER (rd X) (c : Thread nD τ) none (dst := (nbr d c : Thread nD τ)) (sem := barS) (r := 0) (d := d') (κ := κ (barC (nbr d c)))
      (by rw [duties_bar]; exact Finset.mem_univ _) (amount_bar X (nbr d c) d') () O rfl)
    $$ [HO Ht Hp]
  · isplitr; · iapply (inv_at X κ (bar_mem (nbr d c))); iexact HI
    isplitl [HO]; · iexact HO
    isplitl [Ht]; · iexact Ht
    isplitl [Hp]; · rw [payload_bar]; iexact Hp
    iexact Hr
  iintro HO
  iapply Hk
  iexists W; iexact HO

/-- The wait for both neighbours. -/
theorem wp_barrier (X : Vec F S4096x4096 .i8) (κ : GSem nD τ sig → ℕ) (c : Dev nD) (l : List Key) (K : PUnit → PR F) (Q : PUnit → sProp 𝕄) :
    iprop(invs X κ ∗ levAts L lv ∗ cred (tallyAt (barC c) () 2) ∗ ow c (tal c l) ∗ atPos ER (barC c) 0 ∅ 0)
      ⊢ iprop((ow c (tal c l) ∗ atPos ER (barC c) 1 ∅ 0 ∗ barPay (F := F) c true ∗ barPay (F := F) c false -∗ WP c (K ⟨⟩) Q)
        -∗ WP c (.op (.semWait barS (2#32).toInt) K) Q) := by
  unfold ow
  iintro ⟨#HI, #Hlev, Hc, ⟨%W, HO⟩, Hat⟩ Hk
  iapply (Rounds.wp_wait_rest_token 𝒱₀ ER (rd X) (c : Thread nD τ) none (κ := κ (barC c))
      (wpE_semWait_eq 𝒱₀ (c : Thread nD τ) none Set.univ) (Set.mem_univ _) () (O := tal c l) (W := W) (R := 0) (m := 0) (T := ∅)
      ((Nat.zero_add 2).trans (expect_bar X c).symm)) $$ [Hc HO Hat]
  · isplitr; · iapply (inv_at X κ (bar_mem c)); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  icases Hp with ⟨HpT, HpF⟩
  iapply Hk
  isplitl [HO]; · iexists _; iexact HO
  isplitl [Hat]; · iexact Hat
  isplitl [HpT] <;> iassumption

/-- One of two things by direction. -/
def dirs {α : Type} (r l : α) : Bool → α := fun d => match d with | true => r | false => l

/-- The body from the units on, the right neighbour `d0` and the left one `d1`. -/
def units (d0 d1 : Dev nD) : PR F :=
  .op (.semSignal (Dev.tc d1) barS (1#32).toInt) fun _ =>
  .op (.semSignal (Dev.tc d0) barS (1#32).toInt) fun _ =>
  .op (.semWait barS (2#32).toInt) fun _ =>
  smemLoadElt sxM (Rect.unit (s := S1) ![0] S1.size inb_S1_S1_0) (View.loads_smem_one rfl numel1_S1)
    (Shape.Idx.first (numel1_S1.symm ▸ Nat.one_pos)) fun v7 =>
  smemLoadElt swM (Rect.unit (s := S1) ![0] S1.size inb_S1_S1_0) (View.loads_smem_one rfl numel1_S1)
    (Shape.Idx.first (numel1_S1.symm ▸ Nat.one_pos)) fun v8 =>
  own metaM blkM wM oM xM xW (dirs cc0_scratch1 cc0_scratch3) (dirs cc0_scratch2 cc0_scratch4) (dirs d0 d1) (k0_pay2 v7 v8)

theorem body_units : (body metaM blkM wM sxM swM oM xM xW cc0_scratch1 cc0_scratch2 cc0_scratch3 cc0_scratch4 : PR F)
    = ldm metaM 0 fun v0 => .op (.assume (k0_chk2 v0) (k0_chk2.dec v0)) fun w0 =>
      ldm metaM 1 fun v1 => .op (.assume (k0_chk1 v1) (k0_chk1.dec v1)) fun w1 =>
      units ⟨devOf v0, k0_dev2_lt v0 w0.down⟩ ⟨devOf v1, k0_dev1_lt v1 w1.down⟩ := by chain_rfl

theorem dirs_D : dirs cc0_scratch1 cc0_scratch3 = semD := funext fun d => by cases d <;> rfl
theorem dirs_A : dirs cc0_scratch2 cc0_scratch4 = semA := funext fun d => by cases d <;> rfl
theorem dirs_nbr (c : Dev nD) : dirs (nbr true c) (nbr false c) = fun d => nbr d c := funext fun d => by cases d <;> rfl

theorem wp_units (X : Vec F S4096x4096 .i8) (x : Vec F S128x4096 .i8) (w : Vec F S4096x64 .i8) (a b : Vec F S1 .f32) (c : Dev nD)
    (hX : chunkV X c = k0_pay3 x) (Q : PUnit → sProp 𝕄) :
    bodyPre X x w a b c ⊢ iprop((bodyPost X x w a b c -∗ Q ⟨⟩) -∗ WP c (units (nbr true c) (nbr false c)) Q) := by
  unfold units
  rw [dirs_D, dirs_A, dirs_nbr]
  unfold bodyPre ghostO bars credRes sxP swP
  rw [show O₀ c = (tal c progKeys + tallyAt (barC (nbr true c)) () 1) + tallyAt (barC (nbr false c)) () 1 from rfl]
  iintro ⟨⟨%κ, #HI, #Hlev, ⟨HatB, ⟨HtT, HtF⟩, #HrT, #HrF⟩, Htok, ⟨HcB, HcR⟩, Hop⟩, Hm, Hb, Hw, Ha, Hbb, ⟨%g, Ho⟩, ⟨%f, Hx⟩, HO⟩ Hk
  ihave Hop := (open_sort c) $$ Hop
  icases Hop with ⟨⟨HaS, HrS⟩, ⟨HaR, HrRT, HrRF⟩, Hrest⟩
  ihave Hx := (Entails.of_eq (array_start c f)) $$ Hx
  icases Hx with ⟨Hx, HpT, HpF⟩
  have hT : iprop(bigSepL (dirKeys true) (fun k => slabP c (pR c k) fullShare f) ∗ bigSepL (dirKeys true) (fun k => (reached ER (rC c k) 0 : sProp 𝕄)))
      ⊢ barPay (F := F) (nbr false c) true := bar_pay c false f
  have hF : iprop(bigSepL (dirKeys false) (fun k => slabP c (pR c k) fullShare f) ∗ bigSepL (dirKeys false) (fun k => (reached ER (rC c k) 0 : sProp 𝕄)))
      ⊢ barPay (F := F) (nbr true c) false := bar_pay c true f
  -- a unit to the left neighbour, with the places for the copies it makes to the right
  iapply (wp_unit X κ c false true rfl (tal c progKeys + tallyAt (barC (nbr true c)) () 1)) $$ [HO HtF HpT HrRT]
  · isplitr; · iexact HI
    isplitl [HO]; · iexact HO
    isplitl [HtF]; · iexact HtF
    isplitl [HpT HrRT]
    · iapply hT
      isplitl [HpT] <;> iassumption
    · iexact HrF
  iintro HO
  -- and one to the right neighbour
  iapply (wp_unit X κ c true false rfl (tal c progKeys)) $$ [HO HtT HpF HrRF]
  · isplitr; · iexact HI
    isplitl [HO]; · iexact HO
    isplitl [HtT]; · iexact HtT
    isplitl [HpF HrRF]
    · iapply hF
      isplitl [HpF] <;> iassumption
    · iexact HrT
  iintro HO
  iapply (wp_barrier X κ c progKeys) $$ [HcB HO HatB]
  · isplitr; · iexact HI
    isplitr; · iexact Hlev
    isplitl [HcB]; · iexact HcB
    isplitl [HO] <;> iassumption
  iintro ⟨HO, HatB, HpT, HpF⟩
  ihave Hs := (send_all c) $$ [HpT HpF Htok HrS]
  · isplitl [HpT]; · iexact HpT
    isplitl [HpF]; · iexact HpF
    isplitl [Htok] <;> iassumption
  ihave Hr := (show iprop(bigSepL progKeys (fun k => (cred (tallyAt (rC c k) () N) : sProp 𝕄)) ∗ bigSepL recvKeys (fun k => (atPos ER (rC c k) 0 ∅ 0 : sProp 𝕄)))
      ⊢ bigSepL recvKeys (waitRes (F := F) c) from by rw [prog_recv]; unfold waitRes; exact bigSepL_join' _ _ _) $$ [HcR HaR]
  · isplitl [HcR] <;> iassumption
  -- the scales
  iapply (wp_smemLoadElt 𝒱₀ (c : Thread nD τ) none Set.univ (m := sxM) (r := Rect.unit (s := S1) ![0] S1.size inb_S1_S1_0)
    (S := Finset.univ) (q := fullShare) (f := a) (Finset.subset_univ _)) $$ Ha
  iintro Ha
  iapply (wp_smemLoadElt 𝒱₀ (c : Thread nD τ) none Set.univ (m := swM) (r := Rect.unit (s := S1) ![0] S1.size inb_S1_S1_0)
    (S := Finset.univ) (q := fullShare) (f := b) (Finset.subset_univ _)) $$ Hbb
  iintro Hbb
  rw [rd_one1, rd_one2, show k0_pay2 _ _ = scOf a b from rfl]
  iapply (wp_own (scOf a b) X x w κ c hX f g) $$ [Hm Hb Hw Ho Hx Hs Hr HaS HO]
  · isplitr; · iexact HI
    isplitr; · iexact Hlev
    isplitl [Hm]; · iexact Hm
    isplitl [Hb]; · iexact Hb
    isplitl [Hw]; · iexact Hw
    isplitl [Ho]; · iexact Ho
    isplitl [Hx]; · iexact Hx
    isplitl [Hs]; · iexact Hs
    isplitl [Hr]; · iexact Hr
    isplitl [HaS]; · iexact HaS
    iexact HO
  iintro ⟨Hm, Hb, Hw, Ho, Hx, HaR, HaS, HO⟩
  unfold WP
  rw [wp_ret]
  imod (Rounds.cell_close ER (rd X) (g := barC c) (Set.mem_univ (κ (barC c))) id (duties_later X (barC c))) $$ [HatB] with HvB
  · isplitr; · iapply (inv_at X κ (bar_mem c)); iexact HI
    iexact HatB
  ihave Hat := (show iprop(bigSepL progKeys (fun k => (atPos ER (sC c k) 1 ∅ 0 : sProp 𝕄)) ∗ bigSepL recvKeys (fun k => (atPos ER (rC c k) 1 ∅ 0 : sProp 𝕄)))
      ⊢ bigSepL progKeys (atR (F := F) 1 c) from by rw [← prog_recv]; unfold atR; exact bigSepL_join' _ _ _) $$ [HaS HaR]
  · isplitl [HaS] <;> iassumption
  imod (close_all X κ c) $$ [Hat Hrest] with Hv
  · isplitr; · iexact HI
    isplitl [Hat] <;> iassumption
  imodintro
  iapply Hk
  unfold bodyPost sxP swP
  isplitl [HvB]; · iexact HvB
  isplitl [Hv]; · iexact Hv
  isplitl [Hm]; · iexact Hm
  isplitl [Hb]; · iexact Hb
  isplitl [Hw]; · iexact Hw
  isplitl [Ha]; · iexact Ha
  isplitl [Hbb]; · iexact Hbb
  isplitl [Ho]; · iexact Ho
  isplitl [Hx]; · iexists X; iexact Hx
  iexact HO

theorem wp_body (X : Vec F S4096x4096 .i8) (x : Vec F S128x4096 .i8) (w : Vec F S4096x64 .i8) (a b : Vec F S1 .f32) (c : Dev nD)
    (hX : chunkV X c = k0_pay3 x) (Q : PUnit → sProp 𝕄) :
    bodyPre X x w a b c ⊢ iprop((bodyPost X x w a b c -∗ Q ⟨⟩)
      -∗ WP c (body metaM blkM wM sxM swM oM xM xW cc0_scratch1 cc0_scratch2 cc0_scratch3 cc0_scratch4) Q) := by
  have e0 : (⟨devOf (word (tab c 0)), k0_dev2_lt _ (chk2_word c)⟩ : Dev nD) = nbr true c := Fin.ext (by show devOf (word (tab c 0)) = _; rw [devOf_word, tab_0])
  have e1 : (⟨devOf (word (tab c 1)), k0_dev1_lt _ (chk1_word c)⟩ : Dev nD) = nbr false c := Fin.ext (by show devOf (word (tab c 1)) = _; rw [devOf_word, tab_1])
  have h : bodyPre X x w a b c ⊢ iprop((bodyPost X x w a b c -∗ Q ⟨⟩)
      -∗ WP c (units ⟨devOf (word (tab c 0)), k0_dev2_lt _ (chk2_word c)⟩ ⟨devOf (word (tab c 1)), k0_dev1_lt _ (chk1_word c)⟩) Q) := by
    rw [e0, e1]; exact wp_units X x w a b c hX Q
  unfold bodyPre at h
  rw [body_units]
  unfold bodyPre
  iintro ⟨Hg, Hm, H⟩ Hk
  iapply (wp_ldm c 0) $$ Hm
  iintro Hm
  iapply (wp_assume 𝒱₀ (c : Thread nD τ) none Set.univ (chk2_word c))
  iapply (wp_ldm c 1) $$ Hm
  iintro Hm
  iapply (wp_assume 𝒱₀ (c : Thread nD τ) none Set.univ (chk1_word c))
  iapply h $$ [Hg Hm H]
  · isplitl [Hg]; · iexact Hg
    isplitl [Hm] <;> iassumption
  iexact Hk

end Cert.KernelIdeal.Ring

end
-- ==== Proof.Table.lean ====
module

public import proofs.«01_k».proof.Proof.Steps
public import proofs.«01_k».proof.Proof.Gen.KernelIdeal.Regions
public import Idealize.ShloMosaic.Lib.StableHlo

@[expose] public section

noncomputable section

/-!
The table that the host's operations before the kernel leave on each device: the operations' values as functions of
the device alone, stretch by stretch, and what the last of them is.
-/
namespace Cert.KernelIdeal.Ring

open Idealize.ShloMosaic Idealize.ShloMosaic.TcCoe Idealize.SL.Sem
open Cert.KernelIdeal Cert.KernelIdeal.Gen

variable {F : FTy → Type} [FloatOps F]

/-! ## The operations' values -/

abbrev k32 (b : BitVec 32) : IVec S_ 32 := constantI S_ 32 b
/-- An index, moved up by 32 where it is negative. -/
def wrap0 (x : IVec S_ 32) : IVec S_ 32 := select (cmpi .slt x (k32 0#32)) (addi x (k32 32#32)) x
def wrapV (x : IVec S16 32) : IVec S16 32 :=
  select (cmpi .slt x (broadcastInDim S16 ![] bcast_S_S16 (k32 0#32))) (addi x (broadcastInDim S16 ![] bcast_S_S16 (k32 32#32))) x
/-- The divisor, which is never zero. -/
def dv (n : IVec S_ 32) : IVec S_ 32 := select (cmpi .eq n (k32 0#32)) (k32 1#32) n
/-- The remainder with the divisor's sign. -/
def rem0 (x n : IVec S_ 32) : IVec S_ 32 :=
  select (andi (cmpi .ne (cmpi .slt (Host.remsi x (dv n)) (k32 0#32)) (cmpi .slt (dv n) (k32 0#32))) (cmpi .ne (Host.remsi x (dv n)) (k32 0#32)))
    (addi (Host.remsi x (dv n)) (dv n)) (Host.remsi x (dv n))
/-- The same of each entry. -/
def remV (x : IVec S16 32) (n : IVec S_ 32) : IVec S16 32 :=
  select (andi (cmpi .ne (cmpi .slt (Host.remsi x (broadcastInDim S16 ![] bcast_S_S16 (dv n))) (broadcastInDim S16 ![] bcast_S_S16 (k32 0#32)))
        (broadcastInDim S16 ![] bcast_S_S16 (cmpi .slt (dv n) (k32 0#32))))
      (cmpi .ne (Host.remsi x (broadcastInDim S16 ![] bcast_S_S16 (dv n))) (broadcastInDim S16 ![] bcast_S_S16 (k32 0#32))))
    (addi (Host.remsi x (broadcastInDim S16 ![] bcast_S_S16 (dv n))) (broadcastInDim S16 ![] bcast_S_S16 (dv n)))
    (Host.remsi x (broadcastInDim S16 ![] bcast_S_S16 (dv n)))
abbrev order : IVec S32 32 := fun i => lit0 (S32.rowMajor i)
abbrev places : IVec S32 32 := fun i => lit1 (S32.rowMajor i)
/-- One entry of a list of 32. -/
def pick (t : IVec S32 32) (x : IVec S_ 32) : IVec S_ 32 :=
  shapeCast S_ (Host.dynamicSlice S1 t (fun _ => (x (Shape.Idx.first h_S_)).toInt) sliceFits_S32_S1) shapeCasts_S1_S_
/-- Sixteen entries of it. -/
def pickV (t : IVec S32 32) (x : IVec S16 32) : IVec S16 32 :=
  Host.gather gather_S32_S16x1_S16_n_0_n_n_0_1_1 t (broadcastInDim S16x1 ![0] bcast_S16_S16x1_0 x)
def fill (x : IVec S_ 32) : IVec S16 32 := broadcastInDim S16 ![] bcast_S_S16 x
abbrev steps : IVec S16 32 := iotaInDim S16 32 0

/-- The device's place. -/
def placeV (c : Dev nD) : IVec S_ 32 := pick places (wrap0 (Host.remui (Host.divui (k32 (Dev.word c)) (k32 1#32)) (k32 32#32)))
/-- The table of a device. -/
def whole (a b : IVec S_ 32) (p q r s : IVec S16 32) : IVec S66 32 :=
  concatenate S66 0 [⟨S1, broadcastInDim S1 ![] bcast_S_S1 a⟩, ⟨S1, broadcastInDim S1 ![] bcast_S_S1 b⟩, ⟨S16, p⟩, ⟨S16, q⟩, ⟨S16, r⟩, ⟨S16, s⟩]
    concatenates_S1_S1_S16_S16_S16_S16_S66_d0
/-- The sixteen entries at the indices `x`, around the ring. -/
def around (x : IVec S16 32) : IVec S16 32 := pickV order (wrapV (remV x (k32 32#32)))
def next (x : IVec S_ 32) : IVec S_ 32 := pick order (wrap0 (rem0 x (k32 32#32)))
def tableV (c : Dev nD) : IVec S66 32 :=
  whole (next (addi (placeV c) (k32 1#32))) (next (subi (placeV c) (k32 1#32)))
    (around (subi (fill (placeV c)) steps)) (around (subi (fill (subi (placeV c) (k32 1#32))) steps))
    (around (addi (fill (placeV c)) steps)) (around (addi (fill (addi (placeV c) (k32 1#32))) steps))

set_option maxRecDepth 65536 in
theorem tableV_at : ∀ (c : Dev nD) (k : Fin 66), tableV c (fun a => ⟨k.val, by fin_cases a; exact k.isLt⟩) = word (tab c k) := by decide +kernel

end Cert.KernelIdeal.Ring
-- ==== Proof.HostRun.lean ====
module

public import proofs.«01_k».proof.Proof.Table
public import proofs.«01_k».proof.Proof.Gen.KernelIdeal.Regions
public import Idealize.ShloMosaic.Lib.StableHlo

@[expose] public section

noncomputable section

/-!
What the host's operations before the kernel leave, stretch by stretch, up to the table.
-/
namespace Cert.KernelIdeal.Ring

open Idealize.ShloMosaic Idealize.ShloMosaic.TcCoe Idealize.SL.Sem
open Cert.KernelIdeal Cert.KernelIdeal.Gen

variable {F : FTy → Type} [FloatOps F]

/-! ## What each stretch of the operations leaves -/

section
/-- A pick read off the operation that makes it, whose index comes through a list of one. -/
theorem pick_of (t : IVec S32 32) (x : IVec S_ 32) (y : Fin 1 → BitVec 32) (h : y 0 = x (Shape.Idx.first h_S_)) :
    (fun i => shapeCast S_ (Host.dynamicSlice S1 t (fun k => (y k).toInt) sliceFits_S32_S1) shapeCasts_S1_S_ i) = pick t x := by
  have e : y = fun _ => x (Shape.Idx.first h_S_) := funext fun k => by rw [Subsingleton.elim k 0]; exact h
  rw [e]; rfl

variable (c : Dev nD) (V : Valuation τ sig (Elt F))

theorem after0_v9 : StableHlo.after (hostOps0 c) V main_v9 = (placeV c : Vec F S_ .i32) := by
  after_results_simp
  refine pick_of _ _ _ ?_
  chain_rfl
theorem after0_v10 : StableHlo.after (hostOps0 c) V main_v10 = (addi (placeV c) (k32 1#32) : Vec F S_ .i32) := by
  after_results_simp
  refine congrArg (fun x : IVec S_ 32 => addi x (k32 1#32)) (pick_of _ _ _ ?_)
  chain_rfl
theorem after0_c6 : StableHlo.after (hostOps0 c) V main_c_6 = (k32 32#32 : Vec F S_ .i32) := by chain_rfl
theorem after0_c : StableHlo.after (hostOps0 c) V main_c = (order : Vec F S32 .i32) := by chain_rfl
theorem after1_v11 : StableHlo.after hostOps0_1 V main_v11 = (rem0 (V main_v10) (V main_c_6) : Vec F S_ .i32) := by chain_rfl
theorem after2_v16 : StableHlo.after hostOps0_2 V main_v16 = (pick (V main_c) (wrap0 (V main_v11)) : Vec F S_ .i32) := by
  after_results_simp
  refine pick_of _ _ _ ?_
  chain_rfl
theorem after2_v17 : StableHlo.after hostOps0_2 V main_v17 = (subi (V main_v9 : IVec S_ 32) (k32 1#32) : Vec F S_ .i32) := by chain_rfl
theorem after2_c10 : StableHlo.after hostOps0_2 V main_c_10 = (k32 32#32 : Vec F S_ .i32) := by chain_rfl
theorem after3_v18 : StableHlo.after hostOps0_3 V main_v18 = (rem0 (V main_v17) (V main_c_10) : Vec F S_ .i32) := by chain_rfl
theorem after4_v23 : StableHlo.after hostOps0_4 V main_v23 = (pick (V main_c) (wrap0 (V main_v18)) : Vec F S_ .i32) := by
  after_results_simp
  refine pick_of _ _ _ ?_
  chain_rfl
theorem after4_v24 : StableHlo.after hostOps0_4 V main_v24 = (steps : Vec F S16 .i32) := by chain_rfl
theorem after4_v26 : StableHlo.after hostOps0_4 V main_v26 = (subi (fill (V main_v9)) steps : Vec F S16 .i32) := by chain_rfl
theorem after4_c13 : StableHlo.after hostOps0_4 V main_c_13 = (k32 32#32 : Vec F S_ .i32) := by chain_rfl
theorem after5_v27 : StableHlo.after hostOps0_5 V main_v27 = (remV (V main_v26) (V main_c_13) : Vec F S16 .i32) := by chain_rfl
theorem after6_v34 : StableHlo.after hostOps0_6 V main_v34 = (pickV (V main_c) (wrapV (V main_v27)) : Vec F S16 .i32) := by chain_rfl
theorem after6_v37 : StableHlo.after hostOps0_6 V main_v37 = (subi (fill (subi (V main_v9 : IVec S_ 32) (k32 1#32))) (V main_v24 : IVec S16 32) : Vec F S16 .i32) := by chain_rfl
theorem after6_c17 : StableHlo.after hostOps0_6 V main_c_17 = (k32 32#32 : Vec F S_ .i32) := by chain_rfl
theorem after7_v38 : StableHlo.after hostOps0_7 V main_v38 = (remV (V main_v37) (V main_c_17) : Vec F S16 .i32) := by chain_rfl
theorem after8_v45 : StableHlo.after hostOps0_8 V main_v45 = (pickV (V main_c) (wrapV (V main_v38)) : Vec F S16 .i32) := by chain_rfl
theorem after8_v47 : StableHlo.after hostOps0_8 V main_v47 = (addi (fill (V main_v9)) (V main_v24 : IVec S16 32) : Vec F S16 .i32) := by chain_rfl
theorem after8_c20 : StableHlo.after hostOps0_8 V main_c_20 = (k32 32#32 : Vec F S_ .i32) := by chain_rfl
theorem after9_v48 : StableHlo.after hostOps0_9 V main_v48 = (remV (V main_v47) (V main_c_20) : Vec F S16 .i32) := by chain_rfl
theorem after10_v55 : StableHlo.after hostOps0_10 V main_v55 = (pickV (V main_c) (wrapV (V main_v48)) : Vec F S16 .i32) := by chain_rfl
theorem after10_v58 : StableHlo.after hostOps0_10 V main_v58 = (addi (fill (addi (V main_v9 : IVec S_ 32) (k32 1#32))) (V main_v24 : IVec S16 32) : Vec F S16 .i32) := by chain_rfl
theorem after10_c24 : StableHlo.after hostOps0_10 V main_c_24 = (k32 32#32 : Vec F S_ .i32) := by chain_rfl
theorem after11_v59 : StableHlo.after hostOps0_11 V main_v59 = (remV (V main_v58) (V main_c_24) : Vec F S16 .i32) := by chain_rfl
theorem after12_v69 : StableHlo.after hostOps0_12 V main_v69
    = (whole (V main_v16) (V main_v23) (V main_v34) (V main_v45) (V main_v55) (pickV (V main_c) (wrapV (V main_v59))) : Vec F S66 .i32) := by chain_rfl

end

variable (m : (ℓ : Loc nD τ sig) → Buf (Elt F) ℓ) (c : Dev nD)

/-! ## The values that outlive their stretch -/

theorem V2_c : V2 m c main_c = (order : Vec F S32 .i32) := by
  rw [V2_of m c main_c (by decide)]; exact after0_c c _
theorem V4_c : V4 m c main_c = (order : Vec F S32 .i32) := by
  rw [V4_of m c main_c (by decide), V3_of m c main_c (by decide), V2_of m c main_c (by decide)]; exact after0_c c _
theorem V6_c : V6 m c main_c = (order : Vec F S32 .i32) := by
  rw [V6_of m c main_c (by decide), V5_of m c main_c (by decide), V4_of m c main_c (by decide), V3_of m c main_c (by decide), V2_of m c main_c (by decide)]; exact after0_c c _
theorem V8_c : V8 m c main_c = (order : Vec F S32 .i32) := by
  rw [V8_of m c main_c (by decide), V7_of m c main_c (by decide), V6_of m c main_c (by decide), V5_of m c main_c (by decide), V4_of m c main_c (by decide), V3_of m c main_c (by decide), V2_of m c main_c (by decide)]; exact after0_c c _
theorem V10_c : V10 m c main_c = (order : Vec F S32 .i32) := by
  rw [V10_of m c main_c (by decide), V9_of m c main_c (by decide), V8_of m c main_c (by decide), V7_of m c main_c (by decide), V6_of m c main_c (by decide), V5_of m c main_c (by decide), V4_of m c main_c (by decide), V3_of m c main_c (by decide), V2_of m c main_c (by decide)]; exact after0_c c _
theorem V12_c : V12 m c main_c = (order : Vec F S32 .i32) := by
  rw [V12_of m c main_c (by decide), V11_of m c main_c (by decide), V10_of m c main_c (by decide), V9_of m c main_c (by decide), V8_of m c main_c (by decide), V7_of m c main_c (by decide), V6_of m c main_c (by decide), V5_of m c main_c (by decide), V4_of m c main_c (by decide), V3_of m c main_c (by decide), V2_of m c main_c (by decide)]; exact after0_c c _
theorem V2_v9 : V2 m c main_v9 = (placeV c : Vec F S_ .i32) := by
  rw [V2_of m c main_v9 (by decide)]; exact after0_v9 c _
theorem V4_v9 : V4 m c main_v9 = (placeV c : Vec F S_ .i32) := by
  rw [V4_of m c main_v9 (by decide), V3_of m c main_v9 (by decide), V2_of m c main_v9 (by decide)]; exact after0_v9 c _
theorem V6_v9 : V6 m c main_v9 = (placeV c : Vec F S_ .i32) := by
  rw [V6_of m c main_v9 (by decide), V5_of m c main_v9 (by decide), V4_of m c main_v9 (by decide), V3_of m c main_v9 (by decide), V2_of m c main_v9 (by decide)]; exact after0_v9 c _
theorem V8_v9 : V8 m c main_v9 = (placeV c : Vec F S_ .i32) := by
  rw [V8_of m c main_v9 (by decide), V7_of m c main_v9 (by decide), V6_of m c main_v9 (by decide), V5_of m c main_v9 (by decide), V4_of m c main_v9 (by decide), V3_of m c main_v9 (by decide), V2_of m c main_v9 (by decide)]; exact after0_v9 c _
theorem V10_v9 : V10 m c main_v9 = (placeV c : Vec F S_ .i32) := by
  rw [V10_of m c main_v9 (by decide), V9_of m c main_v9 (by decide), V8_of m c main_v9 (by decide), V7_of m c main_v9 (by decide), V6_of m c main_v9 (by decide), V5_of m c main_v9 (by decide), V4_of m c main_v9 (by decide), V3_of m c main_v9 (by decide), V2_of m c main_v9 (by decide)]; exact after0_v9 c _
theorem V6_v24 : V6 m c main_v24 = (steps : Vec F S16 .i32) := by
  rw [V6_of m c main_v24 (by decide)]; exact after4_v24 _
theorem V8_v24 : V8 m c main_v24 = (steps : Vec F S16 .i32) := by
  rw [V8_of m c main_v24 (by decide), V7_of m c main_v24 (by decide), V6_of m c main_v24 (by decide)]; exact after4_v24 _
theorem V10_v24 : V10 m c main_v24 = (steps : Vec F S16 .i32) := by
  rw [V10_of m c main_v24 (by decide), V9_of m c main_v24 (by decide), V8_of m c main_v24 (by decide), V7_of m c main_v24 (by decide), V6_of m c main_v24 (by decide)]; exact after4_v24 _
theorem V2_v11 : V2 m c main_v11 = (rem0 (addi (placeV c) (k32 1#32)) (k32 32#32) : Vec F S_ .i32) := by
  have hv10 : V1 m c main_v10 = (addi (placeV c) (k32 1#32) : Vec F S_ .i32) := after0_v10 c (V0 m c)
  have hc_6 : V1 m c main_c_6 = (k32 32#32 : Vec F S_ .i32) := after0_c6 c (V0 m c)
  refine (after1_v11 (V1 m c)).trans ?_
  rw [hv10, hc_6]
theorem V12_v16 : V12 m c main_v16 = (next (addi (placeV c) (k32 1#32)) : Vec F S_ .i32) := by
  have hc : V2 m c main_c = (order : Vec F S32 .i32) := V2_c m c
  have hv11 : V2 m c main_v11 = (rem0 (addi (placeV c) (k32 1#32)) (k32 32#32) : Vec F S_ .i32) := V2_v11 m c
  rw [V12_of m c main_v16 (by decide), V11_of m c main_v16 (by decide), V10_of m c main_v16 (by decide), V9_of m c main_v16 (by decide), V8_of m c main_v16 (by decide), V7_of m c main_v16 (by decide), V6_of m c main_v16 (by decide), V5_of m c main_v16 (by decide), V4_of m c main_v16 (by decide)]
  refine (after2_v16 (V2 m c)).trans ?_
  rw [hc, hv11]
  rfl
theorem V3_v17 : V3 m c main_v17 = (subi (placeV c) (k32 1#32) : Vec F S_ .i32) := by
  refine (after2_v17 (V2 m c)).trans ?_
  rw [V2_v9]
theorem V4_v18 : V4 m c main_v18 = (rem0 (subi (placeV c) (k32 1#32)) (k32 32#32) : Vec F S_ .i32) := by
  have hv17 : V3 m c main_v17 = (subi (placeV c) (k32 1#32) : Vec F S_ .i32) := V3_v17 m c
  have hc_10 : V3 m c main_c_10 = (k32 32#32 : Vec F S_ .i32) := after2_c10 (V2 m c)
  refine (after3_v18 (V3 m c)).trans ?_
  rw [hv17, hc_10]
theorem V12_v23 : V12 m c main_v23 = (next (subi (placeV c) (k32 1#32)) : Vec F S_ .i32) := by
  have hc : V4 m c main_c = (order : Vec F S32 .i32) := V4_c m c
  have hv18 : V4 m c main_v18 = (rem0 (subi (placeV c) (k32 1#32)) (k32 32#32) : Vec F S_ .i32) := V4_v18 m c
  rw [V12_of m c main_v23 (by decide), V11_of m c main_v23 (by decide), V10_of m c main_v23 (by decide), V9_of m c main_v23 (by decide), V8_of m c main_v23 (by decide), V7_of m c main_v23 (by decide), V6_of m c main_v23 (by decide)]
  refine (after4_v23 (V4 m c)).trans ?_
  rw [hc, hv18]
  rfl
theorem V5_v26 : V5 m c main_v26 = (subi (fill (placeV c)) steps : Vec F S16 .i32) := by
  refine (after4_v26 (V4 m c)).trans ?_
  rw [V4_v9]
theorem V6_v27 : V6 m c main_v27 = (remV (subi (fill (placeV c)) steps) (k32 32#32) : Vec F S16 .i32) := by
  have hv26 : V5 m c main_v26 = (subi (fill (placeV c)) steps : Vec F S16 .i32) := V5_v26 m c
  have hc_13 : V5 m c main_c_13 = (k32 32#32 : Vec F S_ .i32) := after4_c13 (V4 m c)
  refine (after5_v27 (V5 m c)).trans ?_
  rw [hv26, hc_13]
theorem V12_v34 : V12 m c main_v34 = (around (subi (fill (placeV c)) steps) : Vec F S16 .i32) := by
  have hc : V6 m c main_c = (order : Vec F S32 .i32) := V6_c m c
  have hv27 : V6 m c main_v27 = (remV (subi (fill (placeV c)) steps) (k32 32#32) : Vec F S16 .i32) := V6_v27 m c
  rw [V12_of m c main_v34 (by decide), V11_of m c main_v34 (by decide), V10_of m c main_v34 (by decide), V9_of m c main_v34 (by decide), V8_of m c main_v34 (by decide)]
  refine (after6_v34 (V6 m c)).trans ?_
  rw [hc, hv27]
  rfl
theorem V7_v37 : V7 m c main_v37 = (subi (fill (subi (placeV c) (k32 1#32))) steps : Vec F S16 .i32) := by
  refine (after6_v37 (V6 m c)).trans ?_
  rw [V6_v9, V6_v24]
theorem V8_v38 : V8 m c main_v38 = (remV (subi (fill (subi (placeV c) (k32 1#32))) steps) (k32 32#32) : Vec F S16 .i32) := by
  have hv37 : V7 m c main_v37 = (subi (fill (subi (placeV c) (k32 1#32))) steps : Vec F S16 .i32) := V7_v37 m c
  have hc_17 : V7 m c main_c_17 = (k32 32#32 : Vec F S_ .i32) := after6_c17 (V6 m c)
  refine (after7_v38 (V7 m c)).trans ?_
  rw [hv37, hc_17]
theorem V12_v45 : V12 m c main_v45 = (around (subi (fill (subi (placeV c) (k32 1#32))) steps) : Vec F S16 .i32) := by
  have hc : V8 m c main_c = (order : Vec F S32 .i32) := V8_c m c
  have hv38 : V8 m c main_v38 = (remV (subi (fill (subi (placeV c) (k32 1#32))) steps) (k32 32#32) : Vec F S16 .i32) := V8_v38 m c
  rw [V12_of m c main_v45 (by decide), V11_of m c main_v45 (by decide), V10_of m c main_v45 (by decide)]
  refine (after8_v45 (V8 m c)).trans ?_
  rw [hc, hv38]
  rfl
theorem V9_v47 : V9 m c main_v47 = (addi (fill (placeV c)) steps : Vec F S16 .i32) := by
  refine (after8_v47 (V8 m c)).trans ?_
  rw [V8_v9, V8_v24]
theorem V10_v48 : V10 m c main_v48 = (remV (addi (fill (placeV c)) steps) (k32 32#32) : Vec F S16 .i32) := by
  have hv47 : V9 m c main_v47 = (addi (fill (placeV c)) steps : Vec F S16 .i32) := V9_v47 m c
  have hc_20 : V9 m c main_c_20 = (k32 32#32 : Vec F S_ .i32) := after8_c20 (V8 m c)
  refine (after9_v48 (V9 m c)).trans ?_
  rw [hv47, hc_20]
theorem V12_v55 : V12 m c main_v55 = (around (addi (fill (placeV c)) steps) : Vec F S16 .i32) := by
  have hc : V10 m c main_c = (order : Vec F S32 .i32) := V10_c m c
  have hv48 : V10 m c main_v48 = (remV (addi (fill (placeV c)) steps) (k32 32#32) : Vec F S16 .i32) := V10_v48 m c
  rw [V12_of m c main_v55 (by decide)]
  refine (after10_v55 (V10 m c)).trans ?_
  rw [hc, hv48]
  rfl
theorem V11_v58 : V11 m c main_v58 = (addi (fill (addi (placeV c) (k32 1#32))) steps : Vec F S16 .i32) := by
  refine (after10_v58 (V10 m c)).trans ?_
  rw [V10_v9, V10_v24]
theorem V12_v59 : V12 m c main_v59 = (remV (addi (fill (addi (placeV c) (k32 1#32))) steps) (k32 32#32) : Vec F S16 .i32) := by
  have hv58 : V11 m c main_v58 = (addi (fill (addi (placeV c) (k32 1#32))) steps : Vec F S16 .i32) := V11_v58 m c
  have hc_24 : V11 m c main_c_24 = (k32 32#32 : Vec F S_ .i32) := after10_c24 (V10 m c)
  refine (after11_v59 (V11 m c)).trans ?_
  rw [hv58, hc_24]

/-- The table the kernel reads is the one its body was followed with. -/
theorem V13_table : V13 m c main_v69 = (tabV c : Vec F S66 .i32) := by
  have h : V13 m c main_v69 = (tableV c : Vec F S66 .i32) := (after12_v69 (V12 m c)).trans (by
    rw [V12_v16, V12_v23, V12_v34, V12_v45, V12_v55, V12_c, V12_v59]; rfl)
  rw [h]
  funext i
  have hi : i = fun a => ⟨(i 0).val, by fin_cases a; exact (i 0).isLt⟩ := funext fun a => by fin_cases a; rfl
  show tableV c i = word (tab c (i 0))
  exact (congrArg (tableV c) hi).trans (tableV_at c (i 0))

end Cert.KernelIdeal.Ring
-- ==== Proof.Region.lean ====
module

public import proofs.«01_k».proof.Proof.Body
public import proofs.«01_k».proof.Proof.HostRun
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit
public import Idealize.ShloMosaic.Lib.Pipeline.FrameBody

@[expose] public section

noncomputable section

/-!
The region: what its windows hold, and the body between.
-/
namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The contents -/

def xOf (c : Dev nD) : Vec F S128x4096 .i8 := m ((c : Thread nD τ).loc main_arg0)
def wOf (c : Dev nD) : Vec F S4096x64 .i8 := m ((c : Thread nD τ).loc main_arg1)
def aOf (c : Dev nD) : Vec F S1 .f32 := m ((c : Thread nD τ).loc main_arg2)
def bOf (c : Dev nD) : Vec F S1 .f32 := m ((c : Thread nD τ).loc main_arg3)

/-- The gathered array: device `e`'s block in the rows of chunk `e`. -/
def gath : Vec F S4096x4096 .i8 := fun i =>
  xOf m (⟨(i 0 : ℕ) / 128, by have : (i 0 : ℕ) < 4096 := (i 0).isLt; show _ < 32; omega⟩ : Fin 32) fun a => match a with
    | 0 => (⟨(i 0 : ℕ) % 128, Nat.mod_lt _ (by decide)⟩ : Fin 128)
    | 1 => (⟨(i 1 : ℕ), (i 1).isLt⟩ : Fin 4096)

theorem gath_chunk (c : Dev nD) : chunkV (gath m) c = xOf m c := by
  funext j
  obtain ⟨h0, h1⟩ := coff_word c
  have e0 : ((chunkR c).emb j 0 : ℕ) = 128 * c.val + (j 0 : ℕ) := by
    show coff (word c) 0 + 1 * (j 0 : ℕ) = _; rw [h0]; omega
  have e1 : ((chunkR c).emb j 1 : ℕ) = (j 1 : ℕ) := by
    show coff (word c) 1 + 1 * (j 1 : ℕ) = _; rw [h1]; omega
  have hj : (j 0 : ℕ) < 128 := (j 0).isLt
  unfold chunkV gath
  have hc : (⟨((chunkR c).emb j 0 : ℕ) / 128, by rw [e0]; have := c.isLt; show _ < 32; omega⟩ : Fin 32) = c := Fin.ext (by show _ / 128 = _; rw [e0]; omega)
  refine (congrArg (fun d => xOf m d _) hc).trans (congrArg (xOf m c) (funext fun a => ?_))
  revert a
  refine Fin.forall_fin_two.mpr ⟨Fin.ext ?_, Fin.ext ?_⟩
  · show ((chunkR c).emb j 0 : ℕ) % 128 = _; rw [e0]; omega
  · exact e1

theorem pay3_eq (x : Vec F S128x4096 .i8) : k0_pay3 x = x := by
  unfold k0_pay3
  dsimp only
  exact (shapeCast_self (s := S128x4096) _ _).trans (shapeCast_self (s := S128x4096) x _)

theorem V13_arg0 (c : Dev nD) : V13 m c main_arg0 = xOf m c :=
  (V14_of m (fun _ r c => m ((c : Thread nD τ).loc r)) c main_arg0 (by decide)).symm.trans (V14_main_arg0 m _ c)
theorem V13_arg1 (c : Dev nD) : V13 m c main_arg1 = wOf m c :=
  (V14_of m (fun _ r c => m ((c : Thread nD τ).loc r)) c main_arg1 (by decide)).symm.trans (V14_main_arg1 m _ c)
theorem V13_arg2 (c : Dev nD) : V13 m c main_arg2 = aOf m c :=
  (V14_of m (fun _ r c => m ((c : Thread nD τ).loc r)) c main_arg2 (by decide)).symm.trans (V14_main_arg2 m _ c)
theorem V13_arg3 (c : Dev nD) : V13 m c main_arg3 = bOf m c :=
  (V14_of m (fun _ r c => m ((c : Thread nD τ).loc r)) c main_arg3 (by decide)).symm.trans (V14_main_arg3 m _ c)

def resOf (c : Dev nD) : Vec F S4096x64 .f32 := outG (scOf (aOf m c) (bOf m c)) (gath m) (wOf m c)

/-- The arrays after the region. -/
def VE (c : Dev nD) : Valuation τ sig (Elt F) := Function.update (V13 m c) main_v70 (resOf m c)

def dats (_ : Fin 1) (c : Dev nD) : Dat τ (Elt F) Unit ℕ UU ℕ cfg0 c where
  A w := V13 m c (Proc.devRef .tc (Pipeline.arrRef spec0 w))
  after w _ := match w with
    | ⟨0, _⟩ => tabV c
    | ⟨1, _⟩ => xOf m c
    | ⟨2, _⟩ => wOf m c
    | ⟨3, _⟩ => aOf m c
    | ⟨4, _⟩ => bOf m c
    | ⟨5, _⟩ => resOf m c
  Φ t := if t.val = 0 then iprop(ghostO (gath m) c ∗ (∃ f : Vec F S4096x4096 .i8, ((c : Thread nD τ).loc cc0_scratch0) ↦{fullShare} f) ∗ ∃ r, prngReg c r)
    else iprop(semVal (barC c) 0 ∗ bigSepL allKeys (vals c) ∗ (∃ f : Vec F S4096x4096 .i8, ((c : Thread nD τ).loc cc0_scratch0) ↦{fullShare} f) ∗ ∃ r, prngReg c r)
  q _ := fullShare
  owed t := if t.val = 0 then O₀ c else 0

/-! ## What a window's block holds when the body starts -/

theorem before_0 (c : Dev nD) (d) : (dats m 0 c).before (0 : Fin 6) t0_0 d = (tabV c : Vec F S66 .i32) := by
  unfold Dat.before
  rw [if_pos (fetch0_0 t0_0)]
  refine Eq.trans (funext fun j => ?_) (V13_table m c)
  refine congrArg (V13 m c main_v69) (funext fun a => Fin.ext ?_)
  show 0 * _ + 1 * (j a : ℕ) = (j a : ℕ)
  omega
theorem before_1 (c : Dev nD) (d) : (dats m 0 c).before (1 : Fin 6) t0_0 d = xOf m c := by
  unfold Dat.before
  rw [if_pos (fetch0_1 t0_0)]
  refine Eq.trans (funext fun j => ?_) (V13_arg0 m c)
  refine congrArg (V13 m c main_arg0) (funext fun a => Fin.ext ?_)
  show 0 * _ + 1 * (j a : ℕ) = (j a : ℕ)
  omega
theorem before_2 (c : Dev nD) (d) : (dats m 0 c).before (2 : Fin 6) t0_0 d = wOf m c := by
  unfold Dat.before
  rw [if_pos (fetch0_2 t0_0)]
  refine Eq.trans (funext fun j => ?_) (V13_arg1 m c)
  refine congrArg (V13 m c main_arg1) (funext fun a => Fin.ext ?_)
  show 0 * _ + 1 * (j a : ℕ) = (j a : ℕ)
  omega
theorem before_3 (c : Dev nD) (d) : (dats m 0 c).before (3 : Fin 6) t0_0 d = aOf m c := by
  unfold Dat.before
  rw [if_pos (fetch0_3 t0_0)]
  refine Eq.trans (funext fun j => ?_) (V13_arg2 m c)
  refine congrArg (V13 m c main_arg2) (funext fun a => Fin.ext ?_)
  show 0 * _ + 1 * (j a : ℕ) = (j a : ℕ)
  omega
theorem before_4 (c : Dev nD) (d) : (dats m 0 c).before (4 : Fin 6) t0_0 d = bOf m c := by
  unfold Dat.before
  rw [if_pos (fetch0_4 t0_0)]
  refine Eq.trans (funext fun j => ?_) (V13_arg3 m c)
  refine congrArg (V13 m c main_arg3) (funext fun a => Fin.ext ?_)
  show 0 * _ + 1 * (j a : ℕ) = (j a : ℕ)
  omega

theorem arr_out (c : Dev nD) : (dats m 0 c).arrAt (5 : Fin 6) cfg0.N = resOf m c := by
  refine (dats m 0 c).arrAt_eq_of_covers (5 : Fin 6) _ (by decide +kernel) fun t hf y => ?_
  obtain rfl := fin_N0 t
  refine congrArg (resOf m c) (funext fun a => Fin.ext ?_)
  show (y a : ℕ) = 0 * _ + 1 * (y a : ℕ)
  omega

theorem owed_zero (c : Dev nD) : (dats m 0 c).owed 0 = O₀ c := by
  show (if ((0 : Fin (cfg0.N + 1)).val = 0) then O₀ c else 0) = O₀ c; exact if_pos rfl
theorem owed_first (c : Dev nD) : (dats m 0 c).owed t0_0.castSucc = O₀ c := by
  show (if (t0_0.castSucc : Fin (cfg0.N + 1)).val = 0 then O₀ c else 0) = O₀ c; exact if_pos rfl
theorem owed_last (c : Dev nD) : (dats m 0 c).owed (Fin.last _) = 0 := by
  show (if (Fin.last cfg0.N).val = 0 then O₀ c else 0) = 0
  rw [Fin.val_last, if_neg (by rw [show cfg0.N = 1 from N_0]; decide)]
theorem owed_succ (c : Dev nD) : (dats m 0 c).owed t0_0.succ = 0 := by
  show (if (t0_0.succ : Fin (cfg0.N + 1)).val = 0 then O₀ c else 0) = 0
  exact if_neg (Nat.succ_ne_zero _)

/-- Owing `O` is what the region asks. -/
theorem owes_in (c : Dev nD) (t : Fin (cfg0.N + 1)) (O : CellTallies nD τ sig Unit) (h : (dats m 0 c).owed t = O) :
    ow c O ⊢ ((dats m 0 c).owesAt () t : sProp 𝕄) := by
  unfold ow Dat.owesAt Pipeline.owesWithin Dat.bound
  rw [h, show (dats m 0 c).recorded t = Set.univ from rfl]
  iintro ⟨%W, HO⟩
  iexists W
  isplitr
  · ipureintro; exact fun _ _ => Or.inl trivial
  iexact HO
theorem owes_out (c : Dev nD) (t : Fin (cfg0.N + 1)) (O : CellTallies nD τ sig Unit) (h : (dats m 0 c).owed t = O) :
    ((dats m 0 c).owesAt () t : sProp 𝕄) ⊢ ow c O := by
  unfold ow Dat.owesAt Pipeline.owesWithin
  rw [h]
  iintro ⟨%W, -, HO⟩
  iexists W
  iexact HO

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

/-- A staging buffer known to hold `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

abbrev scrP (c : Dev nD) : sProp 𝕄 := iprop(∃ f : Vec F S4096x4096 .i8, ((c : Thread nD τ).loc cc0_scratch0) ↦{fullShare} f)

set_option maxRecDepth 4000 in
def obPre (c : Dev nD) : sProp 𝕄 :=
  iprop((ghostO (gath m) c ∗ scrP c ∗ ∃ r, prngReg c r) ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))
def obPost (c : Dev nD) : sProp 𝕄 :=
  iprop((semVal (barC c) 0 ∗ bigSepL allKeys (vals c) ∗ scrP c ∗ ∃ r, prngReg c r) ∗ (dats m 0 c).owesAt () t0_0.succ
    ∗ stg c cc0_stg0_0 (tabV c : Vec F S66 .i32) ∗ stg c cc0_stg1_0 (xOf m c) ∗ stg c cc0_stg2_0 (wOf m c)
    ∗ stg c cc0_stg3_0 (aOf m c) ∗ stg c cc0_stg4_0 (bOf m c) ∗ stg c cc0_stg5_0 (resOf m c))

theorem ob_run (c : Dev nD) :
    obPre m c ⊢ WP c (body metaM blkM wM sxM swM oM xM xW cc0_scratch1 cc0_scratch2 cc0_scratch3 cc0_scratch4) (fun _ => obPost m c) := by
  unfold obPre
  iintro ⟨⟨Hg, Hx, Hp⟩, HO, ⟨%d0, %g0, %h0, H0⟩, ⟨%d1, %g1, %h1, H1⟩, ⟨%d2, %g2, %h2, H2⟩, ⟨%d3, %g3, %h3, H3⟩, ⟨%d4, %g4, %h4, H4⟩, ⟨%d5, %g5, -, H5⟩⟩
  rw [before_0] at h0; rw [before_1] at h1; rw [before_2] at h2; rw [before_3] at h3; rw [before_4] at h4
  subst h0; subst h1; subst h2; subst h3; subst h4
  iapply (wp_body (gath m) (xOf m c) (wOf m c) (aOf m c) (bOf m c) c ((gath_chunk m c).trans (pay3_eq _).symm) _) $$ [Hg Hx HO H0 H1 H2 H3 H4 H5]
  · unfold bodyPre metaP blkP wP sxP swP
    isplitl [Hg]; · iexact Hg
    isplitl [H0]; · iexact H0
    isplitl [H1]; · iexact H1
    isplitl [H2]; · iexact H2
    isplitl [H3]; · iexact H3
    isplitl [H4]; · iexact H4
    isplitl [H5]; · iexists g5; iexact H5
    isplitl [Hx]; · iexact Hx
    iapply (owes_out m c _ _ (owed_first m c)) $$ HO
  unfold bodyPost obPost metaP blkP wP sxP swP
  iintro ⟨Hb, Hv, H0, H1, H2, H3, H4, H5, Hx, HO⟩
  isplitl [Hb Hv Hx Hp]
  · isplitl [Hb]; · iexact Hb
    isplitl [Hv]; · iexact Hv
    isplitl [Hx] <;> iassumption
  isplitl [HO]; · iapply (owes_in m c _ _ (owed_succ m c)) $$ HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

/-- The body that the pipeline calls. -/
theorem body_row : (defs₀ (F := F)) .tc cfg0.body (cfg0.bodyArgs t0_0 (cfg0.slots t0_0))
    = body metaM blkM wM sxM swM oM xM xW cc0_scratch1 cc0_scratch2 cc0_scratch3 cc0_scratch4 :=
  Eq.trans (by unfold defs₀; rw [Defs.onTc_tc]) (body_eq metaM (Memref.isWhole_whole _) blkM (Memref.isWhole_whole _) wM (Memref.isWhole_whole _) sxM (Memref.isWhole_whole _)
      swM (Memref.isWhole_whole _) oM (Memref.isWhole_whole _) xM xW cc0_scratch1 cc0_scratch2 cc0_scratch3 cc0_scratch4)

theorem ob_pre (c : Dev nD) : iprop((dats m 0 c).Φ t0_0.castSucc ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d))) ⊢ obPre m c := by
  rw [show (dats m 0 c).Φ t0_0.castSucc = iprop(ghostO (gath m) c ∗ scrP c ∗ ∃ r, prngReg c r) from rfl]
  exact BI.Entails.refl _
theorem ob_post (c : Dev nD) : obPost m c ⊢ iprop((dats m 0 c).Φ t0_0.succ ∗ (dats m 0 c).owesAt () t0_0.succ
    ∗ stg c cc0_stg0_0 ((dats m 0 c).after (0 : Fin 6) t0_0) ∗ stg c cc0_stg1_0 ((dats m 0 c).after (1 : Fin 6) t0_0)
    ∗ stg c cc0_stg2_0 ((dats m 0 c).after (2 : Fin 6) t0_0) ∗ stg c cc0_stg3_0 ((dats m 0 c).after (3 : Fin 6) t0_0)
    ∗ stg c cc0_stg4_0 ((dats m 0 c).after (4 : Fin 6) t0_0) ∗ stg c cc0_stg5_0 ((dats m 0 c).after (5 : Fin 6) t0_0)) := by
  rw [show (dats m 0 c).Φ t0_0.succ = iprop(semVal (barC c) 0 ∗ bigSepL allKeys (vals c) ∗ scrP c ∗ ∃ r, prngReg c r) from rfl]
  exact BI.Entails.refl _

theorem body_ob (c : Dev nD) : BodyObligation (dats (F := F) m 0 c) (defs₀ (F := F)) 𝒱₀ () Set.univ := fun t => by
  obtain rfl := fin_N0 t
  rw [bigSep_W0, bigSep_W0]
  simp only [owns_buf]
  exact triple_restated (W := wp frame (wpE (defs₀ (F := F)) 𝒱₀ c none) Set.univ
      (body metaM blkM wM sxM swM oM xM xW cc0_scratch1 cc0_scratch2 cc0_scratch3 cc0_scratch4)) (ob_run m c)
    (congrArg (wp frame (wpE (defs₀ (F := F)) 𝒱₀ c none) Set.univ) body_row.symm) (ob_pre m c) fun _ => ob_post m c

end Cert.KernelIdeal.Ring

end
-- ==== Proof.Enter.lean ====
module

public import proofs.«01_k».proof.Proof.Region

@[expose] public section

noncomputable section

/-!
The region as a segment of the program: what a device brings to it and takes away.
-/
namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- What a device carries from the launch to the region: no counter of a scoped semaphore is there. -/
def carried (c : Dev nD) : sProp 𝕄 :=
  iprop(∃ κ, invs (gath m) κ ∗ bars (F := F) c ∗ bigSepL progKeys (tokRes (F := F) c) ∗ credRes (F := F) c ∗ bigSepL allKeys (shut (F := F) c))

theorem opens (c : Dev nD) : iprop(carried m c ∗ Pipeline.ownSems0 osem c ∗ levAts L lv) ⊢ (|={Set.univ}=> ghostO (gath m) c : sProp 𝕄) := by
  rw [ownSems_eq]
  unfold carried ghostO
  iintro ⟨⟨%κ, #HI, Hb, Ht, Hc, Hs⟩, Hv, #Hlev⟩
  imod (open_all (gath m) κ c) $$ [Hs Hv] with Ho
  · isplitr; · iexact HI
    iapply (bigSepL_join' allKeys (shut (F := F) c) (vals (F := F) c))
    isplitl [Hs] <;> iassumption
  imodintro
  iexists κ
  isplitr; · iexact HI
  isplitr; · iexact Hlev
  isplitl [Hb]; · iexact Hb
  isplitl [Ht]; · iexact Ht
  isplitl [Hc] <;> iassumption

theorem O₀_pos {c : Dev nD} {g : GSem nD τ sig} {u : Unit} (h : 0 < O₀ c g u) :
    (∃ k ∈ progKeys, g = rC (nbr k.1 c) k) ∨ ∃ d, g = barC d := by
  unfold O₀ at h
  rw [Pi.add_apply, Finsupp.add_apply] at h
  rcases Nat.add_pos_iff_pos_or_pos.mp h with h | h
  · rw [Pi.add_apply, Finsupp.add_apply] at h
    rcases Nat.add_pos_iff_pos_or_pos.mp h with h | h
    · exact .inl (tal_pos h)
    · rw [tallyAt_apply] at h
      split at h
      · next hg => exact .inr ⟨_, hg.1⟩
      · exact absurd h (Nat.lt_irrefl 0)
  · rw [tallyAt_apply] at h
    split at h
    · next hg => exact .inr ⟨_, hg.1⟩
    · exact absurd h (Nat.lt_irrefl 0)

theorem cut_owed (c : Dev nD) (t : Fin (cfg0.N + 1)) (g : GSem nD τ sig) (i : Unit) (h : 0 < (dats (F := F) m 0 c).owed t g i) :
    i ∈ L g ∧ (0 : ℕ) < lv g i := by
  have e : (dats (F := F) m 0 c).owed t = if t.val = 0 then O₀ c else 0 := rfl
  rw [e] at h
  split at h
  · rcases O₀_pos h with ⟨k, -, rfl⟩ | ⟨d, rfl⟩
    · refine ⟨by rw [L_tc]; exact Finset.mem_singleton_self _, ?_⟩
      show 0 < lvOf (.dma (sR k))
      rw [lvOf_sR]; omega
    · exact ⟨by rw [L_tc]; exact Finset.mem_singleton_self _, Nat.one_pos⟩
  · exact absurd h (Nat.lt_irrefl 0)

/-- The memory after the region, but for the result as before. -/
theorem VE_of (c : Dev nD) (r : DevRef τ sig) (h : r ≠ Proc.devRef .tc main_v70) : VE m c r = V13 m c r := Function.update_of_ne h ..

theorem VE_out (c : Dev nD) : VE m c main_v70 = resOf m c := Function.update_self ..

abbrev arrs : Finset (DevRef τ sig) := Pipeline.arrRefs (τ := τ) spec0
abbrev others : Finset (DevRef τ sig) := Pipeline.ucRefs τ sig \ arrs

theorem enter (c : Dev nD) : iprop(Pipeline.scopedRest (Ix := Unit) (Name := ℕ) (U := UU) (Lvl := ℕ) (Val := Elt F) spec0 c ∗ (∃ r, prngReg c r)
      ∗ StableHlo.held (c : Thread nD τ) ∅ (V13 m c) ∗ ghostO (gath m) c)
    ⊢ ((dats m 0 c).Φ 0 : sProp 𝕄) := by
  rw [show (dats m 0 c).Φ 0 = iprop(ghostO (gath m) c ∗ scrP c ∗ ∃ r, prngReg c r) from rfl, scopedRest0_eq]
  iintro ⟨Hs, Hp, -, Hg⟩
  isplitl [Hg]; · iexact Hg
  isplitl [Hs]; · iexact Hs
  iexact Hp

theorem held_none (c : Dev nD) (W : Valuation τ sig (Elt F)) : (StableHlo.held (c : Thread nD τ) ∅ W : sProp 𝕄) = BI.emp := by
  unfold StableHlo.held; exact BI.bigSep_empty

theorem leave (c : Dev nD) : ((dats m 0 c).Φ (Fin.last cfg0.N) : sProp 𝕄)
    ⊢ iprop(Pipeline.scopedRest (Ix := Unit) (Name := ℕ) (U := UU) (Lvl := ℕ) (Val := Elt F) spec0 c ∗ (∃ r, prngReg c r)
      ∗ StableHlo.held (c : Thread nD τ) ∅ (VE m c) ∗ Pipeline.ownSems0 osem c ∗ semVal (barC c) 0) := by
  rw [show (dats m 0 c).Φ (Fin.last cfg0.N) = iprop(semVal (barC c) 0 ∗ bigSepL allKeys (vals c) ∗ scrP c ∗ ∃ r, prngReg c r) from rfl,
    scopedRest0_eq, held_none, ownSems_eq]
  iintro ⟨Hb, Hv, Hs, Hp⟩
  isplitl [Hs]; · iexact Hs
  isplitl [Hp]; · iexact Hp
  isplitr; · iempintro
  isplitl [Hv] <;> iassumption

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_full (c : Dev nD) (w : Fin cfg0.W) : (dats m 0 c).share w = fullShare := by
  unfold Dat.share; split <;> rfl

set_option maxHeartbeats 1000000 in
theorem arr_end (c : Dev nD) (w : Fin cfg0.W) : (dats m 0 c).arrAt w cfg0.N = VE m c (Proc.devRef .tc (Pipeline.arrRef spec0 w)) := by
  match w with
  | ⟨0, _⟩ => exact ((dats m 0 c).arrAt_in (0 : Fin 6) rfl cfg0.N).trans (VE_of m c (Proc.devRef .tc main_v69) (by decide)).symm
  | ⟨1, _⟩ => exact ((dats m 0 c).arrAt_in (1 : Fin 6) rfl cfg0.N).trans (VE_of m c (Proc.devRef .tc main_arg0) (by decide)).symm
  | ⟨2, _⟩ => exact ((dats m 0 c).arrAt_in (2 : Fin 6) rfl cfg0.N).trans (VE_of m c (Proc.devRef .tc main_arg1) (by decide)).symm
  | ⟨3, _⟩ => exact ((dats m 0 c).arrAt_in (3 : Fin 6) rfl cfg0.N).trans (VE_of m c (Proc.devRef .tc main_arg2) (by decide)).symm
  | ⟨4, _⟩ => exact ((dats m 0 c).arrAt_in (4 : Fin 6) rfl cfg0.N).trans (VE_of m c (Proc.devRef .tc main_arg3) (by decide)).symm
  | ⟨5, _⟩ => exact (arr_out m c).trans (VE_out m c).symm

set_option maxRecDepth 65536 in
theorem osem_facts : Pipeline.OwnSemFacts spec0 osem := by decide +kernel

theorem rest_same (c : Dev nD) (b : DevRef τ sig) (h : b ∈ others \ ∅) : VE m c b = V13 m c b := by
  refine VE_of m c b ?_
  rintro rfl
  exact (Finset.mem_sdiff.mp (Finset.mem_sdiff.mp h).1).2 (by decide)

abbrev pdats : (p : Fin 1) → (c : Dev nD) → Dat τ (Elt F) Unit ℕ UU ℕ (cfgs p) c
  | 0 => dats m 0

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) kit rfl (fun c => (body_ob m c).loose)
    (fun _ => 0) O₀ (fun c => (owed_zero m c).trans (zero_add _).symm) (owed_last m) (fun _ => rfl) (share_full m)
    (V13 m) (VE m) (rest_same m)
    (carried m) (fun c => semVal (barC c) 0) (ghostO (gath m)) (fun c => semVal (barC c) 0) (opens m) (enter m) (leave m)
    (fun c => by iintro H; imodintro; iexact H)
    (fun _ => 0)
    ⟨fun c w s => by rw [L_tc]; exact Finset.mem_singleton_self _, fun c w s => by
      revert s
      fin_cases w <;> exact fun s => le_of_eq (by rfl), fun c t g i h => cut_owed m c t g i h⟩
    (fun _ => iprop(emp))
    (fun _ _ => rfl) (arr_end m)

/-- What a device holds for the protocol while it runs the operations before the region. -/
def rides (c : Dev nD) : sProp 𝕄 := iprop(carried m c ∗ (∃ r, prngReg c r) ∗ ow c (O₀ c))

theorem reg_pre (c : Dev nD) : iprop(StableHlo.held (c : Thread nD τ) (Pipeline.ucRefs τ sig) (V13 m c) ∗ rides m c) ⊢ (reg m).pre c := by
  show _ ⊢ iprop(StableHlo.held (c : Thread nD τ) arrs (V13 m c) ∗ (∃ r, prngReg c r)
    ∗ (StableHlo.held (c : Thread nD τ) others (V13 m c) ∗ emp) ∗ carried m c ∗ ∃ W, owes (c : Thread nD τ) (0 + O₀ c) W)
  rw [zero_add, StableHlo.held_sub_split (c : Thread nD τ) (Pipeline.arrRefs_sub_ucRefs (τ := τ) spec0 (by decide)) (V13 m c)]
  unfold rides ow
  iintro ⟨⟨Ha, Ho⟩, Hc, Hp, HO⟩
  isplitl [Ha]; · iexact Ha
  isplitl [Hp]; · iexact Hp
  isplitl [Ho]
  · isplitl [Ho]; · iexact Ho
    iempintro
  isplitl [Hc] <;> iassumption

theorem reg_post (c : Dev nD) : (reg m).post c
    ⊢ iprop((StableHlo.held (c : Thread nD τ) (Pipeline.ucRefs τ sig) (VE m c) ∗ semVal (barC c) 0)
      ∗ ∃ W, owes (c : Thread nD τ) (0 : CellTallies nD τ sig Unit) W) := by
  show iprop(StableHlo.held (c : Thread nD τ) arrs (VE m c) ∗ (∃ r, prngReg c r)
    ∗ (StableHlo.held (c : Thread nD τ) others (VE m c) ∗ emp) ∗ semVal (barC c) 0 ∗ ∃ W, owes (c : Thread nD τ) (0 : CellTallies nD τ sig Unit) W) ⊢ _
  rw [StableHlo.held_sub_split (c : Thread nD τ) (Pipeline.arrRefs_sub_ucRefs (τ := τ) spec0 (by decide)) (VE m c)]
  iintro ⟨Ha, -, ⟨Ho, -⟩, Hb, HO⟩
  isplitr [HO]
  · isplitl [Ha Ho]
    · isplitl [Ha] <;> iassumption
    iexact Hb
  iexact HO

end Cert.KernelIdeal.Ring

end
-- ==== Proof.Deal.lean ====
module

public import proofs.«01_k».proof.Proof.Enter

@[expose] public section

noncomputable section

/-!
The launch: the rounds' resource made out of the barriers' counters and dealt to the devices, each token to the device that spends it, and
each device's credit read off what the devices owe.
-/
namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Families over the devices -/

/-- Every key's family of resources, each member moved to the neighbour the key's copy comes from. -/
theorem move_list (l : List Key) (Φ : Dev nD → Key → sProp 𝕄) :
    (bigSep Finset.univ fun c : Dev nD => bigSepL l (Φ c)) = bigSep Finset.univ fun c : Dev nD => bigSepL l fun k => Φ (nbr k.1 c) k := by
  induction l with
  | nil => rfl
  | cons k l ih =>
    simp only [bigSepL_cons']
    rw [bigSep_sep', bigSep_sep', ih, bigSep_univ_equiv (nbrEquiv k.1) fun c => Φ c k]
    rfl
theorem move (dir : Bool) (Φ : Dev nD → sProp 𝕄) : bigSep Finset.univ Φ = bigSep Finset.univ fun c : Dev nD => Φ (nbr dir c) :=
  bigSep_univ_equiv (nbrEquiv dir) Φ

theorem keep (A B : sProp 𝕄) : iprop(A ∗ B) ⊢ A := by
  iintro ⟨H, -⟩; iexact H

/-- Some members of a family. -/
theorem some_of {I : Type} [Fintype I] [DecidableEq I] (l : List I) (hl : l.Nodup) (Φ : I → sProp 𝕄) : bigSep Finset.univ Φ ⊢ bigSepL l Φ := by
  rw [← bigSep_eq_bigSepL_of_eq l rfl hl]
  exact BI.bigSep_subset (Finset.subset_univ _)

/-! ## The tokens -/

/-- A device's duties: of its barrier, and of the semaphores of its copies. -/
def dutyAt (c : Dev nD) : Bool ⊕ (Bool × Key) → GSem nD τ sig × ℕ × Bool
  | .inl d => (barC c, 0, d)
  | .inr x => (((c : Thread nD τ), osem x), 0, true)
theorem dutyAt_inj (x y : Dev nD × (Bool ⊕ (Bool × Key))) (h : dutyAt x.1 x.2 = dutyAt y.1 y.2) : x = y := by
  obtain ⟨c, a⟩ := x; obtain ⟨c', b⟩ := y
  rcases a with d | a <;> rcases b with d' | b
  · have h1 : c = c' := congrArg (fun t : GSem nD τ sig × ℕ × Bool => t.1.1.1) h
    have h2 : d = d' := congrArg (fun t : GSem nD τ sig × ℕ × Bool => t.2.2) h
    rw [h1, h2]
  · have h2 : (SemLoc.reg barS : SemLoc sig) = .dma (semOf b) := congrArg (fun t : GSem nD τ sig × ℕ × Bool => t.1.2) h
    cases h2
  · have h2 : (SemLoc.dma (semOf a) : SemLoc sig) = .reg barS := congrArg (fun t : GSem nD τ sig × ℕ × Bool => t.1.2) h
    cases h2
  · have h1 : c = c' := congrArg (fun t : GSem nD τ sig × ℕ × Bool => t.1.1.1) h
    have h2 : (SemLoc.dma (semOf a) : SemLoc sig) = .dma (semOf b) := congrArg (fun t : GSem nD τ sig × ℕ × Bool => t.1.2) h
    rw [h1, semOf_inj (SemLoc.dma.inj h2)]
def dutyEmb : Dev nD × (Bool ⊕ (Bool × Key)) ↪ GSem nD τ sig × ℕ × Bool := ⟨fun x => dutyAt x.1 x.2, fun x y => dutyAt_inj x y⟩
@[irreducible] def talkToks : Finset (GSem nD τ sig × ℕ × Bool) := Finset.univ.map dutyEmb

/-- A device's tokens as they are made. -/
def toks (c : Dev nD) : sProp 𝕄 :=
  iprop((dutyTok ER (barC c) 0 false ∗ dutyTok ER (barC c) 0 true)
    ∗ bigSepL progKeys (fun k => (dutyTok ER (sC c k) 0 true : sProp 𝕄)) ∗ bigSepL progKeys (fun k => (dutyTok ER (rC c k) 0 true : sProp 𝕄)))
/-- A device's tokens as they are spent. -/
def dues (c : Dev nD) : sProp 𝕄 :=
  iprop((dutyTok ER (barC (nbr true c)) 0 false ∗ dutyTok ER (barC (nbr false c)) 0 true)
    ∗ bigSepL progKeys (fun k => (dutyTok ER (sC c k) 0 true : sProp 𝕄)) ∗ bigSepL progKeys (fun k => (dutyTok ER (rC (nbr k.1 c) k) 0 true : sProp 𝕄)))

theorem toks_at (c : Dev nD) :
    (bigSep Finset.univ fun x : Bool ⊕ (Bool × Key) => (dutyTok ER (dutyAt c x).1 (dutyAt c x).2.1 (dutyAt c x).2.2 : sProp 𝕄)) ⊢ toks (F := F) c := by
  rw [BI.bigSep_univ_sum]
  refine BI.sep_mono ?_ ?_
  · rw [bigSep_univ_eq_bigSepL [false, true] (by decide) (by decide)]
    exact BI.Entails.refl _
  · refine BI.Entails.trans (Entails.of_eq (by_keys (fun g => (dutyTok ER g 0 true : sProp 𝕄)) c)) ?_
    unfold allKeys
    rw [bigSepL_append]
    exact (keep _ _).trans (bigSepL_sep' progKeys (fun k => (dutyTok ER (sC c k) 0 true : sProp 𝕄)) (fun k => (dutyTok ER (rC c k) 0 true : sProp 𝕄)))

theorem toks_made : bigSep talkToks (fun x => (dutyTok ER x.1 x.2.1 x.2.2 : sProp 𝕄)) ⊢ bigSep Finset.univ (toks (F := F)) := by
  unfold talkToks
  rw [bigSep_map, bigSep_univ_prod]
  exact bigSep_mono fun c _ => toks_at c

theorem toks_dealt : bigSep Finset.univ (toks (F := F)) = bigSep Finset.univ (dues (F := F)) := by
  unfold toks dues
  rw [bigSep_sep', bigSep_sep', bigSep_sep', bigSep_sep', bigSep_sep', bigSep_sep',
    move true (fun c => (dutyTok ER (barC c) 0 false : sProp 𝕄)), move false (fun c => (dutyTok ER (barC c) 0 true : sProp 𝕄)),
    move_list progKeys (fun c k => (dutyTok ER (rC c k) 0 true : sProp 𝕄))]

/-! ## The credit -/

theorem nbr_eq (dir : Bool) (c d : Dev nD) : c = nbr dir d ↔ d = nbr (!dir) c :=
  ⟨fun h => by rw [h, nbr_nbr], fun h => by have := nbr_nbr (!dir) c; rw [Bool.not_not] at this; rw [h, this]⟩

theorem barC_inj {c d : Dev nD} (h : barC c = barC d) : c = d := congrArg (fun g : GSem nD τ sig => g.1.1) h
theorem rC_inj {c d : Dev nD} {k k' : Key} (h : rC c k = rC d k') : c = d ∧ k = k' :=
  ⟨congrArg (fun g : GSem nD τ sig => g.1.1) h, sR_inj (SemLoc.dma.inj (congrArg (fun g : GSem nD τ sig => g.2) h))⟩
theorem rC_ne_barC (c d : Dev nD) (k : Key) : rC c k ≠ barC d := fun h => by
  have := congrArg (fun g : GSem nD τ sig => g.2) h; cases this

theorem tal_bar (d c : Dev nD) (l : List Key) : tal d l (barC c) () = 0 := by
  rcases Nat.eq_zero_or_pos (tal d l (barC c) ()) with h | h
  · exact h
  · obtain ⟨k, -, e⟩ := tal_pos h; exact absurd e.symm (rC_ne_barC _ _ _)
theorem tal_not (d c : Dev nD) (l : List Key) (k : Key) (h : k ∉ l) : tal d l (rC c k) () = 0 := by
  rcases Nat.eq_zero_or_pos (tal d l (rC c k) ()) with h' | h'
  · exact h'
  · obtain ⟨k', hk', e⟩ := tal_pos h'; rw [(rC_inj e).2] at h; exact absurd hk' h
theorem tal_recv (d c : Dev nD) (k : Key) : ∀ l : List Key, l.Nodup → k ∈ l → tal d l (rC c k) () = if d = nbr (!k.1) c then N else 0
  | k' :: l, hn, hk => by
    rw [show tal d (k' :: l) (rC c k) () = tal d l (rC c k) () + tallyAt (rC (nbr k'.1 d) k') () N (rC c k) () from rfl, tallyAt_apply]
    rcases List.mem_cons.mp hk with rfl | hk
    · rw [tal_not d c l k (List.nodup_cons.mp hn).1, Nat.zero_add]
      refine if_congr ?_ rfl rfl
      exact ⟨fun h => (nbr_eq k.1 c d).mp (rC_inj h.1).1, fun h => ⟨by rw [← (nbr_eq k.1 c d).mpr h], rfl⟩⟩
    · rw [tal_recv d c k l (List.nodup_cons.mp hn).2 hk, if_neg (c := rC c k = rC (nbr k'.1 d) k' ∧ () = ()), Nat.add_zero]
      rintro ⟨h, -⟩
      rw [(rC_inj h).2] at hk
      exact (List.nodup_cons.mp hn).1 hk

theorem progKeys_nodup : progKeys.Nodup := progKeys_perm.nodup_iff.mp dirKeys_nodup

theorem O₀_apply (d : Dev nD) (g : GSem nD τ sig) :
    O₀ d g () = tal d progKeys g () + tallyAt (barC (nbr true d)) () 1 g () + tallyAt (barC (nbr false d)) () 1 g () := rfl

theorem owed_bar (d c : Dev nD) : O₀ d (barC c) () = (if d = nbr false c then 1 else 0) + if d = nbr true c then 1 else 0 := by
  rw [O₀_apply, tal_bar, Nat.zero_add, tallyAt_apply, tallyAt_apply]
  have h (dir : Bool) : (barC c = barC (nbr dir d) ∧ () = ()) ↔ d = nbr (!dir) c :=
    ⟨fun h => (nbr_eq dir c d).mp (barC_inj h.1), fun h => ⟨by rw [← (nbr_eq dir c d).mpr h], rfl⟩⟩
  exact congrArg₂ (· + ·) (if_congr (h true) rfl rfl) (if_congr (h false) rfl rfl)
theorem owed_recv (d c : Dev nD) (k : Key) (hk : k ∈ progKeys) : O₀ d (rC c k) () = if d = nbr (!k.1) c then N else 0 := by
  rw [O₀_apply, tallyAt_apply, tallyAt_apply, if_neg (fun h => rC_ne_barC _ _ _ h.1), if_neg (fun h => rC_ne_barC _ _ _ h.1), Nat.add_zero]
  exact tal_recv d c k progKeys progKeys_nodup hk

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nbr false c) fun _ => 1, Finset.sum_ite_eq' Finset.univ (nbr true c) fun _ => 1,
    if_pos (Finset.mem_univ _), if_pos (Finset.mem_univ _)]
theorem launch_recv (c : Dev nD) (k : Key) (hk : k ∈ progKeys) :
    tallyOn (rC c k) (launchCredit (Pipeline.owing O₀) 0 (rC c k)) = (tallyAt (rC c k) () N : CellTallies nD τ sig Unit) := by
  unfold tallyAt; refine congrArg _ (Finsupp.ext fun u => ?_); cases u
  rw [Pipeline.launchCredit_owing, Finsupp.single_eq_same, Finset.sum_congr rfl fun d _ => owed_recv d c k hk,
    Finset.sum_ite_eq' Finset.univ (nbr (!k.1) c) fun _ => N, if_pos (Finset.mem_univ _)]

/-- The semaphores a device has credit on. -/
def credSems : List (SemLoc sig) := .reg barS :: progKeys.map fun k => .dma (sR k)
theorem credSems_nodup : credSems.Nodup := by
  unfold credSems
  refine List.nodup_cons.mpr (And.intro (fun h => ?_) ?_)
  · obtain ⟨k, -, e⟩ := List.mem_map.mp h
    cases e
  · exact progKeys_nodup.map fun _ _ h => sR_inj (SemLoc.dma.inj h)

theorem creds (c : Dev nD) : (Pipeline.launchCred O₀ c : sProp 𝕄) ⊢ credRes (F := F) c := by
  unfold Pipeline.launchCred
  refine (some_of credSems credSems_nodup _).trans ?_
  unfold credSems credRes
  rw [bigSepL_cons', bigSepL_map, launch_bar]
  exact BI.sep_mono (BI.Entails.refl _) (bigSepL_mono fun k hk => Entails.of_eq (congrArg cred (launch_recv c k hk)))

/-! ## The resource at the launch -/

def u₀ : UU :=
  (initOf (Pipeline.cells (Pipeline.pin (pcfgs (F := F)) adm) cellOf_inj) (Pipeline.launchToks (Pipeline.pin (pcfgs (F := F)) adm) cellOf_inj),
    launchOf barCells scCells talkToks)

/-- A resource of the first device. -/
def onFirst (X : sProp 𝕄) (c : Dev nD) : sProp 𝕄 := if c = 0 then X else iprop(emp)
theorem onFirst_all (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

/-- The rounds' resource is with the first device until it is dealt. -/
def G : Dev nD → sProp 𝕄 := onFirst (BI.own (ER (launchOf barCells scCells talkToks)))

/-- What every device may consult. -/
def records (κ : GSem nD τ sig → ℕ) : sProp 𝕄 := iprop(invs (gath m) κ ∗ bigSep barCells fun g => reached ER g 0)
instance records_persistent (κ : GSem nD τ sig → ℕ) : BI.Persistent (records m κ) := by unfold records; infer_instance

theorem invs_intro (X : Vec F S4096x4096 .i8) (κ : GSem nD τ sig → ℕ) : (bigSep cells fun g => (cellInv ER (rd X) (κ g) g : sProp 𝕄)) ⊢ invs X κ := by
  unfold invs
  exact BI.BIClass.forall_intro fun g => BI.bigSep_elim g.2
theorem reached_at (c : Dev nD) : (bigSep barCells fun g => (reached ER g 0 : sProp 𝕄)) ⊢ reached ER (barC c) 0 :=
  BI.bigSep_elim (by unfold barCells; exact Finset.mem_map_of_mem barEmb (Finset.mem_univ c))

/-- What a device gets of the rounds' resource. -/
def dealt (c : Dev nD) : sProp 𝕄 := iprop(atPos ER (barC c) 0 ∅ 0 ∗ bigSepL allKeys (shut (F := F) c) ∗ dues (F := F) c)
/-- What it has besides. -/
def bundle (c : Dev nD) : sProp 𝕄 := iprop(credRes (F := F) c ∗ owes (c : Thread nD τ) (O₀ c) ∅ ∗ ∃ r, prngReg c r)

theorem carried_intro (κ : GSem nD τ sig → ℕ) (c : Dev nD) : iprop(records m κ ∗ dealt (F := F) c ∗ credRes (F := F) c) ⊢ carried m c := by
  unfold records dealt dues carried bars
  iintro ⟨⟨#HI, #HR⟩, ⟨Ha, Hs, ⟨Hb1, Hb2⟩, Ht1, Ht2⟩, Hc⟩
  iexists κ
  isplitr; · iexact HI
  isplitl [Ha Hb1 Hb2]
  · isplitl [Ha]; · iexact Ha
    isplitl [Hb1 Hb2]
    · isplitl [Hb1] <;> iassumption
    isplitr
    · iapply (reached_at (F := F) (nbr true c)); iexact HR
    · iapply (reached_at (F := F) (nbr false c)); iexact HR
  isplitl [Ht1 Ht2]
  · iapply (bigSepL_join' progKeys (fun k => (dutyTok ER (sC c k) 0 true : sProp 𝕄)) (fun k => (dutyTok ER (rC (nbr k.1 c) k) 0 true : sProp 𝕄)))
    isplitl [Ht1] <;> iassumption
  isplitl [Hc] <;> iassumption

theorem rides_intro (κ : GSem nD τ sig → ℕ) (c : Dev nD) : iprop(records m κ ∗ (dealt (F := F) c ∗ bundle (F := F) c)) ⊢ rides m c := by
  unfold bundle rides ow
  iintro ⟨#HR, Hd, Hc, HO, Hp⟩
  isplitl [Hd Hc]
  · iapply (carried_intro m κ c)
    isplitr; · iexact HR
    isplitl [Hd] <;> iassumption
  isplitl [Hp]; · iexact Hp
  iexists ∅; iexact HO

set_option maxRecDepth 65536 in
theorem unscoped_eq : ∀ sm : SemLoc sig, sm.isScoped .tc = false → sm = .reg barS := by decide +kernel
set_option maxRecDepth 65536 in
theorem barS_unscoped : (SemLoc.reg barS : SemLoc sig).isScoped .tc = false := by decide +kernel

theorem sems_eq (c : Dev nD) : (unscopedSems0 c : sProp 𝕄) = semVal (barC c) 0 := by
  unfold unscopedSems0
  rw [show (Finset.univ.filter fun sm : SemLoc sig => ¬ sm.isScoped .tc) = {SemLoc.reg barS} from by
    ext sm
    rw [Finset.mem_filter, Finset.mem_singleton]
    exact ⟨fun h => unscoped_eq sm (Bool.eq_false_iff.mpr h.2), fun h => ⟨Finset.mem_univ _, by rw [h, barS_unscoped]; exact Bool.false_ne_true⟩⟩, BI.bigSep_singleton]

theorem vals_bar : bigSep Finset.univ (fun c : Dev nD => (semVal (barC c) 0 : sProp 𝕄)) ⊢ bigSep barCells (fun g => (semVal g 0 : sProp 𝕄)) := by
  unfold barCells
  exact Entails.of_eq (bigSep_map (s := Finset.univ) barEmb (Φ := fun g : GSem nD τ sig => (semVal g 0 : sProp 𝕄))).symm
theorem pos_bar : bigSep barCells (fun g => (atPos ER g 0 ∅ 0 : sProp 𝕄)) ⊢ bigSep Finset.univ (fun c : Dev nD => (atPos ER (barC c) 0 ∅ 0 : sProp 𝕄)) := by
  unfold barCells
  exact Entails.of_eq (bigSep_map (s := Finset.univ) barEmb (Φ := fun g : GSem nD τ sig => (atPos ER g 0 ∅ 0 : sProp 𝕄)))
theorem shut_all : bigSep scCells (fun g => (openTok ER g : sProp 𝕄)) ⊢ bigSep Finset.univ (fun c : Dev nD => bigSepL allKeys (shut (F := F) c)) := by
  unfold scCells
  rw [bigSep_map, bigSep_univ_prod]
  exact bigSep_mono fun c _ => Entails.of_eq (by_keys (fun g => (openTok ER g : sProp 𝕄)) c)

/-- What the launch gives a device, sorted. -/
def given (c : Dev nD) : sProp 𝕄 := iprop(unscopedSems0 c ∗ owes (c : Thread nD τ) (O₀ c) ∅ ∗ Pipeline.launchCred O₀ c ∗ prngReg c (ρ c) ∗ G (F := F) c)
theorem given_sorted (c : Dev nD) : given (F := F) ρ c ⊢ iprop(bundle (F := F) c ∗ (semVal (barC c) 0 ∗ G (F := F) c)) := by
  unfold given bundle
  rw [sems_eq]
  have hc := creds (F := F) c
  iintro ⟨Hv, HO, Hc, Hp, HG⟩
  ihave Hc := hc $$ Hc
  isplitl [Hc HO Hp]
  · isplitl [Hc]; · iexact Hc
    isplitl [HO]; · iexact HO
    iexists (ρ c); iexact Hp
  isplitl [Hv] <;> iassumption

/-- The launch deals every device what it carries to the region. -/
theorem deal : iprop((bigSep Finset.univ (given (F := F) ρ)) ∗ levAts L lv) ⊢ (|={Set.univ}=> bigSep Finset.univ (rides m) : sProp 𝕄) := by
  have h1 : bigSep Finset.univ (given (F := F) ρ) ⊢ bigSep Finset.univ (fun c : Dev nD => iprop(bundle (F := F) c ∗ (semVal (barC c) 0 ∗ G (F := F) c))) :=
    bigSep_mono fun c _ => given_sorted ρ c
  have hu : bigSep Finset.univ (G (F := F)) ⊢ BI.own (ER (launchOf barCells scCells talkToks)) := Entails.of_eq (onFirst_all _)
  have hv := vals_bar (F := F)
  have hp := pos_bar (F := F)
  have hs := shut_all (F := F)
  have ht := toks_made (F := F)
  rw [toks_dealt] at ht
  have hi := invs_intro (gath m)
  iintro ⟨H, -⟩
  ihave H := h1 $$ H
  ihave H := Smoke.bigSep_unpair $$ H
  icases H with ⟨HB, H⟩
  ihave H := Smoke.bigSep_unpair $$ H
  icases H with ⟨Hv, HG⟩
  ihave Hu := hu $$ HG
  ihave Hv := hv $$ Hv
  imod (Rounds.fund_launch ER (rd (gath m)) disjoint_cells (fun g _ h => h) talkToks) $$ [Hv Hu] with ⟨%κ, -, #Hinv, #Hr, Hat, Hopen, Htok⟩
  · isplitl [Hv] <;> iassumption
  imodintro
  iapply (bigSep_with_persistent (R := records m κ) (Φ := fun c => iprop(dealt (F := F) c ∗ bundle (F := F) c)) fun c _ => rides_intro m κ c)
  isplitr
  · unfold records
    isplitr; · iapply (hi κ); iexact Hinv
    iexact Hr
  iapply Smoke.bigSep_pair
  isplitr [HB]
  · unfold dealt
    iapply Smoke.bigSep_pair
    isplitl [Hat]; · iapply hp $$ Hat
    iapply Smoke.bigSep_pair
    isplitl [Hopen]; · iapply hs $$ Hopen
    iapply ht $$ Htok
  · iexact HB

end Cert.KernelIdeal.Ring

end
-- ==== Proof.Run.lean ====
module

public import proofs.«01_k».proof.Proof.Deal

@[expose] public section

noncomputable section

/-!
The run of the whole program on all the devices.
-/
namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- Besides the arrays, a device carries its part of the protocol to the region, and nothing is left of it at the end but the barrier. -/
def rest : Fin 2 → Dev nD → sProp 𝕄
  | 0 => rides m
  | 1 => fun c => iprop(semVal (barC c) 0 ∗ ∃ W, owes (c : Thread nD τ) (0 : CellTallies nD τ sig Unit) W)

/-- The program as its segments. -/
def parts (c : Dev nD) : List (Pipeline.Seg (pcfgs (F := F)) adm (pdats m) () defs₀ 𝒱₀ L lv) := Gen.segs m 𝒱₀ L lv (rest m) () (pdats m) (reg m) c

/-- At the start, and at the end. -/
def T₀ (c : Dev nD) : sProp 𝕄 := iprop(StableHlo.held (c : Thread nD τ) (Pipeline.ucRefs τ sig) (V0 m c) ∗ rides m c)
def Tₙ (c : Dev nD) : sProp 𝕄 := iprop(StableHlo.held (c : Thread nD τ) (Pipeline.ucRefs τ sig) (VE m c) ∗ semVal (barC c) 0)

/-- The launch makes the first state. -/
theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have h1 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (iprop((bigSep Finset.univ fun c : Dev nD => StableHlo.held (c : Thread nD τ) (Pipeline.ucRefs τ sig) (V0 m c)) ∗ bigSep Finset.univ (given (F := F) ρ)) : sProp 𝕄) := by
    rw [← bigSep_sep']
    exact bigSep_mono fun c _ => by
      rw [← Pipeline.unscopedBufs_held (Ix := Unit) (Name := ℕ) (U := UU) (Lvl := ℕ) c (V0 m c)]; exact BI.Entails.refl _
  have h2 := deal m ρ
  iintro ⟨H, Hl⟩
  ihave H := h1 $$ H
  icases H with ⟨Hh, Hg⟩
  imod h2 $$ [Hg Hl] with HR
  · isplitl [Hg] <;> iassumption
  imodintro
  unfold T₀
  rw [bigSep_sep']
  isplitl [Hh] <;> iassumption

/-- The arrays of a device at the end. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3))
  ∧ s.mem ((c : Thread nD τ).loc main_v70) = resOf m c

theorem VE_arg0 (c : Dev nD) : VE m c main_arg0 = m ((c : Thread nD τ).loc main_arg0) := (VE_of m c (Proc.devRef .tc main_arg0) (by decide)).trans (V13_arg0 m c)
theorem VE_arg1 (c : Dev nD) : VE m c main_arg1 = m ((c : Thread nD τ).loc main_arg1) := (VE_of m c (Proc.devRef .tc main_arg1) (by decide)).trans (V13_arg1 m c)
theorem VE_arg2 (c : Dev nD) : VE m c main_arg2 = m ((c : Thread nD τ).loc main_arg2) := (VE_of m c (Proc.devRef .tc main_arg2) (by decide)).trans (V13_arg2 m c)
theorem VE_arg3 (c : Dev nD) : VE m c main_arg3 = m ((c : Thread nD τ).loc main_arg3) := (VE_of m c (Proc.devRef .tc main_arg3) (by decide)).trans (V13_arg3 m c)

theorem read_end (c : Dev nD) (s' : Phys nD τ sig (Elt F)) :
    iprop(Tₙ m c ∗ SI s') ⊢ (|={Set.univ}=> iprop(⌜Ends m c s'.mem ∧ s'.mem.sem (barC c) = 0⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (VE m c) s') $$ [Hh HSI]
  · isplitl [Hh] <;> iassumption
  icases Hr with ⟨%h, HSI⟩
  imodintro
  isplitr
  · ipureintro
    have hr (b : Ref sig .tc) (hb : b.isScoped = false) : Proc.devRef (τ := τ) .tc b ∈ Pipeline.ucRefs τ sig :=
      Finset.mem_filter.mpr ⟨StableHlo.devRef_mem_tcRefs b, by simp [hb]⟩
    exact ⟨⟨⟨(h (Proc.devRef .tc main_arg0) (hr main_arg0 rfl)).trans (VE_arg0 m c), (h (Proc.devRef .tc main_arg1) (hr main_arg1 rfl)).trans (VE_arg1 m c),
      (h (Proc.devRef .tc main_arg2) (hr main_arg2 rfl)).trans (VE_arg2 m c), (h (Proc.devRef .tc main_arg3) (hr main_arg3 rfl)).trans (VE_arg3 m c)⟩,
      (h (Proc.devRef .tc main_v70) (hr main_v70 rfl)).trans (VE_out m c)⟩, by simpa using hb⟩
  iexact HSI

set_option backward.isDefEq.respectTransparency.types false in
/-- From any memory with all counters at zero, every fair execution of the program on the devices ends, the arguments are as they were, the
result of each device is its product with the whole of the gathered array, and all counters are at zero. -/
theorem run_main : θ_run defs (onTc (τ := τ) (main (F := F))) ⟨m, fun _ => 0, ρ⟩
    (fun r => (∀ c : Dev nD, Ends m c r.2) ∧ r.2.sem = fun _ => 0) :=
  Pipeline.θ_run_regions_kit_dev_sems (pcfgs (F := F)) adm (pdats m) () cellOf_inj EP defs₀ 𝒱₀ L lv m ρ main (parts m)
    (fun c Q => by
      rewrite [main_chain c, Pipeline.Seg.run_eq_chain,
        show (parts m c).map Pipeline.Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, StableHlo.seq hostOps0_11, StableHlo.seq hostOps0_12, Prog.lift (.customCall (Pipeline.entry 0) ()) ] from rfl]
      dsimp (config := { failIfUnchanged := false }) only
      exact .rfl)
    (fun c => by simp only [parts, Gen.segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [onFirst_all]; iexact HX)
    (T₀ := T₀ m) (Tₙ := Tₙ m)
    (hch := fun c => ⟨.rfl, .rfl, .rfl, .rfl, .rfl, .rfl, .rfl, .rfl, .rfl, .rfl, .rfl, .rfl, .rfl, reg_pre m c, reg_post m c⟩)
    (hinit := launch m ρ)
    (QY := fun c s => Ends m c s ∧ s.sem (barC c) = 0)
    (hfin := read_end m)
    (hQ := fun s h hs => ⟨fun c => (h c).1, sem_eq_zero hs fun c sm hsm => by
        obtain rfl := unscoped_eq sm hsm
        exact (h c).2⟩)

end Cert.KernelIdeal.Ring

end
-- ==== Proof.Product.lean ====
module

public import Idealize.ShloMosaic.PureOps
public import Idealize.ShloMosaic.PureOps.Reduce
public import Idealize.ShloMosaic.PureOps.Ideal.Laws
public import Idealize.ShloMosaic.Lib.ValueIdx
public import Idealize.ShloMosaic.Lib.MatmulPlain
public import Idealize.ShloMosaic.Lib.IntMxu
public import Idealize.ShloMosaic.Lib.StackMember

@[expose] public section

noncomputable section

/-!
An int8 product entry by entry: as an integer, as an extended real, and how large its terms may be together.
-/
namespace Cert.Product

open Idealize.ShloMosaic Idealize.ShloMosaic.ValueIdx

/-! ## Integers of words -/

theorem toInt_wide (x : BitVec 8) : (x.signExtend 32).toInt = x.toInt := BitVec.toInt_signExtend_of_le (by decide)

theorem abs_wide : ∀ x : BitVec 8, (IntOp.absi (x.signExtend 32)).toInt = (x.toInt.natAbs : ℤ) := by decide +kernel

theorem sq_wide : ∀ x : BitVec 8, (IntOp.muli (x.signExtend 32) (x.signExtend 32)).toNat = x.toInt.natAbs * x.toInt.natAbs := by
  decide +kernel

theorem natAbs_le (x : BitVec 8) : x.toInt.natAbs ≤ 128 := natAbs_toInt_i8_le x

/-! ## Sums -/

/-- A sum of reals is the same sum of extended reals. -/
theorem coe_sum {ι : Type*} (S : Finset ι) (f : ι → ℝ) : ((∑ i ∈ S, f i : ℝ) : EReal) = ∑ i ∈ S, (f i : EReal) := by
  induction S using Finset.cons_induction with
  | empty => simp
  | cons a S ha ih => rw [Finset.sum_cons, Finset.sum_cons, EReal.coe_add, ih]

/-- A sum of products of integers, each read as an extended real. -/
theorem coe_dot {ι : Type*} (S : Finset ι) (f g : ι → ℤ) :
    (∑ i ∈ S, (((f i : ℤ) : ℝ) : EReal) * (((g i : ℤ) : ℝ) : EReal)) = (((∑ i ∈ S, f i * g i : ℤ) : ℝ) : EReal) := by
  rw [Int.cast_sum, coe_sum]
  refine Finset.sum_congr rfl fun i _ => ?_
  rw [Int.cast_mul, EReal.coe_mul]

/-- Words added up, where the total fits. -/
theorem toNat_fold {ι : Type*} (S : Finset ι) (x : ι → BitVec 32) (h : ∑ i ∈ S, (x i).toNat < 2 ^ 32) :
    (S.fold IntOp.addi 0#32 x).toNat = ∑ i ∈ S, (x i).toNat := by
  induction S using Finset.cons_induction with
  | empty => rfl
  | cons a S ha ih =>
    rw [Finset.sum_cons] at h ⊢
    rw [Finset.fold_cons ha]
    show (x a + S.fold IntOp.addi 0#32 x).toNat = _
    rw [BitVec.toNat_add, ih (by omega), Nat.mod_eq_of_lt h]

/-- Where the squares of two families add up to less than `N` each, the magnitudes of the products do. -/
theorem products_lt {ι : Type*} (S : Finset ι) (f g : ι → ℤ) (N : ℕ) (hf : ∑ i ∈ S, (f i).natAbs * (f i).natAbs < N)
    (hg : ∑ i ∈ S, (g i).natAbs * (g i).natAbs < N) : ∑ i ∈ S, (f i * g i).natAbs < N := by
  have h : ∑ i ∈ S, 2 * (f i * g i).natAbs ≤ ∑ i ∈ S, ((f i).natAbs * (f i).natAbs + (g i).natAbs * (g i).natAbs) := by
    refine Finset.sum_le_sum fun i _ => ?_
    rw [Int.natAbs_mul]
    generalize (f i).natAbs = p
    generalize (g i).natAbs = q
    rcases Nat.le_total p q with hpq | hpq
    · obtain ⟨d, rfl⟩ := Nat.exists_eq_add_of_le hpq
      nlinarith
    · obtain ⟨d, rfl⟩ := Nat.exists_eq_add_of_le hpq
      nlinarith
  rw [← Finset.mul_sum, Finset.sum_add_distrib] at h
  omega

/-! ## The plain product at an index -/

variable {M K N : ℕ}

theorem lhs_at (a : Fin M) (b : Fin N) (k : Fin K) :
    (DotDims.plain M K N).lhsIdx (ix2 a b) ((DotDims.plainContr M K N).symm k) = ix2 a k := by
  have hk := contrEquiv1_symm_val (DotDims.plain M K N) K rfl rfl k
  funext x
  revert x
  refine Fin.forall_fin_two.mpr ⟨Fin.ext ?_, Fin.ext ?_⟩
  · simp [DotDims.lhsIdx, DotDims.plain]; rfl
  · exact (DotDims.lhsIdx_val_of_single (DotDims.plain M K N) rfl _ _).trans hk

theorem rhs_at (a : Fin M) (b : Fin N) (k : Fin K) :
    (DotDims.plain M K N).rhsIdx (ix2 a b) ((DotDims.plainContr M K N).symm k) = ix2 k b := by
  have hk := contrEquiv1_symm_val (DotDims.plain M K N) K rfl rfl k
  funext x
  revert x
  refine Fin.forall_fin_two.mpr ⟨Fin.ext ?_, Fin.ext ?_⟩
  · exact (DotDims.rhsIdx_val_of_single (DotDims.plain M K N) rfl _ _).trans hk
  · simp [DotDims.rhsIdx, DotDims.plain]; rfl

theorem dotI8_at (x : IVec ⟨2, ![M, K]⟩ 8) (w : IVec ⟨2, ![K, N]⟩ 8) (a : Fin M) (b : Fin N) :
    dotI8 (DotDims.plain M K N) x w (ix2 a b) = ∑ k : Fin K, (x (ix2 a k)).toInt * (w (ix2 k b)).toInt := by
  unfold dotI8
  rw [← Equiv.sum_comp (DotDims.plainContr M K N).symm]
  exact Finset.sum_congr rfl fun k _ => by rw [lhs_at, rhs_at]

theorem absDotI8_at (x : IVec ⟨2, ![M, K]⟩ 8) (w : IVec ⟨2, ![K, N]⟩ 8) (a : Fin M) (b : Fin N) :
    absDotI8 (DotDims.plain M K N) x w (ix2 a b) = ∑ k : Fin K, ((x (ix2 a k)).toInt * (w (ix2 k b)).toInt).natAbs := by
  unfold absDotI8
  rw [← Equiv.sum_comp (DotDims.plainContr M K N).symm]
  exact Finset.sum_congr rfl fun k _ => by rw [lhs_at, rhs_at]

/-- The magnitudes of the products behind entry `(a, b)` add up to less than 2^24. -/
def Fits (x : IVec ⟨2, ![M, K]⟩ 8) (w : IVec ⟨2, ![K, N]⟩ 8) (a : Fin M) (b : Fin N) : Prop :=
  ∑ k : Fin K, ((x (ix2 a k)).toInt * (w (ix2 k b)).toInt).natAbs < 2 ^ 24

/-- Entry `(a, b)` of the product, over the integers. -/
def entry (x : IVec ⟨2, ![M, K]⟩ 8) (w : IVec ⟨2, ![K, N]⟩ 8) (a : Fin M) (b : Fin N) : ℤ :=
  ∑ k : Fin K, (x (ix2 a k)).toInt * (w (ix2 k b)).toInt

/-- The matrix unit's word is that entry where the terms are small. -/
theorem mxu_entry (x : IVec ⟨2, ![M, K]⟩ 8) (w : IVec ⟨2, ![K, N]⟩ 8) (a : Fin M) (b : Fin N) (h : Fits x w a b) :
    (matmulI8 IntMxuNumerics.v7x (DotDims.plain M K N) x w (constantI ⟨2, ![M, N]⟩ 32 0#32) (ix2 a b)).toInt = entry x w a b := by
  rw [matmulI8_toInt _ _ _ _ _ _ rfl, dotI8_at]
  · rfl
  · rw [absDotI8_at]
    unfold Fits at h
    show _ ≤ 2 ^ 24 - 1
    omega

/-- The host's product of the integers read as reals is that entry. -/
theorem host_entry (x : IVec ⟨2, ![M, K]⟩ 8) (w : IVec ⟨2, ![K, N]⟩ 8) (a : Fin M) (b : Fin N) (hx : 8 < 32) :
    Host.dotGeneral (F := Ideal) (DotDims.plain M K N) none (sitofp .f32 (extsi 32 x hx)) (sitofp .f32 (extsi 32 w hx)) (ix2 a b)
      = (((entry x w a b : ℤ) : ℝ) : EReal) := by
  rw [StackMember.dotGeneral_plain_apply]
  refine Eq.trans (Finset.sum_congr rfl fun k _ => ?_) (coe_dot Finset.univ (fun k => (x (ix2 a k)).toInt) fun k => (w (ix2 k b)).toInt)
  show ((((x (ix2 a k)).signExtend 32).toInt : ℝ) : EReal) * ((((w (ix2 k b)).signExtend 32).toInt : ℝ) : EReal) = _
  rw [toInt_wide, toInt_wide]

/-- The host's product of the magnitudes is the sum that must be small. -/
theorem host_abs (x : IVec ⟨2, ![M, K]⟩ 8) (w : IVec ⟨2, ![K, N]⟩ 8) (a : Fin M) (b : Fin N) (hx : 8 < 32) :
    Host.dotGeneral (F := Ideal) (DotDims.plain M K N) none (sitofp .f32 (absi (extsi 32 x hx))) (sitofp .f32 (absi (extsi 32 w hx))) (ix2 a b)
      = (((∑ k : Fin K, ((x (ix2 a k)).toInt * (w (ix2 k b)).toInt).natAbs : ℕ) : ℝ) : EReal) := by
  rw [StackMember.dotGeneral_plain_apply]
  refine Eq.trans (Finset.sum_congr rfl fun k _ => ?_)
    ((coe_dot Finset.univ (fun k => ((x (ix2 a k)).toInt.natAbs : ℤ)) fun k => ((w (ix2 k b)).toInt.natAbs : ℤ)).trans ?_)
  · show (((IntOp.absi ((x (ix2 a k)).signExtend 32)).toInt : ℝ) : EReal) * (((IntOp.absi ((w (ix2 k b)).signExtend 32)).toInt : ℝ) : EReal) = _
    rw [abs_wide, abs_wide]
  · rw [← Int.cast_natCast (R := ℝ), Nat.cast_sum]
    simp only [Int.natAbs_mul, Nat.cast_mul]

end Cert.Product

end
-- ==== Proof.Value.lean ====
module

public import proofs.«01_k».proof.Proof.Run
public import proofs.«01_k».proof.Proof.Product
public import proofs.«01_k».proof.Proof.Gen.ReferenceIdeal.Run

@[expose] public section

noncomputable section

/-!
What a device's result is, entry by entry, against the whole reference.
-/
namespace Cert.KernelIdeal.Ring

open Idealize.ShloMosaic Idealize.ShloMosaic.TcCoe
open Cert.Product
open Cert.KernelIdeal Cert.KernelIdeal.Gen

/-- One chunk's product at an entry. -/
theorem gemm_entry (sc : EReal) (l : Vec Ideal S128x4096 .i8) (w : Vec Ideal S4096x64 .i8) (a : Fin 128) (b : Fin 64) (h : Fits l w a b) :
    gemm (F := Ideal) sc l w (ValueIdx.ix2 a b) = max ((((entry l w a b : ℤ) : ℝ) : EReal) * sc) 0 := by
  have hc : shapeCast S4096x64 w shapeCasts_S4096x64_S4096x64 = w := shapeCast_self _ _
  have hd : dot_S128x4096_S4096x64_S128x64_1_0_0_1_n_n = DotDims.plain 128 4096 64 := rfl
  unfold gemm
  rw [hc, hd]
  show max ((((matmulI8 IntMxuNumerics.v7x (DotDims.plain 128 4096 64) l w (constantI S128x64 32 0#32) (ValueIdx.ix2 a b)).toInt : ℝ) : EReal) * sc)
    (Ideal.ofBits .f32 0x00000000#32) = _
  rw [Ideal.ofBits_zero_f32, mxu_entry l w a b h]

/-! ## The reference -/

/-- The reference's result from its arguments. -/
def refOut (X : IVec S4096x4096 8) (W : IVec ⟨2, ![4096, 2048]⟩ 8) (A B : FVec Ideal S1 .f32) : FVec Ideal ⟨2, ![4096, 2048]⟩ .f32 :=
  maximumf (mulf (Host.dotGeneral Cert.ReferenceIdeal.dot_S4096x4096_S4096x2048_S4096x2048_1_0_0_1_n_n none
      (sitofp .f32 (extsi 32 X Cert.ReferenceIdeal.Gen.natLt_8_32)) (sitofp .f32 (extsi 32 W Cert.ReferenceIdeal.Gen.natLt_8_32)))
    (broadcastInDim Cert.ReferenceIdeal.S4096x2048 ![0, 1] Cert.ReferenceIdeal.Gen.bcast_S1x1_S4096x2048_0_1
      (broadcastInDim Cert.ReferenceIdeal.S1x1 ![1] Cert.ReferenceIdeal.Gen.bcast_S1_S1x1_1 (mulf A B))))
    (broadcastInDim Cert.ReferenceIdeal.S4096x2048 ![] Cert.ReferenceIdeal.Gen.bcast_S_S4096x2048 (constant Cert.ReferenceIdeal.S_ .f32 0x00000000#32))

theorem ref_entry (X : IVec S4096x4096 8) (W : IVec ⟨2, ![4096, 2048]⟩ 8) (A B : FVec Ideal S1 .f32) (r : Fin 4096) (q : Fin 2048) (j : S1.Idx) :
    refOut X W A B (ValueIdx.ix2 r q) = max ((((entry X W r q : ℤ) : ℝ) : EReal) * (A j * B j)) 0 := by
  have hd : Cert.ReferenceIdeal.dot_S4096x4096_S4096x2048_S4096x2048_1_0_0_1_n_n = DotDims.plain 4096 4096 2048 := rfl
  have hb (k : S1.Idx) : mulf A B k = A j * B j := by rw [idx_one k j]; rfl
  unfold refOut
  rw [hd]
  refine (congrArg₂ max (congrArg₂ (· * ·) (host_entry X W r q _) (hb _)) Ideal.ofBits_zero_f32)

/-! ## Blocks -/

theorem x_block (X : IVec S4096x4096 8) (c : Fin 32) (a : Fin 128) (k : Fin 4096) (h : c.val * 128 + a.val < 4096) :
    Layout.block ⟨2, ![128, 4096]⟩ ⟨2, ![4096, 4096]⟩ 0 32 c X (by decide) (ValueIdx.ix2 a k) = X (ValueIdx.ix2 ⟨c.val * 128 + a.val, h⟩ k) := by
  rw [Layout.block_apply]
  congr 1
  funext d
  revert d
  exact Fin.forall_fin_two.mpr ⟨Fin.ext rfl, Fin.ext rfl⟩

theorem col_block {α : Type} (W : (⟨2, ![4096, 2048]⟩ : Shape).Idx → α) (c : Fin 32) (k : Fin 4096) (b : Fin 64) (h : c.val * 64 + b.val < 2048) :
    Layout.block ⟨2, ![4096, 64]⟩ ⟨2, ![4096, 2048]⟩ 1 32 c W (by decide) (ValueIdx.ix2 k b) = W (ValueIdx.ix2 k ⟨c.val * 64 + b.val, h⟩) := by
  rw [Layout.block_apply]
  congr 1
  funext d
  revert d
  exact Fin.forall_fin_two.mpr ⟨Fin.ext rfl, Fin.ext rfl⟩

variable (m : (ℓ : Loc nD τ sig) → Buf (Elt Ideal) ℓ)

/-- The devices hold their parts of the whole arrays. -/
structure Parts (X : IVec S4096x4096 8) (W : IVec ⟨2, ![4096, 2048]⟩ 8) (A B : FVec Ideal S1 .f32) : Prop where
  x : ∀ c : Dev nD, xOf m c = Layout.block ⟨2, ![128, 4096]⟩ ⟨2, ![4096, 4096]⟩ 0 32 c X
  w : ∀ c : Dev nD, wOf m c = Layout.block ⟨2, ![4096, 64]⟩ ⟨2, ![4096, 2048]⟩ 1 32 c W
  a : ∀ c : Dev nD, aOf m c = A
  b : ∀ c : Dev nD, bOf m c = B

variable {m} {X : IVec S4096x4096 8} {W : IVec ⟨2, ![4096, 2048]⟩ 8} {A B : FVec Ideal S1 .f32}

/-- An operand of a device's product at an entry is one of the whole product's. -/
theorem Parts.x_at (P : Parts m X W A B) (r : Fin 4096) (k : Fin 4096) :
    xOf m (⟨r.val / 128, by omega⟩ : Fin 32) (ValueIdx.ix2 (⟨r.val % 128, Nat.mod_lt _ (by decide)⟩ : Fin 128) k) = X (ValueIdx.ix2 r k) := by
  rw [P.x, x_block _ _ _ _ (by show r.val / 128 * 128 + r.val % 128 < 4096; omega)]
  congr 2
  exact Fin.ext (by show r.val / 128 * 128 + r.val % 128 = r.val; omega)

theorem Parts.w_at (P : Parts m X W A B) (c : Dev nD) (k : Fin 4096) (b : Fin 64) (h : c.val * 64 + b.val < 2048) :
    wOf m c (ValueIdx.ix2 k b) = W (ValueIdx.ix2 k ⟨c.val * 64 + b.val, h⟩) := by rw [P.w, col_block]

/-- Where the products behind an entry are small, a device's result there is the reference's. -/
theorem Parts.res_at (P : Parts m X W A B) (c : Dev nD) (r : Fin 4096) (b : Fin 64) (h : c.val * 64 + b.val < 2048)
    (hs : Fits X W r ⟨c.val * 64 + b.val, h⟩) : resOf m c (ValueIdx.ix2 r b) = refOut X W A B (ValueIdx.ix2 r ⟨c.val * 64 + b.val, h⟩) := by
  rw [ref_entry X W A B r ⟨c.val * 64 + b.val, h⟩ (Shape.Idx.first (s := S1) (numel1_S1.symm ▸ Nat.one_pos))]
  have hch : chunkV (gath m) (rowChunk (ValueIdx.ix2 r b)) = xOf m (⟨r.val / 128, by omega⟩ : Fin 32) := gath_chunk m _
  have hin : rowIn (ValueIdx.ix2 r b) = ValueIdx.ix2 (⟨r.val % 128, Nat.mod_lt _ (by decide)⟩ : Fin 128) b := by
    funext d
    revert d
    exact Fin.forall_fin_two.mpr ⟨Fin.ext rfl, Fin.ext rfl⟩
  unfold resOf outG
  rw [hch, hin, gemm_entry]
  · have he : entry (xOf m (⟨r.val / 128, by omega⟩ : Fin 32)) (wOf m c) (⟨r.val % 128, Nat.mod_lt _ (by decide)⟩ : Fin 128) b
        = entry X W r ⟨c.val * 64 + b.val, h⟩ :=
      Finset.sum_congr rfl fun k _ => by rw [P.x_at, P.w_at c k b h]
    rw [he, P.a, P.b]
    rfl
  · unfold Fits at hs ⊢
    refine lt_of_eq_of_lt (Finset.sum_congr rfl fun k _ => ?_) hs
    rw [P.x_at, P.w_at c k b h]

/-- So at every entry that is selected, where the selected ones are small. -/
theorem Parts.res_block (P : Parts m X W A B) (c : Dev nD) (i : S4096x64.Idx) (h : c.val * 64 + (i 1).val < 2048)
    (hs : Fits X W (i 0) ⟨c.val * 64 + (i 1).val, h⟩) :
    resOf m c i = Layout.block ⟨2, ![4096, 64]⟩ ⟨2, ![4096, 2048]⟩ 1 32 c (refOut X W A B) (by decide) i := by
  obtain ⟨r, b, rfl⟩ : ∃ (r : Fin 4096) (b : Fin 64), i = ValueIdx.ix2 r b := ⟨i 0, i 1, ValueIdx.eq_ix2 i⟩
  rw [col_block _ _ _ _ h]
  exact P.res_at c r b h hs

end Cert.KernelIdeal.Ring

end
-- ==== Proof.Limits.lean ====
module

public import proofs.«01_k».proof.Defs
public import proofs.«01_k».proof.Proof.Product

@[expose] public section

noncomputable section

/-!
The mask and the precondition, read as bounds on an entry's products.
-/
namespace Cert.Limits

open Idealize.ShloMosaic
open Cert.Product

/-! ## The mask -/

instance maskFacts : Cert.On_modelled.Facts where
  natLt_8_32 := by decide
  bcast_S_S4096x2048 := by decide
  dot_S4096x4096_S4096x2048_S4096x2048_1_0_0_1_n_n_wf := (DotDims.plain 4096 4096 2048).wf

theorem bound_word : Ideal.ofBits .f32 0x4B800000#32 = (((2 ^ 24 : ℕ) : ℝ) : EReal) := by
  simp [Ideal.ofBits, Ideal.ieee, -EReal.coe_mul]; norm_num

/-- Where a comparison holds, the one value is below the other. -/
theorem below {s : Shape} (x y : FVec Ideal s .f32) (i : s.Idx) (h : cmpf .olt x y i = 1#1) : x i < y i := by
  have h' : BitVec.ofBool (decide (x i < y i)) = 1#1 := h
  by_contra hn
  rw [decide_eq_false hn] at h'
  exact absurd h' (by decide)

/-- A selected entry's products are small. -/
theorem mask_fits (X : IVec ⟨2, ![4096, 4096]⟩ 8) (W : IVec ⟨2, ![4096, 2048]⟩ 8) (A B : FVec Ideal ⟨1, ![1]⟩ .f32) (r : Fin 4096) (q : Fin 2048)
    (h : Cert.On_modelled.fn (F := Ideal) X W A B (ValueIdx.ix2 r q) = 1#1) : Fits X W r q := by
  have hd : Cert.On_modelled.dot_S4096x4096_S4096x2048_S4096x2048_1_0_0_1_n_n = DotDims.plain 4096 4096 2048 := rfl
  unfold Cert.On_modelled.fn at h
  rw [hd] at h
  have h' := below _ _ _ h
  dsimp only at h'
  rw [host_abs] at h'
  replace h' := lt_of_lt_of_eq h' bound_word
  exact Nat.cast_lt.mp (EReal.coe_lt_coe_iff.mp h')

/-! ## The precondition -/

instance preFacts : Cert.Pre_squares_fit_KernelIdeal.Facts where
  natLt_8_32 := by decide
  reducesTo_S128x4096_S128_d1 := by decide
  h_S_ := by decide
  bcast_S_S128 := by decide
  reducesTo_S4096x64_S64_d0 := by decide
  bcast_S_S64 := by decide

instance refPreFacts : Cert.Pre_squares_fit_ReferenceIdeal.Facts where
  natLt_8_32 := by decide
  reducesTo_S4096x4096_S4096_d1 := by decide
  h_S_ := by decide
  bcast_S_S4096 := by decide
  reducesTo_S4096x2048_S2048_d0 := by decide
  bcast_S_S2048 := by decide

/-- The squares that a reduction adds up, where its word is below 2^24. -/
theorem squares_lt {s t : Shape} {ax : Fin s.rank} (x : IVec s 8) (h' : s.ReducesTo [ax] t) (h : s.Reduces [ax] t) (hu : 0 < (⟨0, ![]⟩ : Shape).numel)
    (hw : 8 < 32) (j : t.Idx) (hn : s.size ax ≤ 4096)
    (y : IVec t 32) (hy : y j = 16777216#32)
    (hc : cmpi .slt (Host.reduce IntOp.addi (muli (extsi 32 x hw) (extsi 32 x hw)) (constantI ⟨0, ![]⟩ 32 0#32) h' hu) y j = 1#1) :
    ∑ k : Fin (s.size ax), (x (h.lift j k)).toInt.natAbs * (x (h.lift j k)).toInt.natAbs < 2 ^ 24 := by
  have hle : ∑ k : Fin (s.size ax), (x (h.lift j k)).toInt.natAbs * (x (h.lift j k)).toInt.natAbs ≤ s.size ax * (128 * 128) := by
    refine (Finset.sum_le_card_nsmul Finset.univ _ (128 * 128) fun k _ => Nat.mul_le_mul (natAbs_le _) (natAbs_le _)).trans ?_
    rw [Finset.card_univ, Fintype.card_fin, smul_eq_mul]
  have hsum : ∑ k : Fin (s.size ax), (((muli (extsi 32 x hw) (extsi 32 x hw)) ∘ h.lift j) k).toNat
      = ∑ k : Fin (s.size ax), (x (h.lift j k)).toInt.natAbs * (x (h.lift j k)).toInt.natAbs :=
    Finset.sum_congr rfl fun k _ => sq_wide (x (h.lift j k))
  have hnat : (Host.reduce IntOp.addi (muli (extsi 32 x hw) (extsi 32 x hw)) (constantI ⟨0, ![]⟩ 32 0#32) h' hu j).toNat
      = ∑ k : Fin (s.size ax), (x (h.lift j k)).toInt.natAbs * (x (h.lift j k)).toInt.natAbs := by
    rw [Host.reduce_eq_fold_single IntOp.addi _ _ h' h hu j, ← hsum]
    exact toNat_fold _ _ (by rw [hsum]; omega)
  have hlt : IntOp.cmpi .slt (Host.reduce IntOp.addi (muli (extsi 32 x hw) (extsi 32 x hw)) (constantI ⟨0, ![]⟩ 32 0#32) h' hu j) (y j) = 1#1 := hc
  rw [hy] at hlt
  rw [← hnat] at hle ⊢
  revert hlt hle
  generalize Host.reduce IntOp.addi (muli (extsi 32 x hw) (extsi 32 x hw)) (constantI ⟨0, ![]⟩ 32 0#32) h' hu j = v
  intro hle hlt
  have h1 : v.slt 16777216#32 = true := by
    by_contra hne
    have : IntOp.cmpi .slt v 16777216#32 = BitVec.ofBool (v.slt 16777216#32) := rfl
    rw [this, Bool.eq_false_iff.mpr hne] at hlt
    exact absurd hlt (by decide)
  rw [BitVec.slt_iff_toInt_lt, BitVec.toInt_eq_toNat_of_lt (by omega)] at h1
  have h2 : (16777216#32).toInt = 16777216 := by decide
  omega

/-- A row's squares under the precondition; -/
theorem row_lt (x : IVec ⟨2, ![128, 4096]⟩ 8) (w : IVec ⟨2, ![4096, 64]⟩ 8) (A B : FVec Ideal ⟨1, ![1]⟩ .f32)
    (h : (Cert.Pre_squares_fit_KernelIdeal.fn (F := Ideal) x w A B).1 = fun _ => 1#1) (a : Fin 128) :
    ∑ k : Fin 4096, (x (ValueIdx.ix2 a k)).toInt.natAbs * (x (ValueIdx.ix2 a k)).toInt.natAbs < 2 ^ 24 := by
  have hr : (⟨2, ![128, 4096]⟩ : Shape).Reduces [1] ⟨1, ![128]⟩ := by decide
  have h' := congrFun h (ValueIdx.ix1 a)
  unfold Cert.Pre_squares_fit_KernelIdeal.fn at h'
  dsimp only at h'
  have hn : (4096 : ℕ) ≤ 4096 := Nat.le_refl _
  let y : IVec ⟨1, ![128]⟩ 32 := broadcastInDim ⟨1, ![128]⟩ ![] preFacts.bcast_S_S128 (constantI ⟨0, ![]⟩ 32 16777216#32)
  refine lt_of_eq_of_lt ?_ (squares_lt x preFacts.reducesTo_S128x4096_S128_d1 hr preFacts.h_S_ preFacts.natLt_8_32 (ValueIdx.ix1 a) ?_ y rfl ?_)
  · refine Finset.sum_congr rfl fun k _ => ?_
    have e : hr.lift (ValueIdx.ix1 a) k = ValueIdx.ix2 a k := by
      funext d; revert d
      exact Fin.forall_fin_two.mpr ⟨Fin.ext rfl, Fin.ext rfl⟩
    rw [e]
  · exact hn
  · exact h'

/-- and a column's. -/
theorem col_lt (x : IVec ⟨2, ![128, 4096]⟩ 8) (w : IVec ⟨2, ![4096, 64]⟩ 8) (A B : FVec Ideal ⟨1, ![1]⟩ .f32)
    (h : (Cert.Pre_squares_fit_KernelIdeal.fn (F := Ideal) x w A B).2 = fun _ => 1#1) (b : Fin 64) :
    ∑ k : Fin 4096, (w (ValueIdx.ix2 k b)).toInt.natAbs * (w (ValueIdx.ix2 k b)).toInt.natAbs < 2 ^ 24 := by
  have hr : (⟨2, ![4096, 64]⟩ : Shape).Reduces [0] ⟨1, ![64]⟩ := by decide
  have h' := congrFun h (ValueIdx.ix1 b)
  unfold Cert.Pre_squares_fit_KernelIdeal.fn at h'
  dsimp only at h'
  have hn : (4096 : ℕ) ≤ 4096 := Nat.le_refl _
  let y : IVec ⟨1, ![64]⟩ 32 := broadcastInDim ⟨1, ![64]⟩ ![] preFacts.bcast_S_S64 (constantI ⟨0, ![]⟩ 32 16777216#32)
  refine lt_of_eq_of_lt ?_ (squares_lt w preFacts.reducesTo_S4096x64_S64_d0 hr preFacts.h_S_ preFacts.natLt_8_32 (ValueIdx.ix1 b) ?_ y rfl ?_)
  · refine Finset.sum_congr rfl fun k _ => ?_
    have e : hr.lift (ValueIdx.ix1 b) k = ValueIdx.ix2 k b := by
      funext d; revert d
      exact Fin.forall_fin_two.mpr ⟨Fin.ext rfl, Fin.ext rfl⟩
    rw [e]
  · exact hn
  · exact h'

end Cert.Limits

end
-- ==== Proof.Bounds.lean ====
module

public import proofs.«01_k».proof.Proof.Value
public import proofs.«01_k».proof.Proof.Limits

@[expose] public section

noncomputable section

/-!
The devices' results against the reference: everywhere under the precondition, and at the entries that the mask selects.
-/
namespace Cert.KernelIdeal.Ring

open Idealize.ShloMosaic Idealize.ShloMosaic.TcCoe
open Cert.Product Cert.Limits
open Cert.KernelIdeal Cert.KernelIdeal.Gen

variable {m : (ℓ : Loc nD τ sig) → Buf (Elt Ideal) ℓ}
variable {X : IVec S4096x4096 8} {W : IVec ⟨2, ![4096, 2048]⟩ 8} {A B : FVec Ideal S1 .f32}

/-- A column of a device's result is one of the whole result's. -/
theorem col_in (c : Dev nD) (b : Fin 64) : c.val * 64 + b.val < 2048 := by
  have hc : c.val < 32 := c.isLt
  have hb := b.isLt
  omega

/-- Under the precondition every entry's products are small. -/
theorem Parts.pre_fits (P : Parts m X W A B) (hp : Pre_KernelIdeal_squares_fit_KernelIdeal m) (c : Dev nD) (r : Fin 4096) (b : Fin 64) :
    Fits X W r ⟨c.val * 64 + b.val, col_in c b⟩ := by
  unfold Fits
  refine products_lt _ _ _ _ ?_ ?_
  · refine lt_of_eq_of_lt (Finset.sum_congr rfl fun k _ => ?_)
      (row_lt (xOf m (⟨r.val / 128, by omega⟩ : Fin 32)) _ _ _ (hp (⟨r.val / 128, by omega⟩ : Fin 32)).1 ⟨r.val % 128, Nat.mod_lt _ (by decide)⟩)
    rw [P.x_at r k]
  · refine lt_of_eq_of_lt (Finset.sum_congr rfl fun k _ => ?_) (col_lt _ (wOf m c) _ _ (hp c).2 b)
    rw [P.w_at c k b (col_in c b)]

theorem Parts.pre_res (P : Parts m X W A B) (hp : Pre_KernelIdeal_squares_fit_KernelIdeal m) (c : Dev nD) :
    resOf m c = Layout.block ⟨2, ![4096, 64]⟩ ⟨2, ![4096, 2048]⟩ 1 32 c (refOut X W A B) (by decide) :=
  funext fun i => P.res_block c i (col_in c (i 1)) (P.pre_fits hp c (i 0) (i 1))

/-- Where the mask selects an entry of a device's part, its result is the reference's. -/
theorem Parts.mask_res (P : Parts m X W A B) (c : Dev nD) (i : S4096x64.Idx)
    (h : Layout.block ⟨2, ![4096, 64]⟩ ⟨2, ![4096, 2048]⟩ 1 32 c (Cert.On_modelled.fn (F := Ideal) X W A B) (by decide) i = 1#1) :
    resOf m c i = Layout.block ⟨2, ![4096, 64]⟩ ⟨2, ![4096, 2048]⟩ 1 32 c (refOut X W A B) (by decide) i := by
  refine P.res_block c i (col_in c (i 1)) (mask_fits X W A B (i 0) ⟨c.val * 64 + (i 1).val, col_in c (i 1)⟩ ?_)
  obtain ⟨r, b, rfl⟩ : ∃ (r : Fin 4096) (b : Fin 64), i = ValueIdx.ix2 r b := ⟨i 0, i 1, ValueIdx.eq_ix2 i⟩
  rw [col_block _ _ _ _ (col_in c b)] at h
  exact h

end Cert.KernelIdeal.Ring

end
-- ==== Proof.SameBody.lean ====
module

public import proofs.«01_k».proof.Proof.Gen.Kernel
public import proofs.«01_k».proof.Proof.Gen.KernelIdeal

@[expose] public section

set_option maxHeartbeats 40000000

noncomputable section

/-!
The body of the call, in the printed program and in the one read over the reals: one text.
-/
namespace Cert.Same

open Idealize.ShloMosaic Idealize.SL.Sem
open Cert.Kernel.Gen Cert.KernelIdeal.Gen

variable {F : FTy → Type} [FloatOps F]

/-- The kernel's body is the same program in the two texts. -/
theorem body_same : @Cert.Kernel.cc0_body F _ _ = @Cert.KernelIdeal.cc0_body F _ _ := by exact rfl

end Cert.Same

end
-- ==== Proof.SameMain.lean ====
module

public import proofs.«01_k».proof.Proof.Gen.Kernel
public import proofs.«01_k».proof.Proof.Gen.KernelIdeal

@[expose] public section

set_option maxHeartbeats 40000000

noncomputable section

/-!
The host program's two windows, in the printed program and in the one read over the reals: one text.
-/
namespace Cert.Same

open Idealize.ShloMosaic Idealize.SL.Sem
open Cert.Kernel.Gen Cert.KernelIdeal.Gen

variable {F : FTy → Type} [FloatOps F]

theorem first_same : Cert.Kernel.main_part0 (F := F) = Cert.KernelIdeal.main_part0 (F := F) := by exact rfl

theorem second_same : Cert.Kernel.main_part1 (F := F) = Cert.KernelIdeal.main_part1 (F := F) := by exact rfl

end Cert.Same

end
-- ==== Proof.Same.lean ====
module

public import proofs.«01_k».proof.Proof.SameBody
public import proofs.«01_k».proof.Proof.SameMain

@[expose] public section

noncomputable section

/-!
The printed program and the one read over the reals are one program.
-/
namespace Cert.Same

open Idealize.ShloMosaic Idealize.SL.Sem
open Cert.Kernel.Gen Cert.KernelIdeal.Gen

variable {F : FTy → Type} [FloatOps F]

theorem defs₀_same : Cert.Kernel.defs₀ (F := F) = Cert.KernelIdeal.defs₀ (F := F) := by
  unfold Cert.Kernel.defs₀ Cert.KernelIdeal.defs₀
  rw [body_same]
  refine congrArg Defs.onTc (funext fun l => funext fun p => ?_)
  obtain ⟨n, hn⟩ := l
  cases n with
  | zero =>
    obtain ⟨t, s⟩ := p
    rfl
  | succ n => exact absurd hn (by omega)

theorem defs_same : Cert.Kernel.defs (F := F) = Cert.KernelIdeal.defs (F := F) := by
  unfold Cert.Kernel.defs Cert.KernelIdeal.defs
  rw [defs₀_same]
  rfl

theorem main_same : Cert.Kernel.main (F := F) = Cert.KernelIdeal.main (F := F) := by
  unfold Cert.Kernel.main Cert.KernelIdeal.main
  rw [first_same, second_same]

end Cert.Same

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Bounds
public import proofs.«01_k».proof.Proof.Same
public import Idealize.ShloMosaic.Adequacy
public import Idealize.ShloMosaic.Init

@[expose] public section

noncomputable section

/-!
The claims: the two frames of the kernel and the reference's, and the two claims on the values.
-/
namespace Cert.Proof

open Idealize.ShloMosaic Idealize.SL.Sem
open Cert.KernelIdeal.Ring

/-- The two programs are one, so the run is the printed program's too. -/
theorem frame_kernel : Cert.quiescent_Kernel (hKernel := Cert.Kernel.Gen.facts) := by
  intro m g _
  rw [Cert.Same.defs_same, Cert.Same.main_same]
  exact (θ_run Cert.KernelIdeal.defs _ _).mono (fun _ h => ⟨fun c => (h.1 c).1, h.2⟩) (run_main (F := Bits) m g)

theorem frame_ideal : Cert.quiescent_KernelIdeal := fun m g _ =>
  (θ_run Cert.KernelIdeal.defs _ _).mono (fun _ h => ⟨fun c => (h.1 c).1, h.2⟩) (run_main (F := Ideal) m g)

theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem value_pre : Cert.algebraic_KernelIdeal_ReferenceIdeal_pre_squares_fit_KernelIdeal := fun m g m' g' hp hparts =>
  have P : Parts m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    ⟨fun c => (hparts c).1, fun c => (hparts c).2.1, fun c => (hparts c).2.2.1, fun c => (hparts c).2.2.2⟩
  ⟨refOut _ _ _ _,
    (θ_run Cert.KernelIdeal.defs _ _).mono (fun _ h c => ⟨(h.1 c).2.trans (P.pre_res hp c), (h.1 c).1⟩) (run_main (F := Ideal) m g),
    (θ_run Cert.ReferenceIdeal.defs _ _).mono (fun _ h => h 0) (Cert.ReferenceIdeal.Value.run (F := Ideal) m' g')⟩

theorem value_mask : Cert.algebraic_KernelIdeal_ReferenceIdeal_on_modelled := fun m g m' g' _ hparts =>
  have P : Parts m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    ⟨fun c => (hparts c).1, fun c => (hparts c).2.1, fun c => (hparts c).2.2.1, fun c => (hparts c).2.2.2⟩
  ⟨refOut _ _ _ _,
    (θ_run Cert.KernelIdeal.defs _ _).mono
      (fun _ h c => ⟨fun i hi => (congrFun (h.1 c).2 i).trans (P.mask_res c i hi), (h.1 c).1⟩) (run_main (F := Ideal) m g),
    (θ_run Cert.ReferenceIdeal.defs _ _).mono (fun _ h => ⟨fun i _ => congrFun (h 0).1 i, (h 0).2⟩)
      (Cert.ReferenceIdeal.Value.run (F := Ideal) m' g')⟩

theorem claim : Cert.Claim :=
  ⟨Cert.Kernel.Gen.facts, Cert.KernelIdeal.Gen.facts, Cert.ReferenceIdeal.Gen.facts, Cert.Limits.preFacts, Cert.Limits.refPreFacts,
    Cert.Limits.maskFacts, frame_kernel, frame_ideal, fun m g _ => frame_ideal m g trivial, frame_ref, fun m g _ => frame_ref m g trivial, trivial,
    value_pre, value_mask⟩

end Cert.Proof

end
